-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Experts [hPre_tables_ok : Cert.Pre_tables_ok.Facts] (m : (ℓ : Loc Cert.Experts.nD Cert.Experts.τ Cert.Experts.sig) → Buf (Elt Bits) ℓ) : Prop :=
  ∀ c : Dev Cert.Experts.nD,
    (Cert.Pre_tables_ok.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tables_ok : Cert.Pre_tables_ok.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables_ok.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_tables_ok [hPre_tables_ok : Cert.Pre_tables_ok.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_tables_ok.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4)) (m ((c.tc : Thread Cert.ExpertsReferenceIdeal.nD Cert.ExpertsReferenceIdeal.τ).loc Cert.ExpertsReferenceIdeal.main_arg5)) (m ((c.tc : Thread Cert.ExpertsReferenceIdeal.nD Cert.ExpertsReferenceIdeal.τ).loc Cert.ExpertsReferenceIdeal.main_arg6))) = (fun _ => 1#1)

def Pre_SsdOut (m : (ℓ : Loc Cert.SsdOut.nD Cert.SsdOut.τ Cert.SsdOut.sig) → Buf (Elt Bits) ℓ) : Prop :=
  True

def Pre_SsdOutIdeal (m : (ℓ : Loc Cert.SsdOutIdeal.nD Cert.SsdOutIdeal.τ Cert.SsdOutIdeal.sig) → Buf (Elt Ideal) ℓ) : Prop :=
  True

def Pre_SsdOutReferenceIdeal (m : (ℓ : Loc Cert.SsdOutReferenceIdeal.nD Cert.SsdOutReferenceIdeal.τ Cert.SsdOutReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_SsdIn (m : (ℓ : Loc Cert.SsdIn.nD Cert.SsdIn.τ Cert.SsdIn.sig) → Buf (Elt Bits) ℓ) : Prop :=
  True

def Pre_SsdInIdeal (m : (ℓ : Loc Cert.SsdInIdeal.nD Cert.SsdInIdeal.τ Cert.SsdInIdeal.sig) → Buf (Elt Ideal) ℓ) : Prop :=
  True

def Pre_SsdInReferenceIdeal (m : (ℓ : Loc Cert.SsdInReferenceIdeal.nD Cert.SsdInReferenceIdeal.τ Cert.SsdInReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedReferenceIdeal (m : (ℓ : Loc Cert.GatedReferenceIdeal.nD Cert.GatedReferenceIdeal.τ Cert.GatedReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_States (m : (ℓ : Loc Cert.States.nD Cert.States.τ Cert.States.sig) → Buf (Elt Bits) ℓ) : Prop :=
  True

def Pre_StatesIdeal (m : (ℓ : Loc Cert.StatesIdeal.nD Cert.StatesIdeal.τ Cert.StatesIdeal.sig) → Buf (Elt Ideal) ℓ) : Prop :=
  True

def Pre_StatesReferenceIdeal (m : (ℓ : Loc Cert.StatesReferenceIdeal.nD Cert.StatesReferenceIdeal.τ Cert.StatesReferenceIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsReferenceIdeal (m : (ℓ : Loc Cert.SumsReferenceIdeal.nD Cert.SumsReferenceIdeal.τ Cert.SumsReferenceIdeal.sig) → Buf (Elt Ideal) ℓ) : Prop :=
  True

def Pre_Outputs (m : (ℓ : Loc Cert.Outputs.nD Cert.Outputs.τ Cert.Outputs.sig) → Buf (Elt Bits) ℓ) : Prop :=
  True

def Pre_OutputsIdeal (m : (ℓ : Loc Cert.OutputsIdeal.nD Cert.OutputsIdeal.τ Cert.OutputsIdeal.sig) → Buf (Elt Ideal) ℓ) : Prop :=
  True

def Pre_OutputsReferenceIdeal (m : (ℓ : Loc Cert.OutputsReferenceIdeal.nD Cert.OutputsReferenceIdeal.τ Cert.OutputsReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_router [hPre_finite_router : Cert.Pre_finite_router.Facts] (m : (ℓ : Loc Cert.RouterIdeal.nD Cert.RouterIdeal.τ Cert.RouterIdeal.sig) → Buf (Elt Ideal) ℓ) : Prop :=
  ∀ c : Dev Cert.RouterIdeal.nD,
    (Cert.Pre_finite_router.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite_router [hPre_finite_router : Cert.Pre_finite_router.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite_router.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2)) (m ((c.tc : Thread Cert.RouterReferenceIdeal.nD Cert.RouterReferenceIdeal.τ).loc Cert.RouterReferenceIdeal.main_arg3)) (m ((c.tc : Thread Cert.RouterReferenceIdeal.nD Cert.RouterReferenceIdeal.τ).loc Cert.RouterReferenceIdeal.main_arg4)) (m ((c.tc : Thread Cert.RouterReferenceIdeal.nD Cert.RouterReferenceIdeal.τ).loc Cert.RouterReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Experts [hExperts : Cert.Experts.Facts] [hPre_tables_ok : Cert.Pre_tables_ok.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables_ok : Cert.Pre_tables_ok.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_ExpertsReferenceIdeal_pre_tables_ok [hExpertsReferenceIdeal : Cert.ExpertsReferenceIdeal.Facts] [hPre_tables_ok : Cert.Pre_tables_ok.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_tables_ok m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5)
      ∧ r.2.mem ((c.tc : Thread Cert.ExpertsReferenceIdeal.nD Cert.ExpertsReferenceIdeal.τ).loc Cert.ExpertsReferenceIdeal.main_arg6) = m ((c.tc : Thread Cert.ExpertsReferenceIdeal.nD Cert.ExpertsReferenceIdeal.τ).loc Cert.ExpertsReferenceIdeal.main_arg6))
      ∧ r.2.sem = fun _ => 0)

def quiescent_SsdOut [hSsdOut : Cert.SsdOut.Facts] : Prop :=
  ∀ (m : (ℓ : Loc Cert.SsdOut.nD Cert.SsdOut.τ Cert.SsdOut.sig) → Buf (Elt Bits) ℓ) (g : Dev Cert.SsdOut.nD → PrngReg), Pre_SsdOut m →
    θ_run (Cert.SsdOut.defs (F := Bits)) (onTc (τ := Cert.SsdOut.τ) (Cert.SsdOut.main (F := Bits))) ⟨m, fun _ => 0, g⟩ (fun r => (∀ c : Dev Cert.SsdOut.nD,
      r.2.mem ((c.tc : Thread Cert.SsdOut.nD Cert.SsdOut.τ).loc Cert.SsdOut.main_arg0) = m ((c.tc : Thread Cert.SsdOut.nD Cert.SsdOut.τ).loc Cert.SsdOut.main_arg0)
      ∧ r.2.mem ((c.tc : Thread Cert.SsdOut.nD Cert.SsdOut.τ).loc Cert.SsdOut.main_arg1) = m ((c.tc : Thread Cert.SsdOut.nD Cert.SsdOut.τ).loc Cert.SsdOut.main_arg1)
      ∧ r.2.mem ((c.tc : Thread Cert.SsdOut.nD Cert.SsdOut.τ).loc Cert.SsdOut.main_arg2) = m ((c.tc : Thread Cert.SsdOut.nD Cert.SsdOut.τ).loc Cert.SsdOut.main_arg2)
      ∧ r.2.mem ((c.tc : Thread Cert.SsdOut.nD Cert.SsdOut.τ).loc Cert.SsdOut.main_arg3) = m ((c.tc : Thread Cert.SsdOut.nD Cert.SsdOut.τ).loc Cert.SsdOut.main_arg3))
      ∧ r.2.sem = fun _ => 0)

def quiescent_SsdOutIdeal [hSsdOutIdeal : Cert.SsdOutIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg), Pre_SsdOutIdeal m →
    θ_run (Cert.SsdOutIdeal.defs (F := Ideal)) (onTc (τ := Cert.SsdOutIdeal.τ) (Cert.SsdOutIdeal.main (F := Ideal))) ⟨m, fun _ => 0, g⟩ (fun r => (∀ c : Dev Cert.SsdOutIdeal.nD,
      r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
      ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
      ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
      ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ r.2.sem = fun _ => 0)

def quiescent_SsdOutReferenceIdeal [hSsdOutReferenceIdeal : Cert.SsdOutReferenceIdeal.Facts] : Prop :=
  ∀ (m : (ℓ : Loc Cert.SsdOutReferenceIdeal.nD Cert.SsdOutReferenceIdeal.τ Cert.SsdOutReferenceIdeal.sig) → Buf (Elt Ideal) ℓ) (g : Dev Cert.SsdOutReferenceIdeal.nD → PrngReg), Pre_SsdOutReferenceIdeal m →
    θ_run (Cert.SsdOutReferenceIdeal.defs (F := Ideal)) (onTc (τ := Cert.SsdOutReferenceIdeal.τ) (Cert.SsdOutReferenceIdeal.main (F := Ideal))) ⟨m, fun _ => 0, g⟩ (fun r => (∀ c : Dev Cert.SsdOutReferenceIdeal.nD,
      r.2.mem ((c.tc : Thread Cert.SsdOutReferenceIdeal.nD Cert.SsdOutReferenceIdeal.τ).loc Cert.SsdOutReferenceIdeal.main_arg0) = m ((c.tc : Thread Cert.SsdOutReferenceIdeal.nD Cert.SsdOutReferenceIdeal.τ).loc Cert.SsdOutReferenceIdeal.main_arg0)
      ∧ r.2.mem ((c.tc : Thread Cert.SsdOutReferenceIdeal.nD Cert.SsdOutReferenceIdeal.τ).loc Cert.SsdOutReferenceIdeal.main_arg1) = m ((c.tc : Thread Cert.SsdOutReferenceIdeal.nD Cert.SsdOutReferenceIdeal.τ).loc Cert.SsdOutReferenceIdeal.main_arg1)
      ∧ r.2.mem ((c.tc : Thread Cert.SsdOutReferenceIdeal.nD Cert.SsdOutReferenceIdeal.τ).loc Cert.SsdOutReferenceIdeal.main_arg2) = m ((c.tc : Thread Cert.SsdOutReferenceIdeal.nD Cert.SsdOutReferenceIdeal.τ).loc Cert.SsdOutReferenceIdeal.main_arg2)
      ∧ r.2.mem ((c.tc : Thread Cert.SsdOutReferenceIdeal.nD Cert.SsdOutReferenceIdeal.τ).loc Cert.SsdOutReferenceIdeal.main_arg3) = m ((c.tc : Thread Cert.SsdOutReferenceIdeal.nD Cert.SsdOutReferenceIdeal.τ).loc Cert.SsdOutReferenceIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4))
      ∧ r.2.sem = fun _ => 0)

def quiescent_SsdIn [hSsdIn : Cert.SsdIn.Facts] : Prop :=
  ∀ (m : (ℓ : Loc Cert.SsdIn.nD Cert.SsdIn.τ Cert.SsdIn.sig) → Buf (Elt Bits) ℓ) (g : Dev Cert.SsdIn.nD → PrngReg), Pre_SsdIn m →
    θ_run (Cert.SsdIn.defs (F := Bits)) (onTc (τ := Cert.SsdIn.τ) (Cert.SsdIn.main (F := Bits))) ⟨m, fun _ => 0, g⟩ (fun r => (∀ c : Dev Cert.SsdIn.nD,
      r.2.mem ((c.tc : Thread Cert.SsdIn.nD Cert.SsdIn.τ).loc Cert.SsdIn.main_arg0) = m ((c.tc : Thread Cert.SsdIn.nD Cert.SsdIn.τ).loc Cert.SsdIn.main_arg0)
      ∧ r.2.mem ((c.tc : Thread Cert.SsdIn.nD Cert.SsdIn.τ).loc Cert.SsdIn.main_arg1) = m ((c.tc : Thread Cert.SsdIn.nD Cert.SsdIn.τ).loc Cert.SsdIn.main_arg1)
      ∧ r.2.mem ((c.tc : Thread Cert.SsdIn.nD Cert.SsdIn.τ).loc Cert.SsdIn.main_arg2) = m ((c.tc : Thread Cert.SsdIn.nD Cert.SsdIn.τ).loc Cert.SsdIn.main_arg2)
      ∧ r.2.mem ((c.tc : Thread Cert.SsdIn.nD Cert.SsdIn.τ).loc Cert.SsdIn.main_arg3) = m ((c.tc : Thread Cert.SsdIn.nD Cert.SsdIn.τ).loc Cert.SsdIn.main_arg3)
      ∧ r.2.mem ((c.tc : Thread Cert.SsdIn.nD Cert.SsdIn.τ).loc Cert.SsdIn.main_arg4) = m ((c.tc : Thread Cert.SsdIn.nD Cert.SsdIn.τ).loc Cert.SsdIn.main_arg4))
      ∧ r.2.sem = fun _ => 0)

def quiescent_SsdInIdeal [hSsdInIdeal : Cert.SsdInIdeal.Facts] : Prop :=
  ∀ (m : (ℓ : Loc Cert.SsdInIdeal.nD Cert.SsdInIdeal.τ Cert.SsdInIdeal.sig) → Buf (Elt Ideal) ℓ) (g : Dev Cert.SsdInIdeal.nD → PrngReg), Pre_SsdInIdeal m →
    θ_run (Cert.SsdInIdeal.defs (F := Ideal)) (onTc (τ := Cert.SsdInIdeal.τ) (Cert.SsdInIdeal.main (F := Ideal))) ⟨m, fun _ => 0, g⟩ (fun r => (∀ c : Dev Cert.SsdInIdeal.nD,
      r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
      ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
      ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
      ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
      ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4))
      ∧ r.2.sem = fun _ => 0)

def quiescent_SsdInReferenceIdeal [hSsdInReferenceIdeal : Cert.SsdInReferenceIdeal.Facts] : Prop :=
  ∀ (m : (ℓ : Loc Cert.SsdInReferenceIdeal.nD Cert.SsdInReferenceIdeal.τ Cert.SsdInReferenceIdeal.sig) → Buf (Elt Ideal) ℓ) (g : Dev Cert.SsdInReferenceIdeal.nD → PrngReg), Pre_SsdInReferenceIdeal m →
    θ_run (Cert.SsdInReferenceIdeal.defs (F := Ideal)) (onTc (τ := Cert.SsdInReferenceIdeal.τ) (Cert.SsdInReferenceIdeal.main (F := Ideal))) ⟨m, fun _ => 0, g⟩ (fun r => (∀ c : Dev Cert.SsdInReferenceIdeal.nD,
      r.2.mem ((c.tc : Thread Cert.SsdInReferenceIdeal.nD Cert.SsdInReferenceIdeal.τ).loc Cert.SsdInReferenceIdeal.main_arg0) = m ((c.tc : Thread Cert.SsdInReferenceIdeal.nD Cert.SsdInReferenceIdeal.τ).loc Cert.SsdInReferenceIdeal.main_arg0)
      ∧ r.2.mem ((c.tc : Thread Cert.SsdInReferenceIdeal.nD Cert.SsdInReferenceIdeal.τ).loc Cert.SsdInReferenceIdeal.main_arg1) = m ((c.tc : Thread Cert.SsdInReferenceIdeal.nD Cert.SsdInReferenceIdeal.τ).loc Cert.SsdInReferenceIdeal.main_arg1)
      ∧ r.2.mem ((c.tc : Thread Cert.SsdInReferenceIdeal.nD Cert.SsdInReferenceIdeal.τ).loc Cert.SsdInReferenceIdeal.main_arg2) = m ((c.tc : Thread Cert.SsdInReferenceIdeal.nD Cert.SsdInReferenceIdeal.τ).loc Cert.SsdInReferenceIdeal.main_arg2)
      ∧ r.2.mem ((c.tc : Thread Cert.SsdInReferenceIdeal.nD Cert.SsdInReferenceIdeal.τ).loc Cert.SsdInReferenceIdeal.main_arg3) = m ((c.tc : Thread Cert.SsdInReferenceIdeal.nD Cert.SsdInReferenceIdeal.τ).loc Cert.SsdInReferenceIdeal.main_arg3)
      ∧ r.2.mem ((c.tc : Thread Cert.SsdInReferenceIdeal.nD Cert.SsdInReferenceIdeal.τ).loc Cert.SsdInReferenceIdeal.main_arg4) = m ((c.tc : Thread Cert.SsdInReferenceIdeal.nD Cert.SsdInReferenceIdeal.τ).loc Cert.SsdInReferenceIdeal.main_arg4))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1))
      ∧ r.2.sem = fun _ => 0)

def quiescent_GatedReferenceIdeal [hGatedReferenceIdeal : Cert.GatedReferenceIdeal.Facts] : Prop :=
  ∀ (m : (ℓ : Loc Cert.GatedReferenceIdeal.nD Cert.GatedReferenceIdeal.τ Cert.GatedReferenceIdeal.sig) → Buf (Elt Ideal) ℓ) (g : Dev Cert.GatedReferenceIdeal.nD → PrngReg), Pre_GatedReferenceIdeal m →
    θ_run (Cert.GatedReferenceIdeal.defs (F := Ideal)) (onTc (τ := Cert.GatedReferenceIdeal.τ) (Cert.GatedReferenceIdeal.main (F := Ideal))) ⟨m, fun _ => 0, g⟩ (fun r => (∀ c : Dev Cert.GatedReferenceIdeal.nD,
      r.2.mem ((c.tc : Thread Cert.GatedReferenceIdeal.nD Cert.GatedReferenceIdeal.τ).loc Cert.GatedReferenceIdeal.main_arg0) = m ((c.tc : Thread Cert.GatedReferenceIdeal.nD Cert.GatedReferenceIdeal.τ).loc Cert.GatedReferenceIdeal.main_arg0)
      ∧ r.2.mem ((c.tc : Thread Cert.GatedReferenceIdeal.nD Cert.GatedReferenceIdeal.τ).loc Cert.GatedReferenceIdeal.main_arg1) = m ((c.tc : Thread Cert.GatedReferenceIdeal.nD Cert.GatedReferenceIdeal.τ).loc Cert.GatedReferenceIdeal.main_arg1))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_States [hStates : Cert.States.Facts] : Prop :=
  ∀ (m : (ℓ : Loc Cert.States.nD Cert.States.τ Cert.States.sig) → Buf (Elt Bits) ℓ) (g : Dev Cert.States.nD → PrngReg), Pre_States m →
    θ_run (Cert.States.defs (F := Bits)) (onTc (τ := Cert.States.τ) (Cert.States.main (F := Bits))) ⟨m, fun _ => 0, g⟩ (fun r => (∀ c : Dev Cert.States.nD,
      r.2.mem ((c.tc : Thread Cert.States.nD Cert.States.τ).loc Cert.States.main_arg0) = m ((c.tc : Thread Cert.States.nD Cert.States.τ).loc Cert.States.main_arg0)
      ∧ r.2.mem ((c.tc : Thread Cert.States.nD Cert.States.τ).loc Cert.States.main_arg1) = m ((c.tc : Thread Cert.States.nD Cert.States.τ).loc Cert.States.main_arg1)
      ∧ r.2.mem ((c.tc : Thread Cert.States.nD Cert.States.τ).loc Cert.States.main_arg2) = m ((c.tc : Thread Cert.States.nD Cert.States.τ).loc Cert.States.main_arg2))
      ∧ r.2.sem = fun _ => 0)

def quiescent_StatesIdeal [hStatesIdeal : Cert.StatesIdeal.Facts] : Prop :=
  ∀ (m : (ℓ : Loc Cert.StatesIdeal.nD Cert.StatesIdeal.τ Cert.StatesIdeal.sig) → Buf (Elt Ideal) ℓ) (g : Dev Cert.StatesIdeal.nD → PrngReg), Pre_StatesIdeal m →
    θ_run (Cert.StatesIdeal.defs (F := Ideal)) (onTc (τ := Cert.StatesIdeal.τ) (Cert.StatesIdeal.main (F := Ideal))) ⟨m, fun _ => 0, g⟩ (fun r => (∀ c : Dev Cert.StatesIdeal.nD,
      r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
      ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
      ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2))
      ∧ r.2.sem = fun _ => 0)

def quiescent_StatesReferenceIdeal [hStatesReferenceIdeal : Cert.StatesReferenceIdeal.Facts] : Prop :=
  ∀ (m : (ℓ : Loc Cert.StatesReferenceIdeal.nD Cert.StatesReferenceIdeal.τ Cert.StatesReferenceIdeal.sig) → Buf (Elt Ideal) ℓ) (g : Dev Cert.StatesReferenceIdeal.nD → PrngReg), Pre_StatesReferenceIdeal m →
    θ_run (Cert.StatesReferenceIdeal.defs (F := Ideal)) (onTc (τ := Cert.StatesReferenceIdeal.τ) (Cert.StatesReferenceIdeal.main (F := Ideal))) ⟨m, fun _ => 0, g⟩ (fun r => (∀ c : Dev Cert.StatesReferenceIdeal.nD,
      r.2.mem ((c.tc : Thread Cert.StatesReferenceIdeal.nD Cert.StatesReferenceIdeal.τ).loc Cert.StatesReferenceIdeal.main_arg0) = m ((c.tc : Thread Cert.StatesReferenceIdeal.nD Cert.StatesReferenceIdeal.τ).loc Cert.StatesReferenceIdeal.main_arg0)
      ∧ r.2.mem ((c.tc : Thread Cert.StatesReferenceIdeal.nD Cert.StatesReferenceIdeal.τ).loc Cert.StatesReferenceIdeal.main_arg1) = m ((c.tc : Thread Cert.StatesReferenceIdeal.nD Cert.StatesReferenceIdeal.τ).loc Cert.StatesReferenceIdeal.main_arg1)
      ∧ r.2.mem ((c.tc : Thread Cert.StatesReferenceIdeal.nD Cert.StatesReferenceIdeal.τ).loc Cert.StatesReferenceIdeal.main_arg2) = m ((c.tc : Thread Cert.StatesReferenceIdeal.nD Cert.StatesReferenceIdeal.τ).loc Cert.StatesReferenceIdeal.main_arg2))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0)
      ∧ r.2.mem ((c.tc : Thread Cert.Sums.nD Cert.Sums.τ).loc Cert.Sums.main_arg1) = m ((c.tc : Thread Cert.Sums.nD Cert.Sums.τ).loc Cert.Sums.main_arg1)
      ∧ r.2.mem ((c.tc : Thread Cert.Sums.nD Cert.Sums.τ).loc Cert.Sums.main_arg2) = m ((c.tc : Thread Cert.Sums.nD Cert.Sums.τ).loc Cert.Sums.main_arg2))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
      ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
      ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2))
      ∧ r.2.sem = fun _ => 0)

def quiescent_SumsReferenceIdeal [hSumsReferenceIdeal : Cert.SumsReferenceIdeal.Facts] : Prop :=
  ∀ (m : (ℓ : Loc Cert.SumsReferenceIdeal.nD Cert.SumsReferenceIdeal.τ Cert.SumsReferenceIdeal.sig) → Buf (Elt Ideal) ℓ) (g : Dev Cert.SumsReferenceIdeal.nD → PrngReg), Pre_SumsReferenceIdeal m →
    θ_run (Cert.SumsReferenceIdeal.defs (F := Ideal)) (onTc (τ := Cert.SumsReferenceIdeal.τ) (Cert.SumsReferenceIdeal.main (F := Ideal))) ⟨m, fun _ => 0, g⟩ (fun r => (∀ c : Dev Cert.SumsReferenceIdeal.nD,
      r.2.mem ((c.tc : Thread Cert.SumsReferenceIdeal.nD Cert.SumsReferenceIdeal.τ).loc Cert.SumsReferenceIdeal.main_arg0) = m ((c.tc : Thread Cert.SumsReferenceIdeal.nD Cert.SumsReferenceIdeal.τ).loc Cert.SumsReferenceIdeal.main_arg0)
      ∧ r.2.mem ((c.tc : Thread Cert.SumsReferenceIdeal.nD Cert.SumsReferenceIdeal.τ).loc Cert.SumsReferenceIdeal.main_arg1) = m ((c.tc : Thread Cert.SumsReferenceIdeal.nD Cert.SumsReferenceIdeal.τ).loc Cert.SumsReferenceIdeal.main_arg1)
      ∧ r.2.mem ((c.tc : Thread Cert.SumsReferenceIdeal.nD Cert.SumsReferenceIdeal.τ).loc Cert.SumsReferenceIdeal.main_arg2) = m ((c.tc : Thread Cert.SumsReferenceIdeal.nD Cert.SumsReferenceIdeal.τ).loc Cert.SumsReferenceIdeal.main_arg2))
      ∧ r.2.sem = fun _ => 0)

def quiescent_Outputs [hOutputs : Cert.Outputs.Facts] : Prop :=
  ∀ (m : (ℓ : Loc Cert.Outputs.nD Cert.Outputs.τ Cert.Outputs.sig) → Buf (Elt Bits) ℓ) (g : Dev Cert.Outputs.nD → PrngReg), Pre_Outputs m →
    θ_run (Cert.Outputs.defs (F := Bits)) (onTc (τ := Cert.Outputs.τ) (Cert.Outputs.main (F := Bits))) ⟨m, fun _ => 0, g⟩ (fun r => (∀ c : Dev Cert.Outputs.nD,
      r.2.mem ((c.tc : Thread Cert.Outputs.nD Cert.Outputs.τ).loc Cert.Outputs.main_arg0) = m ((c.tc : Thread Cert.Outputs.nD Cert.Outputs.τ).loc Cert.Outputs.main_arg0)
      ∧ r.2.mem ((c.tc : Thread Cert.Outputs.nD Cert.Outputs.τ).loc Cert.Outputs.main_arg1) = m ((c.tc : Thread Cert.Outputs.nD Cert.Outputs.τ).loc Cert.Outputs.main_arg1)
      ∧ r.2.mem ((c.tc : Thread Cert.Outputs.nD Cert.Outputs.τ).loc Cert.Outputs.main_arg2) = m ((c.tc : Thread Cert.Outputs.nD Cert.Outputs.τ).loc Cert.Outputs.main_arg2)
      ∧ r.2.mem ((c.tc : Thread Cert.Outputs.nD Cert.Outputs.τ).loc Cert.Outputs.main_arg3) = m ((c.tc : Thread Cert.Outputs.nD Cert.Outputs.τ).loc Cert.Outputs.main_arg3)
      ∧ r.2.mem ((c.tc : Thread Cert.Outputs.nD Cert.Outputs.τ).loc Cert.Outputs.main_arg4) = m ((c.tc : Thread Cert.Outputs.nD Cert.Outputs.τ).loc Cert.Outputs.main_arg4))
      ∧ r.2.sem = fun _ => 0)

def quiescent_OutputsIdeal [hOutputsIdeal : Cert.OutputsIdeal.Facts] : Prop :=
  ∀ (m : (ℓ : Loc Cert.OutputsIdeal.nD Cert.OutputsIdeal.τ Cert.OutputsIdeal.sig) → Buf (Elt Ideal) ℓ) (g : Dev Cert.OutputsIdeal.nD → PrngReg), Pre_OutputsIdeal m →
    θ_run (Cert.OutputsIdeal.defs (F := Ideal)) (onTc (τ := Cert.OutputsIdeal.τ) (Cert.OutputsIdeal.main (F := Ideal))) ⟨m, fun _ => 0, g⟩ (fun r => (∀ c : Dev Cert.OutputsIdeal.nD,
      r.2.mem ((c.tc : Thread Cert.OutputsIdeal.nD Cert.OutputsIdeal.τ).loc Cert.OutputsIdeal.main_arg0) = m ((c.tc : Thread Cert.OutputsIdeal.nD Cert.OutputsIdeal.τ).loc Cert.OutputsIdeal.main_arg0)
      ∧ r.2.mem ((c.tc : Thread Cert.OutputsIdeal.nD Cert.OutputsIdeal.τ).loc Cert.OutputsIdeal.main_arg1) = m ((c.tc : Thread Cert.OutputsIdeal.nD Cert.OutputsIdeal.τ).loc Cert.OutputsIdeal.main_arg1)
      ∧ r.2.mem ((c.tc : Thread Cert.OutputsIdeal.nD Cert.OutputsIdeal.τ).loc Cert.OutputsIdeal.main_arg2) = m ((c.tc : Thread Cert.OutputsIdeal.nD Cert.OutputsIdeal.τ).loc Cert.OutputsIdeal.main_arg2)
      ∧ r.2.mem ((c.tc : Thread Cert.OutputsIdeal.nD Cert.OutputsIdeal.τ).loc Cert.OutputsIdeal.main_arg3) = m ((c.tc : Thread Cert.OutputsIdeal.nD Cert.OutputsIdeal.τ).loc Cert.OutputsIdeal.main_arg3)
      ∧ r.2.mem ((c.tc : Thread Cert.OutputsIdeal.nD Cert.OutputsIdeal.τ).loc Cert.OutputsIdeal.main_arg4) = m ((c.tc : Thread Cert.OutputsIdeal.nD Cert.OutputsIdeal.τ).loc Cert.OutputsIdeal.main_arg4))
      ∧ r.2.sem = fun _ => 0)

def quiescent_OutputsReferenceIdeal [hOutputsReferenceIdeal : Cert.OutputsReferenceIdeal.Facts] : Prop :=
  ∀ (m : (ℓ : Loc Cert.OutputsReferenceIdeal.nD Cert.OutputsReferenceIdeal.τ Cert.OutputsReferenceIdeal.sig) → Buf (Elt Ideal) ℓ) (g : Dev Cert.OutputsReferenceIdeal.nD → PrngReg), Pre_OutputsReferenceIdeal m →
    θ_run (Cert.OutputsReferenceIdeal.defs (F := Ideal)) (onTc (τ := Cert.OutputsReferenceIdeal.τ) (Cert.OutputsReferenceIdeal.main (F := Ideal))) ⟨m, fun _ => 0, g⟩ (fun r => (∀ c : Dev Cert.OutputsReferenceIdeal.nD,
      r.2.mem ((c.tc : Thread Cert.OutputsReferenceIdeal.nD Cert.OutputsReferenceIdeal.τ).loc Cert.OutputsReferenceIdeal.main_arg0) = m ((c.tc : Thread Cert.OutputsReferenceIdeal.nD Cert.OutputsReferenceIdeal.τ).loc Cert.OutputsReferenceIdeal.main_arg0)
      ∧ r.2.mem ((c.tc : Thread Cert.OutputsReferenceIdeal.nD Cert.OutputsReferenceIdeal.τ).loc Cert.OutputsReferenceIdeal.main_arg1) = m ((c.tc : Thread Cert.OutputsReferenceIdeal.nD Cert.OutputsReferenceIdeal.τ).loc Cert.OutputsReferenceIdeal.main_arg1)
      ∧ r.2.mem ((c.tc : Thread Cert.OutputsReferenceIdeal.nD Cert.OutputsReferenceIdeal.τ).loc Cert.OutputsReferenceIdeal.main_arg2) = m ((c.tc : Thread Cert.OutputsReferenceIdeal.nD Cert.OutputsReferenceIdeal.τ).loc Cert.OutputsReferenceIdeal.main_arg2)
      ∧ r.2.mem ((c.tc : Thread Cert.OutputsReferenceIdeal.nD Cert.OutputsReferenceIdeal.τ).loc Cert.OutputsReferenceIdeal.main_arg3) = m ((c.tc : Thread Cert.OutputsReferenceIdeal.nD Cert.OutputsReferenceIdeal.τ).loc Cert.OutputsReferenceIdeal.main_arg3)
      ∧ r.2.mem ((c.tc : Thread Cert.OutputsReferenceIdeal.nD Cert.OutputsReferenceIdeal.τ).loc Cert.OutputsReferenceIdeal.main_arg4) = m ((c.tc : Thread Cert.OutputsReferenceIdeal.nD Cert.OutputsReferenceIdeal.τ).loc Cert.OutputsReferenceIdeal.main_arg4))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterIdeal_pre_finite_router [hRouterIdeal : Cert.RouterIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_router m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5))
      ∧ r.2.sem = fun _ => 0)

def quiescent_RouterReferenceIdeal_pre_finite_router [hRouterReferenceIdeal : Cert.RouterReferenceIdeal.Facts] [hPre_finite_router : Cert.Pre_finite_router.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite_router m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2)
      ∧ r.2.mem ((c.tc : Thread Cert.RouterReferenceIdeal.nD Cert.RouterReferenceIdeal.τ).loc Cert.RouterReferenceIdeal.main_arg3) = m ((c.tc : Thread Cert.RouterReferenceIdeal.nD Cert.RouterReferenceIdeal.τ).loc Cert.RouterReferenceIdeal.main_arg3)
      ∧ r.2.mem ((c.tc : Thread Cert.RouterReferenceIdeal.nD Cert.RouterReferenceIdeal.τ).loc Cert.RouterReferenceIdeal.main_arg4) = m ((c.tc : Thread Cert.RouterReferenceIdeal.nD Cert.RouterReferenceIdeal.τ).loc Cert.RouterReferenceIdeal.main_arg4)
      ∧ r.2.mem ((c.tc : Thread Cert.RouterReferenceIdeal.nD Cert.RouterReferenceIdeal.τ).loc Cert.RouterReferenceIdeal.main_arg5) = m ((c.tc : Thread Cert.RouterReferenceIdeal.nD Cert.RouterReferenceIdeal.τ).loc Cert.RouterReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Experts_ExpertsIdeal : Prop :=
  True

def algebraic_ExpertsIdeal_ExpertsReferenceIdeal_on_rows_used [hExpertsIdeal : Cert.ExpertsIdeal.Facts] [hExpertsReferenceIdeal : Cert.ExpertsReferenceIdeal.Facts] [hPre_tables_ok : Cert.Pre_tables_ok.Facts] [hOn_rows_used : Cert.On_rows_used.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)
      ∧ m' ((c.tc : Thread Cert.ExpertsReferenceIdeal.nD Cert.ExpertsReferenceIdeal.τ).loc Cert.ExpertsReferenceIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![40960, 2048]⟩ : Shape).Idx, (Cert.On_rows_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          (∀ i : (⟨2, ![40960, 2048]⟩ : Shape).Idx, (Cert.On_rows_used.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) i = 1#1 → r.2.mem ((c.tc : Thread Cert.ExpertsReferenceIdeal.nD Cert.ExpertsReferenceIdeal.τ).loc Cert.ExpertsReferenceIdeal.main_v13) i = v0 c i)
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5)
          ∧ r.2.mem ((c.tc : Thread Cert.ExpertsReferenceIdeal.nD Cert.ExpertsReferenceIdeal.τ).loc Cert.ExpertsReferenceIdeal.main_arg6) = m' ((c.tc : Thread Cert.ExpertsReferenceIdeal.nD Cert.ExpertsReferenceIdeal.τ).loc Cert.ExpertsReferenceIdeal.main_arg6))

def preserves_SsdOut_SsdOutIdeal : Prop :=
  True

def algebraic_SsdOutIdeal_SsdOutReferenceIdeal [hSsdOutIdeal : Cert.SsdOutIdeal.Facts] [hSsdOutReferenceIdeal : Cert.SsdOutReferenceIdeal.Facts] : Prop :=
  ∀ (m : (ℓ : Loc Cert.SsdOutIdeal.nD Cert.SsdOutIdeal.τ Cert.SsdOutIdeal.sig) → Buf (Elt Ideal) ℓ) (g : Dev Cert.SsdOutIdeal.nD → PrngReg)
    (m' : (ℓ : Loc Cert.SsdOutReferenceIdeal.nD Cert.SsdOutReferenceIdeal.τ Cert.SsdOutReferenceIdeal.sig) → Buf (Elt Ideal) ℓ) (g' : Dev Cert.SsdOutReferenceIdeal.nD → PrngReg), Pre_SsdOutIdeal m →
    (∀ c : Dev Cert.SsdOutIdeal.nD,
      m' ((c.tc : Thread Cert.SsdOutReferenceIdeal.nD Cert.SsdOutReferenceIdeal.τ).loc Cert.SsdOutReferenceIdeal.main_arg0) = m ((c.tc : Thread Cert.SsdOutIdeal.nD Cert.SsdOutIdeal.τ).loc Cert.SsdOutIdeal.main_arg0)
      ∧ m' ((c.tc : Thread Cert.SsdOutReferenceIdeal.nD Cert.SsdOutReferenceIdeal.τ).loc Cert.SsdOutReferenceIdeal.main_arg1) = m ((c.tc : Thread Cert.SsdOutIdeal.nD Cert.SsdOutIdeal.τ).loc Cert.SsdOutIdeal.main_arg1)
      ∧ m' ((c.tc : Thread Cert.SsdOutReferenceIdeal.nD Cert.SsdOutReferenceIdeal.τ).loc Cert.SsdOutReferenceIdeal.main_arg2) = m ((c.tc : Thread Cert.SsdOutIdeal.nD Cert.SsdOutIdeal.τ).loc Cert.SsdOutIdeal.main_arg2)
      ∧ m' ((c.tc : Thread Cert.SsdOutReferenceIdeal.nD Cert.SsdOutReferenceIdeal.τ).loc Cert.SsdOutReferenceIdeal.main_arg3) = m ((c.tc : Thread Cert.SsdOutIdeal.nD Cert.SsdOutIdeal.τ).loc Cert.SsdOutIdeal.main_arg3)) →
    ∃ (v0 : (c : Dev Cert.SsdOutIdeal.nD) → Buf (Elt Ideal) ((c.tc : Thread Cert.SsdOutIdeal.nD Cert.SsdOutIdeal.τ).loc Cert.SsdOutIdeal.main_v2)),
      θ_run (Cert.SsdOutIdeal.defs (F := Ideal)) (onTc (τ := Cert.SsdOutIdeal.τ) (Cert.SsdOutIdeal.main (F := Ideal))) ⟨m, fun _ => 0, g⟩ (fun r => ∀ c : Dev Cert.SsdOutIdeal.nD,
          r.2.mem ((c.tc : Thread Cert.SsdOutIdeal.nD Cert.SsdOutIdeal.τ).loc Cert.SsdOutIdeal.main_v2) = v0 c
          ∧ r.2.mem ((c.tc : Thread Cert.SsdOutIdeal.nD Cert.SsdOutIdeal.τ).loc Cert.SsdOutIdeal.main_arg0) = m ((c.tc : Thread Cert.SsdOutIdeal.nD Cert.SsdOutIdeal.τ).loc Cert.SsdOutIdeal.main_arg0)
          ∧ r.2.mem ((c.tc : Thread Cert.SsdOutIdeal.nD Cert.SsdOutIdeal.τ).loc Cert.SsdOutIdeal.main_arg1) = m ((c.tc : Thread Cert.SsdOutIdeal.nD Cert.SsdOutIdeal.τ).loc Cert.SsdOutIdeal.main_arg1)
          ∧ r.2.mem ((c.tc : Thread Cert.SsdOutIdeal.nD Cert.SsdOutIdeal.τ).loc Cert.SsdOutIdeal.main_arg2) = m ((c.tc : Thread Cert.SsdOutIdeal.nD Cert.SsdOutIdeal.τ).loc Cert.SsdOutIdeal.main_arg2)
          ∧ r.2.mem ((c.tc : Thread Cert.SsdOutIdeal.nD Cert.SsdOutIdeal.τ).loc Cert.SsdOutIdeal.main_arg3) = m ((c.tc : Thread Cert.SsdOutIdeal.nD Cert.SsdOutIdeal.τ).loc Cert.SsdOutIdeal.main_arg3))
      ∧ θ_run (Cert.SsdOutReferenceIdeal.defs (F := Ideal)) (onTc (τ := Cert.SsdOutReferenceIdeal.τ) (Cert.SsdOutReferenceIdeal.main (F := Ideal))) ⟨m', fun _ => 0, g'⟩ (fun r => ∀ c : Dev Cert.SsdOutReferenceIdeal.nD,
          r.2.mem ((c.tc : Thread Cert.SsdOutReferenceIdeal.nD Cert.SsdOutReferenceIdeal.τ).loc Cert.SsdOutReferenceIdeal.main_v8) = v0 c
          ∧ r.2.mem ((c.tc : Thread Cert.SsdOutReferenceIdeal.nD Cert.SsdOutReferenceIdeal.τ).loc Cert.SsdOutReferenceIdeal.main_arg0) = m' ((c.tc : Thread Cert.SsdOutReferenceIdeal.nD Cert.SsdOutReferenceIdeal.τ).loc Cert.SsdOutReferenceIdeal.main_arg0)
          ∧ r.2.mem ((c.tc : Thread Cert.SsdOutReferenceIdeal.nD Cert.SsdOutReferenceIdeal.τ).loc Cert.SsdOutReferenceIdeal.main_arg1) = m' ((c.tc : Thread Cert.SsdOutReferenceIdeal.nD Cert.SsdOutReferenceIdeal.τ).loc Cert.SsdOutReferenceIdeal.main_arg1)
          ∧ r.2.mem ((c.tc : Thread Cert.SsdOutReferenceIdeal.nD Cert.SsdOutReferenceIdeal.τ).loc Cert.SsdOutReferenceIdeal.main_arg2) = m' ((c.tc : Thread Cert.SsdOutReferenceIdeal.nD Cert.SsdOutReferenceIdeal.τ).loc Cert.SsdOutReferenceIdeal.main_arg2)
          ∧ r.2.mem ((c.tc : Thread Cert.SsdOutReferenceIdeal.nD Cert.SsdOutReferenceIdeal.τ).loc Cert.SsdOutReferenceIdeal.main_arg3) = m' ((c.tc : Thread Cert.SsdOutReferenceIdeal.nD Cert.SsdOutReferenceIdeal.τ).loc Cert.SsdOutReferenceIdeal.main_arg3))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)
      ∧ m' ((c.tc : Thread Cert.MixOutReferenceIdeal.nD Cert.MixOutReferenceIdeal.τ).loc Cert.MixOutReferenceIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v4)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v4) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v11) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4))

def preserves_SsdIn_SsdInIdeal : Prop :=
  True

def algebraic_SsdInIdeal_SsdInReferenceIdeal [hSsdInIdeal : Cert.SsdInIdeal.Facts] [hSsdInReferenceIdeal : Cert.SsdInReferenceIdeal.Facts] : Prop :=
  ∀ (m : (ℓ : Loc Cert.SsdInIdeal.nD Cert.SsdInIdeal.τ Cert.SsdInIdeal.sig) → Buf (Elt Ideal) ℓ) (g : Dev Cert.SsdInIdeal.nD → PrngReg)
    (m' : (ℓ : Loc Cert.SsdInReferenceIdeal.nD Cert.SsdInReferenceIdeal.τ Cert.SsdInReferenceIdeal.sig) → Buf (Elt Ideal) ℓ) (g' : Dev Cert.SsdInReferenceIdeal.nD → PrngReg), Pre_SsdInIdeal m →
    (∀ c : Dev Cert.SsdInIdeal.nD,
      m' ((c.tc : Thread Cert.SsdInReferenceIdeal.nD Cert.SsdInReferenceIdeal.τ).loc Cert.SsdInReferenceIdeal.main_arg0) = m ((c.tc : Thread Cert.SsdInIdeal.nD Cert.SsdInIdeal.τ).loc Cert.SsdInIdeal.main_arg0)
      ∧ m' ((c.tc : Thread Cert.SsdInReferenceIdeal.nD Cert.SsdInReferenceIdeal.τ).loc Cert.SsdInReferenceIdeal.main_arg1) = m ((c.tc : Thread Cert.SsdInIdeal.nD Cert.SsdInIdeal.τ).loc Cert.SsdInIdeal.main_arg1)
      ∧ m' ((c.tc : Thread Cert.SsdInReferenceIdeal.nD Cert.SsdInReferenceIdeal.τ).loc Cert.SsdInReferenceIdeal.main_arg2) = m ((c.tc : Thread Cert.SsdInIdeal.nD Cert.SsdInIdeal.τ).loc Cert.SsdInIdeal.main_arg2)
      ∧ m' ((c.tc : Thread Cert.SsdInReferenceIdeal.nD Cert.SsdInReferenceIdeal.τ).loc Cert.SsdInReferenceIdeal.main_arg3) = m ((c.tc : Thread Cert.SsdInIdeal.nD Cert.SsdInIdeal.τ).loc Cert.SsdInIdeal.main_arg3)
      ∧ m' ((c.tc : Thread Cert.SsdInReferenceIdeal.nD Cert.SsdInReferenceIdeal.τ).loc Cert.SsdInReferenceIdeal.main_arg4) = m ((c.tc : Thread Cert.SsdInIdeal.nD Cert.SsdInIdeal.τ).loc Cert.SsdInIdeal.main_arg4)) →
    ∃ (v0 : (c : Dev Cert.SsdInIdeal.nD) → Buf (Elt Ideal) ((c.tc : Thread Cert.SsdInIdeal.nD Cert.SsdInIdeal.τ).loc Cert.SsdInIdeal.main_v8_0)) (v1 : (c : Dev Cert.SsdInIdeal.nD) → Buf (Elt Ideal) ((c.tc : Thread Cert.SsdInIdeal.nD Cert.SsdInIdeal.τ).loc Cert.SsdInIdeal.main_v8_1)),
      θ_run (Cert.SsdInIdeal.defs (F := Ideal)) (onTc (τ := Cert.SsdInIdeal.τ) (Cert.SsdInIdeal.main (F := Ideal))) ⟨m, fun _ => 0, g⟩ (fun r => ∀ c : Dev Cert.SsdInIdeal.nD,
          r.2.mem ((c.tc : Thread Cert.SsdInIdeal.nD Cert.SsdInIdeal.τ).loc Cert.SsdInIdeal.main_v8_0) = v0 c
          ∧ r.2.mem ((c.tc : Thread Cert.SsdInIdeal.nD Cert.SsdInIdeal.τ).loc Cert.SsdInIdeal.main_v8_1) = v1 c
          ∧ r.2.mem ((c.tc : Thread Cert.SsdInIdeal.nD Cert.SsdInIdeal.τ).loc Cert.SsdInIdeal.main_arg0) = m ((c.tc : Thread Cert.SsdInIdeal.nD Cert.SsdInIdeal.τ).loc Cert.SsdInIdeal.main_arg0)
          ∧ r.2.mem ((c.tc : Thread Cert.SsdInIdeal.nD Cert.SsdInIdeal.τ).loc Cert.SsdInIdeal.main_arg1) = m ((c.tc : Thread Cert.SsdInIdeal.nD Cert.SsdInIdeal.τ).loc Cert.SsdInIdeal.main_arg1)
          ∧ r.2.mem ((c.tc : Thread Cert.SsdInIdeal.nD Cert.SsdInIdeal.τ).loc Cert.SsdInIdeal.main_arg2) = m ((c.tc : Thread Cert.SsdInIdeal.nD Cert.SsdInIdeal.τ).loc Cert.SsdInIdeal.main_arg2)
          ∧ r.2.mem ((c.tc : Thread Cert.SsdInIdeal.nD Cert.SsdInIdeal.τ).loc Cert.SsdInIdeal.main_arg3) = m ((c.tc : Thread Cert.SsdInIdeal.nD Cert.SsdInIdeal.τ).loc Cert.SsdInIdeal.main_arg3)
          ∧ r.2.mem ((c.tc : Thread Cert.SsdInIdeal.nD Cert.SsdInIdeal.τ).loc Cert.SsdInIdeal.main_arg4) = m ((c.tc : Thread Cert.SsdInIdeal.nD Cert.SsdInIdeal.τ).loc Cert.SsdInIdeal.main_arg4))
      ∧ θ_run (Cert.SsdInReferenceIdeal.defs (F := Ideal)) (onTc (τ := Cert.SsdInReferenceIdeal.τ) (Cert.SsdInReferenceIdeal.main (F := Ideal))) ⟨m', fun _ => 0, g'⟩ (fun r => ∀ c : Dev Cert.SsdInReferenceIdeal.nD,
          r.2.mem ((c.tc : Thread Cert.SsdInReferenceIdeal.nD Cert.SsdInReferenceIdeal.τ).loc Cert.SsdInReferenceIdeal.main_v25) = v0 c
          ∧ r.2.mem ((c.tc : Thread Cert.SsdInReferenceIdeal.nD Cert.SsdInReferenceIdeal.τ).loc Cert.SsdInReferenceIdeal.main_v27) = v1 c
          ∧ r.2.mem ((c.tc : Thread Cert.SsdInReferenceIdeal.nD Cert.SsdInReferenceIdeal.τ).loc Cert.SsdInReferenceIdeal.main_arg0) = m' ((c.tc : Thread Cert.SsdInReferenceIdeal.nD Cert.SsdInReferenceIdeal.τ).loc Cert.SsdInReferenceIdeal.main_arg0)
          ∧ r.2.mem ((c.tc : Thread Cert.SsdInReferenceIdeal.nD Cert.SsdInReferenceIdeal.τ).loc Cert.SsdInReferenceIdeal.main_arg1) = m' ((c.tc : Thread Cert.SsdInReferenceIdeal.nD Cert.SsdInReferenceIdeal.τ).loc Cert.SsdInReferenceIdeal.main_arg1)
          ∧ r.2.mem ((c.tc : Thread Cert.SsdInReferenceIdeal.nD Cert.SsdInReferenceIdeal.τ).loc Cert.SsdInReferenceIdeal.main_arg2) = m' ((c.tc : Thread Cert.SsdInReferenceIdeal.nD Cert.SsdInReferenceIdeal.τ).loc Cert.SsdInReferenceIdeal.main_arg2)
          ∧ r.2.mem ((c.tc : Thread Cert.SsdInReferenceIdeal.nD Cert.SsdInReferenceIdeal.τ).loc Cert.SsdInReferenceIdeal.main_arg3) = m' ((c.tc : Thread Cert.SsdInReferenceIdeal.nD Cert.SsdInReferenceIdeal.τ).loc Cert.SsdInReferenceIdeal.main_arg3)
          ∧ r.2.mem ((c.tc : Thread Cert.SsdInReferenceIdeal.nD Cert.SsdInReferenceIdeal.τ).loc Cert.SsdInReferenceIdeal.main_arg4) = m' ((c.tc : Thread Cert.SsdInReferenceIdeal.nD Cert.SsdInReferenceIdeal.τ).loc Cert.SsdInReferenceIdeal.main_arg4))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)
      ∧ m' ((c.tc : Thread Cert.MixInReferenceIdeal.nD Cert.MixInReferenceIdeal.τ).loc Cert.MixInReferenceIdeal.main_arg3) = m ((c.tc : Thread Cert.MixInIdeal.nD Cert.MixInIdeal.τ).loc Cert.MixInIdeal.main_arg3)
      ∧ m' ((c.tc : Thread Cert.MixInReferenceIdeal.nD Cert.MixInReferenceIdeal.τ).loc Cert.MixInReferenceIdeal.main_arg4) = m ((c.tc : Thread Cert.MixInIdeal.nD Cert.MixInIdeal.τ).loc Cert.MixInIdeal.main_arg4)) →
    ∃ (v0 : (c : Dev Cert.MixInIdeal.nD) → Buf (Elt Ideal) ((c.tc : Thread Cert.MixInIdeal.nD Cert.MixInIdeal.τ).loc Cert.MixInIdeal.main_v4)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v4) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v24) = v0 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4))

def preserves_Gated_GatedIdeal : Prop :=
  True

def algebraic_GatedIdeal_GatedReferenceIdeal [hGatedIdeal : Cert.GatedIdeal.Facts] [hGatedReferenceIdeal : Cert.GatedReferenceIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedReferenceIdeal.nD Cert.GatedReferenceIdeal.τ Cert.GatedReferenceIdeal.sig) → Buf (Elt Ideal) ℓ) (g' : Dev Cert.GatedReferenceIdeal.nD → PrngReg), Pre_GatedIdeal m →
    (∀ c : Dev Cert.GatedIdeal.nD,
      m' ((c.tc : Thread Cert.GatedReferenceIdeal.nD Cert.GatedReferenceIdeal.τ).loc Cert.GatedReferenceIdeal.main_arg0) = m ((c.tc : Thread Cert.GatedIdeal.nD Cert.GatedIdeal.τ).loc Cert.GatedIdeal.main_arg0)
      ∧ m' ((c.tc : Thread Cert.GatedReferenceIdeal.nD Cert.GatedReferenceIdeal.τ).loc Cert.GatedReferenceIdeal.main_arg1) = m ((c.tc : Thread Cert.GatedIdeal.nD Cert.GatedIdeal.τ).loc Cert.GatedIdeal.main_arg1)) →
    ∃ (v0 : (c : Dev Cert.GatedIdeal.nD) → Buf (Elt Ideal) ((c.tc : Thread Cert.GatedIdeal.nD Cert.GatedIdeal.τ).loc Cert.GatedIdeal.main_v3)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v3) = v0 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1))
      ∧ θ_run (Cert.GatedReferenceIdeal.defs (F := Ideal)) (onTc (τ := Cert.GatedReferenceIdeal.τ) (Cert.GatedReferenceIdeal.main (F := Ideal))) ⟨m', fun _ => 0, g'⟩ (fun r => ∀ c : Dev Cert.GatedReferenceIdeal.nD,
          r.2.mem ((c.tc : Thread Cert.GatedReferenceIdeal.nD Cert.GatedReferenceIdeal.τ).loc Cert.GatedReferenceIdeal.main_v26) = v0 c
          ∧ r.2.mem ((c.tc : Thread Cert.GatedReferenceIdeal.nD Cert.GatedReferenceIdeal.τ).loc Cert.GatedReferenceIdeal.main_arg0) = m' ((c.tc : Thread Cert.GatedReferenceIdeal.nD Cert.GatedReferenceIdeal.τ).loc Cert.GatedReferenceIdeal.main_arg0)
          ∧ r.2.mem ((c.tc : Thread Cert.GatedReferenceIdeal.nD Cert.GatedReferenceIdeal.τ).loc Cert.GatedReferenceIdeal.main_arg1) = m' ((c.tc : Thread Cert.GatedReferenceIdeal.nD Cert.GatedReferenceIdeal.τ).loc Cert.GatedReferenceIdeal.main_arg1))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v5)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v5) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v19) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_States_StatesIdeal : Prop :=
  True

def algebraic_StatesIdeal_StatesReferenceIdeal [hStatesIdeal : Cert.StatesIdeal.Facts] [hStatesReferenceIdeal : Cert.StatesReferenceIdeal.Facts] : Prop :=
  ∀ (m : (ℓ : Loc Cert.StatesIdeal.nD Cert.StatesIdeal.τ Cert.StatesIdeal.sig) → Buf (Elt Ideal) ℓ) (g : Dev Cert.StatesIdeal.nD → PrngReg)
    (m' : (ℓ : Loc Cert.StatesReferenceIdeal.nD Cert.StatesReferenceIdeal.τ Cert.StatesReferenceIdeal.sig) → Buf (Elt Ideal) ℓ) (g' : Dev Cert.StatesReferenceIdeal.nD → PrngReg), Pre_StatesIdeal m →
    (∀ c : Dev Cert.StatesIdeal.nD,
      m' ((c.tc : Thread Cert.StatesReferenceIdeal.nD Cert.StatesReferenceIdeal.τ).loc Cert.StatesReferenceIdeal.main_arg0) = m ((c.tc : Thread Cert.StatesIdeal.nD Cert.StatesIdeal.τ).loc Cert.StatesIdeal.main_arg0)
      ∧ m' ((c.tc : Thread Cert.StatesReferenceIdeal.nD Cert.StatesReferenceIdeal.τ).loc Cert.StatesReferenceIdeal.main_arg1) = m ((c.tc : Thread Cert.StatesIdeal.nD Cert.StatesIdeal.τ).loc Cert.StatesIdeal.main_arg1)
      ∧ m' ((c.tc : Thread Cert.StatesReferenceIdeal.nD Cert.StatesReferenceIdeal.τ).loc Cert.StatesReferenceIdeal.main_arg2) = m ((c.tc : Thread Cert.StatesIdeal.nD Cert.StatesIdeal.τ).loc Cert.StatesIdeal.main_arg2)) →
    ∃ (v0 : (c : Dev Cert.StatesIdeal.nD) → Buf (Elt Ideal) ((c.tc : Thread Cert.StatesIdeal.nD Cert.StatesIdeal.τ).loc Cert.StatesIdeal.main_v0)),
      θ_run (Cert.StatesIdeal.defs (F := Ideal)) (onTc (τ := Cert.StatesIdeal.τ) (Cert.StatesIdeal.main (F := Ideal))) ⟨m, fun _ => 0, g⟩ (fun r => ∀ c : Dev Cert.StatesIdeal.nD,
          r.2.mem ((c.tc : Thread Cert.StatesIdeal.nD Cert.StatesIdeal.τ).loc Cert.StatesIdeal.main_v0) = v0 c
          ∧ r.2.mem ((c.tc : Thread Cert.StatesIdeal.nD Cert.StatesIdeal.τ).loc Cert.StatesIdeal.main_arg0) = m ((c.tc : Thread Cert.StatesIdeal.nD Cert.StatesIdeal.τ).loc Cert.StatesIdeal.main_arg0)
          ∧ r.2.mem ((c.tc : Thread Cert.StatesIdeal.nD Cert.StatesIdeal.τ).loc Cert.StatesIdeal.main_arg1) = m ((c.tc : Thread Cert.StatesIdeal.nD Cert.StatesIdeal.τ).loc Cert.StatesIdeal.main_arg1)
          ∧ r.2.mem ((c.tc : Thread Cert.StatesIdeal.nD Cert.StatesIdeal.τ).loc Cert.StatesIdeal.main_arg2) = m ((c.tc : Thread Cert.StatesIdeal.nD Cert.StatesIdeal.τ).loc Cert.StatesIdeal.main_arg2))
      ∧ θ_run (Cert.StatesReferenceIdeal.defs (F := Ideal)) (onTc (τ := Cert.StatesReferenceIdeal.τ) (Cert.StatesReferenceIdeal.main (F := Ideal))) ⟨m', fun _ => 0, g'⟩ (fun r => ∀ c : Dev Cert.StatesReferenceIdeal.nD,
          r.2.mem ((c.tc : Thread Cert.StatesReferenceIdeal.nD Cert.StatesReferenceIdeal.τ).loc Cert.StatesReferenceIdeal.main_v6) = v0 c
          ∧ r.2.mem ((c.tc : Thread Cert.StatesReferenceIdeal.nD Cert.StatesReferenceIdeal.τ).loc Cert.StatesReferenceIdeal.main_arg0) = m' ((c.tc : Thread Cert.StatesReferenceIdeal.nD Cert.StatesReferenceIdeal.τ).loc Cert.StatesReferenceIdeal.main_arg0)
          ∧ r.2.mem ((c.tc : Thread Cert.StatesReferenceIdeal.nD Cert.StatesReferenceIdeal.τ).loc Cert.StatesReferenceIdeal.main_arg1) = m' ((c.tc : Thread Cert.StatesReferenceIdeal.nD Cert.StatesReferenceIdeal.τ).loc Cert.StatesReferenceIdeal.main_arg1)
          ∧ r.2.mem ((c.tc : Thread Cert.StatesReferenceIdeal.nD Cert.StatesReferenceIdeal.τ).loc Cert.StatesReferenceIdeal.main_arg2) = m' ((c.tc : Thread Cert.StatesReferenceIdeal.nD Cert.StatesReferenceIdeal.τ).loc Cert.StatesReferenceIdeal.main_arg2))

def preserves_Sums_SumsIdeal : Prop :=
  True

def algebraic_SumsIdeal_SumsReferenceIdeal [hSumsIdeal : Cert.SumsIdeal.Facts] [hSumsReferenceIdeal : Cert.SumsReferenceIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsReferenceIdeal.nD Cert.SumsReferenceIdeal.τ Cert.SumsReferenceIdeal.sig) → Buf (Elt Ideal) ℓ) (g' : Dev Cert.SumsReferenceIdeal.nD → PrngReg), Pre_SumsIdeal m →
    (∀ c : Dev Cert.SumsIdeal.nD,
      m' ((c.tc : Thread Cert.SumsReferenceIdeal.nD Cert.SumsReferenceIdeal.τ).loc Cert.SumsReferenceIdeal.main_arg0) = m ((c.tc : Thread Cert.SumsIdeal.nD Cert.SumsIdeal.τ).loc Cert.SumsIdeal.main_arg0)
      ∧ m' ((c.tc : Thread Cert.SumsReferenceIdeal.nD Cert.SumsReferenceIdeal.τ).loc Cert.SumsReferenceIdeal.main_arg1) = m ((c.tc : Thread Cert.SumsIdeal.nD Cert.SumsIdeal.τ).loc Cert.SumsIdeal.main_arg1)
      ∧ m' ((c.tc : Thread Cert.SumsReferenceIdeal.nD Cert.SumsReferenceIdeal.τ).loc Cert.SumsReferenceIdeal.main_arg2) = m ((c.tc : Thread Cert.SumsIdeal.nD Cert.SumsIdeal.τ).loc Cert.SumsIdeal.main_arg2)) →
    ∃ (v0 : (c : Dev Cert.SumsIdeal.nD) → Buf (Elt Ideal) ((c.tc : Thread Cert.SumsIdeal.nD Cert.SumsIdeal.τ).loc Cert.SumsIdeal.main_v15)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v15) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0)
          ∧ r.2.mem ((c.tc : Thread Cert.SumsIdeal.nD Cert.SumsIdeal.τ).loc Cert.SumsIdeal.main_arg1) = m ((c.tc : Thread Cert.SumsIdeal.nD Cert.SumsIdeal.τ).loc Cert.SumsIdeal.main_arg1)
          ∧ r.2.mem ((c.tc : Thread Cert.SumsIdeal.nD Cert.SumsIdeal.τ).loc Cert.SumsIdeal.main_arg2) = m ((c.tc : Thread Cert.SumsIdeal.nD Cert.SumsIdeal.τ).loc Cert.SumsIdeal.main_arg2))
      ∧ θ_run (Cert.SumsReferenceIdeal.defs (F := Ideal)) (onTc (τ := Cert.SumsReferenceIdeal.τ) (Cert.SumsReferenceIdeal.main (F := Ideal))) ⟨m', fun _ => 0, g'⟩ (fun r => ∀ c : Dev Cert.SumsReferenceIdeal.nD,
          r.2.mem ((c.tc : Thread Cert.SumsReferenceIdeal.nD Cert.SumsReferenceIdeal.τ).loc Cert.SumsReferenceIdeal.main_v8) = v0 c
          ∧ r.2.mem ((c.tc : Thread Cert.SumsReferenceIdeal.nD Cert.SumsReferenceIdeal.τ).loc Cert.SumsReferenceIdeal.main_arg0) = m' ((c.tc : Thread Cert.SumsReferenceIdeal.nD Cert.SumsReferenceIdeal.τ).loc Cert.SumsReferenceIdeal.main_arg0)
          ∧ r.2.mem ((c.tc : Thread Cert.SumsReferenceIdeal.nD Cert.SumsReferenceIdeal.τ).loc Cert.SumsReferenceIdeal.main_arg1) = m' ((c.tc : Thread Cert.SumsReferenceIdeal.nD Cert.SumsReferenceIdeal.τ).loc Cert.SumsReferenceIdeal.main_arg1)
          ∧ r.2.mem ((c.tc : Thread Cert.SumsReferenceIdeal.nD Cert.SumsReferenceIdeal.τ).loc Cert.SumsReferenceIdeal.main_arg2) = m' ((c.tc : Thread Cert.SumsReferenceIdeal.nD Cert.SumsReferenceIdeal.τ).loc Cert.SumsReferenceIdeal.main_arg2))

def preserves_Outputs_OutputsIdeal : Prop :=
  True

def algebraic_OutputsIdeal_OutputsReferenceIdeal [hOutputsIdeal : Cert.OutputsIdeal.Facts] [hOutputsReferenceIdeal : Cert.OutputsReferenceIdeal.Facts] : Prop :=
  ∀ (m : (ℓ : Loc Cert.OutputsIdeal.nD Cert.OutputsIdeal.τ Cert.OutputsIdeal.sig) → Buf (Elt Ideal) ℓ) (g : Dev Cert.OutputsIdeal.nD → PrngReg)
    (m' : (ℓ : Loc Cert.OutputsReferenceIdeal.nD Cert.OutputsReferenceIdeal.τ Cert.OutputsReferenceIdeal.sig) → Buf (Elt Ideal) ℓ) (g' : Dev Cert.OutputsReferenceIdeal.nD → PrngReg), Pre_OutputsIdeal m →
    (∀ c : Dev Cert.OutputsIdeal.nD,
      m' ((c.tc : Thread Cert.OutputsReferenceIdeal.nD Cert.OutputsReferenceIdeal.τ).loc Cert.OutputsReferenceIdeal.main_arg0) = m ((c.tc : Thread Cert.OutputsIdeal.nD Cert.OutputsIdeal.τ).loc Cert.OutputsIdeal.main_arg0)
      ∧ m' ((c.tc : Thread Cert.OutputsReferenceIdeal.nD Cert.OutputsReferenceIdeal.τ).loc Cert.OutputsReferenceIdeal.main_arg1) = m ((c.tc : Thread Cert.OutputsIdeal.nD Cert.OutputsIdeal.τ).loc Cert.OutputsIdeal.main_arg1)
      ∧ m' ((c.tc : Thread Cert.OutputsReferenceIdeal.nD Cert.OutputsReferenceIdeal.τ).loc Cert.OutputsReferenceIdeal.main_arg2) = m ((c.tc : Thread Cert.OutputsIdeal.nD Cert.OutputsIdeal.τ).loc Cert.OutputsIdeal.main_arg2)
      ∧ m' ((c.tc : Thread Cert.OutputsReferenceIdeal.nD Cert.OutputsReferenceIdeal.τ).loc Cert.OutputsReferenceIdeal.main_arg3) = m ((c.tc : Thread Cert.OutputsIdeal.nD Cert.OutputsIdeal.τ).loc Cert.OutputsIdeal.main_arg3)
      ∧ m' ((c.tc : Thread Cert.OutputsReferenceIdeal.nD Cert.OutputsReferenceIdeal.τ).loc Cert.OutputsReferenceIdeal.main_arg4) = m ((c.tc : Thread Cert.OutputsIdeal.nD Cert.OutputsIdeal.τ).loc Cert.OutputsIdeal.main_arg4)) →
    ∃ (v0 : (c : Dev Cert.OutputsIdeal.nD) → Buf (Elt Ideal) ((c.tc : Thread Cert.OutputsIdeal.nD Cert.OutputsIdeal.τ).loc Cert.OutputsIdeal.main_v20)),
      θ_run (Cert.OutputsIdeal.defs (F := Ideal)) (onTc (τ := Cert.OutputsIdeal.τ) (Cert.OutputsIdeal.main (F := Ideal))) ⟨m, fun _ => 0, g⟩ (fun r => ∀ c : Dev Cert.OutputsIdeal.nD,
          r.2.mem ((c.tc : Thread Cert.OutputsIdeal.nD Cert.OutputsIdeal.τ).loc Cert.OutputsIdeal.main_v20) = v0 c
          ∧ r.2.mem ((c.tc : Thread Cert.OutputsIdeal.nD Cert.OutputsIdeal.τ).loc Cert.OutputsIdeal.main_arg0) = m ((c.tc : Thread Cert.OutputsIdeal.nD Cert.OutputsIdeal.τ).loc Cert.OutputsIdeal.main_arg0)
          ∧ r.2.mem ((c.tc : Thread Cert.OutputsIdeal.nD Cert.OutputsIdeal.τ).loc Cert.OutputsIdeal.main_arg1) = m ((c.tc : Thread Cert.OutputsIdeal.nD Cert.OutputsIdeal.τ).loc Cert.OutputsIdeal.main_arg1)
          ∧ r.2.mem ((c.tc : Thread Cert.OutputsIdeal.nD Cert.OutputsIdeal.τ).loc Cert.OutputsIdeal.main_arg2) = m ((c.tc : Thread Cert.OutputsIdeal.nD Cert.OutputsIdeal.τ).loc Cert.OutputsIdeal.main_arg2)
          ∧ r.2.mem ((c.tc : Thread Cert.OutputsIdeal.nD Cert.OutputsIdeal.τ).loc Cert.OutputsIdeal.main_arg3) = m ((c.tc : Thread Cert.OutputsIdeal.nD Cert.OutputsIdeal.τ).loc Cert.OutputsIdeal.main_arg3)
          ∧ r.2.mem ((c.tc : Thread Cert.OutputsIdeal.nD Cert.OutputsIdeal.τ).loc Cert.OutputsIdeal.main_arg4) = m ((c.tc : Thread Cert.OutputsIdeal.nD Cert.OutputsIdeal.τ).loc Cert.OutputsIdeal.main_arg4))
      ∧ θ_run (Cert.OutputsReferenceIdeal.defs (F := Ideal)) (onTc (τ := Cert.OutputsReferenceIdeal.τ) (Cert.OutputsReferenceIdeal.main (F := Ideal))) ⟨m', fun _ => 0, g'⟩ (fun r => ∀ c : Dev Cert.OutputsReferenceIdeal.nD,
          r.2.mem ((c.tc : Thread Cert.OutputsReferenceIdeal.nD Cert.OutputsReferenceIdeal.τ).loc Cert.OutputsReferenceIdeal.main_v14) = v0 c
          ∧ r.2.mem ((c.tc : Thread Cert.OutputsReferenceIdeal.nD Cert.OutputsReferenceIdeal.τ).loc Cert.OutputsReferenceIdeal.main_arg0) = m' ((c.tc : Thread Cert.OutputsReferenceIdeal.nD Cert.OutputsReferenceIdeal.τ).loc Cert.OutputsReferenceIdeal.main_arg0)
          ∧ r.2.mem ((c.tc : Thread Cert.OutputsReferenceIdeal.nD Cert.OutputsReferenceIdeal.τ).loc Cert.OutputsReferenceIdeal.main_arg1) = m' ((c.tc : Thread Cert.OutputsReferenceIdeal.nD Cert.OutputsReferenceIdeal.τ).loc Cert.OutputsReferenceIdeal.main_arg1)
          ∧ r.2.mem ((c.tc : Thread Cert.OutputsReferenceIdeal.nD Cert.OutputsReferenceIdeal.τ).loc Cert.OutputsReferenceIdeal.main_arg2) = m' ((c.tc : Thread Cert.OutputsReferenceIdeal.nD Cert.OutputsReferenceIdeal.τ).loc Cert.OutputsReferenceIdeal.main_arg2)
          ∧ r.2.mem ((c.tc : Thread Cert.OutputsReferenceIdeal.nD Cert.OutputsReferenceIdeal.τ).loc Cert.OutputsReferenceIdeal.main_arg3) = m' ((c.tc : Thread Cert.OutputsReferenceIdeal.nD Cert.OutputsReferenceIdeal.τ).loc Cert.OutputsReferenceIdeal.main_arg3)
          ∧ r.2.mem ((c.tc : Thread Cert.OutputsReferenceIdeal.nD Cert.OutputsReferenceIdeal.τ).loc Cert.OutputsReferenceIdeal.main_arg4) = m' ((c.tc : Thread Cert.OutputsReferenceIdeal.nD Cert.OutputsReferenceIdeal.τ).loc Cert.OutputsReferenceIdeal.main_arg4))

def preserves_Router_RouterIdeal : Prop :=
  True

def algebraic_RouterIdeal_RouterReferenceIdeal_pre_finite_router [hRouterIdeal : Cert.RouterIdeal.Facts] [hRouterReferenceIdeal : Cert.RouterReferenceIdeal.Facts] [hPre_finite_router : Cert.Pre_finite_router.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite_router m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)
      ∧ m' ((c.tc : Thread Cert.RouterReferenceIdeal.nD Cert.RouterReferenceIdeal.τ).loc Cert.RouterReferenceIdeal.main_arg3) = m ((c.tc : Thread Cert.RouterIdeal.nD Cert.RouterIdeal.τ).loc Cert.RouterIdeal.main_arg3)
      ∧ m' ((c.tc : Thread Cert.RouterReferenceIdeal.nD Cert.RouterReferenceIdeal.τ).loc Cert.RouterReferenceIdeal.main_arg4) = m ((c.tc : Thread Cert.RouterIdeal.nD Cert.RouterIdeal.τ).loc Cert.RouterIdeal.main_arg4)
      ∧ m' ((c.tc : Thread Cert.RouterReferenceIdeal.nD Cert.RouterReferenceIdeal.τ).loc Cert.RouterReferenceIdeal.main_arg5) = m ((c.tc : Thread Cert.RouterIdeal.nD Cert.RouterIdeal.τ).loc Cert.RouterIdeal.main_arg5)) →
    ∃ (v0 : (c : Dev Cert.RouterIdeal.nD) → Buf (Elt Ideal) ((c.tc : Thread Cert.RouterIdeal.nD Cert.RouterIdeal.τ).loc Cert.RouterIdeal.main_v4)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v4) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v78) = v0 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2)
          ∧ r.2.mem ((c.tc : Thread Cert.RouterReferenceIdeal.nD Cert.RouterReferenceIdeal.τ).loc Cert.RouterReferenceIdeal.main_arg3) = m' ((c.tc : Thread Cert.RouterReferenceIdeal.nD Cert.RouterReferenceIdeal.τ).loc Cert.RouterReferenceIdeal.main_arg3)
          ∧ r.2.mem ((c.tc : Thread Cert.RouterReferenceIdeal.nD Cert.RouterReferenceIdeal.τ).loc Cert.RouterReferenceIdeal.main_arg4) = m' ((c.tc : Thread Cert.RouterReferenceIdeal.nD Cert.RouterReferenceIdeal.τ).loc Cert.RouterReferenceIdeal.main_arg4)
          ∧ r.2.mem ((c.tc : Thread Cert.RouterReferenceIdeal.nD Cert.RouterReferenceIdeal.τ).loc Cert.RouterReferenceIdeal.main_arg5) = m' ((c.tc : Thread Cert.RouterReferenceIdeal.nD Cert.RouterReferenceIdeal.τ).loc Cert.RouterReferenceIdeal.main_arg5))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hSsdOut : Cert.SsdOut.Facts) (hSsdOutIdeal : Cert.SsdOutIdeal.Facts) (hSsdOutReferenceIdeal : Cert.SsdOutReferenceIdeal.Facts) (hMixOut : Cert.MixOut.Facts) (hMixOutIdeal : Cert.MixOutIdeal.Facts) (hMixOutReferenceIdeal : Cert.MixOutReferenceIdeal.Facts) (hSsdIn : Cert.SsdIn.Facts) (hSsdInIdeal : Cert.SsdInIdeal.Facts) (hSsdInReferenceIdeal : Cert.SsdInReferenceIdeal.Facts) (hMixIn : Cert.MixIn.Facts) (hMixInIdeal : Cert.MixInIdeal.Facts) (hMixInReferenceIdeal : Cert.MixInReferenceIdeal.Facts) (hGated : Cert.Gated.Facts) (hGatedIdeal : Cert.GatedIdeal.Facts) (hGatedReferenceIdeal : Cert.GatedReferenceIdeal.Facts) (hModulation : Cert.Modulation.Facts) (hModulationIdeal : Cert.ModulationIdeal.Facts) (hModulationReferenceIdeal : Cert.ModulationReferenceIdeal.Facts) (hStates : Cert.States.Facts) (hStatesIdeal : Cert.StatesIdeal.Facts) (hStatesReferenceIdeal : Cert.StatesReferenceIdeal.Facts) (hSums : Cert.Sums.Facts) (hSumsIdeal : Cert.SumsIdeal.Facts) (hSumsReferenceIdeal : Cert.SumsReferenceIdeal.Facts) (hOutputs : Cert.Outputs.Facts) (hOutputsIdeal : Cert.OutputsIdeal.Facts) (hOutputsReferenceIdeal : Cert.OutputsReferenceIdeal.Facts) (hRouter : Cert.Router.Facts) (hRouterIdeal : Cert.RouterIdeal.Facts) (hRouterReferenceIdeal : Cert.RouterReferenceIdeal.Facts) (hPre_finite_scores : Cert.Pre_finite_scores.Facts) (hPre_tables_ok : Cert.Pre_tables_ok.Facts) (hPre_finite_router : Cert.Pre_finite_router.Facts) (hOn_rows_used : Cert.On_rows_used.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts) (hPre_tables_ok := hPre_tables_ok)
    ∧ quiescent_ExpertsIdeal (hExpertsIdeal := hExpertsIdeal) (hPre_tables_ok := hPre_tables_ok)
    ∧ quiescent_ExpertsReferenceIdeal (hExpertsReferenceIdeal := hExpertsReferenceIdeal)
    ∧ quiescent_ExpertsReferenceIdeal_pre_tables_ok (hExpertsReferenceIdeal := hExpertsReferenceIdeal) (hPre_tables_ok := hPre_tables_ok)
    ∧ quiescent_SsdOut (hSsdOut := hSsdOut)
    ∧ quiescent_SsdOutIdeal (hSsdOutIdeal := hSsdOutIdeal)
    ∧ quiescent_SsdOutReferenceIdeal (hSsdOutReferenceIdeal := hSsdOutReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_SsdIn (hSsdIn := hSsdIn)
    ∧ quiescent_SsdInIdeal (hSsdInIdeal := hSsdInIdeal)
    ∧ quiescent_SsdInReferenceIdeal (hSsdInReferenceIdeal := hSsdInReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_Gated (hGated := hGated)
    ∧ quiescent_GatedIdeal (hGatedIdeal := hGatedIdeal)
    ∧ quiescent_GatedReferenceIdeal (hGatedReferenceIdeal := hGatedReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_States (hStates := hStates)
    ∧ quiescent_StatesIdeal (hStatesIdeal := hStatesIdeal)
    ∧ quiescent_StatesReferenceIdeal (hStatesReferenceIdeal := hStatesReferenceIdeal)
    ∧ quiescent_Sums (hSums := hSums)
    ∧ quiescent_SumsIdeal (hSumsIdeal := hSumsIdeal)
    ∧ quiescent_SumsReferenceIdeal (hSumsReferenceIdeal := hSumsReferenceIdeal)
    ∧ quiescent_Outputs (hOutputs := hOutputs)
    ∧ quiescent_OutputsIdeal (hOutputsIdeal := hOutputsIdeal)
    ∧ quiescent_OutputsReferenceIdeal (hOutputsReferenceIdeal := hOutputsReferenceIdeal)
    ∧ quiescent_Router (hRouter := hRouter)
    ∧ quiescent_RouterIdeal (hRouterIdeal := hRouterIdeal)
    ∧ quiescent_RouterIdeal_pre_finite_router (hRouterIdeal := hRouterIdeal) (hPre_finite_router := hPre_finite_router)
    ∧ quiescent_RouterReferenceIdeal (hRouterReferenceIdeal := hRouterReferenceIdeal)
    ∧ quiescent_RouterReferenceIdeal_pre_finite_router (hRouterReferenceIdeal := hRouterReferenceIdeal) (hPre_finite_router := hPre_finite_router)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsReferenceIdeal_on_rows_used (hExpertsIdeal := hExpertsIdeal) (hExpertsReferenceIdeal := hExpertsReferenceIdeal) (hPre_tables_ok := hPre_tables_ok) (hOn_rows_used := hOn_rows_used)
    ∧ preserves_SsdOut_SsdOutIdeal
    ∧ algebraic_SsdOutIdeal_SsdOutReferenceIdeal (hSsdOutIdeal := hSsdOutIdeal) (hSsdOutReferenceIdeal := hSsdOutReferenceIdeal)
    ∧ preserves_MixOut_MixOutIdeal
    ∧ algebraic_MixOutIdeal_MixOutReferenceIdeal (hMixOutIdeal := hMixOutIdeal) (hMixOutReferenceIdeal := hMixOutReferenceIdeal)
    ∧ preserves_SsdIn_SsdInIdeal
    ∧ algebraic_SsdInIdeal_SsdInReferenceIdeal (hSsdInIdeal := hSsdInIdeal) (hSsdInReferenceIdeal := hSsdInReferenceIdeal)
    ∧ preserves_MixIn_MixInIdeal
    ∧ algebraic_MixInIdeal_MixInReferenceIdeal (hMixInIdeal := hMixInIdeal) (hMixInReferenceIdeal := hMixInReferenceIdeal)
    ∧ preserves_Gated_GatedIdeal
    ∧ algebraic_GatedIdeal_GatedReferenceIdeal (hGatedIdeal := hGatedIdeal) (hGatedReferenceIdeal := hGatedReferenceIdeal)
    ∧ preserves_Modulation_ModulationIdeal
    ∧ algebraic_ModulationIdeal_ModulationReferenceIdeal (hModulationIdeal := hModulationIdeal) (hModulationReferenceIdeal := hModulationReferenceIdeal)
    ∧ preserves_States_StatesIdeal
    ∧ algebraic_StatesIdeal_StatesReferenceIdeal (hStatesIdeal := hStatesIdeal) (hStatesReferenceIdeal := hStatesReferenceIdeal)
    ∧ preserves_Sums_SumsIdeal
    ∧ algebraic_SumsIdeal_SumsReferenceIdeal (hSumsIdeal := hSumsIdeal) (hSumsReferenceIdeal := hSumsReferenceIdeal)
    ∧ preserves_Outputs_OutputsIdeal
    ∧ algebraic_OutputsIdeal_OutputsReferenceIdeal (hOutputsIdeal := hOutputsIdeal) (hOutputsReferenceIdeal := hOutputsReferenceIdeal)
    ∧ preserves_Router_RouterIdeal
    ∧ algebraic_RouterIdeal_RouterReferenceIdeal_pre_finite_router (hRouterIdeal := hRouterIdeal) (hRouterReferenceIdeal := hRouterReferenceIdeal) (hPre_finite_router := hPre_finite_router)
-- ==== On_rows_used.lean ====
abbrev S160 : Shape := ⟨1, ![160]⟩
abbrev S1 : Shape := ⟨1, ![1]⟩
abbrev S40960x2048 : Shape := ⟨2, ![40960, 2048]⟩
abbrev S32x2048x256 : Shape := ⟨3, ![32, 2048, 256]⟩
abbrev S32x256x2048 : Shape := ⟨3, ![32, 256, 2048]⟩
abbrev S40960 : Shape := ⟨1, ![40960]⟩
abbrev S40960x1 : Shape := ⟨2, ![40960, 1]⟩
abbrev S_ : Shape := ⟨0, ![]⟩

class Facts : Prop where
  bcast_S40960_S40960x1_0 : S40960.BroadcastsInDim S40960x1 (![0] : Fin 1 → Fin S40960x1.rank)
  shapeCasts_S1_S_ : S1.ShapeCasts S_
  bcast_S_S40960x1 : S_.BroadcastsInDim S40960x1 (![] : Fin 0 → Fin S40960x1.rank)
  bcast_S40960x1_S40960x2048_0_1 : S40960x1.BroadcastsInDim S40960x2048 (![0, 1] : Fin 2 → Fin S40960x2048.rank)

variable [Facts]

def fn {F : FTy → Type} [FloatOps F] (main_arg0 : IVec S160 32) (main_arg1 : IVec S160 32) (main_arg2 : IVec S1 32) (main_arg3 : FVec F S40960x2048 .f32) (main_arg4 : FVec F S32x2048x256 .bf16) (main_arg5 : FVec F S32x2048x256 .bf16) (main_arg6 : FVec F S32x256x2048 .bf16) : IVec S40960x2048 1 :=
  let main_v0 : IVec S40960 32 := iotaInDim S40960 32 0
  let main_v1 : IVec S40960x1 32 := broadcastInDim S40960x1 ![0] bcast_S40960_S40960x1_0 main_v0
  let main_v2 : IVec S_ 32 := shapeCast S_ main_arg2 shapeCasts_S1_S_
  let main_c : IVec S_ 32 := constantI S_ 32 256#32
  let main_v3 : IVec S_ 32 := muli main_v2 main_c
  let main_v4 : IVec S40960x1 32 := broadcastInDim S40960x1 ![] bcast_S_S40960x1 main_v3
  let main_v5 : IVec S40960x1 1 := cmpi .slt main_v1 main_v4
  let main_v6 : IVec S40960x2048 1 := broadcastInDim S40960x2048 ![0, 1] bcast_S40960x1_S40960x2048_0_1 main_v5
  main_v6
-- ==== Pre_finite_router.lean ====
abbrev S16384x2048 : Shape := ⟨2, ![16384, 2048]⟩
abbrev S2048 : Shape := ⟨1, ![2048]⟩
abbrev S4x2048 : Shape := ⟨2, ![4, 2048]⟩
abbrev S128x2048 : Shape := ⟨2, ![128, 2048]⟩
abbrev S128x1 : Shape := ⟨2, ![128, 1]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S4x2048 : S_.BroadcastsInDim S4x2048 (![] : Fin 0 → Fin S4x2048.rank)
  reducesTo_S4x2048_S_d0_1 : S4x2048.ReducesTo [0, 1] S_
  bcast_S_S128x2048 : S_.BroadcastsInDim S128x2048 (![] : Fin 0 → Fin S128x2048.rank)
  reducesTo_S128x2048_S_d0_1 : S128x2048.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128x2048 .f32) (main_arg5 : FVec F S128x1 .f32) (main_v13 : IVec S_ 1) (main_v16 : IVec S4x2048 1) : IVec S_ 1 :=
  let main_c_5 : IVec S_ 1 := constantI S_ 1 1#1
  let main_v17 : IVec S_ 1 := (fun x v => Host.reduce IntOp.andi x v reducesTo_S4x2048_S_d0_1 h_S_) main_v16 main_c_5
  let main_v18 : IVec S_ 1 := andi main_v13 main_v17
  let main_v19 : FVec F S128x2048 .f32 := Host.absf main_arg4
  let main_cst_6 : FVec F S_ .f32 := constant S_ .f32 0x7F800000#32
  let main_v20 : FVec F S128x2048 .f32 := broadcastInDim S128x2048 ![] bcast_S_S128x2048 main_cst_6
  let main_v21 : IVec S128x2048 1 := cmpf .olt main_v19 main_v20
  let main_c_7 : IVec S_ 1 := constantI S_ 1 1#1
  let main_v22 : IVec S_ 1 := (fun x v => Host.reduce IntOp.andi x v reducesTo_S128x2048_S_d0_1 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  main_v28

def fn {F : FTy → Type} [FloatOps F] (main_arg0 : FVec F S16384x2048 .f32) (main_arg1 : FVec F S2048 .f32) (main_arg2 : FVec F S4x2048 .f32) (main_arg3 : FVec F S4x2048 .f32) (main_arg4 : FVec F S128x2048 .f32) (main_arg5 : FVec F S128x1 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S4x2048 .f32 := Host.absf main_arg2
  let main_cst_2 : FVec F S_ .f32 := constant S_ .f32 0x7F800000#32
  let main_v10 : FVec F S4x2048 .f32 := broadcastInDim S4x2048 ![] bcast_S_S4x2048 main_cst_2
  let main_v11 : IVec S4x2048 1 := cmpf .olt main_v9 main_v10
  let main_c_3 : IVec S_ 1 := constantI S_ 1 1#1
  let main_v12 : IVec S_ 1 := (fun x v => Host.reduce IntOp.andi x v reducesTo_S4x2048_S_d0_1 h_S_) main_v11 main_c_3
  let main_v13 : IVec S_ 1 := andi main_v8 main_v12
  let main_v14 : FVec F S4x2048 .f32 := Host.absf main_arg3
  let main_cst_4 : FVec F S_ .f32 := constant S_ .f32 0x7F800000#32
  let main_v15 : FVec F S4x2048 .f32 := broadcastInDim S4x2048 ![] bcast_S_S4x2048 main_cst_4
  let main_v16 : IVec S4x2048 1 := cmpf .olt main_v14 main_v15
  fn_part1 (F := F) main_arg4 main_arg5 main_v13 main_v16
-- ==== Pre_finite_scores.lean ====
abbrev S16384x2304 : Shape := ⟨2, ![16384, 2304]⟩
abbrev S4x4096 : Shape := ⟨2, ![4, 4096]⟩
abbrev S16 : Shape := ⟨1, ![16]⟩
abbrev S16384x1152 : Shape := ⟨2, ![16384, 1152]⟩
abbrev S_ : Shape := ⟨0, ![]⟩

class Facts : Prop where
  slices_S16384x2304_S16384x1152_0_1024 : S16384x2304.Slices ![0, 1024] S16384x1152
  bitsLt_bf16_f32 : FTy.bits .bf16 < FTy.bits .f32
  bcast_S_S16384x1152 : S_.BroadcastsInDim S16384x1152 (![] : Fin 0 → Fin S16384x1152.rank)
  reducesTo_S16384x1152_S_d0_1 : S16384x1152.ReducesTo [0, 1] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16384x2304 .bf16) (main_arg1 : IVec S4x4096 32) (main_arg2 : FVec F S16 .f32) : IVec S_ 1 :=
  let main_v0 : FVec F S16384x1152 .bf16 := (extractStridedSlice S16384x1152 ![0, 1024] · slices_S16384x2304_S16384x1152_0_1024) main_arg0
  let main_v1 : FVec F S16384x1152 .f32 := (extf .f32 · bitsLt_bf16_f32) main_v0
  let main_v2 : FVec F S16384x1152 .f32 := Host.absf main_v1
  let main_cst : FVec F S_ .f32 := constant S_ .f32 0x7F800000#32
  let main_v3 : FVec F S16384x1152 .f32 := broadcastInDim S16384x1152 ![] bcast_S_S16384x1152 main_cst
  let main_v4 : IVec S16384x1152 1 := cmpf .olt main_v2 main_v3
  let main_c : IVec S_ 1 := constantI S_ 1 1#1
  let main_v5 : IVec S_ 1 := (fun x v => Host.reduce IntOp.andi x v reducesTo_S16384x1152_S_d0_1 h_S_) main_v4 main_c
  let main_v6 : FVec F S16 .f32 := Host.absf main_arg2
  let main_cst_0 : FVec F S_ .f32 := constant S_ .f32 0x7F800000#32
  let main_v7 : FVec F S16 .f32 := broadcastInDim S16 ![] bcast_S_S16 main_cst_0
  let main_v8 : IVec S16 1 := cmpf .olt main_v6 main_v7
  let main_c_1 : IVec S_ 1 := constantI S_ 1 1#1
  let main_v9 : IVec S_ 1 := (fun x v => Host.reduce IntOp.andi x v reducesTo_S16_S_d0 h_S_) main_v8 main_c_1
  let main_v10 : IVec S_ 1 := andi main_v5 main_v9
  main_v10
-- ==== Pre_tables_ok.lean ====
abbrev S160 : Shape := ⟨1, ![160]⟩
abbrev S1 : Shape := ⟨1, ![1]⟩
abbrev S40960x2048 : Shape := ⟨2, ![40960, 2048]⟩
abbrev S32x2048x256 : Shape := ⟨3, ![32, 2048, 256]⟩
abbrev S32x256x2048 : Shape := ⟨3, ![32, 256, 2048]⟩
abbrev S_ : Shape := ⟨0, ![]⟩

class Facts : Prop where
  shapeCasts_S1_S_ : S1.ShapeCasts S_
  bcast_S_S160 : S_.BroadcastsInDim S160 (![] : Fin 0 → Fin S160.rank)
  reducesTo_S160_S_d0 : S160.ReducesTo [0] S_
  h_S_ : 0 < S_.numel

variable [Facts]

def fn_part1 {F : FTy → Type} [FloatOps F] (main_v10 : IVec S_ 1) (main_v16 : IVec S_ 1) : IVec S_ 1 :=
  let main_v17 : IVec S_ 1 := andi main_v10 main_v16
  main_v17

def fn {F : FTy → Type} [FloatOps F] (main_arg0 : IVec S160 32) (main_arg1 : IVec S160 32) (main_arg2 : IVec S1 32) (main_arg3 : FVec F S40960x2048 .f32) (main_arg4 : FVec F S32x2048x256 .bf16) (main_arg5 : FVec F S32x2048x256 .bf16) (main_arg6 : FVec F S32x256x2048 .bf16) : IVec S_ 1 :=
  let main_v0 : IVec S_ 32 := shapeCast S_ main_arg2 shapeCasts_S1_S_
  let main_c : IVec S_ 32 := constantI S_ 32 0#32
  let main_v1 : IVec S160 32 := broadcastInDim S160 ![] bcast_S_S160 main_c
  let main_v2 : IVec S160 1 := cmpi .sge main_arg0 main_v1
  let main_c_0 : IVec S_ 32 := constantI S_ 32 32#32
  let main_v3 : IVec S160 32 := broadcastInDim S160 ![] bcast_S_S160 main_c_0
  let main_v4 : IVec S160 1 := cmpi .slt main_arg0 main_v3
  let main_v5 : IVec S160 1 := andi main_v2 main_v4
  let main_c_1 : IVec S_ 1 := constantI S_ 1 1#1
  let main_v6 : IVec S_ 1 := (fun x v => Host.reduce IntOp.andi x v reducesTo_S160_S_d0 h_S_) main_v5 main_c_1
  let main_c_2 : IVec S_ 32 := constantI S_ 32 1#32
  let main_v7 : IVec S_ 1 := cmpi .sge main_v0 main_c_2
  let main_v8 : IVec S_ 1 := andi main_v6 main_v7
  let main_c_3 : IVec S_ 32 := constantI S_ 32 160#32
  let main_v9 : IVec S_ 1 := cmpi .sle main_v0 main_c_3
  let main_v10 : IVec S_ 1 := andi main_v8 main_v9
  let main_v11 : IVec S160 32 := iotaInDim S160 32 0
  let main_c_4 : IVec S_ 32 := constantI S_ 32 1#32
  let main_v12 : IVec S_ 32 := subi main_v0 main_c_4
  let main_v13 : IVec S160 32 := broadcastInDim S160 ![] bcast_S_S160 main_v12
  let main_v14 : IVec S160 32 := minsi main_v11 main_v13
  let main_v15 : IVec S160 1 := cmpi .eq main_arg1 main_v14
  let main_c_5 : IVec S_ 1 := constantI S_ 1 1#1
  let main_v16 : IVec S_ 1 := (fun x v => Host.reduce IntOp.andi x v reducesTo_S160_S_d0 h_S_) main_v15 main_c_5
  fn_part1 (F := F) main_v10 main_v16
-- ==== Kernel.lean ====
abbrev S16384x2304 : Shape := ⟨2, ![16384, 2304]⟩
abbrev S4x4096 : Shape := ⟨2, ![4, 4096]⟩
abbrev S16 : Shape := ⟨1, ![16]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S16384x1024 : Shape := ⟨2, ![16384, 1024]⟩
abbrev S128x1024 : Shape := ⟨2, ![128, 1024]⟩
abbrev S128x128 : Shape := ⟨2, ![128, 128]⟩
abbrev S256x128 : Shape := ⟨2, ![256, 128]⟩
abbrev S128x256 : Shape := ⟨2, ![128, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 42
  | .vmem => 20
  | .smem => 1
  | _ => 0

abbrev bufTy : (tb : Table) → Fin (tcTables nBuf tb) → BufTy
  | .hbm, ⟨0, _⟩ => ⟨S16384x2304, .bf16⟩
  | .hbm, ⟨1, _⟩ => ⟨S4x4096, .i32⟩
  | .hbm, ⟨2, _⟩ => ⟨S16, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4x4096, .f32⟩
  | .hbm, ⟨20, _⟩ => ⟨S16384x1, .f32⟩
  | .hbm, ⟨21, _⟩ => ⟨S1x8, .f32⟩
  | .hbm, ⟨22, _⟩ => ⟨S16384x8, .f32⟩
  | .hbm, ⟨23, _⟩ => ⟨S16384x8, .f32⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S_, .f32⟩
  | .hbm, ⟨28, _⟩ => ⟨S16384x48, .f32⟩
  | .hbm, ⟨29, _⟩ => ⟨S16384x64, .f32⟩
  | .hbm, ⟨30, _⟩ => ⟨S16384x8, .f32⟩
  | .hbm, ⟨31, _⟩ => ⟨S_, .f32⟩
  | .hbm, ⟨32, _⟩ => ⟨S16384x48, .f32⟩
  | .hbm, ⟨33, _⟩ => ⟨S16384x48, .f32⟩
  | .hbm, ⟨34, _⟩ => ⟨S16384x64, .f32⟩
  | .hbm, ⟨35, _⟩ => ⟨S1x16384x1x64, .f32⟩
  | .hbm, ⟨36, _⟩ => ⟨S1x16384x2x64, .f32⟩
  | .hbm, ⟨37, _⟩ => ⟨S16384x128, .f32⟩
  | .hbm, ⟨38, _⟩ => ⟨S1x16384x1x64, .f32⟩
  | .hbm, ⟨39, _⟩ => ⟨S1x16384x2x64, .f32⟩
  | .hbm, ⟨40, _⟩ => ⟨S16384x128, .f32⟩
  | .hbm, ⟨41, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x1024, .bf16⟩
  | .local _ .vmem, ⟨19, _⟩ => ⟨S128x1024, .bf16⟩
  | .local _ .smem, ⟨0, _⟩ => ⟨S16, .f32⟩
  | _, _ => ⟨S16384x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c16_i32 : BitVec 32 := 16#32
  let c0_i32 : BitVec 32 := 0#32
  ![v1.toNat, c16_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c16_i32 : BitVec 32 := 16#32
  let c0_i32_0 : BitVec 32 := 0#32
  ![v3.toNat, c16_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c17_i32 : BitVec 32 := 17#32
  let c0_i32 : BitVec 32 := 0#32
  ![v1.toNat, c17_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c17_i32 : BitVec 32 := 17#32
  let c0_i32_0 : BitVec 32 := 0#32
  ![v3.toNat, c17_i32.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x2304 : Shape := ⟨2, ![16384, 2304]⟩
abbrev S4x4096 : Shape := ⟨2, ![4, 4096]⟩
abbrev S16 : Shape := ⟨1, ![16]⟩
abbrev S8 : Shape := ⟨1, ![8]⟩
abbrev S_ : Shape := ⟨0, ![]⟩
abbrev S4x4096x1 : Shape := ⟨3, ![4, 4096, 1]⟩
abbrev S1x1x8 : Shape := ⟨3, ![1, 1, 8]⟩
abbrev S4x4096x8 : Shape := ⟨3, ![4, 4096, 8]⟩
abbrev S4x4096x2304 : Shape := ⟨3, ![4, 4096, 2304]⟩
abbrev S4x4096x1024 : Shape := ⟨3, ![4, 4096, 1024]⟩
abbrev S4x4096x16x64 : Shape := ⟨4, ![4, 4096, 16, 64]⟩
abbrev S4x4096x16x8 : Shape := ⟨4, ![4, 4096, 16, 8]⟩
abbrev S4x4096x1x8 : Shape := ⟨4, ![4, 4096, 1, 8]⟩
abbrev S4x4096x16x16 : Shape := ⟨4, ![4, 4096, 16, 16]⟩
abbrev S4x4096x16x48 : Shape := ⟨4, ![4, 4096, 16, 48]⟩
abbrev S4x4096x128 : Shape := ⟨3, ![4, 4096, 128]⟩
abbrev S4x4096x2x64 : Shape := ⟨4, ![4, 4096, 2, 64]⟩
abbrev S4x4096x2x8 : Shape := ⟨4, ![4, 4096, 2, 8]⟩
abbrev S4x4096x2x16 : Shape := ⟨4, ![4, 4096, 2, 16]⟩
abbrev S4x4096x2x48 : Shape := ⟨4, ![4, 4096, 2, 48]⟩
abbrev S4x32x128x2x8x64 : Shape := ⟨6, ![4, 32, 128, 2, 8, 64]⟩
abbrev S4x32x128x2x64 : Shape := ⟨5, ![4, 32, 128, 2, 64]⟩
abbrev S4x33x128x2x64 : Shape := ⟨5, ![4, 33, 128, 2, 64]⟩
abbrev S4x32x256x2x64 : Shape := ⟨5, ![4, 32, 256, 2, 64]⟩
abbrev S4x32x2x256x128x8 : Shape := ⟨6, ![4, 32, 2, 256, 128, 8]⟩
abbrev S4x32x2x8x128x256 : Shape := ⟨6, ![4, 32, 2, 8, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S32x128x1 : Shape := ⟨3, ![32, 128, 1]⟩
abbrev S256 : Shape := ⟨1, ![256]⟩
abbrev S1x1x256 : Shape := ⟨3, ![1, 1, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x8 : Shape := ⟨2, ![2, 8]⟩
abbrev S1x1x2x8x1x1 : Shape := ⟨6, ![1, 1, 2, 8, 1, 1]⟩
abbrev S4x32x2x8x128x1 : Shape := ⟨6, ![4, 32, 2, 8, 128, 1]⟩
abbrev S4x32x2x8x128x257 : Shape := ⟨6, ![4, 32, 2, 8, 128, 257]⟩
abbrev S4x32x2x8x128 : Shape := ⟨5, ![4, 32, 2, 8, 128]⟩
abbrev S4x32x2x64x8x128 : Shape := ⟨6, ![4, 32, 2, 64, 8, 128]⟩
abbrev S16384x1024 : Shape := ⟨2, ![16384, 1024]⟩

abbrev nBuf : Space → Nat
  | .hbm => 149
  | .vmem => 0
  | .smem => 0
  | _ => 0

abbrev hbmTy0_0 (i : Nat) : BufTy := match i % 128 with
  | 0 => ⟨S16384x2304, .bf16⟩
  | 1 => ⟨S4x4096, .i32⟩
  | 2 => ⟨S16, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S_, .f32⟩
  | 14 => ⟨S8, .f32⟩
  | 15 => ⟨S8, .f32⟩
  | 16 => ⟨S_, .f32⟩
  | 17 => ⟨S8, .f32⟩
  | 18 => ⟨S8, .f32⟩
  | 19 => ⟨S4x4096, .f32⟩
  | 20 => ⟨S4x4096x1, .f32⟩
  | 21 => ⟨S1x1x8, .f32⟩
  | 22 => ⟨S4x4096x8, .f32⟩
  | 23 => ⟨S4x4096x8, .f32⟩
  | 24 => ⟨S4x4096x8, .f32⟩
  | 25 => ⟨S4x4096x8, .f32⟩
  | 26 => ⟨S4x4096x8, .f32⟩
  | 27 => ⟨S16384x2304, .f32⟩
  | 28 => ⟨S4x4096x2304, .f32⟩
  | 29 => ⟨S4x4096x1024, .f32⟩
  | 30 => ⟨S4x4096x16x64, .f32⟩
  | 31 => ⟨S4x4096x16x8, .f32⟩
  | 32 => ⟨S4x4096x16x8, .f32⟩
  | 33 => ⟨S4x4096x1x8, .f32⟩
  | 34 => ⟨S4x4096x1x8, .f32⟩
  | 35 => ⟨S4x4096x16x8, .f32⟩
  | 36 => ⟨S4x4096x16x8, .f32⟩
  | 37 => ⟨S4x4096x16x8, .f32⟩
  | 38 => ⟨S4x4096x16x8, .f32⟩
  | 39 => ⟨S4x4096x16x8, .f32⟩
  | 40 => ⟨S4x4096x16x8, .f32⟩
  | 41 => ⟨S4x4096x16x8, .f32⟩
  | 42 => ⟨S4x4096x16x8, .f32⟩
  | 43 => ⟨S4x4096x16x8, .f32⟩
  | 44 => ⟨S4x4096x16x8, .f32⟩
  | 45 => ⟨S4x4096x16x16, .f32⟩
  | 46 => ⟨S4x4096x16x48, .f32⟩
  | 47 => ⟨S4x4096x16x64, .f32⟩
  | 48 => ⟨S4x4096x128, .f32⟩
  | 49 => ⟨S4x4096x2x64, .f32⟩
  | 50 => ⟨S4x4096x2x8, .f32⟩
  | 51 => ⟨S4x4096x2x8, .f32⟩
  | 52 => ⟨S4x4096x1x8, .f32⟩
  | 53 => ⟨S4x4096x1x8, .f32⟩
  | 54 => ⟨S4x4096x2x8, .f32⟩
  | 55 => ⟨S4x4096x2x8, .f32⟩
  | 56 => ⟨S4x4096x2x8, .f32⟩
  | 57 => ⟨S4x4096x2x8, .f32⟩
  | 58 => ⟨S4x4096x2x8, .f32⟩
  | 59 => ⟨S4x4096x2x8, .f32⟩
  | 60 => ⟨S4x4096x2x8, .f32⟩
  | 61 => ⟨S4x4096x2x8, .f32⟩
  | 62 => ⟨S4x4096x2x8, .f32⟩
  | 63 => ⟨S4x4096x2x8, .f32⟩
  | 64 => ⟨S4x4096x2x16, .f32⟩
  | 65 => ⟨S4x4096x2x48, .f32⟩
  | 66 => ⟨S4x4096x2x64, .f32⟩
  | 67 => ⟨S4x4096x128, .f32⟩
  | 68 => ⟨S4x4096x2x64, .f32⟩
  | 69 => ⟨S4x32x128x2x8x64, .f32⟩
  | 70 => ⟨S4x32x128x2x64, .f32⟩
  | 71 => ⟨S_, .i32⟩
  | 72 => ⟨S_, .f32⟩
  | 73 => ⟨S4x33x128x2x64, .f32⟩
  | 74 => ⟨S4x32x128x2x64, .f32⟩
  | 75 => ⟨S4x32x256x2x64, .f32⟩
  | 76 => ⟨S4x32x128x2x64, .f32⟩
  | 77 => ⟨S_, .i32⟩
  | 78 => ⟨S_, .f32⟩
  | 79 => ⟨S4x33x128x2x64, .f32⟩
  | 80 => ⟨S4x32x128x2x64, .f32⟩
  | 81 => ⟨S4x32x256x2x64, .f32⟩
  | 82 => ⟨S4x32x2x256x128x8, .f32⟩
  | 83 => ⟨S4x32x2x8x128x256, .f32⟩
  | 84 => ⟨S_, .f32⟩
  | 85 => ⟨S4x32x2x8x128x256, .f32⟩
  | 86 => ⟨S4x32x2x8x128x256, .f32⟩
  | 87 => ⟨S32, .i32⟩
  | 88 => ⟨S32x1x1, .i32⟩
  | 89 => ⟨S_, .i32⟩
  | 90 => ⟨S32x1x1, .i32⟩
  | 91 => ⟨S32x1x1, .i32⟩
  | 92 => ⟨S128, .i32⟩
  | 93 => ⟨S1x128x1, .i32⟩
  | 94 => ⟨S32x128x1, .i32⟩
  | 95 => ⟨S32x128x1, .i32⟩
  | 96 => ⟨S32x128x1, .i32⟩
  | 97 => ⟨S_, .i32⟩
  | 98 => ⟨S32x1x1, .i32⟩
  | 99 => ⟨S32x1x1, .i32⟩
  | 100 => ⟨S256, .i32⟩
  | 101 => ⟨S1x1x256, .i32⟩
  | 102 => ⟨S32x1x256, .i32⟩
  | 103 => ⟨S32x1x256, .i32⟩
  | 104 => ⟨S32x1x256, .i32⟩
  | 105 => ⟨S32x128x256, .i32⟩
  | 106 => ⟨S32x128x256, .i32⟩
  | 107 => ⟨S32x128x256, .i32⟩
  | 108 => ⟨S_, .i32⟩
  | 109 => ⟨S32x128x256, .i32⟩
  | 110 => ⟨S32x128x256, .i1⟩
  | 111 => ⟨S_, .i32⟩
  | 112 => ⟨S32x128x256, .i32⟩
  | 113 => ⟨S32x128x256, .i1⟩
  | 114 => ⟨S32x128x256, .i1⟩
  | 115 => ⟨S_, .i32⟩
  | 116 => ⟨S32x1x256, .i32⟩
  | 117 => ⟨S32x1x256, .i1⟩
  | 118 => ⟨S32x128x256, .i1⟩
  | 119 => ⟨S32x128x256, .i1⟩
  | 120 => ⟨S1x32x1x1x128x256, .i1⟩
  | 121 => ⟨S_, .f32⟩
  | 122 => ⟨S_, .f32⟩
  | 123 => ⟨S4x32x2x8x128x256, .i1⟩
  | 124 => ⟨S4x32x2x8x128x256, .f32⟩
  | 125 => ⟨S4x32x2x8x128x256, .f32⟩
  | 126 => ⟨S2x8, .f32⟩
  | 127 => ⟨S1x1x2x8x1x1, .f32⟩
  | _ => ⟨S16384x2304, .bf16⟩

abbrev hbmTy0_1 (i : Nat) : BufTy := match i % 128 with
  | 0 => ⟨S4x32x2x8x128x1, .f32⟩
  | 1 => ⟨S4x32x2x8x128x257, .f32⟩
  | 2 => ⟨S_, .f32⟩
  | 3 => ⟨S4x32x2x8x128, .f32⟩
  | 4 => ⟨S_, .f32⟩
  | 5 => ⟨S4x32x2x8x128, .f32⟩
  | 6 => ⟨S4x32x2x8x128, .f32⟩
  | 7 => ⟨S4x32x2x8x128x1, .f32⟩
  | 8 => ⟨S4x32x2x8x128x257, .f32⟩
  | 9 => ⟨S4x32x2x8x128x257, .f32⟩
  | 10 => ⟨S4x32x2x8x128x257, .f32⟩
  | 11 => ⟨S_, .f32⟩
  | 12 => ⟨S4x32x2x8x128, .f32⟩
  | 13 => ⟨S4x32x2x8x128x1, .f32⟩
  | 14 => ⟨S4x32x2x8x128x257, .f32⟩
  | 15 => ⟨S4x32x2x8x128x257, .f32⟩
  | 16 => ⟨S4x32x2x8x128x256, .f32⟩
  | 17 => ⟨S4x32x2x64x8x128, .f32⟩
  | 18 => ⟨S4x32x128x2x8x64, .f32⟩
  | 19 => ⟨S16384x1024, .f32⟩
  | 20 => ⟨S16384x1024, .bf16⟩
  | _ => ⟨S16384x2304, .bf16⟩

abbrev hbmTy (i : Nat) : BufTy := match i / 128 with
  | 0 => hbmTy0_0 i
  | 1 => hbmTy0_1 i
  | _ => ⟨S16384x2304, .bf16⟩

abbrev bufTy : (tb : Table) → Fin (tcTables nBuf tb) → BufTy
  | .hbm, ⟨i, _⟩ => hbmTy i
  | _, _ => ⟨S16384x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_c : Ref sig .tc := ⟨.hbm, 71, rfl⟩
abbrev main_call0_v0 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_c_4 : Ref sig .tc := ⟨.hbm, 77, rfl⟩
abbrev main_call1_v0 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_cst_5 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_c_6 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_c_7 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_c_8 : Ref sig .tc := ⟨.hbm, 108, rfl⟩
abbrev main_v93 : Ref sig .tc := ⟨.hbm, 109, rfl⟩
abbrev main_v94 : Ref sig .tc := ⟨.hbm, 110, rfl⟩
abbrev main_c_9 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_c_10 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_11 : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_12 : Ref sig .tc := ⟨.hbm, 130, rfl⟩
abbrev main_v108 : Ref sig .tc := ⟨.hbm, 131, rfl⟩
abbrev main_cst_13 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_cst_14 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩

abbrev nD : Nat := 1
abbrev τ : Topo := Topo.v7x

variable {F : FTy → Type} [FloatOps F]
-- ==== Experts.lean ====
abbrev S160 : Shape := ⟨1, ![160]⟩
abbrev S1 : Shape := ⟨1, ![1]⟩
abbrev S40960x2048 : Shape := ⟨2, ![40960, 2048]⟩
abbrev S32x2048x256 : Shape := ⟨3, ![32, 2048, 256]⟩
abbrev S32x256x2048 : Shape := ⟨3, ![32, 256, 2048]⟩
abbrev S256x2048 : Shape := ⟨2, ![256, 2048]⟩
abbrev S1x2048x256 : Shape := ⟨3, ![1, 2048, 256]⟩
abbrev S1x256x2048 : Shape := ⟨3, ![1, 256, 2048]⟩
abbrev S2048x256 : Shape := ⟨2, ![2048, 256]⟩
abbrev S256x256 : Shape := ⟨2, ![256, 256]⟩

abbrev nBuf : Space → Nat
  | .hbm => 5
  | .vmem => 10
  | .smem => 3
  | _ => 0

abbrev bufTy : (tb : Table) → Fin (tcTables nBuf tb) → BufTy
  | .hbm, ⟨0, _⟩ => ⟨S40960x2048, .f32⟩
  | .hbm, ⟨1, _⟩ => ⟨S32x2048x256, .bf16⟩
  | .hbm, ⟨2, _⟩ => ⟨S32x2048x256, .bf16⟩
  | .hbm, ⟨3, _⟩ => ⟨S32x256x2048, .bf16⟩
  | .hbm, ⟨4, _⟩ => ⟨S40960x2048, .f32⟩
  | .local _ .vmem, ⟨0, _⟩ => ⟨S256x2048, .f32⟩
  | .local _ .vmem, ⟨1, _⟩ => ⟨S256x2048, .f32⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x256x2048, .bf16⟩
  | .local _ .vmem, ⟨7, _⟩ => ⟨S1x256x2048, .bf16⟩
  | .local _ .vmem, ⟨8, _⟩ => ⟨S256x2048, .f32⟩
  | .local _ .vmem, ⟨9, _⟩ => ⟨S256x2048, .f32⟩
  | .local _ .smem, ⟨0, _⟩ => ⟨S160, .i32⟩
  | .local _ .smem, ⟨1, _⟩ => ⟨S160, .i32⟩
  | .local _ .smem, ⟨2, _⟩ => ⟨S1, .i32⟩
  | _, _ => ⟨S40960x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![160], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S160.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S160) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ExpertsReferenceIdeal.lean ====
abbrev S160 : Shape := ⟨1, ![160]⟩
abbrev S1 : Shape := ⟨1, ![1]⟩
abbrev S40960x2048 : Shape := ⟨2, ![40960, 2048]⟩
abbrev S32x2048x256 : Shape := ⟨3, ![32, 2048, 256]⟩
abbrev S32x256x2048 : Shape := ⟨3, ![32, 256, 2048]⟩
abbrev S160x256 : Shape := ⟨2, ![160, 256]⟩
abbrev S40960 : Shape := ⟨1, ![40960]⟩
abbrev S40960x1 : Shape := ⟨2, ![40960, 1]⟩
abbrev S1x32 : Shape := ⟨2, ![1, 32]⟩
abbrev S40960x32 : Shape := ⟨2, ![40960, 32]⟩
abbrev S40960x32x256 : Shape := ⟨3, ![40960, 32, 256]⟩
abbrev S_ : Shape := ⟨0, ![]⟩
abbrev S40960x32x1 : Shape := ⟨3, ![40960, 32, 1]⟩

abbrev nBuf : Space → Nat
  | .hbm => 34
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S1, .i32⟩
  | .hbm, ⟨3, _⟩ => ⟨S40960x2048, .f32⟩
  | .hbm, ⟨4, _⟩ => ⟨S32x2048x256, .bf16⟩
  | .hbm, ⟨5, _⟩ => ⟨S32x2048x256, .bf16⟩
  | .hbm, ⟨6, _⟩ => ⟨S32x256x2048, .bf16⟩
  | .hbm, ⟨7, _⟩ => ⟨S32x2048x256, .f32⟩
  | .hbm, ⟨8, _⟩ => ⟨S32x2048x256, .f32⟩
  | .hbm, ⟨9, _⟩ => ⟨S32x256x2048, .f32⟩
  | .hbm, ⟨10, _⟩ => ⟨S160x256, .i32⟩
  | .hbm, ⟨11, _⟩ => ⟨S40960, .i32⟩
  | .hbm, ⟨12, _⟩ => ⟨S40960x1, .i32⟩
  | .hbm, ⟨13, _⟩ => ⟨S1x32, .i32⟩
  | .hbm, ⟨14, _⟩ => ⟨S40960x32, .i32⟩
  | .hbm, ⟨15, _⟩ => ⟨S40960x32, .i32⟩
  | .hbm, ⟨16, _⟩ => ⟨S40960x32, .i1⟩
  | .hbm, ⟨17, _⟩ => ⟨S40960x32, .f32⟩
  | .hbm, ⟨18, _⟩ => ⟨S40960x32x256, .f32⟩
  | .hbm, ⟨19, _⟩ => ⟨S40960x32x256, .f32⟩
  | .hbm, ⟨20, _⟩ => ⟨S40960x32x256, .f32⟩
  | .hbm, ⟨21, _⟩ => ⟨S_, .f32⟩
  | .hbm, ⟨22, _⟩ => ⟨S40960x32x256, .f32⟩
  | .hbm, ⟨23, _⟩ => ⟨S40960x32x256, .f32⟩
  | .hbm, ⟨24, _⟩ => ⟨S_, .f32⟩
  | .hbm, ⟨25, _⟩ => ⟨S40960x32x256, .f32⟩
  | .hbm, ⟨26, _⟩ => ⟨S40960x32x256, .f32⟩
  | .hbm, ⟨27, _⟩ => ⟨S40960x32x256, .f32⟩
  | .hbm, ⟨28, _⟩ => ⟨S40960x32x256, .f32⟩
  | .hbm, ⟨29, _⟩ => ⟨S40960x32x256, .f32⟩
  | .hbm, ⟨30, _⟩ => ⟨S40960x32x1, .f32⟩
  | .hbm, ⟨31, _⟩ => ⟨S40960x32x256, .f32⟩
  | .hbm, ⟨32, _⟩ => ⟨S40960x32x256, .f32⟩
  | .hbm, ⟨33, _⟩ => ⟨S40960x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== SsdOut.lean ====
abbrev S16384x4096 : Shape := ⟨2, ![16384, 4096]⟩
abbrev S4096x2048 : Shape := ⟨2, ![4096, 2048]⟩
abbrev S16384x2048 : Shape := ⟨2, ![16384, 2048]⟩
abbrev S4x2048 : Shape := ⟨2, ![4, 2048]⟩
abbrev S4x1x2048 : Shape := ⟨3, ![4, 1, 2048]⟩
abbrev S512x4096 : Shape := ⟨2, ![512, 4096]⟩
abbrev S4096x1024 : Shape := ⟨2, ![4096, 1024]⟩
abbrev S512x1024 : Shape := ⟨2, ![512, 1024]⟩
abbrev S1x1x1024 : Shape := ⟨3, ![1, 1, 1024]⟩
abbrev S1x1024 : Shape := ⟨2, ![1, 1024]⟩

abbrev nBuf : Space → Nat
  | .hbm => 7
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S4x2048, .f32⟩
  | .hbm, ⟨4, _⟩ => ⟨S4096x2048, .bf16⟩
  | .hbm, ⟨5, _⟩ => ⟨S4x1x2048, .f32⟩
  | .hbm, ⟨6, _⟩ => ⟨S16384x2048, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S512x1024, .f32⟩
  | .local _ .vmem, ⟨9, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SsdOutReferenceIdeal.lean ====
abbrev S16384x4096 : Shape := ⟨2, ![16384, 4096]⟩
abbrev S4096x2048 : Shape := ⟨2, ![4096, 2048]⟩
abbrev S16384x2048 : Shape := ⟨2, ![16384, 2048]⟩
abbrev S4x2048 : Shape := ⟨2, ![4, 2048]⟩
abbrev S4x4096x2048 : Shape := ⟨3, ![4, 4096, 2048]⟩
abbrev S4x4096x4096 : Shape := ⟨3, ![4, 4096, 4096]⟩
abbrev S4x1x2048 : Shape := ⟨3, ![4, 1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x2048, .f32⟩
  | .hbm, ⟨2, _⟩ => ⟨S16384x2048, .f32⟩
  | .hbm, ⟨3, _⟩ => ⟨S4x2048, .f32⟩
  | .hbm, ⟨4, _⟩ => ⟨S4x4096x2048, .f32⟩
  | .hbm, ⟨5, _⟩ => ⟨S16384x4096, .f32⟩
  | .hbm, ⟨6, _⟩ => ⟨S4x4096x4096, .f32⟩
  | .hbm, ⟨7, _⟩ => ⟨S4x4096x2048, .f32⟩
  | .hbm, ⟨8, _⟩ => ⟨S4x1x2048, .f32⟩
  | .hbm, ⟨9, _⟩ => ⟨S4x4096x2048, .f32⟩
  | .hbm, ⟨10, _⟩ => ⟨S4x4096x2048, .f32⟩
  | .hbm, ⟨11, _⟩ => ⟨S4x4096x2048, .f32⟩
  | .hbm, ⟨12, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== MixOut.lean ====
abbrev S16384x1024 : Shape := ⟨2, ![16384, 1024]⟩
abbrev S2048x2048 : Shape := ⟨2, ![2048, 2048]⟩
abbrev S16384x2048 : Shape := ⟨2, ![16384, 2048]⟩
abbrev S4x2048 : Shape := ⟨2, ![4, 2048]⟩
abbrev S1024x2048 : Shape := ⟨2, ![1024, 2048]⟩
abbrev S4x1x2048 : Shape := ⟨3, ![4, 1, 2048]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S4x2048, .f32⟩
  | .hbm, ⟨5, _⟩ => ⟨S2048x2048, .bf16⟩
  | .hbm, ⟨6, _⟩ => ⟨S1024x2048, .bf16⟩
  | .hbm, ⟨7, _⟩ => ⟨S1024x2048, .bf16⟩
  | .hbm, ⟨8, _⟩ => ⟨S4x1x2048, .f32⟩
  | .hbm, ⟨9, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1x1x1024, .f32⟩
  | .local _ .vmem, ⟨11, _⟩ => ⟨S1x1x1024, .f32⟩
  | .local _ .vmem, ⟨12, _⟩ => ⟨S1024x1024, .f32⟩
  | .local _ .vmem, ⟨13, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MixOutReferenceIdeal.lean ====
abbrev S16384x1024 : Shape := ⟨2, ![16384, 1024]⟩
abbrev S2048x2048 : Shape := ⟨2, ![2048, 2048]⟩
abbrev S16384x2048 : Shape := ⟨2, ![16384, 2048]⟩
abbrev S4x2048 : Shape := ⟨2, ![4, 2048]⟩
abbrev S4x4096x2048 : Shape := ⟨3, ![4, 4096, 2048]⟩
abbrev S4x4096x1024 : Shape := ⟨3, ![4, 4096, 1024]⟩
abbrev S4x1x2048 : Shape := ⟨3, ![4, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S2048x2048, .f32⟩
  | .hbm, ⟨3, _⟩ => ⟨S16384x2048, .f32⟩
  | .hbm, ⟨4, _⟩ => ⟨S4x2048, .f32⟩
  | .hbm, ⟨5, _⟩ => ⟨S4x4096x2048, .f32⟩
  | .hbm, ⟨6, _⟩ => ⟨S16384x1024, .f32⟩
  | .hbm, ⟨7, _⟩ => ⟨S4x4096x1024, .f32⟩
  | .hbm, ⟨8, _⟩ => ⟨S4x4096x1024, .bf16⟩
  | .hbm, ⟨9, _⟩ => ⟨S4x4096x1024, .f32⟩
  | .hbm, ⟨10, _⟩ => ⟨S4x4096x2048, .f32⟩
  | .hbm, ⟨11, _⟩ => ⟨S4x4096x2048, .f32⟩
  | .hbm, ⟨12, _⟩ => ⟨S4x1x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== SsdIn.lean ====
abbrev S16384x2048 : Shape := ⟨2, ![16384, 2048]⟩
abbrev S2048 : Shape := ⟨1, ![2048]⟩
abbrev S4x2048 : Shape := ⟨2, ![4, 2048]⟩
abbrev S2048x10304 : Shape := ⟨2, ![2048, 10304]⟩
abbrev S2048x64 : Shape := ⟨2, ![2048, 64]⟩
abbrev S_ : Shape := ⟨0, ![]⟩
abbrev S2048x128 : Shape := ⟨2, ![2048, 128]⟩
abbrev S2048x10240 : Shape := ⟨2, ![2048, 10240]⟩
abbrev S1x2048 : Shape := ⟨2, ![1, 2048]⟩
abbrev S4x1x2048 : Shape := ⟨3, ![4, 1, 2048]⟩
abbrev S16384x10240 : Shape := ⟨2, ![16384, 10240]⟩
abbrev S16384x128 : Shape := ⟨2, ![16384, 128]⟩
abbrev S1024x2048 : Shape := ⟨2, ![1024, 2048]⟩
abbrev S1x1x2048 : Shape := ⟨3, ![1, 1, 2048]⟩
abbrev S2048x512 : Shape := ⟨2, ![2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 17
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x10304, .f32⟩
  | .hbm, ⟨5, _⟩ => ⟨S2048x64, .f32⟩
  | .hbm, ⟨6, _⟩ => ⟨S_, .i32⟩
  | .hbm, ⟨7, _⟩ => ⟨S_, .f32⟩
  | .hbm, ⟨8, _⟩ => ⟨S2048x128, .f32⟩
  | .hbm, ⟨9, _⟩ => ⟨S2048x10240, .f32⟩
  | .hbm, ⟨10, _⟩ => ⟨S2048x10240, .bf16⟩
  | .hbm, ⟨11, _⟩ => ⟨S2048x128, .bf16⟩
  | .hbm, ⟨12, _⟩ => ⟨S1x2048, .f32⟩
  | .hbm, ⟨13, _⟩ => ⟨S4x1x2048, .f32⟩
  | .hbm, ⟨14, _⟩ => ⟨S4x1x2048, .f32⟩
  | .hbm, ⟨15, _⟩ => ⟨S16384x10240, .bf16⟩
  | .hbm, ⟨16, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S2048x128, .bf16⟩
  | .local _ .vmem, ⟨10, _⟩ => ⟨S1024x512, .bf16⟩
  | .local _ .vmem, ⟨11, _⟩ => ⟨S1024x512, .bf16⟩
  | .local _ .vmem, ⟨12, _⟩ => ⟨S1024x128, .f32⟩
  | .local _ .vmem, ⟨13, _⟩ => ⟨S1024x128, .f32⟩
  | .local _ .vmem, ⟨14, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 20], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SsdInReferenceIdeal.lean ====
abbrev S16384x2048 : Shape := ⟨2, ![16384, 2048]⟩
abbrev S2048 : Shape := ⟨1, ![2048]⟩
abbrev S4x2048 : Shape := ⟨2, ![4, 2048]⟩
abbrev S2048x10304 : Shape := ⟨2, ![2048, 10304]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x10304 : Shape := ⟨3, ![4, 4096, 10304]⟩
abbrev S16384x10304 : Shape := ⟨2, ![16384, 10304]⟩
abbrev S16384x10240 : Shape := ⟨2, ![16384, 10240]⟩
abbrev S16384x64 : Shape := ⟨2, ![16384, 64]⟩
abbrev S16384x128 : Shape := ⟨2, ![16384, 128]⟩

abbrev nBuf : Space → Nat
  | .hbm => 39
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x10304, .f32⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x4096x10304, .f32⟩
  | .hbm, ⟨32, _⟩ => ⟨S16384x10304, .f32⟩
  | .hbm, ⟨33, _⟩ => ⟨S16384x10240, .f32⟩
  | .hbm, ⟨34, _⟩ => ⟨S16384x10240, .bf16⟩
  | .hbm, ⟨35, _⟩ => ⟨S16384x64, .f32⟩
  | .hbm, ⟨36, _⟩ => ⟨S_, .i32⟩
  | .hbm, ⟨37, _⟩ => ⟨S_, .f32⟩
  | .hbm, ⟨38, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c : Ref sig .tc := ⟨.hbm, 36, rfl⟩
abbrev main_call0_v0 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== MixIn.lean ====
abbrev S16384x2048 : Shape := ⟨2, ![16384, 2048]⟩
abbrev S2048 : Shape := ⟨1, ![2048]⟩
abbrev S4x2048 : Shape := ⟨2, ![4, 2048]⟩
abbrev S2048x2304 : Shape := ⟨2, ![2048, 2304]⟩
abbrev S1x2048 : Shape := ⟨2, ![1, 2048]⟩
abbrev S4x1x2048 : Shape := ⟨3, ![4, 1, 2048]⟩
abbrev S16384x2304 : Shape := ⟨2, ![16384, 2304]⟩
abbrev S1024x2048 : Shape := ⟨2, ![1024, 2048]⟩
abbrev S1x1x2048 : Shape := ⟨3, ![1, 1, 2048]⟩
abbrev S2048x768 : Shape := ⟨2, ![2048, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x2304, .f32⟩
  | .hbm, ⟨5, _⟩ => ⟨S2048x2304, .bf16⟩
  | .hbm, ⟨6, _⟩ => ⟨S1x2048, .f32⟩
  | .hbm, ⟨7, _⟩ => ⟨S4x1x2048, .f32⟩
  | .hbm, ⟨8, _⟩ => ⟨S4x1x2048, .f32⟩
  | .hbm, ⟨9, _⟩ => ⟨S16384x2304, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x768, .bf16⟩
  | .local _ .vmem, ⟨8, _⟩ => ⟨S2048x768, .bf16⟩
  | .local _ .vmem, ⟨9, _⟩ => ⟨S1024x768, .bf16⟩
  | .local _ .vmem, ⟨10, _⟩ => ⟨S1024x768, .bf16⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MixInReferenceIdeal.lean ====
abbrev S16384x2048 : Shape := ⟨2, ![16384, 2048]⟩
abbrev S2048 : Shape := ⟨1, ![2048]⟩
abbrev S4x2048 : Shape := ⟨2, ![4, 2048]⟩
abbrev S2048x2304 : Shape := ⟨2, ![2048, 2304]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x2304 : Shape := ⟨3, ![4, 4096, 2304]⟩
abbrev S16384x2304 : Shape := ⟨2, ![16384, 2304]⟩

abbrev nBuf : Space → Nat
  | .hbm => 34
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x2304, .f32⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S4x4096x2304, .f32⟩
  | .hbm, ⟨32, _⟩ => ⟨S16384x2304, .f32⟩
  | .hbm, ⟨33, _⟩ => ⟨S16384x2304, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Gated.lean ====
abbrev S16384x1024 : Shape := ⟨2, ![16384, 1024]⟩
abbrev S1024x2048 : Shape := ⟨2, ![1024, 2048]⟩
abbrev S1024x1024 : Shape := ⟨2, ![1024, 1024]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .f32⟩
  | .hbm, ⟨2, _⟩ => ⟨S1024x2048, .bf16⟩
  | .hbm, ⟨3, _⟩ => ⟨S1024x1024, .bf16⟩
  | .hbm, ⟨4, _⟩ => ⟨S1024x1024, .bf16⟩
  | .hbm, ⟨5, _⟩ => ⟨S16384x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatedReferenceIdeal.lean ====
abbrev S16384x1024 : Shape := ⟨2, ![16384, 1024]⟩
abbrev S1024x2048 : Shape := ⟨2, ![1024, 2048]⟩
abbrev S4x4096x1024 : Shape := ⟨3, ![4, 4096, 1024]⟩
abbrev S_ : Shape := ⟨0, ![]⟩
abbrev S4x4096x2048 : Shape := ⟨3, ![4, 4096, 2048]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2048, .f32⟩
  | .hbm, ⟨2, _⟩ => ⟨S16384x1024, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S_, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S_, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S_, .f32⟩
  | .hbm, ⟨15, _⟩ => ⟨S4x4096x1024, .f32⟩
  | .hbm, ⟨16, _⟩ => ⟨S4x4096x1024, .f32⟩
  | .hbm, ⟨17, _⟩ => ⟨S_, .f32⟩
  | .hbm, ⟨18, _⟩ => ⟨S4x4096x1024, .f32⟩
  | .hbm, ⟨19, _⟩ => ⟨S4x4096x1024, .f32⟩
  | .hbm, ⟨20, _⟩ => ⟨S4x4096x1024, .f32⟩
  | .hbm, ⟨21, _⟩ => ⟨S4x4096x2048, .f32⟩
  | .hbm, ⟨22, _⟩ => ⟨S4x4096x1024, .f32⟩
  | .hbm, ⟨23, _⟩ => ⟨S4x4096x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x4096x1024, .f32⟩
  | .hbm, ⟨28, _⟩ => ⟨S4x4096x1024, .f32⟩
  | .hbm, ⟨29, _⟩ => ⟨S_, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S16384x1024, .f32⟩
  | .hbm, ⟨34, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Modulation.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S8x2048 : Shape := ⟨2, ![8, 2048]⟩
abbrev S1 : Shape := ⟨1, ![1]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩
abbrev S2x4x12288 : Shape := ⟨3, ![2, 4, 12288]⟩

abbrev nBuf : Space → Nat
  | .hbm => 11
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S2x1x12288, .f32⟩
  | .hbm, ⟨9, _⟩ => ⟨S2x8x12288, .f32⟩
  | .hbm, ⟨10, _⟩ => ⟨S2x4x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S4x2048 : Shape := ⟨2, ![4, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S4x12288 : Shape := ⟨2, ![4, 12288]⟩
abbrev S1x12288 : Shape := ⟨2, ![1, 12288]⟩
abbrev S12288 : Shape := ⟨1, ![12288]⟩
abbrev S1x4x12288 : Shape := ⟨3, ![1, 4, 12288]⟩
abbrev S2x4x12288 : Shape := ⟨3, ![2, 4, 12288]⟩

abbrev nBuf : Space → Nat
  | .hbm => 31
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2x2048x12288, .f32⟩
  | .hbm, ⟨2, _⟩ => ⟨S2x12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S1x2048x12288, .f32⟩
  | .hbm, ⟨13, _⟩ => ⟨S2048x12288, .f32⟩
  | .hbm, ⟨14, _⟩ => ⟨S4x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S4x12288, .f32⟩
  | .hbm, ⟨19, _⟩ => ⟨S4x12288, .f32⟩
  | .hbm, ⟨20, _⟩ => ⟨S1x2048x12288, .f32⟩
  | .hbm, ⟨21, _⟩ => ⟨S2048x12288, .f32⟩
  | .hbm, ⟨22, _⟩ => ⟨S4x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S4x12288, .f32⟩
  | .hbm, ⟨27, _⟩ => ⟨S4x12288, .f32⟩
  | .hbm, ⟨28, _⟩ => ⟨S1x4x12288, .f32⟩
  | .hbm, ⟨29, _⟩ => ⟨S1x4x12288, .f32⟩
  | .hbm, ⟨30, _⟩ => ⟨S2x4x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== States.lean ====
abbrev S32x1024x256 : Shape := ⟨3, ![32, 1024, 256]⟩
abbrev S32x1x128 : Shape := ⟨3, ![32, 1, 128]⟩
abbrev S8x1024x256 : Shape := ⟨3, ![8, 1024, 256]⟩
abbrev S8x1x128 : Shape := ⟨3, ![8, 1, 128]⟩
abbrev S8x4x128 : Shape := ⟨3, ![8, 4, 128]⟩
abbrev S8x8x256 : Shape := ⟨3, ![8, 8, 256]⟩
abbrev S8x4x256 : Shape := ⟨3, ![8, 4, 256]⟩

abbrev nBuf : Space → Nat
  | .hbm => 4
  | .vmem => 8
  | .smem => 0
  | _ => 0

abbrev bufTy : (tb : Table) → Fin (tcTables nBuf tb) → BufTy
  | .hbm, ⟨0, _⟩ => ⟨S32x1024x256, .f32⟩
  | .hbm, ⟨1, _⟩ => ⟨S32x1x128, .f32⟩
  | .hbm, ⟨2, _⟩ => ⟨S32x1x128, .f32⟩
  | .hbm, ⟨3, _⟩ => ⟨S32x1024x256, .f32⟩
  | .local _ .vmem, ⟨0, _⟩ => ⟨S8x1024x256, .f32⟩
  | .local _ .vmem, ⟨1, _⟩ => ⟨S8x1024x256, .f32⟩
  | .local _ .vmem, ⟨2, _⟩ => ⟨S8x1x128, .f32⟩
  | .local _ .vmem, ⟨3, _⟩ => ⟨S8x1x128, .f32⟩
  | .local _ .vmem, ⟨4, _⟩ => ⟨S8x1x128, .f32⟩
  | .local _ .vmem, ⟨5, _⟩ => ⟨S8x1x128, .f32⟩
  | .local _ .vmem, ⟨6, _⟩ => ⟨S8x1024x256, .f32⟩
  | .local _ .vmem, ⟨7, _⟩ => ⟨S8x1024x256, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c128_i32 : BitVec 32 := 128#32
  let v3 : BitVec 32 := Scalar.addi c0_i32 c128_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c8_i32 : BitVec 32 := 8#32
  let v5 : BitVec 32 := Scalar.muli arg5 c8_i32
  v5
def k0_off1 (k0_t1 : Fin k0_t1_loop.trips) : Fin 3 → Nat :=
  let c0_6 : Index := 0#32
  let c0_i32 : BitVec 32 := 0#32
  let c1_i32 : BitVec 32 := 1#32
  let arg5 : BitVec 32 := Scf.iv c0_i32 c1_i32 k0_t1
  let c8_i32 : BitVec 32 := 8#32
  let v5 : BitVec 32 := Scalar.muli arg5 c8_i32
  let v6 : BitVec 32 := v5
  let v7 : Index := Scalar.indexCast v6
  let c0_7 : Index := 0#32
  ![0, v7.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== StatesReferenceIdeal.lean ====
abbrev S32x1024x256 : Shape := ⟨3, ![32, 1024, 256]⟩
abbrev S32x1x128 : Shape := ⟨3, ![32, 1, 128]⟩
abbrev S32x256x4x2x128 : Shape := ⟨5, ![32, 256, 4, 2, 128]⟩
abbrev S256x32x4x2x128 : Shape := ⟨5, ![256, 32, 4, 2, 128]⟩
abbrev S_ : Shape := ⟨0, ![]⟩
abbrev S32x4x128 : Shape := ⟨3, ![32, 4, 128]⟩
abbrev S1x32x4x2x128 : Shape := ⟨5, ![1, 32, 4, 2, 128]⟩
abbrev S32x4x2x128 : Shape := ⟨4, ![32, 4, 2, 128]⟩
abbrev S32x4x1x128 : Shape := ⟨4, ![32, 4, 1, 128]⟩

abbrev nBuf : Space → Nat
  | .hbm => 54
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1x128, .f32⟩
  | .hbm, ⟨2, _⟩ => ⟨S32x1x128, .f32⟩
  | .hbm, ⟨3, _⟩ => ⟨S32x256x4x2x128, .f32⟩
  | .hbm, ⟨4, _⟩ => ⟨S256x32x4x2x128, .f32⟩
  | .hbm, ⟨5, _⟩ => ⟨S_, .f32⟩
  | .hbm, ⟨6, _⟩ => ⟨S32x4x128, .f32⟩
  | .hbm, ⟨7, _⟩ => ⟨S_, .f32⟩
  | .hbm, ⟨8, _⟩ => ⟨S256x32x4x2x128, .f32⟩
  | .hbm, ⟨9, _⟩ => ⟨S_, .i32⟩
  | .hbm, ⟨10, _⟩ => ⟨S256x32x4x2x128, .f32⟩
  | .hbm, ⟨11, _⟩ => ⟨S32x1x128, .f32⟩
  | .hbm, ⟨12, _⟩ => ⟨S32x1x128, .f32⟩
  | .hbm, ⟨13, _⟩ => ⟨S_, .i32⟩
  | .hbm, ⟨14, _⟩ => ⟨S32x4x128, .f32⟩
  | .hbm, ⟨15, _⟩ => ⟨S32x4x128, .f32⟩
  | .hbm, ⟨16, _⟩ => ⟨S256x32x4x2x128, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1x32x4x2x128, .f32⟩
  | .hbm, ⟨24, _⟩ => ⟨S32x4x2x128, .f32⟩
  | .hbm, ⟨25, _⟩ => ⟨S32x4x128, .f32⟩
  | .hbm, ⟨26, _⟩ => ⟨S32x4x128, .f32⟩
  | .hbm, ⟨27, _⟩ => ⟨S32x4x128, .f32⟩
  | .hbm, ⟨28, _⟩ => ⟨S32x4x128, .f32⟩
  | .hbm, ⟨29, _⟩ => ⟨S32x4x128, .f32⟩
  | .hbm, ⟨30, _⟩ => ⟨S32x4x1x128, .f32⟩
  | .hbm, ⟨31, _⟩ => ⟨S32x4x128, .f32⟩
  | .hbm, ⟨32, _⟩ => ⟨S32x4x128, .f32⟩
  | .hbm, ⟨33, _⟩ => ⟨S32x4x128, .f32⟩
  | .hbm, ⟨34, _⟩ => ⟨S32x4x128, .f32⟩
  | .hbm, ⟨35, _⟩ => ⟨S32x4x128, .f32⟩
  | .hbm, ⟨36, _⟩ => ⟨S32x4x128, .f32⟩
  | .hbm, ⟨37, _⟩ => ⟨S32x4x128, .f32⟩
  | .hbm, ⟨38, _⟩ => ⟨S32x4x1x128, .f32⟩
  | .hbm, ⟨39, _⟩ => ⟨S32x4x128, .f32⟩
  | .hbm, ⟨40, _⟩ => ⟨S32x4x128, .f32⟩
  | .hbm, ⟨41, _⟩ => ⟨S32x4x1x128, .f32⟩
  | .hbm, ⟨42, _⟩ => ⟨S32x4x1x128, .f32⟩
  | .hbm, ⟨43, _⟩ => ⟨S32x4x2x128, .f32⟩
  | .hbm, ⟨44, _⟩ => ⟨S1x32x4x2x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S256x32x4x2x128, .f32⟩
  | .hbm, ⟨50, _⟩ => ⟨S_, .i32⟩
  | .hbm, ⟨51, _⟩ => ⟨S_, .i32⟩
  | .hbm, ⟨52, _⟩ => ⟨S32x256x4x2x128, .f32⟩
  | .hbm, ⟨53, _⟩ => ⟨S32x1024x256, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_c : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev main_v4_4 : Ref sig .tc := ⟨.hbm, 14, rfl⟩
abbrev main_v4_5 : Ref sig .tc := ⟨.hbm, 15, rfl⟩
abbrev main_v4_6 : Ref sig .tc := ⟨.hbm, 16, rfl⟩
abbrev main_while0c_c_7 : Ref sig .tc := ⟨.hbm, 17, rfl⟩
abbrev main_while0c_v7 : Ref sig .tc := ⟨.hbm, 18, rfl⟩
abbrev main_while0b_call0_c : Ref sig .tc := ⟨.hbm, 19, rfl⟩
abbrev main_while0b_call0_c_0 : Ref sig .tc := ⟨.hbm, 20, rfl⟩
abbrev main_while0b_call0_c_1 : Ref sig .tc := ⟨.hbm, 21, rfl⟩
abbrev main_while0b_call0_c_2 : Ref sig .tc := ⟨.hbm, 22, rfl⟩
abbrev main_while0b_call0_v0 : Ref sig .tc := ⟨.hbm, 23, rfl⟩
abbrev main_while0b_v7 : Ref sig .tc := ⟨.hbm, 24, rfl⟩
abbrev main_while0b_v8 : Ref sig .tc := ⟨.hbm, 25, rfl⟩
abbrev main_while0b_v9 : Ref sig .tc := ⟨.hbm, 26, rfl⟩
abbrev main_while0b_v10 : Ref sig .tc := ⟨.hbm, 27, rfl⟩
abbrev main_while0b_v11 : Ref sig .tc := ⟨.hbm, 28, rfl⟩
abbrev main_while0b_v12 : Ref sig .tc := ⟨.hbm, 29, rfl⟩
abbrev main_while0b_v13 : Ref sig .tc := ⟨.hbm, 30, rfl⟩
abbrev main_while0b_v14 : Ref sig .tc := ⟨.hbm, 31, rfl⟩
abbrev main_while0b_v15 : Ref sig .tc := ⟨.hbm, 32, rfl⟩
abbrev main_while0b_v16 : Ref sig .tc := ⟨.hbm, 33, rfl⟩
abbrev main_while0b_v17 : Ref sig .tc := ⟨.hbm, 34, rfl⟩
abbrev main_while0b_v18 : Ref sig .tc := ⟨.hbm, 35, rfl⟩
abbrev main_while0b_v19 : Ref sig .tc := ⟨.hbm, 36, rfl⟩
abbrev main_while0b_v20 : Ref sig .tc := ⟨.hbm, 37, rfl⟩
abbrev main_while0b_v21 : Ref sig .tc := ⟨.hbm, 38, rfl⟩
abbrev main_while0b_v22 : Ref sig .tc := ⟨.hbm, 39, rfl⟩
abbrev main_while0b_v23 : Ref sig .tc := ⟨.hbm, 40, rfl⟩
abbrev main_while0b_v24 : Ref sig .tc := ⟨.hbm, 41, rfl⟩
abbrev main_while0b_v25 : Ref sig .tc := ⟨.hbm, 42, rfl⟩
abbrev main_while0b_v26 : Ref sig .tc := ⟨.hbm, 43, rfl⟩
abbrev main_while0b_call1_v0 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_c_1 : Ref sig .tc := ⟨.hbm, 47, rfl⟩
abbrev main_while0b_call1_c_2 : Ref sig .tc := ⟨.hbm, 48, rfl⟩
abbrev main_while0b_v27 : Ref sig .tc := ⟨.hbm, 49, rfl⟩
abbrev main_while0b_c_7 : Ref sig .tc := ⟨.hbm, 50, rfl⟩
abbrev main_while0b_v28 : Ref sig .tc := ⟨.hbm, 51, rfl⟩
abbrev main_v5 : Ref sig .tc := ⟨.hbm, 52, rfl⟩
abbrev main_v6 : Ref sig .tc := ⟨.hbm, 53, rfl⟩

abbrev nD : Nat := 1
abbrev τ : Topo := Topo.v7x

variable {F : FTy → Type} [FloatOps F]

abbrev main_while0_count : Scf.Loop 32 := ⟨0#32, 256#32, 1#32⟩
-- ==== Sums.lean ====
abbrev S64x1024x256 : Shape := ⟨3, ![64, 1024, 256]⟩
abbrev S64x256x64 : Shape := ⟨3, ![64, 256, 64]⟩
abbrev S_ : Shape := ⟨0, ![]⟩
abbrev S32x256x64 : Shape := ⟨3, ![32, 256, 64]⟩
abbrev S32x2x256x64 : Shape := ⟨4, ![32, 2, 256, 64]⟩
abbrev S32x1x256x64 : Shape := ⟨4, ![32, 1, 256, 64]⟩
abbrev S32x256x256 : Shape := ⟨3, ![32, 256, 256]⟩
abbrev S32x512x256 : Shape := ⟨3, ![32, 512, 256]⟩
abbrev S32x1024x256 : Shape := ⟨3, ![32, 1024, 256]⟩
abbrev S2x1024x256 : Shape := ⟨3, ![2, 1024, 256]⟩
abbrev S1x512x256 : Shape := ⟨3, ![1, 512, 256]⟩
abbrev S1x1024x256 : Shape := ⟨3, ![1, 1024, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 20
  | .vmem => 6
  | .smem => 0
  | _ => 0

abbrev bufTy : (tb : Table) → Fin (tcTables nBuf tb) → BufTy
  | .hbm, ⟨0, _⟩ => ⟨S64x1024x256, .bf16⟩
  | .hbm, ⟨1, _⟩ => ⟨S64x256x64, .f32⟩
  | .hbm, ⟨2, _⟩ => ⟨S64x256x64, .f32⟩
  | .hbm, ⟨3, _⟩ => ⟨S_, .f32⟩
  | .hbm, ⟨4, _⟩ => ⟨S32x256x64, .f32⟩
  | .hbm, ⟨5, _⟩ => ⟨S32x2x256x64, .f32⟩
  | .hbm, ⟨6, _⟩ => ⟨S32x2x256x64, .f32⟩
  | .hbm, ⟨7, _⟩ => ⟨S32x1x256x64, .f32⟩
  | .hbm, ⟨8, _⟩ => ⟨S32x256x64, .f32⟩
  | .hbm, ⟨9, _⟩ => ⟨S32x1x256x64, .f32⟩
  | .hbm, ⟨10, _⟩ => ⟨S32x256x64, .f32⟩
  | .hbm, ⟨11, _⟩ => ⟨S32x256x256, .f32⟩
  | .hbm, ⟨12, _⟩ => ⟨S32x1x256x64, .f32⟩
  | .hbm, ⟨13, _⟩ => ⟨S32x256x64, .f32⟩
  | .hbm, ⟨14, _⟩ => ⟨S32x1x256x64, .f32⟩
  | .hbm, ⟨15, _⟩ => ⟨S32x256x64, .f32⟩
  | .hbm, ⟨16, _⟩ => ⟨S32x256x256, .f32⟩
  | .hbm, ⟨17, _⟩ => ⟨S32x512x256, .f32⟩
  | .hbm, ⟨18, _⟩ => ⟨S32x512x256, .bf16⟩
  | .hbm, ⟨19, _⟩ => ⟨S32x1024x256, .f32⟩
  | .local _ .vmem, ⟨0, _⟩ => ⟨S2x1024x256, .bf16⟩
  | .local _ .vmem, ⟨1, _⟩ => ⟨S2x1024x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x1024x256, .f32⟩
  | .local _ .vmem, ⟨5, _⟩ => ⟨S1x1024x256, .f32⟩
  | _, _ => ⟨S64x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SumsReferenceIdeal.lean ====
abbrev S64x1024x256 : Shape := ⟨3, ![64, 1024, 256]⟩
abbrev S64x256x64 : Shape := ⟨3, ![64, 256, 64]⟩
abbrev S64x1024x64 : Shape := ⟨3, ![64, 1024, 64]⟩
abbrev S64x1024x1x64 : Shape := ⟨4, ![64, 1024, 1, 64]⟩
abbrev S64x1024x2x64 : Shape := ⟨4, ![64, 1024, 2, 64]⟩
abbrev S32x2x1024x2x64 : Shape := ⟨5, ![32, 2, 1024, 2, 64]⟩
abbrev S32x1024x2x2x64 : Shape := ⟨5, ![32, 1024, 2, 2, 64]⟩
abbrev S32x1024x256 : Shape := ⟨3, ![32, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S64x1024x256, .bf16⟩
  | .hbm, ⟨1, _⟩ => ⟨S64x256x64, .f32⟩
  | .hbm, ⟨2, _⟩ => ⟨S64x256x64, .f32⟩
  | .hbm, ⟨3, _⟩ => ⟨S64x1024x256, .f32⟩
  | .hbm, ⟨4, _⟩ => ⟨S64x1024x64, .f32⟩
  | .hbm, ⟨5, _⟩ => ⟨S64x1024x64, .f32⟩
  | .hbm, ⟨6, _⟩ => ⟨S64x1024x1x64, .f32⟩
  | .hbm, ⟨7, _⟩ => ⟨S64x1024x1x64, .f32⟩
  | .hbm, ⟨8, _⟩ => ⟨S64x1024x2x64, .f32⟩
  | .hbm, ⟨9, _⟩ => ⟨S32x2x1024x2x64, .f32⟩
  | .hbm, ⟨10, _⟩ => ⟨S32x1024x2x2x64, .f32⟩
  | .hbm, ⟨11, _⟩ => ⟨S32x1024x256, .f32⟩
  | _, _ => ⟨S64x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Outputs.lean ====
abbrev S64x1024x256 : Shape := ⟨3, ![64, 1024, 256]⟩
abbrev S32x1024x256 : Shape := ⟨3, ![32, 1024, 256]⟩
abbrev S64x256x256 : Shape := ⟨3, ![64, 256, 256]⟩
abbrev S64x64x256 : Shape := ⟨3, ![64, 64, 256]⟩
abbrev S_ : Shape := ⟨0, ![]⟩
abbrev S32x64x256 : Shape := ⟨3, ![32, 64, 256]⟩
abbrev S32x2x64x256 : Shape := ⟨4, ![32, 2, 64, 256]⟩
abbrev S32x1x64x256 : Shape := ⟨4, ![32, 1, 64, 256]⟩
abbrev S32x64x512 : Shape := ⟨3, ![32, 64, 512]⟩
abbrev S32x256x512 : Shape := ⟨3, ![32, 256, 512]⟩
abbrev S2x1024x256 : Shape := ⟨3, ![2, 1024, 256]⟩
abbrev S1x1024x256 : Shape := ⟨3, ![1, 1024, 256]⟩
abbrev S2x256x256 : Shape := ⟨3, ![2, 256, 256]⟩
abbrev S1x256x512 : Shape := ⟨3, ![1, 256, 512]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 27
  | .vmem => 10
  | .smem => 0
  | _ => 0

abbrev bufTy : (tb : Table) → Fin (tcTables nBuf tb) → BufTy
  | .hbm, ⟨0, _⟩ => ⟨S64x1024x256, .bf16⟩
  | .hbm, ⟨1, _⟩ => ⟨S32x1024x256, .f32⟩
  | .hbm, ⟨2, _⟩ => ⟨S64x256x256, .f32⟩
  | .hbm, ⟨3, _⟩ => ⟨S64x64x256, .f32⟩
  | .hbm, ⟨4, _⟩ => ⟨S64x64x256, .f32⟩
  | .hbm, ⟨5, _⟩ => ⟨S_, .f32⟩
  | .hbm, ⟨6, _⟩ => ⟨S32x64x256, .f32⟩
  | .hbm, ⟨7, _⟩ => ⟨S32x2x64x256, .f32⟩
  | .hbm, ⟨8, _⟩ => ⟨S32x2x64x256, .f32⟩
  | .hbm, ⟨9, _⟩ => ⟨S32x1x64x256, .f32⟩
  | .hbm, ⟨10, _⟩ => ⟨S32x64x256, .f32⟩
  | .hbm, ⟨11, _⟩ => ⟨S32x64x512, .f32⟩
  | .hbm, ⟨12, _⟩ => ⟨S32x1x64x256, .f32⟩
  | .hbm, ⟨13, _⟩ => ⟨S32x64x256, .f32⟩
  | .hbm, ⟨14, _⟩ => ⟨S32x64x512, .f32⟩
  | .hbm, ⟨15, _⟩ => ⟨S32x1x64x256, .f32⟩
  | .hbm, ⟨16, _⟩ => ⟨S32x64x256, .f32⟩
  | .hbm, ⟨17, _⟩ => ⟨S32x64x256, .f32⟩
  | .hbm, ⟨18, _⟩ => ⟨S32x64x512, .f32⟩
  | .hbm, ⟨19, _⟩ => ⟨S32x1x64x256, .f32⟩
  | .hbm, ⟨20, _⟩ => ⟨S32x64x256, .f32⟩
  | .hbm, ⟨21, _⟩ => ⟨S32x64x256, .f32⟩
  | .hbm, ⟨22, _⟩ => ⟨S32x64x512, .f32⟩
  | .hbm, ⟨23, _⟩ => ⟨S32x256x512, .f32⟩
  | .hbm, ⟨24, _⟩ => ⟨S32x256x512, .bf16⟩
  | .hbm, ⟨25, _⟩ => ⟨S64x256x256, .bf16⟩
  | .hbm, ⟨26, _⟩ => ⟨S64x1024x256, .bf16⟩
  | .local _ .vmem, ⟨0, _⟩ => ⟨S2x1024x256, .bf16⟩
  | .local _ .vmem, ⟨1, _⟩ => ⟨S2x1024x256, .bf16⟩
  | .local _ .vmem, ⟨2, _⟩ => ⟨S1x1024x256, .f32⟩
  | .local _ .vmem, ⟨3, _⟩ => ⟨S1x1024x256, .f32⟩
  | .local _ .vmem, ⟨4, _⟩ => ⟨S2x256x256, .bf16⟩
  | .local _ .vmem, ⟨5, _⟩ => ⟨S2x256x256, .bf16⟩
  | .local _ .vmem, ⟨6, _⟩ => ⟨S1x256x512, .bf16⟩
  | .local _ .vmem, ⟨7, _⟩ => ⟨S1x256x512, .bf16⟩
  | .local _ .vmem, ⟨8, _⟩ => ⟨S2x1024x256, .bf16⟩
  | .local _ .vmem, ⟨9, _⟩ => ⟨S2x1024x256, .bf16⟩
  | _, _ => ⟨S64x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutputsReferenceIdeal.lean ====
abbrev S64x1024x256 : Shape := ⟨3, ![64, 1024, 256]⟩
abbrev S32x1024x256 : Shape := ⟨3, ![32, 1024, 256]⟩
abbrev S64x256x256 : Shape := ⟨3, ![64, 256, 256]⟩
abbrev S64x64x256 : Shape := ⟨3, ![64, 64, 256]⟩
abbrev S32x1024x2x2x64 : Shape := ⟨5, ![32, 1024, 2, 2, 64]⟩
abbrev S32x2x1024x2x64 : Shape := ⟨5, ![32, 2, 1024, 2, 64]⟩
abbrev S64x1024x2x64 : Shape := ⟨4, ![64, 1024, 2, 64]⟩
abbrev S64x1024x1x64 : Shape := ⟨4, ![64, 1024, 1, 64]⟩
abbrev S64x1024x64 : Shape := ⟨3, ![64, 1024, 64]⟩

abbrev nBuf : Space → Nat
  | .hbm => 20
  | .vmem => 0
  | .smem => 0
  | _ => 0

abbrev bufTy : (tb : Table) → Fin (tcTables nBuf tb) → BufTy
  | .hbm, ⟨0, _⟩ => ⟨S64x1024x256, .bf16⟩
  | .hbm, ⟨1, _⟩ => ⟨S32x1024x256, .f32⟩
  | .hbm, ⟨2, _⟩ => ⟨S64x256x256, .f32⟩
  | .hbm, ⟨3, _⟩ => ⟨S64x64x256, .f32⟩
  | .hbm, ⟨4, _⟩ => ⟨S64x64x256, .f32⟩
  | .hbm, ⟨5, _⟩ => ⟨S32x1024x2x2x64, .f32⟩
  | .hbm, ⟨6, _⟩ => ⟨S32x2x1024x2x64, .f32⟩
  | .hbm, ⟨7, _⟩ => ⟨S64x1024x2x64, .f32⟩
  | .hbm, ⟨8, _⟩ => ⟨S64x1024x256, .f32⟩
  | .hbm, ⟨9, _⟩ => ⟨S64x1024x256, .f32⟩
  | .hbm, ⟨10, _⟩ => ⟨S64x1024x1x64, .f32⟩
  | .hbm, ⟨11, _⟩ => ⟨S64x1024x64, .f32⟩
  | .hbm, ⟨12, _⟩ => ⟨S64x1024x256, .f32⟩
  | .hbm, ⟨13, _⟩ => ⟨S64x1024x1x64, .f32⟩
  | .hbm, ⟨14, _⟩ => ⟨S64x1024x64, .f32⟩
  | .hbm, ⟨15, _⟩ => ⟨S64x64x256, .f32⟩
  | .hbm, ⟨16, _⟩ => ⟨S64x1024x256, .f32⟩
  | .hbm, ⟨17, _⟩ => ⟨S64x1024x256, .f32⟩
  | .hbm, ⟨18, _⟩ => ⟨S64x1024x256, .f32⟩
  | .hbm, ⟨19, _⟩ => ⟨S64x1024x256, .bf16⟩
  | _, _ => ⟨S64x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Router.lean ====
abbrev S16384x2048 : Shape := ⟨2, ![16384, 2048]⟩
abbrev S2048 : Shape := ⟨1, ![2048]⟩
abbrev S4x2048 : Shape := ⟨2, ![4, 2048]⟩
abbrev S128x2048 : Shape := ⟨2, ![128, 2048]⟩
abbrev S128x1 : Shape := ⟨2, ![128, 1]⟩
abbrev S1x2048 : Shape := ⟨2, ![1, 2048]⟩
abbrev S4x1x2048 : Shape := ⟨3, ![4, 1, 2048]⟩
abbrev S8x16384 : Shape := ⟨2, ![8, 16384]⟩
abbrev S32x128 : Shape := ⟨2, ![32, 128]⟩
abbrev S512x2048 : Shape := ⟨2, ![512, 2048]⟩
abbrev S1x1x2048 : Shape := ⟨3, ![1, 1, 2048]⟩
abbrev S8x512 : Shape := ⟨2, ![8, 512]⟩
abbrev S32x1 : Shape := ⟨2, ![32, 1]⟩
abbrev S512 : Shape := ⟨1, ![512]⟩
abbrev S512x1 : Shape := ⟨2, ![512, 1]⟩
abbrev S128x512 : Shape := ⟨2, ![128, 512]⟩
abbrev S4x512 : Shape := ⟨2, ![4, 512]⟩
abbrev S1x512 : Shape := ⟨2, ![1, 512]⟩
abbrev S32x512 : Shape := ⟨2, ![32, 512]⟩
abbrev S512x512 : Shape := ⟨2, ![512, 512]⟩
abbrev S32 : Shape := ⟨1, ![32]⟩
abbrev S2x512 : Shape := ⟨2, ![2, 512]⟩
abbrev S4x16384 : Shape := ⟨2, ![4, 16384]⟩

abbrev nBuf : Space → Nat
  | .hbm => 12
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S128x2048, .f32⟩
  | .hbm, ⟨5, _⟩ => ⟨S128x1, .f32⟩
  | .hbm, ⟨6, _⟩ => ⟨S1x2048, .f32⟩
  | .hbm, ⟨7, _⟩ => ⟨S4x1x2048, .f32⟩
  | .hbm, ⟨8, _⟩ => ⟨S4x1x2048, .f32⟩
  | .hbm, ⟨9, _⟩ => ⟨S8x16384, .f32⟩
  | .hbm, ⟨10, _⟩ => ⟨S32x128, .f32⟩
  | .hbm, ⟨11, _⟩ => ⟨S4x16384, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S128x2048, .f32⟩
  | .local _ .vmem, ⟨8, _⟩ => ⟨S128x1, .f32⟩
  | .local _ .vmem, ⟨9, _⟩ => ⟨S8x512, .f32⟩
  | .local _ .vmem, ⟨10, _⟩ => ⟨S8x512, .f32⟩
  | .local _ .vmem, ⟨11, _⟩ => ⟨S32x128, .f32⟩
  | .local _ .vmem, ⟨12, _⟩ => ⟨S32x1, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RouterReferenceIdeal.lean ====
abbrev S16384x2048 : Shape := ⟨2, ![16384, 2048]⟩
abbrev S2048 : Shape := ⟨1, ![2048]⟩
abbrev S4x2048 : Shape := ⟨2, ![4, 2048]⟩
abbrev S128x2048 : Shape := ⟨2, ![128, 2048]⟩
abbrev S128x1 : Shape := ⟨2, ![128, 1]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S2048x4 : Shape := ⟨2, ![2048, 4]⟩
abbrev S16384x4 : Shape := ⟨2, ![16384, 4]⟩
abbrev S4x1 : Shape := ⟨2, ![4, 1]⟩
abbrev S4 : Shape := ⟨1, ![4]⟩
abbrev S1x4 : Shape := ⟨2, ![1, 4]⟩
abbrev S16384 : Shape := ⟨1, ![16384]⟩
abbrev S16384x1 : Shape := ⟨2, ![16384, 1]⟩
abbrev S32x2048 : Shape := ⟨2, ![32, 2048]⟩
abbrev S2048x32 : Shape := ⟨2, ![2048, 32]⟩
abbrev S16384x32 : Shape := ⟨2, ![16384, 32]⟩
abbrev S32x1 : Shape := ⟨2, ![32, 1]⟩
abbrev S32 : Shape := ⟨1, ![32]⟩
abbrev S1x32 : Shape := ⟨2, ![1, 32]⟩
abbrev S16384x4x8 : Shape := ⟨3, ![16384, 4, 8]⟩
abbrev S16384x1x1 : Shape := ⟨3, ![16384, 1, 1]⟩
abbrev S1x4x1 : Shape := ⟨3, ![1, 4, 1]⟩
abbrev S16384x4x1 : Shape := ⟨3, ![16384, 4, 1]⟩
abbrev S16384x8 : Shape := ⟨2, ![16384, 8]⟩
abbrev S16384x2 : Shape := ⟨2, ![16384, 2]⟩
abbrev S4x16384 : Shape := ⟨2, ![4, 16384]⟩

abbrev nBuf : Space → Nat
  | .hbm => 105
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S128x2048, .f32⟩
  | .hbm, ⟨5, _⟩ => ⟨S128x1, .f32⟩
  | .hbm, ⟨6, _⟩ => ⟨S4x4096x2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S4x1x2048, .f32⟩
  | .hbm, ⟨24, _⟩ => ⟨S_, .f32⟩
  | .hbm, ⟨25, _⟩ => ⟨S4x1x2048, .f32⟩
  | .hbm, ⟨26, _⟩ => ⟨S4x1x2048, .f32⟩
  | .hbm, ⟨27, _⟩ => ⟨S4x4096x2048, .f32⟩
  | .hbm, ⟨28, _⟩ => ⟨S4x4096x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S16384x2048, .f32⟩
  | .hbm, ⟨33, _⟩ => ⟨S4x2048, .f32⟩
  | .hbm, ⟨34, _⟩ => ⟨S2048x4, .f32⟩
  | .hbm, ⟨35, _⟩ => ⟨S16384x4, .f32⟩
  | .hbm, ⟨36, _⟩ => ⟨S4x1, .f32⟩
  | .hbm, ⟨37, _⟩ => ⟨S4, .f32⟩
  | .hbm, ⟨38, _⟩ => ⟨S1x4, .f32⟩
  | .hbm, ⟨39, _⟩ => ⟨S16384x4, .f32⟩
  | .hbm, ⟨40, _⟩ => ⟨S16384x4, .f32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384x1, .f32⟩
  | .hbm, ⟨47, _⟩ => ⟨S16384x4, .f32⟩
  | .hbm, ⟨48, _⟩ => ⟨S16384x4, .f32⟩
  | .hbm, ⟨49, _⟩ => ⟨S16384x4, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x4, .f32⟩
  | .hbm, ⟨54, _⟩ => ⟨S16384x4, .f32⟩
  | .hbm, ⟨55, _⟩ => ⟨S16384x1, .f32⟩
  | .hbm, ⟨56, _⟩ => ⟨S16384x1, .i32⟩
  | .hbm, ⟨57, _⟩ => ⟨S32x2048, .f32⟩
  | .hbm, ⟨58, _⟩ => ⟨S2048x32, .f32⟩
  | .hbm, ⟨59, _⟩ => ⟨S16384x32, .f32⟩
  | .hbm, ⟨60, _⟩ => ⟨S32x1, .f32⟩
  | .hbm, ⟨61, _⟩ => ⟨S32, .f32⟩
  | .hbm, ⟨62, _⟩ => ⟨S1x32, .f32⟩
  | .hbm, ⟨63, _⟩ => ⟨S16384x32, .f32⟩
  | .hbm, ⟨64, _⟩ => ⟨S16384x32, .f32⟩
  | .hbm, ⟨65, _⟩ => ⟨S16384x4x8, .f32⟩
  | .hbm, ⟨66, _⟩ => ⟨S16384x1x1, .i32⟩
  | .hbm, ⟨67, _⟩ => ⟨S4, .i32⟩
  | .hbm, ⟨68, _⟩ => ⟨S1x4x1, .i32⟩
  | .hbm, ⟨69, _⟩ => ⟨S16384x4x1, .i32⟩
  | .hbm, ⟨70, _⟩ => ⟨S16384x4x1, .i32⟩
  | .hbm, ⟨71, _⟩ => ⟨S16384x4x1, .i1⟩
  | .hbm, ⟨72, _⟩ => ⟨S_, .f32⟩
  | .hbm, ⟨73, _⟩ => ⟨S_, .f32⟩
  | .hbm, ⟨74, _⟩ => ⟨S16384x4x8, .i1⟩
  | .hbm, ⟨75, _⟩ => ⟨S16384x4x8, .f32⟩
  | .hbm, ⟨76, _⟩ => ⟨S16384x4x8, .f32⟩
  | .hbm, ⟨77, _⟩ => ⟨S_, .f32⟩
  | .hbm, ⟨78, _⟩ => ⟨S16384x8, .f32⟩
  | .hbm, ⟨79, _⟩ => ⟨S16384x2, .f32⟩
  | .hbm, ⟨80, _⟩ => ⟨S16384x2, .i32⟩
  | .hbm, ⟨81, _⟩ => ⟨S_, .f32⟩
  | .hbm, ⟨82, _⟩ => ⟨S16384, .f32⟩
  | .hbm, ⟨83, _⟩ => ⟨S_, .f32⟩
  | .hbm, ⟨84, _⟩ => ⟨S16384, .f32⟩
  | .hbm, ⟨85, _⟩ => ⟨S16384, .f32⟩
  | .hbm, ⟨86, _⟩ => ⟨S16384x1, .f32⟩
  | .hbm, ⟨87, _⟩ => ⟨S16384x2, .f32⟩
  | .hbm, ⟨88, _⟩ => ⟨S16384x2, .f32⟩
  | .hbm, ⟨89, _⟩ => ⟨S16384x2, .f32⟩
  | .hbm, ⟨90, _⟩ => ⟨S_, .f32⟩
  | .hbm, ⟨91, _⟩ => ⟨S16384, .f32⟩
  | .hbm, ⟨92, _⟩ => ⟨S16384x1, .f32⟩
  | .hbm, ⟨93, _⟩ => ⟨S16384x2, .f32⟩
  | .hbm, ⟨94, _⟩ => ⟨S16384x2, .f32⟩
  | .hbm, ⟨95, _⟩ => ⟨S16384x2, .f32⟩
  | .hbm, ⟨96, _⟩ => ⟨S16384x2, .f32⟩
  | .hbm, ⟨97, _⟩ => ⟨S_, .i32⟩
  | .hbm, ⟨98, _⟩ => ⟨S16384x1, .i32⟩
  | .hbm, ⟨99, _⟩ => ⟨S16384x1, .i32⟩
  | .hbm, ⟨100, _⟩ => ⟨S16384x2, .i32⟩
  | .hbm, ⟨101, _⟩ => ⟨S16384x2, .i32⟩
  | .hbm, ⟨102, _⟩ => ⟨S16384x2, .f32⟩
  | .hbm, ⟨103, _⟩ => ⟨S16384x4, .f32⟩
  | .hbm, ⟨104, _⟩ => ⟨S4x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_values : Ref sig .tc := ⟨.hbm, 55, rfl⟩
abbrev main_indices : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_v57 : Ref sig .tc := ⟨.hbm, 76, rfl⟩
abbrev main_cst_7 : Ref sig .tc := ⟨.hbm, 77, rfl⟩
abbrev main_v58 : Ref sig .tc := ⟨.hbm, 78, rfl⟩
abbrev main_values_8 : Ref sig .tc := ⟨.hbm, 79, rfl⟩
abbrev main_indices_9 : Ref sig .tc := ⟨.hbm, 80, rfl⟩
abbrev main_cst_10 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩

abbrev nD : Nat := 1
abbrev τ : Topo := Topo.v7x

variable {F : FTy → Type} [FloatOps F]
-- ==== Proof.Attn.Row.lean ====
/- One row of a softmax with a sink, over the extended reals: the quotient of the weighted sum by the sum of the
   weights equals the sum weighted by the quotients. -/
module

public import Idealize.ShloMosaic.PureOps.Ideal.Laws

@[expose] public section

noncomputable section

namespace Cert.Proof.Row

open Idealize.ShloMosaic

/-- The weights of a row: the exponentials of the scores less the row's maximum. -/
def rowMax {n : Nat} (s : Fin n → EReal) (sk : EReal) : EReal := max (Finset.univ.fold max ⊥ s) sk

/-- The sum of a row's weights, the sink's among them. -/
def rowDen {n : Nat} (s : Fin n → EReal) (sk : EReal) : EReal :=
  (∑ j, Ideal.exp (s j - rowMax s sk)) + Ideal.exp (sk - rowMax s sk)

/-- The row as one quotient: the values summed with their weights, over the sum of the weights. -/
def rowQuot {n : Nat} (s v : Fin n → EReal) (sk : EReal) : EReal :=
  Ideal.div (∑ j, Ideal.exp (s j - rowMax s sk) * v j) (rowDen s sk)

theorem fold_max_eq_sup {n : Nat} (s : Fin n → EReal) : Finset.univ.fold max ⊥ s = Finset.univ.sup s := rfl

theorem le_rowMax {n : Nat} (s : Fin n → EReal) (sk : EReal) (j : Fin n) : s j ≤ rowMax s sk :=
  le_max_of_le_left (Finset.le_sup (f := s) (Finset.mem_univ j))

theorem rowMax_ne_top {n : Nat} (s : Fin n → EReal) (sk : EReal) (hs : ∀ j, s j ≠ ⊤) (hk : sk ≠ ⊤) : rowMax s sk ≠ ⊤ := by
  unfold rowMax
  refine (max_lt ?_ (lt_top_iff_ne_top.mpr hk)).ne
  rw [fold_max_eq_sup]
  exact (Finset.sup_lt_iff (by exact bot_lt_top)).mpr fun j _ => lt_top_iff_ne_top.mpr (hs j)

theorem rowMax_ne_bot {n : Nat} (s : Fin n → EReal) (sk : EReal) (hk : sk ≠ ⊥) : rowMax s sk ≠ ⊥ := fun h =>
  hk (le_bot_iff.mp (h ▸ le_max_right _ sk))

theorem exp_nonneg (x : EReal) : 0 ≤ Ideal.exp x := by
  induction x with
  | bot => exact le_refl _
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem exp_pos {x : EReal} (h : x ≠ ⊥) : 0 < Ideal.exp x := by
  induction x with
  | bot => exact absurd rfl h
  | top => exact EReal.zero_lt_top
  | coe r => exact EReal.coe_pos.mpr (Real.exp_pos r)

theorem sub_ne_top {x y : EReal} (hx : x ≠ ⊤) (hy : y ≠ ⊥) : x - y ≠ ⊤ := by
  rw [sub_eq_add_neg]
  exact EReal.add_ne_top hx (fun h => hy (EReal.neg_eq_top_iff.mp h))

theorem sub_ne_bot {x y : EReal} (hx : x ≠ ⊥) (hy : y ≠ ⊤) : x - y ≠ ⊥ := by
  rw [sub_eq_add_neg]
  intro h
  rcases EReal.add_eq_bot_iff.mp h with h | h
  · exact hx h
  · exact hy (EReal.neg_eq_bot_iff.mp h)

theorem sum_ne_top {ι : Type*} (t : Finset ι) (f : ι → EReal) (h : ∀ i ∈ t, f i ≠ ⊤) : ∑ i ∈ t, f i ≠ ⊤ := by
  induction t using Finset.cons_induction with
  | empty => simp
  | cons a t ha ih =>
    rw [Finset.sum_cons]
    exact EReal.add_ne_top (h a (Finset.mem_cons_self a t)) (ih fun i hi => h i (Finset.mem_cons_of_mem hi))

theorem rowDen_pos {n : Nat} (s : Fin n → EReal) (sk : EReal) (hs : ∀ j, s j ≠ ⊤) (hk : sk ≠ ⊤) (hk' : sk ≠ ⊥) :
    0 < rowDen s sk := by
  refine lt_of_lt_of_le (exp_pos (sub_ne_bot hk' (rowMax_ne_top s sk hs hk))) ?_
  exact le_add_of_nonneg_left (Finset.sum_nonneg fun j _ => exp_nonneg _)

theorem rowDen_ne_top {n : Nat} (s : Fin n → EReal) (sk : EReal) (hs : ∀ j, s j ≠ ⊤) (hk : sk ≠ ⊤) (hk' : sk ≠ ⊥) :
    rowDen s sk ≠ ⊤ := by
  have hb := rowMax_ne_bot s sk hk'
  exact EReal.add_ne_top (sum_ne_top _ _ fun j _ => exp_ne_top (sub_ne_top (hs j) hb)) (exp_ne_top (sub_ne_top hk hb))

/-- A sum times a finite number that is not negative is the sum of the products. -/
theorem sum_mul {ι : Type*} (t : Finset ι) (f : ι → EReal) (c : EReal) (h0 : 0 ≤ c) (h1 : c ≠ ⊤) :
    (∑ i ∈ t, f i) * c = ∑ i ∈ t, f i * c := by
  induction t using Finset.cons_induction with
  | empty => simp
  | cons a t ha ih =>
    rw [Finset.sum_cons, Finset.sum_cons, EReal.right_distrib_of_nonneg_of_ne_top h0 h1, ih]

/-- A row's quotient is the sum of the values weighted by the quotients. -/
theorem rowQuot_eq {n : Nat} (s v : Fin n → EReal) (sk : EReal) (hs : ∀ j, s j ≠ ⊤) (hk : sk ≠ ⊤) (hk' : sk ≠ ⊥) :
    rowQuot s v sk = ∑ j, v j * Ideal.div (Ideal.exp (s j - rowMax s sk)) (rowDen s sk) := by
  have h0 := rowDen_pos s sk hs hk hk'
  have h1 := rowDen_ne_top s sk hs hk hk'
  unfold rowQuot Ideal.div
  rw [if_neg h0.ne', sum_mul]
  · refine Finset.sum_congr rfl fun j _ => ?_
    rw [if_neg h0.ne', mul_right_comm, mul_comm]
  · exact EReal.inv_nonneg_of_nonneg h0.le
  · intro h
    have h2 : (rowDen s sk)⁻¹ ≠ ⊤ := by
      induction hd : rowDen s sk with
      | bot => simp
      | top => simp
      | coe r => rw [← EReal.coe_inv]; exact EReal.coe_ne_top _
    exact h2 h

/-- The same row stated over the scores with the sink joined at the end. -/
theorem rowMax_join {n : Nat} (c : Fin (n + 1) → EReal) :
    max ⊥ (Finset.univ.fold max ⊥ c) = rowMax (fun j : Fin n => c j.castSucc) (c (Fin.last n)) := by
  rw [max_eq_right bot_le]
  unfold rowMax
  rw [fold_max_eq_sup, fold_max_eq_sup]
  apply le_antisymm
  · refine Finset.sup_le fun k _ => ?_
    induction k using Fin.lastCases with
    | last => exact le_max_right _ _
    | cast j => exact le_max_of_le_left (Finset.le_sup (f := fun j : Fin n => c j.castSucc) (Finset.mem_univ j))
  · exact max_le (Finset.sup_le fun j _ => Finset.le_sup (f := c) (Finset.mem_univ _)) (Finset.le_sup (f := c) (Finset.mem_univ _))

theorem rowDen_join {n : Nat} (c : Fin (n + 1) → EReal) :
    0 + ∑ k, Ideal.exp (c k - rowMax (fun j : Fin n => c j.castSucc) (c (Fin.last n)))
      = rowDen (fun j : Fin n => c j.castSucc) (c (Fin.last n)) := by
  rw [zero_add, Fin.sum_univ_castSucc]; rfl

/-- A finite factor that is not negative comes out of a sum of products. -/
theorem scale_sum {ι : Type*} (t : Finset ι) (f g : ι → EReal) (c : EReal) (h0 : 0 ≤ c) (h1 : c ≠ ⊤) :
    ∑ i ∈ t, (f i * c) * g i = (∑ i ∈ t, g i * f i) * c := by
  rw [sum_mul t _ c h0 h1]
  exact Finset.sum_congr rfl fun i _ => by rw [mul_right_comm, mul_comm (f i)]

theorem ofBits_negInf_f32 : Ideal.ofBits .f32 0xFF800000#32 = ⊥ := by simp [Ideal.ofBits, Ideal.ieee]

theorem ofBits_inf_f32 : Ideal.ofBits .f32 0x7F800000#32 = ⊤ := by simp [Ideal.ofBits, Ideal.ieee]

theorem ofBits_one_f32 : Ideal.ofBits .f32 0x3F800000#32 = 1 := by
  simp [Ideal.ofBits, Ideal.ieee]
  rw [← EReal.coe_mul, ← EReal.coe_one]
  norm_num

theorem ofBits_eighth_f32 : Ideal.ofBits .f32 0x3E000000#32 = ((1 / 8 : ℝ) : EReal) := by
  simp [Ideal.ofBits, Ideal.ieee]
  rw [← EReal.coe_mul]
  norm_num

theorem eighth_nonneg : (0 : EReal) ≤ Ideal.ofBits .f32 0x3E000000#32 := by
  rw [ofBits_eighth_f32]
  exact EReal.coe_nonneg.mpr (by norm_num)

theorem eighth_ne_top : Ideal.ofBits .f32 0x3E000000#32 ≠ ⊤ := by
  rw [ofBits_eighth_f32]
  exact EReal.coe_ne_top _

end Cert.Proof.Row

end
-- ==== Proof.Attn.Head.lean ====
/- One head of the kernel's attention, read at a row and a column: the row's quotient over the masked scores. -/
module

public import proofs.«01_k».proof.Proof.Gen.KernelIdeal.Skeleton
public import proofs.«01_k».proof.Proof.Attn.Row
public import Idealize.ShloMosaic.Lib.MatmulPlain
public import Idealize.ShloMosaic.Lib.Pipeline.Value
public import Idealize.ShloMosaic.Lib.ValueIdx

@[expose] public section

noncomputable section

namespace Cert.Proof.Head

open Idealize.ShloMosaic Idealize.ShloMosaic.ValueIdx Cert.KernelIdeal Cert.KernelIdeal.Gen Cert.Proof.Row

/-- The masked scores of one head. -/
def scores (q : FVec Ideal S128x64 .bf16) (k : FVec Ideal S256x64 .bf16) (b : IVec S128x256 1) : FVec Ideal S128x256 .f32 :=
  select b (matmul dot_S128x64_S256x64_S128x256_1_1_0_0_n_n none q k (constant S128x256 .f32 0x00000000#32))
    (broadcast S128x256 (Named.named (F := Ideal) κ (φ := .f32) "mask" 0xF149F2CA#32))

/-- The maximum of each row and the sink, as a column. -/
def top (s : FVec Ideal S128x256 .f32) (z : Elt Ideal .f32) : FVec Ideal S128x1 .f32 :=
  maximumf (shapeCast S128x1 (multiReduction .maximumf [1] S128 s 0xFF800000#32 reduces_S128x256_S128 (.inl rfl) rfl)
    shapeCasts_S128_S128x1) (broadcast S128x1 z)

/-- The weights. -/
def weights (s : FVec Ideal S128x256 .f32) (z : Elt Ideal .f32) : FVec Ideal S128x256 .f32 :=
  exp (subf s (broadcastTo S128x256 (top s z) broadcasts_S128x1_S128x256))

/-- The sum of each row's weights and the sink's, as a column. -/
def total (s : FVec Ideal S128x256 .f32) (z : Elt Ideal .f32) : FVec Ideal S128x1 .f32 :=
  addf (shapeCast S128x1 (multiReduction .add [1] S128 (weights s z) 0x00000000#32 reduces_S128x256_S128 (.inl rfl) rfl)
    shapeCasts_S128_S128x1) (exp (subf (broadcast S128x1 z) (top s z)))

/-- One head of the output. -/
def out (s : FVec Ideal S128x256 .f32) (v : FVec Ideal S256x64 .bf16) (z : Elt Ideal .f32) : FVec Ideal S128x64 .f32 :=
  divf (matmul dot_S128x256_S256x64_S128x64_1_0_0_1_n_n none (truncf .bf16 (weights s z) bitsLt_bf16_f32) v
    (constant S128x64 .f32 0x00000000#32)) (broadcastTo S128x64 (total s z) broadcasts_S128x1_S128x64)

theorem dot_scores : dot_S128x64_S256x64_S128x256_1_1_0_0_n_n = DotDims.transposedRhs 128 64 256 := rfl
theorem dot_out : dot_S128x256_S256x64_S128x64_1_0_0_1_n_n = DotDims.plain 128 256 64 := rfl

theorem mask_value : Named.named (F := Ideal) κ (φ := .f32) "mask" 0xF149F2CA#32 = (⊥ : EReal) :=
  IdealRules.named_const.ideal_named_scalar _ _ _ _ rfl

theorem scores_apply (q : FVec Ideal S128x64 .bf16) (k : FVec Ideal S256x64 .bf16) (b : IVec S128x256 1) (r : Fin 128) (j : Fin 256) :
    scores q k b (ix2 r j) = if b (ix2 r j) = 1#1 then ∑ c : Fin 64, q (ix2 r c) * k (ix2 j c) else ⊥ := by
  unfold scores
  show (if b (ix2 r j) = 1#1 then _ else _) = _
  refine if_congr Iff.rfl ?_ ?_
  · simp only [matmul]
    rw [dot_scores, Ideal.matmul_transposedRhs_apply, constant_apply, Ideal.ofBits_zero_f32, zero_add]
  · exact mask_value

theorem lift_row (r : Fin 128) (j : Fin 256) : reduces_S128x256_S128.lift (ix1 r) j = ix2 r j := by
  funext a; apply Fin.ext
  match a with
  | ⟨0, _⟩ => rfl
  | ⟨1, _⟩ => rfl

theorem column (x : FVec Ideal S128 .f32) (r : Fin 128) : shapeCast S128x1 x shapeCasts_S128_S128x1 (ix2 r 0) = x (ix1 r) := by
  refine shapeCast_apply x shapeCasts_S128_S128x1 (ix2 r 0) (ix1 r) ?_
  rw [Shape.rowMajor_val_two, Shape.rowMajor_val_one]
  show r.val = r.val * 1 + 0
  omega

theorem spread256 (x : FVec Ideal S128x1 .f32) (r : Fin 128) (j : Fin 256) :
    broadcastTo S128x256 x broadcasts_S128x1_S128x256 (ix2 r j) = x (ix2 r 0) := by
  refine broadcastTo_apply x broadcasts_S128x1_S128x256 (ix2 r j) (ix2 r 0) fun a => ?_
  match a with
  | ⟨0, _⟩ => rfl
  | ⟨1, _⟩ => rfl

theorem spread64 (x : FVec Ideal S128x1 .f32) (r : Fin 128) (j : Fin 64) :
    broadcastTo S128x64 x broadcasts_S128x1_S128x64 (ix2 r j) = x (ix2 r 0) := by
  refine broadcastTo_apply x broadcasts_S128x1_S128x64 (ix2 r j) (ix2 r 0) fun a => ?_
  match a with
  | ⟨0, _⟩ => rfl
  | ⟨1, _⟩ => rfl

theorem top_apply (s : FVec Ideal S128x256 .f32) (z : Elt Ideal .f32) (r : Fin 128) :
    top s z (ix2 r 0) = rowMax (fun j => s (ix2 r j)) z := by
  unfold top rowMax
  rw [maximumf_apply, column]
  refine congrArg₂ max ((Ideal.multiReduction_maximumf_single s _ reduces_S128x256_S128 _ _ (ix1 r)).trans ?_) rfl
  show Finset.univ.fold max (Ideal.ofBits .f32 0xFF800000#32) _ = _
  rw [ofBits_negInf_f32]
  refine congrArg (fun f => Finset.univ.fold max ⊥ f) (funext fun j => ?_)
  exact congrArg s (lift_row r j)

theorem weights_apply (s : FVec Ideal S128x256 .f32) (z : Elt Ideal .f32) (r : Fin 128) (j : Fin 256) :
    weights s z (ix2 r j) = Ideal.exp (s (ix2 r j) - rowMax (fun j => s (ix2 r j)) z) := by
  unfold weights
  show Ideal.exp (s (ix2 r j) - broadcastTo S128x256 (top s z) broadcasts_S128x1_S128x256 (ix2 r j)) = _
  rw [spread256, top_apply]

theorem total_apply (s : FVec Ideal S128x256 .f32) (z : Elt Ideal .f32) (r : Fin 128) :
    total s z (ix2 r 0) = rowDen (fun j => s (ix2 r j)) z := by
  unfold total rowDen
  rw [addf_apply, column]
  refine congrArg₂ (· + ·) ((Ideal.multiReduction_add_single _ _ reduces_S128x256_S128 _ _ (ix1 r)).trans ?_) ?_
  · refine Finset.sum_congr rfl fun j _ => ?_
    exact (congrArg (weights s z) (lift_row r j)).trans (weights_apply s z r j)
  · show Ideal.exp (z - top s z (ix2 r 0)) = _
    rw [top_apply]

/-- A head at row `r` and column `c`. -/
theorem out_apply (s : FVec Ideal S128x256 .f32) (v : FVec Ideal S256x64 .bf16) (z : Elt Ideal .f32) (r : Fin 128) (c : Fin 64) :
    out s v z (ix2 r c) = rowQuot (fun j => s (ix2 r j)) (fun j => v (ix2 j c)) z := by
  unfold out rowQuot
  rw [divf_apply, spread64, total_apply]
  refine congrArg (fun x => Ideal.div x _) ?_
  simp only [matmul]
  rw [dot_out, Ideal.matmul_plain_apply, constant_apply, Ideal.ofBits_zero_f32, zero_add]
  refine Finset.sum_congr rfl fun j _ => ?_
  rw [truncf_apply, weights_apply]

end Cert.Proof.Head

end
-- ==== Proof.Attn.Payload.lean ====
/- What the body of the attention's kernel stores, as one function of its blocks: the sixteen heads side by side. -/
module

public import proofs.«01_k».proof.Proof.Gen.KernelIdeal.Value
public import proofs.«01_k».proof.Proof.Attn.Head

@[expose] public section

noncomputable section

namespace Cert.Proof.Payload

open Idealize.ShloMosaic Idealize.ShloMosaic.ValueIdx Idealize.ShloMosaic.TcCoe Idealize.SL.Sem Cert.KernelIdeal Cert.KernelIdeal.Gen

section AnyValues

variable {F : FTy → Type} [FloatOps F] [Named F]

/-- The current block's keys, turned by their positions. -/
def p63 (x2 : Vec F S128x128 .bf16) (x6 x7 : Vec F S128x128 .f32) : FVec F S128x128 .bf16 :=
  k0_pay5 (k0_pay1 x6) (k0_pay2 x7) (k0_pay4 x2) (iota .tc S128x128 32 [1] iota_S128x128_d1_w32) 64#32

/-- The keys of the previous block and of the current one. -/
def p96 (x2 x3 : Vec F S128x128 .bf16) (x6 x7 x8 x9 : Vec F S128x128 .f32) : FVec F S256x128 .bf16 :=
  k0_pay12 (p63 x2 x6 x7) (k0_pay6 x3) (k0_pay7 x8) (k0_pay8 x9) (Scalar.select (Scalar.cmpi .eq 64#32 0#32) 1#32 64#32) k0_pay9
    k0_pay10 k0_pay11 0#32

/-- Head 0, as the body computes it. -/
def head0 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay19 (k0_pay15 x5 x4) (k0_pay16 n (k0_pay3 x6 x7 x1) (p63 x2 x6 x7) (k0_pay6 x3) (k0_pay7 x8) (k0_pay8 x9) (Scalar.select (Scalar.cmpi .eq 64#32 0#32) 1#32 64#32) k0_pay9 k0_pay10 k0_pay11 0#32) (z 0) (k0_pay17 n (k0_pay3 x6 x7 x1) (p63 x2 x6 x7) (k0_pay6 x3) (k0_pay7 x8) (k0_pay8 x9) (Scalar.select (Scalar.cmpi .eq 64#32 0#32) 1#32 64#32) k0_pay9 k0_pay10 k0_pay11 0#32 (z 0)) (k0_pay18 n (k0_pay3 x6 x7 x1) (p63 x2 x6 x7) (k0_pay6 x3) (k0_pay7 x8) (k0_pay8 x9) (Scalar.select (Scalar.cmpi .eq 64#32 0#32) 1#32 64#32) k0_pay9 k0_pay10 k0_pay11 0#32 (z 0))

/-- Head 1, as the body computes it. -/
def head1 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay20 (k0_pay3 x6 x7 x1) (p96 x2 x3 x6 x7 x8 x9) (k0_pay13 x5 x4) (k0_pay14 n) (z 1)

/-- Head 2, as the body computes it. -/
def head2 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay25 (k0_pay21 (k0_pay13 x5 x4)) (k0_pay22 (k0_pay3 x6 x7 x1) (p96 x2 x3 x6 x7 x8 x9) (k0_pay14 n)) (z 2) (k0_pay23 (k0_pay3 x6 x7 x1) (p96 x2 x3 x6 x7 x8 x9) (k0_pay14 n) (z 2)) (k0_pay24 (k0_pay3 x6 x7 x1) (p96 x2 x3 x6 x7 x8 x9) (k0_pay14 n) (z 2))

/-- Head 3, as the body computes it. -/
def head3 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay26 (k0_pay3 x6 x7 x1) (p96 x2 x3 x6 x7 x8 x9) (k0_pay13 x5 x4) (k0_pay14 n) (z 3)

/-- Head 4, as the body computes it. -/
def head4 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay31 (k0_pay27 (k0_pay13 x5 x4)) (k0_pay28 (k0_pay3 x6 x7 x1) (p96 x2 x3 x6 x7 x8 x9) (k0_pay14 n)) (z 4) (k0_pay29 (k0_pay3 x6 x7 x1) (p96 x2 x3 x6 x7 x8 x9) (k0_pay14 n) (z 4)) (k0_pay30 (k0_pay3 x6 x7 x1) (p96 x2 x3 x6 x7 x8 x9) (k0_pay14 n) (z 4))

/-- Head 5, as the body computes it. -/
def head5 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay32 (k0_pay3 x6 x7 x1) (p96 x2 x3 x6 x7 x8 x9) (k0_pay13 x5 x4) (k0_pay14 n) (z 5)

/-- Head 6, as the body computes it. -/
def head6 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay37 (k0_pay33 (k0_pay13 x5 x4)) (k0_pay34 (k0_pay3 x6 x7 x1) (p96 x2 x3 x6 x7 x8 x9) (k0_pay14 n)) (z 6) (k0_pay35 (k0_pay3 x6 x7 x1) (p96 x2 x3 x6 x7 x8 x9) (k0_pay14 n) (z 6)) (k0_pay36 (k0_pay3 x6 x7 x1) (p96 x2 x3 x6 x7 x8 x9) (k0_pay14 n) (z 6))

/-- Head 7, as the body computes it. -/
def head7 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay38 (k0_pay3 x6 x7 x1) (p96 x2 x3 x6 x7 x8 x9) (k0_pay13 x5 x4) (k0_pay14 n) (z 7)

/-- Head 8, as the body computes it. -/
def head8 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay43 (k0_pay39 (k0_pay13 x5 x4)) (k0_pay40 (k0_pay3 x6 x7 x1) (p96 x2 x3 x6 x7 x8 x9) (k0_pay14 n)) (z 8) (k0_pay41 (k0_pay3 x6 x7 x1) (p96 x2 x3 x6 x7 x8 x9) (k0_pay14 n) (z 8)) (k0_pay42 (k0_pay3 x6 x7 x1) (p96 x2 x3 x6 x7 x8 x9) (k0_pay14 n) (z 8))

/-- Head 9, as the body computes it. -/
def head9 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay44 (k0_pay3 x6 x7 x1) (p96 x2 x3 x6 x7 x8 x9) (k0_pay13 x5 x4) (k0_pay14 n) (z 9)

/-- Head 10, as the body computes it. -/
def head10 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay49 (k0_pay45 (k0_pay13 x5 x4)) (k0_pay46 (k0_pay3 x6 x7 x1) (p96 x2 x3 x6 x7 x8 x9) (k0_pay14 n)) (z 10) (k0_pay47 (k0_pay3 x6 x7 x1) (p96 x2 x3 x6 x7 x8 x9) (k0_pay14 n) (z 10)) (k0_pay48 (k0_pay3 x6 x7 x1) (p96 x2 x3 x6 x7 x8 x9) (k0_pay14 n) (z 10))

/-- Head 11, as the body computes it. -/
def head11 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay50 (k0_pay3 x6 x7 x1) (p96 x2 x3 x6 x7 x8 x9) (k0_pay13 x5 x4) (k0_pay14 n) (z 11)

/-- Head 12, as the body computes it. -/
def head12 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay55 (k0_pay51 (k0_pay13 x5 x4)) (k0_pay52 (k0_pay3 x6 x7 x1) (p96 x2 x3 x6 x7 x8 x9) (k0_pay14 n)) (z 12) (k0_pay53 (k0_pay3 x6 x7 x1) (p96 x2 x3 x6 x7 x8 x9) (k0_pay14 n) (z 12)) (k0_pay54 (k0_pay3 x6 x7 x1) (p96 x2 x3 x6 x7 x8 x9) (k0_pay14 n) (z 12))

/-- Head 13, as the body computes it. -/
def head13 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay56 (k0_pay3 x6 x7 x1) (p96 x2 x3 x6 x7 x8 x9) (k0_pay13 x5 x4) (k0_pay14 n) (z 13)

/-- Head 14, as the body computes it. -/
def head14 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay61 (k0_pay57 (k0_pay13 x5 x4)) (k0_pay58 (k0_pay3 x6 x7 x1) (p96 x2 x3 x6 x7 x8 x9) (k0_pay14 n)) (z 14) (k0_pay59 (k0_pay3 x6 x7 x1) (p96 x2 x3 x6 x7 x8 x9) (k0_pay14 n) (z 14)) (k0_pay60 (k0_pay3 x6 x7 x1) (p96 x2 x3 x6 x7 x8 x9) (k0_pay14 n) (z 14))

/-- Head 15, as the body computes it. -/
def head15 (n : BitVec 32) (z : Fin 16 → Elt F .f32) (x1 : Vec F S128x1024 .bf16) (x2 x3 x4 x5 : Vec F S128x128 .bf16) (x6 x7 x8 x9 : Vec F S128x128 .f32) : FVec F S128x64 .f32 :=
  k0_pay66 (z 15) (k0_pay63 (k0_pay3 x6 x7 x1) (p96 x2 x3 x6 x7 x8 x9) (k0_pay14 n) (z 15)) (k0_pay64 (k0_pay3 x6 x7 x1) (p96 x2 x3 x6 x7 x8 x9) (k0_pay14 n) (k0_pay63 (k0_pay3 x6 x7 x1) (p96 x2 x3 x6 x7 x8 x9) (k0_pay14 n) (z 15))) (k0_pay65 (k0_pay13 x5 x4) (k0_pay64 (k0_pay3 x6 x7 x1) (p96 x2 x3 x6 x7 x8 x9) (k0_pay14 n) (k0_pay63 (k0_pay3 x6 x7 x1) (p96 x2 x3 x6 x7 x8 x9) (k0_pay14 n) (z 15))))

/-- The stored block. -/
def stored (n : BitVec 32) (z : Fin 16 → Elt F .f32) (x1 : Vec F S128x1024 .bf16) (x2 x3 x4 x5 : Vec F S128x128 .bf16) (x6 x7 x8 x9 : Vec F S128x128 .f32) : FVec F S128x1024 .bf16 :=
  k0_pay67 (head0 n z x1 x2 x3 x4 x5 x6 x7 x8 x9) (head1 n z x1 x2 x3 x4 x5 x6 x7 x8 x9) (head2 n z x1 x2 x3 x4 x5 x6 x7 x8 x9) (head3 n z x1 x2 x3 x4 x5 x6 x7 x8 x9) (head4 n z x1 x2 x3 x4 x5 x6 x7 x8 x9) (head5 n z x1 x2 x3 x4 x5 x6 x7 x8 x9) (head6 n z x1 x2 x3 x4 x5 x6 x7 x8 x9) (head7 n z x1 x2 x3 x4 x5 x6 x7 x8 x9) (head8 n z x1 x2 x3 x4 x5 x6 x7 x8 x9) (head9 n z x1 x2 x3 x4 x5 x6 x7 x8 x9) (head10 n z x1 x2 x3 x4 x5 x6 x7 x8 x9) (head11 n z x1 x2 x3 x4 x5 x6 x7 x8 x9) (head12 n z x1 x2 x3 x4 x5 x6 x7 x8 x9) (head13 n z x1 x2 x3 x4 x5 x6 x7 x8 x9) (head14 n z x1 x2 x3 x4 x5 x6 x7 x8 x9) (head15 n z x1 x2 x3 x4 x5 x6 x7 x8 x9)

theorem hz : (![0, 0] : Fin 2 → Nat) = fun _ => 0 := funext fun a => by fin_cases a <;> rfl

theorem sink_inb (h : Fin 16) : ∀ a : Fin S16.rank, (![h.val] : Fin 1 → Nat) a + S1.size a ≤ S16.size a := fun a => by
  match a with
  | ⟨0, _⟩ => show h.val + 1 ≤ 16; omega

/-- A load of the whole of a block reads the block. -/
theorem whole_a {e : EltTy} (a : Memref sig .tc .vmem S128x128 e) (h : a.IsWhole) (x : Vec F S128x128 e) :
    View.readAt (Elt F) a.view (Rect.unit (s := S128x128) ![0, 0] S128x128.size inb_S128x128_S128x128_0_0).toLoadRect (h.unread x) = x := by
  rw [View.readAt_eq_ld, h.read_unread, View.ld_unit_zero hz]

/-- A load of the whole of a block reads the block. -/
theorem whole_q {e : EltTy} (a : Memref sig .tc .vmem S128x1024 e) (h : a.IsWhole) (x : Vec F S128x1024 e) :
    View.readAt (Elt F) a.view (Rect.unit (s := S128x1024) ![0, 0] S128x1024.size inb_S128x1024_S128x1024_0_0).toLoadRect (h.unread x) = x := by
  rw [View.readAt_eq_ld, h.read_unread, View.ld_unit_zero hz]

/-- A load of one sink reads it. -/
theorem one_sink (a : Memref sig .tc .smem S16 .f32) (ha : a.IsWhole) (x : Vec F S16 .f32) (h : Fin 16) (y : _) :
    View.readAt (Elt F) a.view (Rect.unit (s := S16) ![h.val] S1.size (sink_inb h)).toLoadRect (ha.unread x) y = x (ix1 h) := by
  rw [View.readAt_eq_ld, ha.read_unread]
  exact congrArg x (funext fun a => by
    match a with
    | ⟨0, _⟩ =>
      apply Fin.ext
      show h.val + 1 * (y 0).val = h.val
      have : (y 0).val < 1 := (y 0).isLt
      omega)

/-- What one grid point leaves in the output's block is `stored` of the contents of its blocks and the sixteen sinks. -/
theorem out_eq (c : Dev nD) (i : grid0.Coords) (arg2 : Memref sig .tc .smem S16 .f32) (h2 : arg2.IsWhole) (arg3 : Memref sig .tc .vmem S128x1024 .bf16) (h3 : arg3.IsWhole) (arg4 : Memref sig .tc .vmem S128x128 .bf16) (h4 : arg4.IsWhole) (arg5 : Memref sig .tc .vmem S128x128 .bf16) (h5 : arg5.IsWhole) (arg6 : Memref sig .tc .vmem S128x128 .bf16) (h6 : arg6.IsWhole) (arg7 : Memref sig .tc .vmem S128x128 .bf16) (h7 : arg7.IsWhole) (arg8 : Memref sig .tc .vmem S128x128 .f32) (h8 : arg8.IsWhole) (arg9 : Memref sig .tc .vmem S128x128 .f32) (h9 : arg9.IsWhole) (arg10 : Memref sig .tc .vmem S128x128 .f32) (h10 : arg10.IsWhole) (arg11 : Memref sig .tc .vmem S128x128 .f32) (h11 : arg11.IsWhole) (arg12 : Memref sig .tc .vmem S128x1024 .bf16) (h12 : arg12.IsWhole)
    (x0 : Vec F S16 .f32) (x1 : Vec F S128x1024 .bf16) (x2 x3 x4 x5 : Vec F S128x128 .bf16) (x6 x7 x8 x9 : Vec F S128x128 .f32) :
    out0_A_10 c i arg2 h2 arg3 h3 arg4 h4 arg5 h5 arg6 h6 arg7 h7 arg8 h8 arg9 h9 arg10 h10 arg11 h11 arg12 h12 x0 x1 x2 x3 x4 x5 x6 x7 x8 x9
      = stored (BitVec.ofNat 32 (i 1).val) (fun h => x0 (ix1 h)) x1 x2 x3 x4 x5 x6 x7 x8 x9 := by
  unfold out0_A_10
  rw [View.read_writes_junk_eq_canon]
  show View.canon ([⟨Rect.unit ![0, 0] S128x1024.size inb_S128x1024_S128x1024_0_0,
      stored (BitVec.ofNat 32 (i 1).val)
        (fun h => View.readAt (Elt F) arg2.view (Rect.unit (s := S16) ![h.val] S1.size (sink_inb h)).toLoadRect (h2.unread x0)
          (Shape.Idx.first (numel1_S1.symm ▸ Nat.one_pos)))
        (View.readAt (Elt F) arg3.view (Rect.unit (s := S128x1024) ![0, 0] S128x1024.size inb_S128x1024_S128x1024_0_0).toLoadRect (h3.unread x1)) (View.readAt (Elt F) arg4.view (Rect.unit (s := S128x128) ![0, 0] S128x128.size inb_S128x128_S128x128_0_0).toLoadRect (h4.unread x2)) (View.readAt (Elt F) arg5.view (Rect.unit (s := S128x128) ![0, 0] S128x128.size inb_S128x128_S128x128_0_0).toLoadRect (h5.unread x3)) (View.readAt (Elt F) arg6.view (Rect.unit (s := S128x128) ![0, 0] S128x128.size inb_S128x128_S128x128_0_0).toLoadRect (h6.unread x4)) (View.readAt (Elt F) arg7.view (Rect.unit (s := S128x128) ![0, 0] S128x128.size inb_S128x128_S128x128_0_0).toLoadRect (h7.unread x5)) (View.readAt (Elt F) arg8.view (Rect.unit (s := S128x128) ![0, 0] S128x128.size inb_S128x128_S128x128_0_0).toLoadRect (h8.unread x6)) (View.readAt (Elt F) arg9.view (Rect.unit (s := S128x128) ![0, 0] S128x128.size inb_S128x128_S128x128_0_0).toLoadRect (h9.unread x7)) (View.readAt (Elt F) arg10.view (Rect.unit (s := S128x128) ![0, 0] S128x128.size inb_S128x128_S128x128_0_0).toLoadRect (h10.unread x8)) (View.readAt (Elt F) arg11.view (Rect.unit (s := S128x128) ![0, 0] S128x128.size inb_S128x128_S128x128_0_0).toLoadRect (h11.unread x9))⟩] :
      List (View.Piece (Elt F) S128x1024 .bf16)) = _
  rw [View.canon_unit_zero hz]
  rw [whole_q arg3 h3, whole_a arg4 h4, whole_a arg5 h5, whole_a arg6 h6, whole_a arg7 h7, whole_a arg8 h8, whole_a arg9 h9, whole_a arg10 h10, whole_a arg11 h11]
  exact congrArg (fun z => stored (BitVec.ofNat 32 (i 1).val) z x1 x2 x3 x4 x5 x6 x7 x8 x9) (funext fun h => one_sink arg2 h2 x0 h _)

end AnyValues

end Cert.Proof.Payload

end
-- ==== Proof.Attn.Rope.lean ====
/- The rotary embedding in the attention's kernel, read at a row and a lane: with the tables in the kernel's arrangement it
   turns the first eight coordinates of a head against the next eight and leaves the others. -/
module

public import proofs.«01_k».proof.Proof.Attn.Payload
public import Idealize.ShloMosaic.Lib.KernelVsHost

@[expose] public section

noncomputable section

namespace Cert.Proof.Rope

open Idealize.ShloMosaic Idealize.ShloMosaic.ValueIdx Cert.KernelIdeal Cert.KernelIdeal.Gen Cert.Proof.Row Cert.Proof.Payload

/-- One head's coordinates turned by the angles of its position. -/
def turned (x : Fin 64 → EReal) (cs sn : Fin 8 → EReal) (c : Fin 64) : EReal :=
  if h : c.val < 8 then x c * cs ⟨c.val, h⟩ - x ⟨c.val + 8, by omega⟩ * sn ⟨c.val, h⟩
  else if h' : c.val < 16 then x c * cs ⟨c.val - 8, by omega⟩ + x ⟨c.val - 8, by omega⟩ * sn ⟨c.val - 8, by omega⟩
  else x c

/-- The kernel's arrangement of the cosines over a head's lanes. -/
def tabCos (cs : Fin 8 → EReal) (c : Fin 64) : EReal :=
  if h : c.val < 8 then cs ⟨c.val, h⟩ else if h' : c.val < 16 then cs ⟨c.val - 8, by omega⟩ else 1

/-- The kernel's arrangement of the sines over a head's lanes. -/
def tabSin (sn : Fin 8 → EReal) (c : Fin 64) : EReal :=
  if h : c.val < 8 then -sn ⟨c.val, h⟩ else if h' : c.val < 16 then sn ⟨c.val - 8, by omega⟩ else 0

/-- With the tables so arranged, a lane times its cosine plus its partner times its sine is the turned coordinate. -/
theorem turned_eq (x : Fin 64 → EReal) (cs sn : Fin 8 → EReal) (c : Fin 64) (p : EReal)
    (h1 : ∀ h : c.val < 8, p = x ⟨c.val + 8, by omega⟩)
    (h2 : ¬c.val < 8 → c.val < 16 → p = x ⟨c.val - 8, by omega⟩) :
    x c * tabCos cs c + p * tabSin sn c = turned x cs sn c := by
  unfold tabCos tabSin turned
  by_cases a : c.val < 8
  · rw [dif_pos a, dif_pos a, dif_pos a, h1 a, mul_neg, sub_eq_add_neg]
  · rw [dif_neg a, dif_neg a, dif_neg a]
    by_cases b : c.val < 16
    · rw [dif_pos b, dif_pos b, dif_pos b, h2 a b]
    · rw [dif_neg b, dif_neg b, dif_neg b, mul_one, mul_zero, add_zero]

/-- Whether a lane lies in the first eight of its head, as the kernel computes it. -/
def lane (s : Shape) (x : IVec s 32) : IVec s 1 :=
  cmpi .slt (select (andi (xori (cmpi .slt (remsi x (broadcast s 64#32)) (broadcast s 0#32)) (broadcast s 0#1))
    (cmpi .ne (remsi x (broadcast s 64#32)) (broadcast s 0#32))) (addi (remsi x (broadcast s 64#32)) (broadcast s 64#32))
    (remsi x (broadcast s 64#32))) (broadcast s 8#32)

theorem lane_word : ∀ c : Fin 1024, lane S_ (fun _ => BitVec.ofNat 32 c.val) ix0 = if c.val % 64 < 8 then 1#1 else 0#1 := by
  decide +kernel

theorem lane_apply (s : Shape) (x : IVec s 32) (i : s.Idx) (c : Nat) (hc : c < 1024) (hx : x i = BitVec.ofNat 32 c) :
    lane s x i = if c % 64 < 8 then 1#1 else 0#1 := by
  rw [← lane_word ⟨c, hc⟩]
  show lane S_ (fun _ => x i) ix0 = _
  rw [hx]

theorem iota_q (r : Fin 128) (c : Fin 1024) : iota .tc S128x1024 32 [1] iota_S128x1024_d1_w32 (ix2 r c) = BitVec.ofNat 32 c.val :=
  iota_single_apply ..

theorem iota_k (r : Fin 128) (c : Fin 128) : iota .tc S128x128 32 [1] iota_S128x128_d1_w32 (ix2 r c) = BitVec.ofNat 32 c.val :=
  iota_single_apply ..

/-- The queries' embedding as the kernel computes it. -/
def ropeQ (x : FVec Ideal S128x1024 .f32) (cs sn : FVec Ideal S128x128 .f32) : FVec Ideal S128x1024 .f32 :=
  addf (mulf x (concatenate S128x1024 1 (List.replicate 8 ⟨S128x128, cs⟩) concatenates_S128x128_S128x128_S128x128_S128x128_S128x128_S128x128_S128x128_S128x128_S128x1024_d1))
    (mulf (select (lane S128x1024 (iota .tc S128x1024 32 [1] iota_S128x1024_d1_w32)) (dynamicRotate 1 1016#32 none x rotates_S128x1024_d1)
      (dynamicRotate 1 8#32 none x rotates_S128x1024_d1))
      (concatenate S128x1024 1 (List.replicate 8 ⟨S128x128, sn⟩) concatenates_S128x128_S128x128_S128x128_S128x128_S128x128_S128x128_S128x128_S128x128_S128x1024_d1))

/-- The keys' embedding as the kernel computes it. -/
def ropeK (x : FVec Ideal S128x128 .f32) (cs sn : FVec Ideal S128x128 .f32) : FVec Ideal S128x128 .f32 :=
  addf (mulf x cs) (mulf (select (lane S128x128 (iota .tc S128x128 32 [1] iota_S128x128_d1_w32))
    (dynamicRotate 1 120#32 none x rotates_S128x128_d1) (dynamicRotate 1 8#32 none x rotates_S128x128_d1)) sn)

theorem tile8 (x : FVec Ideal S128x128 .f32) (r : Fin 128) (c : Fin 1024) :
    concatenate S128x1024 1 (List.replicate 8 ⟨S128x128, x⟩) concatenates_S128x128_S128x128_S128x128_S128x128_S128x128_S128x128_S128x128_S128x128_S128x1024_d1 (ix2 r c)
      = x (ix2 r ⟨c.val % 128, by omega⟩) := by
  refine concatenate_replicate_apply (t := S128x1024) (s₁ := S128x128) 1 8 x _ rfl (ix2 r c) (ix2 r ⟨c.val % 128, by omega⟩) rfl fun b hb => ?_
  match b with
  | ⟨0, _⟩ => rfl
  | ⟨1, _⟩ => exact absurd rfl hb

theorem rotQ (n : BitVec 32) (x : FVec Ideal S128x1024 .f32) (r : Fin 128) (c : Fin 1024) (k : Fin 1024)
    (hk : k.val = (c.val + 1024 - n.toNat % 1024) % 1024) :
    dynamicRotate 1 n none x rotates_S128x1024_d1 (ix2 r c) = x (ix2 r k) := by
  refine dynamicRotate_apply 1 n x rotates_S128x1024_d1 (ix2 r c) (ix2 r k) fun b => ?_
  match b with
  | ⟨0, _⟩ => rfl
  | ⟨1, _⟩ => exact hk

theorem rotK (n : BitVec 32) (x : FVec Ideal S128x128 .f32) (r : Fin 128) (c : Fin 128) (k : Fin 128)
    (hk : k.val = (c.val + 128 - n.toNat % 128) % 128) :
    dynamicRotate 1 n none x rotates_S128x128_d1 (ix2 r c) = x (ix2 r k) := by
  refine dynamicRotate_apply 1 n x rotates_S128x128_d1 (ix2 r c) (ix2 r k) fun b => ?_
  match b with
  | ⟨0, _⟩ => rfl
  | ⟨1, _⟩ => exact hk

/-- A query's lane `c` of head `h` after the embedding. -/
theorem ropeQ_apply (x : FVec Ideal S128x1024 .f32) (tc ts : FVec Ideal S128x128 .f32) (cs sn : Fin 8 → EReal) (r : Fin 128)
    (h : Fin 16) (c : Fin 64) (hc : ∀ l : Fin 128, tc (ix2 r l) = tabCos cs ⟨l.val % 64, by omega⟩)
    (hs : ∀ l : Fin 128, ts (ix2 r l) = tabSin sn ⟨l.val % 64, by omega⟩) :
    ropeQ x tc ts (ix2 r ⟨64 * h.val + c.val, by omega⟩)
      = turned (fun c => x (ix2 r ⟨64 * h.val + c.val, by omega⟩)) cs sn c := by
  unfold ropeQ
  rw [addf_apply, mulf_apply, mulf_apply, tile8, tile8, hc, hs, select_apply]
  have hl := lane_apply S128x1024 _ (ix2 r ⟨64 * h.val + c.val, by omega⟩) (64 * h.val + c.val) (by omega) (iota_q r ⟨64 * h.val + c.val, by omega⟩)
  have e2 : (64 * h.val + c.val) % 64 = c.val := by omega
  rw [e2] at hl
  rw [hl]
  have e : (⟨(64 * h.val + c.val) % 128 % 64, by omega⟩ : Fin 64) = c := Fin.ext (by show (64 * h.val + c.val) % 128 % 64 = c.val; omega)
  have key := turned_eq (fun c => x (ix2 r ⟨64 * h.val + c.val, by omega⟩)) cs sn c
    (Scalar.select (if c.val < 8 then 1#1 else 0#1) (dynamicRotate 1 1016#32 none x rotates_S128x1024_d1 (ix2 r ⟨64 * h.val + c.val, by omega⟩))
      (dynamicRotate 1 8#32 none x rotates_S128x1024_d1 (ix2 r ⟨64 * h.val + c.val, by omega⟩))) (fun h1 => ?_) (fun h1 h2 => ?_)
  · refine Eq.trans ?_ key
    exact congrArg₂ (· + ·) (congrArg (_ * tabCos cs ·) e) (congrArg (_ * tabSin sn ·) e)
  · rw [if_pos h1, select_one]
    exact rotQ _ x r _ _ (by show 64 * h.val + (c.val + 8) = (64 * h.val + c.val + 1024 - 1016 % 1024) % 1024; omega)
  · rw [if_neg h1, select_zero]
    exact rotQ _ x r _ _ (by show 64 * h.val + (c.val - 8) = (64 * h.val + c.val + 1024 - 8 % 1024) % 1024; omega)

/-- A key's lane `c` of group `g` after the embedding. -/
theorem ropeK_apply (x tc ts : FVec Ideal S128x128 .f32) (cs sn : Fin 8 → EReal) (r : Fin 128) (g : Fin 2) (c : Fin 64)
    (hc : ∀ l : Fin 128, tc (ix2 r l) = tabCos cs ⟨l.val % 64, by omega⟩)
    (hs : ∀ l : Fin 128, ts (ix2 r l) = tabSin sn ⟨l.val % 64, by omega⟩) :
    ropeK x tc ts (ix2 r ⟨64 * g.val + c.val, by omega⟩)
      = turned (fun c => x (ix2 r ⟨64 * g.val + c.val, by omega⟩)) cs sn c := by
  unfold ropeK
  rw [addf_apply, mulf_apply, mulf_apply, hc, hs, select_apply]
  have hl := lane_apply S128x128 _ (ix2 r ⟨64 * g.val + c.val, by omega⟩) (64 * g.val + c.val) (by omega) (iota_k r ⟨64 * g.val + c.val, by omega⟩)
  have e2 : (64 * g.val + c.val) % 64 = c.val := by omega
  rw [e2] at hl
  rw [hl]
  have e : (⟨(64 * g.val + c.val) % 64, by omega⟩ : Fin 64) = c := Fin.ext (by show (64 * g.val + c.val) % 64 = c.val; omega)
  have key := turned_eq (fun c => x (ix2 r ⟨64 * g.val + c.val, by omega⟩)) cs sn c
    (Scalar.select (if c.val < 8 then 1#1 else 0#1) (dynamicRotate 1 120#32 none x rotates_S128x128_d1 (ix2 r ⟨64 * g.val + c.val, by omega⟩))
      (dynamicRotate 1 8#32 none x rotates_S128x128_d1 (ix2 r ⟨64 * g.val + c.val, by omega⟩))) (fun h1 => ?_) (fun h1 h2 => ?_)
  · refine Eq.trans ?_ key
    exact congrArg₂ (· + ·) (congrArg (_ * tabCos cs ·) e) (congrArg (_ * tabSin sn ·) e)
  · rw [if_pos h1, select_one]
    exact rotK _ x r _ _ (by show 64 * g.val + (c.val + 8) = (64 * g.val + c.val + 128 - 120 % 128) % 128; omega)
  · rw [if_neg h1, select_zero]
    exact rotK _ x r _ _ (by show 64 * g.val + (c.val - 8) = (64 * g.val + c.val + 128 - 8 % 128) % 128; omega)

theorem pay1_eq (x : FVec Ideal S128x128 .f32) : k0_pay1 (F := Ideal) x = x := shapeCast_self ..
theorem pay2_eq (x : FVec Ideal S128x128 .f32) : k0_pay2 (F := Ideal) x = x := shapeCast_self ..
theorem pay7_eq (x : FVec Ideal S128x128 .f32) : k0_pay7 (F := Ideal) x = x := shapeCast_self ..
theorem pay8_eq (x : FVec Ideal S128x128 .f32) : k0_pay8 (F := Ideal) x = x := shapeCast_self ..

/-- The kernel's scaled queries are the embedding times one eighth. -/
theorem pay3_eq (x6 x7 : FVec Ideal S128x128 .f32) (x1 : FVec Ideal S128x1024 .bf16) (i : S128x1024.Idx) :
    k0_pay3 (F := Ideal) x6 x7 x1 i = ropeQ (extf .f32 x1 bitsLt_bf16_f32) x6 x7 i * Ideal.ofBits .f32 0x3E000000#32 := by
  unfold k0_pay3
  rw [pay1_eq, pay2_eq]
  rfl

theorem p63_eq (x2 : FVec Ideal S128x128 .bf16) (x6 x7 : FVec Ideal S128x128 .f32) :
    p63 (F := Ideal) x2 x6 x7 = truncf .bf16 (ropeK (extf .f32 x2 bitsLt_bf16_f32) x6 x7) bitsLt_bf16_f32 := by
  unfold p63 k0_pay5 k0_pay1 k0_pay2 k0_pay4
  simp only [shapeCast_self]
  rfl

theorem p96_eq (x2 x3 : FVec Ideal S128x128 .bf16) (x6 x7 x8 x9 : FVec Ideal S128x128 .f32) :
    p96 (F := Ideal) x2 x3 x6 x7 x8 x9
      = concatenate S256x128 0 [⟨S128x128, (truncf .bf16 (ropeK (extf .f32 x3 bitsLt_bf16_f32) x8 x9) bitsLt_bf16_f32 : FVec Ideal S128x128 .bf16)⟩,
            ⟨S128x128, (truncf .bf16 (ropeK (extf .f32 x2 bitsLt_bf16_f32) x6 x7) bitsLt_bf16_f32 : FVec Ideal S128x128 .bf16)⟩]
          concatenates_S128x128_S128x128_S256x128_d0 := by
  unfold p96
  rw [p63_eq, pay7_eq, pay8_eq]
  rfl

/-- The previous block over the current one, read at a row. -/
theorem stack_apply (a b : FVec Ideal S128x128 .bf16) (j : Fin 256) (l : Fin 128) :
    concatenate S256x128 0 [⟨S128x128, a⟩, ⟨S128x128, b⟩] concatenates_S128x128_S128x128_S256x128_d0 (ix2 j l)
      = if h : j.val < 128 then a (ix2 ⟨j.val, h⟩ l) else b (ix2 ⟨j.val - 128, by omega⟩ l) := by
  by_cases h : j.val < 128
  · rw [dif_pos h]
    refine concatenate_pair_apply_left 0 a b concatenates_S128x128_S128x128_S256x128_d0 (ix2 j l) rfl (ix2 ⟨j.val, h⟩ l) fun b => ?_
    match b with
    | ⟨0, _⟩ => rfl
    | ⟨1, _⟩ => rfl
  · rw [dif_neg h]
    refine concatenate_pair_apply_right 0 a b concatenates_S128x128_S128x128_S256x128_d0 (ix2 j l) rfl rfl (ix2 ⟨j.val - 128, by omega⟩ l) (fun b hb => ?_) ?_
    · match b with
      | ⟨0, _⟩ => exact absurd rfl hb
      | ⟨1, _⟩ => rfl
    · show j.val - 128 + 128 = j.val
      omega

end Cert.Proof.Rope

end
-- ==== Proof.Attn.RefRope.lean ====
/- The reference's queries, keys and values after the rotary embedding, read at a position, a head and a coordinate. -/
module

public import proofs.«01_k».proof.Proof.Gen.ReferenceIdeal.Read
public import proofs.«01_k».proof.Proof.Attn.Rope

@[expose] public section

noncomputable section

namespace Cert.Proof.RefRope

open Idealize.ShloMosaic Idealize.ShloMosaic.ValueIdx Cert.ReferenceIdeal Cert.ReferenceIdeal.Read Cert.Proof.Rope

variable (x0 : (⟨S16384x2304, .bf16⟩ : BufTy).Contents (Elt Ideal)) (x1 : (⟨S4x4096, .i32⟩ : BufTy).Contents (Elt Ideal))

/-- The row of a sequence's position. -/
def row (b : Fin 4) (s : Fin 4096) : Fin 16384 := ⟨4096 * b.val + s.val, by omega⟩

/-- Column `64 h + c` of the query is coordinate `c` of head `h`. -/
theorem query_apply (b : Fin 4) (s : Fin 4096) (h : Fin 16) (c : Fin 64) :
    val_main_v22 (F := Ideal) x0 (ix4 b s h c) = x0 (ix2 (row b s) ⟨1024 + 64 * h.val + c.val, by omega⟩) := by
  rw [val_main_v22_apply, val_main_v21_apply, val_main_v20_apply, val_main_v19_apply]
  refine congrArg x0 (funext fun a => Fin.ext ?_)
  match a with
  | ⟨0, _⟩ => show (((((b.val * 4096 + s.val) * 16 + h.val) * 64 + c.val) / 4194304 * 4096 + (((b.val * 4096 + s.val) * 16 + h.val) * 64 + c.val) / 1024 % 4096) * 2304 + (1024 + (((b.val * 4096 + s.val) * 16 + h.val) * 64 + c.val) % 1024)) / 2304 = 4096 * b.val + s.val; omega
  | ⟨1, _⟩ => show (((((b.val * 4096 + s.val) * 16 + h.val) * 64 + c.val) / 4194304 * 4096 + (((b.val * 4096 + s.val) * 16 + h.val) * 64 + c.val) / 1024 % 4096) * 2304 + (1024 + (((b.val * 4096 + s.val) * 16 + h.val) * 64 + c.val) % 1024)) % 2304 = 1024 + 64 * h.val + c.val; omega

theorem query_first (b : Fin 4) (s : Fin 4096) (h : Fin 16) (c : Fin 8) :
    val_main_v31 (F := Ideal) x0 x1 (ix4 b s h c)
      = val_main_v22 (F := Ideal) x0 (ix4 b s h ⟨c.val, by omega⟩) * val_main_v17 (F := Ideal) x1 (ix3 b s c)
        - val_main_v22 (F := Ideal) x0 (ix4 b s h ⟨c.val + 8, by omega⟩) * val_main_v18 (F := Ideal) x1 (ix3 b s c) := by
  rw [val_main_v31_apply, val_main_v28_apply, val_main_v30_apply, val_main_v23_apply, val_main_v24_apply,
    val_main_v27_apply, val_main_v29_apply, val_main_v25_apply, val_main_v26_apply]
  refine congrArg₂ (fun x y : EReal => x - y) (congrArg₂ (fun x y : EReal => x * y) (congrArg _ ?_) (congrArg _ ?_))
    (congrArg₂ (fun x y : EReal => x * y) (congrArg _ ?_) (congrArg _ ?_)) <;> funext a <;> apply Fin.ext
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => show 8 + c.val = c.val + 8; omega
  · match a with
    | ⟨0, _⟩ => rfl
    | ⟨1, _⟩ => rfl
    | ⟨2, _⟩ => rfl

theorem query_second (b : Fin 4) (s : Fin 4096) (h : Fin 16) (c : Fin 8) :
    val_main_v36 (F := Ideal) x0 x1 (ix4 b s h c)
      = val_main_v22 (F := Ideal) x0 (ix4 b s h ⟨c.val + 8, by omega⟩) * val_main_v17 (F := Ideal) x1 (ix3 b s c)
        + val_main_v22 (F := Ideal) x0 (ix4 b s h ⟨c.val, by omega⟩) * val_main_v18 (F := Ideal) x1 (ix3 b s c) := by
  rw [val_main_v36_apply, val_main_v33_apply, val_main_v35_apply, val_main_v23_apply, val_main_v24_apply,
    val_main_v32_apply, val_main_v34_apply, val_main_v25_apply, val_main_v26_apply]
  refine congrArg₂ (fun x y : EReal => x + y) (congrArg₂ (fun x y : EReal => x * y) (congrArg _ ?_) (congrArg _ ?_))
    (congrArg₂ (fun x y : EReal => x * y) (congrArg _ ?_) (congrArg _ ?_)) <;> funext a <;> apply Fin.ext
  · match a with
    | ⟨0, _⟩ => rfl
    | ⟨1, _⟩ => rfl
    | ⟨2, _⟩ => rfl
    | ⟨3, _⟩ => show 8 + c.val = c.val + 8; omega
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The query after the rotary embedding. -/
theorem query_turned (b : Fin 4) (s : Fin 4096) (h : Fin 16) (c : Fin 64) :
    val_main_v39 (F := Ideal) x0 x1 (ix4 b s h c)
      = turned (fun c => val_main_v22 (F := Ideal) x0 (ix4 b s h c)) (fun j => val_main_v17 (F := Ideal) x1 (ix3 b s j))
          (fun j => val_main_v18 (F := Ideal) x1 (ix3 b s j)) c := by
  unfold val_main_v39 turned
  by_cases h1 : c.val < 8
  · rw [dif_pos h1]
    refine (concatenate_pair_apply_left (t := S4x4096x16x64) (s₁ := S4x4096x16x16) (s₂ := S4x4096x16x48) 3 _ _ _ (ix4 b s h c) rfl (ix4 b s h ⟨c.val, by omega⟩) fun a => ?_).trans ?_
    · match a with
      | ⟨0, _⟩ => rfl
      | ⟨1, _⟩ => rfl
      | ⟨2, _⟩ => rfl
      | ⟨3, _⟩ => rfl
    · unfold val_main_v37
      refine (concatenate_pair_apply_left (t := S4x4096x16x16) (s₁ := S4x4096x16x8) (s₂ := S4x4096x16x8) 3 _ _ _ (ix4 b s h ⟨c.val, by omega⟩) rfl (ix4 b s h ⟨c.val, h1⟩) fun a => ?_).trans ?_
      · match a with
        | ⟨0, _⟩ => rfl
        | ⟨1, _⟩ => rfl
        | ⟨2, _⟩ => rfl
        | ⟨3, _⟩ => rfl
      · exact query_first x0 x1 b s h ⟨c.val, h1⟩
  · rw [dif_neg h1]
    by_cases h2 : c.val < 16
    · rw [dif_pos h2]
      refine (concatenate_pair_apply_left (t := S4x4096x16x64) (s₁ := S4x4096x16x16) (s₂ := S4x4096x16x48) 3 _ _ _ (ix4 b s h c) rfl (ix4 b s h ⟨c.val, h2⟩) fun a => ?_).trans ?_
      · match a with
        | ⟨0, _⟩ => rfl
        | ⟨1, _⟩ => rfl
        | ⟨2, _⟩ => rfl
        | ⟨3, _⟩ => rfl
      · unfold val_main_v37
        refine (concatenate_pair_apply_right (t := S4x4096x16x16) (s₁ := S4x4096x16x8) (s₂ := S4x4096x16x8) 3 _ _ _ (ix4 b s h ⟨c.val, h2⟩) rfl rfl (ix4 b s h ⟨c.val - 8, by omega⟩) (fun a ha => ?_) ?_).trans ?_
        · match a with
          | ⟨0, _⟩ => rfl
          | ⟨1, _⟩ => rfl
          | ⟨2, _⟩ => rfl
          | ⟨3, _⟩ => exact absurd rfl ha
        · show c.val - 8 + 8 = c.val; omega
        · refine (query_second x0 x1 b s h ⟨c.val - 8, by omega⟩).trans ?_
          have e : (⟨c.val - 8 + 8, by omega⟩ : Fin 64) = c := Fin.ext (by show c.val - 8 + 8 = c.val; omega)
          exact congrArg (fun d => val_main_v22 (F := Ideal) x0 (ix4 b s h d) * val_main_v17 (F := Ideal) x1 (ix3 b s ⟨c.val - 8, by omega⟩)
            + val_main_v22 (F := Ideal) x0 (ix4 b s h ⟨c.val - 8, by omega⟩) * val_main_v18 (F := Ideal) x1 (ix3 b s ⟨c.val - 8, by omega⟩)) e
    · rw [dif_neg h2]
      refine (concatenate_pair_apply_right (t := S4x4096x16x64) (s₁ := S4x4096x16x16) (s₂ := S4x4096x16x48) 3 _ _ _ (ix4 b s h c) rfl rfl (ix4 b s h ⟨c.val - 16, by omega⟩) (fun a ha => ?_) ?_).trans ?_
      · match a with
        | ⟨0, _⟩ => rfl
        | ⟨1, _⟩ => rfl
        | ⟨2, _⟩ => rfl
        | ⟨3, _⟩ => exact absurd rfl ha
      · show c.val - 16 + 16 = c.val; omega
      · rw [val_main_v38_apply]
        refine congrArg _ (funext fun a => Fin.ext ?_)
        match a with
        | ⟨0, _⟩ => rfl
        | ⟨1, _⟩ => rfl
        | ⟨2, _⟩ => rfl
        | ⟨3, _⟩ => show 16 + (c.val - 16) = c.val; omega

/-- Column `64 h + c` of the key is coordinate `c` of head `h`. -/
theorem key_apply (b : Fin 4) (s : Fin 4096) (h : Fin 2) (c : Fin 64) :
    val_main_v41 (F := Ideal) x0 (ix4 b s h c) = x0 (ix2 (row b s) ⟨2048 + 64 * h.val + c.val, by omega⟩) := by
  rw [val_main_v41_apply, val_main_v40_apply, val_main_v20_apply, val_main_v19_apply]
  refine congrArg x0 (funext fun a => Fin.ext ?_)
  match a with
  | ⟨0, _⟩ => show (((((b.val * 4096 + s.val) * 2 + h.val) * 64 + c.val) / 524288 * 4096 + (((b.val * 4096 + s.val) * 2 + h.val) * 64 + c.val) / 128 % 4096) * 2304 + (2048 + (((b.val * 4096 + s.val) * 2 + h.val) * 64 + c.val) % 128)) / 2304 = 4096 * b.val + s.val; omega
  | ⟨1, _⟩ => show (((((b.val * 4096 + s.val) * 2 + h.val) * 64 + c.val) / 524288 * 4096 + (((b.val * 4096 + s.val) * 2 + h.val) * 64 + c.val) / 128 % 4096) * 2304 + (2048 + (((b.val * 4096 + s.val) * 2 + h.val) * 64 + c.val) % 128)) % 2304 = 2048 + 64 * h.val + c.val; omega

theorem key_first (b : Fin 4) (s : Fin 4096) (h : Fin 2) (c : Fin 8) :
    val_main_v50 (F := Ideal) x0 x1 (ix4 b s h c)
      = val_main_v41 (F := Ideal) x0 (ix4 b s h ⟨c.val, by omega⟩) * val_main_v17 (F := Ideal) x1 (ix3 b s c)
        - val_main_v41 (F := Ideal) x0 (ix4 b s h ⟨c.val + 8, by omega⟩) * val_main_v18 (F := Ideal) x1 (ix3 b s c) := by
  rw [val_main_v50_apply, val_main_v47_apply, val_main_v49_apply, val_main_v42_apply, val_main_v43_apply,
    val_main_v46_apply, val_main_v48_apply, val_main_v44_apply, val_main_v45_apply]
  refine congrArg₂ (fun x y : EReal => x - y) (congrArg₂ (fun x y : EReal => x * y) (congrArg _ ?_) (congrArg _ ?_))
    (congrArg₂ (fun x y : EReal => x * y) (congrArg _ ?_) (congrArg _ ?_)) <;> funext a <;> apply Fin.ext
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => show 8 + c.val = c.val + 8; omega
  · match a with
    | ⟨0, _⟩ => rfl
    | ⟨1, _⟩ => rfl
    | ⟨2, _⟩ => rfl

theorem key_second (b : Fin 4) (s : Fin 4096) (h : Fin 2) (c : Fin 8) :
    val_main_v55 (F := Ideal) x0 x1 (ix4 b s h c)
      = val_main_v41 (F := Ideal) x0 (ix4 b s h ⟨c.val + 8, by omega⟩) * val_main_v17 (F := Ideal) x1 (ix3 b s c)
        + val_main_v41 (F := Ideal) x0 (ix4 b s h ⟨c.val, by omega⟩) * val_main_v18 (F := Ideal) x1 (ix3 b s c) := by
  rw [val_main_v55_apply, val_main_v52_apply, val_main_v54_apply, val_main_v42_apply, val_main_v43_apply,
    val_main_v51_apply, val_main_v53_apply, val_main_v44_apply, val_main_v45_apply]
  refine congrArg₂ (fun x y : EReal => x + y) (congrArg₂ (fun x y : EReal => x * y) (congrArg _ ?_) (congrArg _ ?_))
    (congrArg₂ (fun x y : EReal => x * y) (congrArg _ ?_) (congrArg _ ?_)) <;> funext a <;> apply Fin.ext
  · match a with
    | ⟨0, _⟩ => rfl
    | ⟨1, _⟩ => rfl
    | ⟨2, _⟩ => rfl
    | ⟨3, _⟩ => show 8 + c.val = c.val + 8; omega
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

/-- The key after the rotary embedding. -/
theorem key_turned (b : Fin 4) (s : Fin 4096) (h : Fin 2) (c : Fin 64) :
    val_main_v58 (F := Ideal) x0 x1 (ix4 b s h c)
      = turned (fun c => val_main_v41 (F := Ideal) x0 (ix4 b s h c)) (fun j => val_main_v17 (F := Ideal) x1 (ix3 b s j))
          (fun j => val_main_v18 (F := Ideal) x1 (ix3 b s j)) c := by
  unfold val_main_v58 turned
  by_cases h1 : c.val < 8
  · rw [dif_pos h1]
    refine (concatenate_pair_apply_left (t := S4x4096x2x64) (s₁ := S4x4096x2x16) (s₂ := S4x4096x2x48) 3 _ _ _ (ix4 b s h c) rfl (ix4 b s h ⟨c.val, by omega⟩) fun a => ?_).trans ?_
    · match a with
      | ⟨0, _⟩ => rfl
      | ⟨1, _⟩ => rfl
      | ⟨2, _⟩ => rfl
      | ⟨3, _⟩ => rfl
    · unfold val_main_v56
      refine (concatenate_pair_apply_left (t := S4x4096x2x16) (s₁ := S4x4096x2x8) (s₂ := S4x4096x2x8) 3 _ _ _ (ix4 b s h ⟨c.val, by omega⟩) rfl (ix4 b s h ⟨c.val, h1⟩) fun a => ?_).trans ?_
      · match a with
        | ⟨0, _⟩ => rfl
        | ⟨1, _⟩ => rfl
        | ⟨2, _⟩ => rfl
        | ⟨3, _⟩ => rfl
      · exact key_first x0 x1 b s h ⟨c.val, h1⟩
  · rw [dif_neg h1]
    by_cases h2 : c.val < 16
    · rw [dif_pos h2]
      refine (concatenate_pair_apply_left (t := S4x4096x2x64) (s₁ := S4x4096x2x16) (s₂ := S4x4096x2x48) 3 _ _ _ (ix4 b s h c) rfl (ix4 b s h ⟨c.val, h2⟩) fun a => ?_).trans ?_
      · match a with
        | ⟨0, _⟩ => rfl
        | ⟨1, _⟩ => rfl
        | ⟨2, _⟩ => rfl
        | ⟨3, _⟩ => rfl
      · unfold val_main_v56
        refine (concatenate_pair_apply_right (t := S4x4096x2x16) (s₁ := S4x4096x2x8) (s₂ := S4x4096x2x8) 3 _ _ _ (ix4 b s h ⟨c.val, h2⟩) rfl rfl (ix4 b s h ⟨c.val - 8, by omega⟩) (fun a ha => ?_) ?_).trans ?_
        · match a with
          | ⟨0, _⟩ => rfl
          | ⟨1, _⟩ => rfl
          | ⟨2, _⟩ => rfl
          | ⟨3, _⟩ => exact absurd rfl ha
        · show c.val - 8 + 8 = c.val; omega
        · refine (key_second x0 x1 b s h ⟨c.val - 8, by omega⟩).trans ?_
          have e : (⟨c.val - 8 + 8, by omega⟩ : Fin 64) = c := Fin.ext (by show c.val - 8 + 8 = c.val; omega)
          exact congrArg (fun d => val_main_v41 (F := Ideal) x0 (ix4 b s h d) * val_main_v17 (F := Ideal) x1 (ix3 b s ⟨c.val - 8, by omega⟩)
            + val_main_v41 (F := Ideal) x0 (ix4 b s h ⟨c.val - 8, by omega⟩) * val_main_v18 (F := Ideal) x1 (ix3 b s ⟨c.val - 8, by omega⟩)) e
    · rw [dif_neg h2]
      refine (concatenate_pair_apply_right (t := S4x4096x2x64) (s₁ := S4x4096x2x16) (s₂ := S4x4096x2x48) 3 _ _ _ (ix4 b s h c) rfl rfl (ix4 b s h ⟨c.val - 16, by omega⟩) (fun a ha => ?_) ?_).trans ?_
      · match a with
        | ⟨0, _⟩ => rfl
        | ⟨1, _⟩ => rfl
        | ⟨2, _⟩ => rfl
        | ⟨3, _⟩ => exact absurd rfl ha
      · show c.val - 16 + 16 = c.val; omega
      · rw [val_main_v57_apply]
        refine congrArg _ (funext fun a => Fin.ext ?_)
        match a with
        | ⟨0, _⟩ => rfl
        | ⟨1, _⟩ => rfl
        | ⟨2, _⟩ => rfl
        | ⟨3, _⟩ => show 16 + (c.val - 16) = c.val; omega

/-- Column `64 g + c` of the values is coordinate `c` of group `g`. -/
theorem value_apply (b : Fin 4) (s : Fin 4096) (h : Fin 2) (c : Fin 64) :
    val_main_v60 (F := Ideal) x0 (ix4 b s h c) = x0 (ix2 (row b s) ⟨2176 + 64 * h.val + c.val, by omega⟩) := by
  rw [val_main_v60_apply, val_main_v59_apply, val_main_v20_apply, val_main_v19_apply]
  refine congrArg x0 (funext fun a => Fin.ext ?_)
  match a with
  | ⟨0, _⟩ => show (((((b.val * 4096 + s.val) * 2 + h.val) * 64 + c.val) / 524288 * 4096 + (((b.val * 4096 + s.val) * 2 + h.val) * 64 + c.val) / 128 % 4096) * 2304 + (2176 + (((b.val * 4096 + s.val) * 2 + h.val) * 64 + c.val) % 128)) / 2304 = 4096 * b.val + s.val; omega
  | ⟨1, _⟩ => show (((((b.val * 4096 + s.val) * 2 + h.val) * 64 + c.val) / 524288 * 4096 + (((b.val * 4096 + s.val) * 2 + h.val) * 64 + c.val) / 128 % 4096) * 2304 + (2176 + (((b.val * 4096 + s.val) * 2 + h.val) * 64 + c.val) % 128)) % 2304 = 2176 + 64 * h.val + c.val; omega

end Cert.Proof.RefRope

end
-- ==== Proof.Attn.Heads.lean ====
/- The stored block of the attention's kernel at a row, a head and a lane. -/
module

public import proofs.«01_k».proof.Proof.Attn.Rope
public import Idealize.ShloMosaic.Lib.WordCmp

@[expose] public section

noncomputable section

namespace Cert.Proof.Heads

open Idealize.ShloMosaic Idealize.ShloMosaic.ValueIdx Idealize.ShloMosaic.WordCmp Cert.KernelIdeal Cert.KernelIdeal.Gen Cert.Proof.Row Cert.Proof.Payload Cert.Proof.Rope

/-- Whether row `r` of block `n` sees place `j` of the previous block followed by the current one. -/
def vis (n r j : Nat) : Prop := r < j ∧ j ≤ r + 128 ∧ (0 < n ∨ 128 ≤ j)

instance (n r j : Nat) : Decidable (vis n r j) := by unfold vis; infer_instance

theorem row_iota (r : Fin 128) (j : Fin 256) : iota .tc S128x256 32 [0] iota_S128x256_d0_w32 (ix2 r j) = BitVec.ofNat 32 r.val :=
  iota_single_apply ..

theorem col_iota (r : Fin 128) (j : Fin 256) : iota .tc S128x256 32 [1] iota_S128x256_d1_w32 (ix2 r j) = BitVec.ofNat 32 j.val :=
  iota_single_apply ..

theorem mask_iff (n : Nat) (hn : n < 32) (r : Fin 128) (j : Fin 256) :
    k0_pay14 (BitVec.ofNat 32 n) (ix2 r j) = 1#1 ↔ vis n r.val j.val := by
  have hr := r.isLt
  have hj := j.isLt
  unfold k0_pay14 vis
  show IntOp.andi (IntOp.andi (IntOp.cmpi .sgt (iota .tc S128x256 32 [1] iota_S128x256_d1_w32 (ix2 r j)) (iota .tc S128x256 32 [0] iota_S128x256_d0_w32 (ix2 r j)))
    (IntOp.cmpi .sle (iota .tc S128x256 32 [1] iota_S128x256_d1_w32 (ix2 r j)) (IntOp.addi (iota .tc S128x256 32 [0] iota_S128x256_d0_w32 (ix2 r j)) 128#32)))
    (IntOp.cmpi .sge (iota .tc S128x256 32 [1] iota_S128x256_d1_w32 (ix2 r j)) (Scalar.select (IntOp.cmpi .sgt (BitVec.ofNat 32 n) 0#32) 0#32 128#32)) = 1#1 ↔ _
  rw [row_iota, col_iota]
  have e1 : IntOp.addi (BitVec.ofNat 32 r.val) 128#32 = BitVec.ofNat 32 (r.val + 128) := by
    show BitVec.ofNat 32 r.val + BitVec.ofNat 32 128 = _
    rw [← BitVec.ofNat_add]
  have e2 : Scalar.select (IntOp.cmpi .sgt (BitVec.ofNat 32 n) 0#32) 0#32 128#32 = BitVec.ofNat 32 (if 0 < n then 0 else 128) := by
    by_cases h : 0 < n
    · rw [if_pos h, show IntOp.cmpi .sgt (BitVec.ofNat 32 n) (BitVec.ofNat 32 0) = 1#1 from by
        rw [cmpi_sgt_ofNat (by omega) (by omega)]; simp [h], ValueIdx.select_one]
    · obtain rfl : n = 0 := by omega
      rfl
  rw [e1, e2, cmpi_sgt_ofNat (by omega) (by omega), cmpi_sle_ofNat (by omega) (by omega), cmpi_sge_ofNat (by omega) (by split <;> omega)]
  rw [andi_ofBool, andi_ofBool, ofBool_eq_one_iff]
  simp only [Bool.and_eq_true, decide_eq_true_eq]
  by_cases h : 0 < n
  · rw [if_pos h]; omega
  · rw [if_neg h]; omega

variable (n : BitVec 32) (z : Fin 16 → EReal) (x1 : FVec Ideal S128x1024 .bf16) (x2 x3 x4 x5 : FVec Ideal S128x128 .bf16)
  (x6 x7 x8 x9 : FVec Ideal S128x128 .f32)

/-- A head as the generic one: its columns of the queries, its group's columns of the keys and values. -/
def gen (h : Fin 16) (hq : S128x1024.Slices ![0, 64 * h.val] S128x64) (hk : S256x128.Slices ![0, 64 * (h.val / 8)] S256x64) :
    FVec Ideal S128x64 .f32 :=
  Head.out (Head.scores (extractStridedSlice S128x64 ![0, 64 * h.val] (k0_pay3 (F := Ideal) x6 x7 x1) hq)
      (extractStridedSlice S256x64 ![0, 64 * (h.val / 8)] (p96 (F := Ideal) x2 x3 x6 x7 x8 x9) hk) (k0_pay14 n))
    (extractStridedSlice S256x64 ![0, 64 * (h.val / 8)] (k0_pay13 (F := Ideal) x5 x4) hk) (z h)

theorem slq (h : Fin 16) : S128x1024.Slices ![0, 64 * h.val] S128x64 := by
  revert h; decide

theorem slk (h : Fin 16) : S256x128.Slices ![0, 64 * (h.val / 8)] S256x64 := by
  revert h; decide

theorem head0_eq : head0 (F := Ideal) n z x1 x2 x3 x4 x5 x6 x7 x8 x9 = gen n z x1 x2 x3 x4 x5 x6 x7 x8 x9 0 (slq 0) (slk 0) := rfl
theorem head1_eq : head1 (F := Ideal) n z x1 x2 x3 x4 x5 x6 x7 x8 x9 = gen n z x1 x2 x3 x4 x5 x6 x7 x8 x9 1 (slq 1) (slk 1) := rfl
theorem head2_eq : head2 (F := Ideal) n z x1 x2 x3 x4 x5 x6 x7 x8 x9 = gen n z x1 x2 x3 x4 x5 x6 x7 x8 x9 2 (slq 2) (slk 2) := rfl
theorem head3_eq : head3 (F := Ideal) n z x1 x2 x3 x4 x5 x6 x7 x8 x9 = gen n z x1 x2 x3 x4 x5 x6 x7 x8 x9 3 (slq 3) (slk 3) := rfl
theorem head4_eq : head4 (F := Ideal) n z x1 x2 x3 x4 x5 x6 x7 x8 x9 = gen n z x1 x2 x3 x4 x5 x6 x7 x8 x9 4 (slq 4) (slk 4) := rfl
theorem head5_eq : head5 (F := Ideal) n z x1 x2 x3 x4 x5 x6 x7 x8 x9 = gen n z x1 x2 x3 x4 x5 x6 x7 x8 x9 5 (slq 5) (slk 5) := rfl
theorem head6_eq : head6 (F := Ideal) n z x1 x2 x3 x4 x5 x6 x7 x8 x9 = gen n z x1 x2 x3 x4 x5 x6 x7 x8 x9 6 (slq 6) (slk 6) := rfl
theorem head7_eq : head7 (F := Ideal) n z x1 x2 x3 x4 x5 x6 x7 x8 x9 = gen n z x1 x2 x3 x4 x5 x6 x7 x8 x9 7 (slq 7) (slk 7) := rfl
theorem head8_eq : head8 (F := Ideal) n z x1 x2 x3 x4 x5 x6 x7 x8 x9 = gen n z x1 x2 x3 x4 x5 x6 x7 x8 x9 8 (slq 8) (slk 8) := rfl
theorem head9_eq : head9 (F := Ideal) n z x1 x2 x3 x4 x5 x6 x7 x8 x9 = gen n z x1 x2 x3 x4 x5 x6 x7 x8 x9 9 (slq 9) (slk 9) := rfl
theorem head10_eq : head10 (F := Ideal) n z x1 x2 x3 x4 x5 x6 x7 x8 x9 = gen n z x1 x2 x3 x4 x5 x6 x7 x8 x9 10 (slq 10) (slk 10) := rfl
theorem head11_eq : head11 (F := Ideal) n z x1 x2 x3 x4 x5 x6 x7 x8 x9 = gen n z x1 x2 x3 x4 x5 x6 x7 x8 x9 11 (slq 11) (slk 11) := rfl
theorem head12_eq : head12 (F := Ideal) n z x1 x2 x3 x4 x5 x6 x7 x8 x9 = gen n z x1 x2 x3 x4 x5 x6 x7 x8 x9 12 (slq 12) (slk 12) := rfl
theorem head13_eq : head13 (F := Ideal) n z x1 x2 x3 x4 x5 x6 x7 x8 x9 = gen n z x1 x2 x3 x4 x5 x6 x7 x8 x9 13 (slq 13) (slk 13) := rfl
theorem head14_eq : head14 (F := Ideal) n z x1 x2 x3 x4 x5 x6 x7 x8 x9 = gen n z x1 x2 x3 x4 x5 x6 x7 x8 x9 14 (slq 14) (slk 14) := rfl
theorem head15_eq : head15 (F := Ideal) n z x1 x2 x3 x4 x5 x6 x7 x8 x9 = gen n z x1 x2 x3 x4 x5 x6 x7 x8 x9 15 (slq 15) (slk 15) := rfl

/-- Sixteen pieces of sixty-four columns make up the block. -/
theorem pieces (f : Fin 16 → FVec Ideal S128x64 .f32) :
    Shape.Concatenates ((List.ofFn fun h : Fin 16 => (⟨S128x64, f h⟩ : (s : Shape) × (s.Idx → EReal))).map (·.1)) S128x1024 1 := by
  have e : (List.ofFn fun h : Fin 16 => (⟨S128x64, f h⟩ : (s : Shape) × (s.Idx → EReal))).map (·.1) = List.replicate 16 S128x64 := by
    simp [List.map_ofFn, Function.comp_def, List.ofFn_const]
  rw [e]
  exact concatenates_S128x64_S128x64_S128x64_S128x64_S128x64_S128x64_S128x64_S128x64_S128x64_S128x64_S128x64_S128x64_S128x64_S128x64_S128x64_S128x64_S128x1024_d1

theorem stored_heads : stored (F := Ideal) n z x1 x2 x3 x4 x5 x6 x7 x8 x9
    = concatenate S128x1024 1 (List.ofFn fun h : Fin 16 => (⟨S128x64, gen n z x1 x2 x3 x4 x5 x6 x7 x8 x9 h (slq h) (slk h)⟩ : (s : Shape) × (s.Idx → EReal)))
        (pieces fun h => gen n z x1 x2 x3 x4 x5 x6 x7 x8 x9 h (slq h) (slk h)) := by
  unfold stored
  rw [head0_eq, head1_eq, head2_eq, head3_eq, head4_eq, head5_eq, head6_eq, head7_eq, head8_eq, head9_eq, head10_eq, head11_eq, head12_eq, head13_eq, head14_eq, head15_eq]
  rfl

theorem stored_split (r : Fin 128) (h : Fin 16) (c : Fin 64) :
    stored (F := Ideal) n z x1 x2 x3 x4 x5 x6 x7 x8 x9 (ix2 r ⟨64 * h.val + c.val, by omega⟩) = gen n z x1 x2 x3 x4 x5 x6 x7 x8 x9 h (slq h) (slk h) (ix2 r c) := by
  rw [stored_heads]
  refine concatenate_ofFn_apply (t := S128x1024) (s₁ := S128x64) 1 (fun h : Fin 16 => gen n z x1 x2 x3 x4 x5 x6 x7 x8 x9 h (slq h) (slk h)) _ rfl 64 rfl
    (ix2 r ⟨64 * h.val + c.val, by omega⟩) h ?_ (ix2 r c) ?_ fun b hb => ?_
  · show (64 * h.val + c.val) / 64 = h.val
    omega
  · show c.val = (64 * h.val + c.val) % 64
    omega
  · match b with
    | ⟨0, _⟩ => rfl
    | ⟨1, _⟩ => exact absurd rfl hb

/-- The head's score of row `r` against place `j`, from the turned queries and keys. -/
def scoreOf (q k : Fin 64 → EReal) : EReal := ∑ c : Fin 64, (q c * Ideal.ofBits .f32 0x3E000000#32) * k c

theorem gen_apply (h : Fin 16) (r : Fin 128) (c : Fin 64) :
    gen n z x1 x2 x3 x4 x5 x6 x7 x8 x9 h (slq h) (slk h) (ix2 r c)
      = rowQuot (fun j : Fin 256 => if k0_pay14 n (ix2 r j) = 1#1 then
            ∑ l : Fin 64, k0_pay3 (F := Ideal) x6 x7 x1 (ix2 r ⟨64 * h.val + l.val, by omega⟩)
              * p96 (F := Ideal) x2 x3 x6 x7 x8 x9 (ix2 j ⟨64 * (h.val / 8) + l.val, by omega⟩) else ⊥)
          (fun j => k0_pay13 (F := Ideal) x5 x4 (ix2 j ⟨64 * (h.val / 8) + c.val, by omega⟩)) (z h) := by
  unfold gen
  rw [Head.out_apply]
  have sq : ∀ l : Fin 64, extractStridedSlice S128x64 ![0, 64 * h.val] (k0_pay3 (F := Ideal) x6 x7 x1) (slq h) (ix2 r l)
      = k0_pay3 (F := Ideal) x6 x7 x1 (ix2 r ⟨64 * h.val + l.val, by omega⟩) := fun l => by
    refine extractStridedSlice_apply _ _ (slq h) (ix2 r l) _ fun b => ?_
    match b with
    | ⟨0, _⟩ => exact (Nat.zero_add _).symm
    | ⟨1, _⟩ => rfl
  have sk : ∀ (x : FVec Ideal S256x128 .bf16) (j : Fin 256) (l : Fin 64),
      extractStridedSlice S256x64 ![0, 64 * (h.val / 8)] x (slk h) (ix2 j l) = x (ix2 j ⟨64 * (h.val / 8) + l.val, by omega⟩) := fun x j l => by
    refine extractStridedSlice_apply _ _ (slk h) (ix2 j l) _ fun b => ?_
    match b with
    | ⟨0, _⟩ => exact (Nat.zero_add _).symm
    | ⟨1, _⟩ => rfl
  refine congrArg₂ (fun s v => rowQuot s v (z h)) (funext fun j => ?_) (funext fun j => sk _ j c)
  rw [Head.scores_apply]
  exact if_congr Iff.rfl (Finset.sum_congr rfl fun l _ => by rw [sq, sk]) rfl

/-- The stored block from the tables and blocks read at a row: each head's row over the places it sees. -/
theorem stored_apply (m : Nat) (hm : m < 32) (cs sn : Fin 256 → Fin 8 → EReal)
    (h6 : ∀ r l : Fin 128, x6 (ix2 r l) = tabCos (cs ⟨128 + r.val, by omega⟩) ⟨l.val % 64, by omega⟩)
    (h7 : ∀ r l : Fin 128, x7 (ix2 r l) = tabSin (sn ⟨128 + r.val, by omega⟩) ⟨l.val % 64, by omega⟩)
    (h8 : ∀ r l : Fin 128, x8 (ix2 r l) = tabCos (cs ⟨r.val, by omega⟩) ⟨l.val % 64, by omega⟩)
    (h9 : ∀ r l : Fin 128, x9 (ix2 r l) = tabSin (sn ⟨r.val, by omega⟩) ⟨l.val % 64, by omega⟩)
    (k v : Fin 256 → Fin 128 → EReal)
    (hk : ∀ (r l : Fin 128), x3 (ix2 r l) = k ⟨r.val, by omega⟩ l) (hk' : ∀ (r l : Fin 128), x2 (ix2 r l) = k ⟨128 + r.val, by omega⟩ l)
    (hv : ∀ (r l : Fin 128), x5 (ix2 r l) = v ⟨r.val, by omega⟩ l) (hv' : ∀ (r l : Fin 128), x4 (ix2 r l) = v ⟨128 + r.val, by omega⟩ l)
    (r : Fin 128) (h : Fin 16) (c : Fin 64) :
    stored (F := Ideal) (BitVec.ofNat 32 m) z x1 x2 x3 x4 x5 x6 x7 x8 x9 (ix2 r ⟨64 * h.val + c.val, by omega⟩)
      = rowQuot (fun j : Fin 256 => if vis m r.val j.val then
            scoreOf (turned (fun l => x1 (ix2 r ⟨64 * h.val + l.val, by omega⟩)) (cs ⟨128 + r.val, by omega⟩) (sn ⟨128 + r.val, by omega⟩))
              (turned (fun l => k j ⟨64 * (h.val / 8) + l.val, by omega⟩) (cs j) (sn j)) else ⊥)
          (fun j => v j ⟨64 * (h.val / 8) + c.val, by omega⟩) (z h) := by
  rw [stored_split, gen_apply]
  refine congrArg₂ (fun s v => rowQuot s v (z h)) (funext fun j => ?_) (funext fun j => ?_)
  · refine if_congr (mask_iff m hm r j) (Finset.sum_congr rfl fun l _ => ?_) rfl
    rw [pay3_eq, ropeQ_apply (cs := cs ⟨128 + r.val, by omega⟩) (sn := sn ⟨128 + r.val, by omega⟩) _ _ _ _ _ _ (h6 r) (h7 r), p96_eq, stack_apply]
    refine congrArg₂ (· * ·) rfl ?_
    by_cases hj : j.val < 128
    · rw [dif_pos hj, truncf_apply]
      refine (ropeK_apply _ _ _ (cs j) (sn j) ⟨j.val, hj⟩ ⟨h.val / 8, by omega⟩ l (h8 ⟨j.val, hj⟩) (h9 ⟨j.val, hj⟩)).trans ?_
      exact congrArg (fun f => turned f (cs j) (sn j) l) (funext fun l' => hk ⟨j.val, hj⟩ _)
    · have e : (⟨128 + (j.val - 128), by omega⟩ : Fin 256) = j := Fin.ext (by show 128 + (j.val - 128) = j.val; omega)
      rw [dif_neg hj, truncf_apply]
      refine (ropeK_apply _ _ _ (cs j) (sn j) ⟨j.val - 128, by omega⟩ ⟨h.val / 8, by omega⟩ l (fun l' => ?_) (fun l' => ?_)).trans ?_
      · rw [h6]; exact congrArg (fun i => tabCos (cs i) _) e
      · rw [h7]; exact congrArg (fun i => tabSin (sn i) _) e
      · exact congrArg (fun f => turned f (cs j) (sn j) l) (funext fun l' => (hk' ⟨j.val - 128, by omega⟩ _).trans (congrArg (k · _) e))
  · refine (stack_apply x5 x4 j _).trans ?_
    by_cases hj : j.val < 128
    · rw [dif_pos hj, hv]
    · rw [dif_neg hj, hv']
      exact congrArg (v · _) (Fin.ext (by show 128 + (j.val - 128) = j.val; omega))

end Cert.Proof.Heads

end
-- ==== Proof.Attn.RefRow.lean ====
/- The reference's masked scores, their maximum and sum, and its result, read at a row and a column. -/
module

public import proofs.«01_k».proof.Proof.Attn.RefRope
public import proofs.«01_k».proof.Proof.Attn.Heads
public import Idealize.ShloMosaic.Lib.ValueIdxRank6

@[expose] public section

noncomputable section

namespace Cert.Proof.RefRow

open Idealize.ShloMosaic Idealize.ShloMosaic.ValueIdx Cert.ReferenceIdeal Cert.ReferenceIdeal.Read Cert.Proof.Rope Cert.Proof.RefRope Cert.Proof.Row Cert.Proof.Heads

variable (x0 : (⟨S16384x2304, .bf16⟩ : BufTy).Contents (Elt Ideal)) (x1 : (⟨S4x4096, .i32⟩ : BufTy).Contents (Elt Ideal))
  (x2 : (⟨S16, .f32⟩ : BufTy).Contents (Elt Ideal))

/-- The position of row `r` of block `n`. -/
def pos (n : Fin 32) (r : Fin 128) : Fin 4096 := ⟨128 * n.val + r.val, by omega⟩

/-- The head of member `e` of group `g`. -/
def head (g : Fin 2) (e : Fin 8) : Fin 16 := ⟨8 * g.val + e.val, by omega⟩

theorem queries_apply (b : Fin 4) (n : Fin 32) (r : Fin 128) (g : Fin 2) (e : Fin 8) (c : Fin 64) :
    val_main_v61 (F := Ideal) x0 x1 (ix6 b n r g e c) = val_main_v39 (F := Ideal) x0 x1 (ix4 b (pos n r) (head g e) c) := by
  unfold val_main_v61
  refine shapeCast_apply _ _ (ix6 b n r g e c) (ix4 b (pos n r) (head g e) c) ?_
  rewrite [Shape.rowMajor_val_four, Shape.rowMajor_val_six]
  show ((b.val * 4096 + (128 * n.val + r.val)) * 16 + (8 * g.val + e.val)) * 64 + c.val
    = ((((b.val * 32 + n.val) * 128 + r.val) * 2 + g.val) * 8 + e.val) * 64 + c.val
  omega

theorem keys_own (b : Fin 4) (n : Fin 32) (r : Fin 128) (g : Fin 2) (c : Fin 64) :
    val_main_v62 (F := Ideal) x0 x1 (ix5 b n r g c) = val_main_v58 (F := Ideal) x0 x1 (ix4 b (pos n r) g c) := by
  rw [val_main_v62_apply]
  refine congrArg _ (funext fun a => Fin.ext ?_)
  match a with
  | ⟨0, _⟩ => show ((((b.val * 32 + n.val) * 128 + r.val) * 2 + g.val) * 64 + c.val) / 524288 = b.val; omega
  | ⟨1, _⟩ => show ((((b.val * 32 + n.val) * 128 + r.val) * 2 + g.val) * 64 + c.val) / 128 % 4096 = 128 * n.val + r.val; omega
  | ⟨2, _⟩ => show ((((b.val * 32 + n.val) * 128 + r.val) * 2 + g.val) * 64 + c.val) / 64 % 2 = g.val; omega
  | ⟨3, _⟩ => show ((((b.val * 32 + n.val) * 128 + r.val) * 2 + g.val) * 64 + c.val) % 64 = c.val; omega

/-- The keys the rows of block `n` see: the block before it, then the block itself. -/
theorem keys_apply (b : Fin 4) (n : Fin 32) (j : Fin 256) (g : Fin 2) (c : Fin 64) (s : Fin 4096) (hs : s.val + 128 = 128 * n.val + j.val) :
    val_main_v65 (F := Ideal) x0 x1 (ix5 b n j g c) = val_main_v58 (F := Ideal) x0 x1 (ix4 b s g c) := by
  unfold val_main_v65
  by_cases h : j.val < 128
  · refine (concatenate_pair_apply_left (t := S4x32x256x2x64) (s₁ := S4x32x128x2x64) (s₂ := S4x32x128x2x64) 2 _ _ _ (ix5 b n j g c) rfl
      (ix5 b n ⟨j.val, h⟩ g c) fun a => ?_).trans ?_
    · match a with
      | ⟨0, _⟩ => rfl
      | ⟨1, _⟩ => rfl
      | ⟨2, _⟩ => rfl
      | ⟨3, _⟩ => rfl
      | ⟨4, _⟩ => rfl
    · rw [val_main_v64_apply]
      unfold val_main_v63
      refine (pad_apply_of_inside (s := S4x32x128x2x64) _ _ _ _ _ _ _ _ (ix5 b ⟨n.val - 1, by omega⟩ ⟨j.val, h⟩ g c) fun a => ?_).trans ?_
      · match a with
        | ⟨0, _⟩ => show b.val = 0 + b.val * (0 + 1); omega
        | ⟨1, _⟩ => show n.val = 1 + (n.val - 1) * (0 + 1); omega
        | ⟨2, _⟩ => show j.val = 0 + j.val * (0 + 1); omega
        | ⟨3, _⟩ => show g.val = 0 + g.val * (0 + 1); omega
        | ⟨4, _⟩ => show c.val = 0 + c.val * (0 + 1); omega
      · rw [keys_own]
        exact congrArg (fun s => val_main_v58 (F := Ideal) x0 x1 (ix4 b s g c))
          (Fin.ext (by show 128 * (n.val - 1) + j.val = s.val; omega))
  · refine (concatenate_pair_apply_right (t := S4x32x256x2x64) (s₁ := S4x32x128x2x64) (s₂ := S4x32x128x2x64) 2 _ _ _ (ix5 b n j g c) rfl rfl
      (ix5 b n ⟨j.val - 128, by omega⟩ g c) (fun a ha => ?_) ?_).trans ?_
    · match a with
      | ⟨0, _⟩ => rfl
      | ⟨1, _⟩ => rfl
      | ⟨2, _⟩ => exact absurd rfl ha
      | ⟨3, _⟩ => rfl
      | ⟨4, _⟩ => rfl
    · show j.val - 128 + 128 = j.val; omega
    · rw [keys_own]
      exact congrArg (fun s => val_main_v58 (F := Ideal) x0 x1 (ix4 b s g c))
        (Fin.ext (by show 128 * n.val + (j.val - 128) = s.val; omega))

theorem values_own (b : Fin 4) (n : Fin 32) (r : Fin 128) (g : Fin 2) (c : Fin 64) :
    val_main_v66 (F := Ideal) x0 (ix5 b n r g c) = val_main_v60 (F := Ideal) x0 (ix4 b (pos n r) g c) := by
  rw [val_main_v66_apply]
  refine congrArg _ (funext fun a => Fin.ext ?_)
  match a with
  | ⟨0, _⟩ => show ((((b.val * 32 + n.val) * 128 + r.val) * 2 + g.val) * 64 + c.val) / 524288 = b.val; omega
  | ⟨1, _⟩ => show ((((b.val * 32 + n.val) * 128 + r.val) * 2 + g.val) * 64 + c.val) / 128 % 4096 = 128 * n.val + r.val; omega
  | ⟨2, _⟩ => show ((((b.val * 32 + n.val) * 128 + r.val) * 2 + g.val) * 64 + c.val) / 64 % 2 = g.val; omega
  | ⟨3, _⟩ => show ((((b.val * 32 + n.val) * 128 + r.val) * 2 + g.val) * 64 + c.val) % 64 = c.val; omega

/-- The values the rows of block `n` see: the block before it, then the block itself. -/
theorem values_apply (b : Fin 4) (n : Fin 32) (j : Fin 256) (g : Fin 2) (c : Fin 64) (s : Fin 4096) (hs : s.val + 128 = 128 * n.val + j.val) :
    val_main_v69 (F := Ideal) x0 (ix5 b n j g c) = val_main_v60 (F := Ideal) x0 (ix4 b s g c) := by
  unfold val_main_v69
  by_cases h : j.val < 128
  · refine (concatenate_pair_apply_left (t := S4x32x256x2x64) (s₁ := S4x32x128x2x64) (s₂ := S4x32x128x2x64) 2 _ _ _ (ix5 b n j g c) rfl
      (ix5 b n ⟨j.val, h⟩ g c) fun a => ?_).trans ?_
    · match a with
      | ⟨0, _⟩ => rfl
      | ⟨1, _⟩ => rfl
      | ⟨2, _⟩ => rfl
      | ⟨3, _⟩ => rfl
      | ⟨4, _⟩ => rfl
    · rw [val_main_v68_apply]
      unfold val_main_v67
      refine (pad_apply_of_inside (s := S4x32x128x2x64) _ _ _ _ _ _ _ _ (ix5 b ⟨n.val - 1, by omega⟩ ⟨j.val, h⟩ g c) fun a => ?_).trans ?_
      · match a with
        | ⟨0, _⟩ => show b.val = 0 + b.val * (0 + 1); omega
        | ⟨1, _⟩ => show n.val = 1 + (n.val - 1) * (0 + 1); omega
        | ⟨2, _⟩ => show j.val = 0 + j.val * (0 + 1); omega
        | ⟨3, _⟩ => show g.val = 0 + g.val * (0 + 1); omega
        | ⟨4, _⟩ => show c.val = 0 + c.val * (0 + 1); omega
      · rw [values_own]
        exact congrArg (fun s => val_main_v60 (F := Ideal) x0 (ix4 b s g c))
          (Fin.ext (by show 128 * (n.val - 1) + j.val = s.val; omega))
  · refine (concatenate_pair_apply_right (t := S4x32x256x2x64) (s₁ := S4x32x128x2x64) (s₂ := S4x32x128x2x64) 2 _ _ _ (ix5 b n j g c) rfl rfl
      (ix5 b n ⟨j.val - 128, by omega⟩ g c) (fun a ha => ?_) ?_).trans ?_
    · match a with
      | ⟨0, _⟩ => rfl
      | ⟨1, _⟩ => rfl
      | ⟨2, _⟩ => exact absurd rfl ha
      | ⟨3, _⟩ => rfl
      | ⟨4, _⟩ => rfl
    · show j.val - 128 + 128 = j.val; omega
    · rw [values_own]
      exact congrArg (fun s => val_main_v60 (F := Ideal) x0 (ix4 b s g c))
        (Fin.ext (by show 128 * n.val + (j.val - 128) = s.val; omega))

/-- The score of row `r` against key `j`. -/
theorem score_apply (b : Fin 4) (n : Fin 32) (g : Fin 2) (e : Fin 8) (r : Fin 128) (j : Fin 256) :
    val_main_v73 (F := Ideal) x0 x1 (ix6 b n g e r j)
      = (∑ c : Fin 64, val_main_v65 (F := Ideal) x0 x1 (ix5 b n j g c) * val_main_v61 (F := Ideal) x0 x1 (ix6 b n r g e c))
        * Ideal.ofBits .f32 0x3E000000#32 := by
  rw [val_main_v73_apply, val_main_v71_apply, val_main_v70_apply, val_main_v72_apply]
  refine congrArg₂ (fun x y : EReal => x * y) (Finset.sum_congr rfl fun c _ => ?_) rfl
  exact congrArg₂ (fun x y : EReal => x * y) (congrArg _ (eq_ix5 _)) (congrArg _ (eq_ix6 _))

theorem rel_word (x r j : BitVec 32) : IntOp.subi (IntOp.addi x r) (IntOp.addi (IntOp.subi x 128#32) j) = (r + 128#32) - j := by
  show x + r - (x - 128#32 + j) = r + 128#32 - j
  bv_omega

set_option maxRecDepth 100000 in
theorem near : ∀ (r : Fin 128) (j : Fin 256), IntOp.andi (IntOp.cmpi .sge (BitVec.ofNat 32 r.val + 128#32 - BitVec.ofNat 32 j.val) 0#32)
    (IntOp.cmpi .slt (BitVec.ofNat 32 r.val + 128#32 - BitVec.ofNat 32 j.val) 128#32) = 1#1 ↔ r.val < j.val ∧ j.val ≤ r.val + 128 := by
  decide +kernel

set_option maxRecDepth 100000 in
theorem inside : ∀ (n : Fin 32) (j : Fin 256),
    IntOp.cmpi .sge (IntOp.addi (IntOp.subi (IntOp.muli (BitVec.ofNat 32 n.val) 128#32) 128#32) (BitVec.ofNat 32 j.val)) 0#32 = 1#1
      ↔ 0 < n.val ∨ 128 ≤ j.val := by
  decide +kernel

/-- The reference's mask. -/
theorem mask_apply (n : Fin 32) (r : Fin 128) (j : Fin 256) :
    val_main_v101 (F := Ideal) (ix3 n r j) = 1#1 ↔ vis n.val r.val j.val := by
  have h : val_main_v101 (F := Ideal) (ix3 n r j)
      = IntOp.andi (IntOp.andi (IntOp.cmpi .sge (BitVec.ofNat 32 r.val + 128#32 - BitVec.ofNat 32 j.val) 0#32)
          (IntOp.cmpi .slt (BitVec.ofNat 32 r.val + 128#32 - BitVec.ofNat 32 j.val) 128#32))
        (IntOp.cmpi .sge (IntOp.addi (IntOp.subi (IntOp.muli (BitVec.ofNat 32 n.val) 128#32) 128#32) (BitVec.ofNat 32 j.val)) 0#32) := by
    rw [← rel_word (IntOp.muli (BitVec.ofNat 32 n.val) 128#32)]
    simp only [val_main_v101_apply, val_main_v100_apply, val_main_v99_apply, val_main_v98_apply, val_main_v97_apply, val_main_v96_apply,
      val_main_v95_apply, val_main_v94_apply, val_main_v93_apply, val_main_v92_apply, val_main_v91_apply, val_main_v90_apply,
      val_main_v89_apply, val_main_v88_apply, val_main_v87_apply, val_main_v86_apply, val_main_v85_apply, val_main_v84_apply,
      val_main_v83_apply, val_main_v82_apply, val_main_v81_apply, val_main_v80_apply, val_main_v79_apply, val_main_v78_apply,
      val_main_v77_apply, val_main_v76_apply, val_main_v75_apply, val_main_v74_apply]
    rfl
  rw [h, IntOp.andi_eq_one, near, inside]
  unfold vis
  tauto

theorem bot_apply (i : S4x32x2x8x128x256.Idx) : val_main_call2_v2 (F := Ideal) i = ⊥ := by
  rw [val_main_call2_v2_apply]
  exact ofBits_negInf_f32

/-- The reference's score under its mask. -/
def masked (b : Fin 4) (n : Fin 32) (g : Fin 2) (e : Fin 8) (r : Fin 128) (j : Fin 256) : EReal :=
  if vis n.val r.val j.val then
    (∑ c : Fin 64, val_main_v65 (F := Ideal) x0 x1 (ix5 b n j g c) * val_main_v61 (F := Ideal) x0 x1 (ix6 b n r g e c))
      * Ideal.ofBits .f32 0x3E000000#32
  else ⊥

theorem masked_apply (b : Fin 4) (n : Fin 32) (g : Fin 2) (e : Fin 8) (r : Fin 128) (j : Fin 256) :
    val_main_v103 (F := Ideal) x0 x1 (ix6 b n g e r j) = masked x0 x1 b n g e r j := by
  have hm : val_main_call2_v1 (F := Ideal) (ix6 b n g e r j) = val_main_v101 (F := Ideal) (ix3 n r j) := by
    rw [val_main_call2_v1_apply, val_main_v102_apply]
    exact congrArg _ (eq_ix3 _)
  rw [val_main_v103_apply, hm, bot_apply, score_apply]
  unfold masked
  by_cases h : vis n.val r.val j.val
  · rw [if_pos h, (mask_apply n r j).mpr h]; rfl
  · rw [if_neg h]
    exact if_neg fun e => h ((mask_apply n r j).mp e)

/-- The scores of a row with its sink behind them. -/
theorem joined_left (b : Fin 4) (n : Fin 32) (g : Fin 2) (e : Fin 8) (r : Fin 128) (j : Fin 256) :
    val_main_v107 (F := Ideal) x0 x1 x2 (ix6 b n g e r j.castSucc) = masked x0 x1 b n g e r j := by
  rw [← masked_apply]
  unfold val_main_v107
  refine concatenate_pair_apply_left (t := S4x32x2x8x128x257) (s₁ := S4x32x2x8x128x256) (s₂ := S4x32x2x8x128x1) 5 _ _ _ (ix6 b n g e r j.castSucc) rfl
      (ix6 b n g e r j) fun a => ?_
  match a with
  | ⟨0, _⟩ => rfl
  | ⟨1, _⟩ => rfl
  | ⟨2, _⟩ => rfl
  | ⟨3, _⟩ => rfl
  | ⟨4, _⟩ => rfl
  | ⟨5, _⟩ => rfl

theorem joined_last (b : Fin 4) (n : Fin 32) (g : Fin 2) (e : Fin 8) (r : Fin 128) :
    val_main_v107 (F := Ideal) x0 x1 x2 (ix6 b n g e r (Fin.last 256)) = x2 (ix1 (head g e)) := by
  unfold val_main_v107
  refine (concatenate_pair_apply_right (t := S4x32x2x8x128x257) (s₁ := S4x32x2x8x128x256) (s₂ := S4x32x2x8x128x1) 5 _ _ _ (ix6 b n g e r (Fin.last 256)) rfl rfl
      (ix6 b n g e r (0 : Fin 1)) (fun a ha => ?_) rfl).trans ?_
  · match a with
    | ⟨0, _⟩ => rfl
    | ⟨1, _⟩ => rfl
    | ⟨2, _⟩ => rfl
    | ⟨3, _⟩ => rfl
    | ⟨4, _⟩ => rfl
    | ⟨5, _⟩ => exact absurd rfl ha
  · rw [val_main_v106_apply, val_main_v105_apply, val_main_v104_apply]
    refine congrArg x2 (funext fun a => Fin.ext ?_)
    match a with
    | ⟨0, _⟩ => show g.val * 8 + e.val = 8 * g.val + e.val; omega

theorem top_apply (b : Fin 4) (n : Fin 32) (g : Fin 2) (e : Fin 8) (r : Fin 128) :
    val_main_v110 (F := Ideal) x0 x1 x2 (ix5 b n g e r) = rowMax (masked x0 x1 b n g e r) (x2 (ix1 (head g e))) := by
  have h : val_main_v108 (F := Ideal) x0 x1 x2 (ix5 b n g e r)
      = Finset.univ.fold max ⊥ (fun k : Fin 257 => val_main_v107 (F := Ideal) x0 x1 x2 (ix6 b n g e r k)) := by
    unfold val_main_v108
    generalize val_main_v107 (F := Ideal) x0 x1 x2 = y
    refine (Host.reduce_eq_fold_single (s := S4x32x2x8x128x257) (t := S4x32x2x8x128) (FloatOps.maximumf (F := Ideal) (φ := .f32)) y _ _ (by decide) _ (ix5 b n g e r)).trans ?_
    refine congrArg₂ (fun (z : EReal) (f : Fin 257 → EReal) => Finset.univ.fold max z f) ofBits_negInf_f32 (funext fun k => congrArg y (eq_ix6 _))
  have hb : val_main_v109 (F := Ideal) (ix5 b n g e r) = ⊥ := by
    rw [val_main_v109_apply]
    exact ofBits_negInf_f32
  rw [val_main_v110_apply, h, hb]
  refine (rowMax_join (fun k : Fin 257 => val_main_v107 (F := Ideal) x0 x1 x2 (ix6 b n g e r k))).trans ?_
  exact congrArg₂ rowMax (funext fun j => joined_left x0 x1 x2 b n g e r j) (joined_last x0 x1 x2 b n g e r)

theorem weight_apply (b : Fin 4) (n : Fin 32) (g : Fin 2) (e : Fin 8) (r : Fin 128) (k : Fin 257) :
    val_main_v114 (F := Ideal) x0 x1 x2 (ix6 b n g e r k)
      = Ideal.exp (val_main_v107 (F := Ideal) x0 x1 x2 (ix6 b n g e r k) - rowMax (masked x0 x1 b n g e r) (x2 (ix1 (head g e)))) := by
  rw [val_main_v114_apply, val_main_v113_apply, val_main_v112_apply, val_main_v111_apply, ← top_apply]
  exact congrArg (fun i => Ideal.exp (val_main_v107 (F := Ideal) x0 x1 x2 (ix6 b n g e r k) - val_main_v110 (F := Ideal) x0 x1 x2 i)) (eq_ix5 _)

theorem total_apply (b : Fin 4) (n : Fin 32) (g : Fin 2) (e : Fin 8) (r : Fin 128) :
    val_main_v115 (F := Ideal) x0 x1 x2 (ix5 b n g e r) = rowDen (masked x0 x1 b n g e r) (x2 (ix1 (head g e))) := by
  rw [val_main_v115_apply]
  have hz : (val_main_cst_14 (F := Ideal)) (Shape.Idx.first Gen.h_S_) = (0 : EReal) := Ideal.ofBits_zero_f32
  have hj := rowDen_join (fun k : Fin 257 => val_main_v107 (F := Ideal) x0 x1 x2 (ix6 b n g e r k))
  simp only [joined_left, joined_last] at hj
  rw [hz, ← hj]
  refine congrArg (0 + ·) (Finset.sum_congr rfl fun k _ => ?_)
  rw [← weight_apply]
  exact congrArg _ (eq_ix6 _)

/-- The reference's result at a row and a column. -/
theorem result_apply (b : Fin 4) (n : Fin 32) (r : Fin 128) (g : Fin 2) (e : Fin 8) (c : Fin 64) :
    val_main_v123 (F := Ideal) x0 x1 x2 (ix2 (row b (pos n r)) ⟨64 * (head g e).val + c.val, by omega⟩)
      = ∑ j : Fin 256, val_main_v69 (F := Ideal) x0 (ix5 b n j g c)
          * Ideal.div (Ideal.exp (masked x0 x1 b n g e r j - rowMax (masked x0 x1 b n g e r) (x2 (ix1 (head g e)))))
              (rowDen (masked x0 x1 b n g e r) (x2 (ix1 (head g e)))) := by
  have h : val_main_v122 (F := Ideal) x0 x1 x2 (ix2 (row b (pos n r)) ⟨64 * (head g e).val + c.val, by omega⟩)
      = val_main_v121 (F := Ideal) x0 x1 x2 (ix6 b n r g e c) := by
    unfold val_main_v122
    refine shapeCast_apply _ _ _ (ix6 b n r g e c) ?_
    rewrite [Shape.rowMajor_val_two, Shape.rowMajor_val_six]
    show ((((b.val * 32 + n.val) * 128 + r.val) * 2 + g.val) * 8 + e.val) * 64 + c.val
      = (4096 * b.val + (128 * n.val + r.val)) * 1024 + (64 * (8 * g.val + e.val) + c.val)
    omega
  rw [val_main_v123_apply, h, val_main_v121_apply, val_main_v120_apply]
  refine Finset.sum_congr rfl fun j _ => ?_
  refine congrArg₂ (fun x y : EReal => x * y) (congrArg _ (eq_ix5 _)) ?_
  have hi : idx_main_v119 (ridx_main_v120 (idx_main_v121 (ix6 b n r g e c)) j) = ix6 b n g e r j.castSucc := eq_ix6 _
  rw [val_main_v119_apply, hi, val_main_v118_apply, val_main_v117_apply, val_main_v116_apply, weight_apply, joined_left, ← total_apply]
  exact congrArg (fun i => Ideal.div _ (val_main_v115 (F := Ideal) x0 x1 x2 i)) (eq_ix5 _)

end Cert.Proof.RefRow

end
-- ==== Proof.Attn.Tables.lean ====
/- The tables of cosines and sines the host prepares for the kernel, read at a row and a lane: the reference's cosine and
   sine of the row's position, in the kernel's arrangement. -/
module

public import proofs.«01_k».proof.Proof.Gen.KernelIdeal.Value
public import proofs.«01_k».proof.Proof.Attn.RefRow

@[expose] public section

noncomputable section

namespace Cert.Proof.Tables

open Idealize.ShloMosaic Idealize.ShloMosaic.TcCoe Idealize.ShloMosaic.ValueIdx Idealize.SL.Sem Cert.KernelIdeal Cert.KernelIdeal.Gen
open Cert.Proof.Rope Cert.Proof.RefRope Cert.Proof.Row

/-- The frequencies as the host computes them. -/
def freq : FVec Ideal S8 .f32 :=
  Host.divf (broadcastInDim S8 ![] bcast_S_S8 (constant (F := Ideal) S_ .f32 0x3F800000#32))
    (Host.powf (broadcastInDim S8 ![] bcast_S_S8 (constant (F := Ideal) S_ .f32 0x48F42400#32))
      (Host.divf (addf (broadcastInDim S8 ![] bcast_S_S8 (constant (F := Ideal) S_ .f32 0x00000000#32))
          (mulf (broadcastInDim S8 ![] bcast_S_S8 (constant (F := Ideal) S_ .f32 0x40000000#32)) (sitofp .f32 (iotaInDim S8 32 0))))
        (broadcastInDim S8 ![] bcast_S_S8 (constant (F := Ideal) S_ .f32 0x41800000#32))))

theorem freq_eq : freq = Cert.ReferenceIdeal.Read.val_main_v10 (F := Ideal) := rfl

/-- The angle of every row. -/
def angles (p : IVec S4x4096 32) : FVec Ideal S16384x8 .f32 :=
  mulf (broadcastInDim S16384x8 ![0, 1] bcast_S16384x1_S16384x8_0_1 (shapeCast S16384x1 (sitofp (F := Ideal) .f32 p) shapeCasts_S4x4096_S16384x1))
    (broadcastInDim S16384x8 ![0, 1] bcast_S1x8_S16384x8_0_1 (broadcastInDim S1x8 ![1] bcast_S8_S1x8_1 freq))

theorem angles_apply (p : IVec S4x4096 32) (b : Fin 4) (s : Fin 4096) (j : Fin 8) :
    angles p (ix2 (row b s) j) = Cert.ReferenceIdeal.Read.val_main_v16 (F := Ideal) p (ix3 b s j) := by
  unfold angles
  rw [mulf_apply, freq_eq, Cert.ReferenceIdeal.Read.val_main_v16_apply, Cert.ReferenceIdeal.Read.val_main_v14_apply,
    Cert.ReferenceIdeal.Read.val_main_v12_apply, Cert.ReferenceIdeal.Read.val_main_v15_apply, Cert.ReferenceIdeal.Read.val_main_v13_apply]
  refine congrArg₂ (fun x y : EReal => x * y) ?_ ?_
  · refine (broadcastInDim_apply _ _ _ (ix2 (row b s) j) (ix2 (row b s) (0 : Fin 1)) fun a => ?_).trans ?_
    · match a with
      | ⟨0, _⟩ => show 4096 * b.val + s.val = if (16384 : Nat) = 1 then 0 else 4096 * b.val + s.val; rw [if_neg (by decide)]
      | ⟨1, _⟩ => show 0 = if (1 : Nat) = 1 then 0 else j.val; rw [if_pos rfl]
    · refine (shapeCast_apply _ _ (ix2 (row b s) (0 : Fin 1)) (ix2 b s) ?_).trans ?_
      · rewrite [Shape.rowMajor_val_two, Shape.rowMajor_val_two]
        show b.val * 4096 + s.val = (4096 * b.val + s.val) * 1 + 0
        omega
      · exact congrArg (Cert.ReferenceIdeal.Read.val_main_v11 (F := Ideal) p) (eq_ix2 _).symm
  · refine (broadcastInDim_apply _ _ _ (ix2 (row b s) j) (ix2 (0 : Fin 1) j) fun a => ?_).trans ?_
    · match a with
      | ⟨0, _⟩ => show 0 = if (1 : Nat) = 1 then 0 else 4096 * b.val + s.val; rw [if_pos rfl]
      | ⟨1, _⟩ => show j.val = if (8 : Nat) = 1 then 0 else j.val; rw [if_neg (by decide)]
    · refine (broadcastInDim_apply _ _ _ (ix2 (0 : Fin 1) j) (ix1 j) fun a => ?_).trans ?_
      · match a with
        | ⟨0, _⟩ => show j.val = if (8 : Nat) = 1 then 0 else j.val; rw [if_neg (by decide)]
      · exact congrArg (Cert.ReferenceIdeal.Read.val_main_v10 (F := Ideal)) (eq_ix1 _).symm

/-- Two copies of a head's table side by side. -/
def twice (x : FVec Ideal S16384x64 .f32) : FVec Ideal S16384x128 .f32 :=
  shapeCast S16384x128 (broadcastInDim S1x16384x2x64 ![0, 1, 2, 3] bcast_S1x16384x1x64_S1x16384x2x64_0_1_2_3
    (shapeCast S1x16384x1x64 x shapeCasts_S16384x64_S1x16384x1x64)) shapeCasts_S1x16384x2x64_S16384x128

theorem twice_apply (x : FVec Ideal S16384x64 .f32) (R : Fin 16384) (l : Fin 128) :
    twice x (ix2 R l) = x (ix2 R ⟨l.val % 64, by omega⟩) := by
  unfold twice
  refine (shapeCast_apply _ _ (ix2 R l) (ix4 (0 : Fin 1) R (⟨l.val / 64, by omega⟩ : Fin 2) (⟨l.val % 64, by omega⟩ : Fin 64)) ?_).trans ?_
  · rewrite [Shape.rowMajor_val_two, Shape.rowMajor_val_four]
    show ((0 * 16384 + R.val) * 2 + l.val / 64) * 64 + l.val % 64 = R.val * 128 + l.val
    omega
  · refine (broadcastInDim_apply _ _ _ _ (ix4 (0 : Fin 1) R (0 : Fin 1) (⟨l.val % 64, by omega⟩ : Fin 64)) fun a => ?_).trans ?_
    · match a with
      | ⟨0, _⟩ => show 0 = if (1 : Nat) = 1 then 0 else 0; rw [if_pos rfl]
      | ⟨1, _⟩ => show R.val = if (16384 : Nat) = 1 then 0 else R.val; rw [if_neg (by decide)]
      | ⟨2, _⟩ => show 0 = if (1 : Nat) = 1 then 0 else l.val / 64; rw [if_pos rfl]
      | ⟨3, _⟩ => show l.val % 64 = if (64 : Nat) = 1 then 0 else l.val % 64; rw [if_neg (by decide)]
    · refine shapeCast_apply _ _ _ (ix2 R (⟨l.val % 64, by omega⟩ : Fin 64)) ?_
      rewrite [Shape.rowMajor_val_two, Shape.rowMajor_val_four]
      show R.val * 64 + l.val % 64 = ((0 * 16384 + R.val) * 1 + 0) * 64 + l.val % 64
      omega

/-- Three tables side by side: eight lanes, eight lanes, forty-eight lanes. -/
def lanes (u v : FVec Ideal S16384x8 .f32) (w : FVec Ideal S16384x48 .f32) : FVec Ideal S16384x64 .f32 :=
  concatenate S16384x64 1 [⟨S16384x8, u⟩, ⟨S16384x8, v⟩, ⟨S16384x48, w⟩] concatenates_S16384x8_S16384x8_S16384x48_S16384x64_d1

theorem lanes_first (u v : FVec Ideal S16384x8 .f32) (w : FVec Ideal S16384x48 .f32) (R : Fin 16384) (c : Fin 64) (h : c.val < 8) :
    lanes u v w (ix2 R c) = u (ix2 R ⟨c.val, h⟩) := by
  refine concatenate_apply_piece (t := S16384x64) 1 [⟨S16384x8, u⟩, ⟨S16384x8, v⟩, ⟨S16384x48, w⟩] _ (ix2 R c) 0 (by simp) S16384x8 u rfl rfl 0 rfl
    (ix2 R ⟨c.val, h⟩) (fun a ha => ?_) ?_
  · match a with
    | ⟨0, _⟩ => rfl
    | ⟨1, _⟩ => exact absurd rfl ha
  · show 0 + c.val = c.val; omega

theorem lanes_second (u v : FVec Ideal S16384x8 .f32) (w : FVec Ideal S16384x48 .f32) (R : Fin 16384) (c : Fin 64) (h : ¬c.val < 8) (h' : c.val < 16) :
    lanes u v w (ix2 R c) = v (ix2 R ⟨c.val - 8, by omega⟩) := by
  refine concatenate_apply_piece (t := S16384x64) 1 [⟨S16384x8, u⟩, ⟨S16384x8, v⟩, ⟨S16384x48, w⟩] _ (ix2 R c) 1 (by simp) S16384x8 v rfl rfl 8 rfl
    (ix2 R ⟨c.val - 8, by omega⟩) (fun a ha => ?_) ?_
  · match a with
    | ⟨0, _⟩ => rfl
    | ⟨1, _⟩ => exact absurd rfl ha
  · show 8 + (c.val - 8) = c.val; omega

theorem lanes_third (u v : FVec Ideal S16384x8 .f32) (w : FVec Ideal S16384x48 .f32) (R : Fin 16384) (c : Fin 64) (h' : ¬c.val < 16) :
    lanes u v w (ix2 R c) = w (ix2 R ⟨c.val - 16, by omega⟩) := by
  refine concatenate_apply_piece (t := S16384x64) 1 [⟨S16384x8, u⟩, ⟨S16384x8, v⟩, ⟨S16384x48, w⟩] _ (ix2 R c) 2 (by simp) S16384x48 w rfl rfl 16 rfl
    (ix2 R ⟨c.val - 16, by omega⟩) (fun a ha => ?_) ?_
  · match a with
    | ⟨0, _⟩ => rfl
    | ⟨1, _⟩ => exact absurd rfl ha
  · show 16 + (c.val - 16) = c.val; omega

/-- Ones over the lanes the embedding leaves alone. -/
def ones : FVec Ideal S16384x48 .f32 := broadcastInDim S16384x48 ![] bcast_S_S16384x48 (constant (F := Ideal) S_ .f32 0x3F800000#32)

/-- The table of cosines. -/
def cosT (p : IVec S4x4096 32) : FVec Ideal S16384x128 .f32 := twice (lanes (Host.cos (angles p)) (Host.cos (angles p)) ones)

/-- The table of sines. -/
def sinT (p : IVec S4x4096 32) : FVec Ideal S16384x128 .f32 :=
  twice (lanes (Host.negf (Host.sin (angles p))) (Host.sin (angles p))
    (mulf (broadcastInDim S16384x48 ![] bcast_S_S16384x48 (constant (F := Ideal) S_ .f32 0x00000000#32)) ones))

theorem cosT_apply (p : IVec S4x4096 32) (b : Fin 4) (s : Fin 4096) (l : Fin 128) :
    cosT p (ix2 (row b s) l)
      = tabCos (fun j => Cert.ReferenceIdeal.Read.val_main_v17 (F := Ideal) p (ix3 b s j)) ⟨l.val % 64, by omega⟩ := by
  unfold cosT tabCos
  rw [twice_apply]
  by_cases h : l.val % 64 < 8
  · rw [dif_pos h, lanes_first _ _ _ _ _ h]; exact congrArg Ideal.cos (angles_apply p b s _)
  · rw [dif_neg h]
    by_cases h' : l.val % 64 < 16
    · rw [dif_pos h', lanes_second _ _ _ _ _ h h']; exact congrArg Ideal.cos (angles_apply p b s _)
    · rw [dif_neg h', lanes_third _ _ _ _ _ h']
      exact ofBits_one_f32

theorem sinT_apply (p : IVec S4x4096 32) (b : Fin 4) (s : Fin 4096) (l : Fin 128) :
    sinT p (ix2 (row b s) l)
      = tabSin (fun j => Cert.ReferenceIdeal.Read.val_main_v18 (F := Ideal) p (ix3 b s j)) ⟨l.val % 64, by omega⟩ := by
  unfold sinT tabSin
  rw [twice_apply]
  by_cases h : l.val % 64 < 8
  · rw [dif_pos h, lanes_first _ _ _ _ _ h]; exact congrArg (fun x => -Ideal.sin x) (angles_apply p b s _)
  · rw [dif_neg h]
    by_cases h' : l.val % 64 < 16
    · rw [dif_pos h', lanes_second _ _ _ _ _ h h']; exact congrArg Ideal.sin (angles_apply p b s _)
    · rw [dif_neg h', lanes_third _ _ _ _ _ h', mulf_apply]
      refine Eq.trans (congrArg (fun z : EReal => z * _) ?_) (zero_mul _)
      exact Ideal.ofBits_zero_f32

variable (m : (ℓ : Loc nD τ sig) → Buf (Elt Ideal) ℓ)

/-- The kernel's two tables are these. -/
theorem V_cos (c : Dev nD) : V m c main_v27 = cosT (m ((c : Thread nD τ).loc main_arg1)) := by
  show StableHlo.after hostOps0 _ (Proc.devRef .tc main_v27) = _
  after_results
  rfl

theorem V_sin (c : Dev nD) : V m c main_v30 = sinT (m ((c : Thread nD τ).loc main_arg1)) := by
  show StableHlo.after hostOps0 _ (Proc.devRef .tc main_v30) = _
  after_results
  rfl

end Cert.Proof.Tables

end
-- ==== Proof.Attn.Blocks.lean ====
/- The kernel's result array read at a row and a column: each grid point's blocks are the rows of its own block and of the
   block before it, so what the point writes is the attention of those rows. -/
module

public import proofs.«01_k».proof.Proof.Attn.Tables

@[expose] public section

noncomputable section

namespace Cert.Proof.Blocks

open Idealize.ShloMosaic Idealize.ShloMosaic.TcCoe Idealize.ShloMosaic.ValueIdx Idealize.SL.Sem Cert.KernelIdeal Cert.KernelIdeal.Gen
open Cert.KernelIdeal.Value Cert.Proof.Rope Cert.Proof.RefRope Cert.Proof.RefRow Cert.Proof.Row Cert.Proof.Heads Cert.Proof.Tables Cert.Proof.Payload

/-- The grid point of block `n` of sequence `b`. -/
def point (b : Fin 4) (n : Fin 32) : Fin cfg0.N := ⟨32 * b.val + n.val, by show 32 * b.val + n.val < 128; omega⟩

/-- The position of key `j` as the kernel's two blocks hold it. -/
def keyPos (n : Fin 32) (j : Fin 256) : Fin 4096 :=
  ⟨if j.val < 128 then 128 * (n.val - 1) + j.val else 128 * n.val + (j.val - 128), by split <;> omega⟩

theorem coords_eq : ∀ t : Fin cfg0.N, (grid0.coords t 1).val = t.val % 32 := (by decide +kernel : ∀ t : Fin grid0.N, _)
theorem idx0 : ∀ t : Fin cfg0.N, win0_0.index t (0 : Fin 1) = 0 := (by decide +kernel : ∀ t : Fin grid0.N, _)
theorem idx1 : ∀ t : Fin cfg0.N, win0_1.index t (0 : Fin 2) = t.val ∧ win0_1.index t (1 : Fin 2) = 1 :=
  (by decide +kernel : ∀ t : Fin grid0.N, _)
theorem idx2 : ∀ t : Fin cfg0.N, win0_2.index t (0 : Fin 2) = t.val ∧ win0_2.index t (1 : Fin 2) = 16 :=
  (by decide +kernel : ∀ t : Fin grid0.N, _)
theorem idx3 : ∀ t : Fin cfg0.N, win0_3.index t (0 : Fin 2) = 32 * (t.val / 32) + (t.val % 32 - 1) ∧ win0_3.index t (1 : Fin 2) = 16 :=
  (by decide +kernel : ∀ t : Fin grid0.N, _)
theorem idx4 : ∀ t : Fin cfg0.N, win0_4.index t (0 : Fin 2) = t.val ∧ win0_4.index t (1 : Fin 2) = 17 :=
  (by decide +kernel : ∀ t : Fin grid0.N, _)
theorem idx5 : ∀ t : Fin cfg0.N, win0_5.index t (0 : Fin 2) = 32 * (t.val / 32) + (t.val % 32 - 1) ∧ win0_5.index t (1 : Fin 2) = 17 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = 32 * (t.val / 32) + (t.val % 32 - 1) ∧ win0_8.index t (1 : Fin 2) = 0 :=
  (by decide +kernel : ∀ t : Fin grid0.N, _)
theorem idx9 : ∀ t : Fin cfg0.N, win0_9.index t (0 : Fin 2) = 32 * (t.val / 32) + (t.val % 32 - 1) ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)

theorem emb0 (t : Fin cfg0.N) (h : Fin 16) : ((cfg0.win 0).blk t).view.emb (ix1 h : S16.Idx) = (ix1 h : S16.Idx) := by
  have e0 := idx0 t
  funext a; apply Fin.ext
  match a with
  | ⟨0, _⟩ => show win0_0.index t (0 : Fin 1) * 16 + 1 * h.val = h.val; omega

theorem emb2 (b : Fin 4) (n : Fin 32) (r l : Fin 128) :
    ((cfg0.win 2).blk (point b n)).view.emb (ix2 r l : S128x128.Idx) = (ix2 (row b (pos n r)) (⟨2048 + l.val, by omega⟩ : Fin 2304) : S16384x2304.Idx) := by
  obtain ⟨e0, e1⟩ := idx2 (point b n)
  have ht : (point b n).val = 32 * b.val + n.val := rfl
  funext a; apply Fin.ext
  match a with
  | ⟨0, _⟩ => show win0_2.index (point b n) (0 : Fin 2) * 128 + 1 * r.val = 4096 * b.val + (128 * n.val + r.val); omega
  | ⟨1, _⟩ => show win0_2.index (point b n) (1 : Fin 2) * 128 + 1 * l.val = 2048 + l.val; omega

theorem emb3 (b : Fin 4) (n : Fin 32) (r l : Fin 128) :
    ((cfg0.win 3).blk (point b n)).view.emb (ix2 r l : S128x128.Idx) = (ix2 (row b (keyPos n ⟨r.val, by omega⟩)) (⟨2048 + l.val, by omega⟩ : Fin 2304) : S16384x2304.Idx) := by
  obtain ⟨e0, e1⟩ := idx3 (point b n)
  have ht : (point b n).val = 32 * b.val + n.val := rfl
  funext a; apply Fin.ext
  match a with
  | ⟨0, _⟩ => show win0_3.index (point b n) (0 : Fin 2) * 128 + 1 * r.val = 4096 * b.val + (if r.val < 128 then 128 * (n.val - 1) + r.val else 128 * n.val + (r.val - 128)); rw [if_pos r.isLt]; omega
  | ⟨1, _⟩ => show win0_3.index (point b n) (1 : Fin 2) * 128 + 1 * l.val = 2048 + l.val; omega

theorem emb4 (b : Fin 4) (n : Fin 32) (r l : Fin 128) :
    ((cfg0.win 4).blk (point b n)).view.emb (ix2 r l : S128x128.Idx) = (ix2 (row b (pos n r)) (⟨2176 + l.val, by omega⟩ : Fin 2304) : S16384x2304.Idx) := by
  obtain ⟨e0, e1⟩ := idx4 (point b n)
  have ht : (point b n).val = 32 * b.val + n.val := rfl
  funext a; apply Fin.ext
  match a with
  | ⟨0, _⟩ => show win0_4.index (point b n) (0 : Fin 2) * 128 + 1 * r.val = 4096 * b.val + (128 * n.val + r.val); omega
  | ⟨1, _⟩ => show win0_4.index (point b n) (1 : Fin 2) * 128 + 1 * l.val = 2176 + l.val; omega

theorem emb5 (b : Fin 4) (n : Fin 32) (r l : Fin 128) :
    ((cfg0.win 5).blk (point b n)).view.emb (ix2 r l : S128x128.Idx) = (ix2 (row b (keyPos n ⟨r.val, by omega⟩)) (⟨2176 + l.val, by omega⟩ : Fin 2304) : S16384x2304.Idx) := by
  obtain ⟨e0, e1⟩ := idx5 (point b n)
  have ht : (point b n).val = 32 * b.val + n.val := rfl
  funext a; apply Fin.ext
  match a with
  | ⟨0, _⟩ => show win0_5.index (point b n) (0 : Fin 2) * 128 + 1 * r.val = 4096 * b.val + (if r.val < 128 then 128 * (n.val - 1) + r.val else 128 * n.val + (r.val - 128)); rw [if_pos r.isLt]; omega
  | ⟨1, _⟩ => show win0_5.index (point b n) (1 : Fin 2) * 128 + 1 * l.val = 2176 + l.val; omega

theorem emb6 (b : Fin 4) (n : Fin 32) (r l : Fin 128) :
    ((cfg0.win 6).blk (point b n)).view.emb (ix2 r l : S128x128.Idx) = (ix2 (row b (pos n r)) l : S16384x128.Idx) := by
  obtain ⟨e0, e1⟩ := idx6 (point b n)
  have ht : (point b n).val = 32 * b.val + n.val := rfl
  funext a; apply Fin.ext
  match a with
  | ⟨0, _⟩ => show win0_6.index (point b n) (0 : Fin 2) * 128 + 1 * r.val = 4096 * b.val + (128 * n.val + r.val); omega
  | ⟨1, _⟩ => show win0_6.index (point b n) (1 : Fin 2) * 128 + 1 * l.val = l.val; omega

theorem emb7 (b : Fin 4) (n : Fin 32) (r l : Fin 128) :
    ((cfg0.win 7).blk (point b n)).view.emb (ix2 r l : S128x128.Idx) = (ix2 (row b (pos n r)) l : S16384x128.Idx) := by
  obtain ⟨e0, e1⟩ := idx7 (point b n)
  have ht : (point b n).val = 32 * b.val + n.val := rfl
  funext a; apply Fin.ext
  match a with
  | ⟨0, _⟩ => show win0_7.index (point b n) (0 : Fin 2) * 128 + 1 * r.val = 4096 * b.val + (128 * n.val + r.val); omega
  | ⟨1, _⟩ => show win0_7.index (point b n) (1 : Fin 2) * 128 + 1 * l.val = l.val; omega

theorem emb8 (b : Fin 4) (n : Fin 32) (r l : Fin 128) :
    ((cfg0.win 8).blk (point b n)).view.emb (ix2 r l : S128x128.Idx) = (ix2 (row b (keyPos n ⟨r.val, by omega⟩)) l : S16384x128.Idx) := by
  obtain ⟨e0, e1⟩ := idx8 (point b n)
  have ht : (point b n).val = 32 * b.val + n.val := rfl
  funext a; apply Fin.ext
  match a with
  | ⟨0, _⟩ => show win0_8.index (point b n) (0 : Fin 2) * 128 + 1 * r.val = 4096 * b.val + (if r.val < 128 then 128 * (n.val - 1) + r.val else 128 * n.val + (r.val - 128)); rw [if_pos r.isLt]; omega
  | ⟨1, _⟩ => show win0_8.index (point b n) (1 : Fin 2) * 128 + 1 * l.val = l.val; omega

theorem emb9 (b : Fin 4) (n : Fin 32) (r l : Fin 128) :
    ((cfg0.win 9).blk (point b n)).view.emb (ix2 r l : S128x128.Idx) = (ix2 (row b (keyPos n ⟨r.val, by omega⟩)) l : S16384x128.Idx) := by
  obtain ⟨e0, e1⟩ := idx9 (point b n)
  have ht : (point b n).val = 32 * b.val + n.val := rfl
  funext a; apply Fin.ext
  match a with
  | ⟨0, _⟩ => show win0_9.index (point b n) (0 : Fin 2) * 128 + 1 * r.val = 4096 * b.val + (if r.val < 128 then 128 * (n.val - 1) + r.val else 128 * n.val + (r.val - 128)); rw [if_pos r.isLt]; omega
  | ⟨1, _⟩ => show win0_9.index (point b n) (1 : Fin 2) * 128 + 1 * l.val = l.val; omega

theorem emb1 (b : Fin 4) (n : Fin 32) (r : Fin 128) (l : Fin 1024) :
    (win0_1.blk (point b n)).view.emb (fun a => ⟨((ix2 r l : S128x1024.Idx) a).val,
        lt_of_lt_of_eq ((ix2 r l : S128x1024.Idx) a).isLt (xsize0_1 (point b n) a).symm⟩)
      = (ix2 (row b (pos n r)) (⟨1024 + l.val, by omega⟩ : Fin 2304) : S16384x2304.Idx) := by
  obtain ⟨e0, e1⟩ := idx1 (point b n)
  have ht : (point b n).val = 32 * b.val + n.val := rfl
  funext a; apply Fin.ext
  match a with
  | ⟨0, _⟩ => show win0_1.index (point b n) (0 : Fin 2) * 128 + 1 * r.val = 4096 * b.val + (128 * n.val + r.val); omega
  | ⟨1, _⟩ => show win0_1.index (point b n) (1 : Fin 2) * 1024 + 1 * l.val = 1024 + l.val; omega

theorem emb10 (b : Fin 4) (n : Fin 32) (r : Fin 128) (l : Fin 1024) :
    ((cfg0.win 10).blk (point b n)).view.emb (ix2 r l : S128x1024.Idx) = (ix2 (row b (pos n r)) l : S16384x1024.Idx) := by
  obtain ⟨e0, e1⟩ := idx10 (point b n)
  have ht : (point b n).val = 32 * b.val + n.val := rfl
  funext a; apply Fin.ext
  match a with
  | ⟨0, _⟩ => show win0_10.index (point b n) (0 : Fin 2) * 128 + 1 * r.val = 4096 * b.val + (128 * n.val + r.val); omega
  | ⟨1, _⟩ => show win0_10.index (point b n) (1 : Fin 2) * 1024 + 1 * l.val = l.val; omega

variable (m : (ℓ : Loc nD τ sig) → Buf (Elt Ideal) ℓ)

theorem block0 (c : Dev nD) (t : Fin cfg0.N) (h : Fin 16) :
    (iblk m c 0 t : Vec Ideal S16 .f32) (ix1 h) = m ((c : Thread nD τ).loc main_arg2) (ix1 h) := by
  show V m c main_arg2 (((cfg0.win 0).blk t).view.emb (ix1 h : S16.Idx)) = _
  rw [emb0, V_main_arg2]

theorem block1 (c : Dev nD) (b : Fin 4) (n : Fin 32) (r : Fin 128) (l : Fin 1024) :
    (X0_1 m c (point b n) : Vec Ideal S128x1024 .bf16) (ix2 r l)
      = m ((c : Thread nD τ).loc main_arg0) (ix2 (row b (pos n r)) ⟨1024 + l.val, by omega⟩) := by
  unfold X0_1 Pipeline.Window.fill
  rw [dif_pos (moved0_1 (point b n) (ix2 r l : S128x1024.Idx))]
  show V m c main_arg0 _ = _
  rw [V_main_arg0]
  exact congrArg (m ((c : Thread nD τ).loc main_arg0)) (emb1 b n r l)

theorem block2 (c : Dev nD) (b : Fin 4) (n : Fin 32) (r l : Fin 128) :
    (iblk m c 2 (point b n) : Vec Ideal S128x128 .bf16) (ix2 r l)
      = m ((c : Thread nD τ).loc main_arg0) (ix2 (row b (pos n r)) ⟨2048 + l.val, by omega⟩) := by
  show V m c main_arg0 (((cfg0.win 2).blk (point b n)).view.emb (ix2 r l : S128x128.Idx)) = _
  rw [emb2, V_main_arg0]

theorem block3 (c : Dev nD) (b : Fin 4) (n : Fin 32) (r l : Fin 128) :
    (iblk m c 3 (point b n) : Vec Ideal S128x128 .bf16) (ix2 r l)
      = m ((c : Thread nD τ).loc main_arg0) (ix2 (row b (keyPos n ⟨r.val, by omega⟩)) ⟨2048 + l.val, by omega⟩) := by
  show V m c main_arg0 (((cfg0.win 3).blk (point b n)).view.emb (ix2 r l : S128x128.Idx)) = _
  rw [emb3, V_main_arg0]

theorem block4 (c : Dev nD) (b : Fin 4) (n : Fin 32) (r l : Fin 128) :
    (iblk m c 4 (point b n) : Vec Ideal S128x128 .bf16) (ix2 r l)
      = m ((c : Thread nD τ).loc main_arg0) (ix2 (row b (pos n r)) ⟨2176 + l.val, by omega⟩) := by
  show V m c main_arg0 (((cfg0.win 4).blk (point b n)).view.emb (ix2 r l : S128x128.Idx)) = _
  rw [emb4, V_main_arg0]

theorem block5 (c : Dev nD) (b : Fin 4) (n : Fin 32) (r l : Fin 128) :
    (iblk m c 5 (point b n) : Vec Ideal S128x128 .bf16) (ix2 r l)
      = m ((c : Thread nD τ).loc main_arg0) (ix2 (row b (keyPos n ⟨r.val, by omega⟩)) ⟨2176 + l.val, by omega⟩) := by
  show V m c main_arg0 (((cfg0.win 5).blk (point b n)).view.emb (ix2 r l : S128x128.Idx)) = _
  rw [emb5, V_main_arg0]

theorem block6 (c : Dev nD) (b : Fin 4) (n : Fin 32) (r l : Fin 128) :
    (iblk m c 6 (point b n) : Vec Ideal S128x128 .f32) (ix2 r l)
      = tabCos (fun j => Cert.ReferenceIdeal.Read.val_main_v17 (F := Ideal) (m ((c : Thread nD τ).loc main_arg1)) (ix3 b (pos n r) j))
          ⟨l.val % 64, by omega⟩ := by
  show V m c main_v27 (((cfg0.win 6).blk (point b n)).view.emb (ix2 r l : S128x128.Idx)) = _
  rw [emb6, V_cos, cosT_apply]

theorem block7 (c : Dev nD) (b : Fin 4) (n : Fin 32) (r l : Fin 128) :
    (iblk m c 7 (point b n) : Vec Ideal S128x128 .f32) (ix2 r l)
      = tabSin (fun j => Cert.ReferenceIdeal.Read.val_main_v18 (F := Ideal) (m ((c : Thread nD τ).loc main_arg1)) (ix3 b (pos n r) j))
          ⟨l.val % 64, by omega⟩ := by
  show V m c main_v30 (((cfg0.win 7).blk (point b n)).view.emb (ix2 r l : S128x128.Idx)) = _
  rw [emb7, V_sin, sinT_apply]

theorem block8 (c : Dev nD) (b : Fin 4) (n : Fin 32) (r l : Fin 128) :
    (iblk m c 8 (point b n) : Vec Ideal S128x128 .f32) (ix2 r l)
      = tabCos (fun j => Cert.ReferenceIdeal.Read.val_main_v17 (F := Ideal) (m ((c : Thread nD τ).loc main_arg1)) (ix3 b (keyPos n ⟨r.val, by omega⟩) j))
          ⟨l.val % 64, by omega⟩ := by
  show V m c main_v27 (((cfg0.win 8).blk (point b n)).view.emb (ix2 r l : S128x128.Idx)) = _
  rw [emb8, V_cos, cosT_apply]

theorem block9 (c : Dev nD) (b : Fin 4) (n : Fin 32) (r l : Fin 128) :
    (iblk m c 9 (point b n) : Vec Ideal S128x128 .f32) (ix2 r l)
      = tabSin (fun j => Cert.ReferenceIdeal.Read.val_main_v18 (F := Ideal) (m ((c : Thread nD τ).loc main_arg1)) (ix3 b (keyPos n ⟨r.val, by omega⟩) j))
          ⟨l.val % 64, by omega⟩ := by
  show V m c main_v30 (((cfg0.win 9).blk (point b n)).view.emb (ix2 r l : S128x128.Idx)) = _
  rw [emb9, V_sin, sinT_apply]

theorem keyPos_own (n : Fin 32) (r : Fin 128) : keyPos n ⟨128 + r.val, by omega⟩ = pos n r := by
  apply Fin.ext
  show (if 128 + r.val < 128 then 128 * (n.val - 1) + (128 + r.val) else 128 * n.val + (128 + r.val - 128)) = 128 * n.val + r.val
  rw [if_neg (by omega)]
  omega

/-- The kernel's row of scores. -/
def kernelScore (x0 : FVec Ideal S16384x2304 .bf16) (p : IVec S4x4096 32) (b : Fin 4) (n : Fin 32) (r : Fin 128) (h : Fin 16) (j : Fin 256) : EReal :=
  scoreOf (turned (fun l => x0 (ix2 (row b (pos n r)) ⟨1024 + (64 * h.val + l.val), by omega⟩))
      (fun i => Cert.ReferenceIdeal.Read.val_main_v17 (F := Ideal) p (ix3 b (pos n r) i))
      (fun i => Cert.ReferenceIdeal.Read.val_main_v18 (F := Ideal) p (ix3 b (pos n r) i)))
    (turned (fun l => x0 (ix2 (row b (keyPos n j)) ⟨2048 + (64 * (h.val / 8) + l.val), by omega⟩))
      (fun i => Cert.ReferenceIdeal.Read.val_main_v17 (F := Ideal) p (ix3 b (keyPos n j) i))
      (fun i => Cert.ReferenceIdeal.Read.val_main_v18 (F := Ideal) p (ix3 b (keyPos n j) i)))

/-- The kernel's result at a row and a column. -/
theorem final_apply (c : Dev nD) (b : Fin 4) (n : Fin 32) (r : Fin 128) (h : Fin 16) (d : Fin 64) :
    ((dats m 0 c).arrAt 10 cfg0.N : FVec Ideal S16384x1024 .bf16) (ix2 (row b (pos n r)) ⟨64 * h.val + d.val, by omega⟩)
      = rowQuot (fun j : Fin 256 => if vis n.val r.val j.val then
            kernelScore (m ((c : Thread nD τ).loc main_arg0)) (m ((c : Thread nD τ).loc main_arg1)) b n r h j else ⊥)
          (fun j => m ((c : Thread nD τ).loc main_arg0) (ix2 (row b (keyPos n j)) ⟨2176 + (64 * (h.val / 8) + d.val), by omega⟩))
          (m ((c : Thread nD τ).loc main_arg2) (ix1 h)) := by
  have hb := congrFun (blocks10 m c (point b n) (flush0_10 _)) (ix2 r (⟨64 * h.val + d.val, by omega⟩ : Fin 1024) : S128x1024.Idx)
  have hl : ((cfg0.win 10).blk (point b n)).view.read (Elt Ideal) ((dats m 0 c).arrAt 10 cfg0.N) (ix2 r (⟨64 * h.val + d.val, by omega⟩ : Fin 1024) : S128x1024.Idx)
      = ((dats m 0 c).arrAt 10 cfg0.N : FVec Ideal S16384x1024 .bf16) (ix2 (row b (pos n r)) ⟨64 * h.val + d.val, by omega⟩) :=
    congrArg ((dats m 0 c).arrAt 10 cfg0.N) (emb10 b n r _)
  refine (hl.symm.trans hb).trans ?_
  rw [flushed10_A, out_eq]
  have hn : (grid0.coords (point b n) 1).val = n.val := by
    rw [coords_eq]; show (32 * b.val + n.val) % 32 = n.val; omega
  rw [hn]
  refine (stored_apply _ _ _ _ _ _ _ _ _ _ n.val n.isLt
    (fun j i => Cert.ReferenceIdeal.Read.val_main_v17 (F := Ideal) (m ((c : Thread nD τ).loc main_arg1)) (ix3 b (keyPos n j) i))
    (fun j i => Cert.ReferenceIdeal.Read.val_main_v18 (F := Ideal) (m ((c : Thread nD τ).loc main_arg1)) (ix3 b (keyPos n j) i))
    (fun r l => by rw [block6, keyPos_own]) (fun r l => by rw [block7, keyPos_own]) (fun r l => block8 m c b n r l) (fun r l => block9 m c b n r l)
    (fun j l => m ((c : Thread nD τ).loc main_arg0) (ix2 (row b (keyPos n j)) ⟨2048 + l.val, by omega⟩))
    (fun j l => m ((c : Thread nD τ).loc main_arg0) (ix2 (row b (keyPos n j)) ⟨2176 + l.val, by omega⟩))
    (fun r l => block3 m c b n r l) (fun r l => by rw [block2, keyPos_own]) (fun r l => block5 m c b n r l) (fun r l => by rw [block4, keyPos_own])
    r h d).trans ?_
  unfold kernelScore
  simp only [block0, block1, keyPos_own]

end Cert.Proof.Blocks

end
-- ==== Proof.Attn.Finite.lean ====
/- What the precondition says, and what follows of it: queries, keys and sinks are real numbers, so are the cosines and sines
   of the positions, and so is every score. -/
module

public import proofs.«01_k».proof.Pre_finite_scores
public import proofs.«01_k».proof.Proof.Attn.Blocks
public import Idealize.ShloMosaic.Lib.ReduceAll

@[expose] public section

noncomputable section

namespace Cert.Proof.Finite

open Idealize.ShloMosaic Idealize.ShloMosaic.ValueIdx Cert.ReferenceIdeal Cert.ReferenceIdeal.Read
open Cert.Proof.Rope Cert.Proof.Row Cert.Proof.Heads Cert.Proof.RefRope Cert.Proof.RefRow Cert.Proof.Blocks

/-- A real number among the extended reals. -/
def IsReal (x : EReal) : Prop := ∃ r : ℝ, x = (r : EReal)

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r
theorem IsReal.mul {x y : EReal} (h : IsReal x) (k : IsReal y) : IsReal (x * y) := by
  obtain ⟨r, rfl⟩ := h; obtain ⟨t, rfl⟩ := k; exact ⟨r * t, (EReal.coe_mul r t).symm⟩
theorem IsReal.add {x y : EReal} (h : IsReal x) (k : IsReal y) : IsReal (x + y) := by
  obtain ⟨r, rfl⟩ := h; obtain ⟨t, rfl⟩ := k; exact ⟨r + t, (EReal.coe_add r t).symm⟩
theorem IsReal.sub {x y : EReal} (h : IsReal x) (k : IsReal y) : IsReal (x - y) := by
  obtain ⟨r, rfl⟩ := h; obtain ⟨t, rfl⟩ := k; exact ⟨r - t, (EReal.coe_sub r t).symm⟩

theorem isReal_of_abs {x : EReal} (h : max x (-x) < ⊤) : IsReal x := by
  induction x with
  | bot => simp at h
  | top => simp at h
  | coe r => exact ⟨r, rfl⟩

theorem isReal_sum {ι : Type*} (t : Finset ι) (f : ι → EReal) (h : ∀ i ∈ t, IsReal (f i)) : IsReal (∑ i ∈ t, f i) := by
  induction t using Finset.cons_induction with
  | empty => exact ⟨0, by simp⟩
  | cons a t ha ih =>
    rw [Finset.sum_cons]
    exact (h a (Finset.mem_cons_self a t)).add (ih fun i hi => h i (Finset.mem_cons_of_mem hi))

theorem isReal_turned {x : Fin 64 → EReal} {cs sn : Fin 8 → EReal} (hx : ∀ l, IsReal (x l)) (hc : ∀ i, IsReal (cs i)) (hs : ∀ i, IsReal (sn i))
    (c : Fin 64) : IsReal (turned x cs sn c) := by
  unfold turned
  split
  · exact ((hx _).mul (hc _)).sub ((hx _).mul (hs _))
  · split
    · exact ((hx _).mul (hc _)).add ((hx _).mul (hs _))
    · exact hx _

theorem isReal_eighth : IsReal (Ideal.ofBits .f32 0x3E000000#32) := ⟨_, ofBits_eighth_f32⟩

theorem isReal_scoreOf {q k : Fin 64 → EReal} (hq : ∀ l, IsReal (q l)) (hk : ∀ l, IsReal (k l)) : IsReal (scoreOf q k) :=
  isReal_sum _ _ fun c _ => ((hq c).mul isReal_eighth).mul (hk c)

theorem ofBits_two : Ideal.ofBits .f32 0x40000000#32 = ((2 : ℝ) : EReal) := by
  simp [Ideal.ofBits, Ideal.ieee]
  rw [← EReal.coe_mul]
  norm_num

theorem ofBits_sixteen : Ideal.ofBits .f32 0x41800000#32 = ((16 : ℝ) : EReal) := by
  simp [Ideal.ofBits, Ideal.ieee]
  rw [← EReal.coe_mul]
  norm_num

theorem ofBits_base : Ideal.ofBits .f32 0x48F42400#32 = ((500000 : ℝ) : EReal) := by
  simp [Ideal.ofBits, Ideal.ieee]
  rw [← EReal.coe_mul]
  norm_num

/-- A real number over a real number that is not zero. -/
theorem IsReal.div {x : EReal} (h : IsReal x) (r : ℝ) (hr : r ≠ 0) : IsReal (Ideal.div x (r : EReal)) := by
  obtain ⟨t, rfl⟩ := h
  unfold Ideal.div
  rw [if_neg (fun h => hr (EReal.coe_eq_zero.mp h)), ← EReal.coe_inv, ← EReal.coe_mul]
  exact ⟨_, rfl⟩

theorem isReal_frequency (i : S8.Idx) : IsReal (val_main_v10 (F := Ideal) i) := by
  have h6 : IsReal (val_main_v6 (F := Ideal) i) := by
    have e : val_main_v6 (F := Ideal) i = Ideal.div (Ideal.ofBits .f32 0x00000000#32
        + Ideal.ofBits .f32 0x40000000#32 * val_main_v0 (F := Ideal) i) (Ideal.ofBits .f32 0x41800000#32) := by
      rw [val_main_v6_apply, val_main_v4_apply, val_main_v2_apply, val_main_v3_apply, val_main_v1_apply, val_main_v5_apply]
      rfl
    rw [e, ofBits_sixteen, ofBits_two]
    refine IsReal.div (IsReal.add ⟨0, Ideal.ofBits_zero_f32⟩ (IsReal.mul ⟨_, rfl⟩ ?_)) 16 (by norm_num)
    exact ⟨_, rfl⟩
  obtain ⟨t, ht⟩ := h6
  have e : val_main_v10 (F := Ideal) i = Ideal.div (Ideal.ofBits .f32 0x3F800000#32)
      (Ideal.pow (Ideal.ofBits .f32 0x48F42400#32) (val_main_v6 (F := Ideal) i)) := by
    rw [val_main_v10_apply, val_main_v9_apply, val_main_v8_apply, val_main_v7_apply]
    rfl
  rw [e, ht, ofBits_base, ofBits_one_f32]
  exact IsReal.div ⟨1, EReal.coe_one.symm⟩ (Real.rpow 500000 t) (Real.rpow_pos_of_pos (by norm_num) t).ne'

variable (p : IVec Cert.ReferenceIdeal.S4x4096 32)

theorem isReal_angle (i : S4x4096x8.Idx) : IsReal (val_main_v16 (F := Ideal) p i) := by
  rw [val_main_v16_apply, val_main_v14_apply, val_main_v12_apply, val_main_v11_apply, val_main_v15_apply, val_main_v13_apply]
  exact IsReal.mul ⟨_, rfl⟩ (isReal_frequency _)

theorem isReal_cos (i : S4x4096x8.Idx) : IsReal (val_main_v17 (F := Ideal) p i) := by
  obtain ⟨r, hr⟩ := isReal_angle p i
  rw [val_main_v17_apply, hr]
  exact ⟨Real.cos r, rfl⟩

theorem isReal_sin (i : S4x4096x8.Idx) : IsReal (val_main_v18 (F := Ideal) p i) := by
  obtain ⟨r, hr⟩ := isReal_angle p i
  rw [val_main_v18_apply, hr]
  exact ⟨Real.sin r, rfl⟩

/-- The precondition's own shapes fit. -/
theorem facts : Cert.Pre_finite_scores.Facts :=
  { slices_S16384x2304_S16384x1152_0_1024 := by decide
    bitsLt_bf16_f32 := by decide
    bcast_S_S16384x1152 := by decide
    reducesTo_S16384x1152_S_d0_1 := by decide
    h_S_ := by decide
    bcast_S_S16 := by decide
    reducesTo_S16_S_d0 := by decide }

instance : Subsingleton Cert.Pre_finite_scores.S_.Idx := ⟨fun a b => funext fun i => i.elim0⟩

theorem isReal_of_cmp {x : EReal} (h : FloatOps.cmpf (F := Ideal) (φ := .f32) .olt (max x (-x)) (Ideal.ofBits .f32 0x7F800000#32) = 1#1) : IsReal x := by
  rw [ofBits_inf_f32] at h
  refine isReal_of_abs ?_
  by_contra hc
  have h' : BitVec.ofBool (decide (max x (-x) < (⊤ : EReal))) = 1#1 := h
  rw [decide_eq_false hc] at h'
  exact absurd h' (by decide)

section
attribute [local instance] facts

variable (x0 : FVec Ideal Cert.Pre_finite_scores.S16384x2304 .bf16) (x1 : IVec Cert.Pre_finite_scores.S4x4096 32)
  (x2 : FVec Ideal Cert.Pre_finite_scores.S16 .f32) (h : Cert.Pre_finite_scores.fn x0 x1 x2 = fun _ => 1#1)
include h

/-- Every query and key coordinate is real. -/
theorem isReal_entry (R : Fin 16384) (l : Fin 2304) (hl : 1024 ≤ l.val) (hl' : l.val < 2176) : IsReal (x0 (ix2 R l)) := by
  have h0 := (IntOp.andi_eq_one.1 (congrFun h ix0)).1
  have h1 := Host.reduce_andi_all _ _ _ _ _ h0 (ix2 R (⟨l.val - 1024, by omega⟩ : Fin 1152))
  have e : (extractStridedSlice Cert.Pre_finite_scores.S16384x1152 ![0, 1024] x0 Cert.Pre_finite_scores.Facts.slices_S16384x2304_S16384x1152_0_1024)
      (ix2 R (⟨l.val - 1024, by omega⟩ : Fin 1152)) = x0 (ix2 R l) := by
    refine extractStridedSlice_apply _ _ _ _ _ fun a => ?_
    match a with
    | ⟨0, _⟩ => show R.val = 0 + R.val; omega
    | ⟨1, _⟩ => show l.val = 1024 + (l.val - 1024); omega
  rw [← e]
  exact isReal_of_cmp h1

/-- Every sink is real. -/
theorem isReal_sink (k : Fin 16) : IsReal (x2 (ix1 k)) := by
  have h0 := (IntOp.andi_eq_one.1 (congrFun h ix0)).2
  exact isReal_of_cmp (Host.reduce_andi_all _ _ _ _ _ h0 (ix1 k))

/-- Every score is real. -/
theorem isReal_score (b : Fin 4) (n : Fin 32) (r : Fin 128) (k : Fin 16) (j : Fin 256) : IsReal (kernelScore x0 x1 b n r k j) :=
  isReal_scoreOf
    (isReal_turned (fun l => isReal_entry x0 x1 x2 h _ _ (by show 1024 ≤ 1024 + _; omega) (by show 1024 + _ < 2176; omega))
      (fun _ => isReal_cos x1 _) (fun _ => isReal_sin x1 _))
    (isReal_turned (fun l => isReal_entry x0 x1 x2 h _ _ (by show 1024 ≤ 2048 + _; omega) (by show 2048 + _ < 2176; omega))
      (fun _ => isReal_cos x1 _) (fun _ => isReal_sin x1 _))

end

end Cert.Proof.Finite

end
-- ==== Proof.Attn.Final.lean ====
/- The attention's rows in the kernel and in the reference are equal, and so are the two whole results. -/
module

public import proofs.«01_k».proof.Proof.Attn.Finite

@[expose] public section

noncomputable section

namespace Cert.Proof.Final

open Idealize.ShloMosaic Idealize.ShloMosaic.TcCoe Idealize.ShloMosaic.ValueIdx Idealize.SL.Sem Cert.KernelIdeal Cert.KernelIdeal.Gen
open Cert.Proof.Rope Cert.Proof.Row Cert.Proof.Heads Cert.Proof.RefRope Cert.Proof.RefRow Cert.Proof.Blocks Cert.Proof.Finite

attribute [local instance] Cert.Proof.Finite.facts

section
variable (x0 : FVec Ideal S16384x2304 .bf16) (x1 : IVec S4x4096 32)

theorem keyPos_spec (n : Fin 32) (r : Fin 128) (j : Fin 256) (hv : vis n.val r.val j.val) : (keyPos n j).val + 128 = 128 * n.val + j.val := by
  obtain ⟨h1, h2, h3⟩ := hv
  show (if j.val < 128 then 128 * (n.val - 1) + j.val else 128 * n.val + (j.val - 128)) + 128 = _
  split <;> omega

/-- A head's group of keys and values. -/
theorem head_group (g : Fin 2) (e : Fin 8) : (head g e).val / 8 = g.val := by
  show (8 * g.val + e.val) / 8 = g.val
  omega

/-- The reference's masked scores are the kernel's. -/
theorem masked_eq (b : Fin 4) (n : Fin 32) (r : Fin 128) (g : Fin 2) (e : Fin 8) (j : Fin 256) :
    masked x0 x1 b n g e r j = if vis n.val r.val j.val then kernelScore x0 x1 b n r (head g e) j else ⊥ := by
  unfold masked
  by_cases hv : vis n.val r.val j.val
  · rw [if_pos hv, if_pos hv]
    unfold kernelScore scoreOf
    rw [scale_sum _ _ _ _ eighth_nonneg eighth_ne_top]
    refine congrArg (· * Ideal.ofBits .f32 0x3E000000#32) (Finset.sum_congr rfl fun c _ => ?_)
    rw [keys_apply x0 x1 b n j g c (keyPos n j) (keyPos_spec n r j hv), queries_apply, key_turned, query_turned]
    refine congrArg₂ (fun x y : EReal => x * y) (congrArg (fun f => turned f _ _ c) (funext fun l => ?_)) (congrArg (fun f => turned f _ _ c) (funext fun l => ?_))
    · rw [key_apply]
      refine congrArg x0 (congrArg (ix2 _) (Fin.ext ?_))
      show 2048 + 64 * g.val + l.val = 2048 + (64 * ((head g e).val / 8) + l.val)
      rw [head_group]; omega
    · rw [query_apply]
      refine congrArg x0 (congrArg (ix2 _) (Fin.ext ?_))
      show 1024 + 64 * (head g e).val + l.val = 1024 + (64 * (head g e).val + l.val)
      omega
  · rw [if_neg hv, if_neg hv]

theorem div_zero_left {d : EReal} (hd : d ≠ 0) : Ideal.div 0 d = 0 := by
  unfold Ideal.div
  rw [if_neg hd, zero_mul]

variable (x2 : FVec Ideal S16 .f32) (hfin : Cert.Pre_finite_scores.fn x0 x1 x2 = fun _ => 1#1)
include hfin

/-- The kernel's row, the quotient of the weighted sum, is the reference's sum of the quotients. -/
theorem row_eq (b : Fin 4) (n : Fin 32) (r : Fin 128) (g : Fin 2) (e : Fin 8) (c : Fin 64) :
    rowQuot (fun j : Fin 256 => if vis n.val r.val j.val then kernelScore x0 x1 b n r (head g e) j else ⊥)
        (fun j => x0 (ix2 (row b (keyPos n j)) ⟨2176 + (64 * ((head g e).val / 8) + c.val), by omega⟩)) (x2 (ix1 (head g e)))
      = Cert.ReferenceIdeal.Read.val_main_v123 (F := Ideal) x0 x1 x2 (ix2 (row b (pos n r)) ⟨64 * (head g e).val + c.val, by omega⟩) := by
  have hm : masked x0 x1 b n g e r = fun j : Fin 256 => if vis n.val r.val j.val then kernelScore x0 x1 b n r (head g e) j else ⊥ :=
    funext fun j => masked_eq x0 x1 b n r g e j
  have hs : ∀ j : Fin 256, (if vis n.val r.val j.val then kernelScore x0 x1 b n r (head g e) j else ⊥) ≠ ⊤ := fun j => by
    split
    · exact (isReal_score x0 x1 x2 hfin b n r (head g e) j).ne_top
    · exact bot_ne_top
  have hk := isReal_sink x0 x1 x2 hfin (head g e)
  rw [result_apply, hm, rowQuot_eq _ _ _ hs hk.ne_top hk.ne_bot]
  have hd := rowDen_pos _ _ hs hk.ne_top hk.ne_bot
  have ht := rowMax_ne_top _ _ hs hk.ne_top
  have hb := rowMax_ne_bot (fun j : Fin 256 => if vis n.val r.val j.val then kernelScore x0 x1 b n r (head g e) j else ⊥) _ hk.ne_bot
  refine Finset.sum_congr rfl fun j _ => ?_
  by_cases hv : vis n.val r.val j.val
  · refine congrArg (· * _) ?_
    rw [values_apply x0 b n j g c (keyPos n j) (keyPos_spec n r j hv), value_apply]
    refine congrArg x0 (congrArg (ix2 _) (Fin.ext ?_))
    show 2176 + (64 * ((head g e).val / 8) + c.val) = 2176 + 64 * g.val + c.val
    rw [head_group]; omega
  · have hz : Ideal.div (Ideal.exp ((if vis n.val r.val j.val then kernelScore x0 x1 b n r (head g e) j else ⊥)
        - rowMax (fun j : Fin 256 => if vis n.val r.val j.val then kernelScore x0 x1 b n r (head g e) j else ⊥) (x2 (ix1 (head g e)))))
        (rowDen (fun j : Fin 256 => if vis n.val r.val j.val then kernelScore x0 x1 b n r (head g e) j else ⊥) (x2 (ix1 (head g e)))) = 0 := by
      rw [if_neg hv, sub_eq_add_neg, EReal.bot_add]
      exact div_zero_left hd.ne'
    rw [hz, mul_zero, mul_zero]

end

/-- Every place of the result is a row of a block of a sequence and a lane of a head. -/
theorem place (i : S16384x1024.Idx) : ∃ (b : Fin 4) (n : Fin 32) (r : Fin 128) (g : Fin 2) (e : Fin 8) (c : Fin 64),
    i = ix2 (row b (pos n r)) ⟨64 * (head g e).val + c.val, by omega⟩ := by
  have h0 : (i 0).val < 16384 := (i 0).isLt
  have h1 : (i 1).val < 1024 := (i 1).isLt
  refine ⟨⟨(i 0).val / 4096, by omega⟩, ⟨(i 0).val % 4096 / 128, by omega⟩, ⟨(i 0).val % 128, by omega⟩, ⟨(i 1).val / 512, by omega⟩,
    ⟨(i 1).val / 64 % 8, by omega⟩, ⟨(i 1).val % 64, by omega⟩, ?_⟩
  funext a
  match a with
  | ⟨0, _⟩ =>
    apply Fin.ext
    show (i 0).val = 4096 * ((i 0).val / 4096) + (128 * ((i 0).val % 4096 / 128) + (i 0).val % 128)
    omega
  | ⟨1, _⟩ =>
    apply Fin.ext
    show (i 1).val = 64 * (8 * ((i 1).val / 512) + (i 1).val / 64 % 8) + (i 1).val % 64
    omega

variable (m : (ℓ : Loc nD τ sig) → Buf (Elt Ideal) ℓ)

/-- The two results are equal. -/
theorem result_eq (c : Dev nD)
    (hfin : Cert.Pre_finite_scores.fn (F := Ideal) (m ((c : Thread nD τ).loc main_arg0)) (m ((c : Thread nD τ).loc main_arg1)) (m ((c : Thread nD τ).loc main_arg2)) = fun _ => 1#1) :
    Cert.ReferenceIdeal.Read.val_main_v123 (F := Ideal) (m ((c : Thread nD τ).loc main_arg0)) (m ((c : Thread nD τ).loc main_arg1)) (m ((c : Thread nD τ).loc main_arg2))
      = ((dats m 0 c).arrAt 10 cfg0.N : FVec Ideal S16384x1024 .bf16) := by
  funext i
  obtain ⟨b, n, r, g, e, d, rfl⟩ := place i
  exact (row_eq _ _ _ hfin b n r g e d).symm.trans (final_apply m c b n r (head g e) d).symm

end Cert.Proof.Final

end
-- ==== Proof.Experts.Tables.lean ====
/- The experts' routing tables: what the precondition says of them, the block each tile reads and writes, which tiles
   run the body, and the body's two runs (the tile is live: the expert's network is stored; it is not: nothing happens). -/
module

public import proofs.«01_k».proof.Defs
public import proofs.«01_k».proof.Proof.Gen.ExpertsIdeal
public import proofs.«01_k».proof.Proof.Gen.ExpertsIdeal.Skeleton
public import proofs.«01_k».proof.Proof.Gen.ExpertsIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.WordCmp
public import Idealize.ShloMosaic.Lib.Tactic
public import Idealize.ShloMosaic.PureOps.Ideal
public import Idealize.ShloMosaic.Adequacy
public import Idealize.ShloMosaic.Init
public import Idealize.ShloMosaic.Lib.Pointwise.Index
public import Idealize.ShloMosaic.Lib.Pipeline.Value

@[expose] public section

set_option maxRecDepth 16384
set_option Elab.async false

noncomputable section

namespace Cert.Proof.ExpertsIdeal

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The three routing tables as the setup makes them: the expert of each tile is one of 32, `n` of the 160 tiles carry
    rows, and the block a tile reads and writes is its own, the last carrying tile's past the end. They are words over every
    kind `F` of floats; `F` is named so that a table says which run it belongs to. -/
structure Tabs (F : FTy → Type) where
  T0 : S160.Idx → BitVec 32
  T1 : S160.Idx → BitVec 32
  T2 : S1.Idx → BitVec 32
  n : ℕ
  pos : 1 ≤ n
  le : n ≤ 160
  h0 : ∀ x, (T0 x).toNat < 32
  h1 : ∀ x, (T1 x).toNat = min (x 0).val (n - 1)
  h2 : ∀ x, (T2 x).toNat = n

variable (tb : Tabs F)

/-- The tables as the pipeline holds them. -/
def held : pre0.Contents (Elt F) := fun | ⟨0, _⟩ => tb.T0 | ⟨1, _⟩ => tb.T1 | ⟨2, _⟩ => tb.T2 | ⟨_ + 3, h⟩ => absurd h (by simp)

/-- The tables' index of tile `i`. -/
def tile (i : grid0.Coords) : S160.Idx := ix1 (⟨(i 0).val, (i 0).isLt⟩ : Fin 160)

theorem off_eq : ∀ i : grid0.Coords, k0_off1 i 0 = (i 0).val := by decide +kernel

theorem at_tile (i : grid0.Coords) :
    (Rect.unit (s := S160) (k0_off1 i) S1.size (k0_off1_inb i)).emb (Shape.Idx.first (numel1_S1.symm ▸ Nat.one_pos)) = tile i := by
  funext a
  refine Fin.ext ?_
  have hr : ∀ b : Fin 1, b = 0 := by decide
  obtain rfl : a = 0 := hr a
  have hz : ∀ x : S1.Idx, (x 0).val = 0 := fun x => by have h : (x 0).val < 1 := (x 0).isLt; omega
  have e : ((Rect.unit (s := S160) (k0_off1 i) S1.size (k0_off1_inb i)).emb (Shape.Idx.first (numel1_S1.symm ▸ Nat.one_pos)) 0).val
      = k0_off1 i 0 + 1 * ((Shape.Idx.first (s := S1) (numel1_S1.symm ▸ Nat.one_pos)) 0).val := rfl
  rw [e, off_eq, hz]
  rfl

theorem at0 (i : grid0.Coords) : (held tb).at 0 (Rect.unit (s := S160) (k0_off1 i) S1.size (k0_off1_inb i)) numel1_S1 = tb.T0 (tile i) :=
  congrArg tb.T0 (at_tile i)
theorem at1 (i : grid0.Coords) : (held tb).at 1 (Rect.unit (s := S160) (k0_off1 i) S1.size (k0_off1_inb i)) numel1_S1 = tb.T1 (tile i) :=
  congrArg tb.T1 (at_tile i)

theorem row_block (i : grid0.Coords) : cc0_transform_0 (F := F) k0_off1_inb numel1_S1 (held tb) i = ![min (i 0).val (tb.n - 1), 0] := by
  have h : cc0_transform_0 (F := F) k0_off1_inb numel1_S1 (held tb) i = ![(tb.T1 (tile i)).toNat, 0] := by
    rw [← at1 tb i]; rfl
  rw [h, tb.h1]; rfl
theorem out_block (i : grid0.Coords) : cc0_transform_4 (F := F) k0_off1_inb numel1_S1 (held tb) i = ![min (i 0).val (tb.n - 1), 0] := row_block tb i
theorem wg_block (i : grid0.Coords) : cc0_transform_1 (F := F) k0_off1_inb numel1_S1 (held tb) i = ![(tb.T0 (tile i)).toNat, 0, 0] := by
  rw [← at0 tb i]; rfl
theorem wu_block (i : grid0.Coords) : cc0_transform_2 (F := F) k0_off1_inb numel1_S1 (held tb) i = ![(tb.T0 (tile i)).toNat, 0, 0] := wg_block tb i
theorem wd_block (i : grid0.Coords) : cc0_transform_3 (F := F) k0_off1_inb numel1_S1 (held tb) i = ![(tb.T0 (tile i)).toNat, 0, 0] := wg_block tb i

theorem rows_inb (i : grid0.Coords) (a) : (![min (i 0).val (tb.n - 1), 0] a + 1) * S256x2048.size a ≤ S40960x2048.size a := by
  have h1 := tb.pos
  have h2 := tb.le
  fin_cases a
  · show (min (i 0).val (tb.n - 1) + 1) * 256 ≤ 40960
    omega
  · show (0 + 1) * 2048 ≤ 2048
    omega
theorem up_inb (i : grid0.Coords) (a) : (![(tb.T0 (tile i)).toNat, 0, 0] a + 1) * S1x2048x256.size a ≤ S32x2048x256.size a := by
  have h1 := tb.h0 (tile i)
  fin_cases a
  · show ((tb.T0 (tile i)).toNat + 1) * 1 ≤ 32
    omega
  · show (0 + 1) * 2048 ≤ 2048
    omega
  · show (0 + 1) * 256 ≤ 256
    omega
theorem down_inb (i : grid0.Coords) (a) : (![(tb.T0 (tile i)).toNat, 0, 0] a + 1) * S1x256x2048.size a ≤ S32x256x2048.size a := by
  have h1 := tb.h0 (tile i)
  fin_cases a
  · show ((tb.T0 (tile i)).toNat + 1) * 1 ≤ 32
    omega
  · show (0 + 1) * 256 ≤ 256
    omega
  · show (0 + 1) * 2048 ≤ 2048
    omega

/-- Every block lies in its array. -/
theorem blocks_ok : ok0 (F := F) (held tb) :=
  ⟨fun i => ⟨fun a => by rw [row_block]; exact rows_inb tb i a, .inl rfl⟩,
   fun i => ⟨fun a => by rw [wg_block]; exact up_inb tb i a, .inr (Affine.block_words_dvd (s := S32x2048x256) (p := EltTy.packing .bf16) (by decide) (by decide))⟩,
   fun i => ⟨fun a => by rw [wu_block]; exact up_inb tb i a, .inr (Affine.block_words_dvd (s := S32x2048x256) (p := EltTy.packing .bf16) (by decide) (by decide))⟩,
   fun i => ⟨fun a => by rw [wd_block]; exact down_inb tb i a, .inr (Affine.block_words_dvd (s := S32x256x2048) (p := EltTy.packing .bf16) (by decide) (by decide))⟩,
   fun i => ⟨fun a => by rw [out_block]; exact rows_inb tb i a, .inl rfl⟩⟩

/-! ## Which tiles are live -/

theorem live_iff (i : grid0.Coords) (v : BitVec 32) (hv : v.toNat = tb.n) : k0_cond1 i v = 1#1 ↔ (i 0).val < tb.n := by
  have hl := tb.le
  have hi : (i 0).val < 160 := (i 0).isLt
  have hv' : v = BitVec.ofNat 32 tb.n := by rw [← hv, BitVec.ofNat_toNat, BitVec.setWidth_eq]
  subst hv'
  have e : k0_cond1 i (BitVec.ofNat 32 tb.n) = IntOp.cmpi .slt (BitVec.ofNat 32 (i 0).val) (BitVec.ofNat 32 tb.n) := by
    have key : ∀ b : BitVec 1, Scalar.cmpi .ne (Scalar.extui b : BitVec 32) 0#32 = b := by decide
    exact key _
  rw [e]
  exact WordCmp.cmpi_slt_ofNat_eq_one_iff (by omega) (by omega)

/-- The number of carrying tiles as the body reads it. -/
theorem count_read : (View.readAt (Elt F) (Memref.whole main_arg2).view (Rect.unit (s := S1) ![0] S1.size inb_S1_S1_0).toLoadRect tb.T2 (Shape.Idx.first (numel1_S1.symm ▸ Nat.one_pos)) : BitVec 32).toNat = tb.n :=
  tb.h2 _

/-- The number of carrying tiles as the pipeline reads it. -/
theorem count_held : ((held tb).atD 2 ![0] : BitVec 32).toNat = tb.n := by
  have h : (held tb).atD 2 ![0] = tb.T2 (fun a => ⟨![0] a, by fin_cases a; decide⟩) := by
    exact dif_pos (by intro a; fin_cases a; decide)
  rw [h]; exact tb.h2 _

/-! ## The body's two runs -/

abbrev tab0 : Memref sig .tc .smem S160 .i32 := Memref.whole main_arg0
abbrev tab1 : Memref sig .tc .smem S160 .i32 := Memref.whole main_arg1
abbrev tab2 : Memref sig .tc .smem S1 .i32 := Memref.whole main_arg2

section
variable (c : Dev nD) (i : grid0.Coords) (arg4 : Memref sig .tc .vmem S256x2048 .f32) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x256x2048 .bf16) (harg7 : arg7.IsWhole) (arg8 : Memref sig .tc .vmem S256x2048 .f32) (harg8 : arg8.IsWhole)
  (T0 : S160.Idx → Elt F .i32) (T1 : S160.Idx → Elt F .i32) (T2 : S1.Idx → Elt F .i32)
  (x0 : S256x2048.Idx → Elt F .f32) (x1 : S1x2048x256.Idx → Elt F .bf16) (x2 : S1x2048x256.Idx → Elt F .bf16) (x3 : S1x256x2048.Idx → Elt F .bf16)

set_option backward.proofsInPublic true in
set_option maxHeartbeats 8000000 in
/-- A live tile: the body stores one piece, the expert's network of its blocks. -/
noncomputable def liveRun (hc : k0_cond1 i (View.readAt (Elt F) tab2.view (Rect.unit (s := S1) ![0] S1.size inb_S1_S1_0).toLoadRect T2 (Shape.Idx.first (numel1_S1.symm ▸ Nat.one_pos))) = 1#1) :
    { out0 : List (View.Piece (Elt F) S256x2048 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tab0.view.loc (c : Thread nD τ) ↦{fullShare.right} T0)
          ∗ (tab1.view.loc (c : Thread nD τ) ↦{fullShare.right} T1)
          ∗ (tab2.view.loc (c : Thread nD τ) ↦{fullShare.right} T2)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tab0.view.loc (c : Thread nD τ) ↦{fullShare.right} T0)
              ∗ (tab1.view.loc (c : Thread nD τ) ↦{fullShare.right} T1)
              ∗ (tab2.view.loc (c : Thread nD τ) ↦{fullShare.right} T2)
              ∗ (∃ f, arg8.view.loc (c : Thread nD τ) ↦[arg8.view.set]{fullShare} arg8.view.writes (Elt F) f out0)) -∗ K ⟨⟩))
          ⊢ wp frame (wpE (defs₀ (F := F)) Variants.none c none) Set.univ (cc0_moe_experts i tab0 (Memref.isWhole_whole _) tab1 (Memref.isWhole_whole _) tab2 (Memref.isWhole_whole _) arg4 harg4 arg5 harg5 arg6 harg6 arg7 harg7 arg8 harg8) K } :=
  ⟨_, fun K => by
    unfold owns
    rw [cc0_moe_experts_eq_skeleton]; unfold cc0_moe_experts_skel
    iintro ⟨H0, H1, H2, H3, HT0, HT1, HT2, ⟨%d4, %f4, -, HO4⟩, Hk⟩
    have hT0 : tab0.IsWhole := Memref.isWhole_whole _
    have hT1 : tab1.IsWhole := Memref.isWhole_whole _
    have hT2 : tab2.IsWhole := Memref.isWhole_whole _
    sl_exec! (disch := first | (guard_target = k0_cond1 _ _ = _; exact hc))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HT2]; · iexact HT2
    iexists _; iexact HO4⟩

/-- The live tile's piece covers its block. -/
theorem live_cover (hc) (y : S256x2048.Idx) :
    ∃ pc ∈ (liveRun c i arg4 harg4 arg5 harg5 arg6 harg6 arg7 harg7 arg8 harg8 T0 T1 T2 x0 x1 x2 x3 hc).1, y ∈ pc.1.set :=
  View.cover_of_tiledL (liveRun c i arg4 harg4 arg5 harg5 arg6 harg6 arg7 harg7 arg8 harg8 T0 T1 T2 x0 x1 x2 x3 hc).1 S256x2048.size (by sl_kernel_rfl) y

theorem zero2 : (![0, 0] : Fin 2 → ℕ) = fun _ => 0 := by funext a; fin_cases a <;> rfl
theorem zero3 : (![0, 0, 0] : Fin 3 → ℕ) = fun _ => 0 := by funext a; fin_cases a <;> rfl

set_option maxHeartbeats 2000000 in
/-- What the live tile leaves is the expert's network of its blocks. -/
theorem live_left (hc) (f) :
    arg8.view.read (Elt F) (arg8.view.writes (Elt F) f (liveRun c i arg4 harg4 arg5 harg5 arg6 harg6 arg7 harg7 arg8 harg8 T0 T1 T2 x0 x1 x2 x3 hc).1)
      = k0_pay1 x0 x1 x2 x3 := by
  rw [View.read_writes_of_cover arg8.view f arg8.view arg8.view.junk _ (live_cover c i arg4 harg4 arg5 harg5 arg6 harg6 arg7 harg7 arg8 harg8 T0 T1 T2 x0 x1 x2 x3 hc)]
  rw [View.read_writes_junk_eq_canon]
  show View.canon ([⟨Rect.unit ![0, 0] S256x2048.size inb_S256x2048_S256x2048_0_0,
      k0_pay1 (View.readAt (Elt F) arg4.view (Rect.unit (s := S256x2048) ![0, 0] S256x2048.size inb_S256x2048_S256x2048_0_0).toLoadRect (arg4.view.rep x0))
        (View.readAt (Elt F) arg5.view (Rect.unit (s := S1x2048x256) ![0, 0, 0] S1x2048x256.size inb_S1x2048x256_S1x2048x256_0_0_0).toLoadRect (arg5.view.rep x1))
        (View.readAt (Elt F) arg6.view (Rect.unit (s := S1x2048x256) ![0, 0, 0] S1x2048x256.size inb_S1x2048x256_S1x2048x256_0_0_0).toLoadRect (arg6.view.rep x2))
        (View.readAt (Elt F) arg7.view (Rect.unit (s := S1x256x2048) ![0, 0, 0] S1x256x2048.size inb_S1x256x2048_S1x256x2048_0_0_0).toLoadRect (arg7.view.rep x3))⟩] :
      List (View.Piece (Elt F) S256x2048 .f32)) = _
  rw [View.canon_unit_zero zero2]
  have e0 : View.readAt (Elt F) arg4.view (Rect.unit (s := S256x2048) ![0, 0] S256x2048.size inb_S256x2048_S256x2048_0_0).toLoadRect (arg4.view.rep x0) = x0 := by
    rw [View.readAt_eq_ld, View.read_rep, View.ld_unit_zero zero2]
  have e1 : View.readAt (Elt F) arg5.view (Rect.unit (s := S1x2048x256) ![0, 0, 0] S1x2048x256.size inb_S1x2048x256_S1x2048x256_0_0_0).toLoadRect (arg5.view.rep x1) = x1 := by
    rw [View.readAt_eq_ld, View.read_rep, View.ld_unit_zero zero3]
  have e2 : View.readAt (Elt F) arg6.view (Rect.unit (s := S1x2048x256) ![0, 0, 0] S1x2048x256.size inb_S1x2048x256_S1x2048x256_0_0_0).toLoadRect (arg6.view.rep x2) = x2 := by
    rw [View.readAt_eq_ld, View.read_rep, View.ld_unit_zero zero3]
  have e3 : View.readAt (Elt F) arg7.view (Rect.unit (s := S1x256x2048) ![0, 0, 0] S1x256x2048.size inb_S1x256x2048_S1x256x2048_0_0_0).toLoadRect (arg7.view.rep x3) = x3 := by
    rw [View.readAt_eq_ld, View.read_rep, View.ld_unit_zero zero3]
  rw [e0, e1, e2, e3]
end

section
variable (c : Dev nD) (i : grid0.Coords) (arg4 : Memref sig .tc .vmem S256x2048 .f32) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x256x2048 .bf16) (harg7 : arg7.IsWhole) (arg8 : Memref sig .tc .vmem S256x2048 .f32) (harg8 : arg8.IsWhole)
  (T2 : S1.Idx → Elt F .i32)

set_option maxHeartbeats 8000000 in
/-- A tile past the carrying ones: the body only reads the count. -/
theorem idleRun (hc : ¬ k0_cond1 i (View.readAt (Elt F) tab2.view (Rect.unit (s := S1) ![0] S1.size inb_S1_S1_0).toLoadRect T2 (Shape.Idx.first (numel1_S1.symm ▸ Nat.one_pos))) = 1#1)
    (K : PUnit → sProp 𝕄) :
    iprop((tab2.view.loc (c : Thread nD τ) ↦{fullShare.right} T2)
          ∗ (iprop((tab2.view.loc (c : Thread nD τ) ↦{fullShare.right} T2)) -∗ K ⟨⟩))
      ⊢ wp frame (wpE (defs₀ (F := F)) Variants.none c none) Set.univ (cc0_moe_experts i tab0 (Memref.isWhole_whole _) tab1 (Memref.isWhole_whole _) tab2 (Memref.isWhole_whole _) arg4 harg4 arg5 harg5 arg6 harg6 arg7 harg7 arg8 harg8) K := by
  rw [cc0_moe_experts_eq_skeleton]; unfold cc0_moe_experts_skel
  iintro ⟨HT2, Hk⟩
  have hT2 : tab2.IsWhole := Memref.isWhole_whole _
  sl_exec! (disch := first | (guard_target = ¬ (k0_cond1 _ _ = _); exact hc))
  sl_step
  iapply Hk
  iexact HT2
end

end Cert.Proof.ExpertsIdeal
-- ==== Proof.Experts.Frame.lean ====
/- The experts' pipeline at any routing tables the precondition admits: what each window holds at each tile, the body's
   obligation, the launch, and what the run leaves (the arguments unchanged, the result assembled of the live tiles'). -/
module

public import proofs.«01_k».proof.Proof.Experts.Tables

@[expose] public section

set_option maxRecDepth 16384
set_option Elab.async false

noncomputable section

namespace Cert.Proof.ExpertsIdeal

open Cert.ExpertsIdeal Cert.ExpertsIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) 𝕄 := emb₁

variable (tb : Tabs F)

def adm : (pcfg0 (F := F)).Adm := ⟨held tb, blocks_ok tb⟩
abbrev cfgA : Pipeline.Cfg sig Λ₀ := cfg0 (F := F) (adm tb)
abbrev pcs : Fin 1 → Pipeline.Cfg sig Λ₀ := Pipeline.pin (pcfgs (F := F)) fun _ => adm tb

variable (m : (ℓ : Loc nD τ sig) → Buf (Elt F) ℓ) (ρ : Dev nD → PrngReg)

abbrev crd (t : Fin (cfgA tb).N) : (cfgA tb).grid.Coords := (cfgA tb).grid.coords t

abbrev stg0 (t : Fin (cfgA tb).N) : Memref sig .tc .vmem S256x2048 .f32 := spec0_0.stage ((cfgA tb).slots t (0 : Fin 5))
abbrev stg0w (t : Fin (cfgA tb).N) : (stg0 tb t).IsWhole := hstage0_0 (((cfgA tb).slots t (0 : Fin 5)).cast nbuf0_0)
abbrev stg1 (t : Fin (cfgA tb).N) : Memref sig .tc .vmem S1x2048x256 .bf16 := spec0_1.stage ((cfgA tb).slots t (1 : Fin 5))
abbrev stg1w (t : Fin (cfgA tb).N) : (stg1 tb t).IsWhole := hstage0_1 (((cfgA tb).slots t (1 : Fin 5)).cast nbuf0_1)
abbrev stg2 (t : Fin (cfgA tb).N) : Memref sig .tc .vmem S1x2048x256 .bf16 := spec0_2.stage ((cfgA tb).slots t (2 : Fin 5))
abbrev stg2w (t : Fin (cfgA tb).N) : (stg2 tb t).IsWhole := hstage0_2 (((cfgA tb).slots t (2 : Fin 5)).cast nbuf0_2)
abbrev stg3 (t : Fin (cfgA tb).N) : Memref sig .tc .vmem S1x256x2048 .bf16 := spec0_3.stage ((cfgA tb).slots t (3 : Fin 5))
abbrev stg3w (t : Fin (cfgA tb).N) : (stg3 tb t).IsWhole := hstage0_3 (((cfgA tb).slots t (3 : Fin 5)).cast nbuf0_3)
abbrev stg4 (t : Fin (cfgA tb).N) : Memref sig .tc .vmem S256x2048 .f32 := spec0_4.stage ((cfgA tb).slots t (4 : Fin 5))
abbrev stg4w (t : Fin (cfgA tb).N) : (stg4 tb t).IsWhole := hstage0_4 (((cfgA tb).slots t (4 : Fin 5)).cast nbuf0_4)

/-- Window `w`'s block at tile `t`, read off its array at launch. -/
def iblk (c : Dev nD) (w : Fin (cfgA tb).W) (t : Fin (cfgA tb).N) : (((cfgA tb).win w).xblock (crd tb t)).Idx → Elt F ((cfgA tb).win w).elt :=
  (((cfgA tb).win w).blk t).view.read (Elt F) ((s₀ m ρ).mem (((cfgA tb).win w).arr.view.loc (c : Thread nD τ)))

/-! ## The schedule -/

theorem tiles : (cfgA tb).N = 160 := N_0

theorem crd_grid : ∀ t : Fin grid0.N, (grid0.coords t 0).val = t.val := by decide +kernel
theorem crd_val (t : Fin (cfgA tb).N) : (crd tb t 0).val = t.val := crd_grid t

theorem out_index (t : Fin (cfgA tb).N) : ((cfgA tb).win (4 : Fin 5)).index t = ![min t.val (tb.n - 1), 0] := by
  rw [← crd_val tb t]; exact out_block tb (crd tb t)

theorem out_index_ne (t t' : Fin (cfgA tb).N) :
    ((cfgA tb).win (4 : Fin 5)).index t ≠ ((cfgA tb).win (4 : Fin 5)).index t' ↔ min t.val (tb.n - 1) ≠ min t'.val (tb.n - 1) := by
  rw [out_index, out_index]
  refine not_congr ⟨fun h => congrFun h 0, fun h => by rw [h]⟩

/-- The result's block is written back at the tiles below the last carrying one and at the grid's end. -/
theorem flush_iff (t : Fin (cfgA tb).N) : ((cfgA tb).win (4 : Fin 5)).flush t = true ↔ (t.val + 1 = 160 ∨ t.val + 1 < tb.n) := by
  have hN := tiles tb
  have hle := tb.le
  have hpos := tb.pos
  unfold Pipeline.Window.flush
  rw [Bool.and_eq_true, Bool.or_eq_true, decide_eq_true_iff, decide_eq_true_iff]
  have ho : ((cfgA tb).win (4 : Fin 5)).isOut = true := rfl
  have hg : (cfgA tb).grid.N = 160 := N_0
  constructor
  · rintro ⟨-, h | ⟨h, h'⟩⟩
    · exact .inl (h.trans hg)
    · have := (out_index_ne tb _ _).1 h'
      simp only at this
      omega
  · rintro (h | h)
    · exact ⟨ho, .inl (h.trans hg.symm)⟩
    · have hlt : t.val + 1 < (cfgA tb).grid.N := by rw [hg]; omega
      refine ⟨ho, .inr ⟨hlt, (out_index_ne tb _ _).2 ?_⟩⟩
      show min (t.val + 1) _ ≠ _
      omega

theorem idle_iff (t : Fin (cfgA tb).N) : (cfgA tb).idle (4 : Fin 5) ((cfgA tb).grid.coords t) = true ↔ tb.n ≤ t.val := by
  show (!(k0_cond1 (crd tb t) ((held tb).atD 2 ![0]) == 1#1)) = true ↔ _
  rw [Bool.not_eq_true', beq_eq_false_iff_ne, ne_eq, live_iff tb _ _ (count_held tb), crd_val]
  omega

/-- Past the carrying tiles nothing has been written back since the last carrying one. -/
theorem fresh_false : ∀ n : ℕ, tb.n ≤ n → n < 160 → (cfgA tb).fresh (4 : Fin 5) n = false
  | 0, h, _ => by have := tb.pos; omega
  | n + 1, h, hn => by
    have hN : n < (cfgA tb).N := by rw [tiles]; omega
    show (if h : n < (cfgA tb).N then ((cfgA tb).win (4 : Fin 5)).flush ⟨n, h⟩ || ((cfgA tb).idle (4 : Fin 5) ((cfgA tb).grid.coords ⟨n, h⟩) && (cfgA tb).fresh (4 : Fin 5) n) else true) = false
    rw [dif_pos hN]
    have hf : ((cfgA tb).win (4 : Fin 5)).flush ⟨n, hN⟩ = false := by
      rw [← Bool.not_eq_true, flush_iff]
      show ¬ (n + 1 = 160 ∨ n + 1 < tb.n)
      omega
    rw [hf, Bool.false_or]
    by_cases hl : tb.n ≤ n
    · rw [fresh_false n hl (by omega), Bool.and_false]
    · have hi : (cfgA tb).idle (4 : Fin 5) ((cfgA tb).grid.coords ⟨n, hN⟩) = false := by
        rw [← Bool.not_eq_true, idle_iff]; exact hl
      rw [hi, Bool.false_and]

/-! ## What each window holds after each tile -/

/-- The last carrying tile at or before `t`. -/
def carry (t : Fin (cfgA tb).N) : Fin (cfgA tb).N := ⟨min t.val (tb.n - 1), lt_of_le_of_lt (min_le_left _ _) t.isLt⟩

/-- The expert's network of tile `t`'s blocks. -/
def net (c : Dev nD) (t : Fin (cfgA tb).N) : S256x2048.Idx → Elt F .f32 :=
  k0_pay1 (F := F) (iblk tb m ρ c (0 : Fin 5) t) (iblk tb m ρ c (1 : Fin 5) t) (iblk tb m ρ c (2 : Fin 5) t) (iblk tb m ρ c (3 : Fin 5) t)

/-- Before tile `t`, the body's halves of the tables. -/
def Phi (c : Dev nD) : sProp 𝕄 :=
  iprop((tab0.view.loc (c : Thread nD τ) ↦{fullShare.right} tb.T0) ∗ (tab1.view.loc (c : Thread nD τ) ↦{fullShare.right} tb.T1) ∗ (tab2.view.loc (c : Thread nD τ) ↦{fullShare.right} tb.T2))

def dats (_ : Fin 1) (c : Dev nD) : Dat τ (Elt F) Unit ℕ (UR sig nD τ) ℕ (cfgA tb) c where
  A w := (s₀ m ρ).mem (((cfgA tb).win w).arr.view.loc (c : Thread nD τ))
  after w t := match w with
    | ⟨0, _⟩ => iblk tb m ρ c (0 : Fin 5) t
    | ⟨1, _⟩ => iblk tb m ρ c (1 : Fin 5) t
    | ⟨2, _⟩ => iblk tb m ρ c (2 : Fin 5) t
    | ⟨3, _⟩ => iblk tb m ρ c (3 : Fin 5) t
    | ⟨4, _⟩ => net tb m ρ c (carry tb t)
  Φ _ := Phi tb c
  q _ := fullShare
  owed _ := 0

theorem after0 (c : Dev nD) (t : Fin (cfgA tb).N) : (dats tb m ρ 0 c).after (0 : Fin 5) t = iblk tb m ρ c (0 : Fin 5) t := rfl
theorem after1 (c : Dev nD) (t : Fin (cfgA tb).N) : (dats tb m ρ 0 c).after (1 : Fin 5) t = iblk tb m ρ c (1 : Fin 5) t := rfl
theorem after2 (c : Dev nD) (t : Fin (cfgA tb).N) : (dats tb m ρ 0 c).after (2 : Fin 5) t = iblk tb m ρ c (2 : Fin 5) t := rfl
theorem after3 (c : Dev nD) (t : Fin (cfgA tb).N) : (dats tb m ρ 0 c).after (3 : Fin 5) t = iblk tb m ρ c (3 : Fin 5) t := rfl
theorem after4 (c : Dev nD) (t : Fin (cfgA tb).N) : (dats tb m ρ 0 c).after (4 : Fin 5) t = net tb m ρ c (carry tb t) := rfl

theorem before0 (c : Dev nD) (t : Fin (cfgA tb).N) (d) : (dats tb m ρ 0 c).before (0 : Fin 5) t d = iblk tb m ρ c (0 : Fin 5) t :=
  ((dats tb m ρ 0 c).before_in_eq_fetched (0 : Fin 5) rfl (fun _ => rfl) (fun _ _ _ => rfl) (fun t => by rw [after0]; unfold Dat.blockOf iblk; rfl) t d).trans
    (by unfold Dat.fetched Dat.blockOf iblk; rfl)
theorem before1 (c : Dev nD) (t : Fin (cfgA tb).N) (d) : (dats tb m ρ 0 c).before (1 : Fin 5) t d = iblk tb m ρ c (1 : Fin 5) t :=
  ((dats tb m ρ 0 c).before_in_eq_fetched (1 : Fin 5) rfl (fun _ => rfl) (fun _ _ _ => rfl) (fun t => by rw [after1]; unfold Dat.blockOf iblk; rfl) t d).trans
    (by unfold Dat.fetched Dat.blockOf iblk; rfl)
theorem before2 (c : Dev nD) (t : Fin (cfgA tb).N) (d) : (dats tb m ρ 0 c).before (2 : Fin 5) t d = iblk tb m ρ c (2 : Fin 5) t :=
  ((dats tb m ρ 0 c).before_in_eq_fetched (2 : Fin 5) rfl (fun _ => rfl) (fun _ _ _ => rfl) (fun t => by rw [after2]; unfold Dat.blockOf iblk; rfl) t d).trans
    (by unfold Dat.fetched Dat.blockOf iblk; rfl)
theorem before3 (c : Dev nD) (t : Fin (cfgA tb).N) (d) : (dats tb m ρ 0 c).before (3 : Fin 5) t d = iblk tb m ρ c (3 : Fin 5) t :=
  ((dats tb m ρ 0 c).before_in_eq_fetched (3 : Fin 5) rfl (fun _ => rfl) (fun _ _ _ => rfl) (fun t => by rw [after3]; unfold Dat.blockOf iblk; rfl) t d).trans
    (by unfold Dat.fetched Dat.blockOf iblk; rfl)

/-- A tile past the carrying ones leaves what the tile before left. -/
theorem carried (c : Dev nD) (t : Fin (cfgA tb).N) (ht : t.val ≠ 0) (hi : tb.n ≤ t.val) :
    (dats tb m ρ 0 c).after (4 : Fin 5) t = (dats tb m ρ 0 c).after (4 : Fin 5) ⟨t.val - 1, by omega⟩ := by
  rw [after4, after4]
  have e : carry tb t = carry tb ⟨t.val - 1, by omega⟩ := Fin.ext (by
    show min t.val (tb.n - 1) = min (t.val - 1) (tb.n - 1)
    omega)
  rw [e]

/-- Such a tile finds the last carrying tile's block. -/
theorem before4 (c : Dev nD) (t : Fin (cfgA tb).N) (hi : tb.n ≤ t.val) (d) :
    (dats tb m ρ 0 c).before (4 : Fin 5) t d = (dats tb m ρ 0 c).after (4 : Fin 5) t := by
  have hN : t.val < 160 := lt_of_lt_of_eq t.isLt (tiles tb)
  rw [(dats tb m ρ 0 c).before_out_traj (4 : Fin 5) rfl (fun _ _ => rfl)
      (fun t ht h _ => carried tb m ρ c t ht ((idle_iff tb t).1 h)) t.val t rfl d,
    fresh_false tb t.val hi hN, if_neg Bool.false_ne_true]
  exact (carried tb m ρ c t (by have := tb.pos; omega) hi).symm

/-! ## The body's obligation -/

abbrev bodyAt (t : Fin (cfgA tb).N) : Prog (TpuEff nD τ sig (Elt F) Λ₀ .tc) PUnit :=
  cc0_moe_experts (crd tb t) tab0 (Memref.isWhole_whole _) tab1 (Memref.isWhole_whole _) tab2 (Memref.isWhole_whole _) (stg0 tb t) (stg0w tb t) (stg1 tb t) (stg1w tb t) (stg2 tb t) (stg2w tb t) (stg3 tb t) (stg3w tb t) (stg4 tb t) (stg4w tb t)

set_option maxHeartbeats 4000000 in
theorem sound_body (c : Dev nD) (t : Fin (cfgA tb).N) :
    iprop((dats tb m ρ 0 c).Φ t.castSucc ∗ (dats tb m ρ 0 c).owesAt () t.castSucc
        ∗ (∃ d, owns (c : Thread nD τ) (stg0 tb t) fullShare ((dats tb m ρ 0 c).before (0 : Fin 5) t d))
        ∗ (∃ d, owns (c : Thread nD τ) (stg1 tb t) fullShare ((dats tb m ρ 0 c).before (1 : Fin 5) t d))
        ∗ (∃ d, owns (c : Thread nD τ) (stg2 tb t) fullShare ((dats tb m ρ 0 c).before (2 : Fin 5) t d))
        ∗ (∃ d, owns (c : Thread nD τ) (stg3 tb t) fullShare ((dats tb m ρ 0 c).before (3 : Fin 5) t d))
        ∗ (∃ d, owns (c : Thread nD τ) (stg4 tb t) fullShare ((dats tb m ρ 0 c).before (4 : Fin 5) t d)))
      ⊢ wp frame (wpE (defs₀ (F := F)) Variants.none c none) Set.univ (bodyAt tb t) fun _ =>
          iprop((dats tb m ρ 0 c).Φ t.succ ∗ (dats tb m ρ 0 c).owesAt () t.succ
            ∗ bigSep Finset.univ fun w : Fin (cfgA tb).W =>
                match (cfgA tb).idle w ((cfgA tb).grid.coords t) with
                | true =>
                  match ((cfgA tb).win w).flush t with
                  | false => iprop(∃ d, owns (c : Thread nD τ) (((cfgA tb).win w).stage ((cfgA tb).slots t w)) fullShare ((dats tb m ρ 0 c).before w t d))
                  | true => owns (c : Thread nD τ) (((cfgA tb).win w).stage ((cfgA tb).slots t w)) fullShare ((dats tb m ρ 0 c).after w t)
                | false => owns (c : Thread nD τ) (((cfgA tb).win w).stage ((cfgA tb).slots t w)) fullShare ((dats tb m ρ 0 c).after w t)) := by
  rw [bigSep_W0]
  by_cases hlive : t.val < tb.n
  · have hi : (cfgA tb).idle (4 : Fin 5) ((cfgA tb).grid.coords t) = false := by
      rw [← Bool.not_eq_true, idle_iff]; omega
    have hc := (live_iff tb (crd tb t) _ (count_read tb)).2 (by rw [crd_val]; exact hlive)
    have hcar : carry tb t = t := Fin.ext (by show min t.val (tb.n - 1) = t.val; omega)
    rewrite [hi]
    simp only [before0, before1, before2, before3, after0, after1, after2, after3, after4, hcar]
    rewrite [show (dats tb m ρ 0 c).Φ t.succ = Phi tb c from rfl, show (dats tb m ρ 0 c).Φ t.castSucc = Phi tb c from rfl,
      show (dats tb m ρ 0 c).owesAt () t.succ = (dats tb m ρ 0 c).owesAt () t.castSucc from rfl]
    unfold Phi
    iintro ⟨⟨HT0, HT1, HT2⟩, Ho, ⟨%d0, H0⟩, ⟨%d1, H1⟩, ⟨%d2, H2⟩, ⟨%d3, H3⟩, ⟨%d4, H4⟩⟩
    iapply ((liveRun c (crd tb t) (stg0 tb t) (stg0w tb t) (stg1 tb t) (stg1w tb t) (stg2 tb t) (stg2w tb t) (stg3 tb t) (stg3w tb t) (stg4 tb t) (stg4w tb t) tb.T0 tb.T1 tb.T2 (iblk tb m ρ c (0 : Fin 5) t) (iblk tb m ρ c (1 : Fin 5) t) (iblk tb m ρ c (2 : Fin 5) t) (iblk tb m ρ c (3 : Fin 5) t) hc).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [HT2]; · iexact HT2
    isplitl [H4]; · iexists _; iexact H4
    iintro ⟨H0, H1, H2, H3, HT0, HT1, HT2, ⟨%e4, H4⟩⟩
    isplitl [HT0 HT1 HT2]
    · isplitl [HT0]
      · iexact HT0
      isplitl [HT1]
      · iexact HT1
      iexact HT2
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    unfold owns; iexists _; isplitr; swap
    · iexact H4
    · ipureintro; exact live_left c _ _ _ _ _ _ _ _ _ _ _ _ _ _ _ _ _ _ _ _
  · have hge : tb.n ≤ t.val := by omega
    have hi : (cfgA tb).idle (4 : Fin 5) ((cfgA tb).grid.coords t) = true := (idle_iff tb t).2 hge
    have hc : ¬ k0_cond1 (crd tb t) (View.readAt (Elt F) tab2.view (Rect.unit (s := S1) ![0] S1.size inb_S1_S1_0).toLoadRect tb.T2 (Shape.Idx.first (numel1_S1.symm ▸ Nat.one_pos))) = 1#1 := by
      rw [live_iff tb (crd tb t) _ (count_read tb), crd_val]; omega
    rewrite [hi]
    simp only [before0, before1, before2, before3, before4 tb m ρ c t hge, after0, after1, after2, after3]
    rewrite [show (dats tb m ρ 0 c).Φ t.succ = Phi tb c from rfl, show (dats tb m ρ 0 c).Φ t.castSucc = Phi tb c from rfl,
      show (dats tb m ρ 0 c).owesAt () t.succ = (dats tb m ρ 0 c).owesAt () t.castSucc from rfl]
    unfold Phi
    iintro ⟨⟨HT0, HT1, HT2⟩, Ho, ⟨%d0, H0⟩, ⟨%d1, H1⟩, ⟨%d2, H2⟩, ⟨%d3, H3⟩, ⟨%d4, H4⟩⟩
    iapply (idleRun c (crd tb t) (stg0 tb t) (stg0w tb t) (stg1 tb t) (stg1w tb t) (stg2 tb t) (stg2w tb t) (stg3 tb t) (stg3w tb t) (stg4 tb t) (stg4w tb t) tb.T2 hc _)
    isplitl [HT2]; · iexact HT2
    iintro HT2
    isplitl [HT0 HT1 HT2]
    · isplitl [HT0]
      · iexact HT0
      isplitl [HT1]
      · iexact HT1
      iexact HT2
    isplitl [Ho]; · iexact Ho
    isplitl [H0]; · iexact H0
    isplitl [H1]; · iexact H1
    isplitl [H2]; · iexact H2
    isplitl [H3]; · iexact H3
    cases hfl : ((cfgA tb).win (4 : Fin 5)).flush t
    · iexists d4; iexact H4
    · iexact H4

theorem body_obligation (c : Dev nD) : BodyObligation (dats tb m ρ 0 c) (defs₀ (F := F)) Variants.none () Set.univ := fun t => by
  rw [bigSep_W0]
  exact sound_body tb m ρ c t

/-! ## The launch -/

def u₀ : UR sig nD τ :=
  initOf (Pipeline.cells (pcs tb) ((launch0 (F := F)).cellOf_inj fun _ => adm tb))
    (Pipeline.launchToks (pcs tb) ((launch0 (F := F)).cellOf_inj fun _ => adm tb))

theorem share_eq (c : Dev nD) (w : Fin (cfgA tb).W) : (dats tb m ρ 0 c).share w = fullShare := by unfold Dat.share; split <;> rfl

theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

theorem phi0_intro (c : Dev nD) :
    iprop(BI.emp ∗ Pipeline.prefHeld pre0 c (fun _ => fullShare.right) (adm tb).1 ∗ Pipeline.scopedRest spec0 c) ⊢ (dats tb m ρ 0 c).Φ 0 := by
  rw [prefHeld_eq, scopedRest0_eq, show (dats tb m ρ 0 c).Φ 0 = Phi tb c from rfl]
  unfold Phi
  iintro ⟨-, ⟨HT0, HT1, HT2⟩, -⟩
  isplitl [HT0]
  · iexact HT0
  isplitl [HT1]
  · iexact HT1
  iexact HT2

theorem phiN_exit (c : Dev nD) : (dats tb m ρ 0 c).Φ (Fin.last (cfgA tb).N) ⊢ iprop(BI.emp ∗ Pipeline.scopedRest spec0 c) := by
  rw [scopedRest0_eq, show (dats tb m ρ 0 c).Φ (Fin.last (cfgA tb).N) = Phi tb c from rfl]
  unfold Phi
  iintro ⟨-, -, -⟩
  isplitr; · iempintro
  iempintro

/-- What the run leaves: each window's array as the tiles leave it, the tables as they were. -/
def QC : PUnit × MemSt nD τ sig (Elt F) → Prop := fun r =>
  ∀ c : Dev nD, (∀ w : Fin (cfgA tb).W, r.2.mem (((cfgA tb).win w).arr.view.loc (c : Thread nD τ)) = (dats tb m ρ 0 c).arrAt w (cfgA tb).N)
    ∧ ∀ j, r.2.mem ((c : Thread nD τ).loc (pre0.ref j)) = (adm tb).1 j

/-- The memory holds the tables on every device. -/
def Holds : Prop := ∀ c : Dev nD, m ((c : Thread nD τ).loc main_arg0) = tb.T0 ∧ m ((c : Thread nD τ).loc main_arg1) = tb.T1 ∧ m ((c : Thread nD τ).loc main_arg2) = tb.T2

theorem tables_held (hp : Holds tb m) (c : Dev nD) (j : Fin 3) : m ((c : Thread nD τ).loc (pre0.ref j)) = (adm tb).1 j := by
  fin_cases j
  · exact (hp c).1
  · exact (hp c).2.1
  · exact (hp c).2.2

set_option backward.isDefEq.respectTransparency.types false in
set_option maxHeartbeats 4000000 in
theorem run_main_quiescent (hp : Holds tb m) : θ_run (defs (F := F)) (onTc (τ := τ) (main (F := F))) (s₀ m ρ) (fun r => QC tb m ρ r ∧ r.2.sem = fun _ => 0) :=
  Pipeline.θ_run_region_noSem_pf_quiescent pcfgs (fun _ => adm tb) (dats tb m ρ) () ((launch0 (F := F)).cellOf_inj fun _ => adm tb) (0 : Fin 1)
    (launch0 (F := F)).win.to₀ (launch0 (F := F)).pre EP defs₀ Variants.none m ρ main
    (hbody := fun c => (body_obligation tb m ρ c).loose) (hne := (launch0 (F := F)).block_pos)
    (harr := (launch0 (F := F)).arr_whole) (hstage := (launch0 (F := F)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs tb) (dats tb m ρ) 0 (launch0 (F := F)).win.arr_inj c (launch0 (F := F)).arr_whole
      (share_eq tb m ρ c) _ _ fun _ => rfl)
    (hpf := tables_held tb m hp)
    (X := fun _ => iprop(emp)) (Y := fun _ => iprop(emp)) (Z := fun _ => iprop(emp))
    (hX := fun c => by rw [unscopedRestP0_eq]; iintro -; isplitr <;> iempintro)
    (hin := phi0_intro tb m ρ)
    (hout := phiN_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The run under the tables: it ends, the arguments are unchanged and the result's array is as the tiles leave it. -/
theorem run_values (hp : Holds tb m) :
    θ_run (defs (F := F)) (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v0) = (dats tb m ρ 0 c).arrAt (4 : Fin 5) (cfgA tb).N)
      ∧ r.2.sem = fun _ => 0) :=
  (θ_run defs _ _).mono (fun _ h => ⟨fun c => ⟨⟨((h.1 c).2 0).trans (hp c).1.symm, ((h.1 c).2 1).trans (hp c).2.1.symm, ((h.1 c).2 2).trans (hp c).2.2.symm,
      ((h.1 c).1 (0 : Fin 5)).trans ((dats tb m ρ 0 c).arrAt_in (0 : Fin 5) rfl _), ((h.1 c).1 (1 : Fin 5)).trans ((dats tb m ρ 0 c).arrAt_in (1 : Fin 5) rfl _),
      ((h.1 c).1 (2 : Fin 5)).trans ((dats tb m ρ 0 c).arrAt_in (2 : Fin 5) rfl _), ((h.1 c).1 (3 : Fin 5)).trans ((dats tb m ρ 0 c).arrAt_in (3 : Fin 5) rfl _)⟩,
      (h.1 c).1 (4 : Fin 5)⟩, h.2⟩) (run_main_quiescent tb m ρ hp)

end Cert.Proof.ExpertsIdeal
-- ==== Proof.Experts.Pre.lean ====
/- What the experts' precondition says of the routing tables, and what the mask says of a row. -/
module

public import proofs.«01_k».proof.Proof.Gen.Pre_tables_ok
public import proofs.«01_k».proof.Proof.Gen.On_rows_used
public import proofs.«01_k».proof.Proof.Experts.Frame
public import proofs.«01_k».proof.Proof.Experts.Frame
public import Idealize.ShloMosaic.Lib.ReduceAll
public import Idealize.ShloMosaic.Lib.ValueIdx
public import Idealize.ShloMosaic.PureOps
public import Idealize.ShloMosaic.Lib.WordCmp

@[expose] public section

noncomputable section

namespace Cert.Proof.Routed

open Idealize.ShloMosaic Idealize.ShloMosaic.ValueIdx

theorem one_index (x y : (⟨1, ![1]⟩ : Shape).Idx) : x = y := by
  funext a
  have ha : ∀ b : Fin 1, b = 0 := by decide
  obtain rfl := ha a
  refine Fin.ext ?_
  have h1 : (x 0).val < 1 := (x 0).isLt
  have h2 : (y 0).val < 1 := (y 0).isLt
  omega

instance : Subsingleton Cert.Pre_tables_ok.S_.Idx := ⟨fun x y => funext fun a => a.elim0⟩

/-- A word whose signed value lies between one and 160 is that number. -/
theorem count_word {w : BitVec 32} (h1 : IntOp.cmpi .sge w 1#32 = 1#1) (h2 : IntOp.cmpi .sle w 160#32 = 1#1) :
    1 ≤ w.toNat ∧ w.toNat ≤ 160 := by
  rw [WordCmp.cmpi_sge_eq, WordCmp.ofBool_decide_eq_one_iff] at h1
  rw [WordCmp.cmpi_sle_eq, WordCmp.ofBool_decide_eq_one_iff] at h2
  have e1 : (1#32 : BitVec 32).toInt = 1 := by decide
  have e2 : (160#32 : BitVec 32).toInt = 160 := by decide
  rw [e1] at h1
  rw [e2] at h2
  have hw : w.toInt = (w.toNat : Int) := WordCmp.toInt_eq_toNat_of_lt_half ((WordCmp.toInt_nonneg_iff_lt_half w).1 (by omega))
  omega

/-- The block of a tile: the tile's own number, or the last carrying one. -/
theorem block_word {w : BitVec 32} (h1 : 1 ≤ w.toNat) (h2 : w.toNat ≤ 160) {k : ℕ} (hk : k < 160) :
    (IntOp.minsi (BitVec.ofNat 32 k) (w - 1#32)).toNat = min k (w.toNat - 1) := by
  have e : w - 1#32 = BitVec.ofNat 32 (w.toNat - 1) := by
    apply BitVec.eq_of_toNat_eq
    rw [BitVec.toNat_sub, BitVec.toNat_ofNat, BitVec.toNat_ofNat]
    omega
  rw [e]
  unfold IntOp.minsi
  have hs : (BitVec.ofNat 32 k).slt (BitVec.ofNat 32 (w.toNat - 1)) = decide (k < w.toNat - 1) := by
    show decide ((BitVec.ofNat 32 k).toInt < (BitVec.ofNat 32 (w.toNat - 1)).toInt) = _
    rw [WordCmp.toInt_ofNat_of_lt (by omega), WordCmp.toInt_ofNat_of_lt (by omega)]
    exact decide_eq_decide.2 (by omega)
  rw [hs]
  by_cases hc : k < w.toNat - 1
  · rw [decide_eq_true hc, if_pos rfl, BitVec.toNat_ofNat]; omega
  · rw [decide_eq_false hc, if_neg Bool.false_ne_true, BitVec.toNat_ofNat]; omega

section
variable {F : FTy → Type} [FloatOps F]
variable (a0 a1 : IVec ⟨1, ![160]⟩ 32) (a2 : IVec ⟨1, ![1]⟩ 32) (a3 : FVec F ⟨2, ![40960, 2048]⟩ .f32) (a4 a5 : FVec F ⟨3, ![32, 2048, 256]⟩ .bf16) (a6 : FVec F ⟨3, ![32, 256, 2048]⟩ .bf16)

/-- What the precondition says. -/
theorem decode (h : Cert.Pre_tables_ok.fn (F := F) a0 a1 a2 a3 a4 a5 a6 = fun _ => 1#1) :
    ∃ n : ℕ, 1 ≤ n ∧ n ≤ 160 ∧ (∀ x, (a0 x).toNat < 32) ∧ (∀ x, (a1 x).toNat = min (x 0).val (n - 1)) ∧ ∀ x, (a2 x).toNat = n := by
  have h0 := congrFun h ValueIdx.ix0
  unfold Cert.Pre_tables_ok.fn Cert.Pre_tables_ok.fn_part1 at h0
  obtain ⟨hA, hB⟩ := IntOp.andi_eq_one.1 h0
  obtain ⟨hA, hC⟩ := IntOp.andi_eq_one.1 hA
  obtain ⟨hA, hD⟩ := IntOp.andi_eq_one.1 hA
  have hw : ∀ x, shapeCast Cert.Pre_tables_ok.S_ a2 Cert.Pre_tables_ok.Facts.shapeCasts_S1_S_ ValueIdx.ix0 = a2 x := fun x => congrArg a2 (one_index _ _)
  obtain ⟨h1, h2⟩ := count_word (w := shapeCast Cert.Pre_tables_ok.S_ a2 Cert.Pre_tables_ok.Facts.shapeCasts_S1_S_ ValueIdx.ix0) hD hC
  refine ⟨_, h1, h2, fun x => ?_, fun x => ?_, fun x => by rw [hw x]⟩
  · have hk := Host.reduce_andi_all _ _ _ _ _ hA x
    have hk' : IntOp.andi (IntOp.cmpi .sge (a0 x) 0#32) (IntOp.cmpi .slt (a0 x) (BitVec.ofNat 32 32)) = 1#1 := hk
    rw [WordCmp.andi_sge_zero_slt_ofNat (by decide), WordCmp.ofBool_decide_eq_one_iff] at hk'
    exact hk'
  · have hk := Host.reduce_andi_all _ _ _ _ _ hB x
    have hk' : IntOp.cmpi .eq (a1 x) (IntOp.minsi (BitVec.ofNat 32 (x 0).val) (shapeCast Cert.Pre_tables_ok.S_ a2 Cert.Pre_tables_ok.Facts.shapeCasts_S1_S_ ValueIdx.ix0 - 1#32)) = 1#1 := hk
    rw [WordCmp.cmpi_eq_eq, WordCmp.ofBool_decide_eq_one_iff] at hk'
    rw [hk', block_word h1 h2 (x 0).isLt]

/-- The mask admits the rows of the carrying tiles. -/
theorem used {n : ℕ} (hn : n ≤ 160) (h2 : ∀ x, (a2 x).toNat = n) (i : (⟨2, ![40960, 2048]⟩ : Shape).Idx)
    (h : Cert.On_rows_used.fn (F := F) a0 a1 a2 a3 a4 a5 a6 i = 1#1) : (i 0).val < 256 * n := by
  have hi : (i 0).val < 40960 := (i 0).isLt
  have e : ∃ x, Cert.On_rows_used.fn (F := F) a0 a1 a2 a3 a4 a5 a6 i = IntOp.cmpi .slt (BitVec.ofNat 32 (i 0).val) (a2 x * 256#32) := ⟨_, rfl⟩
  obtain ⟨x, e⟩ := e
  rw [e] at h
  have ew : a2 x * 256#32 = BitVec.ofNat 32 (256 * n) := by
    apply BitVec.eq_of_toNat_eq
    rw [BitVec.toNat_mul, h2, BitVec.toNat_ofNat, BitVec.toNat_ofNat]
    omega
  rw [ew, WordCmp.cmpi_slt_ofNat_eq_one_iff (by omega) (by omega)] at h
  exact h
end

end Cert.Proof.Routed
-- ==== Proof.Experts.Spec.lean ====
/- One element of what the layer's experts compute: the gated network of one expert at one row and one column. -/
module

public import Idealize.ShloMosaic.Lib.Pipeline.Value
public import Idealize.ShloMosaic.Lib.ValueIdx
public import Idealize.ShloMosaic.Lib.IdealHost
public import Idealize.ShloMosaic.PureOps.Ideal.Laws

@[expose] public section

noncomputable section

namespace Cert.Proof.Routed

open Idealize.ShloMosaic
open scoped BigOperators

/-- A row of the sorted tokens through one of an expert's first two matrices. -/
def hidden (x : (⟨2, ![40960, 2048]⟩ : Shape).Idx → EReal) (w : (⟨3, ![32, 2048, 256]⟩ : Shape).Idx → EReal)
    (R : Fin 40960) (e : Fin 32) (f : Fin 256) : EReal :=
  ∑ k : Fin 2048, x (ValueIdx.ix2 R k) * w (ValueIdx.ix3 e k f)

/-- The gated hidden row. -/
def gated (x : (⟨2, ![40960, 2048]⟩ : Shape).Idx → EReal) (wg wu : (⟨3, ![32, 2048, 256]⟩ : Shape).Idx → EReal)
    (R : Fin 40960) (e : Fin 32) (f : Fin 256) : EReal :=
  hidden x wg R e f * Ideal.logistic (hidden x wg R e f) * hidden x wu R e f

/-- Expert `e`'s network at row `R`, column `j`. -/
def cell (x : (⟨2, ![40960, 2048]⟩ : Shape).Idx → EReal) (wg wu : (⟨3, ![32, 2048, 256]⟩ : Shape).Idx → EReal)
    (wd : (⟨3, ![32, 256, 2048]⟩ : Shape).Idx → EReal) (R : Fin 40960) (e : Fin 32) (j : Fin 2048) : EReal :=
  ∑ f : Fin 256, gated x wg wu R e f * wd (ValueIdx.ix3 e f j)

end Cert.Proof.Routed

end
-- ==== Proof.Experts.Payload.lean ====
/- What the experts' body stores, read at a row and a column of its tile. -/
module

public import proofs.«01_k».proof.Proof.Gen.ExpertsIdeal.Skeleton
public import proofs.«01_k».proof.Proof.Experts.Spec
public import Idealize.ShloMosaic.Lib.MatmulPlain

@[expose] public section

noncomputable section

namespace Cert.Proof.Routed

open Idealize.ShloMosaic Cert.ExpertsIdeal Cert.ExpertsIdeal.Gen
open scoped BigOperators

/-- A tile's row through one of the two first matrices' blocks. -/
def tileHidden (x : S256x2048.Idx → EReal) (w : S1x2048x256.Idx → EReal) (r f : Fin 256) : EReal :=
  ∑ k : Fin 2048, x (ValueIdx.ix2 r k) * w (ValueIdx.ix3 0 k f)

theorem dot_first : dot_S256x2048_S2048x256_S256x256_1_0_0_1_n_n = DotDims.plain 256 2048 256 := rfl
theorem dot_second : dot_S256x256_S256x2048_S256x2048_1_0_0_1_n_n = DotDims.plain 256 256 2048 := rfl

theorem first_cast (w : FVec Ideal S1x2048x256 .bf16) (k : Fin 2048) (f : Fin 256) :
    shapeCast S2048x256 w shapeCasts_S1x2048x256_S2048x256 (ValueIdx.ix2 k f) = w (ValueIdx.ix3 0 k f) := by
  refine shapeCast_apply w shapeCasts_S1x2048x256_S2048x256 (ValueIdx.ix2 k f) (ValueIdx.ix3 0 k f) ?_
  rw [Shape.rowMajor_val_three, Shape.rowMajor_val_two]
  show (0 * 2048 + k.val) * 256 + f.val = k.val * 256 + f.val
  omega

theorem second_cast (w : FVec Ideal S1x256x2048 .bf16) (f : Fin 256) (j : Fin 2048) :
    shapeCast S256x2048 w shapeCasts_S1x256x2048_S256x2048 (ValueIdx.ix2 f j) = w (ValueIdx.ix3 0 f j) := by
  refine shapeCast_apply w shapeCasts_S1x256x2048_S256x2048 (ValueIdx.ix2 f j) (ValueIdx.ix3 0 f j) ?_
  rw [Shape.rowMajor_val_three, Shape.rowMajor_val_two]
  show (0 * 256 + f.val) * 2048 + j.val = f.val * 2048 + j.val
  omega

theorem first_apply (x : FVec Ideal S256x2048 .f32) (w : FVec Ideal S1x2048x256 .bf16) (r f : Fin 256) :
    matmul dot_S256x2048_S2048x256_S256x256_1_0_0_1_n_n none (truncf .bf16 x bitsLt_bf16_f32)
      (shapeCast S2048x256 w shapeCasts_S1x2048x256_S2048x256) (constant S256x256 .f32 0x00000000#32) (ValueIdx.ix2 r f)
      = tileHidden x w r f := by
  simp only [matmul]
  rw [dot_first, Ideal.matmul_plain_apply]
  show Ideal.ofBits .f32 0x00000000#32 + _ = _
  rw [Ideal.ofBits_zero_f32, zero_add]
  unfold tileHidden
  refine Finset.sum_congr rfl fun k _ => ?_
  rw [first_cast]
  rfl

theorem stored_apply (x : FVec Ideal S256x2048 .f32) (wg wu : FVec Ideal S1x2048x256 .bf16) (wd : FVec Ideal S1x256x2048 .bf16)
    (r : Fin 256) (j : Fin 2048) :
    k0_pay1 (F := Ideal) x wg wu wd (ValueIdx.ix2 r j)
      = ∑ f : Fin 256, (tileHidden x wg r f * Ideal.logistic (tileHidden x wg r f) * tileHidden x wu r f) * wd (ValueIdx.ix3 0 f j) := by
  have hg := first_apply x wg r
  have hu := first_apply x wu r
  unfold k0_pay1
  generalize matmul dot_S256x2048_S2048x256_S256x256_1_0_0_1_n_n none (truncf .bf16 x bitsLt_bf16_f32)
      (shapeCast S2048x256 wg shapeCasts_S1x2048x256_S2048x256) (constant S256x256 .f32 0x00000000#32) = g at hg ⊢
  generalize matmul dot_S256x2048_S2048x256_S256x256_1_0_0_1_n_n none (truncf .bf16 x bitsLt_bf16_f32)
      (shapeCast S2048x256 wu shapeCasts_S1x2048x256_S2048x256) (constant S256x256 .f32 0x00000000#32) = u at hu ⊢
  simp only [matmul]
  rw [dot_second, Ideal.matmul_plain_apply]
  show Ideal.ofBits .f32 0x00000000#32 + _ = _
  rw [Ideal.ofBits_zero_f32, zero_add]
  refine Finset.sum_congr rfl fun f _ => ?_
  rw [second_cast, ← hg f, ← hu f]
  rfl

end Cert.Proof.Routed

end
-- ==== Proof.Experts.Value.lean ====
/- The experts' result array read at a row of a used tile: the network of the expert its tile names. -/
module

public import proofs.«01_k».proof.Proof.Experts.Frame
public import proofs.«01_k».proof.Proof.Experts.Payload

@[expose] public section

set_option maxRecDepth 16384

noncomputable section

namespace Cert.Proof.ExpertsIdeal

open Cert.ExpertsIdeal Cert.ExpertsIdeal.Gen Cert.Proof.Routed
open Idealize.ShloMosaic Idealize.ShloMosaic.TcCoe Idealize.SL.Sem
open Idealize.ShloMosaic.Pipeline (Dat Cfg Window)
open scoped BigOperators

variable (tb : Tabs Ideal)
variable (m : (ℓ : Loc nD τ sig) → Buf (Elt Ideal) ℓ) (ρ : Dev nD → PrngReg)

/-- Tile `q` as a point of the grid. -/
def point (q : Fin 160) : Fin (cfgA tb).N := ⟨q.val, lt_of_lt_of_eq q.isLt (tiles tb).symm⟩

/-- The row of a tile's row. -/
def rowOf (q : Fin 160) (r : Fin 256) : Fin 40960 := ⟨256 * q.val + r.val, by omega⟩

/-- The expert a tile names. -/
def expert (q : Fin 160) : Fin 32 := ⟨(tb.T0 (ValueIdx.ix1 q)).toNat, tb.h0 _⟩

theorem tile_point (q : Fin 160) : tile (crd tb (point tb q)) = ValueIdx.ix1 q := by
  funext a
  match a with
  | ⟨0, _⟩ => exact Fin.ext (crd_val tb (point tb q))

theorem row_index (t : Fin (cfgA tb).N) : ((cfgA tb).win (0 : Fin 5)).index t = ![min t.val (tb.n - 1), 0] := by
  rw [← crd_val tb t]; exact row_block tb (crd tb t)
theorem wg_index (q : Fin 160) : ((cfgA tb).win (1 : Fin 5)).index (point tb q) = ![(expert tb q).val, 0, 0] := by
  have h := wg_block tb (crd tb (point tb q))
  rw [tile_point] at h
  exact h
theorem wu_index (q : Fin 160) : ((cfgA tb).win (2 : Fin 5)).index (point tb q) = ![(expert tb q).val, 0, 0] := by
  have h := wu_block tb (crd tb (point tb q))
  rw [tile_point] at h
  exact h
theorem wd_index (q : Fin 160) : ((cfgA tb).win (3 : Fin 5)).index (point tb q) = ![(expert tb q).val, 0, 0] := by
  have h := wd_block tb (crd tb (point tb q))
  rw [tile_point] at h
  exact h

/-! ## Where each block lies in its array -/

theorem rows_emb (q : Fin 160) (hq : q.val < tb.n) (r : Fin 256) (k : Fin 2048) :
    (((cfgA tb).win (0 : Fin 5)).blk (point tb q)).view.emb (ValueIdx.ix2 r k : S256x2048.Idx) = (ValueIdx.ix2 (rowOf q r) k : S40960x2048.Idx) := by
  have e0 : ((cfgA tb).win (0 : Fin 5)).index (point tb q) (0 : Fin 2) = min q.val (tb.n - 1) := by rw [row_index]; rfl
  have e1 : ((cfgA tb).win (0 : Fin 5)).index (point tb q) (1 : Fin 2) = 0 := by rw [row_index]; rfl
  funext a; apply Fin.ext
  match a with
  | ⟨0, _⟩ => show ((cfgA tb).win (0 : Fin 5)).index (point tb q) (0 : Fin 2) * 256 + 1 * r.val = 256 * q.val + r.val; omega
  | ⟨1, _⟩ => show ((cfgA tb).win (0 : Fin 5)).index (point tb q) (1 : Fin 2) * 2048 + 1 * k.val = k.val; omega

theorem wg_emb (q : Fin 160) (k : Fin 2048) (f : Fin 256) :
    (((cfgA tb).win (1 : Fin 5)).blk (point tb q)).view.emb (ValueIdx.ix3 0 k f : S1x2048x256.Idx) = (ValueIdx.ix3 (expert tb q) k f : S32x2048x256.Idx) := by
  have e0 : ((cfgA tb).win (1 : Fin 5)).index (point tb q) (0 : Fin 3) = (expert tb q).val := by rw [wg_index]; rfl
  have e1 : ((cfgA tb).win (1 : Fin 5)).index (point tb q) (1 : Fin 3) = 0 := by rw [wg_index]; rfl
  have e2 : ((cfgA tb).win (1 : Fin 5)).index (point tb q) (2 : Fin 3) = 0 := by rw [wg_index]; rfl
  funext a; apply Fin.ext
  match a with
  | ⟨0, _⟩ => show ((cfgA tb).win (1 : Fin 5)).index (point tb q) (0 : Fin 3) * 1 + 1 * 0 = (expert tb q).val; omega
  | ⟨1, _⟩ => show ((cfgA tb).win (1 : Fin 5)).index (point tb q) (1 : Fin 3) * 2048 + 1 * k.val = k.val; omega
  | ⟨2, _⟩ => show ((cfgA tb).win (1 : Fin 5)).index (point tb q) (2 : Fin 3) * 256 + 1 * f.val = f.val; omega

theorem wu_emb (q : Fin 160) (k : Fin 2048) (f : Fin 256) :
    (((cfgA tb).win (2 : Fin 5)).blk (point tb q)).view.emb (ValueIdx.ix3 0 k f : S1x2048x256.Idx) = (ValueIdx.ix3 (expert tb q) k f : S32x2048x256.Idx) := by
  have e0 : ((cfgA tb).win (2 : Fin 5)).index (point tb q) (0 : Fin 3) = (expert tb q).val := by rw [wu_index]; rfl
  have e1 : ((cfgA tb).win (2 : Fin 5)).index (point tb q) (1 : Fin 3) = 0 := by rw [wu_index]; rfl
  have e2 : ((cfgA tb).win (2 : Fin 5)).index (point tb q) (2 : Fin 3) = 0 := by rw [wu_index]; rfl
  funext a; apply Fin.ext
  match a with
  | ⟨0, _⟩ => show ((cfgA tb).win (2 : Fin 5)).index (point tb q) (0 : Fin 3) * 1 + 1 * 0 = (expert tb q).val; omega
  | ⟨1, _⟩ => show ((cfgA tb).win (2 : Fin 5)).index (point tb q) (1 : Fin 3) * 2048 + 1 * k.val = k.val; omega
  | ⟨2, _⟩ => show ((cfgA tb).win (2 : Fin 5)).index (point tb q) (2 : Fin 3) * 256 + 1 * f.val = f.val; omega

theorem wd_emb (q : Fin 160) (f : Fin 256) (j : Fin 2048) :
    (((cfgA tb).win (3 : Fin 5)).blk (point tb q)).view.emb (ValueIdx.ix3 0 f j : S1x256x2048.Idx) = (ValueIdx.ix3 (expert tb q) f j : S32x256x2048.Idx) := by
  have e0 : ((cfgA tb).win (3 : Fin 5)).index (point tb q) (0 : Fin 3) = (expert tb q).val := by rw [wd_index]; rfl
  have e1 : ((cfgA tb).win (3 : Fin 5)).index (point tb q) (1 : Fin 3) = 0 := by rw [wd_index]; rfl
  have e2 : ((cfgA tb).win (3 : Fin 5)).index (point tb q) (2 : Fin 3) = 0 := by rw [wd_index]; rfl
  funext a; apply Fin.ext
  match a with
  | ⟨0, _⟩ => show ((cfgA tb).win (3 : Fin 5)).index (point tb q) (0 : Fin 3) * 1 + 1 * 0 = (expert tb q).val; omega
  | ⟨1, _⟩ => show ((cfgA tb).win (3 : Fin 5)).index (point tb q) (1 : Fin 3) * 256 + 1 * f.val = f.val; omega
  | ⟨2, _⟩ => show ((cfgA tb).win (3 : Fin 5)).index (point tb q) (2 : Fin 3) * 2048 + 1 * j.val = j.val; omega

theorem out_emb (t : Fin (cfgA tb).N) (q : Fin 160) (ht : min t.val (tb.n - 1) = q.val) (r : Fin 256) (j : Fin 2048) :
    (((cfgA tb).win (4 : Fin 5)).blk t).view.emb (ValueIdx.ix2 r j : S256x2048.Idx) = (ValueIdx.ix2 (rowOf q r) j : S40960x2048.Idx) := by
  have e0 : ((cfgA tb).win (4 : Fin 5)).index t (0 : Fin 2) = min t.val (tb.n - 1) := by rw [out_index]; rfl
  have e1 : ((cfgA tb).win (4 : Fin 5)).index t (1 : Fin 2) = 0 := by rw [out_index]; rfl
  funext a; apply Fin.ext
  match a with
  | ⟨0, _⟩ => show ((cfgA tb).win (4 : Fin 5)).index t (0 : Fin 2) * 256 + 1 * r.val = 256 * q.val + r.val; omega
  | ⟨1, _⟩ => show ((cfgA tb).win (4 : Fin 5)).index t (1 : Fin 2) * 2048 + 1 * j.val = j.val; omega

/-! ## The blocks' elements, and what a used tile leaves -/

variable (c : Dev nD)

theorem rows_apply (q : Fin 160) (hq : q.val < tb.n) (r : Fin 256) (k : Fin 2048) :
    iblk tb m ρ c (0 : Fin 5) (point tb q) (ValueIdx.ix2 r k : S256x2048.Idx) = m ((c.tc : Thread nD τ).loc main_arg3) (ValueIdx.ix2 (rowOf q r) k : S40960x2048.Idx) := by
  rw [← rows_emb tb q hq r k]; rfl
theorem wg_apply (q : Fin 160) (k : Fin 2048) (f : Fin 256) :
    iblk tb m ρ c (1 : Fin 5) (point tb q) (ValueIdx.ix3 0 k f : S1x2048x256.Idx) = m ((c.tc : Thread nD τ).loc main_arg4) (ValueIdx.ix3 (expert tb q) k f : S32x2048x256.Idx) := by
  rw [← wg_emb tb q k f]; rfl
theorem wu_apply (q : Fin 160) (k : Fin 2048) (f : Fin 256) :
    iblk tb m ρ c (2 : Fin 5) (point tb q) (ValueIdx.ix3 0 k f : S1x2048x256.Idx) = m ((c.tc : Thread nD τ).loc main_arg5) (ValueIdx.ix3 (expert tb q) k f : S32x2048x256.Idx) := by
  rw [← wu_emb tb q k f]; rfl
theorem wd_apply (q : Fin 160) (f : Fin 256) (j : Fin 2048) :
    iblk tb m ρ c (3 : Fin 5) (point tb q) (ValueIdx.ix3 0 f j : S1x256x2048.Idx) = m ((c.tc : Thread nD τ).loc main_arg6) (ValueIdx.ix3 (expert tb q) f j : S32x256x2048.Idx) := by
  rw [← wd_emb tb q f j]; rfl

theorem net_apply (q : Fin 160) (hq : q.val < tb.n) (r : Fin 256) (j : Fin 2048) :
    net tb m ρ c (point tb q) (ValueIdx.ix2 r j)
      = cell (m ((c.tc : Thread nD τ).loc main_arg3)) (m ((c.tc : Thread nD τ).loc main_arg4)) (m ((c.tc : Thread nD τ).loc main_arg5))
          (m ((c.tc : Thread nD τ).loc main_arg6)) (rowOf q r) (expert tb q) j := by
  unfold net
  refine (stored_apply _ _ _ _ r j).trans ?_
  have hg : ∀ f : Fin 256, tileHidden (iblk tb m ρ c (0 : Fin 5) (point tb q)) (iblk tb m ρ c (1 : Fin 5) (point tb q)) r f
      = hidden (m ((c.tc : Thread nD τ).loc main_arg3)) (m ((c.tc : Thread nD τ).loc main_arg4)) (rowOf q r) (expert tb q) f := fun f =>
    Finset.sum_congr rfl fun k _ => congrArg₂ (fun x y : EReal => x * y) (rows_apply tb m ρ c q hq r k) (wg_apply tb m ρ c q k f)
  have hu : ∀ f : Fin 256, tileHidden (iblk tb m ρ c (0 : Fin 5) (point tb q)) (iblk tb m ρ c (2 : Fin 5) (point tb q)) r f
      = hidden (m ((c.tc : Thread nD τ).loc main_arg3)) (m ((c.tc : Thread nD τ).loc main_arg5)) (rowOf q r) (expert tb q) f := fun f =>
    Finset.sum_congr rfl fun k _ => congrArg₂ (fun x y : EReal => x * y) (rows_apply tb m ρ c q hq r k) (wu_apply tb m ρ c q k f)
  unfold cell gated
  refine Finset.sum_congr rfl fun f _ => ?_
  rw [hg f, hu f]
  exact congrArg (fun y : EReal => _ * y) (wd_apply tb m ρ c q f j)

theorem disjoint_out (t t' : Fin (cfgA tb).N) (hf : ((cfgA tb).win (4 : Fin 5)).flush t = true) (hf' : ((cfgA tb).win (4 : Fin 5)).flush t' = true)
    (hne : t ≠ t') : Disjoint (((cfgA tb).win (4 : Fin 5)).blk t).view.set (((cfgA tb).win (4 : Fin 5)).blk t').view.set := by
  refine ((cfgA tb).win (4 : Fin 5)).disjoint_blk ((out_index_ne tb t t').2 ?_)
  rw [flush_iff] at hf hf'
  have h1 := lt_of_lt_of_eq t.isLt (tiles tb)
  have h2 := lt_of_lt_of_eq t'.isLt (tiles tb)
  have h3 : t.val ≠ t'.val := fun h => hne (Fin.ext h)
  have h4 := tb.le
  omega

/-- The tile that writes the block of used tile `q` back: itself, or the grid's last for the last used tile. -/
def writer (q : Fin 160) : Fin (cfgA tb).N := if q.val + 1 < tb.n then point tb q else ⟨159, by rw [tiles]; omega⟩

theorem writer_flush (q : Fin 160) : ((cfgA tb).win (4 : Fin 5)).flush (writer tb q) = true := by
  rw [flush_iff]
  unfold writer
  split
  · exact .inr ‹_›
  · exact .inl rfl

theorem writer_min (q : Fin 160) (hq : q.val < tb.n) : min (writer tb q).val (tb.n - 1) = q.val := by
  have h4 := tb.le
  unfold writer
  split
  · show min q.val (tb.n - 1) = q.val; omega
  · show min 159 (tb.n - 1) = q.val; omega

/-- The result at a row of a used tile. -/
theorem result_apply (q : Fin 160) (hq : q.val < tb.n) (r : Fin 256) (j : Fin 2048) :
    (dats tb m ρ 0 c).arrAt (4 : Fin 5) (cfgA tb).N (ValueIdx.ix2 (rowOf q r) j : S40960x2048.Idx)
      = cell (m ((c.tc : Thread nD τ).loc main_arg3)) (m ((c.tc : Thread nD τ).loc main_arg4)) (m ((c.tc : Thread nD τ).loc main_arg5))
          (m ((c.tc : Thread nD τ).loc main_arg6)) (rowOf q r) (expert tb q) j := by
  have hm := writer_min tb q hq
  have hc : carry tb (writer tb q) = point tb q := Fin.ext hm
  rw [← net_apply tb m ρ c q hq r j, ← hc, ← out_emb tb (writer tb q) q hm r j]
  exact ((dats tb m ρ 0 c).arrAt_emb_eq_flushed (4 : Fin 5) (disjoint_out tb) (writer tb q) (writer_flush tb q) _).trans rfl

end Cert.Proof.ExpertsIdeal

end
-- ==== Proof.Experts.Ref.lean ====
/- The experts' reference, read at a row and a column: the sum over all experts is the one the row's tile names. -/
module

public import proofs.«01_k».proof.Proof.Gen.ExpertsReferenceIdeal.Read
public import Idealize.ShloMosaic.Lib.TwoAxisContraction
public import proofs.«01_k».proof.Proof.Experts.Spec

@[expose] public section

noncomputable section

namespace Cert.Proof.Routed

open Idealize.ShloMosaic Cert.ExpertsReferenceIdeal Cert.ExpertsReferenceIdeal.Gen Cert.ExpertsReferenceIdeal.Read
open scoped BigOperators

variable (x0 : (⟨S160, .i32⟩ : BufTy).Contents (Elt Ideal)) (x3 : (⟨S40960x2048, .f32⟩ : BufTy).Contents (Elt Ideal))
  (x4 x5 : (⟨S32x2048x256, .bf16⟩ : BufTy).Contents (Elt Ideal)) (x6 : (⟨S32x256x2048, .bf16⟩ : BufTy).Contents (Elt Ideal))

/-- The tile of a row. -/
def tileOf (R : Fin 40960) : Fin 160 := ⟨R.val / 256, by omega⟩

theorem gate_apply (R : Fin 40960) (e : Fin 32) (f : Fin 256) :
    val_main_v6 (F := Ideal) x3 x4 (ValueIdx.ix3 R e f) = hidden x3 x4 R e f := by
  rw [val_main_v6_apply]
  unfold hidden
  refine Finset.sum_congr rfl fun k _ => ?_
  refine congrArg₂ (fun x y : EReal => x * y) (congrArg x3 (funext fun a => ?_)) (congrArg x4 (funext fun a => ?_))
  · match a with
    | ⟨0, _⟩ => rfl
    | ⟨1, _⟩ => rfl
  · match a with
    | ⟨0, _⟩ => rfl
    | ⟨1, _⟩ => rfl
    | ⟨2, _⟩ => rfl

theorem up_apply (R : Fin 40960) (e : Fin 32) (f : Fin 256) :
    val_main_v8 (F := Ideal) x3 x5 (ValueIdx.ix3 R e f) = hidden x3 x5 R e f := by
  rw [val_main_v8_apply]
  unfold hidden
  refine Finset.sum_congr rfl fun k _ => ?_
  refine congrArg₂ (fun x y : EReal => x * y) (congrArg x3 (funext fun a => ?_)) (congrArg x5 (funext fun a => ?_))
  · match a with
    | ⟨0, _⟩ => rfl
    | ⟨1, _⟩ => rfl
  · match a with
    | ⟨0, _⟩ => rfl
    | ⟨1, _⟩ => rfl
    | ⟨2, _⟩ => rfl

theorem silu_apply (R : Fin 40960) (e : Fin 32) (f : Fin 256) :
    val_main_v9 (F := Ideal) x3 x4 x5 (ValueIdx.ix3 R e f) = gated x3 x4 x5 R e f := by
  rw [val_main_v9_apply, val_main_v7_apply, val_main_call1_v5_apply, val_main_call1_v4_apply, val_main_call1_cst_0_apply,
    val_main_call1_v3_apply, val_main_call1_v2_apply, val_main_call1_cst_apply, val_main_call1_v1_apply,
    val_main_call1_v0_apply, gate_apply, up_apply]
  show hidden x3 x4 R e f * Ideal.div (Ideal.ofBits .f32 0x3F800000#32) (Ideal.ofBits .f32 0x3F800000#32 + Ideal.exp (-hidden x3 x4 R e f)) * hidden x3 x5 R e f = _
  rw [Ideal.ofBits_one_f32]
  rfl

theorem named_apply (R : Fin 40960) (e : Fin 32) (f : Fin 256) :
    val_main_v11 (F := Ideal) x0 (ValueIdx.ix3 R e f)
      = (((IntOp.cmpi .eq (x0 (ValueIdx.ix1 (tileOf R))) (BitVec.ofNat 32 e.val)).toNat : ℝ) : EReal) := by
  rw [val_main_v11_apply, val_main_v10_apply, val_main_v5_apply, val_main_call0_v4_apply, val_main_call0_v2_apply,
    val_main_call0_v0_apply, val_main_v4_apply, val_main_v3_apply, val_main_call0_v3_apply, val_main_call0_v1_apply]
  show (((IntOp.cmpi .eq (x0 _) (BitVec.ofNat 32 e.val)).toNat : ℝ) : EReal) = _
  refine congrArg (fun w : BitVec 32 => (((IntOp.cmpi .eq w (BitVec.ofNat 32 e.val)).toNat : ℝ) : EReal)) (congrArg x0 (funext fun a => ?_))
  match a with
  | ⟨0, _⟩ => rfl

theorem same_expert : ∀ E e : Fin 32, IntOp.cmpi .eq (BitVec.ofNat 32 E.val) (BitVec.ofNat 32 e.val) = if e = E then 1#1 else 0#1 := by
  decide +kernel

theorem picked_apply (R : Fin 40960) (e : Fin 32) (f : Fin 256) (E : Fin 32) (hE : (x0 (ValueIdx.ix1 (tileOf R))).toNat = E.val) :
    val_main_v12 (F := Ideal) x0 x3 x4 x5 (ValueIdx.ix3 R e f) = if e = E then gated x3 x4 x5 R E f else 0 := by
  rw [val_main_v12_apply, silu_apply, named_apply]
  show gated x3 x4 x5 R e f * _ = _
  have hx : x0 (ValueIdx.ix1 (tileOf R)) = BitVec.ofNat 32 E.val := by
    apply BitVec.eq_of_toNat_eq
    rw [hE, BitVec.toNat_ofNat]
    omega
  rw [hx]
  rw [same_expert E e]
  by_cases h : e = E
  · rw [if_pos h, if_pos h, h]
    show gated x3 x4 x5 R E f * (((1 : ℕ) : ℝ) : EReal) = _
    rw [Nat.cast_one, EReal.coe_one, mul_one]
  · rw [if_neg h, if_neg h]
    show gated x3 x4 x5 R e f * (((0 : ℕ) : ℝ) : EReal) = _
    rw [Nat.cast_zero, EReal.coe_zero, mul_zero]

theorem down_lhs_0 (i : S40960x2048.Idx) (q : dot_S40960x32x256_S32x256x2048_S40960x2048_12_01_0_2_n_n.contr.Idx) :
    (dot_S40960x32x256_S32x256x2048_S40960x2048_12_01_0_2_n_n.lhsIdx i q 0).val = (i 0).val := by
  unfold DotDims.lhsIdx
  rw [dif_neg (show ¬(0 : Fin S40960x32x256.rank) ∈ dot_S40960x32x256_S32x256x2048_S40960x2048_12_01_0_2_n_n.lhsBatch by decide), dif_pos (show (0 : Fin S40960x32x256.rank) ∈ dot_S40960x32x256_S32x256x2048_S40960x2048_12_01_0_2_n_n.lhsNonContracting by decide)]
  rfl

theorem down_lhs_1 (i : S40960x2048.Idx) (q : dot_S40960x32x256_S32x256x2048_S40960x2048_12_01_0_2_n_n.contr.Idx) :
    (dot_S40960x32x256_S32x256x2048_S40960x2048_12_01_0_2_n_n.lhsIdx i q 1).val = (q ⟨0, by decide⟩).val := by
  unfold DotDims.lhsIdx
  rw [dif_neg (show ¬(1 : Fin S40960x32x256.rank) ∈ dot_S40960x32x256_S32x256x2048_S40960x2048_12_01_0_2_n_n.lhsBatch by decide), dif_neg (show ¬(1 : Fin S40960x32x256.rank) ∈ dot_S40960x32x256_S32x256x2048_S40960x2048_12_01_0_2_n_n.lhsNonContracting by decide)]
  rfl

theorem down_lhs_2 (i : S40960x2048.Idx) (q : dot_S40960x32x256_S32x256x2048_S40960x2048_12_01_0_2_n_n.contr.Idx) :
    (dot_S40960x32x256_S32x256x2048_S40960x2048_12_01_0_2_n_n.lhsIdx i q 2).val = (q ⟨1, by decide⟩).val := by
  unfold DotDims.lhsIdx
  rw [dif_neg (show ¬(2 : Fin S40960x32x256.rank) ∈ dot_S40960x32x256_S32x256x2048_S40960x2048_12_01_0_2_n_n.lhsBatch by decide), dif_neg (show ¬(2 : Fin S40960x32x256.rank) ∈ dot_S40960x32x256_S32x256x2048_S40960x2048_12_01_0_2_n_n.lhsNonContracting by decide)]
  rfl

theorem down_rhs_0 (i : S40960x2048.Idx) (q : dot_S40960x32x256_S32x256x2048_S40960x2048_12_01_0_2_n_n.contr.Idx) :
    (dot_S40960x32x256_S32x256x2048_S40960x2048_12_01_0_2_n_n.rhsIdx i q 0).val = (q ⟨0, by decide⟩).val := by
  unfold DotDims.rhsIdx
  rw [dif_neg (show ¬(0 : Fin S32x256x2048.rank) ∈ dot_S40960x32x256_S32x256x2048_S40960x2048_12_01_0_2_n_n.rhsBatch by decide), dif_neg (show ¬(0 : Fin S32x256x2048.rank) ∈ dot_S40960x32x256_S32x256x2048_S40960x2048_12_01_0_2_n_n.rhsNonContracting by decide)]
  rfl

theorem down_rhs_1 (i : S40960x2048.Idx) (q : dot_S40960x32x256_S32x256x2048_S40960x2048_12_01_0_2_n_n.contr.Idx) :
    (dot_S40960x32x256_S32x256x2048_S40960x2048_12_01_0_2_n_n.rhsIdx i q 1).val = (q ⟨1, by decide⟩).val := by
  unfold DotDims.rhsIdx
  rw [dif_neg (show ¬(1 : Fin S32x256x2048.rank) ∈ dot_S40960x32x256_S32x256x2048_S40960x2048_12_01_0_2_n_n.rhsBatch by decide), dif_neg (show ¬(1 : Fin S32x256x2048.rank) ∈ dot_S40960x32x256_S32x256x2048_S40960x2048_12_01_0_2_n_n.rhsNonContracting by decide)]
  rfl

theorem down_rhs_2 (i : S40960x2048.Idx) (q : dot_S40960x32x256_S32x256x2048_S40960x2048_12_01_0_2_n_n.contr.Idx) :
    (dot_S40960x32x256_S32x256x2048_S40960x2048_12_01_0_2_n_n.rhsIdx i q 2).val = (i 1).val := by
  unfold DotDims.rhsIdx
  rw [dif_neg (show ¬(2 : Fin S32x256x2048.rank) ∈ dot_S40960x32x256_S32x256x2048_S40960x2048_12_01_0_2_n_n.rhsBatch by decide), dif_pos (show (2 : Fin S32x256x2048.rank) ∈ dot_S40960x32x256_S32x256x2048_S40960x2048_12_01_0_2_n_n.rhsNonContracting by decide)]
  rfl

/-- The reference at a row and a column: the network of the expert the row's tile names. -/
theorem reference_apply (R : Fin 40960) (j : Fin 2048) (E : Fin 32) (hE : (x0 (ValueIdx.ix1 (tileOf R))).toNat = E.val) :
    val_main_v13 (F := Ideal) x0 x3 x4 x5 x6 (ValueIdx.ix2 R j) = cell x3 x4 x5 x6 R E j := by
  have hp := picked_apply x0 x3 x4 x5 R
  unfold val_main_v13
  generalize val_main_v12 (F := Ideal) x0 x3 x4 x5 = y at hp
  simp only [Host.dotGeneral]
  rw [Ideal.dotGeneral_apply, ValueIdx.sum_contr2 dot_S40960x32x256_S32x256x2048_S40960x2048_12_01_0_2_n_n 32 256 rfl rfl rfl]
  have term : ∀ (e : Fin 32) (f : Fin 256),
      y (dot_S40960x32x256_S32x256x2048_S40960x2048_12_01_0_2_n_n.lhsIdx (ValueIdx.ix2 R j) ((ValueIdx.contrEquiv2 dot_S40960x32x256_S32x256x2048_S40960x2048_12_01_0_2_n_n 32 256 rfl rfl rfl).symm (e, f)))
        * val_main_v2 (F := Ideal) x6 (dot_S40960x32x256_S32x256x2048_S40960x2048_12_01_0_2_n_n.rhsIdx (ValueIdx.ix2 R j) ((ValueIdx.contrEquiv2 dot_S40960x32x256_S32x256x2048_S40960x2048_12_01_0_2_n_n 32 256 rfl rfl rfl).symm (e, f)))
        = if e = E then gated x3 x4 x5 R E f * x6 (ValueIdx.ix3 E f j) else (0 : EReal) := by
    intro e f
    have h0 := ValueIdx.contrEquiv2_symm_val0 dot_S40960x32x256_S32x256x2048_S40960x2048_12_01_0_2_n_n 32 256 rfl rfl rfl (e, f)
    have h1 := ValueIdx.contrEquiv2_symm_val1 dot_S40960x32x256_S32x256x2048_S40960x2048_12_01_0_2_n_n 32 256 rfl rfl rfl (e, f)
    have el : dot_S40960x32x256_S32x256x2048_S40960x2048_12_01_0_2_n_n.lhsIdx (ValueIdx.ix2 R j) ((ValueIdx.contrEquiv2 dot_S40960x32x256_S32x256x2048_S40960x2048_12_01_0_2_n_n 32 256 rfl rfl rfl).symm (e, f)) = ValueIdx.ix3 R e f :=
      funext fun a => Fin.ext (by
        match a with
        | ⟨0, _⟩ => exact down_lhs_0 _ _
        | ⟨1, _⟩ => exact (down_lhs_1 _ _).trans h0
        | ⟨2, _⟩ => exact (down_lhs_2 _ _).trans h1)
    have er : dot_S40960x32x256_S32x256x2048_S40960x2048_12_01_0_2_n_n.rhsIdx (ValueIdx.ix2 R j) ((ValueIdx.contrEquiv2 dot_S40960x32x256_S32x256x2048_S40960x2048_12_01_0_2_n_n 32 256 rfl rfl rfl).symm (e, f)) = ValueIdx.ix3 e f j :=
      funext fun a => Fin.ext (by
        match a with
        | ⟨0, _⟩ => exact (down_rhs_0 _ _).trans h0
        | ⟨1, _⟩ => exact (down_rhs_1 _ _).trans h1
        | ⟨2, _⟩ => exact down_rhs_2 _ _)
    rw [el, er, hp e f E hE, val_main_v2_apply]
    show (_ : EReal) * x6 (ValueIdx.ix3 e f j) = _
    by_cases h : e = E
    · rw [if_pos h, if_pos h, h]
    · rw [if_neg h, if_neg h, zero_mul]
  rw [Finset.sum_congr rfl fun e _ => Finset.sum_congr rfl fun f _ => term e f]
  rw [Finset.sum_eq_single E (fun e _ h => by simp only [if_neg h, Finset.sum_const_zero]) (fun h => absurd (Finset.mem_univ E) h)]
  simp only [if_pos]
  rfl

end Cert.Proof.Routed

end
-- ==== Proof.Experts.Final.lean ====
/- The experts' claims: the frames under the routing tables' precondition, and the equality on the used tiles' rows. -/
module

public import proofs.«01_k».proof.Defs
public import proofs.«01_k».proof.Proof.Experts.Pre
public import proofs.«01_k».proof.Proof.Gen.Experts
public import proofs.«01_k».proof.Proof.Experts.Value
public import proofs.«01_k».proof.Proof.Experts.Ref

@[expose] public section

set_option maxRecDepth 16384

noncomputable section

namespace Cert.Proof.Routed

open Idealize.ShloMosaic Idealize.ShloMosaic.TcCoe Idealize.SL.Sem

/-- There is one device. -/
theorem one_device (c : Dev Cert.ExpertsIdeal.nD) : c = (0 : Fin 1) := Subsingleton.elim (α := Fin 1) c 0
theorem one_device_bits (c : Dev Cert.Experts.nD) : c = (0 : Fin 1) := Subsingleton.elim (α := Fin 1) c 0

/-- The tables the memory holds, as the precondition describes them. -/
theorem tables_ideal (m : (ℓ : Loc Cert.ExpertsIdeal.nD Cert.ExpertsIdeal.τ Cert.ExpertsIdeal.sig) → Buf (Elt Ideal) ℓ)
    (h : Cert.Pre_ExpertsIdeal m) : ∃ tb : Cert.Proof.ExpertsIdeal.Tabs Ideal, Cert.Proof.ExpertsIdeal.Holds tb m := by
  obtain ⟨n, h1, h2, ha, hb, hc⟩ := decode _ _ _ _ _ _ _ (h (0 : Fin 1))
  refine ⟨⟨_, _, _, n, h1, h2, ha, hb, hc⟩, fun c => ?_⟩
  rw [one_device c]
  exact ⟨rfl, rfl, rfl⟩

theorem tables_bits (m : (ℓ : Loc Cert.Experts.nD Cert.Experts.τ Cert.Experts.sig) → Buf (Elt Bits) ℓ)
    (h : Cert.Pre_Experts m) : ∃ tb : Cert.Proof.ExpertsIdeal.Tabs Bits, Cert.Proof.ExpertsIdeal.Holds tb m := by
  obtain ⟨n, h1, h2, ha, hb, hc⟩ := decode _ _ _ _ _ _ _ (h (0 : Fin 1))
  refine ⟨⟨_, _, _, n, h1, h2, ha, hb, hc⟩, fun c => ?_⟩
  rw [one_device_bits c]
  exact ⟨rfl, rfl, rfl⟩

/-! The idealization rewrites nothing in this call, so it is the call itself at any floats. -/

set_option backward.isDefEq.respectTransparency.types false in
theorem body_same : Cert.Experts.defs₀ (F := Bits) = Cert.ExpertsIdeal.defs₀ (F := Bits) :=
  congrArg (Defs.onTc (nD := Cert.Experts.nD) (τ := Cert.Experts.τ) (sig := Cert.Experts.sig) (Λ := Cert.Experts.Λ₀)) (funext fun l => funext fun a =>
    match l, a with
    | ⟨0, _⟩, (t, s) => rfl
    | ⟨n + 1, h⟩, _ => absurd h (Nat.not_lt.2 (Nat.le_add_left _ _)))

set_option backward.isDefEq.respectTransparency.types false in
theorem defs_same : Cert.Experts.defs (F := Bits) = Cert.ExpertsIdeal.defs (F := Bits) :=
  congrArg (Pipeline.defs (Cert.Experts.pcfgs (F := Bits))) body_same

set_option backward.isDefEq.respectTransparency.types false in
theorem main_same : Cert.Experts.main (F := Bits) = Cert.ExpertsIdeal.main (F := Bits) := rfl

set_option backward.isDefEq.respectTransparency.types false in
theorem bits_frame : Cert.quiescent_Experts := fun m g h => by
  obtain ⟨tb, hp⟩ := tables_bits m h
  rw [defs_same, main_same]
  exact (θ_run (Cert.ExpertsIdeal.defs (F := Bits)) _ _).mono (fun _ h => ⟨fun c => (h.1 c).1, h.2⟩) (Cert.Proof.ExpertsIdeal.run_values tb m g hp)

theorem ideal_frame : Cert.quiescent_ExpertsIdeal := fun m g h => by
  obtain ⟨tb, hp⟩ := tables_ideal m h
  exact (θ_run Cert.ExpertsIdeal.defs _ _).mono (fun _ h => ⟨fun c => (h.1 c).1, h.2⟩) (Cert.Proof.ExpertsIdeal.run_values tb m g hp)

/-- The reference ends at rest: it declares no semaphore. -/
theorem reference_frame : Cert.quiescent_ExpertsReferenceIdeal := fun m g _ =>
  (θ_run Cert.ExpertsReferenceIdeal.defs _ _).mono (fun r h => ⟨fun c => (h c).2, Idealize.ShloMosaic.sem_eq_zero_of_no_sems (by decide) r.2⟩)
    (Cert.ExpertsReferenceIdeal.Value.run (F := Ideal) m g)

/-- At a row of a used tile the reference's value is what the experts' pipeline leaves. -/
theorem result_eq (m : (ℓ : Loc Cert.ExpertsIdeal.nD Cert.ExpertsIdeal.τ Cert.ExpertsIdeal.sig) → Buf (Elt Ideal) ℓ) (g : Dev Cert.ExpertsIdeal.nD → PrngReg)
    (tb : Cert.Proof.ExpertsIdeal.Tabs Ideal) (hp : Cert.Proof.ExpertsIdeal.Holds tb m) (c : Dev Cert.ExpertsIdeal.nD)
    (i : (⟨2, ![40960, 2048]⟩ : Shape).Idx) (hi : (i 0).val < 256 * tb.n) :
    Cert.ExpertsReferenceIdeal.Read.val_main_v13 (F := Ideal)
        (m ((c.tc : Thread Cert.ExpertsIdeal.nD Cert.ExpertsIdeal.τ).loc Cert.ExpertsIdeal.main_arg0))
        (m ((c.tc : Thread Cert.ExpertsIdeal.nD Cert.ExpertsIdeal.τ).loc Cert.ExpertsIdeal.main_arg3))
        (m ((c.tc : Thread Cert.ExpertsIdeal.nD Cert.ExpertsIdeal.τ).loc Cert.ExpertsIdeal.main_arg4))
        (m ((c.tc : Thread Cert.ExpertsIdeal.nD Cert.ExpertsIdeal.τ).loc Cert.ExpertsIdeal.main_arg5))
        (m ((c.tc : Thread Cert.ExpertsIdeal.nD Cert.ExpertsIdeal.τ).loc Cert.ExpertsIdeal.main_arg6)) i
      = (Cert.Proof.ExpertsIdeal.dats tb m g 0 c).arrAt (4 : Fin 5) (Cert.Proof.ExpertsIdeal.cfgA tb).N i := by
  have h0 : (i 0).val < 40960 := (i 0).isLt
  have h1 : (i 1).val < 2048 := (i 1).isLt
  obtain ⟨q, hq⟩ : ∃ q : Fin 160, q.val = (i 0).val / 256 := ⟨⟨(i 0).val / 256, by omega⟩, rfl⟩
  obtain ⟨r, hr⟩ : ∃ r : Fin 256, r.val = (i 0).val % 256 := ⟨⟨(i 0).val % 256, by omega⟩, rfl⟩
  obtain ⟨j, hj⟩ : ∃ j : Fin 2048, j.val = (i 1).val := ⟨⟨(i 1).val, h1⟩, rfl⟩
  have ei : i = ValueIdx.ix2 (Cert.Proof.ExpertsIdeal.rowOf q r) j := by
    funext a
    match a with
    | ⟨0, _⟩ => exact Fin.ext (by show (i 0).val = 256 * q.val + r.val; omega)
    | ⟨1, _⟩ => exact Fin.ext hj.symm
  have hlt : q.val < tb.n := by omega
  rw [ei]
  refine (reference_apply _ _ _ _ _ _ j (Cert.Proof.ExpertsIdeal.expert tb q) ?_).trans
    (Cert.Proof.ExpertsIdeal.result_apply tb m g c q hlt r j).symm
  have et : tileOf (Cert.Proof.ExpertsIdeal.rowOf q r) = q := Fin.ext (by
    have hr' := r.isLt
    show (256 * q.val + r.val) / 256 = q.val
    omega)
  rw [et, (hp c).1]
  rfl

/-- Over the reals the experts and their reference end with one result on the rows of the used tiles. -/
theorem experts_algebraic : Cert.algebraic_ExpertsIdeal_ExpertsReferenceIdeal_on_rows_used := by
  intro m g m' g' hpre hagree
  obtain ⟨tb, hp⟩ := tables_ideal m hpre
  refine ⟨fun c => (Cert.Proof.ExpertsIdeal.dats tb m g 0 c).arrAt (4 : Fin 5) (Cert.Proof.ExpertsIdeal.cfgA tb).N,
    (θ_run Cert.ExpertsIdeal.defs _ _).mono (fun _ h c => ⟨fun i _ => congrFun (h.1 c).2 i, (h.1 c).1⟩) (Cert.Proof.ExpertsIdeal.run_values tb m g hp), ?_⟩
  refine (θ_run Cert.ExpertsReferenceIdeal.defs _ _).mono (fun _ h c => ⟨fun i hi => (congrFun (h c).1 i).trans ?_, (h c).2⟩) (Cert.ExpertsReferenceIdeal.Value.run (F := Ideal) m' g')
  rw [Cert.ExpertsReferenceIdeal.Read.val_main_v13_eq, (hagree c).1, (hagree c).2.2.2.1, (hagree c).2.2.2.2.1, (hagree c).2.2.2.2.2.1, (hagree c).2.2.2.2.2.2]
  exact result_eq m g tb hp c i (used _ _ _ _ _ _ _ tb.le (fun x => by rw [(hp c).2.2]; exact tb.h2 x) i hi)

end Cert.Proof.Routed

end
-- ==== Proof.Proj.Spec.lean ====
/- One element of what the layer's projections compute: a row times a column, and the same with the gate and the residual. -/
module

public import Idealize.ShloMosaic.Lib.Pipeline.Value
public import Idealize.ShloMosaic.Lib.ValueIdx
public import Idealize.ShloMosaic.Lib.IdealHost
public import Idealize.ShloMosaic.Lib.MatmulPlain
public import Idealize.ShloMosaic.PureOps.Ideal.Laws

@[expose] public section

noncomputable section

namespace Cert.Proof.Proj

open Idealize.ShloMosaic
open scoped BigOperators

/-- The sequence that a row of the flattened batch belongs to. -/
def seqOf (R : Fin 16384) : Fin 4 := ⟨R.val / 4096, by omega⟩

/-- The residual's element plus the gate times the projection's. -/
def residual (x : (⟨2, ![16384, 2048]⟩ : Shape).Idx → EReal) (g : (⟨2, ![4, 2048]⟩ : Shape).Idx → EReal) (y : EReal)
    (R : Fin 16384) (j : Fin 2048) : EReal :=
  x (ValueIdx.ix2 R j) + g (ValueIdx.ix2 (seqOf R) j) * y

/-- A row of a matrix times a column of another. -/
def prod {A K B : Nat} (y : (⟨2, ![A, K]⟩ : Shape).Idx → EReal) (w : (⟨2, ![K, B]⟩ : Shape).Idx → EReal) (R : Fin A) (j : Fin B) : EReal :=
  ∑ k : Fin K, y (ValueIdx.ix2 R k) * w (ValueIdx.ix2 k j)

/-- A row of the upper half of a square matrix. -/
def upper (k : Fin 1024) : Fin 2048 := ⟨k.val, by omega⟩
/-- A row of its lower half. -/
def lower (k : Fin 1024) : Fin 2048 := ⟨1024 + k.val, by omega⟩

/-- A row given in two halves, times a column. -/
def prodHalves (y z : (⟨2, ![16384, 1024]⟩ : Shape).Idx → EReal) (w : (⟨2, ![2048, 2048]⟩ : Shape).Idx → EReal) (R : Fin 16384) (j : Fin 2048) : EReal :=
  (∑ k : Fin 1024, y (ValueIdx.ix2 R k) * w (ValueIdx.ix2 (upper k) j)) + ∑ k : Fin 1024, z (ValueIdx.ix2 R k) * w (ValueIdx.ix2 (lower k) j)

/-- A sum over both halves. -/
theorem sum_halves (f : Fin 2048 → EReal) : ∑ k : Fin 2048, f k = (∑ k : Fin 1024, f (upper k)) + ∑ k : Fin 1024, f (lower k) :=
  Fin.sum_univ_add (a := 1024) (b := 1024) f

/-- A product into a zero accumulator. -/
theorem matmul_zero {M K N : Nat} (x : FVec Ideal ⟨2, ![M, K]⟩ .bf16) (w : FVec Ideal ⟨2, ![K, N]⟩ .bf16) (r : Fin M) (j : Fin N) :
    matmul (DotDims.plain M K N) none x w (constant ⟨2, ![M, N]⟩ .f32 0x00000000#32) (ValueIdx.ix2 r j) = prod x w r j := by
  simp only [matmul]
  rw [Ideal.matmul_plain_apply]
  show Ideal.ofBits .f32 0x00000000#32 + _ = _
  rw [Ideal.ofBits_zero_f32, zero_add]
  rfl

/-- A block of one row of gates, spread over the rows of a tile. -/
theorem gate_cast {M N : Nat} (hN : N ≠ 1) (v : FVec Ideal ⟨3, ![1, 1, N]⟩ .f32) (h : (⟨3, ![1, 1, N]⟩ : Shape).ShapeCasts ⟨2, ![1, N]⟩)
    (hb : (⟨2, ![1, N]⟩ : Shape).Broadcasts ⟨2, ![M, N]⟩) (r : Fin M) (j : Fin N) :
    broadcastTo ⟨2, ![M, N]⟩ (shapeCast ⟨2, ![1, N]⟩ v h) hb (ValueIdx.ix2 r j) = v (ValueIdx.ix3 0 0 j) := by
  refine (broadcastTo_apply (shapeCast ⟨2, ![1, N]⟩ v h) hb (ValueIdx.ix2 r j) (ValueIdx.ix2 0 j) (fun a => ?_)).trans (shapeCast_apply v h (ValueIdx.ix2 0 j) (ValueIdx.ix3 0 0 j) ?_)
  · match a with
    | ⟨0, _⟩ => rfl
    | ⟨1, _⟩ => exact (if_neg hN).symm
  · rw [Shape.rowMajor_val_three, Shape.rowMajor_val_two]
    show (0 * 1 + 0) * N + j.val = 0 * N + j.val
    omega

/-- A cast between equal shapes does nothing. -/
theorem same_cast {s : Shape} {α : Type} (x : s.Idx → α) (h : s.ShapeCasts s) : shapeCast s x h = x :=
  funext fun i => shapeCast_apply x h i i rfl

end Cert.Proof.Proj

end
-- ==== Proof.Proj.SsdOut.lean ====
/- The output projection of the second mixer: the call and the reference, both read at a row and a column. -/
module

public import proofs.«01_k».proof.Proof.Gen.SsdOutIdeal.Value
public import proofs.«01_k».proof.Proof.Gen.SsdOutReferenceIdeal.Read
public import proofs.«01_k».proof.Proof.Proj.Spec

@[expose] public section

set_option maxRecDepth 16384

noncomputable section

namespace Cert.Proof.Proj.SsdOut

open Cert.SsdOutIdeal Cert.SsdOutIdeal.Gen Cert.SsdOutIdeal.Value
open Idealize.ShloMosaic Idealize.ShloMosaic.TcCoe Idealize.SL.Sem
open scoped BigOperators

theorem dot_eq : dot_S512x4096_S4096x1024_S512x1024_1_0_0_1_n_n = DotDims.plain 512 4096 1024 := rfl

/-- What the body stores at a row and a column of its tile. -/
theorem stored_apply (a : FVec Ideal S512x4096 .bf16) (w : FVec Ideal S4096x1024 .bf16) (x : FVec Ideal S512x1024 .f32) (g : FVec Ideal S1x1x1024 .f32)
    (r : Fin 512) (j : Fin 1024) :
    k0_pay1 (F := Ideal) a w x g (ValueIdx.ix2 r j) = x (ValueIdx.ix2 r j) + g (ValueIdx.ix3 0 0 j) * prod a w r j := by
  unfold k0_pay1
  rw [same_cast w, dot_eq]
  exact congrArg₂ (fun p q : EReal => x (ValueIdx.ix2 r j) + p * q) (gate_cast (by decide) g _ _ r j) (matmul_zero a w r j)

/-! ## The tiles -/

/-- The grid point of row block `p` and column block `q`. -/
def point (p : Fin 32) (q : Fin 2) : Fin cfg0.N := ⟨2 * p.val + q.val, by show 2 * p.val + q.val < 64; omega⟩
def rowOf (p : Fin 32) (r : Fin 512) : Fin 16384 := ⟨512 * p.val + r.val, by omega⟩
def colOf (q : Fin 2) (j : Fin 1024) : Fin 2048 := ⟨1024 * q.val + j.val, by omega⟩

theorem idx0 : ∀ t : Fin cfg0.N, win0_0.index t (0 : Fin 2) = t.val / 2 ∧ win0_0.index t (1 : Fin 2) = 0 := (by decide +kernel : ∀ t : Fin grid0.N, _)
theorem idx1 : ∀ t : Fin cfg0.N, win0_1.index t (0 : Fin 2) = 0 ∧ win0_1.index t (1 : Fin 2) = t.val % 2 := (by decide +kernel : ∀ t : Fin grid0.N, _)
theorem idx2 : ∀ t : Fin cfg0.N, win0_2.index t (0 : Fin 2) = t.val / 2 ∧ win0_2.index t (1 : Fin 2) = t.val % 2 := (by decide +kernel : ∀ t : Fin grid0.N, _)
theorem idx3 : ∀ t : Fin cfg0.N, win0_3.index t (0 : Fin 3) = t.val / 16 ∧ win0_3.index t (1 : Fin 3) = 0 ∧ win0_3.index t (2 : Fin 3) = t.val % 2 :=
  (by decide +kernel : ∀ t : Fin grid0.N, _)
theorem idx4 : ∀ t : Fin cfg0.N, win0_4.index t (0 : Fin 2) = t.val / 2 ∧ win0_4.index t (1 : Fin 2) = t.val % 2 := (by decide +kernel : ∀ t : Fin grid0.N, _)

variable (p : Fin 32) (q : Fin 2)

theorem point_div : (point p q).val / 2 = p.val := by show (2 * p.val + q.val) / 2 = p.val; omega
theorem point_mod : (point p q).val % 2 = q.val := by show (2 * p.val + q.val) % 2 = q.val; omega

theorem emb0 (r : Fin 512) (k : Fin 4096) :
    ((cfg0.win 0).blk (point p q)).view.emb (ValueIdx.ix2 r k : S512x4096.Idx) = (ValueIdx.ix2 (rowOf p r) k : S16384x4096.Idx) := by
  obtain ⟨e0, e1⟩ := idx0 (point p q)
  rw [point_div] at e0
  funext a; apply Fin.ext
  match a with
  | ⟨0, _⟩ => show win0_0.index (point p q) (0 : Fin 2) * 512 + 1 * r.val = 512 * p.val + r.val; omega
  | ⟨1, _⟩ => show win0_0.index (point p q) (1 : Fin 2) * 4096 + 1 * k.val = k.val; omega

theorem emb1 (k : Fin 4096) (j : Fin 1024) :
    ((cfg0.win 1).blk (point p q)).view.emb (ValueIdx.ix2 k j : S4096x1024.Idx) = (ValueIdx.ix2 k (colOf q j) : S4096x2048.Idx) := by
  obtain ⟨e0, e1⟩ := idx1 (point p q)
  rw [point_mod] at e1
  funext a; apply Fin.ext
  match a with
  | ⟨0, _⟩ => show win0_1.index (point p q) (0 : Fin 2) * 4096 + 1 * k.val = k.val; omega
  | ⟨1, _⟩ => show win0_1.index (point p q) (1 : Fin 2) * 1024 + 1 * j.val = 1024 * q.val + j.val; omega

theorem emb2 (r : Fin 512) (j : Fin 1024) :
    ((cfg0.win 2).blk (point p q)).view.emb (ValueIdx.ix2 r j : S512x1024.Idx) = (ValueIdx.ix2 (rowOf p r) (colOf q j) : S16384x2048.Idx) := by
  obtain ⟨e0, e1⟩ := idx2 (point p q)
  rw [point_div] at e0
  rw [point_mod] at e1
  funext a; apply Fin.ext
  match a with
  | ⟨0, _⟩ => show win0_2.index (point p q) (0 : Fin 2) * 512 + 1 * r.val = 512 * p.val + r.val; omega
  | ⟨1, _⟩ => show win0_2.index (point p q) (1 : Fin 2) * 1024 + 1 * j.val = 1024 * q.val + j.val; omega

theorem emb3 (r : Fin 512) (j : Fin 1024) :
    ((cfg0.win 3).blk (point p q)).view.emb (ValueIdx.ix3 0 0 j : S1x1x1024.Idx) = (ValueIdx.ix3 (seqOf (rowOf p r)) 0 (colOf q j) : S4x1x2048.Idx) := by
  obtain ⟨e0, e1, e2⟩ := idx3 (point p q)
  have hp : (point p q).val = 2 * p.val + q.val := rfl
  rw [point_mod] at e2
  funext a; apply Fin.ext
  match a with
  | ⟨0, _⟩ => show win0_3.index (point p q) (0 : Fin 3) * 1 + 1 * 0 = (512 * p.val + r.val) / 4096; omega
  | ⟨1, _⟩ => show win0_3.index (point p q) (1 : Fin 3) * 1 + 1 * 0 = 0; omega
  | ⟨2, _⟩ => show win0_3.index (point p q) (2 : Fin 3) * 1024 + 1 * j.val = 1024 * q.val + j.val; omega

theorem emb4 (r : Fin 512) (j : Fin 1024) :
    ((cfg0.win 4).blk (point p q)).view.emb (ValueIdx.ix2 r j : S512x1024.Idx) = (ValueIdx.ix2 (rowOf p r) (colOf q j) : S16384x2048.Idx) := by
  obtain ⟨e0, e1⟩ := idx4 (point p q)
  rw [point_div] at e0
  rw [point_mod] at e1
  funext a; apply Fin.ext
  match a with
  | ⟨0, _⟩ => show win0_4.index (point p q) (0 : Fin 2) * 512 + 1 * r.val = 512 * p.val + r.val; omega
  | ⟨1, _⟩ => show win0_4.index (point p q) (1 : Fin 2) * 1024 + 1 * j.val = 1024 * q.val + j.val; omega

variable (m : (ℓ : Loc nD τ sig) → Buf (Elt Ideal) ℓ) (c : Dev nD)

theorem V_w : V m c main_v0 = (m ((c : Thread nD τ).loc main_arg1) : S4096x2048.Idx → EReal) := by
  show StableHlo.after hostOps0 _ (Proc.devRef .tc main_v0) = _
  after_results
  rfl

theorem V_gate (s : Fin 4) (j : Fin 2048) :
    V m c main_v1 (ValueIdx.ix3 s 0 j : S4x1x2048.Idx) = m ((c : Thread nD τ).loc main_arg3) (ValueIdx.ix2 s j : S4x2048.Idx) := by
  have h : V m c main_v1 = broadcastInDim S4x1x2048 ![0, 2] bcast_S4x2048_S4x1x2048_0_2 (m ((c : Thread nD τ).loc main_arg3)) := by
    show StableHlo.after hostOps0 _ (Proc.devRef .tc main_v1) = _
    after_results
  rw [h]
  exact broadcastInDim_apply _ bcast_S4x2048_S4x1x2048_0_2 (m ((c : Thread nD τ).loc main_arg3)) (ValueIdx.ix3 s 0 j) (ValueIdx.ix2 s j)
    (fun a => match a with
      | ⟨0, _⟩ => rfl
      | ⟨1, _⟩ => rfl)

theorem block0 (r : Fin 512) (k : Fin 4096) :
    iblk m c 0 (point p q) (ValueIdx.ix2 r k : S512x4096.Idx) = m ((c : Thread nD τ).loc main_arg0) (ValueIdx.ix2 (rowOf p r) k : S16384x4096.Idx) := by
  show V m c main_arg0 (((cfg0.win 0).blk (point p q)).view.emb (ValueIdx.ix2 r k : S512x4096.Idx)) = _
  rw [emb0, V_main_arg0]
theorem block1 (k : Fin 4096) (j : Fin 1024) :
    iblk m c 1 (point p q) (ValueIdx.ix2 k j : S4096x1024.Idx) = m ((c : Thread nD τ).loc main_arg1) (ValueIdx.ix2 k (colOf q j) : S4096x2048.Idx) := by
  show V m c main_v0 (((cfg0.win 1).blk (point p q)).view.emb (ValueIdx.ix2 k j : S4096x1024.Idx)) = _
  rw [emb1, V_w]
theorem block2 (r : Fin 512) (j : Fin 1024) :
    iblk m c 2 (point p q) (ValueIdx.ix2 r j : S512x1024.Idx) = m ((c : Thread nD τ).loc main_arg2) (ValueIdx.ix2 (rowOf p r) (colOf q j) : S16384x2048.Idx) := by
  show V m c main_arg2 (((cfg0.win 2).blk (point p q)).view.emb (ValueIdx.ix2 r j : S512x1024.Idx)) = _
  rw [emb2, V_main_arg2]
theorem block3 (r : Fin 512) (j : Fin 1024) :
    iblk m c 3 (point p q) (ValueIdx.ix3 0 0 j : S1x1x1024.Idx) = m ((c : Thread nD τ).loc main_arg3) (ValueIdx.ix2 (seqOf (rowOf p r)) (colOf q j) : S4x2048.Idx) := by
  show V m c main_v1 (((cfg0.win 3).blk (point p q)).view.emb (ValueIdx.ix3 0 0 j : S1x1x1024.Idx)) = _
  rw [emb3 p q r, V_gate]

theorem hz2 : (![0, 0] : Fin 2 → Nat) = fun _ => 0 := by decide
theorem hz3 : (![0, 0, 0] : Fin 3 → Nat) = fun _ => 0 := by decide

/-- The call's result at a row and a column. -/
theorem result_apply (r : Fin 512) (j : Fin 1024) :
    (dats m 0 c).arrAt 4 cfg0.N (ValueIdx.ix2 (rowOf p r) (colOf q j) : S16384x2048.Idx)
      = residual (m ((c : Thread nD τ).loc main_arg2)) (m ((c : Thread nD τ).loc main_arg3))
          (prod (A := 16384) (K := 4096) (B := 2048) (m ((c : Thread nD τ).loc main_arg0)) (m ((c : Thread nD τ).loc main_arg1)) (rowOf p r) (colOf q j))
          (rowOf p r) (colOf q j) := by
  rw [← emb4 p q r j]
  refine ((dats m 0 c).arrAt_emb_eq_flushed 4 disjoint4 (point p q) (flush0_4 _) _).trans ?_
  rw [flushed4]
  unfold out0_4
  rw [View.canon_unit_zero hz2, View.ld_unit_zero hz2, View.ld_unit_zero hz2, View.ld_unit_zero hz2, View.ld_unit_zero hz3]
  refine (stored_apply _ _ _ _ r j).trans ?_
  unfold residual
  rw [block2, block3 p q m c r]
  refine congrArg (fun z : EReal => _ + _ * z) (Finset.sum_congr rfl fun k _ => ?_)
  exact congrArg₂ (fun x y : EReal => x * y) (block0 p q m c r k) (block1 p q m c k j)

end Cert.Proof.Proj.SsdOut

namespace Cert.Proof.Proj.SsdOut

open Cert.SsdOutReferenceIdeal Cert.SsdOutReferenceIdeal.Read
open Idealize.ShloMosaic

/-- The reference at a row and a column. -/
theorem reference_apply (y : S16384x4096.Idx → EReal) (w : S4096x2048.Idx → EReal) (x : S16384x2048.Idx → EReal) (g : S4x2048.Idx → EReal)
    (R : Fin 16384) (j : Fin 2048) :
    val_main_v8 (F := Ideal) y w x g (ValueIdx.ix2 R j) = residual x g (prod y w R j) R j := by
  have hj := j.isLt
  have hR := R.isLt
  rw [val_main_v8_apply, val_main_v7_apply, val_main_v0_apply, val_main_v6_apply, val_main_v5_apply, val_main_v4_apply, val_main_v3_apply]
  have ex : idx_main_v0 (idx_main_v8 (ValueIdx.ix2 R j)) = ValueIdx.ix2 R j := by
    funext a; apply Fin.ext
    match a with
    | ⟨0, _⟩ => show (((R.val * 2048 + j.val) / 8388608 * 4096 + (R.val * 2048 + j.val) / 2048 % 4096) * 2048 + (R.val * 2048 + j.val) % 2048) / 2048 = R.val; omega
    | ⟨1, _⟩ => show (((R.val * 2048 + j.val) / 8388608 * 4096 + (R.val * 2048 + j.val) / 2048 % 4096) * 2048 + (R.val * 2048 + j.val) % 2048) % 2048 = j.val; omega
  have eg : idx_main_v4 (idx_main_v5 (idx_main_v8 (ValueIdx.ix2 R j))) = ValueIdx.ix2 (seqOf R) j := by
    funext a; apply Fin.ext
    match a with
    | ⟨0, _⟩ => show (R.val * 2048 + j.val) / 8388608 = R.val / 4096; omega
    | ⟨1, _⟩ => show (R.val * 2048 + j.val) % 2048 = j.val; omega
  rw [ex, eg]
  unfold residual prod
  refine congrArg (fun z : EReal => _ + _ * z) (Finset.sum_congr rfl fun k _ => ?_)
  rw [val_main_v2_apply, val_main_v1_apply]
  have hk := k.isLt
  have e1 : idx_main_v2 (lidx_main_v3 (idx_main_v8 (ValueIdx.ix2 R j)) k) = ValueIdx.ix2 R k := by
    funext a; apply Fin.ext
    match a with
    | ⟨0, _⟩ => show (((R.val * 2048 + j.val) / 8388608 * 4096 + (R.val * 2048 + j.val) / 2048 % 4096) * 4096 + k.val) / 4096 = R.val; omega
    | ⟨1, _⟩ => show (((R.val * 2048 + j.val) / 8388608 * 4096 + (R.val * 2048 + j.val) / 2048 % 4096) * 4096 + k.val) % 4096 = k.val; omega
  have e2 : ridx_main_v3 (idx_main_v8 (ValueIdx.ix2 R j)) k = ValueIdx.ix2 k j := by
    funext a; apply Fin.ext
    match a with
    | ⟨0, _⟩ => rfl
    | ⟨1, _⟩ => show (R.val * 2048 + j.val) % 2048 = j.val; omega
  rw [e1, e2]
  rfl

end Cert.Proof.Proj.SsdOut

end
-- ==== Proof.Proj.MixOut.lean ====
/- The output projection of the first mixer: the call and the reference, both read at a row and a column. -/
module

public import proofs.«01_k».proof.Proof.Gen.MixOutIdeal.Value
public import proofs.«01_k».proof.Proof.Gen.MixOutReferenceIdeal.Read
public import proofs.«01_k».proof.Proof.Proj.Spec

@[expose] public section

set_option maxRecDepth 16384

noncomputable section

namespace Cert.Proof.Proj.MixOut

open Cert.MixOutIdeal Cert.MixOutIdeal.Gen Cert.MixOutIdeal.Value
open Idealize.ShloMosaic Idealize.ShloMosaic.TcCoe Idealize.SL.Sem
open scoped BigOperators

theorem dot_eq : dot_S1024x1024_S1024x1024_S1024x1024_1_0_0_1_n_n = DotDims.plain 1024 1024 1024 := rfl

/-- What the body stores at a row and a column of its tile. -/
theorem stored_apply (a1 w1 a2 w2 : FVec Ideal S1024x1024 .bf16) (x : FVec Ideal S1024x1024 .f32) (g : FVec Ideal S1x1x1024 .f32) (r j : Fin 1024) :
    k0_pay1 (F := Ideal) a1 w1 a2 w2 x g (ValueIdx.ix2 r j)
      = x (ValueIdx.ix2 r j) + g (ValueIdx.ix3 0 0 j) * (prod a1 w1 r j + prod a2 w2 r j) := by
  unfold k0_pay1
  rw [same_cast w1, same_cast w2, dot_eq]
  refine congrArg₂ (fun p q : EReal => x (ValueIdx.ix2 r j) + p * q) (gate_cast (by decide) g _ _ r j) ?_
  exact congrArg₂ (fun p q : EReal => p + q) (matmul_zero a1 w1 r j) (matmul_zero a2 w2 r j)

/-! ## The tiles -/

/-- The grid point of row block `p` and column block `q`. -/
def point (p : Fin 16) (q : Fin 2) : Fin cfg0.N := ⟨2 * p.val + q.val, by show 2 * p.val + q.val < 32; omega⟩
def rowOf (p : Fin 16) (r : Fin 1024) : Fin 16384 := ⟨1024 * p.val + r.val, by omega⟩
def colOf (q : Fin 2) (j : Fin 1024) : Fin 2048 := ⟨1024 * q.val + j.val, by omega⟩

theorem idx0 : ∀ t : Fin cfg0.N, win0_0.index t (0 : Fin 2) = t.val / 2 ∧ win0_0.index t (1 : Fin 2) = 0 := (by decide +kernel : ∀ t : Fin grid0.N, _)
theorem idx1 : ∀ t : Fin cfg0.N, win0_1.index t (0 : Fin 2) = t.val / 2 ∧ win0_1.index t (1 : Fin 2) = 0 := (by decide +kernel : ∀ t : Fin grid0.N, _)
theorem idx2 : ∀ t : Fin cfg0.N, win0_2.index t (0 : Fin 2) = 0 ∧ win0_2.index t (1 : Fin 2) = t.val % 2 := (by decide +kernel : ∀ t : Fin grid0.N, _)
theorem idx3 : ∀ t : Fin cfg0.N, win0_3.index t (0 : Fin 2) = 0 ∧ win0_3.index t (1 : Fin 2) = t.val % 2 := (by decide +kernel : ∀ t : Fin grid0.N, _)
theorem idx4 : ∀ t : Fin cfg0.N, win0_4.index t (0 : Fin 2) = t.val / 2 ∧ win0_4.index t (1 : Fin 2) = t.val % 2 := (by decide +kernel : ∀ t : Fin grid0.N, _)
theorem idx5 : ∀ t : Fin cfg0.N, win0_5.index t (0 : Fin 3) = t.val / 8 ∧ win0_5.index t (1 : Fin 3) = 0 ∧ win0_5.index t (2 : Fin 3) = t.val % 2 :=
  (by decide +kernel : ∀ t : Fin grid0.N, _)
theorem idx6 : ∀ t : Fin cfg0.N, win0_6.index t (0 : Fin 2) = t.val / 2 ∧ win0_6.index t (1 : Fin 2) = t.val % 2 := (by decide +kernel : ∀ t : Fin grid0.N, _)

variable (p : Fin 16) (q : Fin 2)

theorem point_div : (point p q).val / 2 = p.val := by show (2 * p.val + q.val) / 2 = p.val; omega
theorem point_mod : (point p q).val % 2 = q.val := by show (2 * p.val + q.val) % 2 = q.val; omega

theorem emb0 (r j : Fin 1024) :
    ((cfg0.win 0).blk (point p q)).view.emb (ValueIdx.ix2 r j : S1024x1024.Idx) = (ValueIdx.ix2 (rowOf p r) j : S16384x1024.Idx) := by
  obtain ⟨e0, e1⟩ := idx0 (point p q)
  rw [point_div] at e0
  funext a; apply Fin.ext
  match a with
  | ⟨0, _⟩ => show win0_0.index (point p q) (0 : Fin 2) * 1024 + 1 * r.val = 1024 * p.val + r.val; omega
  | ⟨1, _⟩ => show win0_0.index (point p q) (1 : Fin 2) * 1024 + 1 * j.val = j.val; omega

theorem emb1 (r j : Fin 1024) :
    ((cfg0.win 1).blk (point p q)).view.emb (ValueIdx.ix2 r j : S1024x1024.Idx) = (ValueIdx.ix2 (rowOf p r) j : S16384x1024.Idx) := by
  obtain ⟨e0, e1⟩ := idx1 (point p q)
  rw [point_div] at e0
  funext a; apply Fin.ext
  match a with
  | ⟨0, _⟩ => show win0_1.index (point p q) (0 : Fin 2) * 1024 + 1 * r.val = 1024 * p.val + r.val; omega
  | ⟨1, _⟩ => show win0_1.index (point p q) (1 : Fin 2) * 1024 + 1 * j.val = j.val; omega

theorem emb2 (r j : Fin 1024) :
    ((cfg0.win 2).blk (point p q)).view.emb (ValueIdx.ix2 r j : S1024x1024.Idx) = (ValueIdx.ix2 r (colOf q j) : S1024x2048.Idx) := by
  obtain ⟨e0, e1⟩ := idx2 (point p q)
  rw [point_mod] at e1
  funext a; apply Fin.ext
  match a with
  | ⟨0, _⟩ => show win0_2.index (point p q) (0 : Fin 2) * 1024 + 1 * r.val = r.val; omega
  | ⟨1, _⟩ => show win0_2.index (point p q) (1 : Fin 2) * 1024 + 1 * j.val = 1024 * q.val + j.val; omega

theorem emb3 (r j : Fin 1024) :
    ((cfg0.win 3).blk (point p q)).view.emb (ValueIdx.ix2 r j : S1024x1024.Idx) = (ValueIdx.ix2 r (colOf q j) : S1024x2048.Idx) := by
  obtain ⟨e0, e1⟩ := idx3 (point p q)
  rw [point_mod] at e1
  funext a; apply Fin.ext
  match a with
  | ⟨0, _⟩ => show win0_3.index (point p q) (0 : Fin 2) * 1024 + 1 * r.val = r.val; omega
  | ⟨1, _⟩ => show win0_3.index (point p q) (1 : Fin 2) * 1024 + 1 * j.val = 1024 * q.val + j.val; omega

theorem emb4 (r j : Fin 1024) :
    ((cfg0.win 4).blk (point p q)).view.emb (ValueIdx.ix2 r j : S1024x1024.Idx) = (ValueIdx.ix2 (rowOf p r) (colOf q j) : S16384x2048.Idx) := by
  obtain ⟨e0, e1⟩ := idx4 (point p q)
  rw [point_div] at e0
  rw [point_mod] at e1
  funext a; apply Fin.ext
  match a with
  | ⟨0, _⟩ => show win0_4.index (point p q) (0 : Fin 2) * 1024 + 1 * r.val = 1024 * p.val + r.val; omega
  | ⟨1, _⟩ => show win0_4.index (point p q) (1 : Fin 2) * 1024 + 1 * j.val = 1024 * q.val + j.val; omega

theorem emb6 (r j : Fin 1024) :
    ((cfg0.win 6).blk (point p q)).view.emb (ValueIdx.ix2 r j : S1024x1024.Idx) = (ValueIdx.ix2 (rowOf p r) (colOf q j) : S16384x2048.Idx) := by
  obtain ⟨e0, e1⟩ := idx6 (point p q)
  rw [point_div] at e0
  rw [point_mod] at e1
  funext a; apply Fin.ext
  match a with
  | ⟨0, _⟩ => show win0_6.index (point p q) (0 : Fin 2) * 1024 + 1 * r.val = 1024 * p.val + r.val; omega
  | ⟨1, _⟩ => show win0_6.index (point p q) (1 : Fin 2) * 1024 + 1 * j.val = 1024 * q.val + j.val; omega

theorem emb5 (r j : Fin 1024) :
    ((cfg0.win 5).blk (point p q)).view.emb (ValueIdx.ix3 0 0 j : S1x1x1024.Idx) = (ValueIdx.ix3 (seqOf (rowOf p r)) 0 (colOf q j) : S4x1x2048.Idx) := by
  obtain ⟨e0, e1, e2⟩ := idx5 (point p q)
  have hp : (point p q).val = 2 * p.val + q.val := rfl
  rw [point_mod] at e2
  funext a; apply Fin.ext
  match a with
  | ⟨0, _⟩ => show win0_5.index (point p q) (0 : Fin 3) * 1 + 1 * 0 = (1024 * p.val + r.val) / 4096; omega
  | ⟨1, _⟩ => show win0_5.index (point p q) (1 : Fin 3) * 1 + 1 * 0 = 0; omega
  | ⟨2, _⟩ => show win0_5.index (point p q) (2 : Fin 3) * 1024 + 1 * j.val = 1024 * q.val + j.val; omega

variable (m : (ℓ : Loc nD τ sig) → Buf (Elt Ideal) ℓ) (c : Dev nD)

theorem V_upper (k : Fin 1024) (j : Fin 2048) :
    V m c main_v1 (ValueIdx.ix2 k j : S1024x2048.Idx) = m ((c : Thread nD τ).loc main_arg2) (ValueIdx.ix2 (upper k) j : S2048x2048.Idx) := by
  have h : V m c main_v1 = extractStridedSlice S1024x2048 ![0, 0] (m ((c : Thread nD τ).loc main_arg2)) slices_S2048x2048_S1024x2048_0_0 := by
    show StableHlo.after hostOps0 _ (Proc.devRef .tc main_v1) = _
    after_results
    rfl
  rw [h]
  exact extractStridedSlice_apply _ (m ((c : Thread nD τ).loc main_arg2)) slices_S2048x2048_S1024x2048_0_0 (ValueIdx.ix2 k j) (ValueIdx.ix2 (upper k) j)
    (fun a => match a with
      | ⟨0, _⟩ => by show k.val = 0 + k.val; omega
      | ⟨1, _⟩ => by show j.val = 0 + j.val; omega)

theorem V_lower (k : Fin 1024) (j : Fin 2048) :
    V m c main_v2 (ValueIdx.ix2 k j : S1024x2048.Idx) = m ((c : Thread nD τ).loc main_arg2) (ValueIdx.ix2 (lower k) j : S2048x2048.Idx) := by
  have h : V m c main_v2 = extractStridedSlice S1024x2048 ![1024, 0] (m ((c : Thread nD τ).loc main_arg2)) slices_S2048x2048_S1024x2048_1024_0 := by
    show StableHlo.after hostOps0 _ (Proc.devRef .tc main_v2) = _
    after_results
    rfl
  rw [h]
  exact extractStridedSlice_apply _ (m ((c : Thread nD τ).loc main_arg2)) slices_S2048x2048_S1024x2048_1024_0 (ValueIdx.ix2 k j) (ValueIdx.ix2 (lower k) j)
    (fun a => match a with
      | ⟨0, _⟩ => by show 1024 + k.val = 1024 + k.val; rfl
      | ⟨1, _⟩ => by show j.val = 0 + j.val; omega)

theorem V_gate (s : Fin 4) (j : Fin 2048) :
    V m c main_v3 (ValueIdx.ix3 s 0 j : S4x1x2048.Idx) = m ((c : Thread nD τ).loc main_arg4) (ValueIdx.ix2 s j : S4x2048.Idx) := by
  have h : V m c main_v3 = broadcastInDim S4x1x2048 ![0, 2] bcast_S4x2048_S4x1x2048_0_2 (m ((c : Thread nD τ).loc main_arg4)) := by
    show StableHlo.after hostOps0 _ (Proc.devRef .tc main_v3) = _
    after_results
  rw [h]
  exact broadcastInDim_apply _ bcast_S4x2048_S4x1x2048_0_2 (m ((c : Thread nD τ).loc main_arg4)) (ValueIdx.ix3 s 0 j) (ValueIdx.ix2 s j)
    (fun a => match a with
      | ⟨0, _⟩ => rfl
      | ⟨1, _⟩ => rfl)

theorem block0 (r j : Fin 1024) :
    iblk m c 0 (point p q) (ValueIdx.ix2 r j : S1024x1024.Idx) = m ((c : Thread nD τ).loc main_arg0) (ValueIdx.ix2 (rowOf p r) j : S16384x1024.Idx) := by
  show V m c main_arg0 (((cfg0.win 0).blk (point p q)).view.emb (ValueIdx.ix2 r j : S1024x1024.Idx)) = _
  rw [emb0, V_main_arg0]
theorem block1 (r j : Fin 1024) :
    iblk m c 1 (point p q) (ValueIdx.ix2 r j : S1024x1024.Idx) = m ((c : Thread nD τ).loc main_arg1) (ValueIdx.ix2 (rowOf p r) j : S16384x1024.Idx) := by
  show V m c main_arg1 (((cfg0.win 1).blk (point p q)).view.emb (ValueIdx.ix2 r j : S1024x1024.Idx)) = _
  rw [emb1, V_main_arg1]
theorem block2 (r j : Fin 1024) :
    iblk m c 2 (point p q) (ValueIdx.ix2 r j : S1024x1024.Idx) = m ((c : Thread nD τ).loc main_arg2) (ValueIdx.ix2 (upper r) (colOf q j) : S2048x2048.Idx) := by
  show V m c main_v1 (((cfg0.win 2).blk (point p q)).view.emb (ValueIdx.ix2 r j : S1024x1024.Idx)) = _
  rw [emb2, V_upper]
theorem block3 (r j : Fin 1024) :
    iblk m c 3 (point p q) (ValueIdx.ix2 r j : S1024x1024.Idx) = m ((c : Thread nD τ).loc main_arg2) (ValueIdx.ix2 (lower r) (colOf q j) : S2048x2048.Idx) := by
  show V m c main_v2 (((cfg0.win 3).blk (point p q)).view.emb (ValueIdx.ix2 r j : S1024x1024.Idx)) = _
  rw [emb3, V_lower]
theorem block4 (r j : Fin 1024) :
    iblk m c 4 (point p q) (ValueIdx.ix2 r j : S1024x1024.Idx) = m ((c : Thread nD τ).loc main_arg3) (ValueIdx.ix2 (rowOf p r) (colOf q j) : S16384x2048.Idx) := by
  show V m c main_arg3 (((cfg0.win 4).blk (point p q)).view.emb (ValueIdx.ix2 r j : S1024x1024.Idx)) = _
  rw [emb4, V_main_arg3]
theorem block5 (r j : Fin 1024) :
    iblk m c 5 (point p q) (ValueIdx.ix3 0 0 j : S1x1x1024.Idx) = m ((c : Thread nD τ).loc main_arg4) (ValueIdx.ix2 (seqOf (rowOf p r)) (colOf q j) : S4x2048.Idx) := by
  show V m c main_v3 (((cfg0.win 5).blk (point p q)).view.emb (ValueIdx.ix3 0 0 j : S1x1x1024.Idx)) = _
  rw [emb5 p q r, V_gate]

theorem hz2 : (![0, 0] : Fin 2 → Nat) = fun _ => 0 := by decide
theorem hz3 : (![0, 0, 0] : Fin 3 → Nat) = fun _ => 0 := by decide

/-- The call's result at a row and a column. -/
theorem result_apply (r j : Fin 1024) :
    (dats m 0 c).arrAt 6 cfg0.N (ValueIdx.ix2 (rowOf p r) (colOf q j) : S16384x2048.Idx)
      = residual (m ((c : Thread nD τ).loc main_arg3)) (m ((c : Thread nD τ).loc main_arg4))
          (prodHalves (m ((c : Thread nD τ).loc main_arg0)) (m ((c : Thread nD τ).loc main_arg1)) (m ((c : Thread nD τ).loc main_arg2)) (rowOf p r) (colOf q j))
          (rowOf p r) (colOf q j) := by
  rw [← emb6 p q r j]
  refine ((dats m 0 c).arrAt_emb_eq_flushed 6 disjoint6 (point p q) (flush0_6 _) _).trans ?_
  rw [flushed6]
  unfold out0_6
  rw [View.canon_unit_zero hz2, View.ld_unit_zero hz2, View.ld_unit_zero hz2, View.ld_unit_zero hz2, View.ld_unit_zero hz2, View.ld_unit_zero hz2, View.ld_unit_zero hz3]
  refine (stored_apply _ _ _ _ _ _ r j).trans ?_
  unfold residual prodHalves
  rw [block4, block5 p q m c r]
  refine congrArg₂ (fun y z : EReal => _ + _ * (y + z)) (Finset.sum_congr rfl fun k _ => ?_) (Finset.sum_congr rfl fun k _ => ?_)
  · exact congrArg₂ (fun x y : EReal => x * y) (block0 p q m c r k) (block2 p q m c k j)
  · exact congrArg₂ (fun x y : EReal => x * y) (block1 p q m c r k) (block3 p q m c k j)

end Cert.Proof.Proj.MixOut

namespace Cert.Proof.Proj.MixOut

open Cert.MixOutReferenceIdeal Cert.MixOutReferenceIdeal.Read
open Idealize.ShloMosaic

variable (y z : S16384x1024.Idx → EReal)

/-- The two halves side by side, at a column of the first. -/
theorem joined_left (b : Fin 4) (s : Fin 4096) (k : Fin 1024) (R : Fin 16384) (hR : R.val = 4096 * b.val + s.val) :
    val_main_v5 (F := Ideal) y z (ValueIdx.ix3 b s (upper k)) = y (ValueIdx.ix2 R k) := by
  have hb := b.isLt
  have hs := s.isLt
  have hk := k.isLt
  unfold val_main_v5
  refine (concatenate_pair_apply_left (t := S4x4096x2048) (s₁ := S4x4096x1024) (s₂ := S4x4096x1024) 2 _ _ _ (ValueIdx.ix3 b s (upper k)) rfl (ValueIdx.ix3 b s k) fun a => ?_).trans ?_
  · match a with
    | ⟨0, _⟩ => rfl
    | ⟨1, _⟩ => rfl
    | ⟨2, _⟩ => rfl
  · rw [val_main_v2_apply, val_main_v1_apply]
    refine congrArg y (funext fun a => Fin.ext ?_)
    match a with
    | ⟨0, _⟩ => show ((b.val * 4096 + s.val) * 1024 + k.val) / 1024 = R.val; omega
    | ⟨1, _⟩ => show ((b.val * 4096 + s.val) * 1024 + k.val) % 1024 = k.val; omega

/-- The two halves side by side, at a column of the second. -/
theorem joined_right (b : Fin 4) (s : Fin 4096) (k : Fin 1024) (R : Fin 16384) (hR : R.val = 4096 * b.val + s.val) :
    val_main_v5 (F := Ideal) y z (ValueIdx.ix3 b s (lower k)) = z (ValueIdx.ix2 R k) := by
  have hb := b.isLt
  have hs := s.isLt
  have hk := k.isLt
  unfold val_main_v5
  refine (concatenate_pair_apply_right (t := S4x4096x2048) (s₁ := S4x4096x1024) (s₂ := S4x4096x1024) 2 _ _ _ (ValueIdx.ix3 b s (lower k)) rfl rfl (ValueIdx.ix3 b s k) (fun a ha => ?_) ?_).trans ?_
  · match a with
    | ⟨0, _⟩ => rfl
    | ⟨1, _⟩ => rfl
    | ⟨2, _⟩ => exact absurd rfl ha
  · show k.val + 1024 = 1024 + k.val; omega
  · rw [val_main_v4_apply, val_main_v3_apply]
    refine congrArg z (funext fun a => Fin.ext ?_)
    match a with
    | ⟨0, _⟩ => show ((b.val * 4096 + s.val) * 1024 + k.val) / 1024 = R.val; omega
    | ⟨1, _⟩ => show ((b.val * 4096 + s.val) * 1024 + k.val) % 1024 = k.val; omega

/-- The reference at a row and a column. -/
theorem reference_apply (w : S2048x2048.Idx → EReal) (x : S16384x2048.Idx → EReal) (g : S4x2048.Idx → EReal)
    (R : Fin 16384) (j : Fin 2048) :
    val_main_v11 (F := Ideal) y z w x g (ValueIdx.ix2 R j) = residual x g (prodHalves y z w R j) R j := by
  have hj := j.isLt
  have hR := R.isLt
  have e : idx_main_v11 (ValueIdx.ix2 R j) = ValueIdx.ix3 (seqOf R) ⟨R.val % 4096, by omega⟩ j := by
    funext a; apply Fin.ext
    match a with
    | ⟨0, _⟩ => show (R.val * 2048 + j.val) / 8388608 = R.val / 4096; omega
    | ⟨1, _⟩ => show (R.val * 2048 + j.val) / 2048 % 4096 = R.val % 4096; omega
    | ⟨2, _⟩ => show (R.val * 2048 + j.val) % 2048 = j.val; omega
  rw [val_main_v11_apply, e, val_main_v10_apply, val_main_v0_apply, val_main_v9_apply, val_main_v8_apply, val_main_v7_apply, val_main_v6_apply]
  have ex : idx_main_v0 (ValueIdx.ix3 (seqOf R) ⟨R.val % 4096, by omega⟩ j) = ValueIdx.ix2 R j := by
    funext a; apply Fin.ext
    match a with
    | ⟨0, _⟩ => show ((R.val / 4096 * 4096 + R.val % 4096) * 2048 + j.val) / 2048 = R.val; omega
    | ⟨1, _⟩ => show ((R.val / 4096 * 4096 + R.val % 4096) * 2048 + j.val) % 2048 = j.val; omega
  have eg : idx_main_v7 (idx_main_v8 (ValueIdx.ix3 (seqOf R) ⟨R.val % 4096, by omega⟩ j)) = ValueIdx.ix2 (seqOf R) j := by
    funext a; apply Fin.ext
    match a with
    | ⟨0, _⟩ => rfl
    | ⟨1, _⟩ => rfl
  rw [ex, eg]
  have hsum : (∑ k : Fin 2048, val_main_v5 (F := Ideal) y z (lidx_main_v6 (ValueIdx.ix3 (seqOf R) ⟨R.val % 4096, by omega⟩ j) k)
      * w (ridx_main_v6 (ValueIdx.ix3 (seqOf R) ⟨R.val % 4096, by omega⟩ j) k) : EReal) = prodHalves y z w R j := by
    refine (sum_halves _).trans (congrArg₂ (fun p q : EReal => p + q) (Finset.sum_congr rfl fun k _ => ?_) (Finset.sum_congr rfl fun k _ => ?_))
    · have el : lidx_main_v6 (ValueIdx.ix3 (seqOf R) ⟨R.val % 4096, by omega⟩ j) (upper k) = ValueIdx.ix3 (seqOf R) ⟨R.val % 4096, by omega⟩ (upper k) := by
        funext a
        match a with
        | ⟨0, _⟩ => rfl
        | ⟨1, _⟩ => rfl
        | ⟨2, _⟩ => rfl
      have er : ridx_main_v6 (ValueIdx.ix3 (seqOf R) ⟨R.val % 4096, by omega⟩ j) (upper k) = ValueIdx.ix2 (upper k) j := by
        funext a
        match a with
        | ⟨0, _⟩ => rfl
        | ⟨1, _⟩ => rfl
      rw [el, er, joined_left y z _ _ k R (by show R.val = 4096 * (R.val / 4096) + R.val % 4096; omega)]
    · have el : lidx_main_v6 (ValueIdx.ix3 (seqOf R) ⟨R.val % 4096, by omega⟩ j) (lower k) = ValueIdx.ix3 (seqOf R) ⟨R.val % 4096, by omega⟩ (lower k) := by
        funext a
        match a with
        | ⟨0, _⟩ => rfl
        | ⟨1, _⟩ => rfl
        | ⟨2, _⟩ => rfl
      have er : ridx_main_v6 (ValueIdx.ix3 (seqOf R) ⟨R.val % 4096, by omega⟩ j) (lower k) = ValueIdx.ix2 (lower k) j := by
        funext a
        match a with
        | ⟨0, _⟩ => rfl
        | ⟨1, _⟩ => rfl
      rw [el, er, joined_right y z _ _ k R (by show R.val = 4096 * (R.val / 4096) + R.val % 4096; omega)]
  rw [hsum]
  rfl

end Cert.Proof.Proj.MixOut

end
-- ==== Proof.Proj.Norm.lean ====
/- The normalised and modulated row that both input projections multiply: one element of it, in a tile and in the reference. -/
module

public import proofs.«01_k».proof.Proof.Gen.MixInIdeal.Skeleton
public import proofs.«01_k».proof.Proof.Gen.MixInReferenceIdeal.Read
public import proofs.«01_k».proof.Proof.Proj.Spec

@[expose] public section

set_option maxRecDepth 16384

noncomputable section

namespace Cert.Proof.Proj

open Idealize.ShloMosaic
open scoped BigOperators

/-- An element of a row, over the root of the row's mean square, scaled, modulated and shifted. -/
def normElem (x : Fin 2048 → EReal) (g sh sc : EReal) (k : Fin 2048) : EReal :=
  x k * Ideal.rsqrt (Ideal.div (∑ i : Fin 2048, x i * x i) (Ideal.ofBits .f32 0x45000000#32) + Ideal.ofBits .f32 0x358637BD#32) * g
    * (Ideal.ofBits .f32 0x3F800000#32 + sc) + sh

/-- The same from the arguments, at a row and a column. -/
def normed (x : (⟨2, ![16384, 2048]⟩ : Shape).Idx → EReal) (g : (⟨1, ![2048]⟩ : Shape).Idx → EReal) (sh sc : (⟨2, ![4, 2048]⟩ : Shape).Idx → EReal)
    (R : Fin 16384) (k : Fin 2048) : EReal :=
  normElem (fun i => x (ValueIdx.ix2 R i)) (g (ValueIdx.ix1 k)) (sh (ValueIdx.ix2 (seqOf R) k)) (sc (ValueIdx.ix2 (seqOf R) k)) k

/-- The normalised row times a column. -/
def normProd {B : Nat} (x : (⟨2, ![16384, 2048]⟩ : Shape).Idx → EReal) (g : (⟨1, ![2048]⟩ : Shape).Idx → EReal) (sh sc : (⟨2, ![4, 2048]⟩ : Shape).Idx → EReal)
    (w : (⟨2, ![2048, B]⟩ : Shape).Idx → EReal) (R : Fin 16384) (j : Fin B) : EReal :=
  ∑ k : Fin 2048, normed x g sh sc R k * w (ValueIdx.ix2 k j)

/-- One row, spread over the rows of a tile. -/
theorem row_cast {M N : Nat} (hN : N ≠ 1) {α : Type} (v : (⟨2, ![1, N]⟩ : Shape).Idx → α) (hb : (⟨2, ![1, N]⟩ : Shape).Broadcasts ⟨2, ![M, N]⟩) (r : Fin M) (j : Fin N) :
    broadcastTo ⟨2, ![M, N]⟩ v hb (ValueIdx.ix2 r j) = v (ValueIdx.ix2 0 j) :=
  broadcastTo_apply v hb (ValueIdx.ix2 r j) (ValueIdx.ix2 0 j) (fun a => match a with
    | ⟨0, _⟩ => rfl
    | ⟨1, _⟩ => (if_neg hN).symm)

/-- One column, spread over the columns of a tile. -/
theorem col_cast {M N : Nat} (hM : M ≠ 1) {α : Type} (v : (⟨2, ![M, 1]⟩ : Shape).Idx → α) (hb : (⟨2, ![M, 1]⟩ : Shape).Broadcasts ⟨2, ![M, N]⟩) (r : Fin M) (j : Fin N) :
    broadcastTo ⟨2, ![M, N]⟩ v hb (ValueIdx.ix2 r j) = v (ValueIdx.ix2 r 0) :=
  broadcastTo_apply v hb (ValueIdx.ix2 r j) (ValueIdx.ix2 r 0) (fun a => match a with
    | ⟨0, _⟩ => (if_neg hM).symm
    | ⟨1, _⟩ => rfl)

/-- A row stored under one more axis. -/
theorem plane_cast {N : Nat} {α : Type} (v : (⟨3, ![1, 1, N]⟩ : Shape).Idx → α) (h : (⟨3, ![1, 1, N]⟩ : Shape).ShapeCasts ⟨2, ![1, N]⟩) (j : Fin N) :
    shapeCast ⟨2, ![1, N]⟩ v h (ValueIdx.ix2 0 j) = v (ValueIdx.ix3 0 0 j) :=
  shapeCast_apply v h (ValueIdx.ix2 0 j) (ValueIdx.ix3 0 0 j) (by
    rw [Shape.rowMajor_val_three, Shape.rowMajor_val_two]
    show (0 * 1 + 0) * N + j.val = 0 * N + j.val
    omega)

end Cert.Proof.Proj

namespace Cert.Proof.Proj.MixIn

open Cert.MixInIdeal Cert.MixInIdeal.Gen
open Idealize.ShloMosaic
open scoped BigOperators

/-- The sum of the squares of a tile's row. -/
theorem squares_apply (v : FVec Ideal S1024x2048 .f32) (r : Fin 1024) :
    shapeCast S1024x1 (multiReduction .add [1] S1024 (mulf v v) 0x00000000#32 reduces_S1024x2048_S1024 (.inl rfl) rfl) shapeCasts_S1024_S1024x1 (ValueIdx.ix2 r 0)
      = ∑ i : Fin 2048, v (ValueIdx.ix2 r i) * v (ValueIdx.ix2 r i) := by
  refine (shapeCast_apply _ shapeCasts_S1024_S1024x1 (ValueIdx.ix2 r 0) (ValueIdx.ix1 r) ?_).trans ?_
  · rw [Shape.rowMajor_val_one, Shape.rowMajor_val_two]
    show r.val = r.val * 1 + 0
    omega
  · refine (Ideal.multiReduction_add_single _ _ reduces_S1024x2048_S1024 _ _ (ValueIdx.ix1 r)).trans ?_
    refine Finset.sum_congr rfl fun i _ => ?_
    have e : reduces_S1024x2048_S1024.lift (ValueIdx.ix1 r) i = ValueIdx.ix2 r i := by
      funext a
      match a with
      | ⟨0, _⟩ => rfl
      | ⟨1, _⟩ => rfl
    rw [e]
    rfl

/-- What the body keeps at a row and a column. -/
theorem kept_apply (x : FVec Ideal S1024x2048 .f32) (g : FVec Ideal S1x2048 .f32) (sh sc : FVec Ideal S1x1x2048 .f32) (r : Fin 1024) (k : Fin 2048) :
    k0_pay1 (F := Ideal) x g sh sc (ValueIdx.ix2 r k)
      = normElem (fun i => x (ValueIdx.ix2 r i)) (g (ValueIdx.ix2 0 k)) (sh (ValueIdx.ix3 0 0 k)) (sc (ValueIdx.ix3 0 0 k)) k := by
  unfold k0_pay1
  rw [same_cast, same_cast]
  refine congrArg₂ (fun p q : EReal => p + q) (congrArg₂ (fun p q : EReal => p * q) (congrArg₂ (fun p q : EReal => p * q) (congrArg (fun q : EReal => x (ValueIdx.ix2 r k) * q) ?_) ?_) ?_) ?_
  · refine (col_cast (by decide) _ _ r k).trans ?_
    exact congrArg (fun s : EReal => Ideal.rsqrt (Ideal.div s (Ideal.ofBits .f32 0x45000000#32) + Ideal.ofBits .f32 0x358637BD#32)) (squares_apply x r)
  · exact row_cast (by decide) g _ r k
  · refine (row_cast (by decide) _ _ r k).trans ?_
    exact congrArg (fun s : EReal => Ideal.ofBits .f32 0x3F800000#32 + s) (plane_cast sc _ k)
  · exact (row_cast (by decide) _ _ r k).trans (plane_cast sh _ k)

end Cert.Proof.Proj.MixIn

namespace Cert.Proof.Proj.MixIn

open Cert.MixInReferenceIdeal Cert.MixInReferenceIdeal.Read
open Idealize.ShloMosaic
open scoped BigOperators

variable (x : S16384x2048.Idx → EReal) (g : S2048.Idx → EReal) (sh sc : S4x2048.Idx → EReal)

theorem flat_apply (b : Fin 4) (s : Fin 4096) (k : Fin 2048) (R : Fin 16384) (hR : R.val = 4096 * b.val + s.val) :
    val_main_v0 (F := Ideal) x (ValueIdx.ix3 b s k) = x (ValueIdx.ix2 R k) := by
  have hk := k.isLt
  rw [val_main_v0_apply]
  refine congrArg x (funext fun a => Fin.ext ?_)
  match a with
  | ⟨0, _⟩ => show ((b.val * 4096 + s.val) * 2048 + k.val) / 2048 = R.val; omega
  | ⟨1, _⟩ => show ((b.val * 4096 + s.val) * 2048 + k.val) % 2048 = k.val; omega

/-- The reference's normalised row at a sequence, a position and a column. -/
theorem reference_normed (b : Fin 4) (s : Fin 4096) (k : Fin 2048) (R : Fin 16384) (hR : R.val = 4096 * b.val + s.val) :
    val_main_v21 (F := Ideal) x g sh sc (ValueIdx.ix3 b s k) = normed x g sh sc R k := by
  have hs := s.isLt
  have hb : seqOf R = b := Fin.ext (by show R.val / 4096 = b.val; omega)
  rw [val_main_v21_apply, val_main_v18_apply, val_main_v13_apply, val_main_v10_apply, val_main_v9_apply, val_main_v8_apply, val_main_v7_apply,
    val_main_v5_apply, val_main_v3_apply, val_main_v2_apply, val_main_v4_apply, val_main_cst_0_apply, val_main_v6_apply, val_main_cst_1_apply,
    val_main_v12_apply, val_main_v11_apply, val_main_v17_apply, val_main_v16_apply, val_main_v15_apply, val_main_cst_2_apply, val_main_v14_apply,
    val_main_v20_apply, val_main_v19_apply, val_main_cst_apply, flat_apply x b s k R hR]
  unfold normed normElem
  rw [hb]
  have e11 : idx_main_v11 (idx_main_v12 (ValueIdx.ix3 b s k)) = ValueIdx.ix1 k := by
    funext a
    match a with
    | ⟨0, _⟩ => rfl
  have e14 : idx_main_v14 (idx_main_v17 (ValueIdx.ix3 b s k)) = ValueIdx.ix2 b k := by
    funext a
    match a with
    | ⟨0, _⟩ => rfl
    | ⟨1, _⟩ => rfl
  have e19 : idx_main_v19 (idx_main_v20 (ValueIdx.ix3 b s k)) = ValueIdx.ix2 b k := by
    funext a
    match a with
    | ⟨0, _⟩ => rfl
    | ⟨1, _⟩ => rfl
  rw [e11, e14, e19]
  have hsum : ((FloatOps.ofBits (F := Ideal) .f32 0x00000000#32 : EReal)
      + ∑ i : Fin 2048, (val_main_v1 (F := Ideal) x (idx_main_v2 (idx_main_v3 (idx_main_v9 (ValueIdx.ix3 b s k))) i) : EReal))
      = ∑ i : Fin 2048, x (ValueIdx.ix2 R i) * x (ValueIdx.ix2 R i) := by
    show Ideal.ofBits .f32 0x00000000#32 + _ = _
    rw [Ideal.ofBits_zero_f32, zero_add]
    refine Finset.sum_congr rfl fun i _ => ?_
    have e2 : idx_main_v2 (idx_main_v3 (idx_main_v9 (ValueIdx.ix3 b s k))) i = ValueIdx.ix3 b s i := by
      funext a
      match a with
      | ⟨0, _⟩ => rfl
      | ⟨1, _⟩ => rfl
      | ⟨2, _⟩ => rfl
    rw [e2, val_main_v1_apply, flat_apply x b s i R hR]
    rfl
  exact congrArg (fun q : EReal => x (ValueIdx.ix2 R k) * Ideal.rsqrt (Ideal.div q (Ideal.ofBits .f32 0x45000000#32) + Ideal.ofBits .f32 0x358637BD#32) * g (ValueIdx.ix1 k)
    * (Ideal.ofBits .f32 0x3F800000#32 + sc (ValueIdx.ix2 b k)) + sh (ValueIdx.ix2 b k)) hsum

/-- The reference at a row and a column. -/
theorem reference_apply (w : S2048x2304.Idx → EReal) (R : Fin 16384) (j : Fin 2304) :
    val_main_v24 (F := Ideal) x g sh sc w (ValueIdx.ix2 R j) = normProd x g sh sc w R j := by
  have hj := j.isLt
  have hR := R.isLt
  have e : idx_main_v23 (ValueIdx.ix2 R j) = ValueIdx.ix3 (seqOf R) ⟨R.val % 4096, by omega⟩ j := by
    funext a; apply Fin.ext
    match a with
    | ⟨0, _⟩ => show (R.val * 2304 + j.val) / 9437184 = R.val / 4096; omega
    | ⟨1, _⟩ => show (R.val * 2304 + j.val) / 2304 % 4096 = R.val % 4096; omega
    | ⟨2, _⟩ => show (R.val * 2304 + j.val) % 2304 = j.val; omega
  rw [val_main_v24_apply]
  refine Eq.trans (b := val_main_v23 (F := Ideal) x g sh sc w (ValueIdx.ix2 R j)) rfl ?_
  rw [val_main_v23_apply, e, val_main_v22_apply]
  refine Finset.sum_congr rfl fun k _ => ?_
  have el : lidx_main_v22 (ValueIdx.ix3 (seqOf R) ⟨R.val % 4096, by omega⟩ j) k = ValueIdx.ix3 (seqOf R) ⟨R.val % 4096, by omega⟩ k := by
    funext a
    match a with
    | ⟨0, _⟩ => rfl
    | ⟨1, _⟩ => rfl
    | ⟨2, _⟩ => rfl
  have er : ridx_main_v22 (ValueIdx.ix3 (seqOf R) ⟨R.val % 4096, by omega⟩ j) k = ValueIdx.ix2 k j := by
    funext a
    match a with
    | ⟨0, _⟩ => rfl
    | ⟨1, _⟩ => rfl
  rw [el, er, reference_normed x g sh sc _ _ k R (by show R.val = 4096 * (R.val / 4096) + R.val % 4096; omega)]

end Cert.Proof.Proj.MixIn

end
-- ==== Proof.Proj.MixIn.lean ====
/- The input projection of the first mixer: the call read at a row and a column. -/
module

public import proofs.«01_k».proof.Proof.Gen.MixInIdeal.Value
public import proofs.«01_k».proof.Proof.Proj.Norm
public import Idealize.ShloMosaic.Lib.VecWindow

@[expose] public section

set_option maxRecDepth 16384

noncomputable section

namespace Cert.Proof.Proj.MixIn

open Cert.MixInIdeal Cert.MixInIdeal.Gen Cert.MixInIdeal.Value
open Idealize.ShloMosaic Idealize.ShloMosaic.TcCoe Idealize.SL.Sem
open scoped BigOperators

theorem hz2 : (![0, 0] : Fin 2 → Nat) = fun _ => 0 := by decide
theorem hz3 : (![0, 0, 0] : Fin 3 → Nat) = fun _ => 0 := by decide

section Runs
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x768 .bf16) (harg6 : arg6.IsWhole) (arg7 : Memref sig .tc .vmem S1024x768 .bf16) (harg7 : arg7.IsWhole)
  (arg8 : Memref sig .tc .vmem S1024x2048 .bf16) (harg8 : arg8.IsWhole)
  (x0 : Vec Ideal S1024x2048 .f32) (x1 : Vec Ideal S1x2048 .f32) (x2 x3 : Vec Ideal S1x1x2048 .f32) (x4 : Vec Ideal S2048x768 .bf16) (xs : Vec Ideal S1024x2048 .bf16)

theorem found0 : View.readAt (Elt Ideal) arg2.view (Rect.unit (s := S1024x2048) ![0, 0] S1024x2048.size inb_S1024x2048_S1024x2048_0_0).toLoadRect (harg2.unread x0) = x0 := by
  rw [View.readAt_full]; exact harg2.read_unread x0
theorem found1 : View.readAt (Elt Ideal) arg3.view (Rect.unit (s := S1x2048) ![0, 0] S1x2048.size inb_S1x2048_S1x2048_0_0).toLoadRect (harg3.unread x1) = x1 := by
  rw [View.readAt_full]; exact harg3.read_unread x1
theorem found2 : View.readAt (Elt Ideal) arg4.view (Rect.unit (s := S1x1x2048) ![0, 0, 0] S1x1x2048.size inb_S1x1x2048_S1x1x2048_0_0_0).toLoadRect (harg4.unread x2) = x2 := by
  rw [View.readAt_full]; exact harg4.read_unread x2
theorem found4 : View.readAt (Elt Ideal) arg6.view (Rect.unit (s := S2048x768) ![0, 0] S2048x768.size inb_S2048x768_S2048x768_0_0).toLoadRect (harg6.unread x4) = x4 := by
  rw [View.readAt_full]; exact harg6.read_unread x4
theorem found5 : View.readAt (Elt Ideal) arg8.view (Rect.unit (s := S1024x2048) ![0, 0] S1024x2048.size inb_S1024x2048_S1024x2048_0_0).toLoadRect (harg8.unread xs) = xs := by
  rw [View.readAt_full]; exact harg8.read_unread xs

/-- What the first point of a row block keeps. -/
theorem kept_first (hc) : sout0_A_0 (F := Ideal) c i arg2 harg2 arg3 harg3 arg4 harg4 arg5 harg5 arg6 harg6 arg7 harg7 arg8 harg8 hc x0 x1 x2 x3 x4 = k0_pay1 x0 x1 x2 x3 := by
  unfold sout0_A_0
  rw [View.read_writes_junk_eq_canon]
  unfold kernelRun0_A
  dsimp only
  unfold kernelRun0_A.sl.HS0_1
  rw [View.canon_unit_zero hz2]
  exact congr (congr (congrArg₂ k0_pay1 (found0 arg2 harg2 x0) (found1 arg3 harg3 x1)) (found2 arg4 harg4 x2)) (found2 arg5 harg5 x3)

/-- What it stores. -/
theorem stored_first (hc) : out0_A_5 (F := Ideal) c i arg2 harg2 arg3 harg3 arg4 harg4 arg5 harg5 arg6 harg6 arg7 harg7 arg8 harg8 hc x0 x1 x2 x3 x4 = k0_pay2 (k0_pay1 x0 x1 x2 x3) x4 := by
  unfold out0_A_5
  rw [View.read_writes_junk_eq_canon]
  unfold kernelRun0_A
  dsimp only
  unfold kernelRun0_A.sl.v3
  unfold kernelRun0_A.sl.HS0_1
  refine (View.canon_unit_zero hz2 _ _).trans ?_
  refine congrArg₂ k0_pay2 ?_ (found4 arg6 harg6 x4)
  rw [View.readCov_full]
  exact congr (congr (congrArg₂ k0_pay1 (found0 arg2 harg2 x0) (found1 arg3 harg3 x1)) (found2 arg4 harg4 x2)) (found2 arg5 harg5 x3)

/-- What a later point stores. -/
theorem stored_later (hc) : out0_B_5 (F := Ideal) c i arg2 harg2 arg3 harg3 arg4 harg4 arg5 harg5 arg6 harg6 arg7 harg7 arg8 harg8 hc x0 x1 x2 x3 x4 xs = k0_pay2 xs x4 := by
  unfold out0_B_5
  rw [View.read_writes_junk_eq_canon]
  unfold kernelRun0_B
  dsimp only
  refine (View.canon_unit_zero hz2 _ _).trans ?_
  exact congrArg₂ k0_pay2 (found5 arg8 harg8 xs) (found4 arg6 harg6 x4)
end Runs

theorem dot_eq : dot_S1024x2048_S2048x768_S1024x768_1_0_0_1_n_n = DotDims.plain 1024 2048 768 := rfl

/-- What is stored at a row and a column, of the kept tile. -/
theorem product_apply (h : FVec Ideal S1024x2048 .bf16) (w : FVec Ideal S2048x768 .bf16) (r : Fin 1024) (j : Fin 768) :
    k0_pay2 (F := Ideal) h w (ValueIdx.ix2 r j) = ∑ k : Fin 2048, h (ValueIdx.ix2 r k) * w (ValueIdx.ix2 k j) := by
  unfold k0_pay2
  rw [same_cast w, dot_eq]
  exact matmul_zero h w r j

/-! ## The tiles -/

/-- The grid point of row block `p` and column block `q`. -/
def point (p : Fin 16) (q : Fin 3) : Fin cfg0.N := ⟨3 * p.val + q.val, by show 3 * p.val + q.val < 48; omega⟩
def rowOf (p : Fin 16) (r : Fin 1024) : Fin 16384 := ⟨1024 * p.val + r.val, by omega⟩
def colOf (q : Fin 3) (j : Fin 768) : Fin 2304 := ⟨768 * q.val + j.val, by omega⟩

theorem idx0 : ∀ t : Fin cfg0.N, win0_0.index t (0 : Fin 2) = t.val / 3 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = t.val / 12 ∧ win0_2.index t (1 : Fin 3) = 0 ∧ win0_2.index t (2 : Fin 3) = 0 := (by decide +kernel : ∀ t : Fin grid0.N, _)
theorem idx3 : ∀ t : Fin cfg0.N, win0_3.index t (0 : Fin 3) = t.val / 12 ∧ win0_3.index t (1 : Fin 3) = 0 ∧ win0_3.index t (2 : Fin 3) = 0 := (by decide +kernel : ∀ t : Fin grid0.N, _)
theorem idx4 : ∀ t : Fin cfg0.N, win0_4.index t (0 : Fin 2) = 0 ∧ win0_4.index t (1 : Fin 2) = t.val % 3 := (by decide +kernel : ∀ t : Fin grid0.N, _)
theorem idx5 : ∀ t : Fin cfg0.N, win0_5.index t (0 : Fin 2) = t.val / 3 ∧ win0_5.index t (1 : Fin 2) = t.val % 3 := (by decide +kernel : ∀ t : Fin grid0.N, _)

variable (p : Fin 16) (q : Fin 3)

theorem point_div : (point p q).val / 3 = p.val := by show (3 * p.val + q.val) / 3 = p.val; omega
theorem point_mod : (point p q).val % 3 = q.val := by show (3 * p.val + q.val) % 3 = q.val; omega

theorem emb0 (r : Fin 1024) (k : Fin 2048) :
    ((cfg0.win 0).blk (point p q)).view.emb (ValueIdx.ix2 r k : S1024x2048.Idx) = (ValueIdx.ix2 (rowOf p r) k : S16384x2048.Idx) := by
  obtain ⟨e0, e1⟩ := idx0 (point p q)
  rw [point_div] at e0
  funext a; apply Fin.ext
  match a with
  | ⟨0, _⟩ => show win0_0.index (point p q) (0 : Fin 2) * 1024 + 1 * r.val = 1024 * p.val + r.val; omega
  | ⟨1, _⟩ => show win0_0.index (point p q) (1 : Fin 2) * 2048 + 1 * k.val = k.val; omega

theorem emb1 (k : Fin 2048) :
    ((cfg0.win 1).blk (point p q)).view.emb (ValueIdx.ix2 0 k : S1x2048.Idx) = (ValueIdx.ix2 0 k : S1x2048.Idx) := by
  obtain ⟨e0, e1⟩ := idx1 (point p q)
  funext a; apply Fin.ext
  match a with
  | ⟨0, _⟩ => show win0_1.index (point p q) (0 : Fin 2) * 1 + 1 * 0 = 0; omega
  | ⟨1, _⟩ => show win0_1.index (point p q) (1 : Fin 2) * 2048 + 1 * k.val = k.val; omega

theorem emb2 (r : Fin 1024) (k : Fin 2048) :
    ((cfg0.win 2).blk (point p q)).view.emb (ValueIdx.ix3 0 0 k : S1x1x2048.Idx) = (ValueIdx.ix3 (seqOf (rowOf p r)) 0 k : S4x1x2048.Idx) := by
  obtain ⟨e0, e1, e2⟩ := idx2 (point p q)
  have hp : (point p q).val = 3 * p.val + q.val := rfl
  funext a; apply Fin.ext
  match a with
  | ⟨0, _⟩ => show win0_2.index (point p q) (0 : Fin 3) * 1 + 1 * 0 = (1024 * p.val + r.val) / 4096; omega
  | ⟨1, _⟩ => show win0_2.index (point p q) (1 : Fin 3) * 1 + 1 * 0 = 0; omega
  | ⟨2, _⟩ => show win0_2.index (point p q) (2 : Fin 3) * 2048 + 1 * k.val = k.val; omega

theorem emb3 (r : Fin 1024) (k : Fin 2048) :
    ((cfg0.win 3).blk (point p q)).view.emb (ValueIdx.ix3 0 0 k : S1x1x2048.Idx) = (ValueIdx.ix3 (seqOf (rowOf p r)) 0 k : S4x1x2048.Idx) := by
  obtain ⟨e0, e1, e2⟩ := idx3 (point p q)
  have hp : (point p q).val = 3 * p.val + q.val := rfl
  funext a; apply Fin.ext
  match a with
  | ⟨0, _⟩ => show win0_3.index (point p q) (0 : Fin 3) * 1 + 1 * 0 = (1024 * p.val + r.val) / 4096; omega
  | ⟨1, _⟩ => show win0_3.index (point p q) (1 : Fin 3) * 1 + 1 * 0 = 0; omega
  | ⟨2, _⟩ => show win0_3.index (point p q) (2 : Fin 3) * 2048 + 1 * k.val = k.val; omega

theorem emb4 (k : Fin 2048) (j : Fin 768) :
    ((cfg0.win 4).blk (point p q)).view.emb (ValueIdx.ix2 k j : S2048x768.Idx) = (ValueIdx.ix2 k (colOf q j) : S2048x2304.Idx) := by
  obtain ⟨e0, e1⟩ := idx4 (point p q)
  rw [point_mod] at e1
  funext a; apply Fin.ext
  match a with
  | ⟨0, _⟩ => show win0_4.index (point p q) (0 : Fin 2) * 2048 + 1 * k.val = k.val; omega
  | ⟨1, _⟩ => show win0_4.index (point p q) (1 : Fin 2) * 768 + 1 * j.val = 768 * q.val + j.val; omega

theorem emb5 (r : Fin 1024) (j : Fin 768) :
    ((cfg0.win 5).blk (point p q)).view.emb (ValueIdx.ix2 r j : S1024x768.Idx) = (ValueIdx.ix2 (rowOf p r) (colOf q j) : S16384x2304.Idx) := by
  obtain ⟨e0, e1⟩ := idx5 (point p q)
  rw [point_div] at e0
  rw [point_mod] at e1
  funext a; apply Fin.ext
  match a with
  | ⟨0, _⟩ => show win0_5.index (point p q) (0 : Fin 2) * 1024 + 1 * r.val = 1024 * p.val + r.val; omega
  | ⟨1, _⟩ => show win0_5.index (point p q) (1 : Fin 2) * 768 + 1 * j.val = 768 * q.val + j.val; omega

variable (m : (ℓ : Loc nD τ sig) → Buf (Elt Ideal) ℓ) (c : Dev nD)

theorem V_w : V m c main_v0 = (m ((c : Thread nD τ).loc main_arg4) : S2048x2304.Idx → EReal) := by
  show StableHlo.after hostOps0 _ (Proc.devRef .tc main_v0) = _
  after_results
  rfl

theorem V_scale (k : Fin 2048) : V m c main_v1 (ValueIdx.ix2 0 k : S1x2048.Idx) = m ((c : Thread nD τ).loc main_arg1) (ValueIdx.ix1 k : S2048.Idx) := by
  have h : V m c main_v1 = shapeCast S1x2048 (m ((c : Thread nD τ).loc main_arg1)) shapeCasts_S2048_S1x2048 := by
    show StableHlo.after hostOps0 _ (Proc.devRef .tc main_v1) = _
    after_results
    rfl
  rw [h]
  exact shapeCast_apply _ shapeCasts_S2048_S1x2048 (ValueIdx.ix2 0 k) (ValueIdx.ix1 k) (by
    rw [Shape.rowMajor_val_one, Shape.rowMajor_val_two]
    show k.val = 0 * 2048 + k.val
    omega)

theorem V_shift (s : Fin 4) (k : Fin 2048) :
    V m c main_v2 (ValueIdx.ix3 s 0 k : S4x1x2048.Idx) = m ((c : Thread nD τ).loc main_arg2) (ValueIdx.ix2 s k : S4x2048.Idx) := by
  have h : V m c main_v2 = broadcastInDim S4x1x2048 ![0, 2] bcast_S4x2048_S4x1x2048_0_2 (m ((c : Thread nD τ).loc main_arg2)) := by
    show StableHlo.after hostOps0 _ (Proc.devRef .tc main_v2) = _
    after_results
  rw [h]
  exact broadcastInDim_apply _ bcast_S4x2048_S4x1x2048_0_2 (m ((c : Thread nD τ).loc main_arg2)) (ValueIdx.ix3 s 0 k) (ValueIdx.ix2 s k)
    (fun a => match a with
      | ⟨0, _⟩ => rfl
      | ⟨1, _⟩ => rfl)

theorem V_modulation (s : Fin 4) (k : Fin 2048) :
    V m c main_v3 (ValueIdx.ix3 s 0 k : S4x1x2048.Idx) = m ((c : Thread nD τ).loc main_arg3) (ValueIdx.ix2 s k : S4x2048.Idx) := by
  have h : V m c main_v3 = broadcastInDim S4x1x2048 ![0, 2] bcast_S4x2048_S4x1x2048_0_2 (m ((c : Thread nD τ).loc main_arg3)) := by
    show StableHlo.after hostOps0 _ (Proc.devRef .tc main_v3) = _
    after_results
  rw [h]
  exact broadcastInDim_apply _ bcast_S4x2048_S4x1x2048_0_2 (m ((c : Thread nD τ).loc main_arg3)) (ValueIdx.ix3 s 0 k) (ValueIdx.ix2 s k)
    (fun a => match a with
      | ⟨0, _⟩ => rfl
      | ⟨1, _⟩ => rfl)

theorem block0 (r : Fin 1024) (k : Fin 2048) :
    iblk m c 0 (point p q) (ValueIdx.ix2 r k : S1024x2048.Idx) = m ((c : Thread nD τ).loc main_arg0) (ValueIdx.ix2 (rowOf p r) k : S16384x2048.Idx) := by
  show V m c main_arg0 (((cfg0.win 0).blk (point p q)).view.emb (ValueIdx.ix2 r k : S1024x2048.Idx)) = _
  rw [emb0, V_main_arg0]
theorem block1 (k : Fin 2048) :
    iblk m c 1 (point p q) (ValueIdx.ix2 0 k : S1x2048.Idx) = m ((c : Thread nD τ).loc main_arg1) (ValueIdx.ix1 k : S2048.Idx) := by
  show V m c main_v1 (((cfg0.win 1).blk (point p q)).view.emb (ValueIdx.ix2 0 k : S1x2048.Idx)) = _
  rw [emb1, V_scale]
theorem block2 (r : Fin 1024) (k : Fin 2048) :
    iblk m c 2 (point p q) (ValueIdx.ix3 0 0 k : S1x1x2048.Idx) = m ((c : Thread nD τ).loc main_arg2) (ValueIdx.ix2 (seqOf (rowOf p r)) k : S4x2048.Idx) := by
  show V m c main_v2 (((cfg0.win 2).blk (point p q)).view.emb (ValueIdx.ix3 0 0 k : S1x1x2048.Idx)) = _
  rw [emb2 p q r, V_shift]
theorem block3 (r : Fin 1024) (k : Fin 2048) :
    iblk m c 3 (point p q) (ValueIdx.ix3 0 0 k : S1x1x2048.Idx) = m ((c : Thread nD τ).loc main_arg3) (ValueIdx.ix2 (seqOf (rowOf p r)) k : S4x2048.Idx) := by
  show V m c main_v3 (((cfg0.win 3).blk (point p q)).view.emb (ValueIdx.ix3 0 0 k : S1x1x2048.Idx)) = _
  rw [emb3 p q r, V_modulation]
theorem block4 (k : Fin 2048) (j : Fin 768) :
    iblk m c 4 (point p q) (ValueIdx.ix2 k j : S2048x768.Idx) = m ((c : Thread nD τ).loc main_arg4) (ValueIdx.ix2 k (colOf q j) : S2048x2304.Idx) := by
  show V m c main_v0 (((cfg0.win 4).blk (point p q)).view.emb (ValueIdx.ix2 k j : S2048x768.Idx)) = _
  rw [emb4, V_w]

/-- The kept tile of a point's own blocks is the normalised rows. -/
theorem kept_rows (r : Fin 1024) (k : Fin 2048) :
    k0_pay1 (F := Ideal) (iblk m c 0 (point p q)) (iblk m c 1 (point p q)) (iblk m c 2 (point p q)) (iblk m c 3 (point p q)) (ValueIdx.ix2 r k)
      = normed (m ((c : Thread nD τ).loc main_arg0)) (m ((c : Thread nD τ).loc main_arg1)) (m ((c : Thread nD τ).loc main_arg2)) (m ((c : Thread nD τ).loc main_arg3)) (rowOf p r) k := by
  refine (kept_apply _ _ _ _ r k).trans ?_
  unfold normed
  rw [block1, block2 p q m c r, block3 p q m c r, funext fun i => block0 p q m c r i]

theorem kept_at (c : Dev nD) (t : Fin cfg0.N) (h : t.val % 3 = 0) :
    (outsAt0 m c t.val t.isLt).2 = k0_pay1 (iblk m c 0 t) (iblk m c 1 t) (iblk m c 2 t) (iblk m c 3 t) := by
  refine (congrArg Prod.snd (outsAt0_A m c t h)).trans ?_
  dsimp only
  exact kept_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (iblk m c 4 t) ((hcond0_0 t).mpr h)

theorem kept_on (c : Dev nD) (t : Fin cfg0.N) (h : ¬ t.val % 3 = 0) :
    (outsAt0 m c t.val t.isLt).2 = (outsAt0 m c (t.val - 1) (Nat.lt_of_le_of_lt (Nat.sub_le _ _) t.isLt)).2 := by
  refine (congrArg Prod.snd (outsAt0_B m c t h)).trans ?_
  dsimp only
  unfold sout0_B_0
  rfl

theorem kept_same (n n' : ℕ) (h : n < cfg0.N) (h' : n' < cfg0.N) (e : n = n') : (outsAt0 m c n h).2 = (outsAt0 m c n' h').2 := by
  subst e; rfl

/-- After each point of a row block the body keeps the block's normalised rows. -/
theorem kept_block : (outsAt0 m c (point p q).val (point p q).isLt).2
    = k0_pay1 (iblk m c 0 (point p 0)) (iblk m c 1 (point p 0)) (iblk m c 2 (point p 0)) (iblk m c 3 (point p 0)) := by
  have h0 := kept_at m c (point p 0) (by rw [point_mod]; rfl)
  have h1 := (kept_on m c (point p 1) (by rw [point_mod]; decide)).trans (kept_same m c _ (point p 0).val _ (point p 0).isLt rfl)
  have h2 := (kept_on m c (point p 2) (by rw [point_mod]; decide)).trans (kept_same m c _ (point p 1).val _ (point p 1).isLt rfl)
  match q with
  | ⟨0, _⟩ => exact h0
  | ⟨1, _⟩ => exact h1.trans h0
  | ⟨2, _⟩ => exact h2.trans (h1.trans h0)

/-- Each point stores its own column block's product with what is kept after it. -/
theorem stored_at (t : Fin cfg0.N) : (outsAt0 m c t.val t.isLt).1 = k0_pay2 (outsAt0 m c t.val t.isLt).2 (iblk m c 4 t) := by
  by_cases h : t.val % 3 = 0
  · rw [kept_at m c t h]
    refine (congrArg Prod.fst (outsAt0_A m c t h)).trans ?_
    dsimp only
    exact stored_first c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (iblk m c 4 t) ((hcond0_0 t).mpr h)
  · rw [kept_on m c t h]
    refine (congrArg Prod.fst (outsAt0_B m c t h)).trans ?_
    dsimp only
    exact stored_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _)
      (iblk m c 0 t) (iblk m c 1 t) (iblk m c 2 t) (iblk m c 3 t) (iblk m c 4 t) (outsAt0 m c (t.val - 1) (Nat.lt_of_le_of_lt (Nat.sub_le _ _) t.isLt)).2 (fun h' => h ((hcond0_0 t).mp h'))

/-- The call's result at a row and a column. -/
theorem result_apply (r : Fin 1024) (j : Fin 768) :
    (dats m 0 c).arrAt 5 cfg0.N (ValueIdx.ix2 (rowOf p r) (colOf q j) : S16384x2304.Idx)
      = normProd (m ((c : Thread nD τ).loc main_arg0)) (m ((c : Thread nD τ).loc main_arg1)) (m ((c : Thread nD τ).loc main_arg2)) (m ((c : Thread nD τ).loc main_arg3))
          (m ((c : Thread nD τ).loc main_arg4) : S2048x2304.Idx → EReal) (rowOf p r) (colOf q j) := by
  rw [← emb5 p q r j]
  refine ((dats m 0 c).arrAt_emb_eq_flushed 5 disjoint5 (point p q) (flush0_5 _) _).trans ?_
  rw [flushed5, stored_at, kept_block]
  refine (product_apply _ _ r j).trans (Finset.sum_congr rfl fun k _ => ?_)
  exact congrArg₂ (fun x y : EReal => x * y) (kept_rows p 0 m c r k) (block4 p q m c k j)

end Cert.Proof.Proj.MixIn

end
-- ==== Proof.Proj.SsdInIdealRuns.lean ====
/- The input projection of the second mixer, over the reals: the host's preparation, the blocks, and the body's two runs (the first
   point of a row block normalises, keeps the rows and stores the narrow product; every point stores its column block's product). -/
module

public import proofs.«01_k».proof.Proof.Gen.SsdInIdeal
public import proofs.«01_k».proof.Proof.Gen.SsdInIdeal.Skeleton
public import proofs.«01_k».proof.Proof.Gen.SsdInIdeal.Launch
public import Idealize.ShloMosaic.Lib.Pipeline.Kit
public import Idealize.ShloMosaic.Lib.Pipeline.TableIdle
public import Idealize.ShloMosaic.Lib.Pipeline.FrameBody
public import Idealize.ShloMosaic.Lib.Pipeline.Quiescent
public import Idealize.ShloMosaic.Lib.Pipeline.Value
public import Idealize.ShloMosaic.Lib.Claim
public import Idealize.ShloMosaic.Lib.Writes
public import Idealize.ShloMosaic.Lib.VecWindow
public import Idealize.ShloMosaic.Lib.Ring
public import Idealize.ShloMosaic.Lib.Exec
public import Idealize.ShloMosaic.Lib.WordCmp
public import Idealize.ShloMosaic.Lib.Tactic

@[expose] public section

set_option maxRecDepth 16384
set_option Elab.async false

noncomputable section

namespace Cert.Proof.Proj.SsdInIdeal

open Cert.SsdInIdeal Cert.SsdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's preparation -/

/-- The host's three stretches before the call. -/
abbrev stretches : List (List (HloOp τ sig (Elt F))) := [hostOps0, hostOps0_1, hostOps0_2]

/-- What a buffer holds when the call starts. -/
abbrev V (c : Dev nD) (b : Ref sig .tc) : Buf (Elt F) ((c : Thread nD τ).loc b) := StableHlo.after stretches.flatten (fun b => m (c, b)) b

theorem stretches_sub : (stretches : List (List (HloOp τ sig (Elt F)))).Forall fun ops => ops.Forall fun op => op.bufs ⊆ StableHlo.tcRefs τ sig :=
  ⟨hostOps0_sub, hostOps0_1_sub, hostOps0_2_sub⟩

theorem stretches_fresh : (stretches : List (List (HloOp τ sig (Elt F)))).Forall fun ops => ops.Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main stretches stretches_sub stretches_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    repeat' apply And.intro
    all_goals exact fun h => StableHlo.devRef_ne_of_ne (by decide) (Finset.mem_singleton.mp h)))
theorem V_main_arg1 (c : Dev nD) : V m c main_arg1 = m ((c : Thread nD τ).loc main_arg1) :=
  StableHlo.after_of_forall_not_mem (b := Proc.devRef .tc main_arg1) _ _ (List.forall_iff_forall_mem.mp (by
    repeat' apply And.intro
    all_goals exact fun h => StableHlo.devRef_ne_of_ne (by decide) (Finset.mem_singleton.mp h)))
theorem V_main_arg2 (c : Dev nD) : V m c main_arg2 = m ((c : Thread nD τ).loc main_arg2) :=
  StableHlo.after_of_forall_not_mem (b := Proc.devRef .tc main_arg2) _ _ (List.forall_iff_forall_mem.mp (by
    repeat' apply And.intro
    all_goals exact fun h => StableHlo.devRef_ne_of_ne (by decide) (Finset.mem_singleton.mp h)))
theorem V_main_arg3 (c : Dev nD) : V m c main_arg3 = m ((c : Thread nD τ).loc main_arg3) :=
  StableHlo.after_of_forall_not_mem (b := Proc.devRef .tc main_arg3) _ _ (List.forall_iff_forall_mem.mp (by
    repeat' apply And.intro
    all_goals exact fun h => StableHlo.devRef_ne_of_ne (by decide) (Finset.mem_singleton.mp h)))
theorem V_main_arg4 (c : Dev nD) : V m c main_arg4 = m ((c : Thread nD τ).loc main_arg4) :=
  StableHlo.after_of_forall_not_mem (b := Proc.devRef .tc main_arg4) _ _ (List.forall_iff_forall_mem.mp (by
    repeat' apply And.intro
    all_goals exact fun h => StableHlo.devRef_ne_of_ne (by decide) (Finset.mem_singleton.mp h)))

/-- Window `w`'s block at point `t`, read off its array when the call starts. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## Which points start a row block -/

abbrev cond0 (i : grid0.Coords) : Prop := (Scalar.cmpi .ne (Scalar.extui (Scalar.cmpi .eq (BitVec.ofNat 32 (i 1).val) 0#32)) 0#32) = 1#1

theorem cond0_iff : ∀ t : Fin cfg0.N, cond0 (grid0.coords t) ↔ t.val % 20 = 0 :=
  (fun t => by
    have ht : t.val < 320 := Nat.lt_of_lt_of_eq t.isLt N_0
    have e0 : (grid0.coords t 0).val = t.val / 20 % 16 := Pipeline.Grid.coords_val t 0 (by decide) rfl
    have e1 : (grid0.coords t 1).val = t.val / 1 % 20 := Pipeline.Grid.coords_val t 1 (by decide) rfl
    simp only [cond0, e0, e1]
    word_cmp
   : ∀ t : Fin grid0.N, cond0 (grid0.coords t) ↔ t.val % 20 = 0)

theorem first_iff (t : Fin cfg0.N) : k0_cond1 (grid0.coords t) = 1#1 ↔ t.val % 20 = 0 := cond0_iff t

/-! ## The body's two runs -/

theorem hz2 : (![0, 0] : Fin 2 → Nat) = fun _ => 0 := by decide
theorem hz3 : (![0, 0, 0] : Fin 3 → Nat) = fun _ => 0 := by decide

section
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x512 .bf16) (harg6 : arg6.IsWhole) (arg7 : Memref sig .tc .vmem S2048x128 .bf16) (harg7 : arg7.IsWhole)
  (arg8 : Memref sig .tc .vmem S1024x512 .bf16) (harg8 : arg8.IsWhole) (arg9 : Memref sig .tc .vmem S1024x128 .f32) (harg9 : arg9.IsWhole)
  (arg10 : Memref sig .tc .vmem S1024x2048 .bf16) (harg10 : arg10.IsWhole)
  (x0 : Vec F S1024x2048 .f32) (x1 : Vec F S1x2048 .f32) (x2 x3 : Vec F S1x1x2048 .f32) (x4 : Vec F S2048x512 .bf16) (x5 : Vec F S2048x128 .bf16) (xs : Vec F S1024x2048 .bf16)

set_option maxHeartbeats 2000000 in
/-- The first point of a row block: what its stores leave, with the run that finds it. -/
noncomputable def firstRun (hc : cond0 i) :
    Σ' (L6 : List (View.Piece (Elt F) S1024x512 .bf16)) (L7 : List (View.Piece (Elt F) S1024x128 .f32)), { LS : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare x4 ∗ owns (c : Thread nD τ) arg7 fullShare x5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
                ∗ owns (c : Thread nD τ) arg6 fullShare x4 ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f LS)) -∗ K ⟨⟩))
          ⊢ wp frame (wpE (defs₀ (F := F)) Variants.none c none) E
              (cc0_norm_mod_matmul i arg2 harg2 arg3 harg3 arg4 harg4 arg5 harg5 arg6 harg6 arg7 harg7 arg8 harg8 arg9 harg9 arg10 harg10) K } := by
  refine ⟨?_, ?_, ?_, fun E K => ?run⟩
  case run =>
    simp only [cc0_norm_mod_matmul_eq_skeleton]; unfold cc0_norm_mod_matmul_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hf5
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS

set_option maxHeartbeats 2000000 in
/-- A later point: the kept rows and its column block are read, its product stored. -/
noncomputable def laterRun (hc : ¬ cond0 i) :
    { L6 : List (View.Piece (Elt F) S1024x512 .bf16) //
      ∀ (E : Set ℕ) (K : PUnit → sProp 𝕄),
        iprop(owns (c : Thread nD τ) arg6 fullShare x4 ∗ (∃ d, owns (c : Thread nD τ) arg8 fullShare d) ∗ owns (c : Thread nD τ) arg10 fullShare xs
            ∗ (iprop(owns (c : Thread nD τ) arg6 fullShare x4
                ∗ (∃ f, arg8.view.loc (c : Thread nD τ) ↦[arg8.view.set]{fullShare} arg8.view.writes (Elt F) f L6)
                ∗ owns (c : Thread nD τ) arg10 fullShare xs) -∗ K ⟨⟩))
          ⊢ wp frame (wpE (defs₀ (F := F)) Variants.none c none) E
              (cc0_norm_mod_matmul i arg2 harg2 arg3 harg3 arg4 harg4 arg5 harg5 arg6 harg6 arg7 harg7 arg8 harg8 arg9 harg9 arg10 harg10) K } := by
  refine ⟨?_, fun E K => ?run⟩
  case run =>
    simp only [cc0_norm_mod_matmul_eq_skeleton]; unfold cc0_norm_mod_matmul_skel
    unfold owns
    iintro ⟨⟨%f4, %hf4, H4⟩, ⟨%d6, %f6, -, H6⟩, ⟨%fs, %hfs, HS⟩, Hk⟩
    obtain rfl := harg6.eq_unread hf4; obtain rfl := harg10.eq_unread hfs
    sl_exec (disch := first | sl_exact hc)
    sl_step
    iapply Hk
    isplitl [H4]
    · iexists _; isplitr; · ipureintro; exact harg6.read_unread _
      iexact H4
    isplitl [H6]; · iexists _; iexact H6
    iexists _; isplitr; · ipureintro; exact harg10.read_unread _
    iexact HS

end

end Cert.Proof.Proj.SsdInIdeal

end
-- ==== Proof.Proj.SsdInIdealFrame.lean ====
/- The input projection of the second mixer, over the reals: what each window and the kept rows hold at each point, the body's
   obligation, the launch, and what the run leaves (the arguments unchanged, the two results assembled of the points'). -/
module

public import proofs.«01_k».proof.Proof.Proj.SsdInIdealRuns

@[expose] public section

set_option maxRecDepth 16384
set_option Elab.async false

noncomputable section

namespace Cert.Proof.Proj.SsdInIdeal

open Cert.SsdInIdeal Cert.SsdInIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the two runs leave -/

section
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S1x1x2048 .f32) (harg4 : arg4.IsWhole) (arg5 : Memref sig .tc .vmem S1x1x2048 .f32) (harg5 : arg5.IsWhole)
  (arg6 : Memref sig .tc .vmem S2048x512 .bf16) (harg6 : arg6.IsWhole) (arg7 : Memref sig .tc .vmem S2048x128 .bf16) (harg7 : arg7.IsWhole)
  (arg8 : Memref sig .tc .vmem S1024x512 .bf16) (harg8 : arg8.IsWhole) (arg9 : Memref sig .tc .vmem S1024x128 .f32) (harg9 : arg9.IsWhole)
  (arg10 : Memref sig .tc .vmem S1024x2048 .bf16) (harg10 : arg10.IsWhole)
  (x0 : Vec F S1024x2048 .f32) (x1 : Vec F S1x2048 .f32) (x2 x3 : Vec F S1x1x2048 .f32) (x4 : Vec F S2048x512 .bf16) (x5 : Vec F S2048x128 .bf16) (xs : Vec F S1024x2048 .bf16)

theorem found0 : View.readAt (Elt F) arg2.view (Rect.unit (s := S1024x2048) ![0, 0] S1024x2048.size inb_S1024x2048_S1024x2048_0_0).toLoadRect (harg2.unread x0) = x0 := by
  rw [View.readAt_full]; exact harg2.read_unread x0
theorem found1 : View.readAt (Elt F) arg3.view (Rect.unit (s := S1x2048) ![0, 0] S1x2048.size inb_S1x2048_S1x2048_0_0).toLoadRect (harg3.unread x1) = x1 := by
  rw [View.readAt_full]; exact harg3.read_unread x1
theorem found2 : View.readAt (Elt F) arg4.view (Rect.unit (s := S1x1x2048) ![0, 0, 0] S1x1x2048.size inb_S1x1x2048_S1x1x2048_0_0_0).toLoadRect (harg4.unread x2) = x2 := by
  rw [View.readAt_full]; exact harg4.read_unread x2
theorem found4 : View.readAt (Elt F) arg6.view (Rect.unit (s := S2048x512) ![0, 0] S2048x512.size inb_S2048x512_S2048x512_0_0).toLoadRect (harg6.unread x4) = x4 := by
  rw [View.readAt_full]; exact harg6.read_unread x4
theorem found5 : View.readAt (Elt F) arg7.view (Rect.unit (s := S2048x128) ![0, 0] S2048x128.size inb_S2048x128_S2048x128_0_0).toLoadRect (harg7.unread x5) = x5 := by
  rw [View.readAt_full]; exact harg7.read_unread x5
theorem found10 : View.readAt (Elt F) arg10.view (Rect.unit (s := S1024x2048) ![0, 0] S1024x2048.size inb_S1024x2048_S1024x2048_0_0).toLoadRect (harg10.unread xs) = xs := by
  rw [View.readAt_full]; exact harg10.read_unread xs

theorem first_cover6 (hc : cond0 i) (y : S1024x512.Idx) : ∃ pc ∈ (firstRun c i arg2 harg2 arg3 harg3 arg4 harg4 arg5 harg5 arg6 harg6 arg7 harg7 arg8 harg8 arg9 harg9 arg10 harg10 x0 x1 x2 x3 x4 x5 hc).1, y ∈ pc.1.set :=
  View.cover_of_tiledL (firstRun c i arg2 harg2 arg3 harg3 arg4 harg4 arg5 harg5 arg6 harg6 arg7 harg7 arg8 harg8 arg9 harg9 arg10 harg10 x0 x1 x2 x3 x4 x5 hc).1 S1024x512.size (by sl_kernel_rfl) y
theorem first_cover7 (hc : cond0 i) (y : S1024x128.Idx) : ∃ pc ∈ (firstRun c i arg2 harg2 arg3 harg3 arg4 harg4 arg5 harg5 arg6 harg6 arg7 harg7 arg8 harg8 arg9 harg9 arg10 harg10 x0 x1 x2 x3 x4 x5 hc).2.1, y ∈ pc.1.set :=
  View.cover_of_tiledL (firstRun c i arg2 harg2 arg3 harg3 arg4 harg4 arg5 harg5 arg6 harg6 arg7 harg7 arg8 harg8 arg9 harg9 arg10 harg10 x0 x1 x2 x3 x4 x5 hc).2.1 S1024x128.size (by sl_kernel_rfl) y
theorem first_coverS (hc : cond0 i) (y : S1024x2048.Idx) : ∃ pc ∈ (firstRun c i arg2 harg2 arg3 harg3 arg4 harg4 arg5 harg5 arg6 harg6 arg7 harg7 arg8 harg8 arg9 harg9 arg10 harg10 x0 x1 x2 x3 x4 x5 hc).2.2.1, y ∈ pc.1.set :=
  View.cover_of_tiledL (firstRun c i arg2 harg2 arg3 harg3 arg4 harg4 arg5 harg5 arg6 harg6 arg7 harg7 arg8 harg8 arg9 harg9 arg10 harg10 x0 x1 x2 x3 x4 x5 hc).2.2.1 S1024x2048.size (by sl_kernel_rfl) y
theorem later_cover6 (hc : ¬ cond0 i) (y : S1024x512.Idx) : ∃ pc ∈ (laterRun c i arg2 harg2 arg3 harg3 arg4 harg4 arg5 harg5 arg6 harg6 arg7 harg7 arg8 harg8 arg9 harg9 arg10 harg10 x4 xs hc).1, y ∈ pc.1.set :=
  View.cover_of_tiledL (laterRun c i arg2 harg2 arg3 harg3 arg4 harg4 arg5 harg5 arg6 harg6 arg7 harg7 arg8 harg8 arg9 harg9 arg10 harg10 x4 xs hc).1 S1024x512.size (by sl_kernel_rfl) y

/-- The rows the first point keeps. -/
theorem first_kept (hc : cond0 i) (f) : arg10.view.read (Elt F) (arg10.view.writes (Elt F) f (firstRun c i arg2 harg2 arg3 harg3 arg4 harg4 arg5 harg5 arg6 harg6 arg7 harg7 arg8 harg8 arg9 harg9 arg10 harg10 x0 x1 x2 x3 x4 x5 hc).2.2.1) = k0_pay2 x0 x1 x2 x3 := by
  rw [View.read_writes_of_cover arg10.view f arg10.view arg10.view.junk _ (first_coverS c i arg2 harg2 arg3 harg3 arg4 harg4 arg5 harg5 arg6 harg6 arg7 harg7 arg8 harg8 arg9 harg9 arg10 harg10 x0 x1 x2 x3 x4 x5 hc)]
  rw [View.read_writes_junk_eq_canon]
  unfold firstRun
  dsimp only
  unfold firstRun.sl.HS_1
  refine (View.canon_unit_zero hz2 _ _).trans ?_
  exact congr (congr (congrArg₂ k0_pay2 (found0 arg2 harg2 x0) (found1 arg3 harg3 x1)) (found2 arg4 harg4 x2)) (found2 arg5 harg5 x3)

/-- The narrow product it stores. -/
theorem first_narrow (hc : cond0 i) (f) : arg9.view.read (Elt F) (arg9.view.writes (Elt F) f (firstRun c i arg2 harg2 arg3 harg3 arg4 harg4 arg5 harg5 arg6 harg6 arg7 harg7 arg8 harg8 arg9 harg9 arg10 harg10 x0 x1 x2 x3 x4 x5 hc).2.1) = k0_pay3 x0 x1 x2 x3 x5 := by
  rw [View.read_writes_of_cover arg9.view f arg9.view arg9.view.junk _ (first_cover7 c i arg2 harg2 arg3 harg3 arg4 harg4 arg5 harg5 arg6 harg6 arg7 harg7 arg8 harg8 arg9 harg9 arg10 harg10 x0 x1 x2 x3 x4 x5 hc)]
  rw [View.read_writes_junk_eq_canon]
  unfold firstRun
  dsimp only
  refine (View.canon_unit_zero hz2 _ _).trans ?_
  exact congr (congr (congr (congrArg₂ k0_pay3 (found0 arg2 harg2 x0) (found1 arg3 harg3 x1)) (found2 arg4 harg4 x2)) (found2 arg5 harg5 x3)) (found5 arg7 harg7 x5)

/-- The column block's product it stores. -/
theorem first_wide (hc : cond0 i) (f) : arg8.view.read (Elt F) (arg8.view.writes (Elt F) f (firstRun c i arg2 harg2 arg3 harg3 arg4 harg4 arg5 harg5 arg6 harg6 arg7 harg7 arg8 harg8 arg9 harg9 arg10 harg10 x0 x1 x2 x3 x4 x5 hc).1) = k0_pay4 (k0_pay2 x0 x1 x2 x3) x4 := by
  rw [View.read_writes_of_cover arg8.view f arg8.view arg8.view.junk _ (first_cover6 c i arg2 harg2 arg3 harg3 arg4 harg4 arg5 harg5 arg6 harg6 arg7 harg7 arg8 harg8 arg9 harg9 arg10 harg10 x0 x1 x2 x3 x4 x5 hc)]
  rw [View.read_writes_junk_eq_canon]
  unfold firstRun
  dsimp only
  unfold firstRun.sl.v3
  unfold firstRun.sl.HS_1
  refine (View.canon_unit_zero hz2 _ _).trans ?_
  refine congrArg₂ k0_pay4 ?_ (found4 arg6 harg6 x4)
  rw [View.readCov_full]
  exact congr (congr (congrArg₂ k0_pay2 (found0 arg2 harg2 x0) (found1 arg3 harg3 x1)) (found2 arg4 harg4 x2)) (found2 arg5 harg5 x3)

/-- The column block's product a later point stores. -/
theorem later_wide (hc : ¬ cond0 i) (f) : arg8.view.read (Elt F) (arg8.view.writes (Elt F) f (laterRun c i arg2 harg2 arg3 harg3 arg4 harg4 arg5 harg5 arg6 harg6 arg7 harg7 arg8 harg8 arg9 harg9 arg10 harg10 x4 xs hc).1) = k0_pay4 xs x4 := by
  rw [View.read_writes_of_cover arg8.view f arg8.view arg8.view.junk _ (later_cover6 c i arg2 harg2 arg3 harg3 arg4 harg4 arg5 harg5 arg6 harg6 arg7 harg7 arg8 harg8 arg9 harg9 arg10 harg10 x4 xs hc)]
  rw [View.read_writes_junk_eq_canon]
  unfold laterRun
  dsimp only
  refine (View.canon_unit_zero hz2 _ _).trans ?_
  exact congrArg₂ k0_pay4 (found10 arg10 harg10 xs) (found4 arg6 harg6 x4)
end

variable (m : (ℓ : Loc nD τ sig) → Buf (Elt F) ℓ) (ρ : Dev nD → PrngReg)

/-! ## The schedule -/

/-- The first point of point `t`'s row block. -/
def carry (t : Fin cfg0.N) : Fin cfg0.N := ⟨20 * (t.val / 20), lt_of_le_of_lt (Nat.mul_div_le t.val 20) t.isLt⟩

theorem carry_first (t : Fin cfg0.N) (h : t.val % 20 = 0) : carry t = t := Fin.ext (by show 20 * (t.val / 20) = t.val; omega)

theorem carry_later (t : Fin cfg0.N) (h : ¬ t.val % 20 = 0) : carry ⟨t.val - 1, by omega⟩ = carry t :=
  Fin.ext (by show 20 * ((t.val - 1) / 20) = 20 * (t.val / 20); omega)

/-- The wide result's block is written back at every point, -/
theorem flush6 : ∀ t : Fin cfg0.N, (cfg0.win 6).flush t = true :=
  (fun t => (Pipeline.Window.flush_reads win0_6 rfl 1 (by decide) (by decide) (Pipeline.Window.sep_of_coord cc0_transform_6 1 1 (fun _ => rfl) (by decide)) (P := 1) (m := 0) (by decide) rfl t).mpr (Nat.mod_one _) : ∀ t : Fin grid0.N, win0_6.flush t = true)
/-- the narrow result's at the last point of each row block. -/
theorem flush7 : ∀ t : Fin cfg0.N, (cfg0.win 7).flush t = true ↔ t.val % 20 = 19 :=
  (fun t => (Pipeline.Window.flush_reads win0_7 rfl 0 (by decide) (by decide) (Pipeline.Window.sep_of_coord cc0_transform_7 0 0 (fun _ => rfl) (by decide)) (P := 20) (m := 19) (by decide) rfl t) : ∀ t : Fin grid0.N, win0_7.flush t = true ↔ t.val % 20 = 19)

theorem idle_iff (t : Fin cfg0.N) : cfg0.idle 7 (cfg0.grid.coords t) = true ↔ ¬ t.val % 20 = 0 := by
  show (!(k0_cond1 (grid0.coords t) == 1#1)) = true ↔ _
  rw [Bool.not_eq_true', beq_eq_false_iff_ne, ne_eq, first_iff]

/-- Past a row block's first point nothing has been written back since it. -/
theorem fresh_false : ∀ n : ℕ, ¬ n % 20 = 0 → n < 320 → cfg0.fresh 7 n = false
  | 0, h, _ => absurd rfl h
  | n + 1, h, hn => by
    have hN : n < cfg0.N := by rw [show cfg0.N = 320 from N_0]; omega
    show (if h : n < cfg0.N then (cfg0.win 7).flush ⟨n, h⟩ || (cfg0.idle 7 (cfg0.grid.coords ⟨n, h⟩) && cfg0.fresh 7 n) else true) = false
    rw [dif_pos hN]
    have hf : (cfg0.win 7).flush ⟨n, hN⟩ = false := by
      rw [← Bool.not_eq_true, flush7]
      show ¬ (n % 20 = 19)
      omega
    rw [hf, Bool.false_or]
    by_cases hl : n % 20 = 0
    · have hi : cfg0.idle 7 (cfg0.grid.coords ⟨n, hN⟩) = false := by
        rw [← Bool.not_eq_true, idle_iff]; exact not_not.2 hl
      rw [hi, Bool.false_and]
    · rw [fresh_false n hl (by omega), Bool.and_false]

/-! ## What each window holds after each point -/

/-- The rows kept for point `t`'s row block. -/
def kept (c : Dev nD) (t : Fin cfg0.N) : Vec F S1024x2048 .bf16 :=
  k0_pay2 (iblk m c 0 (carry t)) (iblk m c 1 (carry t)) (iblk m c 2 (carry t)) (iblk m c 3 (carry t))

/-- The wide product of point `t`. -/
def wide (c : Dev nD) (t : Fin cfg0.N) : Vec F S1024x512 .bf16 := k0_pay4 (kept m c t) (iblk m c 4 t)

/-- The narrow product of point `t`'s row block. -/
def narrow (c : Dev nD) (t : Fin cfg0.N) : Vec F S1024x128 .f32 :=
  k0_pay3 (iblk m c 0 (carry t)) (iblk m c 1 (carry t)) (iblk m c 2 (carry t)) (iblk m c 3 (carry t)) (iblk m c 5 (carry t))

abbrev scM0_0 : Memref sig .tc .vmem S1024x2048 .bf16 := Memref.whole cc0_scratch0

theorem PhiA0_eq (c : Dev nD) : (Pipeline.ΦA spec0 c : sProp 𝕄) = iprop(iprop((∃ d, owns (c : Thread nD τ) scM0_0 fullShare d)) ∗ (∃ r, prngReg c r)) := by
  unfold Pipeline.ΦA; rw [scopedRest0_eq]; simp only [scM0_0, owns_whole]; try rfl

/-- Before each point: the kept rows at what the point before left, at anything before the first. -/
def PhiS (c : Dev nD) : (n : ℕ) → n ≤ cfg0.N → sProp 𝕄
  | 0, _ => Pipeline.ΦA spec0 c
  | n + 1, hn => iprop(iprop(owns (c : Thread nD τ) scM0_0 fullShare (kept m c ⟨n, hn⟩)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (kept m c ⟨n, hn⟩)) ∗ (∃ r, prngReg c r)) := rfl

theorem PhiS_pos (c : Dev nD) (n : ℕ) (h : n ≤ cfg0.N) (hz : n ≠ 0) :
    PhiS m c n h = iprop(iprop(owns (c : Thread nD τ) scM0_0 fullShare (kept m c ⟨n - 1, by omega⟩)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => wide m c t
    | ⟨7, _⟩ => narrow m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = wide m c t := by dsimp only [dats]
theorem after7 (c : Dev nD) (t : Fin cfg0.N) : (dats m 0 c).after 7 t = narrow m c t := by dsimp only [dats]

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- A point past its row block's first leaves the narrow product as the point before left it, -/
theorem carried (c : Dev nD) (t : Fin cfg0.N) (ht : t.val ≠ 0) (hi : ¬ t.val % 20 = 0) :
    (dats m 0 c).after 7 t = (dats m 0 c).after 7 ⟨t.val - 1, by omega⟩ := by
  rw [after7, after7]
  unfold narrow
  rw [carry_later t hi]

/-- and finds it so. -/
theorem before7 (c : Dev nD) (t : Fin cfg0.N) (hi : ¬ t.val % 20 = 0) (d) :
    (dats m 0 c).before 7 t d = (dats m 0 c).after 7 t := by
  have hN : t.val < 320 := lt_of_lt_of_eq t.isLt N_0
  rw [(dats m 0 c).before_out_traj 7 rfl (fun _ _ => rfl)
      (fun t ht h _ => carried m c t ht ((idle_iff t).1 h)) t.val t rfl d,
    fresh_false t.val hi hN, if_neg Bool.false_ne_true]
  exact (carried m c t (fun h => hi (by rw [h])) hi).symm

/-! ## The body's obligation -/

abbrev stg0 (t : Fin cfg0.N) : Memref sig .tc .vmem S1024x2048 .f32 := win0_0.stage (cfg0.slots t 0)
abbrev stg0w (t : Fin cfg0.N) : (stg0 t).IsWhole := hstage0_0 ((cfg0.slots t 0).cast nbuf0_0)
abbrev stg1 (t : Fin cfg0.N) : Memref sig .tc .vmem S1x2048 .f32 := win0_1.stage (cfg0.slots t 1)
abbrev stg1w (t : Fin cfg0.N) : (stg1 t).IsWhole := hstage0_1 ((cfg0.slots t 1).cast nbuf0_1)
abbrev stg2 (t : Fin cfg0.N) : Memref sig .tc .vmem S1x1x2048 .f32 := win0_2.stage (cfg0.slots t 2)
abbrev stg2w (t : Fin cfg0.N) : (stg2 t).IsWhole := hstage0_2 ((cfg0.slots t 2).cast nbuf0_2)
abbrev stg3 (t : Fin cfg0.N) : Memref sig .tc .vmem S1x1x2048 .f32 := win0_3.stage (cfg0.slots t 3)
abbrev stg3w (t : Fin cfg0.N) : (stg3 t).IsWhole := hstage0_3 ((cfg0.slots t 3).cast nbuf0_3)
abbrev stg4 (t : Fin cfg0.N) : Memref sig .tc .vmem S2048x512 .bf16 := win0_4.stage (cfg0.slots t 4)
abbrev stg4w (t : Fin cfg0.N) : (stg4 t).IsWhole := hstage0_4 ((cfg0.slots t 4).cast nbuf0_4)
abbrev stg5 (t : Fin cfg0.N) : Memref sig .tc .vmem S2048x128 .bf16 := win0_5.stage (cfg0.slots t 5)
abbrev stg5w (t : Fin cfg0.N) : (stg5 t).IsWhole := hstage0_5 ((cfg0.slots t 5).cast nbuf0_5)
abbrev stg6 (t : Fin cfg0.N) : Memref sig .tc .vmem S1024x512 .bf16 := win0_6.stage (cfg0.slots t 6)
abbrev stg6w (t : Fin cfg0.N) : (stg6 t).IsWhole := hstage0_6 ((cfg0.slots t 6).cast nbuf0_6)
abbrev stg7 (t : Fin cfg0.N) : Memref sig .tc .vmem S1024x128 .f32 := win0_7.stage (cfg0.slots t 7)
abbrev stg7w (t : Fin cfg0.N) : (stg7 t).IsWhole := hstage0_7 ((cfg0.slots t 7).cast nbuf0_7)

abbrev bodyAt (t : Fin cfg0.N) : Prog (TpuEff nD τ sig (Elt F) Λ₀ .tc) PUnit :=
  cc0_norm_mod_matmul (grid0.coords t) (stg0 t) (stg0w t) (stg1 t) (stg1w t) (stg2 t) (stg2w t) (stg3 t) (stg3w t) (stg4 t) (stg4w t) (stg5 t) (stg5w t) (stg6 t) (stg6w t) (stg7 t) (stg7w t) scM0_0 (Memref.isWhole_whole _)

set_option maxHeartbeats 4000000 in
theorem sound_body (c : Dev nD) (t : Fin cfg0.N) :
    iprop((dats m 0 c).Φ t.castSucc ∗ (dats m 0 c).owesAt () t.castSucc
        ∗ (∃ d, owns (c : Thread nD τ) (stg0 t) fullShare ((dats m 0 c).before 0 t d))
        ∗ (∃ d, owns (c : Thread nD τ) (stg1 t) fullShare ((dats m 0 c).before 1 t d))
        ∗ (∃ d, owns (c : Thread nD τ) (stg2 t) fullShare ((dats m 0 c).before 2 t d))
        ∗ (∃ d, owns (c : Thread nD τ) (stg3 t) fullShare ((dats m 0 c).before 3 t d))
        ∗ (∃ d, owns (c : Thread nD τ) (stg4 t) fullShare ((dats m 0 c).before 4 t d))
        ∗ (∃ d, owns (c : Thread nD τ) (stg5 t) fullShare ((dats m 0 c).before 5 t d))
        ∗ (∃ d, owns (c : Thread nD τ) (stg6 t) fullShare ((dats m 0 c).before 6 t d))
        ∗ (∃ d, owns (c : Thread nD τ) (stg7 t) fullShare ((dats m 0 c).before 7 t d)))
      ⊢ wp frame (wpE (defs₀ (F := F)) Variants.none c none) Set.univ (bodyAt t) fun _ =>
          iprop((dats m 0 c).Φ t.succ ∗ (dats m 0 c).owesAt () t.succ
            ∗ bigSep Finset.univ fun w : Fin cfg0.W =>
                match cfg0.idle w (cfg0.grid.coords t) with
                | true =>
                  match (cfg0.win w).flush t with
                  | false => iprop(∃ d, owns (c : Thread nD τ) ((cfg0.win w).stage (cfg0.slots t w)) fullShare ((dats m 0 c).before w t d))
                  | true => owns (c : Thread nD τ) ((cfg0.win w).stage (cfg0.slots t w)) fullShare ((dats m 0 c).after w t)
                | false => owns (c : Thread nD τ) ((cfg0.win w).stage (cfg0.slots t w)) fullShare ((dats m 0 c).after w t)) := by
  rw [bigSep_W0]
  rw [show (dats m 0 c).Φ t.succ = PhiS m c (t.val + 1) t.isLt from rfl, PhiS_succ]
  have hN : t.val < 320 := lt_of_lt_of_eq t.isLt (show cfg0.N = 320 from N_0)
  by_cases h0 : t.val % 20 = 0
  · have hc : cond0 (grid0.coords t) := (cond0_iff t).2 h0
    have hcar := carry_first t h0
    have hi : cfg0.idle 7 (cfg0.grid.coords t) = false := by
      rw [← Bool.not_eq_true, idle_iff]; exact not_not.2 h0
    have hPhi : PhiS m c t.val (Nat.le_of_lt t.isLt) ⊢ (iprop(iprop((∃ d, owns (c : Thread nD τ) scM0_0 fullShare d)) ∗ (∃ r, prngReg c r)) : sProp 𝕄) := by
      by_cases hz : t.val = 0
      · rw [PhiS_zero m c _ _ hz, PhiA0_eq]
      · rw [PhiS_pos m c _ _ hz]
        iintro ⟨HS, Hg⟩
        isplitl [HS]
        · iexists _; iexact HS
        iexact Hg
    rewrite [hi]
    simp only [before0, before1, before2, before3, before4, before5, after0, after1, after2, after3, after4, after5, after6, after7]
    unfold wide narrow kept
    rewrite [hcar, PhiS_castSucc, show (dats m 0 c).owesAt () t.succ = (dats m 0 c).owesAt () t.castSucc from rfl]
    refine (sep_mono_left hPhi).trans ?_
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((firstRun c (grid0.coords t) (stg0 t) (stg0w t) (stg1 t) (stg1w t) (stg2 t) (stg2w t) (stg3 t) (stg3w t) (stg4 t) (stg4w t) (stg5 t) (stg5w t) (stg6 t) (stg6w t) (stg7 t) (stg7w t) scM0_0 (Memref.isWhole_whole _) (iblk m c 0 t) (iblk m c 1 t) (iblk m c 2 t) (iblk m c 3 t) (iblk m c 4 t) (iblk m c 5 t) hc).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, ⟨%e6, H6⟩, ⟨%e7, H7⟩, ⟨%es, HS⟩⟩
    isplitl [HS Hg]
    · isplitl [HS]
      · unfold owns; iexists _; isplitr
        swap; · iexact HS
        ipureintro; exact first_kept c _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact first_wide c _ _ _ _ _ _ _ _ _ _ _ _ _ _ _ _ _ _ _ _ _ _ _ _ _ _ _
    unfold owns; iexists _; isplitr
    swap; · iexact H7
    ipureintro; exact first_narrow c _ _ _ _ _ _ _ _ _ _ _ _ _ _ _ _ _ _ _ _ _ _ _ _ _ _ _
  · have hz : t.val ≠ 0 := fun h => h0 (by rw [h])
    have hc : ¬ cond0 (grid0.coords t) := fun h => h0 ((cond0_iff t).1 h)
    have hi : cfg0.idle 7 (cfg0.grid.coords t) = true := (idle_iff t).2 h0
    have hkept : kept m c ⟨t.val - 1, by omega⟩ = kept m c t := by unfold kept; rw [carry_later t h0]
    rewrite [hi]
    simp only [before0, before1, before2, before3, before4, before5, before7 m c t h0, after0, after1, after2, after3, after4, after5, after6]
    unfold wide
    rewrite [PhiS_castSucc, PhiS_pos m c _ _ hz, hkept, show (dats m 0 c).owesAt () t.succ = (dats m 0 c).owesAt () t.castSucc from rfl]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((laterRun c (grid0.coords t) (stg0 t) (stg0w t) (stg1 t) (stg1w t) (stg2 t) (stg2w t) (stg3 t) (stg3w t) (stg4 t) (stg4w t) (stg5 t) (stg5w t) (stg6 t) (stg6w t) (stg7 t) (stg7w t) scM0_0 (Memref.isWhole_whole _) (iblk m c 4 t) (kept m c t) hc).2 Set.univ _)
    isplitl [H4]; · iexact H4
    isplitl [H6]; · iexists _; iexact H6
    isplitl [HS]; · iexact HS
    iintro ⟨H4, ⟨%e6, H6⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact later_wide c _ _ _ _ _ _ _ _ _ _ _ _ _ _ _ _ _ _ _ _ _ _ _
    cases hfl : (cfg0.win 7).flush t
    · iexists d7; iexact H7
    · iexact H7

theorem defs₀_row (t : Fin cfg0.N) : defs₀ (F := F) .tc cfg0.body (cfg0.bodyArgs t (cfg0.slots t)) = bodyAt t := by
  unfold defs₀; rw [Defs.onTc_tc]

theorem body_obligation (c : Dev nD) : BodyObligation (dats (F := F) m 0 c) (defs₀ (F := F)) Variants.none () Set.univ := fun t => by
  rw [bigSep_W0, defs₀_row]
  exact sound_body m c t

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hz : (Fin.last cfg0.N).val ≠ 0 := by rw [Fin.val_last]; have : cfg0.N = 320 := N_0; omega
  rw [show (dats m 0 c).Φ (Fin.last cfg0.N) = PhiS m c (Fin.last cfg0.N).val (Nat.le_of_lt_succ (Fin.last cfg0.N).isLt) from rfl, PhiS_pos m c _ _ hz, PhiA0_eq]
  iintro ⟨HS0, Hg⟩
  isplitl [HS0]
  · iexists _; iexact HS0
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run: it ends, the arguments are unchanged and the two results' arrays are as the points leave them. -/
theorem run_values : θ_run defs (onTc (τ := τ) (main (F := F))) ⟨m, fun _ => 0, ρ⟩ (fun r => (∀ c : Dev nD,
      (r.2.mem ((c.tc : Thread nD τ).loc main_v8_0) = (dats m 0 c).arrAt 6 cfg0.N
      ∧ r.2.mem ((c.tc : Thread nD τ).loc main_v8_1) = (dats m 0 c).arrAt 7 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => ⟨⟨(h.1 c).1 6, (h.1 c).1 7⟩,
      ((h.1 c).1 0).trans (((dats m 0 c).arrAt_in 0 rfl _).trans ((A_eq m c 0).trans (V_main_arg0 m c))),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩)
    (run_main_quiescent m ρ)

end Cert.Proof.Proj.SsdInIdeal

end
-- ==== Proof.Proj.SsdIn.lean ====
/- The input projection of the second mixer: both results of the call, and of the reference, read at a row and a column. -/
module

public import proofs.«01_k».proof.Proof.Proj.SsdInIdealFrame
public import proofs.«01_k».proof.Proof.Gen.SsdInReferenceIdeal.Read
public import proofs.«01_k».proof.Proof.Proj.Norm
public import Idealize.ShloMosaic.Lib.KernelVsHost

@[expose] public section

set_option maxRecDepth 16384

noncomputable section

namespace Cert.Proof.Proj.SsdIn

/-! ## The reference -/

section Reference
open Cert.SsdInReferenceIdeal Cert.SsdInReferenceIdeal.Read
open Idealize.ShloMosaic
open scoped BigOperators

variable (x : S16384x2048.Idx → EReal) (g : S2048.Idx → EReal) (sh sc : S4x2048.Idx → EReal) (w : S2048x10304.Idx → EReal)

/-- A column of the wide result, and of the narrow one, in the weight. -/
def wideCol (j : Fin 10240) : Fin 10304 := ⟨j.val, by omega⟩
def narrowCol (j : Fin 64) : Fin 10304 := ⟨10240 + j.val, by omega⟩

/-- The narrow result: 64 columns, filled up with zeros. -/
def narrowProd (R : Fin 16384) (j : Fin 128) : EReal :=
  if h : j.val < 64 then normProd x g sh sc w R (narrowCol ⟨j.val, h⟩) else 0

/-- Both mixers normalise alike. -/
theorem same_rows : val_main_v21 (F := Ideal) x g sh sc = Cert.MixInReferenceIdeal.Read.val_main_v21 (F := Ideal) x g sh sc := rfl

theorem product_at (R : Fin 16384) (j : Fin 10304) :
    val_main_v23 (F := Ideal) x g sh sc w (ValueIdx.ix2 R j) = normProd x g sh sc w R j := by
  have hj := j.isLt
  have hR := R.isLt
  have e : idx_main_v23 (ValueIdx.ix2 R j) = ValueIdx.ix3 (seqOf R) ⟨R.val % 4096, by omega⟩ j := by
    funext a; apply Fin.ext
    match a with
    | ⟨0, _⟩ => show (R.val * 10304 + j.val) / 42205184 = R.val / 4096; omega
    | ⟨1, _⟩ => show (R.val * 10304 + j.val) / 10304 % 4096 = R.val % 4096; omega
    | ⟨2, _⟩ => show (R.val * 10304 + j.val) % 10304 = j.val; omega
  rw [val_main_v23_apply, e, val_main_v22_apply]
  refine Finset.sum_congr rfl fun k _ => ?_
  have el : lidx_main_v22 (ValueIdx.ix3 (seqOf R) ⟨R.val % 4096, by omega⟩ j) k = ValueIdx.ix3 (seqOf R) ⟨R.val % 4096, by omega⟩ k := by
    funext a
    match a with
    | ⟨0, _⟩ => rfl
    | ⟨1, _⟩ => rfl
    | ⟨2, _⟩ => rfl
  have er : ridx_main_v22 (ValueIdx.ix3 (seqOf R) ⟨R.val % 4096, by omega⟩ j) k = ValueIdx.ix2 k j := by
    funext a
    match a with
    | ⟨0, _⟩ => rfl
    | ⟨1, _⟩ => rfl
  rw [el, er, same_rows, MixIn.reference_normed x g sh sc _ _ k R (by show R.val = 4096 * (R.val / 4096) + R.val % 4096; omega)]

theorem reference_wide (R : Fin 16384) (j : Fin 10240) :
    val_main_v25 (F := Ideal) x g sh sc w (ValueIdx.ix2 R j) = normProd x g sh sc w R (wideCol j) := by
  rw [val_main_v25_apply]
  refine Eq.trans (b := val_main_v24 (F := Ideal) x g sh sc w (ValueIdx.ix2 R j)) rfl ?_
  rw [val_main_v24_apply]
  have e : idx_main_v24 (ValueIdx.ix2 R j) = ValueIdx.ix2 R (wideCol j) := by
    funext a
    match a with
    | ⟨0, _⟩ => rfl
    | ⟨1, _⟩ => rfl
  rw [e]
  exact product_at x g sh sc w R (wideCol j)

/-- The filling is zero. -/
theorem filling : (FloatOps.sitofp (F := Ideal) .f32 0#32 : EReal) = 0 := by
  show (((0#32 : BitVec 32).toInt : ℝ) : EReal) = 0
  simp

theorem reference_narrow (R : Fin 16384) (j : Fin 128) :
    val_main_v27 (F := Ideal) x g sh sc w (ValueIdx.ix2 R j) = narrowProd x g sh sc w R j := by
  unfold val_main_v27 narrowProd
  by_cases h : j.val < 64
  · rw [dif_pos h]
    refine (pad_apply_of_inside (s := S16384x64) _ _ _ _ _ _ _ _ (ValueIdx.ix2 R ⟨j.val, h⟩) fun a => ?_).trans ?_
    · match a with
      | ⟨0, _⟩ => show R.val = 0 + R.val * (0 + 1); omega
      | ⟨1, _⟩ => show j.val = 0 + j.val * (0 + 1); omega
    · rw [val_main_v26_apply]
      have e : idx_main_v26 (ValueIdx.ix2 R ⟨j.val, h⟩) = ValueIdx.ix2 R (narrowCol ⟨j.val, h⟩) := by
        funext a
        match a with
        | ⟨0, _⟩ => rfl
        | ⟨1, _⟩ => rfl
      rw [e]
      exact product_at x g sh sc w R (narrowCol ⟨j.val, h⟩)
  · rw [dif_neg h]
    refine (pad_apply_of_not_inside (s := S16384x64) _ _ _ _ _ _ _ _ ⟨1, by decide⟩ ?_).trans ?_
    · show ¬ (0 ≤ j.val ∧ (j.val - 0) % (0 + 1) = 0 ∧ (j.val - 0) / (0 + 1) < 64)
      omega
    · exact filling
end Reference

/-! ## The call -/

open Cert.SsdInIdeal Cert.SsdInIdeal.Gen Cert.Proof.Proj.SsdInIdeal
open Idealize.ShloMosaic Idealize.ShloMosaic.TcCoe Idealize.SL.Sem
open scoped BigOperators

theorem tile_apply (x : FVec Ideal S1024x2048 .f32) (g : FVec Ideal S1x2048 .f32) (sh sc : FVec Ideal S1x1x2048 .f32) (r : Fin 1024) (k : Fin 2048) :
    k0_pay2 (F := Ideal) x g sh sc (ValueIdx.ix2 r k)
      = normElem (fun i => x (ValueIdx.ix2 r i)) (g (ValueIdx.ix2 0 k)) (sh (ValueIdx.ix3 0 0 k)) (sc (ValueIdx.ix3 0 0 k)) k :=
  (show k0_pay2 (F := Ideal) x g sh sc (ValueIdx.ix2 r k) = Cert.MixInIdeal.Gen.k0_pay1 (F := Ideal) x g sh sc (ValueIdx.ix2 r k) from rfl).trans (MixIn.kept_apply x g sh sc r k)

theorem tile_same (x : FVec Ideal S1024x2048 .f32) (g : FVec Ideal S1x2048 .f32) (sh sc : FVec Ideal S1x1x2048 .f32) :
    k0_pay1 (F := Ideal) x g sh sc = k0_pay2 (F := Ideal) x g sh sc := by
  unfold k0_pay2
  exact (same_cast (k0_pay1 (F := Ideal) x g sh sc) shapeCasts_S1024x2048_S1024x2048).symm

theorem dot_wide : dot_S1024x2048_S2048x512_S1024x512_1_0_0_1_n_n = DotDims.plain 1024 2048 512 := rfl
theorem dot_narrow : dot_S1024x2048_S2048x128_S1024x128_1_0_0_1_n_n = DotDims.plain 1024 2048 128 := rfl

theorem wide_apply (h : FVec Ideal S1024x2048 .bf16) (w : FVec Ideal S2048x512 .bf16) (r : Fin 1024) (j : Fin 512) :
    k0_pay4 (F := Ideal) h w (ValueIdx.ix2 r j) = ∑ k : Fin 2048, h (ValueIdx.ix2 r k) * w (ValueIdx.ix2 k j) := by
  unfold k0_pay4
  rw [same_cast w, dot_wide]
  exact matmul_zero h w r j

theorem narrow_apply (x : FVec Ideal S1024x2048 .f32) (g : FVec Ideal S1x2048 .f32) (sh sc : FVec Ideal S1x1x2048 .f32) (w : FVec Ideal S2048x128 .bf16) (r : Fin 1024) (j : Fin 128) :
    k0_pay3 (F := Ideal) x g sh sc w (ValueIdx.ix2 r j) = ∑ k : Fin 2048, k0_pay2 (F := Ideal) x g sh sc (ValueIdx.ix2 r k) * w (ValueIdx.ix2 k j) := by
  unfold k0_pay3
  rw [same_cast w, dot_narrow, tile_same]
  exact matmul_zero (k0_pay2 (F := Ideal) x g sh sc) w r j

/-! ## The tiles -/

/-- The grid point of row block `p` and column block `q`. -/
def point (p : Fin 16) (q : Fin 20) : Fin cfg0.N := ⟨20 * p.val + q.val, lt_of_lt_of_eq (by omega : 20 * p.val + q.val < 320) N_0.symm⟩
def rowOf (p : Fin 16) (r : Fin 1024) : Fin 16384 := ⟨1024 * p.val + r.val, by omega⟩
def colOf (q : Fin 20) (j : Fin 512) : Fin 10240 := ⟨512 * q.val + j.val, by omega⟩

theorem idx0 : ∀ t : Fin cfg0.N, win0_0.index t (0 : Fin 2) = t.val / 20 ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = t.val / 80 ∧ win0_2.index t (1 : Fin 3) = 0 ∧ win0_2.index t (2 : Fin 3) = 0 := (by decide +kernel : ∀ t : Fin grid0.N, _)
theorem idx3 : ∀ t : Fin cfg0.N, win0_3.index t (0 : Fin 3) = t.val / 80 ∧ win0_3.index t (1 : Fin 3) = 0 ∧ win0_3.index t (2 : Fin 3) = 0 := (by decide +kernel : ∀ t : Fin grid0.N, _)
theorem idx4 : ∀ t : Fin cfg0.N, win0_4.index t (0 : Fin 2) = 0 ∧ win0_4.index t (1 : Fin 2) = t.val % 20 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = t.val / 20 ∧ win0_6.index t (1 : Fin 2) = t.val % 20 := (by decide +kernel : ∀ t : Fin grid0.N, _)
theorem idx7 : ∀ t : Fin cfg0.N, win0_7.index t (0 : Fin 2) = t.val / 20 ∧ win0_7.index t (1 : Fin 2) = 0 := (by decide +kernel : ∀ t : Fin grid0.N, _)

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (Fin.ext (by
    have h : win0_6.index t = win0_6.index t' := h
    have h0 := congrFun h (0 : Fin 2)
    have h1 := congrFun h (1 : Fin 2)
    rw [(idx6 t).1, (idx6 t').1] at h0
    rw [(idx6 t).2, (idx6 t').2] at h1
    omega))

theorem disjoint7 : ∀ t t' : Fin cfg0.N, (cfg0.win 7).flush t = true → (cfg0.win 7).flush t' = true → t ≠ t' →
    Disjoint ((cfg0.win 7).blk t).view.set ((cfg0.win 7).blk t').view.set :=
  fun t t' hf hf' hne => (cfg0.win 7).disjoint_blk fun h => hne (Fin.ext (by
    have h : win0_7.index t = win0_7.index t' := h
    have h0 := congrFun h (0 : Fin 2)
    rw [(idx7 t).1, (idx7 t').1] at h0
    have e := (flush7 t).1 hf
    have e' := (flush7 t').1 hf'
    omega))

variable (p : Fin 16) (q : Fin 20)

theorem point_div : (point p q).val / 20 = p.val := by show (20 * p.val + q.val) / 20 = p.val; omega
theorem point_mod : (point p q).val % 20 = q.val := by show (20 * p.val + q.val) % 20 = q.val; omega
theorem point_carry : carry (point p q) = point p 0 := Fin.ext (by show 20 * ((20 * p.val + q.val) / 20) = 20 * p.val + 0; omega)

theorem emb0 (r : Fin 1024) (k : Fin 2048) :
    ((cfg0.win 0).blk (point p q)).view.emb (ValueIdx.ix2 r k : S1024x2048.Idx) = (ValueIdx.ix2 (rowOf p r) k : S16384x2048.Idx) := by
  obtain ⟨e0, e1⟩ := idx0 (point p q)
  rw [point_div] at e0
  funext a; apply Fin.ext
  match a with
  | ⟨0, _⟩ => show win0_0.index (point p q) (0 : Fin 2) * 1024 + 1 * r.val = 1024 * p.val + r.val; omega
  | ⟨1, _⟩ => show win0_0.index (point p q) (1 : Fin 2) * 2048 + 1 * k.val = k.val; omega

theorem emb1 (k : Fin 2048) :
    ((cfg0.win 1).blk (point p q)).view.emb (ValueIdx.ix2 0 k : S1x2048.Idx) = (ValueIdx.ix2 0 k : S1x2048.Idx) := by
  obtain ⟨e0, e1⟩ := idx1 (point p q)
  funext a; apply Fin.ext
  match a with
  | ⟨0, _⟩ => show win0_1.index (point p q) (0 : Fin 2) * 1 + 1 * 0 = 0; omega
  | ⟨1, _⟩ => show win0_1.index (point p q) (1 : Fin 2) * 2048 + 1 * k.val = k.val; omega

theorem emb2 (r : Fin 1024) (k : Fin 2048) :
    ((cfg0.win 2).blk (point p q)).view.emb (ValueIdx.ix3 0 0 k : S1x1x2048.Idx) = (ValueIdx.ix3 (seqOf (rowOf p r)) 0 k : S4x1x2048.Idx) := by
  obtain ⟨e0, e1, e2⟩ := idx2 (point p q)
  have hp : (point p q).val = 20 * p.val + q.val := rfl
  funext a; apply Fin.ext
  match a with
  | ⟨0, _⟩ => show win0_2.index (point p q) (0 : Fin 3) * 1 + 1 * 0 = (1024 * p.val + r.val) / 4096; omega
  | ⟨1, _⟩ => show win0_2.index (point p q) (1 : Fin 3) * 1 + 1 * 0 = 0; omega
  | ⟨2, _⟩ => show win0_2.index (point p q) (2 : Fin 3) * 2048 + 1 * k.val = k.val; omega

theorem emb3 (r : Fin 1024) (k : Fin 2048) :
    ((cfg0.win 3).blk (point p q)).view.emb (ValueIdx.ix3 0 0 k : S1x1x2048.Idx) = (ValueIdx.ix3 (seqOf (rowOf p r)) 0 k : S4x1x2048.Idx) := by
  obtain ⟨e0, e1, e2⟩ := idx3 (point p q)
  have hp : (point p q).val = 20 * p.val + q.val := rfl
  funext a; apply Fin.ext
  match a with
  | ⟨0, _⟩ => show win0_3.index (point p q) (0 : Fin 3) * 1 + 1 * 0 = (1024 * p.val + r.val) / 4096; omega
  | ⟨1, _⟩ => show win0_3.index (point p q) (1 : Fin 3) * 1 + 1 * 0 = 0; omega
  | ⟨2, _⟩ => show win0_3.index (point p q) (2 : Fin 3) * 2048 + 1 * k.val = k.val; omega

theorem emb4 (k : Fin 2048) (j : Fin 512) :
    ((cfg0.win 4).blk (point p q)).view.emb (ValueIdx.ix2 k j : S2048x512.Idx) = (ValueIdx.ix2 k (colOf q j) : S2048x10240.Idx) := by
  obtain ⟨e0, e1⟩ := idx4 (point p q)
  rw [point_mod] at e1
  funext a; apply Fin.ext
  match a with
  | ⟨0, _⟩ => show win0_4.index (point p q) (0 : Fin 2) * 2048 + 1 * k.val = k.val; omega
  | ⟨1, _⟩ => show win0_4.index (point p q) (1 : Fin 2) * 512 + 1 * j.val = 512 * q.val + j.val; omega

theorem emb5 (k : Fin 2048) (j : Fin 128) :
    ((cfg0.win 5).blk (point p q)).view.emb (ValueIdx.ix2 k j : S2048x128.Idx) = (ValueIdx.ix2 k j : S2048x128.Idx) := by
  obtain ⟨e0, e1⟩ := idx5 (point p q)
  funext a; apply Fin.ext
  match a with
  | ⟨0, _⟩ => show win0_5.index (point p q) (0 : Fin 2) * 2048 + 1 * k.val = k.val; omega
  | ⟨1, _⟩ => show win0_5.index (point p q) (1 : Fin 2) * 128 + 1 * j.val = j.val; omega

theorem emb6 (r : Fin 1024) (j : Fin 512) :
    ((cfg0.win 6).blk (point p q)).view.emb (ValueIdx.ix2 r j : S1024x512.Idx) = (ValueIdx.ix2 (rowOf p r) (colOf q j) : S16384x10240.Idx) := by
  obtain ⟨e0, e1⟩ := idx6 (point p q)
  rw [point_div] at e0
  rw [point_mod] at e1
  funext a; apply Fin.ext
  match a with
  | ⟨0, _⟩ => show win0_6.index (point p q) (0 : Fin 2) * 1024 + 1 * r.val = 1024 * p.val + r.val; omega
  | ⟨1, _⟩ => show win0_6.index (point p q) (1 : Fin 2) * 512 + 1 * j.val = 512 * q.val + j.val; omega

theorem emb7 (r : Fin 1024) (j : Fin 128) :
    ((cfg0.win 7).blk (point p q)).view.emb (ValueIdx.ix2 r j : S1024x128.Idx) = (ValueIdx.ix2 (rowOf p r) j : S16384x128.Idx) := by
  obtain ⟨e0, e1⟩ := idx7 (point p q)
  rw [point_div] at e0
  funext a; apply Fin.ext
  match a with
  | ⟨0, _⟩ => show win0_7.index (point p q) (0 : Fin 2) * 1024 + 1 * r.val = 1024 * p.val + r.val; omega
  | ⟨1, _⟩ => show win0_7.index (point p q) (1 : Fin 2) * 128 + 1 * j.val = j.val; omega

variable (m : (ℓ : Loc nD τ sig) → Buf (Elt Ideal) ℓ) (c : Dev nD)

theorem V_wide (k : Fin 2048) (j : Fin 10240) :
    V m c main_v3 (ValueIdx.ix2 k j : S2048x10240.Idx) = m ((c : Thread nD τ).loc main_arg4) (ValueIdx.ix2 k (wideCol j) : S2048x10304.Idx) := by
  have h : V m c main_v3 = (extractStridedSlice S2048x10240 ![0, 0] (m ((c : Thread nD τ).loc main_arg4) : S2048x10304.Idx → EReal) slices_S2048x10304_S2048x10240_0_0) := by
    show StableHlo.after stretches.flatten _ (Proc.devRef .tc main_v3) = _
    simp only [stretches, hostOps0, hostOps0_1, hostOps0_2, List.flatten_cons, List.flatten_nil, List.append_nil, List.cons_append, List.nil_append]
    after_results
    rfl
  rw [h]
  exact extractStridedSlice_apply ![0, 0] _ slices_S2048x10304_S2048x10240_0_0 (ValueIdx.ix2 k j) (ValueIdx.ix2 k (wideCol j)) (fun a => match a with
    | ⟨0, _⟩ => by show k.val = 0 + k.val; omega
    | ⟨1, _⟩ => by show j.val = 0 + j.val; omega)

/-- The narrow weight: 64 columns, filled up with zeros. -/
def narrowW (w : S2048x10304.Idx → EReal) (k : Fin 2048) (j : Fin 128) : EReal :=
  if h : j.val < 64 then w (ValueIdx.ix2 k (narrowCol ⟨j.val, h⟩)) else 0

theorem V_narrow (k : Fin 2048) (j : Fin 128) :
    V m c main_v4 (ValueIdx.ix2 k j : S2048x128.Idx) = narrowW (m ((c : Thread nD τ).loc main_arg4)) k j := by
  have h : V m c main_v4 = pad S2048x128 ![0, 0] ![0, 64] ![0, 0]
      (extractStridedSlice S2048x64 ![0, 10240] (m ((c : Thread nD τ).loc main_arg4) : S2048x10304.Idx → EReal) slices_S2048x10304_S2048x64_0_10240)
      (sitofp (F := Ideal) .f32 (constantI S_ 32 0#32)) pads_S2048x64_S2048x128_000_0640 h_S_ := by
    show StableHlo.after stretches.flatten _ (Proc.devRef .tc main_v4) = _
    simp only [stretches, hostOps0, hostOps0_1, hostOps0_2, List.flatten_cons, List.flatten_nil, List.append_nil, List.cons_append, List.nil_append]
    after_results
    rfl
  rw [h]
  unfold narrowW
  by_cases hj : j.val < 64
  · rw [dif_pos hj]
    refine (pad_apply_of_inside (s := S2048x64) _ _ _ _ _ _ _ _ (ValueIdx.ix2 k ⟨j.val, hj⟩) fun a => ?_).trans ?_
    · match a with
      | ⟨0, _⟩ => show k.val = 0 + k.val * (0 + 1); omega
      | ⟨1, _⟩ => show j.val = 0 + j.val * (0 + 1); omega
    · exact extractStridedSlice_apply ![0, 10240] _ slices_S2048x10304_S2048x64_0_10240 (ValueIdx.ix2 k ⟨j.val, hj⟩) (ValueIdx.ix2 k (narrowCol ⟨j.val, hj⟩)) (fun a => match a with
        | ⟨0, _⟩ => by show k.val = 0 + k.val; omega
        | ⟨1, _⟩ => by show 10240 + j.val = 10240 + j.val; omega)
  · rw [dif_neg hj]
    refine (pad_apply_of_not_inside (s := S2048x64) _ _ _ _ _ _ _ _ ⟨1, by decide⟩ ?_).trans ?_
    · show ¬ (0 ≤ j.val ∧ (j.val - 0) % (0 + 1) = 0 ∧ (j.val - 0) / (0 + 1) < 64)
      omega
    · exact filling

theorem V_scale (k : Fin 2048) : V m c main_v5 (ValueIdx.ix2 0 k : S1x2048.Idx) = m ((c : Thread nD τ).loc main_arg1) (ValueIdx.ix1 k : S2048.Idx) := by
  have h : V m c main_v5 = shapeCast S1x2048 (m ((c : Thread nD τ).loc main_arg1)) shapeCasts_S2048_S1x2048 := by
    show StableHlo.after stretches.flatten _ (Proc.devRef .tc main_v5) = _
    simp only [stretches, hostOps0, hostOps0_1, hostOps0_2, List.flatten_cons, List.flatten_nil, List.append_nil, List.cons_append, List.nil_append]
    after_results
    rfl
  rw [h]
  exact shapeCast_apply _ shapeCasts_S2048_S1x2048 (ValueIdx.ix2 0 k) (ValueIdx.ix1 k) (by
    rw [Shape.rowMajor_val_one, Shape.rowMajor_val_two]
    show k.val = 0 * 2048 + k.val
    omega)

theorem V_shift (s : Fin 4) (k : Fin 2048) :
    V m c main_v6 (ValueIdx.ix3 s 0 k : S4x1x2048.Idx) = m ((c : Thread nD τ).loc main_arg2) (ValueIdx.ix2 s k : S4x2048.Idx) := by
  have h : V m c main_v6 = broadcastInDim S4x1x2048 ![0, 2] bcast_S4x2048_S4x1x2048_0_2 (m ((c : Thread nD τ).loc main_arg2)) := by
    show StableHlo.after stretches.flatten _ (Proc.devRef .tc main_v6) = _
    simp only [stretches, hostOps0, hostOps0_1, hostOps0_2, List.flatten_cons, List.flatten_nil, List.append_nil, List.cons_append, List.nil_append]
    after_results
  rw [h]
  exact broadcastInDim_apply _ bcast_S4x2048_S4x1x2048_0_2 (m ((c : Thread nD τ).loc main_arg2)) (ValueIdx.ix3 s 0 k) (ValueIdx.ix2 s k)
    (fun a => match a with
      | ⟨0, _⟩ => rfl
      | ⟨1, _⟩ => rfl)

theorem V_modulation (s : Fin 4) (k : Fin 2048) :
    V m c main_v7 (ValueIdx.ix3 s 0 k : S4x1x2048.Idx) = m ((c : Thread nD τ).loc main_arg3) (ValueIdx.ix2 s k : S4x2048.Idx) := by
  have h : V m c main_v7 = broadcastInDim S4x1x2048 ![0, 2] bcast_S4x2048_S4x1x2048_0_2 (m ((c : Thread nD τ).loc main_arg3)) := by
    show StableHlo.after stretches.flatten _ (Proc.devRef .tc main_v7) = _
    simp only [stretches, hostOps0, hostOps0_1, hostOps0_2, List.flatten_cons, List.flatten_nil, List.append_nil, List.cons_append, List.nil_append]
    after_results
  rw [h]
  exact broadcastInDim_apply _ bcast_S4x2048_S4x1x2048_0_2 (m ((c : Thread nD τ).loc main_arg3)) (ValueIdx.ix3 s 0 k) (ValueIdx.ix2 s k)
    (fun a => match a with
      | ⟨0, _⟩ => rfl
      | ⟨1, _⟩ => rfl)

theorem block0 (r : Fin 1024) (k : Fin 2048) :
    iblk m c 0 (point p q) (ValueIdx.ix2 r k : S1024x2048.Idx) = m ((c : Thread nD τ).loc main_arg0) (ValueIdx.ix2 (rowOf p r) k : S16384x2048.Idx) := by
  show V m c main_arg0 (((cfg0.win 0).blk (point p q)).view.emb (ValueIdx.ix2 r k : S1024x2048.Idx)) = _
  rw [emb0, V_main_arg0]
theorem block1 (k : Fin 2048) :
    iblk m c 1 (point p q) (ValueIdx.ix2 0 k : S1x2048.Idx) = m ((c : Thread nD τ).loc main_arg1) (ValueIdx.ix1 k : S2048.Idx) := by
  show V m c main_v5 (((cfg0.win 1).blk (point p q)).view.emb (ValueIdx.ix2 0 k : S1x2048.Idx)) = _
  rw [emb1, V_scale]
theorem block2 (r : Fin 1024) (k : Fin 2048) :
    iblk m c 2 (point p q) (ValueIdx.ix3 0 0 k : S1x1x2048.Idx) = m ((c : Thread nD τ).loc main_arg2) (ValueIdx.ix2 (seqOf (rowOf p r)) k : S4x2048.Idx) := by
  show V m c main_v6 (((cfg0.win 2).blk (point p q)).view.emb (ValueIdx.ix3 0 0 k : S1x1x2048.Idx)) = _
  rw [emb2 p q r, V_shift]
theorem block3 (r : Fin 1024) (k : Fin 2048) :
    iblk m c 3 (point p q) (ValueIdx.ix3 0 0 k : S1x1x2048.Idx) = m ((c : Thread nD τ).loc main_arg3) (ValueIdx.ix2 (seqOf (rowOf p r)) k : S4x2048.Idx) := by
  show V m c main_v7 (((cfg0.win 3).blk (point p q)).view.emb (ValueIdx.ix3 0 0 k : S1x1x2048.Idx)) = _
  rw [emb3 p q r, V_modulation]
theorem block4 (k : Fin 2048) (j : Fin 512) :
    iblk m c 4 (point p q) (ValueIdx.ix2 k j : S2048x512.Idx) = m ((c : Thread nD τ).loc main_arg4) (ValueIdx.ix2 k (wideCol (colOf q j)) : S2048x10304.Idx) := by
  show V m c main_v3 (((cfg0.win 4).blk (point p q)).view.emb (ValueIdx.ix2 k j : S2048x512.Idx)) = _
  rw [emb4, V_wide]
theorem block5 (k : Fin 2048) (j : Fin 128) :
    iblk m c 5 (point p q) (ValueIdx.ix2 k j : S2048x128.Idx) = narrowW (m ((c : Thread nD τ).loc main_arg4)) k j := by
  show V m c main_v4 (((cfg0.win 5).blk (point p q)).view.emb (ValueIdx.ix2 k j : S2048x128.Idx)) = _
  rw [emb5, V_narrow]

/-- The kept tile of a point's own blocks is the normalised rows. -/
theorem kept_rows (r : Fin 1024) (k : Fin 2048) :
    k0_pay2 (F := Ideal) (iblk m c 0 (point p q)) (iblk m c 1 (point p q)) (iblk m c 2 (point p q)) (iblk m c 3 (point p q)) (ValueIdx.ix2 r k)
      = normed (m ((c : Thread nD τ).loc main_arg0)) (m ((c : Thread nD τ).loc main_arg1)) (m ((c : Thread nD τ).loc main_arg2)) (m ((c : Thread nD τ).loc main_arg3)) (rowOf p r) k := by
  refine (tile_apply _ _ _ _ r k).trans ?_
  unfold normed
  rw [block1, block2 p q m c r, block3 p q m c r, funext fun i => block0 p q m c r i]

/-- The wide result at a row and a column. -/
theorem result_wide (r : Fin 1024) (j : Fin 512) :
    (dats m 0 c).arrAt 6 cfg0.N (ValueIdx.ix2 (rowOf p r) (colOf q j) : S16384x10240.Idx)
      = normProd (m ((c : Thread nD τ).loc main_arg0)) (m ((c : Thread nD τ).loc main_arg1)) (m ((c : Thread nD τ).loc main_arg2)) (m ((c : Thread nD τ).loc main_arg3))
          (m ((c : Thread nD τ).loc main_arg4) : S2048x10304.Idx → EReal) (rowOf p r) (wideCol (colOf q j)) := by
  rw [← emb6 p q r j]
  refine ((dats m 0 c).arrAt_emb_eq_flushed 6 disjoint6 (point p q) (flush6 _) _).trans ?_
  show wide m c (point p q) (ValueIdx.ix2 r j) = _
  unfold wide kept
  rw [point_carry]
  refine (wide_apply _ _ r j).trans (Finset.sum_congr rfl fun k _ => ?_)
  exact congrArg₂ (fun x y : EReal => x * y) (kept_rows p 0 m c r k) (block4 p q m c k j)

/-- The narrow result at a row and a column. -/
theorem result_narrow (r : Fin 1024) (j : Fin 128) :
    (dats m 0 c).arrAt 7 cfg0.N (ValueIdx.ix2 (rowOf p r) j : S16384x128.Idx)
      = narrowProd (m ((c : Thread nD τ).loc main_arg0)) (m ((c : Thread nD τ).loc main_arg1)) (m ((c : Thread nD τ).loc main_arg2)) (m ((c : Thread nD τ).loc main_arg3))
          (m ((c : Thread nD τ).loc main_arg4)) (rowOf p r) j := by
  rw [← emb7 p 19 r j]
  refine ((dats m 0 c).arrAt_emb_eq_flushed 7 disjoint7 (point p 19) ((flush7 _).2 (point_mod p 19)) _).trans ?_
  show narrow m c (point p 19) (ValueIdx.ix2 r j) = _
  unfold narrow
  rw [point_carry]
  refine (narrow_apply _ _ _ _ _ r j).trans ((Finset.sum_congr rfl fun k _ =>
    congrArg₂ (fun x y : EReal => x * y) (kept_rows p 0 m c r k) (block5 p 0 m c k j)).trans ?_)
  unfold narrowProd narrowW
  by_cases h : j.val < 64
  · simp only [dif_pos h]; rfl
  · simp only [dif_neg h, mul_zero, Finset.sum_const_zero]

end Cert.Proof.Proj.SsdIn

end
-- ==== Proof.Proj.Gated.lean ====
/- The gated unit of the first mixer: the call and the reference, both read at a row and a column. -/
module

public import proofs.«01_k».proof.Proof.Gen.GatedIdeal.Value
public import proofs.«01_k».proof.Proof.Gen.GatedReferenceIdeal.Read
public import proofs.«01_k».proof.Proof.Proj.Spec
public import Idealize.ShloMosaic.Lib.VecWindow

@[expose] public section

set_option maxRecDepth 16384

noncomputable section

namespace Cert.Proof.Proj.Gated

open Idealize.ShloMosaic
open scoped BigOperators

/-- The gaussian error unit of one element, in its form with the hyperbolic tangent. -/
def gelu (y : EReal) : EReal :=
  y * (Ideal.ofBits .f32 0x3F000000#32 * (Ideal.ofBits .f32 0x3F800000#32
    + Ideal.tanh (Ideal.ofBits .f32 0x3F4C422A#32 * (y + Ideal.ofBits .f32 0x3D372713#32 * (y * (y * y))))))

/-- A column of the values in the joined matrix. -/
def valueCol (j : Fin 1024) : Fin 2048 := ⟨j.val, by omega⟩
/-- A column of the gates in the joined matrix. -/
def gateCol (j : Fin 1024) : Fin 2048 := ⟨1024 + j.val, by omega⟩

/-- A row after the error unit, times a column. -/
def unitProd (y : (⟨2, ![16384, 1024]⟩ : Shape).Idx → EReal) (w : (⟨2, ![1024, 2048]⟩ : Shape).Idx → EReal) (R : Fin 16384) (j : Fin 2048) : EReal :=
  ∑ k : Fin 1024, gelu (y (ValueIdx.ix2 R k)) * w (ValueIdx.ix2 k j)

/-- The value times the gate's logistic. -/
def gated (y : (⟨2, ![16384, 1024]⟩ : Shape).Idx → EReal) (w : (⟨2, ![1024, 2048]⟩ : Shape).Idx → EReal) (R : Fin 16384) (j : Fin 1024) : EReal :=
  unitProd y w R (valueCol j) * Ideal.logistic (unitProd y w R (gateCol j))

end Cert.Proof.Proj.Gated

namespace Cert.Proof.Proj.Gated

open Cert.GatedIdeal Cert.GatedIdeal.Gen Cert.GatedIdeal.Value
open Idealize.ShloMosaic Idealize.ShloMosaic.TcCoe Idealize.SL.Sem
open scoped BigOperators

theorem hz2 : (![0, 0] : Fin 2 → Nat) = fun _ => 0 := by decide

section Runs
variable (c : Dev nD) (i : grid0.Coords) (arg2 : Memref sig .tc .vmem S1024x1024 .bf16) (harg2 : arg2.IsWhole) (arg3 : Memref sig .tc .vmem S1024x512 .bf16) (harg3 : arg3.IsWhole)
  (arg4 : Memref sig .tc .vmem S1024x512 .bf16) (harg4 : arg4.IsWhole) (arg5 : Memref sig .tc .vmem S1024x512 .bf16) (harg5 : arg5.IsWhole)
  (arg6 : Memref sig .tc .vmem S1024x1024 .bf16) (harg6 : arg6.IsWhole)
  (x0 : Vec Ideal S1024x1024 .bf16) (x1 x2 : Vec Ideal S1024x512 .bf16) (xs : Vec Ideal S1024x1024 .bf16)

theorem foundRows : View.readAt (Elt Ideal) arg2.view (Rect.unit (s := S1024x1024) ![0, 0] S1024x1024.size inb_S1024x1024_S1024x1024_0_0).toLoadRect (harg2.unread x0) = x0 := by
  rw [View.readAt_full]; exact harg2.read_unread x0
theorem foundColumns : View.readAt (Elt Ideal) arg3.view (Rect.unit (s := S1024x512) ![0, 0] S1024x512.size inb_S1024x512_S1024x512_0_0).toLoadRect (harg3.unread x1) = x1 := by
  rw [View.readAt_full]; exact harg3.read_unread x1

/-- What the first point of a row block keeps. -/
theorem kept_first (hc) : sout0_A_0 (F := Ideal) c i arg2 harg2 arg3 harg3 arg4 harg4 arg5 harg5 arg6 harg6 hc x0 x1 x2 = k0_pay1 x0 := by
  unfold sout0_A_0
  rw [View.read_writes_junk_eq_canon]
  unfold kernelRun0_A
  dsimp only
  unfold kernelRun0_A.sl.HS0_1
  rw [View.canon_unit_zero hz2]
  exact congrArg k0_pay1 (foundRows arg2 harg2 x0)

/-- What it stores. -/
theorem stored_first (hc) : out0_A_3 (F := Ideal) c i arg2 harg2 arg3 harg3 arg4 harg4 arg5 harg5 arg6 harg6 hc x0 x1 x2 = k0_pay2 (k0_pay1 x0) x1 x2 := by
  unfold out0_A_3
  rw [View.read_writes_junk_eq_canon]
  unfold kernelRun0_A
  dsimp only
  unfold kernelRun0_A.sl.v3
  unfold kernelRun0_A.sl.HS0_1
  refine (View.canon_unit_zero hz2 _ _).trans ?_
  refine congr (congrArg₂ k0_pay2 ?_ (foundColumns arg3 harg3 x1)) (foundColumns arg4 harg4 x2)
  rw [View.readCov_full]
  exact congrArg k0_pay1 (foundRows arg2 harg2 x0)

/-- What a later point stores. -/
theorem stored_later (hc) : out0_B_3 (F := Ideal) c i arg2 harg2 arg3 harg3 arg4 harg4 arg5 harg5 arg6 harg6 hc x0 x1 x2 xs = k0_pay2 xs x1 x2 := by
  unfold out0_B_3
  rw [View.read_writes_junk_eq_canon]
  unfold kernelRun0_B
  dsimp only
  refine (View.canon_unit_zero hz2 _ _).trans ?_
  exact congr (congrArg₂ k0_pay2 (foundRows arg6 harg6 xs) (foundColumns arg3 harg3 x1)) (foundColumns arg4 harg4 x2)
end Runs

theorem dot_eq : dot_S1024x1024_S1024x512_S1024x512_1_0_0_1_n_n = DotDims.plain 1024 1024 512 := rfl

/-- What is kept at a row and a column. -/
theorem kept_apply (y : FVec Ideal S1024x1024 .bf16) (r k : Fin 1024) : k0_pay1 (F := Ideal) y (ValueIdx.ix2 r k) = gelu (y (ValueIdx.ix2 r k)) := by
  unfold k0_pay1
  rw [same_cast]
  rfl

/-- What is stored at a row and a column, of the kept tile. -/
theorem product_apply (h : FVec Ideal S1024x1024 .bf16) (wv wg : FVec Ideal S1024x512 .bf16) (r : Fin 1024) (j : Fin 512) :
    k0_pay2 (F := Ideal) h wv wg (ValueIdx.ix2 r j) = prod h wv r j * Ideal.logistic (prod h wg r j) := by
  unfold k0_pay2
  rw [same_cast wv, same_cast wg, dot_eq]
  exact congrArg₂ (fun x y : EReal => x * Ideal.logistic y) (matmul_zero h wv r j) (matmul_zero h wg r j)

/-! ## The tiles -/

/-- The grid point of row block `p` and column block `q`. -/
def point (p : Fin 16) (q : Fin 2) : Fin cfg0.N := ⟨2 * p.val + q.val, by show 2 * p.val + q.val < 32; omega⟩
def rowOf (p : Fin 16) (r : Fin 1024) : Fin 16384 := ⟨1024 * p.val + r.val, by omega⟩
def colOf (q : Fin 2) (j : Fin 512) : Fin 1024 := ⟨512 * q.val + j.val, by omega⟩

theorem idx0 : ∀ t : Fin cfg0.N, win0_0.index t (0 : Fin 2) = t.val / 2 ∧ win0_0.index t (1 : Fin 2) = 0 := (by decide +kernel : ∀ t : Fin grid0.N, _)
theorem idx1 : ∀ t : Fin cfg0.N, win0_1.index t (0 : Fin 2) = 0 ∧ win0_1.index t (1 : Fin 2) = t.val % 2 := (by decide +kernel : ∀ t : Fin grid0.N, _)
theorem idx2 : ∀ t : Fin cfg0.N, win0_2.index t (0 : Fin 2) = 0 ∧ win0_2.index t (1 : Fin 2) = t.val % 2 := (by decide +kernel : ∀ t : Fin grid0.N, _)
theorem idx3 : ∀ t : Fin cfg0.N, win0_3.index t (0 : Fin 2) = t.val / 2 ∧ win0_3.index t (1 : Fin 2) = t.val % 2 := (by decide +kernel : ∀ t : Fin grid0.N, _)

variable (p : Fin 16) (q : Fin 2)

theorem point_div : (point p q).val / 2 = p.val := by show (2 * p.val + q.val) / 2 = p.val; omega
theorem point_mod : (point p q).val % 2 = q.val := by show (2 * p.val + q.val) % 2 = q.val; omega

theorem emb0 (r k : Fin 1024) :
    ((cfg0.win 0).blk (point p q)).view.emb (ValueIdx.ix2 r k : S1024x1024.Idx) = (ValueIdx.ix2 (rowOf p r) k : S16384x1024.Idx) := by
  obtain ⟨e0, e1⟩ := idx0 (point p q)
  rw [point_div] at e0
  funext a; apply Fin.ext
  match a with
  | ⟨0, _⟩ => show win0_0.index (point p q) (0 : Fin 2) * 1024 + 1 * r.val = 1024 * p.val + r.val; omega
  | ⟨1, _⟩ => show win0_0.index (point p q) (1 : Fin 2) * 1024 + 1 * k.val = k.val; omega

theorem emb1 (k : Fin 1024) (j : Fin 512) :
    ((cfg0.win 1).blk (point p q)).view.emb (ValueIdx.ix2 k j : S1024x512.Idx) = (ValueIdx.ix2 k (colOf q j) : S1024x1024.Idx) := by
  obtain ⟨e0, e1⟩ := idx1 (point p q)
  rw [point_mod] at e1
  funext a; apply Fin.ext
  match a with
  | ⟨0, _⟩ => show win0_1.index (point p q) (0 : Fin 2) * 1024 + 1 * k.val = k.val; omega
  | ⟨1, _⟩ => show win0_1.index (point p q) (1 : Fin 2) * 512 + 1 * j.val = 512 * q.val + j.val; omega

theorem emb2 (k : Fin 1024) (j : Fin 512) :
    ((cfg0.win 2).blk (point p q)).view.emb (ValueIdx.ix2 k j : S1024x512.Idx) = (ValueIdx.ix2 k (colOf q j) : S1024x1024.Idx) := by
  obtain ⟨e0, e1⟩ := idx2 (point p q)
  rw [point_mod] at e1
  funext a; apply Fin.ext
  match a with
  | ⟨0, _⟩ => show win0_2.index (point p q) (0 : Fin 2) * 1024 + 1 * k.val = k.val; omega
  | ⟨1, _⟩ => show win0_2.index (point p q) (1 : Fin 2) * 512 + 1 * j.val = 512 * q.val + j.val; omega

theorem emb3 (r : Fin 1024) (j : Fin 512) :
    ((cfg0.win 3).blk (point p q)).view.emb (ValueIdx.ix2 r j : S1024x512.Idx) = (ValueIdx.ix2 (rowOf p r) (colOf q j) : S16384x1024.Idx) := by
  obtain ⟨e0, e1⟩ := idx3 (point p q)
  rw [point_div] at e0
  rw [point_mod] at e1
  funext a; apply Fin.ext
  match a with
  | ⟨0, _⟩ => show win0_3.index (point p q) (0 : Fin 2) * 1024 + 1 * r.val = 1024 * p.val + r.val; omega
  | ⟨1, _⟩ => show win0_3.index (point p q) (1 : Fin 2) * 512 + 1 * j.val = 512 * q.val + j.val; omega

variable (m : (ℓ : Loc nD τ sig) → Buf (Elt Ideal) ℓ) (c : Dev nD)

theorem V_value (k j : Fin 1024) :
    V m c main_v1 (ValueIdx.ix2 k j : S1024x1024.Idx) = m ((c : Thread nD τ).loc main_arg1) (ValueIdx.ix2 k (valueCol j) : S1024x2048.Idx) := by
  have h : V m c main_v1 = extractStridedSlice S1024x1024 ![0, 0] (m ((c : Thread nD τ).loc main_arg1)) slices_S1024x2048_S1024x1024_0_0 := by
    show StableHlo.after hostOps0 _ (Proc.devRef .tc main_v1) = _
    after_results
    rfl
  rw [h]
  exact extractStridedSlice_apply _ (m ((c : Thread nD τ).loc main_arg1)) slices_S1024x2048_S1024x1024_0_0 (ValueIdx.ix2 k j) (ValueIdx.ix2 k (valueCol j))
    (fun a => match a with
      | ⟨0, _⟩ => by show k.val = 0 + k.val; omega
      | ⟨1, _⟩ => by show j.val = 0 + j.val; omega)

theorem V_gate (k j : Fin 1024) :
    V m c main_v2 (ValueIdx.ix2 k j : S1024x1024.Idx) = m ((c : Thread nD τ).loc main_arg1) (ValueIdx.ix2 k (gateCol j) : S1024x2048.Idx) := by
  have h : V m c main_v2 = extractStridedSlice S1024x1024 ![0, 1024] (m ((c : Thread nD τ).loc main_arg1)) slices_S1024x2048_S1024x1024_0_1024 := by
    show StableHlo.after hostOps0 _ (Proc.devRef .tc main_v2) = _
    after_results
    rfl
  rw [h]
  exact extractStridedSlice_apply _ (m ((c : Thread nD τ).loc main_arg1)) slices_S1024x2048_S1024x1024_0_1024 (ValueIdx.ix2 k j) (ValueIdx.ix2 k (gateCol j))
    (fun a => match a with
      | ⟨0, _⟩ => by show k.val = 0 + k.val; omega
      | ⟨1, _⟩ => by show 1024 + j.val = 1024 + j.val; omega)

theorem block0 (r k : Fin 1024) :
    iblk m c 0 (point p q) (ValueIdx.ix2 r k : S1024x1024.Idx) = m ((c : Thread nD τ).loc main_arg0) (ValueIdx.ix2 (rowOf p r) k : S16384x1024.Idx) := by
  show V m c main_arg0 (((cfg0.win 0).blk (point p q)).view.emb (ValueIdx.ix2 r k : S1024x1024.Idx)) = _
  rw [emb0, V_main_arg0]
theorem block1 (k : Fin 1024) (j : Fin 512) :
    iblk m c 1 (point p q) (ValueIdx.ix2 k j : S1024x512.Idx) = m ((c : Thread nD τ).loc main_arg1) (ValueIdx.ix2 k (valueCol (colOf q j)) : S1024x2048.Idx) := by
  show V m c main_v1 (((cfg0.win 1).blk (point p q)).view.emb (ValueIdx.ix2 k j : S1024x512.Idx)) = _
  rw [emb1, V_value]
theorem block2 (k : Fin 1024) (j : Fin 512) :
    iblk m c 2 (point p q) (ValueIdx.ix2 k j : S1024x512.Idx) = m ((c : Thread nD τ).loc main_arg1) (ValueIdx.ix2 k (gateCol (colOf q j)) : S1024x2048.Idx) := by
  show V m c main_v2 (((cfg0.win 2).blk (point p q)).view.emb (ValueIdx.ix2 k j : S1024x512.Idx)) = _
  rw [emb2, V_gate]

theorem kept_at (t : Fin cfg0.N) (h : t.val % 2 = 0) : (outsAt0 m c t.val t.isLt).2 = k0_pay1 (iblk m c 0 t) := by
  refine (congrArg Prod.snd (outsAt0_A m c t h)).trans ?_
  dsimp only
  exact kept_first c (grid0.coords t) (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) ((hcond0_0 t).mpr h)

theorem kept_on (t : Fin cfg0.N) (h : ¬ t.val % 2 = 0) :
    (outsAt0 m c t.val t.isLt).2 = (outsAt0 m c (t.val - 1) (Nat.lt_of_le_of_lt (Nat.sub_le _ _) t.isLt)).2 := by
  refine (congrArg Prod.snd (outsAt0_B m c t h)).trans ?_
  dsimp only
  unfold sout0_B_0
  rfl

theorem kept_same (n n' : ℕ) (h : n < cfg0.N) (h' : n' < cfg0.N) (e : n = n') : (outsAt0 m c n h).2 = (outsAt0 m c n' h').2 := by
  subst e; rfl

/-- After each point of a row block the body keeps the block's rows after the error unit. -/
theorem kept_block : (outsAt0 m c (point p q).val (point p q).isLt).2 = k0_pay1 (iblk m c 0 (point p 0)) := by
  have h0 := kept_at m c (point p 0) (by rw [point_mod]; rfl)
  have h1 := (kept_on m c (point p 1) (by rw [point_mod]; decide)).trans (kept_same m c _ (point p 0).val _ (point p 0).isLt rfl)
  match q with
  | ⟨0, _⟩ => exact h0
  | ⟨1, _⟩ => exact h1.trans h0

/-- Each point stores its own column blocks' products with what is kept after it. -/
theorem stored_at (t : Fin cfg0.N) : (outsAt0 m c t.val t.isLt).1 = k0_pay2 (outsAt0 m c t.val t.isLt).2 (iblk m c 1 t) (iblk m c 2 t) := by
  by_cases h : t.val % 2 = 0
  · rw [kept_at m c t h]
    refine (congrArg Prod.fst (outsAt0_A m c t h)).trans ?_
    dsimp only
    exact stored_first c (grid0.coords t) (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) ((hcond0_0 t).mpr h)
  · rw [kept_on m c t h]
    refine (congrArg Prod.fst (outsAt0_B m c t h)).trans ?_
    dsimp only
    exact stored_later c (grid0.coords t) (ms0_0 t) (hs0_0 t) (ms0_1 t) (hs0_1 t) (ms0_2 t) (hs0_2 t) (ms0_3 t) (hs0_3 t) scM0_0 (Memref.isWhole_whole _)
      (iblk m c 0 t) (iblk m c 1 t) (iblk m c 2 t) (outsAt0 m c (t.val - 1) (Nat.lt_of_le_of_lt (Nat.sub_le _ _) t.isLt)).2 (fun h' => h ((hcond0_0 t).mp h'))

/-- The call's result at a row and a column. -/
theorem result_apply (r : Fin 1024) (j : Fin 512) :
    (dats m 0 c).arrAt 3 cfg0.N (ValueIdx.ix2 (rowOf p r) (colOf q j) : S16384x1024.Idx)
      = gated (m ((c : Thread nD τ).loc main_arg0)) (m ((c : Thread nD τ).loc main_arg1)) (rowOf p r) (colOf q j) := by
  rw [← emb3 p q r j]
  refine ((dats m 0 c).arrAt_emb_eq_flushed 3 disjoint3 (point p q) (flush0_3 _) _).trans ?_
  rw [flushed3, stored_at, kept_block]
  refine (product_apply _ _ _ r j).trans ?_
  have hk (k : Fin 1024) : k0_pay1 (F := Ideal) (iblk m c 0 (point p 0)) (ValueIdx.ix2 r k) = gelu (m ((c : Thread nD τ).loc main_arg0) (ValueIdx.ix2 (rowOf p r) k : S16384x1024.Idx)) :=
    (kept_apply _ r k).trans (congrArg gelu (block0 p 0 m c r k))
  refine congrArg₂ (fun x y : EReal => x * Ideal.logistic y) (Finset.sum_congr rfl fun k _ => ?_) (Finset.sum_congr rfl fun k _ => ?_)
  · exact congrArg₂ (fun x y : EReal => x * y) (hk k) (block1 p q m c k j)
  · exact congrArg₂ (fun x y : EReal => x * y) (hk k) (block2 p q m c k j)

end Cert.Proof.Proj.Gated

namespace Cert.Proof.Proj.Gated

open Cert.GatedReferenceIdeal Cert.GatedReferenceIdeal.Read
open Idealize.ShloMosaic
open scoped BigOperators

variable (y : S16384x1024.Idx → EReal) (w : S1024x2048.Idx → EReal)

/-- The error unit, at a row of a sequence. -/
theorem unit_apply (b : Fin 4) (s : Fin 4096) (k : Fin 1024) (R : Fin 16384) (hR : R.val = 4096 * b.val + s.val) :
    val_main_v14 (F := Ideal) y (ValueIdx.ix3 b s k) = gelu (y (ValueIdx.ix2 R k)) := by
  have hb := b.isLt
  have hs := s.isLt
  have hk := k.isLt
  have h1 : val_main_v1 (F := Ideal) y (ValueIdx.ix3 b s k) = y (ValueIdx.ix2 R k) := by
    rw [val_main_v1_apply, val_main_v0_apply]
    refine congrArg y (funext fun a => Fin.ext ?_)
    match a with
    | ⟨0, _⟩ => show ((b.val * 4096 + s.val) * 1024 + k.val) / 1024 = R.val; omega
    | ⟨1, _⟩ => show ((b.val * 4096 + s.val) * 1024 + k.val) % 1024 = k.val; omega
  rw [val_main_v14_apply, val_main_v13_apply, val_main_v12_apply, val_main_cst_2_apply, val_main_v11_apply, val_main_v10_apply, val_main_cst_1_apply,
    val_main_v9_apply, val_main_v8_apply, val_main_v7_apply, val_main_cst_0_apply, val_main_v6_apply, val_main_v5_apply, val_main_v4_apply, val_main_cst_apply,
    val_main_v3_apply, val_main_v2_apply, h1]
  generalize y (ValueIdx.ix2 R k) = z
  unfold gelu
  rw [mul_comm z (z * z)]
  rfl

/-- The joined product, at a row of a sequence. -/
theorem joined_apply (b : Fin 4) (s : Fin 4096) (j : Fin 2048) (R : Fin 16384) (hR : R.val = 4096 * b.val + s.val) :
    val_main_v15 (F := Ideal) y w (ValueIdx.ix3 b s j) = unitProd y w R j := by
  rw [val_main_v15_apply]
  refine Finset.sum_congr rfl fun k _ => ?_
  have el : lidx_main_v15 (ValueIdx.ix3 b s j) k = ValueIdx.ix3 b s k := by
    funext a
    match a with
    | ⟨0, _⟩ => rfl
    | ⟨1, _⟩ => rfl
    | ⟨2, _⟩ => rfl
  have er : ridx_main_v15 (ValueIdx.ix3 b s j) k = ValueIdx.ix2 k j := by
    funext a
    match a with
    | ⟨0, _⟩ => rfl
    | ⟨1, _⟩ => rfl
  rw [el, er, unit_apply y b s k R hR]

/-- The reference at a row and a column. -/
theorem reference_apply (R : Fin 16384) (j : Fin 1024) : val_main_v26 (F := Ideal) y w (ValueIdx.ix2 R j) = gated y w R j := by
  have hj := j.isLt
  have hR := R.isLt
  have hs : R.val = 4096 * (seqOf R).val + (⟨R.val % 4096, by omega⟩ : Fin 4096).val := by
    show R.val = 4096 * (R.val / 4096) + R.val % 4096
    omega
  have e : idx_main_v25 (ValueIdx.ix2 R j) = ValueIdx.ix3 (seqOf R) ⟨R.val % 4096, by omega⟩ j := by
    funext a; apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  have ev : idx_main_v16 (ValueIdx.ix3 (seqOf R) ⟨R.val % 4096, by omega⟩ j) = ValueIdx.ix3 (seqOf R) ⟨R.val % 4096, by omega⟩ (valueCol j) := by
    funext a; apply Fin.ext
    match a with
    | ⟨0, _⟩ => rfl
    | ⟨1, _⟩ => rfl
    | ⟨2, _⟩ => rfl
  have eg : idx_main_v17 (ValueIdx.ix3 (seqOf R) ⟨R.val % 4096, by omega⟩ j) = ValueIdx.ix3 (seqOf R) ⟨R.val % 4096, by omega⟩ (gateCol j) := by
    funext a; apply Fin.ext
    match a with
    | ⟨0, _⟩ => rfl
    | ⟨1, _⟩ => rfl
    | ⟨2, _⟩ => rfl
  rw [val_main_v26_apply, val_main_v25_apply, e, val_main_v24_apply, val_main_v23_apply, val_main_v22_apply, val_main_cst_4_apply, val_main_v21_apply,
    val_main_v20_apply, val_main_cst_3_apply, val_main_v19_apply, val_main_v18_apply, val_main_v17_apply, val_main_v16_apply, ev, eg,
    joined_apply y w _ _ _ R hs, joined_apply y w _ _ _ R hs]
  show unitProd y w R (valueCol j) * Ideal.div (Ideal.ofBits .f32 0x3F800000#32) (Ideal.ofBits .f32 0x3F800000#32 + Ideal.exp (-unitProd y w R (gateCol j))) = _
  rw [Ideal.ofBits_one_f32]
  rfl

end Cert.Proof.Proj.Gated

end
-- ==== Proof.Proj.Final.lean ====
/- The four projections and the gated unit: the calls and their references end with one result. -/
module

public import proofs.«01_k».proof.Defs
public import proofs.«01_k».proof.Proof.Proj.SsdOut
public import proofs.«01_k».proof.Proof.Proj.MixOut
public import proofs.«01_k».proof.Proof.Proj.MixIn
public import proofs.«01_k».proof.Proof.Proj.SsdIn
public import proofs.«01_k».proof.Proof.Proj.SsdInIdealFrame
public import proofs.«01_k».proof.Proof.Gen.SsdIn
public import proofs.«01_k».proof.Proof.Proj.Gated
public import proofs.«01_k».proof.Proof.Gen.GatedReferenceIdeal.Run
public import proofs.«01_k».proof.Proof.Gen.SsdOutReferenceIdeal.Run
public import proofs.«01_k».proof.Proof.Gen.SsdOutReferenceIdeal.Read
public import proofs.«01_k».proof.Proof.Gen.MixOutReferenceIdeal.Run
public import proofs.«01_k».proof.Proof.Gen.MixOutReferenceIdeal.Read
public import proofs.«01_k».proof.Proof.Gen.SsdInReferenceIdeal.Run
public import proofs.«01_k».proof.Proof.Gen.SsdInReferenceIdeal.Read
public import proofs.«01_k».proof.Proof.Gen.MixInReferenceIdeal.Run
public import proofs.«01_k».proof.Proof.Gen.MixInReferenceIdeal.Read

@[expose] public section

noncomputable section

open Idealize.ShloMosaic Idealize.SL.Sem

/-- A position is a place in a block. -/
theorem Cert.Proof.Proj.place {A B M N P Q : Nat} (hM : 0 < M) (hN : 0 < N) (hA : A = P * M) (hB : B = Q * N) (i : (⟨2, ![A, B]⟩ : Shape).Idx) :
    ∃ (p : Fin P) (r : Fin M) (q : Fin Q) (j : Fin N), (i 0).val = M * p.val + r.val ∧ (i 1).val = N * q.val + j.val := by
  have h0 : (i 0).val < P * M := lt_of_lt_of_eq (i 0).isLt hA
  have h1 : (i 1).val < Q * N := lt_of_lt_of_eq (i 1).isLt hB
  exact ⟨⟨(i 0).val / M, Nat.div_lt_of_lt_mul (by rwa [Nat.mul_comm] at h0)⟩, ⟨(i 0).val % M, Nat.mod_lt _ hM⟩,
    ⟨(i 1).val / N, Nat.div_lt_of_lt_mul (by rwa [Nat.mul_comm] at h1)⟩, ⟨(i 1).val % N, Nat.mod_lt _ hN⟩, (Nat.div_add_mod _ _).symm, (Nat.div_add_mod _ _).symm⟩

namespace Cert.Proof.Proj.SsdOut

/-- The reference ends at rest: it declares no semaphore. -/
theorem reference_frame : Cert.quiescent_SsdOutReferenceIdeal := fun m g _ =>
  (θ_run Cert.SsdOutReferenceIdeal.defs _ _).mono (fun r h => ⟨fun c => (h c).2, Idealize.ShloMosaic.sem_eq_zero_of_no_sems (by decide) r.2⟩)
    (Cert.SsdOutReferenceIdeal.Value.run (F := Ideal) m g)

theorem result_eq (m : (ℓ : Loc Cert.SsdOutIdeal.nD Cert.SsdOutIdeal.τ Cert.SsdOutIdeal.sig) → Buf (Elt Ideal) ℓ) (c : Dev Cert.SsdOutIdeal.nD) :
    Cert.SsdOutReferenceIdeal.Read.val_main_v8 (F := Ideal)
        (m ((c.tc : Thread Cert.SsdOutIdeal.nD Cert.SsdOutIdeal.τ).loc Cert.SsdOutIdeal.main_arg0))
        (m ((c.tc : Thread Cert.SsdOutIdeal.nD Cert.SsdOutIdeal.τ).loc Cert.SsdOutIdeal.main_arg1))
        (m ((c.tc : Thread Cert.SsdOutIdeal.nD Cert.SsdOutIdeal.τ).loc Cert.SsdOutIdeal.main_arg2))
        (m ((c.tc : Thread Cert.SsdOutIdeal.nD Cert.SsdOutIdeal.τ).loc Cert.SsdOutIdeal.main_arg3))
      = (Cert.SsdOutIdeal.Gen.dats m 0 c).arrAt 4 Cert.SsdOutIdeal.cfg0.N := by
  funext i
  obtain ⟨p, r, q, j, h0, h1⟩ := place (A := 16384) (B := 2048) (M := 512) (N := 1024) (P := 32) (Q := 2) (by decide) (by decide) rfl rfl i
  have ei : i = (ValueIdx.ix2 (rowOf p r) (colOf q j) : (⟨2, ![16384, 2048]⟩ : Shape).Idx) := by
    funext a
    match a with
    | ⟨0, _⟩ => exact Fin.ext h0
    | ⟨1, _⟩ => exact Fin.ext h1
  rw [ei]
  exact (reference_apply _ _ _ _ (rowOf p r) (colOf q j)).trans (result_apply p q m c r j).symm

/-- Over the reals the call and its reference end with one result. -/
theorem algebraic : Cert.algebraic_SsdOutIdeal_SsdOutReferenceIdeal := by
  intro m g m' g' hpre hagree
  refine ⟨fun c => (Cert.SsdOutIdeal.Gen.dats m 0 c).arrAt 4 Cert.SsdOutIdeal.cfg0.N, Cert.SsdOutIdeal.Value.run_blocks m g, ?_⟩
  refine (θ_run Cert.SsdOutReferenceIdeal.defs _ _).mono (fun _ h c => ⟨(h c).1.trans ?_, (h c).2⟩) (Cert.SsdOutReferenceIdeal.Value.run (F := Ideal) m' g')
  rw [Cert.SsdOutReferenceIdeal.Read.val_main_v8_eq, (hagree c).1, (hagree c).2.1, (hagree c).2.2.1, (hagree c).2.2.2]
  exact result_eq m c

end Cert.Proof.Proj.SsdOut

namespace Cert.Proof.Proj.MixOut

/-- The reference ends at rest: it declares no semaphore. -/
theorem reference_frame : Cert.quiescent_MixOutReferenceIdeal := fun m g _ =>
  (θ_run Cert.MixOutReferenceIdeal.defs _ _).mono (fun r h => ⟨fun c => (h c).2, Idealize.ShloMosaic.sem_eq_zero_of_no_sems (by decide) r.2⟩)
    (Cert.MixOutReferenceIdeal.Value.run (F := Ideal) m g)

theorem result_eq (m : (ℓ : Loc Cert.MixOutIdeal.nD Cert.MixOutIdeal.τ Cert.MixOutIdeal.sig) → Buf (Elt Ideal) ℓ) (c : Dev Cert.MixOutIdeal.nD) :
    Cert.MixOutReferenceIdeal.Read.val_main_v11 (F := Ideal)
        (m ((c.tc : Thread Cert.MixOutIdeal.nD Cert.MixOutIdeal.τ).loc Cert.MixOutIdeal.main_arg0))
        (m ((c.tc : Thread Cert.MixOutIdeal.nD Cert.MixOutIdeal.τ).loc Cert.MixOutIdeal.main_arg1))
        (m ((c.tc : Thread Cert.MixOutIdeal.nD Cert.MixOutIdeal.τ).loc Cert.MixOutIdeal.main_arg2))
        (m ((c.tc : Thread Cert.MixOutIdeal.nD Cert.MixOutIdeal.τ).loc Cert.MixOutIdeal.main_arg3))
        (m ((c.tc : Thread Cert.MixOutIdeal.nD Cert.MixOutIdeal.τ).loc Cert.MixOutIdeal.main_arg4))
      = (Cert.MixOutIdeal.Gen.dats m 0 c).arrAt 6 Cert.MixOutIdeal.cfg0.N := by
  funext i
  obtain ⟨p, r, q, j, h0, h1⟩ := place (A := 16384) (B := 2048) (M := 1024) (N := 1024) (P := 16) (Q := 2) (by decide) (by decide) rfl rfl i
  have ei : i = (ValueIdx.ix2 (rowOf p r) (colOf q j) : (⟨2, ![16384, 2048]⟩ : Shape).Idx) := by
    funext a
    match a with
    | ⟨0, _⟩ => exact Fin.ext h0
    | ⟨1, _⟩ => exact Fin.ext h1
  rw [ei]
  exact (reference_apply _ _ _ _ _ (rowOf p r) (colOf q j)).trans (result_apply p q m c r j).symm

/-- Over the reals the call and its reference end with one result. -/
theorem algebraic : Cert.algebraic_MixOutIdeal_MixOutReferenceIdeal := by
  intro m g m' g' hpre hagree
  refine ⟨fun c => (Cert.MixOutIdeal.Gen.dats m 0 c).arrAt 6 Cert.MixOutIdeal.cfg0.N, Cert.MixOutIdeal.Value.run_blocks m g, ?_⟩
  refine (θ_run Cert.MixOutReferenceIdeal.defs _ _).mono (fun _ h c => ⟨(h c).1.trans ?_, (h c).2⟩) (Cert.MixOutReferenceIdeal.Value.run (F := Ideal) m' g')
  rw [Cert.MixOutReferenceIdeal.Read.val_main_v11_eq, (hagree c).1, (hagree c).2.1, (hagree c).2.2.1, (hagree c).2.2.2.1, (hagree c).2.2.2.2]
  exact result_eq m c

end Cert.Proof.Proj.MixOut

namespace Cert.Proof.Proj.MixIn

/-- The reference ends at rest: it declares no semaphore. -/
theorem reference_frame : Cert.quiescent_MixInReferenceIdeal := fun m g _ =>
  (θ_run Cert.MixInReferenceIdeal.defs _ _).mono (fun r h => ⟨fun c => (h c).2, Idealize.ShloMosaic.sem_eq_zero_of_no_sems (by decide) r.2⟩)
    (Cert.MixInReferenceIdeal.Value.run (F := Ideal) m g)

theorem result_eq (m : (ℓ : Loc Cert.MixInIdeal.nD Cert.MixInIdeal.τ Cert.MixInIdeal.sig) → Buf (Elt Ideal) ℓ) (c : Dev Cert.MixInIdeal.nD) :
    Cert.MixInReferenceIdeal.Read.val_main_v24 (F := Ideal)
        (m ((c.tc : Thread Cert.MixInIdeal.nD Cert.MixInIdeal.τ).loc Cert.MixInIdeal.main_arg0))
        (m ((c.tc : Thread Cert.MixInIdeal.nD Cert.MixInIdeal.τ).loc Cert.MixInIdeal.main_arg1))
        (m ((c.tc : Thread Cert.MixInIdeal.nD Cert.MixInIdeal.τ).loc Cert.MixInIdeal.main_arg2))
        (m ((c.tc : Thread Cert.MixInIdeal.nD Cert.MixInIdeal.τ).loc Cert.MixInIdeal.main_arg3))
        (m ((c.tc : Thread Cert.MixInIdeal.nD Cert.MixInIdeal.τ).loc Cert.MixInIdeal.main_arg4))
      = (Cert.MixInIdeal.Gen.dats m 0 c).arrAt 5 Cert.MixInIdeal.cfg0.N := by
  funext i
  obtain ⟨p, r, q, j, h0, h1⟩ := place (A := 16384) (B := 2304) (M := 1024) (N := 768) (P := 16) (Q := 3) (by decide) (by decide) rfl rfl i
  have ei : i = (ValueIdx.ix2 (rowOf p r) (colOf q j) : (⟨2, ![16384, 2304]⟩ : Shape).Idx) := by
    funext a
    match a with
    | ⟨0, _⟩ => exact Fin.ext h0
    | ⟨1, _⟩ => exact Fin.ext h1
  rw [ei]
  exact (reference_apply _ _ _ _ _ (rowOf p r) (colOf q j)).trans (result_apply p q m c r j).symm

/-- Over the reals the call and its reference end with one result. -/
theorem algebraic : Cert.algebraic_MixInIdeal_MixInReferenceIdeal := by
  intro m g m' g' hpre hagree
  refine ⟨fun c => (Cert.MixInIdeal.Gen.dats m 0 c).arrAt 5 Cert.MixInIdeal.cfg0.N, Cert.MixInIdeal.Value.run_blocks m g, ?_⟩
  refine (θ_run Cert.MixInReferenceIdeal.defs _ _).mono (fun _ h c => ⟨(h c).1.trans ?_, (h c).2⟩) (Cert.MixInReferenceIdeal.Value.run (F := Ideal) m' g')
  rw [Cert.MixInReferenceIdeal.Read.val_main_v24_eq, (hagree c).1, (hagree c).2.1, (hagree c).2.2.1, (hagree c).2.2.2.1, (hagree c).2.2.2.2]
  exact result_eq m c

end Cert.Proof.Proj.MixIn

namespace Cert.Proof.Proj.SsdIn

/-- The reference ends at rest: it declares no semaphore. -/
theorem reference_frame : Cert.quiescent_SsdInReferenceIdeal := fun m g _ =>
  (θ_run Cert.SsdInReferenceIdeal.defs _ _).mono (fun r h => ⟨fun c => (h c).2.2, Idealize.ShloMosaic.sem_eq_zero_of_no_sems (by decide) r.2⟩)
    (Cert.SsdInReferenceIdeal.Value.run (F := Ideal) m g)

/-! The idealization rewrites nothing in this call, so it is the call itself at any floats. -/

set_option backward.isDefEq.respectTransparency.types false in
theorem body_same : Cert.SsdIn.defs₀ (F := Bits) = Cert.SsdInIdeal.defs₀ (F := Bits) :=
  congrArg (Defs.onTc (nD := Cert.SsdIn.nD) (τ := Cert.SsdIn.τ) (sig := Cert.SsdIn.sig) (Λ := Cert.SsdIn.Λ₀)) (funext fun l => funext fun a =>
    match l, a with
    | ⟨0, _⟩, (t, s) => rfl
    | ⟨n + 1, h⟩, _ => absurd h (Nat.not_lt.2 (Nat.le_add_left _ _)))

set_option backward.isDefEq.respectTransparency.types false in
theorem defs_same : Cert.SsdIn.defs (F := Bits) = Cert.SsdInIdeal.defs (F := Bits) :=
  congrArg (Pipeline.defs (Cert.SsdIn.pcfgs (F := Bits))) body_same

set_option backward.isDefEq.respectTransparency.types false in
theorem main_same : Cert.SsdIn.main (F := Bits) = Cert.SsdInIdeal.main (F := Bits) := rfl

set_option backward.isDefEq.respectTransparency.types false in
theorem bits_frame : Cert.quiescent_SsdIn := fun m g _ => by
  rw [defs_same, main_same]
  exact (θ_run (Cert.SsdInIdeal.defs (F := Bits)) _ _).mono (fun _ h => ⟨fun c => (h.1 c).2, h.2⟩) (Cert.Proof.Proj.SsdInIdeal.run_values (F := Bits) m g)

theorem ideal_frame : Cert.quiescent_SsdInIdeal := fun m g _ =>
  (θ_run Cert.SsdInIdeal.defs _ _).mono (fun _ h => ⟨fun c => (h.1 c).2, h.2⟩) (Cert.Proof.Proj.SsdInIdeal.run_values m g)

theorem wide_eq (m : (ℓ : Loc Cert.SsdInIdeal.nD Cert.SsdInIdeal.τ Cert.SsdInIdeal.sig) → Buf (Elt Ideal) ℓ) (c : Dev Cert.SsdInIdeal.nD) :
    Cert.SsdInReferenceIdeal.Read.val_main_v25 (F := Ideal)
        (m ((c.tc : Thread Cert.SsdInIdeal.nD Cert.SsdInIdeal.τ).loc Cert.SsdInIdeal.main_arg0))
        (m ((c.tc : Thread Cert.SsdInIdeal.nD Cert.SsdInIdeal.τ).loc Cert.SsdInIdeal.main_arg1))
        (m ((c.tc : Thread Cert.SsdInIdeal.nD Cert.SsdInIdeal.τ).loc Cert.SsdInIdeal.main_arg2))
        (m ((c.tc : Thread Cert.SsdInIdeal.nD Cert.SsdInIdeal.τ).loc Cert.SsdInIdeal.main_arg3))
        (m ((c.tc : Thread Cert.SsdInIdeal.nD Cert.SsdInIdeal.τ).loc Cert.SsdInIdeal.main_arg4))
      = (Cert.Proof.Proj.SsdInIdeal.dats m 0 c).arrAt 6 Cert.SsdInIdeal.cfg0.N := by
  funext i
  obtain ⟨p, r, q, j, h0, h1⟩ := place (A := 16384) (B := 10240) (M := 1024) (N := 512) (P := 16) (Q := 20) (by decide) (by decide) rfl rfl i
  have ei : i = (ValueIdx.ix2 (rowOf p r) (colOf q j) : (⟨2, ![16384, 10240]⟩ : Shape).Idx) := by
    funext a
    match a with
    | ⟨0, _⟩ => exact Fin.ext h0
    | ⟨1, _⟩ => exact Fin.ext h1
  rw [ei]
  exact (reference_wide _ _ _ _ _ (rowOf p r) (colOf q j)).trans (result_wide p q m c r j).symm

theorem narrow_eq (m : (ℓ : Loc Cert.SsdInIdeal.nD Cert.SsdInIdeal.τ Cert.SsdInIdeal.sig) → Buf (Elt Ideal) ℓ) (c : Dev Cert.SsdInIdeal.nD) :
    Cert.SsdInReferenceIdeal.Read.val_main_v27 (F := Ideal)
        (m ((c.tc : Thread Cert.SsdInIdeal.nD Cert.SsdInIdeal.τ).loc Cert.SsdInIdeal.main_arg0))
        (m ((c.tc : Thread Cert.SsdInIdeal.nD Cert.SsdInIdeal.τ).loc Cert.SsdInIdeal.main_arg1))
        (m ((c.tc : Thread Cert.SsdInIdeal.nD Cert.SsdInIdeal.τ).loc Cert.SsdInIdeal.main_arg2))
        (m ((c.tc : Thread Cert.SsdInIdeal.nD Cert.SsdInIdeal.τ).loc Cert.SsdInIdeal.main_arg3))
        (m ((c.tc : Thread Cert.SsdInIdeal.nD Cert.SsdInIdeal.τ).loc Cert.SsdInIdeal.main_arg4))
      = (Cert.Proof.Proj.SsdInIdeal.dats m 0 c).arrAt 7 Cert.SsdInIdeal.cfg0.N := by
  funext i
  obtain ⟨p, r, q, j, h0, h1⟩ := place (A := 16384) (B := 128) (M := 1024) (N := 128) (P := 16) (Q := 1) (by decide) (by decide) rfl rfl i
  have ei : i = (ValueIdx.ix2 (rowOf p r) j : (⟨2, ![16384, 128]⟩ : Shape).Idx) := by
    have hq := q.isLt
    funext a
    match a with
    | ⟨0, _⟩ => exact Fin.ext h0
    | ⟨1, _⟩ => exact Fin.ext (by show (i 1).val = j.val; omega)
  rw [ei]
  exact (reference_narrow _ _ _ _ _ (rowOf p r) j).trans (result_narrow p m c r j).symm

/-- Over the reals the call and its reference end with the same two results. -/
theorem algebraic : Cert.algebraic_SsdInIdeal_SsdInReferenceIdeal := by
  intro m g m' g' hpre hagree
  refine ⟨fun c => (Cert.Proof.Proj.SsdInIdeal.dats m 0 c).arrAt 6 Cert.SsdInIdeal.cfg0.N, fun c => (Cert.Proof.Proj.SsdInIdeal.dats m 0 c).arrAt 7 Cert.SsdInIdeal.cfg0.N,
    (θ_run Cert.SsdInIdeal.defs _ _).mono (fun _ h c => ⟨(h.1 c).1.1, (h.1 c).1.2, (h.1 c).2⟩) (Cert.Proof.Proj.SsdInIdeal.run_values m g), ?_⟩
  refine (θ_run Cert.SsdInReferenceIdeal.defs _ _).mono (fun _ h c => ⟨(h c).1.trans ?_, (h c).2.1.trans ?_, (h c).2.2⟩) (Cert.SsdInReferenceIdeal.Value.run (F := Ideal) m' g')
  · rw [Cert.SsdInReferenceIdeal.Read.val_main_v25_eq, (hagree c).1, (hagree c).2.1, (hagree c).2.2.1, (hagree c).2.2.2.1, (hagree c).2.2.2.2]
    exact wide_eq m c
  · rw [Cert.SsdInReferenceIdeal.Read.val_main_v27_eq, (hagree c).1, (hagree c).2.1, (hagree c).2.2.1, (hagree c).2.2.2.1, (hagree c).2.2.2.2]
    exact narrow_eq m c

end Cert.Proof.Proj.SsdIn

namespace Cert.Proof.Proj.Gated

/-- The reference ends at rest: it declares no semaphore. -/
theorem reference_frame : Cert.quiescent_GatedReferenceIdeal := fun m g _ =>
  (θ_run Cert.GatedReferenceIdeal.defs _ _).mono (fun r h => ⟨fun c => (h c).2, Idealize.ShloMosaic.sem_eq_zero_of_no_sems (by decide) r.2⟩)
    (Cert.GatedReferenceIdeal.Value.run (F := Ideal) m g)

theorem result_eq (m : (ℓ : Loc Cert.GatedIdeal.nD Cert.GatedIdeal.τ Cert.GatedIdeal.sig) → Buf (Elt Ideal) ℓ) (c : Dev Cert.GatedIdeal.nD) :
    Cert.GatedReferenceIdeal.Read.val_main_v26 (F := Ideal)
        (m ((c.tc : Thread Cert.GatedIdeal.nD Cert.GatedIdeal.τ).loc Cert.GatedIdeal.main_arg0))
        (m ((c.tc : Thread Cert.GatedIdeal.nD Cert.GatedIdeal.τ).loc Cert.GatedIdeal.main_arg1))
      = (Cert.GatedIdeal.Gen.dats m 0 c).arrAt 3 Cert.GatedIdeal.cfg0.N := by
  funext i
  obtain ⟨p, r, q, j, h0, h1⟩ := place (A := 16384) (B := 1024) (M := 1024) (N := 512) (P := 16) (Q := 2) (by decide) (by decide) rfl rfl i
  have ei : i = (ValueIdx.ix2 (rowOf p r) (colOf q j) : (⟨2, ![16384, 1024]⟩ : Shape).Idx) := by
    funext a
    match a with
    | ⟨0, _⟩ => exact Fin.ext h0
    | ⟨1, _⟩ => exact Fin.ext h1
  rw [ei]
  exact (reference_apply _ _ (rowOf p r) (colOf q j)).trans (result_apply p q m c r j).symm

/-- Over the reals the call and its reference end with one result. -/
theorem algebraic : Cert.algebraic_GatedIdeal_GatedReferenceIdeal := by
  intro m g m' g' hpre hagree
  refine ⟨fun c => (Cert.GatedIdeal.Gen.dats m 0 c).arrAt 3 Cert.GatedIdeal.cfg0.N, Cert.GatedIdeal.Value.run_blocks m g, ?_⟩
  refine (θ_run Cert.GatedReferenceIdeal.defs _ _).mono (fun _ h c => ⟨(h c).1.trans ?_, (h c).2⟩) (Cert.GatedReferenceIdeal.Value.run (F := Ideal) m' g')
  rw [Cert.GatedReferenceIdeal.Read.val_main_v26_eq, (hagree c).1, (hagree c).2]
  exact result_eq m c

end Cert.Proof.Proj.Gated

end
-- ==== Proof.Proj.Modulation.lean ====
/- The modulation's projection: the call and the reference, both read at a layer's half, a row and a column. -/
module

public import proofs.«01_k».proof.Defs
public import proofs.«01_k».proof.Proof.Gen.ModulationIdeal.Frame
public import proofs.«01_k».proof.Proof.Gen.ModulationReferenceIdeal.Read
public import proofs.«01_k».proof.Proof.Gen.ModulationReferenceIdeal.Run
public import proofs.«01_k».proof.Proof.Proj.Spec
public import Idealize.ShloMosaic.Lib.VecWindow
public import Idealize.ShloMosaic.Lib.Routing.OpsSet
public import Idealize.ShloMosaic.Lib.Pipeline.Value

@[expose] public section

set_option maxRecDepth 16384

noncomputable section

namespace Cert.Proof.Proj.Modulation

open Idealize.ShloMosaic
open scoped BigOperators

/-- An element times its own logistic. -/
def silu (y : EReal) : EReal := y * Ideal.logistic y

/-- A row of the conditioning after the unit, times a column of one of the two matrices, plus the bias. -/
def modulated (x : (⟨2, ![4, 2048]⟩ : Shape).Idx → EReal) (w : (⟨3, ![2, 2048, 12288]⟩ : Shape).Idx → EReal) (b : (⟨2, ![2, 12288]⟩ : Shape).Idx → EReal)
    (i : Fin 2) (r : Fin 4) (j : Fin 12288) : EReal :=
  (∑ k : Fin 2048, silu (x (ValueIdx.ix2 r k)) * w (ValueIdx.ix3 i k j)) + b (ValueIdx.ix2 i j)

end Cert.Proof.Proj.Modulation

namespace Cert.Proof.Proj.Modulation

open Cert.ModulationIdeal Cert.ModulationIdeal.Gen
open Idealize.ShloMosaic Idealize.ShloMosaic.TcCoe Idealize.SL.Sem
open scoped BigOperators

theorem hz2 : (![0, 0] : Fin 2 → Nat) = fun _ => 0 := by decide
theorem hz3 : (![0, 0, 0] : Fin 3 → Nat) = fun _ => 0 := by decide

theorem dot_eq : dot_S8x2048_S2048x1024_S8x1024_1_0_0_1_n_n = DotDims.plain 8 2048 1024 := rfl

/-- A product into a zero accumulator, at the higher precision. -/
theorem matmul_zero_f32 {M K N : Nat} (x : FVec Ideal ⟨2, ![M, K]⟩ .f32) (w : FVec Ideal ⟨2, ![K, N]⟩ .f32) (r : Fin M) (j : Fin N) :
    matmul (DotDims.plain M K N) (some .fp32) x w (constant ⟨2, ![M, N]⟩ .f32 0x00000000#32) (ValueIdx.ix2 r j) = prod x w r j := by
  simp only [matmul]
  rw [Ideal.matmul_plain_apply]
  show Ideal.ofBits .f32 0x00000000#32 + _ = _
  rw [Ideal.ofBits_zero_f32, zero_add]
  rfl

/-- What a point stores, at a row and a column. -/
theorem stored_apply (x : FVec Ideal S8x2048 .f32) (w : FVec Ideal S1x2048x1024 .f32) (b : FVec Ideal S1x1x1024 .f32) (r : Fin 8) (j : Fin 1024) :
    k0_pay1 (F := Ideal) x w b (ValueIdx.ix3 0 r j) = (∑ k : Fin 2048, silu (x (ValueIdx.ix2 r k)) * w (ValueIdx.ix3 0 k j)) + b (ValueIdx.ix3 0 0 j) := by
  unfold k0_pay1
  rw [same_cast, dot_eq]
  refine (shapeCast_apply _ shapeCasts_S8x1024_S1x8x1024 (ValueIdx.ix3 0 r j) (ValueIdx.ix2 r j) ?_).trans ?_
  · rw [Shape.rowMajor_val_three, Shape.rowMajor_val_two]
    show r.val * 1024 + j.val = (0 * 8 + r.val) * 1024 + j.val
    omega
  refine congrArg₂ (fun y z : EReal => y + z) ((matmul_zero_f32 _ _ r j).trans ?_) (gate_cast (by decide) b _ _ r j)
  refine Finset.sum_congr rfl fun k _ => congrArg₂ (fun y z : EReal => y * z) rfl ?_
  refine shapeCast_apply w shapeCasts_S1x2048x1024_S2048x1024 (ValueIdx.ix2 k j) (ValueIdx.ix3 0 k j) ?_
  rw [Shape.rowMajor_val_three, Shape.rowMajor_val_two]
  show (0 * 2048 + k.val) * 1024 + j.val = k.val * 1024 + j.val
  omega

/-! ## The tiles -/

/-- The grid point of half `i` and column block `q`. -/
def point (i : Fin 2) (q : Fin 12) : Fin cfg0.N := ⟨12 * i.val + q.val, by show 12 * i.val + q.val < 24; omega⟩
def colOf (q : Fin 12) (j : Fin 1024) : Fin 12288 := ⟨1024 * q.val + j.val, by omega⟩
/-- A row of the conditioning among the rows it is filled up to. -/
def rowIn (r : Fin 4) : Fin 8 := ⟨r.val, by omega⟩

theorem idx0 : ∀ t : Fin cfg0.N, win0_0.index t (0 : Fin 2) = 0 ∧ win0_0.index t (1 : Fin 2) = 0 := (by decide +kernel : ∀ t : Fin grid0.N, _)
theorem idx1 : ∀ t : Fin cfg0.N, win0_1.index t (0 : Fin 3) = t.val / 12 ∧ win0_1.index t (1 : Fin 3) = 0 ∧ win0_1.index t (2 : Fin 3) = t.val % 12 := (by decide +kernel : ∀ t : Fin grid0.N, _)
theorem idx2 : ∀ t : Fin cfg0.N, win0_2.index t (0 : Fin 3) = t.val / 12 ∧ win0_2.index t (1 : Fin 3) = 0 ∧ win0_2.index t (2 : Fin 3) = t.val % 12 := (by decide +kernel : ∀ t : Fin grid0.N, _)
theorem idx3 : ∀ t : Fin cfg0.N, win0_3.index t (0 : Fin 3) = t.val / 12 ∧ win0_3.index t (1 : Fin 3) = 0 ∧ win0_3.index t (2 : Fin 3) = t.val % 12 := (by decide +kernel : ∀ t : Fin grid0.N, _)

theorem idx_inj3 : ∀ t t' : Fin cfg0.N, win0_3.index t = win0_3.index t' → t = t' :=
  (by decide +kernel : ∀ t t' : Fin grid0.N, win0_3.index t = win0_3.index t' → t = t')

/-- No two points write into one block. -/
theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

variable (i : Fin 2) (q : Fin 12)

theorem point_div : (point i q).val / 12 = i.val := by show (12 * i.val + q.val) / 12 = i.val; omega
theorem point_mod : (point i q).val % 12 = q.val := by show (12 * i.val + q.val) % 12 = q.val; omega

theorem emb0 (r : Fin 8) (k : Fin 2048) :
    ((cfg0.win 0).blk (point i q)).view.emb (ValueIdx.ix2 r k : S8x2048.Idx) = (ValueIdx.ix2 r k : S8x2048.Idx) := by
  obtain ⟨e0, e1⟩ := idx0 (point i q)
  funext a; apply Fin.ext
  match a with
  | ⟨0, _⟩ => show win0_0.index (point i q) (0 : Fin 2) * 8 + 1 * r.val = r.val; omega
  | ⟨1, _⟩ => show win0_0.index (point i q) (1 : Fin 2) * 2048 + 1 * k.val = k.val; omega

theorem emb1 (k : Fin 2048) (j : Fin 1024) :
    ((cfg0.win 1).blk (point i q)).view.emb (ValueIdx.ix3 0 k j : S1x2048x1024.Idx) = (ValueIdx.ix3 i k (colOf q j) : S2x2048x12288.Idx) := by
  obtain ⟨e0, e1, e2⟩ := idx1 (point i q)
  rw [point_div] at e0
  rw [point_mod] at e2
  funext a; apply Fin.ext
  match a with
  | ⟨0, _⟩ => show win0_1.index (point i q) (0 : Fin 3) * 1 + 1 * 0 = i.val; omega
  | ⟨1, _⟩ => show win0_1.index (point i q) (1 : Fin 3) * 2048 + 1 * k.val = k.val; omega
  | ⟨2, _⟩ => show win0_1.index (point i q) (2 : Fin 3) * 1024 + 1 * j.val = 1024 * q.val + j.val; omega

theorem emb2 (j : Fin 1024) :
    ((cfg0.win 2).blk (point i q)).view.emb (ValueIdx.ix3 0 0 j : S1x1x1024.Idx) = (ValueIdx.ix3 i 0 (colOf q j) : S2x1x12288.Idx) := by
  obtain ⟨e0, e1, e2⟩ := idx2 (point i q)
  rw [point_div] at e0
  rw [point_mod] at e2
  funext a; apply Fin.ext
  match a with
  | ⟨0, _⟩ => show win0_2.index (point i q) (0 : Fin 3) * 1 + 1 * 0 = i.val; omega
  | ⟨1, _⟩ => show win0_2.index (point i q) (1 : Fin 3) * 1 + 1 * 0 = 0; omega
  | ⟨2, _⟩ => show win0_2.index (point i q) (2 : Fin 3) * 1024 + 1 * j.val = 1024 * q.val + j.val; omega

theorem emb3 (r : Fin 8) (j : Fin 1024) :
    ((cfg0.win 3).blk (point i q)).view.emb (ValueIdx.ix3 0 r j : S1x8x1024.Idx) = (ValueIdx.ix3 i r (colOf q j) : S2x8x12288.Idx) := by
  obtain ⟨e0, e1, e2⟩ := idx3 (point i q)
  rw [point_div] at e0
  rw [point_mod] at e2
  funext a; apply Fin.ext
  match a with
  | ⟨0, _⟩ => show win0_3.index (point i q) (0 : Fin 3) * 1 + 1 * 0 = i.val; omega
  | ⟨1, _⟩ => show win0_3.index (point i q) (1 : Fin 3) * 8 + 1 * r.val = r.val; omega
  | ⟨2, _⟩ => show win0_3.index (point i q) (2 : Fin 3) * 1024 + 1 * j.val = 1024 * q.val + j.val; omega

/-! ## The rows filled up to a tile -/

/-- Every row written at the start of the zeros lands at its own index. -/
theorem lands (idx : IVec S1 32) (h : ∀ e, idx e = 0#32) (k : S4x2048.Idx) :
    scatter_S8x2048_S1_S4x2048_01_n_0_0.resultIdx? k idx = some (ValueIdx.ix2 (rowIn (k 0)) (k 1) : S8x2048.Idx) := by
  have hs : ∀ a, scatter_S8x2048_S1_S4x2048_01_n_0_0.start k idx a = 0 := fun a => by
    unfold ScatterDims.start
    split
    · rw [h]; rfl
    · rfl
  have hw : ∀ a, scatter_S8x2048_S1_S4x2048_01_n_0_0.window k a = ((ValueIdx.ix2 (rowIn (k 0)) (k 1) : S8x2048.Idx) a).val := fun a =>
    match a with
    | ⟨0, _⟩ => rfl
    | ⟨1, _⟩ => rfl
  have hb : ∀ a, 0 ≤ scatter_S8x2048_S1_S4x2048_01_n_0_0.start k idx a + scatter_S8x2048_S1_S4x2048_01_n_0_0.window k a
      ∧ scatter_S8x2048_S1_S4x2048_01_n_0_0.start k idx a + scatter_S8x2048_S1_S4x2048_01_n_0_0.window k a < S8x2048.size a := fun a => by
    rw [hs, hw, zero_add]
    exact ⟨Int.natCast_nonneg _, Int.ofNat_lt.2 ((ValueIdx.ix2 (rowIn (k 0)) (k 1) : S8x2048.Idx) a).isLt⟩
  unfold ScatterDims.resultIdx?
  rw [dif_pos hb]
  refine congrArg some (funext fun a => Fin.ext ?_)
  show (scatter_S8x2048_S1_S4x2048_01_n_0_0.start k idx a + scatter_S8x2048_S1_S4x2048_01_n_0_0.window k a).toNat = _
  rw [hs, hw]
  omega

variable (m : (ℓ : Loc nD τ sig) → Buf (Elt Ideal) ℓ) (c : Dev nD)

theorem V_rows (r : Fin 4) (k : Fin 2048) :
    V m c main_v2 (ValueIdx.ix2 (rowIn r) k : S8x2048.Idx) = m ((c : Thread nD τ).loc main_arg0) (ValueIdx.ix2 r k : S4x2048.Idx) := by
  have h : ∃ (x : S8x2048.Idx → EReal) (idx : IVec S1 32), (∀ e, idx e = 0#32) ∧
      V m c main_v2 = Host.scatter scatter_S8x2048_S1_S4x2048_01_n_0_0 (fun _ b => b) x idx (m ((c : Thread nD τ).loc main_arg0)) := by
    refine ⟨broadcastInDim S8x2048 ![] bcast_S_S8x2048 (constant (F := Ideal) S_ .f32 0x00000000#32), broadcastInDim S1 ![] bcast_S_S1 (constantI S_ 32 0#32), fun _ => rfl, ?_⟩
    show StableHlo.after hostOps0 _ (Proc.devRef .tc main_v2) = _
    after_results
  obtain ⟨x, idx, hi, h⟩ := h
  rw [h]
  refine Routing.scatter_set_hit _ x idx _ _ _ (fun e he => ?_) (ValueIdx.ix2 r k : S4x2048.Idx) (lands idx hi _)
  have he' := Option.some.inj ((lands idx hi e).symm.trans he)
  refine congrArg (m ((c : Thread nD τ).loc main_arg0)) (funext fun a => Fin.ext ?_)
  match a with
  | ⟨0, _⟩ => exact congrArg (fun y : S8x2048.Idx => (y 0).val) he'
  | ⟨1, _⟩ => exact congrArg (fun y : S8x2048.Idx => (y 1).val) he'

theorem V_bias (j : Fin 12288) :
    V m c main_v3 (ValueIdx.ix3 i 0 j : S2x1x12288.Idx) = m ((c : Thread nD τ).loc main_arg2) (ValueIdx.ix2 i j : S2x12288.Idx) := by
  have h : V m c main_v3 = shapeCast S2x1x12288 (m ((c : Thread nD τ).loc main_arg2)) shapeCasts_S2x12288_S2x1x12288 := by
    show StableHlo.after hostOps0 _ (Proc.devRef .tc main_v3) = _
    after_results
    rfl
  rw [h]
  refine shapeCast_apply (m ((c : Thread nD τ).loc main_arg2)) shapeCasts_S2x12288_S2x1x12288 (ValueIdx.ix3 i 0 j) (ValueIdx.ix2 i j) ?_
  rw [Shape.rowMajor_val_three]
  refine (Shape.rowMajor_val_two (ValueIdx.ix2 i j : S2x12288.Idx)).trans ?_
  show i.val * 12288 + j.val = (i.val * 1 + 0) * 12288 + j.val
  omega

theorem block0 (r : Fin 4) (k : Fin 2048) :
    iblk m c 0 (point i q) (ValueIdx.ix2 (rowIn r) k : S8x2048.Idx) = m ((c : Thread nD τ).loc main_arg0) (ValueIdx.ix2 r k : S4x2048.Idx) := by
  show V m c main_v2 (((cfg0.win 0).blk (point i q)).view.emb (ValueIdx.ix2 (rowIn r) k : S8x2048.Idx)) = _
  rw [emb0, V_rows]
theorem block1 (k : Fin 2048) (j : Fin 1024) :
    iblk m c 1 (point i q) (ValueIdx.ix3 0 k j : S1x2048x1024.Idx) = m ((c : Thread nD τ).loc main_arg1) (ValueIdx.ix3 i k (colOf q j) : S2x2048x12288.Idx) := by
  show V m c main_arg1 (((cfg0.win 1).blk (point i q)).view.emb (ValueIdx.ix3 0 k j : S1x2048x1024.Idx)) = _
  rw [emb1, V_main_arg1]
theorem block2 (j : Fin 1024) :
    iblk m c 2 (point i q) (ValueIdx.ix3 0 0 j : S1x1x1024.Idx) = m ((c : Thread nD τ).loc main_arg2) (ValueIdx.ix2 i (colOf q j) : S2x12288.Idx) := by
  show V m c main_v3 (((cfg0.win 2).blk (point i q)).view.emb (ValueIdx.ix3 0 0 j : S1x1x1024.Idx)) = _
  rw [emb2, V_bias]

/-- What a point writes back. -/
theorem flushed3 (t : Fin cfg0.N) :
    (dats m 0 c).flushed 3 t = (cfg0.win 3).cut (grid0.coords t) (k0_pay1 (iblk m c 0 t) (iblk m c 1 t) (iblk m c 2 t)) := by
  show (cfg0.win 3).cut (grid0.coords t) ((dats m 0 c).after 3 t) = _
  rw [after0_3]
  refine congrArg _ ?_
  unfold out0_3
  refine (View.canon_unit_zero hz3 _ _).trans ?_
  exact congr (congrArg₂ k0_pay1 (View.ld_unit_zero hz2 _ _) (View.ld_unit_zero hz3 _ _)) (View.ld_unit_zero hz3 _ _)

/-- The call's array at a half, a row and a column. -/
theorem array_apply (r : Fin 4) (j : Fin 1024) :
    (dats m 0 c).arrAt 3 cfg0.N (ValueIdx.ix3 i (rowIn r) (colOf q j) : S2x8x12288.Idx)
      = modulated (m ((c : Thread nD τ).loc main_arg0)) (m ((c : Thread nD τ).loc main_arg1)) (m ((c : Thread nD τ).loc main_arg2)) i r (colOf q j) := by
  rw [← emb3 i q (rowIn r) j]
  refine ((dats m 0 c).arrAt_emb_eq_flushed 3 disjoint3 (point i q) (flush0_3 _) _).trans ?_
  rw [flushed3]
  refine (stored_apply _ _ _ (rowIn r) j).trans ?_
  refine congrArg₂ (fun x y : EReal => x + y) (Finset.sum_congr rfl fun k _ => ?_) (block2 i q m c j)
  exact congrArg₂ (fun x y : EReal => x * y) (congrArg silu (block0 i q m c r k)) (block1 i q m c k j)

/-- What the operation after the call leaves. -/
def tail : Buf (Elt Ideal) ((c.tc : Thread nD τ).loc main_v5) :=
  Pipeline.afterTail₀ cfgs (dats m) 0 (V0 m) [hostOps1] c main_v5

/-- The result at a half, a row and a column. -/
theorem result_apply (r : Fin 4) (j : Fin 1024) :
    tail m c (ValueIdx.ix3 i r (colOf q j) : S2x4x12288.Idx)
      = modulated (m ((c : Thread nD τ).loc main_arg0)) (m ((c : Thread nD τ).loc main_arg1)) (m ((c : Thread nD τ).loc main_arg2)) i r (colOf q j) := by
  have h : tail m c = extractStridedSlice S2x4x12288 ![0, 0, 0] ((dats m 0 c).arrAt 3 cfg0.N) slices_S2x8x12288_S2x4x12288_0_0_0 := by
    have hA := Pipeline.withArrays_arr spec0 launch0.win.arr_inj c (V0 m c) (fun w => (dats m 0 c).arrAt w cfg0.N) 3
    unfold tail Pipeline.afterTail₀
    show StableHlo.after hostOps1 _ (Proc.devRef .tc main_v5) = _
    after_results
    exact congrArg (fun y => extractStridedSlice S2x4x12288 ![0, 0, 0] y slices_S2x8x12288_S2x4x12288_0_0_0) hA
  rw [h]
  refine (extractStridedSlice_apply _ ((dats m 0 c).arrAt 3 cfg0.N) slices_S2x8x12288_S2x4x12288_0_0_0 (ValueIdx.ix3 i r (colOf q j)) (ValueIdx.ix3 i (rowIn r) (colOf q j))
    (fun a => match a with
      | ⟨0, _⟩ => by show i.val = 0 + i.val; omega
      | ⟨1, _⟩ => by show r.val = 0 + r.val; omega
      | ⟨2, _⟩ => by show 1024 * q.val + j.val = 0 + (1024 * q.val + j.val); omega)).trans ?_
  exact array_apply i q m c r j

/-- Every execution ends with that result and the arguments as they were. -/
theorem run_values (ρ : Dev nD → PrngReg) : θ_run defs (onTc (τ := τ) (main (F := Ideal))) ⟨m, fun _ => 0, ρ⟩ fun r => ∀ c : Dev nD,
      r.2.mem ((c.tc : Thread nD τ).loc main_v5) = tail m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).2 main_v5 (Pipeline.mem_restRefs_of main_v5 (by decide) (by decide)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.Proof.Proj.Modulation

namespace Cert.Proof.Proj.Modulation

open Cert.ModulationReferenceIdeal Cert.ModulationReferenceIdeal.Gen Cert.ModulationReferenceIdeal.Read
open Idealize.ShloMosaic
open scoped BigOperators

variable (x : S4x2048.Idx → EReal) (w : S2x2048x12288.Idx → EReal) (b : S2x12288.Idx → EReal)

/-- The conditioning after the unit. -/
theorem unit_apply (r : Fin 4) (k : Fin 2048) : val_main_v0 (F := Ideal) x (ValueIdx.ix2 r k) = silu (x (ValueIdx.ix2 r k)) := by
  rw [val_main_v0_apply, val_main_call0_v5_apply, val_main_call0_v4_apply, val_main_call0_cst_0_apply, val_main_call0_v3_apply, val_main_call0_v2_apply,
    val_main_call0_cst_apply, val_main_call0_v1_apply, val_main_call0_v0_apply]
  generalize x (ValueIdx.ix2 r k) = z
  show z * Ideal.div (Ideal.ofBits .f32 0x3F800000#32) (Ideal.ofBits .f32 0x3F800000#32 + Ideal.exp (-z)) = _
  rw [Ideal.ofBits_one_f32]
  rfl

theorem first_apply (r : Fin 4) (j : Fin 12288) : val_main_v8 (F := Ideal) x w b (ValueIdx.ix2 r j) = modulated x w b 0 r j := by
  have hj := j.isLt
  rw [val_main_v8_apply]
  refine congrArg₂ (fun y z : EReal => y + z) ?_ ?_
  · rw [val_main_v3_apply]
    refine Finset.sum_congr rfl fun k _ => ?_
    have hk := k.isLt
    have el : lidx_main_v3 (ValueIdx.ix2 r j) k = ValueIdx.ix2 r k := by
      funext a
      match a with
      | ⟨0, _⟩ => rfl
      | ⟨1, _⟩ => rfl
    rw [el, unit_apply, val_main_v2_apply, val_main_v1_apply]
    refine congrArg (fun y : EReal => silu (x (ValueIdx.ix2 r k)) * y) (congrArg w (funext fun a => Fin.ext ?_))
    match a with
    | ⟨0, _⟩ => rfl
    | ⟨1, _⟩ => show (k.val * 12288 + j.val) / 12288 % 2048 = k.val; omega
    | ⟨2, _⟩ => show (k.val * 12288 + j.val) % 12288 = j.val; omega
  · rw [val_main_v7_apply, val_main_v6_apply, val_main_v5_apply, val_main_v4_apply]
    refine congrArg b (funext fun a => Fin.ext ?_)
    match a with
    | ⟨0, _⟩ => rfl
    | ⟨1, _⟩ => show j.val % 12288 = j.val; omega

theorem second_apply (r : Fin 4) (j : Fin 12288) : val_main_v16 (F := Ideal) x w b (ValueIdx.ix2 r j) = modulated x w b 1 r j := by
  have hj := j.isLt
  rw [val_main_v16_apply]
  refine congrArg₂ (fun y z : EReal => y + z) ?_ ?_
  · rw [val_main_v11_apply]
    refine Finset.sum_congr rfl fun k _ => ?_
    have hk := k.isLt
    have el : lidx_main_v11 (ValueIdx.ix2 r j) k = ValueIdx.ix2 r k := by
      funext a
      match a with
      | ⟨0, _⟩ => rfl
      | ⟨1, _⟩ => rfl
    rw [el, unit_apply, val_main_v10_apply, val_main_v9_apply]
    refine congrArg (fun y : EReal => silu (x (ValueIdx.ix2 r k)) * y) (congrArg w (funext fun a => Fin.ext ?_))
    match a with
    | ⟨0, _⟩ => rfl
    | ⟨1, _⟩ => show (k.val * 12288 + j.val) / 12288 % 2048 = k.val; omega
    | ⟨2, _⟩ => show (k.val * 12288 + j.val) % 12288 = j.val; omega
  · rw [val_main_v15_apply, val_main_v14_apply, val_main_v13_apply, val_main_v12_apply]
    refine congrArg b (funext fun a => Fin.ext ?_)
    match a with
    | ⟨0, _⟩ => rfl
    | ⟨1, _⟩ => show j.val % 12288 = j.val; omega

/-- The reference at a half, a row and a column. -/
theorem reference_apply (i : Fin 2) (r : Fin 4) (j : Fin 12288) : val_main_v19 (F := Ideal) x w b (ValueIdx.ix3 i r j) = modulated x w b i r j := by
  unfold val_main_v19
  match i with
  | ⟨0, _⟩ =>
    refine (concatenate_pair_apply_left 0 _ _ Facts₀.concatenates_S1x4x12288_S1x4x12288_S2x4x12288_d0 _ rfl (ValueIdx.ix3 0 r j) (fun a => ?_)).trans ?_
    · match a with
      | ⟨0, _⟩ => rfl
      | ⟨1, _⟩ => rfl
      | ⟨2, _⟩ => rfl
    · have ei : idx_main_v17 (ValueIdx.ix3 0 r j) = ValueIdx.ix2 r j := by
        funext a
        match a with
        | ⟨0, _⟩ => rfl
        | ⟨1, _⟩ => rfl
      rw [val_main_v17_apply, ei]
      exact first_apply x w b r j
  | ⟨1, _⟩ =>
    refine (concatenate_pair_apply_right 0 _ _ Facts₀.concatenates_S1x4x12288_S1x4x12288_S2x4x12288_d0 _ rfl rfl (ValueIdx.ix3 0 r j) (fun a ha => ?_) ?_).trans ?_
    · match a with
      | ⟨0, _⟩ => exact absurd rfl ha
      | ⟨1, _⟩ => rfl
      | ⟨2, _⟩ => rfl
    · rfl
    · have ei : idx_main_v18 (ValueIdx.ix3 0 r j) = ValueIdx.ix2 r j := by
        funext a
        match a with
        | ⟨0, _⟩ => rfl
        | ⟨1, _⟩ => rfl
      rw [val_main_v18_apply, ei]
      exact second_apply x w b r j

end Cert.Proof.Proj.Modulation

namespace Cert.Proof.Proj.Modulation

open Idealize.ShloMosaic Idealize.ShloMosaic.TcCoe Idealize.SL.Sem

/-- The reference ends at rest: it declares no semaphore. -/
theorem reference_frame : Cert.quiescent_ModulationReferenceIdeal := fun m g _ =>
  (θ_run Cert.ModulationReferenceIdeal.defs _ _).mono (fun r h => ⟨fun c => (h c).2, Idealize.ShloMosaic.sem_eq_zero_of_no_sems (by decide) r.2⟩)
    (Cert.ModulationReferenceIdeal.Value.run (F := Ideal) m g)

theorem result_eq (m : (ℓ : Loc Cert.ModulationIdeal.nD Cert.ModulationIdeal.τ Cert.ModulationIdeal.sig) → Buf (Elt Ideal) ℓ) (c : Dev Cert.ModulationIdeal.nD) :
    Cert.ModulationReferenceIdeal.Read.val_main_v19 (F := Ideal)
        (m ((c.tc : Thread Cert.ModulationIdeal.nD Cert.ModulationIdeal.τ).loc Cert.ModulationIdeal.main_arg0))
        (m ((c.tc : Thread Cert.ModulationIdeal.nD Cert.ModulationIdeal.τ).loc Cert.ModulationIdeal.main_arg1))
        (m ((c.tc : Thread Cert.ModulationIdeal.nD Cert.ModulationIdeal.τ).loc Cert.ModulationIdeal.main_arg2))
      = tail m c := by
  funext e
  have h2 : (e 2).val < 12288 := (e 2).isLt
  have ee : e = (ValueIdx.ix3 (e 0) (e 1) (colOf ⟨(e 2).val / 1024, by omega⟩ ⟨(e 2).val % 1024, by omega⟩) : (⟨3, ![2, 4, 12288]⟩ : Shape).Idx) := by
    funext a
    match a with
    | ⟨0, _⟩ => rfl
    | ⟨1, _⟩ => rfl
    | ⟨2, _⟩ => exact Fin.ext (by show (e 2).val = 1024 * ((e 2).val / 1024) + (e 2).val % 1024; omega)
  rw [ee]
  exact (reference_apply _ _ _ (e 0) (e 1) _).trans (result_apply (e 0) _ m c (e 1) _).symm

/-- Over the reals the call and its reference end with one result. -/
theorem algebraic : Cert.algebraic_ModulationIdeal_ModulationReferenceIdeal := by
  intro m g m' g' hpre hagree
  refine ⟨fun c => tail m c, run_values m g, ?_⟩
  refine (θ_run Cert.ModulationReferenceIdeal.defs _ _).mono (fun _ h c => ⟨(h c).1.trans ?_, (h c).2⟩) (Cert.ModulationReferenceIdeal.Value.run (F := Ideal) m' g')
  rw [Cert.ModulationReferenceIdeal.Read.val_main_v19_eq, (hagree c).1, (hagree c).2.1, (hagree c).2.2]
  exact result_eq m c

end Cert.Proof.Proj.Modulation

end
-- ==== Proof.Proj.StatesRun.lean ====
/- The reference's run over one trip's step: at contents that hold a state every value of one trip is the step's, so the results are
   the last state's. -/
module

public import proofs.«01_k».proof.Proof.Gen.StatesReferenceIdeal.Run
public import proofs.«01_k».proof.Proof.Gen.StatesReferenceIdeal.Step

@[expose] public section

noncomputable section

namespace Cert.Proof.Proj.StatesRun

open Idealize.ShloMosaic Idealize.ShloMosaic.TcCoe Idealize.SL.Sem Idealize.ShloMosaic.StableHlo
open Cert.StatesReferenceIdeal Cert.StatesReferenceIdeal.Gen Cert.StatesReferenceIdeal.Value
open Cert.StatesReferenceIdeal.Step (State step init)

variable {F : FTy → Type} [FloatOps F]

variable (V0 : Valuation τ sig (Elt F)) (s : State F) (j : ℕ)

/-- The valuation holds the state, the set-up values and the trip's number. -/
structure Holds : Prop where
  f_4 : V0 (Proc.devRef .tc main_v4_4) = s.main_v4_4
  f_5 : V0 (Proc.devRef .tc main_v4_5) = s.main_v4_5
  f_6 : V0 (Proc.devRef .tc main_v4_6) = s.main_v4_6
  f_0 : V0 (Proc.devRef .tc main_v4_0) = s.main_v4_0
  f_1 : V0 (Proc.devRef .tc main_v4_1) = s.main_v4_1
  f_2 : V0 (Proc.devRef .tc main_v4_2) = s.main_v4_2
  n_3 : V0 (Proc.devRef .tc main_v4_3) = constantI S_ 32 (BitVec.ofNat 32 j)

variable {V0 s j}

set_option maxRecDepth 8192 in
theorem al_0 (h : Holds V0 s j) : (constantI S_ 32 0#32 : (Proc.devRef .tc main_while0b_call0_c : DevRef τ sig).ty.Contents (Elt F)) = Cert.StatesReferenceIdeal.Step.b0 j s := by
  unfold Cert.StatesReferenceIdeal.Step.b0
  rfl
set_option maxRecDepth 8192 in
theorem al_1 (h : Holds V0 s j) : (constantI S_ 32 0#32 : (Proc.devRef .tc main_while0b_call0_c_0 : DevRef τ sig).ty.Contents (Elt F)) = Cert.StatesReferenceIdeal.Step.b1 j s := by
  unfold Cert.StatesReferenceIdeal.Step.b1
  rfl
set_option maxRecDepth 8192 in
theorem al_2 (h : Holds V0 s j) : (constantI S_ 32 0#32 : (Proc.devRef .tc main_while0b_call0_c_1 : DevRef τ sig).ty.Contents (Elt F)) = Cert.StatesReferenceIdeal.Step.b2 j s := by
  unfold Cert.StatesReferenceIdeal.Step.b2
  rfl
set_option maxRecDepth 8192 in
theorem al_3 (h : Holds V0 s j) : (constantI S_ 32 0#32 : (Proc.devRef .tc main_while0b_call0_c_2 : DevRef τ sig).ty.Contents (Elt F)) = Cert.StatesReferenceIdeal.Step.b3 j s := by
  unfold Cert.StatesReferenceIdeal.Step.b3
  rfl
set_option maxRecDepth 8192 in
theorem al_4 (h : Holds V0 s j) : (Host.dynamicSlice S1x32x4x2x128 (V0 (Proc.devRef .tc main_v4_0)) (fun k => (((![V0 (Proc.devRef .tc main_v4_3), constantI S_ 32 0#32, constantI S_ 32 0#32, constantI S_ 32 0#32, constantI S_ 32 0#32] : Fin 5 → (⟨S_, .i32⟩ : BufTy).Contents (Elt F))) k (Shape.Idx.first h_S_)).toInt) sliceFits_S256x32x4x2x128_S1x32x4x2x128 : (Proc.devRef .tc main_while0b_call0_v0 : DevRef τ sig).ty.Contents (Elt F)) = Cert.StatesReferenceIdeal.Step.b4 j s := by
  unfold Cert.StatesReferenceIdeal.Step.b4
  rw [← al_0 h, ← al_1 h, ← al_2 h, ← al_3 h, h.f_0, h.n_3]
  try rfl
set_option maxRecDepth 8192 in
theorem al_5 (h : Holds V0 s j) : (res_main_while0b_v7 V0 : (Proc.devRef .tc main_while0b_v7 : DevRef τ sig).ty.Contents (Elt F)) = Cert.StatesReferenceIdeal.Step.b5 j s := by
  unfold res_main_while0b_v7 Cert.StatesReferenceIdeal.Step.b5
  rw [← al_4 h]
  try rfl
set_option maxRecDepth 8192 in
theorem al_6 (h : Holds V0 s j) : (broadcastInDim S32x4x128 ![0, 1, 2] bcast_S32x1x128_S32x4x128_0_1_2 (V0 (Proc.devRef .tc main_v4_1)) : (Proc.devRef .tc main_while0b_v8 : DevRef τ sig).ty.Contents (Elt F)) = Cert.StatesReferenceIdeal.Step.b6 j s := by
  unfold Cert.StatesReferenceIdeal.Step.b6
  rw [h.f_1]
  try rfl
set_option maxRecDepth 8192 in
theorem al_7 (h : Holds V0 s j) : (mulf (broadcastInDim S32x4x128 ![0, 1, 2] bcast_S32x1x128_S32x4x128_0_1_2 (V0 (Proc.devRef .tc main_v4_1))) (V0 (Proc.devRef .tc main_v4_4)) : (Proc.devRef .tc main_while0b_v9 : DevRef τ sig).ty.Contents (Elt F)) = Cert.StatesReferenceIdeal.Step.b7 j s := by
  unfold Cert.StatesReferenceIdeal.Step.b7
  rw [← al_6 h, h.f_4]
  try rfl
set_option maxRecDepth 8192 in
theorem al_8 (h : Holds V0 s j) : (broadcastInDim S32x4x128 ![0, 1, 2] bcast_S32x1x128_S32x4x128_0_1_2 (V0 (Proc.devRef .tc main_v4_2)) : (Proc.devRef .tc main_while0b_v10 : DevRef τ sig).ty.Contents (Elt F)) = Cert.StatesReferenceIdeal.Step.b8 j s := by
  unfold Cert.StatesReferenceIdeal.Step.b8
  rw [h.f_2]
  try rfl
set_option maxRecDepth 8192 in
theorem al_9 (h : Holds V0 s j) : (mulf (broadcastInDim S32x4x128 ![0, 1, 2] bcast_S32x1x128_S32x4x128_0_1_2 (V0 (Proc.devRef .tc main_v4_2))) (V0 (Proc.devRef .tc main_v4_5)) : (Proc.devRef .tc main_while0b_v11 : DevRef τ sig).ty.Contents (Elt F)) = Cert.StatesReferenceIdeal.Step.b9 j s := by
  unfold Cert.StatesReferenceIdeal.Step.b9
  rw [← al_8 h, h.f_5]
  try rfl
set_option maxRecDepth 8192 in
theorem al_10 (h : Holds V0 s j) : (subf (mulf (broadcastInDim S32x4x128 ![0, 1, 2] bcast_S32x1x128_S32x4x128_0_1_2 (V0 (Proc.devRef .tc main_v4_1))) (V0 (Proc.devRef .tc main_v4_4))) (mulf (broadcastInDim S32x4x128 ![0, 1, 2] bcast_S32x1x128_S32x4x128_0_1_2 (V0 (Proc.devRef .tc main_v4_2))) (V0 (Proc.devRef .tc main_v4_5))) : (Proc.devRef .tc main_while0b_v12 : DevRef τ sig).ty.Contents (Elt F)) = Cert.StatesReferenceIdeal.Step.b10 j s := by
  unfold Cert.StatesReferenceIdeal.Step.b10
  rw [← al_7 h, ← al_9 h]
  try rfl
set_option maxRecDepth 8192 in
theorem al_11 (h : Holds V0 s j) : (extractStridedSlice S32x4x1x128 ![0, 0, 0, 0] (res_main_while0b_v7 V0) slices_S32x4x2x128_S32x4x1x128_0_0_0_0 : (Proc.devRef .tc main_while0b_v13 : DevRef τ sig).ty.Contents (Elt F)) = Cert.StatesReferenceIdeal.Step.b11 j s := by
  unfold Cert.StatesReferenceIdeal.Step.b11
  rw [← al_5 h]
  try rfl
set_option maxRecDepth 8192 in
theorem al_12 (h : Holds V0 s j) : (shapeCast S32x4x128 (extractStridedSlice S32x4x1x128 ![0, 0, 0, 0] (res_main_while0b_v7 V0) slices_S32x4x2x128_S32x4x1x128_0_0_0_0) shapeCasts_S32x4x1x128_S32x4x128 : (Proc.devRef .tc main_while0b_v14 : DevRef τ sig).ty.Contents (Elt F)) = Cert.StatesReferenceIdeal.Step.b12 j s := by
  unfold Cert.StatesReferenceIdeal.Step.b12
  rw [← al_11 h]
  try rfl
set_option maxRecDepth 8192 in
theorem al_13 (h : Holds V0 s j) : (addf (subf (mulf (broadcastInDim S32x4x128 ![0, 1, 2] bcast_S32x1x128_S32x4x128_0_1_2 (V0 (Proc.devRef .tc main_v4_1))) (V0 (Proc.devRef .tc main_v4_4))) (mulf (broadcastInDim S32x4x128 ![0, 1, 2] bcast_S32x1x128_S32x4x128_0_1_2 (V0 (Proc.devRef .tc main_v4_2))) (V0 (Proc.devRef .tc main_v4_5)))) (shapeCast S32x4x128 (extractStridedSlice S32x4x1x128 ![0, 0, 0, 0] (res_main_while0b_v7 V0) slices_S32x4x2x128_S32x4x1x128_0_0_0_0) shapeCasts_S32x4x1x128_S32x4x128) : (Proc.devRef .tc main_while0b_v15 : DevRef τ sig).ty.Contents (Elt F)) = Cert.StatesReferenceIdeal.Step.b13 j s := by
  unfold Cert.StatesReferenceIdeal.Step.b13
  rw [← al_10 h, ← al_12 h]
  try rfl
set_option maxRecDepth 8192 in
theorem al_14 (h : Holds V0 s j) : (broadcastInDim S32x4x128 ![0, 1, 2] bcast_S32x1x128_S32x4x128_0_1_2 (V0 (Proc.devRef .tc main_v4_1)) : (Proc.devRef .tc main_while0b_v16 : DevRef τ sig).ty.Contents (Elt F)) = Cert.StatesReferenceIdeal.Step.b14 j s := by
  unfold Cert.StatesReferenceIdeal.Step.b14
  rw [h.f_1]
  try rfl
set_option maxRecDepth 8192 in
theorem al_15 (h : Holds V0 s j) : (mulf (broadcastInDim S32x4x128 ![0, 1, 2] bcast_S32x1x128_S32x4x128_0_1_2 (V0 (Proc.devRef .tc main_v4_1))) (V0 (Proc.devRef .tc main_v4_5)) : (Proc.devRef .tc main_while0b_v17 : DevRef τ sig).ty.Contents (Elt F)) = Cert.StatesReferenceIdeal.Step.b15 j s := by
  unfold Cert.StatesReferenceIdeal.Step.b15
  rw [← al_14 h, h.f_5]
  try rfl
set_option maxRecDepth 8192 in
theorem al_16 (h : Holds V0 s j) : (broadcastInDim S32x4x128 ![0, 1, 2] bcast_S32x1x128_S32x4x128_0_1_2 (V0 (Proc.devRef .tc main_v4_2)) : (Proc.devRef .tc main_while0b_v18 : DevRef τ sig).ty.Contents (Elt F)) = Cert.StatesReferenceIdeal.Step.b16 j s := by
  unfold Cert.StatesReferenceIdeal.Step.b16
  rw [h.f_2]
  try rfl
set_option maxRecDepth 8192 in
theorem al_17 (h : Holds V0 s j) : (mulf (broadcastInDim S32x4x128 ![0, 1, 2] bcast_S32x1x128_S32x4x128_0_1_2 (V0 (Proc.devRef .tc main_v4_2))) (V0 (Proc.devRef .tc main_v4_4)) : (Proc.devRef .tc main_while0b_v19 : DevRef τ sig).ty.Contents (Elt F)) = Cert.StatesReferenceIdeal.Step.b17 j s := by
  unfold Cert.StatesReferenceIdeal.Step.b17
  rw [← al_16 h, h.f_4]
  try rfl
set_option maxRecDepth 8192 in
theorem al_18 (h : Holds V0 s j) : (addf (mulf (broadcastInDim S32x4x128 ![0, 1, 2] bcast_S32x1x128_S32x4x128_0_1_2 (V0 (Proc.devRef .tc main_v4_1))) (V0 (Proc.devRef .tc main_v4_5))) (mulf (broadcastInDim S32x4x128 ![0, 1, 2] bcast_S32x1x128_S32x4x128_0_1_2 (V0 (Proc.devRef .tc main_v4_2))) (V0 (Proc.devRef .tc main_v4_4))) : (Proc.devRef .tc main_while0b_v20 : DevRef τ sig).ty.Contents (Elt F)) = Cert.StatesReferenceIdeal.Step.b18 j s := by
  unfold Cert.StatesReferenceIdeal.Step.b18
  rw [← al_15 h, ← al_17 h]
  try rfl
set_option maxRecDepth 8192 in
theorem al_19 (h : Holds V0 s j) : (extractStridedSlice S32x4x1x128 ![0, 0, 1, 0] (res_main_while0b_v7 V0) slices_S32x4x2x128_S32x4x1x128_0_0_1_0 : (Proc.devRef .tc main_while0b_v21 : DevRef τ sig).ty.Contents (Elt F)) = Cert.StatesReferenceIdeal.Step.b19 j s := by
  unfold Cert.StatesReferenceIdeal.Step.b19
  rw [← al_5 h]
  try rfl
set_option maxRecDepth 8192 in
theorem al_20 (h : Holds V0 s j) : (shapeCast S32x4x128 (extractStridedSlice S32x4x1x128 ![0, 0, 1, 0] (res_main_while0b_v7 V0) slices_S32x4x2x128_S32x4x1x128_0_0_1_0) shapeCasts_S32x4x1x128_S32x4x128 : (Proc.devRef .tc main_while0b_v22 : DevRef τ sig).ty.Contents (Elt F)) = Cert.StatesReferenceIdeal.Step.b20 j s := by
  unfold Cert.StatesReferenceIdeal.Step.b20
  rw [← al_19 h]
  try rfl
set_option maxRecDepth 8192 in
theorem al_21 (h : Holds V0 s j) : (addf (addf (mulf (broadcastInDim S32x4x128 ![0, 1, 2] bcast_S32x1x128_S32x4x128_0_1_2 (V0 (Proc.devRef .tc main_v4_1))) (V0 (Proc.devRef .tc main_v4_5))) (mulf (broadcastInDim S32x4x128 ![0, 1, 2] bcast_S32x1x128_S32x4x128_0_1_2 (V0 (Proc.devRef .tc main_v4_2))) (V0 (Proc.devRef .tc main_v4_4)))) (shapeCast S32x4x128 (extractStridedSlice S32x4x1x128 ![0, 0, 1, 0] (res_main_while0b_v7 V0) slices_S32x4x2x128_S32x4x1x128_0_0_1_0) shapeCasts_S32x4x1x128_S32x4x128) : (Proc.devRef .tc main_while0b_v23 : DevRef τ sig).ty.Contents (Elt F)) = Cert.StatesReferenceIdeal.Step.b21 j s := by
  unfold Cert.StatesReferenceIdeal.Step.b21
  rw [← al_18 h, ← al_20 h]
  try rfl
set_option maxRecDepth 8192 in
theorem al_22 (h : Holds V0 s j) : (broadcastInDim S32x4x1x128 ![0, 1, 3] bcast_S32x4x128_S32x4x1x128_0_1_3 (V0 (Proc.devRef .tc main_v4_4)) : (Proc.devRef .tc main_while0b_v24 : DevRef τ sig).ty.Contents (Elt F)) = Cert.StatesReferenceIdeal.Step.b22 j s := by
  unfold Cert.StatesReferenceIdeal.Step.b22
  rw [h.f_4]
  try rfl
set_option maxRecDepth 8192 in
theorem al_23 (h : Holds V0 s j) : (broadcastInDim S32x4x1x128 ![0, 1, 3] bcast_S32x4x128_S32x4x1x128_0_1_3 (V0 (Proc.devRef .tc main_v4_5)) : (Proc.devRef .tc main_while0b_v25 : DevRef τ sig).ty.Contents (Elt F)) = Cert.StatesReferenceIdeal.Step.b23 j s := by
  unfold Cert.StatesReferenceIdeal.Step.b23
  rw [h.f_5]
  try rfl
set_option maxRecDepth 8192 in
theorem al_24 (h : Holds V0 s j) : (concatenate S32x4x2x128 2 [⟨S32x4x1x128, (broadcastInDim S32x4x1x128 ![0, 1, 3] bcast_S32x4x128_S32x4x1x128_0_1_3 (V0 (Proc.devRef .tc main_v4_4)))⟩, ⟨S32x4x1x128, (broadcastInDim S32x4x1x128 ![0, 1, 3] bcast_S32x4x128_S32x4x1x128_0_1_3 (V0 (Proc.devRef .tc main_v4_5)))⟩] concatenates_S32x4x1x128_S32x4x1x128_S32x4x2x128_d2 : (Proc.devRef .tc main_while0b_v26 : DevRef τ sig).ty.Contents (Elt F)) = Cert.StatesReferenceIdeal.Step.b24 j s := by
  unfold Cert.StatesReferenceIdeal.Step.b24
  rw [← al_22 h, ← al_23 h]
  try rfl
set_option maxRecDepth 8192 in
theorem al_25 (h : Holds V0 s j) : (broadcastInDim S1x32x4x2x128 ![1, 2, 3, 4] bcast_S32x4x2x128_S1x32x4x2x128_1_2_3_4 (concatenate S32x4x2x128 2 [⟨S32x4x1x128, (broadcastInDim S32x4x1x128 ![0, 1, 3] bcast_S32x4x128_S32x4x1x128_0_1_3 (V0 (Proc.devRef .tc main_v4_4)))⟩, ⟨S32x4x1x128, (broadcastInDim S32x4x1x128 ![0, 1, 3] bcast_S32x4x128_S32x4x1x128_0_1_3 (V0 (Proc.devRef .tc main_v4_5)))⟩] concatenates_S32x4x1x128_S32x4x1x128_S32x4x2x128_d2) : (Proc.devRef .tc main_while0b_call1_v0 : DevRef τ sig).ty.Contents (Elt F)) = Cert.StatesReferenceIdeal.Step.b25 j s := by
  unfold Cert.StatesReferenceIdeal.Step.b25
  rw [← al_24 h]
  try rfl
set_option maxRecDepth 8192 in
theorem al_26 (h : Holds V0 s j) : (constantI S_ 32 0#32 : (Proc.devRef .tc main_while0b_call1_c : DevRef τ sig).ty.Contents (Elt F)) = Cert.StatesReferenceIdeal.Step.b26 j s := by
  unfold Cert.StatesReferenceIdeal.Step.b26
  rfl
set_option maxRecDepth 8192 in
theorem al_27 (h : Holds V0 s j) : (constantI S_ 32 0#32 : (Proc.devRef .tc main_while0b_call1_c_0 : DevRef τ sig).ty.Contents (Elt F)) = Cert.StatesReferenceIdeal.Step.b27 j s := by
  unfold Cert.StatesReferenceIdeal.Step.b27
  rfl
set_option maxRecDepth 8192 in
theorem al_28 (h : Holds V0 s j) : (constantI S_ 32 0#32 : (Proc.devRef .tc main_while0b_call1_c_1 : DevRef τ sig).ty.Contents (Elt F)) = Cert.StatesReferenceIdeal.Step.b28 j s := by
  unfold Cert.StatesReferenceIdeal.Step.b28
  rfl
set_option maxRecDepth 8192 in
theorem al_29 (h : Holds V0 s j) : (constantI S_ 32 0#32 : (Proc.devRef .tc main_while0b_call1_c_2 : DevRef τ sig).ty.Contents (Elt F)) = Cert.StatesReferenceIdeal.Step.b29 j s := by
  unfold Cert.StatesReferenceIdeal.Step.b29
  rfl
set_option maxRecDepth 8192 in
theorem al_30 (h : Holds V0 s j) : (Host.dynamicUpdateSlice (V0 (Proc.devRef .tc main_v4_6)) (broadcastInDim S1x32x4x2x128 ![1, 2, 3, 4] bcast_S32x4x2x128_S1x32x4x2x128_1_2_3_4 (concatenate S32x4x2x128 2 [⟨S32x4x1x128, (broadcastInDim S32x4x1x128 ![0, 1, 3] bcast_S32x4x128_S32x4x1x128_0_1_3 (V0 (Proc.devRef .tc main_v4_4)))⟩, ⟨S32x4x1x128, (broadcastInDim S32x4x1x128 ![0, 1, 3] bcast_S32x4x128_S32x4x1x128_0_1_3 (V0 (Proc.devRef .tc main_v4_5)))⟩] concatenates_S32x4x1x128_S32x4x1x128_S32x4x2x128_d2)) (fun k => (((![V0 (Proc.devRef .tc main_v4_3), constantI S_ 32 0#32, constantI S_ 32 0#32, constantI S_ 32 0#32, constantI S_ 32 0#32] : Fin 5 → (⟨S_, .i32⟩ : BufTy).Contents (Elt F))) k (Shape.Idx.first h_S_)).toInt) updateFits_S256x32x4x2x128_S1x32x4x2x128 : (Proc.devRef .tc main_while0b_v27 : DevRef τ sig).ty.Contents (Elt F)) = Cert.StatesReferenceIdeal.Step.b30 j s := by
  unfold Cert.StatesReferenceIdeal.Step.b30
  rw [← al_25 h, ← al_26 h, ← al_27 h, ← al_28 h, ← al_29 h, h.f_6, h.n_3]
  try rfl

/-! One trip's step of the carried values is `step`, field by field; a counter steps to the next number. -/

theorem step_4 (h : Holds V0 s j) : step_main_v4_4 V0 = (step j s).main_v4_4 := by
  unfold step_main_v4_4 Cert.StatesReferenceIdeal.Step.step
  show id (addf (subf (mulf (broadcastInDim S32x4x128 ![0, 1, 2] bcast_S32x1x128_S32x4x128_0_1_2 (V0 (Proc.devRef .tc main_v4_1))) (V0 (Proc.devRef .tc main_v4_4))) (mulf (broadcastInDim S32x4x128 ![0, 1, 2] bcast_S32x1x128_S32x4x128_0_1_2 (V0 (Proc.devRef .tc main_v4_2))) (V0 (Proc.devRef .tc main_v4_5)))) (shapeCast S32x4x128 (extractStridedSlice S32x4x1x128 ![0, 0, 0, 0] (res_main_while0b_v7 V0) slices_S32x4x2x128_S32x4x1x128_0_0_0_0) shapeCasts_S32x4x1x128_S32x4x128)) = _
  rw [al_13 h]
  try rfl
theorem step_5 (h : Holds V0 s j) : step_main_v4_5 V0 = (step j s).main_v4_5 := by
  unfold step_main_v4_5 Cert.StatesReferenceIdeal.Step.step
  show id (addf (addf (mulf (broadcastInDim S32x4x128 ![0, 1, 2] bcast_S32x1x128_S32x4x128_0_1_2 (V0 (Proc.devRef .tc main_v4_1))) (V0 (Proc.devRef .tc main_v4_5))) (mulf (broadcastInDim S32x4x128 ![0, 1, 2] bcast_S32x1x128_S32x4x128_0_1_2 (V0 (Proc.devRef .tc main_v4_2))) (V0 (Proc.devRef .tc main_v4_4)))) (shapeCast S32x4x128 (extractStridedSlice S32x4x1x128 ![0, 0, 1, 0] (res_main_while0b_v7 V0) slices_S32x4x2x128_S32x4x1x128_0_0_1_0) shapeCasts_S32x4x1x128_S32x4x128)) = _
  rw [al_21 h]
  try rfl
theorem step_6 (h : Holds V0 s j) : step_main_v4_6 V0 = (step j s).main_v4_6 := by
  unfold step_main_v4_6 Cert.StatesReferenceIdeal.Step.step
  exact al_30 h
theorem step_3 (h : Holds V0 s j) : step_main_v4_3 V0 = constantI S_ 32 (BitVec.ofNat 32 (j + 1)) := by
  unfold step_main_v4_3
  rw [h.n_3]
  funext i
  show BitVec.ofNat 32 j + 1#32 = BitVec.ofNat 32 (j + 1)
  simp only [BitVec.ofNat_add]

set_option maxRecDepth 8192 in
theorem out_main_v6_holds (h : Holds V0 s j) : out_main_v6 V0 = Cert.StatesReferenceIdeal.Step.R_main_v6 s := by
  unfold out_main_v6 Cert.StatesReferenceIdeal.Step.R_main_v6
  rw [h.f_6]
  try rfl

/-- One trip keeps the valuation holding: `step` of the state, the same set-up values, the next number. -/
theorem holds_step (h : Holds V0 s j) : Holds (STEP V0) (step j s) (j + 1) where
  f_4 := (STEP_main_v4_4 V0).trans (step_4 h)
  f_5 := (STEP_main_v4_5 V0).trans (step_5 h)
  f_6 := (STEP_main_v4_6 V0).trans (step_6 h)
  n_3 := (STEP_main_v4_3 V0).trans (step_3 h)
  f_0 := (STEP_main_v4_0 V0).trans h.f_0
  f_1 := (STEP_main_v4_1 V0).trans h.f_1
  f_2 := (STEP_main_v4_2 V0).trans h.f_2

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg2)) (m ((c.tc : Thread nD τ).loc main_arg0))

variable (m : (ℓ : Loc nD τ sig) → Buf (Elt F) ℓ) (c : Dev nD)

set_option maxRecDepth 65536 in
set_option maxHeartbeats 300000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `StatesReferenceIdeal` terminates with each result at its field of state
    number 256 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v6) = Cert.StatesReferenceIdeal.Step.R_main_v6 (it c 256)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := holds_iter m c (it c) (h0 c) (hs c) 256
    ⟨(h c).1.trans (out_main_v6_holds hk), (h c).2.1, (h c).2.2.1, (h c).2.2.2⟩) (Value.run m ρ)

end Cert.Proof.Proj.StatesRun

end
-- ==== Proof.Proj.States.lean ====
/- The recurrence's states: the call and the reference, both read at a block of channels, a chunk and a sequence. -/
module

public import proofs.«01_k».proof.Defs
public import proofs.«01_k».proof.Proof.Gen.StatesIdeal.Frame
public import proofs.«01_k».proof.Proof.Gen.StatesIdeal.Value
public import proofs.«01_k».proof.Proof.Proj.Spec
public import proofs.«01_k».proof.Proof.Proj.StatesRun
public import Idealize.ShloMosaic.Lib.VecWindow
public import Idealize.ShloMosaic.Lib.WordCmp
public import Idealize.ShloMosaic.Lib.Pipeline.Value

@[expose] public section

set_option maxRecDepth 16384

noncomputable section

namespace Cert.Proof.Proj.States

open Idealize.ShloMosaic

/-- The state before each step, from zero: the decay times the state plus what the step adds, complex numbers as pairs. -/
def pass (ar ai : EReal) (l : ℕ → EReal × EReal) : ℕ → EReal × EReal
  | 0 => (0, 0)
  | n + 1 =>
    (ar * (pass ar ai l n).1 - ai * (pass ar ai l n).2 + (l n).1, ar * (pass ar ai l n).2 + ai * (pass ar ai l n).1 + (l n).2)

/-- The row of a chunk and a sequence. -/
def rowOf (n : ℕ) (b : Fin 4) : Fin 1024 := ⟨(4 * n + b.val) % 1024, by omega⟩
/-- The column of a channel's real part, and of its imaginary part. -/
def reCol (j : Fin 128) : Fin 256 := ⟨j.val, by omega⟩
def imCol (j : Fin 128) : Fin 256 := ⟨128 + j.val, by omega⟩

/-- The state that enters a chunk, from the chunks' own sums and the decays. -/
def entering {P : Nat} (x : (⟨3, ![P, 1024, 256]⟩ : Shape).Idx → EReal) (ar ai : (⟨3, ![P, 1, 128]⟩ : Shape).Idx → EReal)
    (p : Fin P) (b : Fin 4) (j : Fin 128) (n : ℕ) : EReal × EReal :=
  pass (ar (ValueIdx.ix3 p 0 j)) (ai (ValueIdx.ix3 p 0 j))
    (fun n => (x (ValueIdx.ix3 p (rowOf n b) (reCol j)), x (ValueIdx.ix3 p (rowOf n b) (imCol j)))) n

/-- The states as one array. -/
def states {P : Nat} (x : (⟨3, ![P, 1024, 256]⟩ : Shape).Idx → EReal) (ar ai : (⟨3, ![P, 1, 128]⟩ : Shape).Idx → EReal)
    (y : (⟨3, ![P, 1024, 256]⟩ : Shape).Idx) : EReal :=
  if (y 2).val < 128 then (entering x ar ai (y 0) ⟨(y 1).val % 4, by omega⟩ ⟨(y 2).val % 128, by omega⟩ ((y 1).val / 4)).1
  else (entering x ar ai (y 0) ⟨(y 1).val % 4, by omega⟩ ⟨(y 2).val % 128, by omega⟩ ((y 1).val / 4)).2

section
variable {P : Nat} (x : (⟨3, ![P, 1024, 256]⟩ : Shape).Idx → EReal) (ar ai : (⟨3, ![P, 1, 128]⟩ : Shape).Idx → EReal)
variable (p : Fin P) (b : Fin 4) (j : Fin 128) (n : ℕ)

theorem entering_zero : entering x ar ai p b j 0 = (0, 0) := rfl

theorem entering_succ : entering x ar ai p b j (n + 1)
    = (ar (ValueIdx.ix3 p 0 j) * (entering x ar ai p b j n).1 - ai (ValueIdx.ix3 p 0 j) * (entering x ar ai p b j n).2 + x (ValueIdx.ix3 p (rowOf n b) (reCol j)),
      ar (ValueIdx.ix3 p 0 j) * (entering x ar ai p b j n).2 + ai (ValueIdx.ix3 p 0 j) * (entering x ar ai p b j n).1 + x (ValueIdx.ix3 p (rowOf n b) (imCol j))) := rfl

theorem states_re (y : (⟨3, ![P, 1024, 256]⟩ : Shape).Idx) (h0 : y 0 = p) (h1 : (y 1).val = 4 * n + b.val) (h2 : (y 2).val = j.val) :
    states x ar ai y = (entering x ar ai p b j n).1 := by
  have hb := b.isLt
  have hj := j.isLt
  have eb : (⟨(y 1).val % 4, by omega⟩ : Fin 4) = b := Fin.ext (by show (y 1).val % 4 = b.val; omega)
  have ej : (⟨(y 2).val % 128, by omega⟩ : Fin 128) = j := Fin.ext (by show (y 2).val % 128 = j.val; omega)
  have en : (y 1).val / 4 = n := by omega
  unfold states
  rw [if_pos (by omega), eb, ej, en, h0]

theorem states_im (y : (⟨3, ![P, 1024, 256]⟩ : Shape).Idx) (h0 : y 0 = p) (h1 : (y 1).val = 4 * n + b.val) (h2 : (y 2).val = 128 + j.val) :
    states x ar ai y = (entering x ar ai p b j n).2 := by
  have hb := b.isLt
  have hj := j.isLt
  have eb : (⟨(y 1).val % 4, by omega⟩ : Fin 4) = b := Fin.ext (by show (y 1).val % 4 = b.val; omega)
  have ej : (⟨(y 2).val % 128, by omega⟩ : Fin 128) = j := Fin.ext (by show (y 2).val % 128 = j.val; omega)
  have en : (y 1).val / 4 = n := by omega
  unfold states
  rw [if_neg (by omega), eb, ej, en, h0]

end

end Cert.Proof.Proj.States

namespace Cert.Proof.Proj.States

open Cert.StatesIdeal Cert.StatesIdeal.Gen
open Idealize.ShloMosaic Idealize.ShloMosaic.TcCoe Idealize.SL.Sem

theorem hz3 : (![0, 0, 0] : Fin 3 → Nat) = fun _ => 0 := by decide

/-! ## One trip -/

section
variable (v0 v1 : Vec Ideal S8x1x128 .f32) (re im : FVec Ideal S8x4x128 .f32) (w : Vec Ideal S8x8x256 .f32)
variable (p : Fin 8) (b : Fin 4) (j : Fin 128)

/-- The rows of a trip's first chunk, and of its second. -/
def fst (b : Fin 4) : Fin 8 := ⟨b.val, by omega⟩
def snd (b : Fin 4) : Fin 8 := ⟨4 + b.val, by omega⟩

theorem spread (v : Vec Ideal S8x1x128 .f32) :
    broadcastTo S8x4x128 v broadcasts_S8x1x128_S8x4x128 (ValueIdx.ix3 p b j) = v (ValueIdx.ix3 p 0 j) :=
  broadcastTo_apply v broadcasts_S8x1x128_S8x4x128 _ _ fun a =>
    match a with
    | ⟨0, _⟩ => rfl
    | ⟨1, _⟩ => rfl
    | ⟨2, _⟩ => rfl

theorem cut00 : extractStridedSlice S8x4x128 ![0, 0, 0] w slices_S8x8x256_o0_0_0_S8x4x128 (ValueIdx.ix3 p b j) = w (ValueIdx.ix3 p (fst b) (reCol j)) :=
  extractStridedSlice_apply _ w slices_S8x8x256_o0_0_0_S8x4x128 _ _ fun a =>
    match a with
    | ⟨0, _⟩ => (Nat.zero_add _).symm
    | ⟨1, _⟩ => (Nat.zero_add _).symm
    | ⟨2, _⟩ => (Nat.zero_add _).symm
theorem cut01 : extractStridedSlice S8x4x128 ![0, 0, 128] w slices_S8x8x256_o0_0_128_S8x4x128 (ValueIdx.ix3 p b j) = w (ValueIdx.ix3 p (fst b) (imCol j)) :=
  extractStridedSlice_apply _ w slices_S8x8x256_o0_0_128_S8x4x128 _ _ fun a =>
    match a with
    | ⟨0, _⟩ => (Nat.zero_add _).symm
    | ⟨1, _⟩ => (Nat.zero_add _).symm
    | ⟨2, _⟩ => rfl
theorem cut10 : extractStridedSlice S8x4x128 ![0, 4, 0] w slices_S8x8x256_o0_4_0_S8x4x128 (ValueIdx.ix3 p b j) = w (ValueIdx.ix3 p (snd b) (reCol j)) :=
  extractStridedSlice_apply _ w slices_S8x8x256_o0_4_0_S8x4x128 _ _ fun a =>
    match a with
    | ⟨0, _⟩ => (Nat.zero_add _).symm
    | ⟨1, _⟩ => rfl
    | ⟨2, _⟩ => (Nat.zero_add _).symm
theorem cut11 : extractStridedSlice S8x4x128 ![0, 4, 128] w slices_S8x8x256_o0_4_128_S8x4x128 (ValueIdx.ix3 p b j) = w (ValueIdx.ix3 p (snd b) (imCol j)) :=
  extractStridedSlice_apply _ w slices_S8x8x256_o0_4_128_S8x4x128 _ _ fun a =>
    match a with
    | ⟨0, _⟩ => (Nat.zero_add _).symm
    | ⟨1, _⟩ => rfl
    | ⟨2, _⟩ => rfl

theorem pay2_apply : k0_pay2 (F := Ideal) v0 v1 re im w (ValueIdx.ix3 p b j)
    = v0 (ValueIdx.ix3 p 0 j) * re (ValueIdx.ix3 p b j) - v1 (ValueIdx.ix3 p 0 j) * im (ValueIdx.ix3 p b j) + w (ValueIdx.ix3 p (fst b) (reCol j)) := by
  rw [← spread p b j v0, ← spread p b j v1, ← cut00 w p b j]
  rfl
theorem pay3_apply : k0_pay3 (F := Ideal) v0 v1 re im w (ValueIdx.ix3 p b j)
    = v0 (ValueIdx.ix3 p 0 j) * im (ValueIdx.ix3 p b j) + v1 (ValueIdx.ix3 p 0 j) * re (ValueIdx.ix3 p b j) + w (ValueIdx.ix3 p (fst b) (imCol j)) := by
  rw [← spread p b j v0, ← spread p b j v1, ← cut01 w p b j]
  rfl
theorem pay4_apply : k0_pay4 (F := Ideal) v0 v1 re im w (ValueIdx.ix3 p b j)
    = v0 (ValueIdx.ix3 p 0 j) * k0_pay2 (F := Ideal) v0 v1 re im w (ValueIdx.ix3 p b j)
      - v1 (ValueIdx.ix3 p 0 j) * k0_pay3 (F := Ideal) v0 v1 re im w (ValueIdx.ix3 p b j) + w (ValueIdx.ix3 p (snd b) (reCol j)) := by
  rw [← spread p b j v0, ← spread p b j v1, ← cut10 w p b j]
  rfl
theorem pay5_apply : k0_pay5 (F := Ideal) v0 v1 re im w (ValueIdx.ix3 p b j)
    = v0 (ValueIdx.ix3 p 0 j) * k0_pay3 (F := Ideal) v0 v1 re im w (ValueIdx.ix3 p b j)
      + v1 (ValueIdx.ix3 p 0 j) * k0_pay2 (F := Ideal) v0 v1 re im w (ValueIdx.ix3 p b j) + w (ValueIdx.ix3 p (snd b) (imCol j)) := by
  rw [← spread p b j v0, ← spread p b j v1, ← cut11 w p b j]
  rfl

/-- Two parts side by side, read in the first and in the second. -/
theorem beside_re : concatenate S8x4x256 2 [⟨S8x4x128, re⟩, ⟨S8x4x128, im⟩] concatenates_S8x4x128_S8x4x128_S8x4x256_d2 (ValueIdx.ix3 p b (reCol j)) = re (ValueIdx.ix3 p b j) :=
  concatenate_pair_apply_left (t := S8x4x256) (s₁ := S8x4x128) (s₂ := S8x4x128) 2 re im _ (ValueIdx.ix3 p b (reCol j)) rfl (ValueIdx.ix3 p b j) fun a =>
    match a with
    | ⟨0, _⟩ => rfl
    | ⟨1, _⟩ => rfl
    | ⟨2, _⟩ => rfl
theorem beside_im : concatenate S8x4x256 2 [⟨S8x4x128, re⟩, ⟨S8x4x128, im⟩] concatenates_S8x4x128_S8x4x128_S8x4x256_d2 (ValueIdx.ix3 p b (imCol j)) = im (ValueIdx.ix3 p b j) :=
  concatenate_pair_apply_right (t := S8x4x256) (s₁ := S8x4x128) (s₂ := S8x4x128) 2 re im _ (ValueIdx.ix3 p b (imCol j)) rfl rfl (ValueIdx.ix3 p b j)
    (fun a ha =>
      match a with
      | ⟨0, _⟩ => rfl
      | ⟨1, _⟩ => rfl
      | ⟨2, _⟩ => absurd rfl ha)
    (by show j.val + 128 = 128 + j.val; omega)

/-- Two chunks one after the other, read in the first and in the second. -/
theorem after_fst (u z : FVec Ideal S8x4x256 .f32) (e : Fin 256) :
    concatenate S8x8x256 1 [⟨S8x4x256, u⟩, ⟨S8x4x256, z⟩] concatenates_S8x4x256_S8x4x256_S8x8x256_d1 (ValueIdx.ix3 p (fst b) e) = u (ValueIdx.ix3 p b e) :=
  concatenate_pair_apply_left (t := S8x8x256) (s₁ := S8x4x256) (s₂ := S8x4x256) 1 u z _ (ValueIdx.ix3 p (fst b) e) rfl (ValueIdx.ix3 p b e) fun a =>
    match a with
    | ⟨0, _⟩ => rfl
    | ⟨1, _⟩ => rfl
    | ⟨2, _⟩ => rfl
theorem after_snd (u z : FVec Ideal S8x4x256 .f32) (e : Fin 256) :
    concatenate S8x8x256 1 [⟨S8x4x256, u⟩, ⟨S8x4x256, z⟩] concatenates_S8x4x256_S8x4x256_S8x8x256_d1 (ValueIdx.ix3 p (snd b) e) = z (ValueIdx.ix3 p b e) :=
  concatenate_pair_apply_right (t := S8x8x256) (s₁ := S8x4x256) (s₂ := S8x4x256) 1 u z _ (ValueIdx.ix3 p (snd b) e) rfl rfl (ValueIdx.ix3 p b e)
    (fun a ha =>
      match a with
      | ⟨0, _⟩ => rfl
      | ⟨1, _⟩ => absurd rfl ha
      | ⟨2, _⟩ => rfl)
    (by show b.val + 4 = 4 + b.val; omega)

theorem pay6_re0 : k0_pay6 (F := Ideal) v0 v1 re im w (ValueIdx.ix3 p (fst b) (reCol j)) = re (ValueIdx.ix3 p b j) :=
  (after_fst p b _ _ _).trans (beside_re re im p b j)
theorem pay6_im0 : k0_pay6 (F := Ideal) v0 v1 re im w (ValueIdx.ix3 p (fst b) (imCol j)) = im (ValueIdx.ix3 p b j) :=
  (after_fst p b _ _ _).trans (beside_im re im p b j)
theorem pay6_re1 : k0_pay6 (F := Ideal) v0 v1 re im w (ValueIdx.ix3 p (snd b) (reCol j)) = k0_pay2 (F := Ideal) v0 v1 re im w (ValueIdx.ix3 p b j) :=
  (after_snd p b _ _ _).trans (beside_re _ _ p b j)
theorem pay6_im1 : k0_pay6 (F := Ideal) v0 v1 re im w (ValueIdx.ix3 p (snd b) (imCol j)) = k0_pay3 (F := Ideal) v0 v1 re im w (ValueIdx.ix3 p b j) :=
  (after_snd p b _ _ _).trans (beside_im _ _ p b j)

theorem pay1_apply : k0_pay1 (F := Ideal) (ValueIdx.ix3 p b j) = 0 := Ideal.ofBits_zero_f32

end

/-! ## The loop -/

section
variable (c : Dev nD) (i : grid0.Coords) (arg1 : Memref sig .tc .vmem S8x1024x256 .f32) (harg1 : arg1.IsWhole)
  (arg2 : Memref sig .tc .vmem S8x1x128 .f32) (harg2 : arg2.IsWhole) (arg3 : Memref sig .tc .vmem S8x1x128 .f32) (harg3 : arg3.IsWhole)
  (arg4 : Memref sig .tc .vmem S8x1024x256 .f32) (harg4 : arg4.IsWhole)
variable (x : Vec Ideal S8x1024x256 .f32) (v0 v1 : Vec Ideal S8x1x128 .f32)

/-- What a trip reads of the sums. -/
def window (k : Fin k0_t1_loop.trips) : Vec Ideal S8x8x256 .f32 :=
  View.ld x (Rect.unit (s := S8x1024x256) (k0_off1 k) S8x8x256.size (k0_off1_inb k))

theorem trips_eq : k0_t1_loop.trips = 128 := by decide +kernel

/-- Where a trip's window lies. -/
theorem window_emb (k : Fin k0_t1_loop.trips) (y : S8x8x256.Idx) :
    (((Rect.unit (s := S8x1024x256) (k0_off1 k) S8x8x256.size (k0_off1_inb k)).emb y) 0).val = (y 0).val
      ∧ (((Rect.unit (s := S8x1024x256) (k0_off1 k) S8x8x256.size (k0_off1_inb k)).emb y) 1).val = 8 * k.val + (y 1).val
      ∧ (((Rect.unit (s := S8x1024x256) (k0_off1 k) S8x8x256.size (k0_off1_inb k)).emb y) 2).val = (y 2).val := by
  have h := k0_off1_eq k
  have h0 : k0_off1 k 0 = 0 := congrFun h 0
  have h1 : k0_off1 k 1 = 8 * k.val := congrFun h 1
  have h2 : k0_off1 k 2 = 0 := congrFun h 2
  refine ⟨?_, ?_, ?_⟩
  · show k0_off1 k 0 + 1 * (y 0).val = _
    omega
  · show k0_off1 k 1 + 1 * (y 1).val = _
    omega
  · show k0_off1 k 2 + 1 * (y 2).val = _
    omega

theorem window_fst (k : Fin k0_t1_loop.trips) (p : Fin 8) (b : Fin 4) (e : Fin 256) :
    window x k (ValueIdx.ix3 p (fst b) e) = x (ValueIdx.ix3 p (rowOf (2 * k.val) b) e) := by
  obtain ⟨h0, h1, h2⟩ := window_emb k (ValueIdx.ix3 p (fst b) e)
  have hk : k.val < 128 := trips_eq ▸ k.isLt
  have hb := b.isLt
  refine congrArg x (funext fun a => Fin.ext ?_)
  match a with
  | ⟨0, _⟩ => exact h0
  | ⟨1, _⟩ => refine h1.trans ?_; show 8 * k.val + b.val = (4 * (2 * k.val) + b.val) % 1024; omega
  | ⟨2, _⟩ => exact h2
theorem window_snd (k : Fin k0_t1_loop.trips) (p : Fin 8) (b : Fin 4) (e : Fin 256) :
    window x k (ValueIdx.ix3 p (snd b) e) = x (ValueIdx.ix3 p (rowOf (2 * k.val + 1) b) e) := by
  obtain ⟨h0, h1, h2⟩ := window_emb k (ValueIdx.ix3 p (snd b) e)
  have hk : k.val < 128 := trips_eq ▸ k.isLt
  have hb := b.isLt
  refine congrArg x (funext fun a => Fin.ext ?_)
  match a with
  | ⟨0, _⟩ => exact h0
  | ⟨1, _⟩ => refine h1.trans ?_; show 8 * k.val + (4 + b.val) = (4 * (2 * k.val + 1) + b.val) % 1024; omega
  | ⟨2, _⟩ => exact h2

theorem read_window (k : Fin k0_t1_loop.trips) :
    View.readAt (Elt Ideal) arg1.view (Rect.unit (s := S8x1024x256) (k0_off1 k) S8x8x256.size (k0_off1_inb k)).toLoadRect (harg1.unread x) = window x k := by
  rw [View.readAt_eq_ld, Memref.IsWhole.read_unread]
  rfl

/-- A trip's carried parts and its one piece. -/
theorem tripR_eq (k : Fin k0_t1_loop.trips) (acc : FVec Ideal S8x4x128 .f32 × FVec Ideal S8x4x128 .f32) :
    tripR_k0_t1 Variants.none c none i arg1 harg1 arg2 harg2 arg3 harg3 arg4 harg4 v0 v1 (harg1.unread x) k acc
      = (k0_pay4 v0 v1 acc.1 acc.2 (window x k), k0_pay5 v0 v1 acc.1 acc.2 (window x k)) := by
  rw [← read_window arg1 harg1 x k]
  unfold tripR_k0_t1 trip_k0_t1
  rfl
theorem tripL_eq (k : Fin k0_t1_loop.trips) (acc : FVec Ideal S8x4x128 .f32 × FVec Ideal S8x4x128 .f32) :
    tripL_k0_t1 Variants.none c none i arg1 harg1 arg2 harg2 arg3 harg3 arg4 harg4 v0 v1 (harg1.unread x) k acc
      = [⟨Rect.unit (s := S8x1024x256) (k0_off1 k) S8x8x256.size (k0_off1_inb k), k0_pay6 v0 v1 acc.1 acc.2 (window x k)⟩] := by
  rw [← read_window arg1 harg1 x k]
  unfold tripL_k0_t1 trip_k0_t1
  rfl

/-- Before each trip the carried parts are the states that enter its first chunk, and every piece written is the states' own. -/
theorem loop_holds : ∀ k : ℕ, k ≤ k0_t1_loop.trips →
    (∀ (p : Fin 8) (b : Fin 4) (j : Fin 128),
      (st_k0_t1 Variants.none c none i arg1 harg1 arg2 harg2 arg3 harg3 arg4 harg4 v0 v1 (harg1.unread x) (k0_pay1, k0_pay1) k).1.1 (ValueIdx.ix3 p b j)
          = (entering x v0 v1 p b j (2 * k)).1
        ∧ (st_k0_t1 Variants.none c none i arg1 harg1 arg2 harg2 arg3 harg3 arg4 harg4 v0 v1 (harg1.unread x) (k0_pay1, k0_pay1) k).1.2 (ValueIdx.ix3 p b j)
          = (entering x v0 v1 p b j (2 * k)).2)
      ∧ ∀ q ∈ (st_k0_t1 Variants.none c none i arg1 harg1 arg2 harg2 arg3 harg3 arg4 harg4 v0 v1 (harg1.unread x) (k0_pay1, k0_pay1) k).2,
          ∀ y : q.1.shape.Idx, q.2 y = states x v0 v1 (q.1.emb y)
  | 0, _ => ⟨fun p b j => ⟨pay1_apply p b j, pay1_apply p b j⟩, fun q hq => absurd hq List.not_mem_nil⟩
  | k + 1, hk => by
    obtain ⟨hc, hp⟩ := loop_holds k (Nat.le_of_succ_le hk)
    have es := st_k0_t1_succ (F := Ideal) Variants.none c none i arg1 harg1 arg2 harg2 arg3 harg3 arg4 harg4 v0 v1 (harg1.unread x) (k0_pay1, k0_pay1) ⟨k, hk⟩
    rw [tripR_eq, tripL_eq] at es
    generalize st_k0_t1 Variants.none c none i arg1 harg1 arg2 harg2 arg3 harg3 arg4 harg4 v0 v1 (harg1.unread x) (k0_pay1, k0_pay1) (k + 1) = S' at es ⊢
    generalize st_k0_t1 Variants.none c none i arg1 harg1 arg2 harg2 arg3 harg3 arg4 harg4 v0 v1 (harg1.unread x) (k0_pay1, k0_pay1) k = S at es hc hp
    subst es
    have m2 : ∀ (p : Fin 8) (b : Fin 4) (j : Fin 128), k0_pay2 (F := Ideal) v0 v1 S.1.1 S.1.2 (window x ⟨k, hk⟩) (ValueIdx.ix3 p b j) = (entering x v0 v1 p b j (2 * k + 1)).1 := fun p b j => by
      rw [pay2_apply, (hc p b j).1, (hc p b j).2, window_fst, entering_succ]
    have m3 : ∀ (p : Fin 8) (b : Fin 4) (j : Fin 128), k0_pay3 (F := Ideal) v0 v1 S.1.1 S.1.2 (window x ⟨k, hk⟩) (ValueIdx.ix3 p b j) = (entering x v0 v1 p b j (2 * k + 1)).2 := fun p b j => by
      rw [pay3_apply, (hc p b j).1, (hc p b j).2, window_fst, entering_succ]
    refine ⟨fun p b j => ⟨?_, ?_⟩, fun q hq => ?_⟩
    · show k0_pay4 (F := Ideal) v0 v1 S.1.1 S.1.2 (window x ⟨k, hk⟩) (ValueIdx.ix3 p b j) = _
      rw [pay4_apply, m2, m3, window_snd]
      rfl
    · show k0_pay5 (F := Ideal) v0 v1 S.1.1 S.1.2 (window x ⟨k, hk⟩) (ValueIdx.ix3 p b j) = _
      rw [pay5_apply, m2, m3, window_snd]
      rfl
    · rcases List.mem_cons.mp hq with rfl | hq
      · intro y
        obtain ⟨h0, h1, h2⟩ := window_emb ⟨k, hk⟩ y
        have l1 : (y 1).val < 8 := (y 1).isLt
        have l2 : (y 2).val < 256 := (y 2).isLt
        have e0 := Fin.ext h0
        by_cases c1 : (y 1).val < 4 <;> by_cases c2 : (y 2).val < 128
        · have ey : y = (ValueIdx.ix3 (y 0) (fst ⟨(y 1).val, c1⟩) (reCol ⟨(y 2).val, c2⟩) : S8x8x256.Idx) := by
            funext a
            match a with
            | ⟨0, _⟩ => rfl
            | ⟨1, _⟩ => rfl
            | ⟨2, _⟩ => rfl
          refine ((congrArg _ ey).trans (pay6_re0 ..)).trans (((hc _ _ _).1).trans (states_re x v0 v1 (y 0) ⟨(y 1).val, c1⟩ ⟨(y 2).val, c2⟩ (2 * k) _ e0 ?_ ?_).symm)
          · refine h1.trans ?_; show 8 * k + (y 1).val = 4 * (2 * k) + (y 1).val; omega
          · exact h2
        · have ey : y = (ValueIdx.ix3 (y 0) (fst ⟨(y 1).val, c1⟩) (imCol ⟨(y 2).val - 128, by omega⟩) : S8x8x256.Idx) := by
            funext a
            match a with
            | ⟨0, _⟩ => rfl
            | ⟨1, _⟩ => rfl
            | ⟨2, _⟩ => exact Fin.ext (by show (y 2).val = 128 + ((y 2).val - 128); omega)
          refine ((congrArg _ ey).trans (pay6_im0 ..)).trans (((hc _ _ _).2).trans (states_im x v0 v1 (y 0) ⟨(y 1).val, c1⟩ ⟨(y 2).val - 128, by omega⟩ (2 * k) _ e0 ?_ ?_).symm)
          · refine h1.trans ?_; show 8 * k + (y 1).val = 4 * (2 * k) + (y 1).val; omega
          · refine h2.trans ?_; show (y 2).val = 128 + ((y 2).val - 128); omega
        · have ey : y = (ValueIdx.ix3 (y 0) (snd ⟨(y 1).val - 4, by omega⟩) (reCol ⟨(y 2).val, c2⟩) : S8x8x256.Idx) := by
            funext a
            match a with
            | ⟨0, _⟩ => rfl
            | ⟨1, _⟩ => exact Fin.ext (by show (y 1).val = 4 + ((y 1).val - 4); omega)
            | ⟨2, _⟩ => rfl
          refine ((congrArg _ ey).trans (pay6_re1 ..)).trans ((m2 _ _ _).trans (states_re x v0 v1 (y 0) ⟨(y 1).val - 4, by omega⟩ ⟨(y 2).val, c2⟩ (2 * k + 1) _ e0 ?_ ?_).symm)
          · refine h1.trans ?_; show 8 * k + (y 1).val = 4 * (2 * k + 1) + ((y 1).val - 4); omega
          · exact h2
        · have ey : y = (ValueIdx.ix3 (y 0) (snd ⟨(y 1).val - 4, by omega⟩) (imCol ⟨(y 2).val - 128, by omega⟩) : S8x8x256.Idx) := by
            funext a
            match a with
            | ⟨0, _⟩ => rfl
            | ⟨1, _⟩ => exact Fin.ext (by show (y 1).val = 4 + ((y 1).val - 4); omega)
            | ⟨2, _⟩ => exact Fin.ext (by show (y 2).val = 128 + ((y 2).val - 128); omega)
          refine ((congrArg _ ey).trans (pay6_im1 ..)).trans ((m3 _ _ _).trans (states_im x v0 v1 (y 0) ⟨(y 1).val - 4, by omega⟩ ⟨(y 2).val - 128, by omega⟩ (2 * k + 1) _ e0 ?_ ?_).symm)
          · refine h1.trans ?_; show 8 * k + (y 1).val = 4 * (2 * k + 1) + ((y 1).val - 4); omega
          · refine h2.trans ?_; show (y 2).val = 128 + ((y 2).val - 128); omega
      · exact hp q hq

theorem read_decay (a : Memref sig .tc .vmem S8x1x128 .f32) (ha : a.IsWhole) (v : Vec Ideal S8x1x128 .f32) :
    View.readAt (Elt Ideal) a.view (Rect.unit (s := S8x1x128) ![0, 0, 0] S8x1x128.size inb_S8x1x128_S8x1x128_0_0_0).toLoadRect (ha.unread v) = v := by
  rw [View.readAt_eq_ld, Memref.IsWhole.read_unread]
  exact View.ld_unit_zero hz3 _ _

/-- What a point leaves: the states of its block. -/
theorem out_apply (y : S8x1024x256.Idx) :
    out0_A_3 c i arg1 harg1 arg2 harg2 arg3 harg3 arg4 harg4 x v0 v1 y = states x v0 v1 y := by
  unfold out0_A_3
  refine View.read_writes_apply_of_pieces _ _ (states x v0 v1) _ ?_ y (cover0_A_3 c i arg1 harg1 arg2 harg2 arg3 harg3 arg4 harg4 x v0 v1 y)
  have e : (kernelRun0_A (F := Ideal) c i arg1 harg1 arg2 harg2 arg3 harg3 arg4 harg4 x v0 v1).1
      = (st_k0_t1 Variants.none c none i arg1 harg1 arg2 harg2 arg3 harg3 arg4 harg4
          (View.readAt (Elt Ideal) arg2.view (Rect.unit (s := S8x1x128) ![0, 0, 0] S8x1x128.size inb_S8x1x128_S8x1x128_0_0_0).toLoadRect (harg2.unread v0))
          (View.readAt (Elt Ideal) arg3.view (Rect.unit (s := S8x1x128) ![0, 0, 0] S8x1x128.size inb_S8x1x128_S8x1x128_0_0_0).toLoadRect (harg3.unread v1))
          (harg1.unread x) (k0_pay1, k0_pay1) k0_t1_loop.trips).2 := by
    unfold kernelRun0_A
    rfl
  rw [e, read_decay, read_decay]
  exact (loop_holds c i arg1 harg1 arg2 harg2 arg3 harg3 arg4 harg4 x v0 v1 _ (Nat.le_refl _)).2

end

/-! ## The blocks -/

/-- A channel block among all. -/
def chan (t : Fin cfg0.N) (p : Fin 8) : Fin 32 := ⟨8 * t.val + p.val, by have h : t.val < 4 := t.isLt; omega⟩

theorem idx0 : ∀ t : Fin cfg0.N, win0_0.index t (0 : Fin 3) = t.val ∧ win0_0.index t (1 : Fin 3) = 0 ∧ win0_0.index t (2 : Fin 3) = 0 := (by decide +kernel : ∀ t : Fin grid0.N, _)
theorem idx1 : ∀ t : Fin cfg0.N, win0_1.index t (0 : Fin 3) = t.val ∧ win0_1.index t (1 : Fin 3) = 0 ∧ win0_1.index t (2 : Fin 3) = 0 := (by decide +kernel : ∀ t : Fin grid0.N, _)
theorem idx2 : ∀ t : Fin cfg0.N, win0_2.index t (0 : Fin 3) = t.val ∧ win0_2.index t (1 : Fin 3) = 0 ∧ win0_2.index t (2 : Fin 3) = 0 := (by decide +kernel : ∀ t : Fin grid0.N, _)
theorem idx3 : ∀ t : Fin cfg0.N, win0_3.index t (0 : Fin 3) = t.val ∧ win0_3.index t (1 : Fin 3) = 0 ∧ win0_3.index t (2 : Fin 3) = 0 := (by decide +kernel : ∀ t : Fin grid0.N, _)

section
variable (t : Fin cfg0.N) (p : Fin 8)

theorem emb0 (r : Fin 1024) (e : Fin 256) :
    ((cfg0.win 0).blk t).view.emb (ValueIdx.ix3 p r e : S8x1024x256.Idx) = (ValueIdx.ix3 (chan t p) r e : S32x1024x256.Idx) := by
  obtain ⟨e0, e1, e2⟩ := idx0 t
  funext a; apply Fin.ext
  match a with
  | ⟨0, _⟩ => show win0_0.index t (0 : Fin 3) * 8 + 1 * p.val = 8 * t.val + p.val; omega
  | ⟨1, _⟩ => show win0_0.index t (1 : Fin 3) * 1024 + 1 * r.val = r.val; omega
  | ⟨2, _⟩ => show win0_0.index t (2 : Fin 3) * 256 + 1 * e.val = e.val; omega
theorem emb1 (j : Fin 128) :
    ((cfg0.win 1).blk t).view.emb (ValueIdx.ix3 p 0 j : S8x1x128.Idx) = (ValueIdx.ix3 (chan t p) 0 j : S32x1x128.Idx) := by
  obtain ⟨e0, e1, e2⟩ := idx1 t
  funext a; apply Fin.ext
  match a with
  | ⟨0, _⟩ => show win0_1.index t (0 : Fin 3) * 8 + 1 * p.val = 8 * t.val + p.val; omega
  | ⟨1, _⟩ => show win0_1.index t (1 : Fin 3) * 1 + 1 * 0 = 0; omega
  | ⟨2, _⟩ => show win0_1.index t (2 : Fin 3) * 128 + 1 * j.val = j.val; omega
theorem emb2 (j : Fin 128) :
    ((cfg0.win 2).blk t).view.emb (ValueIdx.ix3 p 0 j : S8x1x128.Idx) = (ValueIdx.ix3 (chan t p) 0 j : S32x1x128.Idx) := by
  obtain ⟨e0, e1, e2⟩ := idx2 t
  funext a; apply Fin.ext
  match a with
  | ⟨0, _⟩ => show win0_2.index t (0 : Fin 3) * 8 + 1 * p.val = 8 * t.val + p.val; omega
  | ⟨1, _⟩ => show win0_2.index t (1 : Fin 3) * 1 + 1 * 0 = 0; omega
  | ⟨2, _⟩ => show win0_2.index t (2 : Fin 3) * 128 + 1 * j.val = j.val; omega
theorem emb3 (r : Fin 1024) (e : Fin 256) :
    ((cfg0.win 3).blk t).view.emb (ValueIdx.ix3 p r e : S8x1024x256.Idx) = (ValueIdx.ix3 (chan t p) r e : S32x1024x256.Idx) := by
  obtain ⟨e0, e1, e2⟩ := idx3 t
  funext a; apply Fin.ext
  match a with
  | ⟨0, _⟩ => show win0_3.index t (0 : Fin 3) * 8 + 1 * p.val = 8 * t.val + p.val; omega
  | ⟨1, _⟩ => show win0_3.index t (1 : Fin 3) * 1024 + 1 * r.val = r.val; omega
  | ⟨2, _⟩ => show win0_3.index t (2 : Fin 3) * 256 + 1 * e.val = e.val; omega

variable (m : (ℓ : Loc nD τ sig) → Buf (Elt Ideal) ℓ) (c : Dev nD)

theorem block0 (r : Fin 1024) (e : Fin 256) :
    iblk m c 0 t (ValueIdx.ix3 p r e : S8x1024x256.Idx) = m ((c : Thread nD τ).loc main_arg0) (ValueIdx.ix3 (chan t p) r e : S32x1024x256.Idx) := by
  show V m c main_arg0 (((cfg0.win 0).blk t).view.emb (ValueIdx.ix3 p r e : S8x1024x256.Idx)) = _
  rw [emb0, V_main_arg0]
theorem block1 (j : Fin 128) :
    iblk m c 1 t (ValueIdx.ix3 p 0 j : S8x1x128.Idx) = m ((c : Thread nD τ).loc main_arg1) (ValueIdx.ix3 (chan t p) 0 j : S32x1x128.Idx) := by
  show V m c main_arg1 (((cfg0.win 1).blk t).view.emb (ValueIdx.ix3 p 0 j : S8x1x128.Idx)) = _
  rw [emb1, V_main_arg1]
theorem block2 (j : Fin 128) :
    iblk m c 2 t (ValueIdx.ix3 p 0 j : S8x1x128.Idx) = m ((c : Thread nD τ).loc main_arg2) (ValueIdx.ix3 (chan t p) 0 j : S32x1x128.Idx) := by
  show V m c main_arg2 (((cfg0.win 2).blk t).view.emb (ValueIdx.ix3 p 0 j : S8x1x128.Idx)) = _
  rw [emb2, V_main_arg2]

/-- A block's states are the array's. -/
theorem block_entering (b : Fin 4) (j : Fin 128) (n : ℕ) :
    entering (iblk m c 0 t : S8x1024x256.Idx → EReal) (iblk m c 1 t : S8x1x128.Idx → EReal) (iblk m c 2 t : S8x1x128.Idx → EReal) p b j n
      = entering (m ((c : Thread nD τ).loc main_arg0) : S32x1024x256.Idx → EReal) (m ((c : Thread nD τ).loc main_arg1) : S32x1x128.Idx → EReal)
          (m ((c : Thread nD τ).loc main_arg2) : S32x1x128.Idx → EReal) (chan t p) b j n := by
  unfold entering
  simp only [block0, block1, block2]

/-- The call's array at a block of channels, a row and a column. -/
theorem array_apply (r : Fin 1024) (e : Fin 256) :
    (dats m 0 c).arrAt 3 cfg0.N (ValueIdx.ix3 (chan t p) r e : S32x1024x256.Idx)
      = states (m ((c : Thread nD τ).loc main_arg0) : S32x1024x256.Idx → EReal) (m ((c : Thread nD τ).loc main_arg1) : S32x1x128.Idx → EReal)
          (m ((c : Thread nD τ).loc main_arg2) : S32x1x128.Idx → EReal) (ValueIdx.ix3 (chan t p) r e) := by
  rw [← emb3 t p r e]
  refine ((dats m 0 c).arrAt_emb_eq_flushed 3 Cert.StatesIdeal.Value.disjoint3 t (flush0_3 _) _).trans ?_
  rw [Cert.StatesIdeal.Value.flushed3_A, emb3]
  refine (out_apply c (grid0.coords t) (ms0_0 t) (hs0_0 t) (ms0_1 t) (hs0_1 t) (ms0_2 t) (hs0_2 t) (ms0_3 t) (hs0_3 t) (iblk m c 0 t) (iblk m c 1 t) (iblk m c 2 t)
    (ValueIdx.ix3 p r e : S8x1024x256.Idx)).trans ?_
  show (if e.val < 128
      then (entering (iblk m c 0 t : S8x1024x256.Idx → EReal) (iblk m c 1 t : S8x1x128.Idx → EReal) (iblk m c 2 t : S8x1x128.Idx → EReal)
        p ⟨r.val % 4, by omega⟩ ⟨e.val % 128, by omega⟩ (r.val / 4)).1
      else (entering (iblk m c 0 t : S8x1024x256.Idx → EReal) (iblk m c 1 t : S8x1x128.Idx → EReal) (iblk m c 2 t : S8x1x128.Idx → EReal)
        p ⟨r.val % 4, by omega⟩ ⟨e.val % 128, by omega⟩ (r.val / 4)).2) = _
  rw [block_entering]
  rfl

end

/-- The call's array is the states. -/
theorem array_eq (m : (ℓ : Loc nD τ sig) → Buf (Elt Ideal) ℓ) (c : Dev nD) (y : S32x1024x256.Idx) :
    (dats m 0 c).arrAt 3 cfg0.N y
      = states (m ((c : Thread nD τ).loc main_arg0) : S32x1024x256.Idx → EReal) (m ((c : Thread nD τ).loc main_arg1) : S32x1x128.Idx → EReal)
          (m ((c : Thread nD τ).loc main_arg2) : S32x1x128.Idx → EReal) y := by
  have h0 : (y 0).val < 32 := (y 0).isLt
  have ey : y = (ValueIdx.ix3 (chan ⟨(y 0).val / 8, by show (y 0).val / 8 < 4; omega⟩ ⟨(y 0).val % 8, by omega⟩) (y 1) (y 2) : S32x1024x256.Idx) := by
    funext a
    match a with
    | ⟨0, _⟩ => exact Fin.ext (by show (y 0).val = 8 * ((y 0).val / 8) + (y 0).val % 8; omega)
    | ⟨1, _⟩ => rfl
    | ⟨2, _⟩ => rfl
  rw [ey]
  exact array_apply _ _ m c _ _

end Cert.Proof.Proj.States

namespace Cert.Proof.Proj.States

open Cert.StatesReferenceIdeal Cert.StatesReferenceIdeal.Gen Cert.StatesReferenceIdeal.Step
open Idealize.ShloMosaic

/-! ## The reference's loop -/

section
variable (x : S32x1024x256.Idx → EReal) (ar ai : S32x1x128.Idx → EReal)

/-- The row and the column of a chunk, a sequence, a part and a channel. -/
def row5 (n : Fin 256) (b : Fin 4) : Fin 1024 := ⟨4 * n.val + b.val, by omega⟩
def col5 (e : Fin 2) (q : Fin 128) : Fin 256 := ⟨128 * e.val + q.val, by omega⟩

theorem sums_apply (n : Fin 256) (p : Fin 32) (b : Fin 4) (e : Fin 2) (q : Fin 128) :
    A_main_v1 (F := Ideal) x (ValueIdx.ix5 n p b e q) = x (ValueIdx.ix3 p (row5 n b) (col5 e q)) := by
  unfold A_main_v1
  refine (transpose_apply [1, 0, 2, 3, 4] _ transposes_S32x256x4x2x128_S256x32x4x2x128_1_0_2_3_4 (ValueIdx.ix5 n p b e q) (ValueIdx.ix5 p n b e q) fun a => ?_).trans ?_
  · match a with
    | ⟨0, _⟩ => rfl
    | ⟨1, _⟩ => rfl
    | ⟨2, _⟩ => rfl
    | ⟨3, _⟩ => rfl
    | ⟨4, _⟩ => rfl
  unfold A_main_v0
  refine shapeCast_apply x _ (ValueIdx.ix5 p n b e q) (ValueIdx.ix3 p (row5 n b) (col5 e q)) ?_
  rw [Shape.rowMajor_val_five, Shape.rowMajor_val_three]
  show (p.val * 1024 + (4 * n.val + b.val)) * 256 + (128 * e.val + q.val) = (((p.val * 256 + n.val) * 4 + b.val) * 2 + e.val) * 128 + q.val
  omega

variable (k : ℕ) (hk : k < 256) (s : State Ideal) (p : Fin 32) (b : Fin 4) (q : Fin 128)

include hk in
theorem index_toInt : (BitVec.ofNat 32 k).toInt = (k : Int) := by
  rw [BitVec.toInt_eq_toNat_of_lt]
  · rw [BitVec.toNat_ofNat, Nat.mod_eq_of_lt (by omega)]
  · rw [BitVec.toNat_ofNat, Nat.mod_eq_of_lt (by omega)]
    omega

include hk in
/-- A trip's chunk lies inside the sums. -/
theorem chunk_fits : S256x32x4x2x128.Slices (![k, 0, 0, 0, 0] : Fin 5 → ℕ) S1x32x4x2x128 := ⟨rfl, fun a =>
  match a with
  | ⟨0, _⟩ => by show k + 1 ≤ 256; omega
  | ⟨1, _⟩ => Nat.le_refl 32
  | ⟨2, _⟩ => Nat.le_refl 4
  | ⟨3, _⟩ => Nat.le_refl 2
  | ⟨4, _⟩ => Nat.le_refl 128⟩

theorem chunk_apply (e : Fin 2) : b5 k s (ValueIdx.ix4 p b e q) = s.main_v4_0 (ValueIdx.ix5 (⟨k, hk⟩ : Fin 256) p b e q) := by
  unfold b5
  refine (shapeCast_apply _ shapeCasts_S1x32x4x2x128_S32x4x2x128 (ValueIdx.ix4 p b e q) (ValueIdx.ix5 (0 : Fin 1) p b e q) ?_).trans ?_
  · rw [Shape.rowMajor_val_five, Shape.rowMajor_val_four]
    show (((0 * 32 + p.val) * 4 + b.val) * 2 + e.val) * 128 + q.val = ((p.val * 4 + b.val) * 2 + e.val) * 128 + q.val
    omega
  unfold b4
  rw [WordCmp.dynamicSlice_eq_extract S1x32x4x2x128 s.main_v4_0 _ _ (![k, 0, 0, 0, 0] : Fin 5 → ℕ) (chunk_fits k hk) (fun a =>
    match a with
    | ⟨0, _⟩ => index_toInt k hk
    | ⟨1, _⟩ => rfl
    | ⟨2, _⟩ => rfl
    | ⟨3, _⟩ => rfl
    | ⟨4, _⟩ => rfl)]
  exact extractStridedSlice_apply _ s.main_v4_0 (chunk_fits k hk) _ (ValueIdx.ix5 (⟨k, hk⟩ : Fin 256) p b e q) fun a =>
    match a with
    | ⟨0, _⟩ => rfl
    | ⟨1, _⟩ => (Nat.zero_add _).symm
    | ⟨2, _⟩ => (Nat.zero_add _).symm
    | ⟨3, _⟩ => (Nat.zero_add _).symm
    | ⟨4, _⟩ => (Nat.zero_add _).symm

theorem unit_cast (z : FVec Ideal S32x4x1x128 .f32) :
    shapeCast S32x4x128 z shapeCasts_S32x4x1x128_S32x4x128 (ValueIdx.ix3 p b q) = z (ValueIdx.ix4 p b 0 q) := by
  refine shapeCast_apply z shapeCasts_S32x4x1x128_S32x4x128 (ValueIdx.ix3 p b q) (ValueIdx.ix4 p b 0 q) ?_
  rw [Shape.rowMajor_val_four, Shape.rowMajor_val_three]
  show ((p.val * 4 + b.val) * 1 + 0) * 128 + q.val = (p.val * 4 + b.val) * 128 + q.val
  omega

theorem part_re : b12 k s (ValueIdx.ix3 p b q) = s.main_v4_0 (ValueIdx.ix5 (⟨k, hk⟩ : Fin 256) p b 0 q) := by
  unfold b12 b11
  rw [unit_cast, ← chunk_apply k hk s p b q 0]
  exact extractStridedSlice_apply _ (b5 k s) slices_S32x4x2x128_S32x4x1x128_0_0_0_0 _ _ fun a =>
    match a with
    | ⟨0, _⟩ => (Nat.zero_add _).symm
    | ⟨1, _⟩ => (Nat.zero_add _).symm
    | ⟨2, _⟩ => rfl
    | ⟨3, _⟩ => (Nat.zero_add _).symm
theorem part_im : b20 k s (ValueIdx.ix3 p b q) = s.main_v4_0 (ValueIdx.ix5 (⟨k, hk⟩ : Fin 256) p b 1 q) := by
  unfold b20 b19
  rw [unit_cast, ← chunk_apply k hk s p b q 1]
  exact extractStridedSlice_apply _ (b5 k s) slices_S32x4x2x128_S32x4x1x128_0_0_1_0 _ _ fun a =>
    match a with
    | ⟨0, _⟩ => (Nat.zero_add _).symm
    | ⟨1, _⟩ => (Nat.zero_add _).symm
    | ⟨2, _⟩ => rfl
    | ⟨3, _⟩ => (Nat.zero_add _).symm

theorem spread_ref (v : S32x1x128.Idx → EReal) :
    broadcastInDim S32x4x128 ![0, 1, 2] bcast_S32x1x128_S32x4x128_0_1_2 v (ValueIdx.ix3 p b q) = v (ValueIdx.ix3 p 0 q) :=
  broadcastInDim_apply _ _ v _ _ fun a =>
    match a with
    | ⟨0, _⟩ => rfl
    | ⟨1, _⟩ => rfl
    | ⟨2, _⟩ => rfl

theorem next_re : b13 k s (ValueIdx.ix3 p b q)
    = s.main_v4_1 (ValueIdx.ix3 p 0 q) * s.main_v4_4 (ValueIdx.ix3 p b q) - s.main_v4_2 (ValueIdx.ix3 p 0 q) * s.main_v4_5 (ValueIdx.ix3 p b q)
      + s.main_v4_0 (ValueIdx.ix5 (⟨k, hk⟩ : Fin 256) p b 0 q) := by
  rw [← part_re k hk, ← spread_ref p b q s.main_v4_1, ← spread_ref p b q s.main_v4_2]
  rfl
theorem next_im : b21 k s (ValueIdx.ix3 p b q)
    = s.main_v4_1 (ValueIdx.ix3 p 0 q) * s.main_v4_5 (ValueIdx.ix3 p b q) + s.main_v4_2 (ValueIdx.ix3 p 0 q) * s.main_v4_4 (ValueIdx.ix3 p b q)
      + s.main_v4_0 (ValueIdx.ix5 (⟨k, hk⟩ : Fin 256) p b 1 q) := by
  rw [← part_im k hk, ← spread_ref p b q s.main_v4_1, ← spread_ref p b q s.main_v4_2]
  rfl

theorem unit_spread (z : FVec Ideal S32x4x128 .f32) :
    broadcastInDim S32x4x1x128 ![0, 1, 3] bcast_S32x4x128_S32x4x1x128_0_1_3 z (ValueIdx.ix4 p b 0 q) = z (ValueIdx.ix3 p b q) :=
  broadcastInDim_apply _ _ z _ _ fun a =>
    match a with
    | ⟨0, _⟩ => rfl
    | ⟨1, _⟩ => rfl
    | ⟨2, _⟩ => rfl

theorem both_re : b24 k s (ValueIdx.ix4 p b 0 q) = s.main_v4_4 (ValueIdx.ix3 p b q) := by
  unfold b24
  refine (concatenate_pair_apply_left (t := S32x4x2x128) (s₁ := S32x4x1x128) (s₂ := S32x4x1x128) 2 _ _ _ (ValueIdx.ix4 p b 0 q) rfl (ValueIdx.ix4 p b 0 q) fun a => ?_).trans
    (unit_spread p b q _)
  match a with
  | ⟨0, _⟩ => rfl
  | ⟨1, _⟩ => rfl
  | ⟨2, _⟩ => rfl
  | ⟨3, _⟩ => rfl
theorem both_im : b24 k s (ValueIdx.ix4 p b 1 q) = s.main_v4_5 (ValueIdx.ix3 p b q) := by
  unfold b24
  refine (concatenate_pair_apply_right (t := S32x4x2x128) (s₁ := S32x4x1x128) (s₂ := S32x4x1x128) 2 _ _ _ (ValueIdx.ix4 p b 1 q) rfl rfl (ValueIdx.ix4 p b 0 q) (fun a ha => ?_) rfl).trans
    (unit_spread p b q _)
  match a with
  | ⟨0, _⟩ => rfl
  | ⟨1, _⟩ => rfl
  | ⟨2, _⟩ => exact absurd rfl ha
  | ⟨3, _⟩ => rfl

/-- The states gathered so far with one more chunk's. -/
theorem gathered_eq : b30 k s = updateSlice s.main_v4_6 (b25 k s) (![k, 0, 0, 0, 0] : Fin 5 → ℕ) (chunk_fits k hk) := by
  unfold b30
  exact WordCmp.dynamicUpdateSlice_eq_update s.main_v4_6 (b25 k s) _ _ (![k, 0, 0, 0, 0] : Fin 5 → ℕ) (chunk_fits k hk) (fun a =>
    match a with
    | ⟨0, _⟩ => index_toInt k hk
    | ⟨1, _⟩ => rfl
    | ⟨2, _⟩ => rfl
    | ⟨3, _⟩ => rfl
    | ⟨4, _⟩ => rfl)

theorem gathered_here (e : Fin 2) : b30 k s (ValueIdx.ix5 (⟨k, hk⟩ : Fin 256) p b e q) = b24 k s (ValueIdx.ix4 p b e q) := by
  rw [gathered_eq k hk]
  unfold updateSlice
  rw [dif_pos (fun a =>
    match a with
    | ⟨0, _⟩ => ⟨Nat.le_refl k, Nat.lt_succ_self k⟩
    | ⟨1, _⟩ => ⟨Nat.zero_le _, by show p.val < 0 + 32; omega⟩
    | ⟨2, _⟩ => ⟨Nat.zero_le _, by show b.val < 0 + 4; omega⟩
    | ⟨3, _⟩ => ⟨Nat.zero_le _, by show e.val < 0 + 2; omega⟩
    | ⟨4, _⟩ => ⟨Nat.zero_le _, by show q.val < 0 + 128; omega⟩)]
  exact broadcastInDim_apply _ _ (b24 k s) _ _ fun a =>
    match a with
    | ⟨0, _⟩ => rfl
    | ⟨1, _⟩ => rfl
    | ⟨2, _⟩ => rfl
    | ⟨3, _⟩ => rfl

include hk in
theorem gathered_before (n : Fin 256) (hn : n.val < k) (e : Fin 2) :
    b30 k s (ValueIdx.ix5 n p b e q) = s.main_v4_6 (ValueIdx.ix5 n p b e q) := by
  rw [gathered_eq k hk]
  unfold updateSlice
  refine dif_neg fun h => ?_
  have h0 : k ≤ n.val := (h 0).1
  omega

/-- The loop's states, from the first. -/
def seq : ℕ → State Ideal
  | 0 => init ar ai x
  | n + 1 => step n (seq n)

/-- Before each trip the carried parts are the states that enter its chunk, and those of the chunks before are gathered. -/
theorem seq_holds : ∀ k : ℕ, k ≤ 256 →
    (seq x ar ai k).main_v4_0 = A_main_v1 x ∧ (seq x ar ai k).main_v4_1 = ar ∧ (seq x ar ai k).main_v4_2 = ai
      ∧ ∀ (p : Fin 32) (b : Fin 4) (q : Fin 128),
        (seq x ar ai k).main_v4_4 (ValueIdx.ix3 p b q) = (entering x ar ai p b q k).1
        ∧ (seq x ar ai k).main_v4_5 (ValueIdx.ix3 p b q) = (entering x ar ai p b q k).2
        ∧ ∀ n : Fin 256, n.val < k →
          (seq x ar ai k).main_v4_6 (ValueIdx.ix5 n p b 0 q) = (entering x ar ai p b q n.val).1
          ∧ (seq x ar ai k).main_v4_6 (ValueIdx.ix5 n p b 1 q) = (entering x ar ai p b q n.val).2
  | 0, _ => ⟨rfl, rfl, rfl, fun p b q => ⟨Ideal.ofBits_zero_f32, Ideal.ofBits_zero_f32, fun n hn => absurd hn (Nat.not_lt_zero _)⟩⟩
  | k + 1, hk => by
    obtain ⟨h0, h1, h2, h⟩ := seq_holds k (Nat.le_of_succ_le hk)
    have er : ∀ b : Fin 4, row5 (⟨k, hk⟩ : Fin 256) b = rowOf k b := fun b => Fin.ext (by
      have hb := b.isLt
      show 4 * k + b.val = (4 * k + b.val) % 1024
      omega)
    have ec : ∀ q : Fin 128, col5 0 q = reCol q := fun q => Fin.ext (by show 128 * 0 + q.val = q.val; omega)
    have ei : ∀ q : Fin 128, col5 1 q = imCol q := fun q => Fin.ext (by show 128 * 1 + q.val = 128 + q.val; omega)
    refine ⟨h0, h1, h2, fun p b q => ⟨?_, ?_, fun n hn => ?_⟩⟩
    · show b13 k (seq x ar ai k) (ValueIdx.ix3 p b q) = _
      rw [next_re k hk, (h p b q).1, (h p b q).2.1, h0, h1, h2, sums_apply, er, ec, entering_succ]
    · show b21 k (seq x ar ai k) (ValueIdx.ix3 p b q) = _
      rw [next_im k hk, (h p b q).1, (h p b q).2.1, h0, h1, h2, sums_apply, er, ei, entering_succ]
    · show b30 k (seq x ar ai k) (ValueIdx.ix5 n p b 0 q) = _ ∧ b30 k (seq x ar ai k) (ValueIdx.ix5 n p b 1 q) = _
      by_cases c : n.val < k
      · rw [gathered_before k hk _ p b q n c, gathered_before k hk _ p b q n c]
        exact (h p b q).2.2 n c
      · obtain rfl : n = ⟨k, hk⟩ := Fin.ext (by show n.val = k; omega)
        rw [gathered_here k hk, gathered_here k hk, both_re, both_im]
        exact ⟨(h p b q).1, (h p b q).2.1⟩

/-- The reference's array is the states. -/
theorem reference_eq (y : S32x1024x256.Idx) : R_main_v6 (seq x ar ai 256) y = states x ar ai y := by
  have l1 : (y 1).val < 1024 := (y 1).isLt
  have l2 : (y 2).val < 256 := (y 2).isLt
  have hs := fun p b q => ((seq_holds x ar ai 256 (Nat.le_refl _)).2.2.2 p b q).2.2
  generalize seq x ar ai 256 = s at hs ⊢
  have hr : ∀ (e : Fin 2) (q : Fin 128), (y 2).val = 128 * e.val + q.val →
      R_main_v6 s y = s.main_v4_6 (ValueIdx.ix5 (⟨(y 1).val / 4, by omega⟩ : Fin 256) (y 0) (⟨(y 1).val % 4, by omega⟩ : Fin 4) e q) := fun e q he => by
    unfold R_main_v6
    refine (shapeCast_apply _ _ y (ValueIdx.ix5 (y 0) (⟨(y 1).val / 4, by omega⟩ : Fin 256) (⟨(y 1).val % 4, by omega⟩ : Fin 4) e q) ?_).trans ?_
    · rw [Shape.rowMajor_val_five, Shape.rowMajor_val_three]
      show ((((y 0).val * 256 + (y 1).val / 4) * 4 + (y 1).val % 4) * 2 + e.val) * 128 + q.val = ((y 0).val * 1024 + (y 1).val) * 256 + (y 2).val
      omega
    · refine transpose_apply [1, 0, 2, 3, 4] s.main_v4_6 _ _ _ fun a => ?_
      match a with
      | ⟨0, _⟩ => rfl
      | ⟨1, _⟩ => rfl
      | ⟨2, _⟩ => rfl
      | ⟨3, _⟩ => rfl
      | ⟨4, _⟩ => rfl
  by_cases c2 : (y 2).val < 128
  · rw [hr 0 ⟨(y 2).val, c2⟩ (by show (y 2).val = 128 * 0 + (y 2).val; omega)]
    refine (hs _ _ _ _ (by show (y 1).val / 4 < 256; omega)).1.trans ?_
    refine (states_re x ar ai _ _ _ _ y rfl ?_ ?_).symm
    · show (y 1).val = 4 * ((y 1).val / 4) + (y 1).val % 4
      omega
    · rfl
  · rw [hr 1 ⟨(y 2).val - 128, by omega⟩ (by show (y 2).val = 128 * 1 + ((y 2).val - 128); omega)]
    refine (hs _ _ _ _ (by show (y 1).val / 4 < 256; omega)).2.trans ?_
    refine (states_im x ar ai _ _ _ _ y rfl ?_ ?_).symm
    · show (y 1).val = 4 * ((y 1).val / 4) + (y 1).val % 4
      omega
    · show (y 2).val = 128 + ((y 2).val - 128)
      omega

end

end Cert.Proof.Proj.States

namespace Cert.Proof.Proj.States

open Idealize.ShloMosaic Idealize.ShloMosaic.TcCoe Idealize.SL.Sem

/-- The reference's run: its array is the last state's. -/
theorem reference_run (m : (ℓ : Loc Cert.StatesReferenceIdeal.nD Cert.StatesReferenceIdeal.τ Cert.StatesReferenceIdeal.sig) → Buf (Elt Ideal) ℓ)
    (ρ : Dev Cert.StatesReferenceIdeal.nD → PrngReg) :
    θ_run (Cert.StatesReferenceIdeal.defs (F := Ideal)) (onTc (τ := Cert.StatesReferenceIdeal.τ) (Cert.StatesReferenceIdeal.main (F := Ideal))) ⟨m, fun _ => 0, ρ⟩ fun r => ∀ c : Dev Cert.StatesReferenceIdeal.nD,
      r.2.mem ((c.tc : Thread Cert.StatesReferenceIdeal.nD Cert.StatesReferenceIdeal.τ).loc Cert.StatesReferenceIdeal.main_v6)
          = Cert.StatesReferenceIdeal.Step.R_main_v6
              (seq (m ((c.tc : Thread Cert.StatesReferenceIdeal.nD Cert.StatesReferenceIdeal.τ).loc Cert.StatesReferenceIdeal.main_arg0))
                (m ((c.tc : Thread Cert.StatesReferenceIdeal.nD Cert.StatesReferenceIdeal.τ).loc Cert.StatesReferenceIdeal.main_arg1))
                (m ((c.tc : Thread Cert.StatesReferenceIdeal.nD Cert.StatesReferenceIdeal.τ).loc Cert.StatesReferenceIdeal.main_arg2)) 256)
      ∧ r.2.mem ((c.tc : Thread Cert.StatesReferenceIdeal.nD Cert.StatesReferenceIdeal.τ).loc Cert.StatesReferenceIdeal.main_arg0) = m ((c.tc : Thread Cert.StatesReferenceIdeal.nD Cert.StatesReferenceIdeal.τ).loc Cert.StatesReferenceIdeal.main_arg0)
      ∧ r.2.mem ((c.tc : Thread Cert.StatesReferenceIdeal.nD Cert.StatesReferenceIdeal.τ).loc Cert.StatesReferenceIdeal.main_arg1) = m ((c.tc : Thread Cert.StatesReferenceIdeal.nD Cert.StatesReferenceIdeal.τ).loc Cert.StatesReferenceIdeal.main_arg1)
      ∧ r.2.mem ((c.tc : Thread Cert.StatesReferenceIdeal.nD Cert.StatesReferenceIdeal.τ).loc Cert.StatesReferenceIdeal.main_arg2) = m ((c.tc : Thread Cert.StatesReferenceIdeal.nD Cert.StatesReferenceIdeal.τ).loc Cert.StatesReferenceIdeal.main_arg2) :=
  Cert.Proof.Proj.StatesRun.run_iter (F := Ideal) m ρ
    (fun c => seq (m ((c.tc : Thread Cert.StatesReferenceIdeal.nD Cert.StatesReferenceIdeal.τ).loc Cert.StatesReferenceIdeal.main_arg0))
      (m ((c.tc : Thread Cert.StatesReferenceIdeal.nD Cert.StatesReferenceIdeal.τ).loc Cert.StatesReferenceIdeal.main_arg1))
      (m ((c.tc : Thread Cert.StatesReferenceIdeal.nD Cert.StatesReferenceIdeal.τ).loc Cert.StatesReferenceIdeal.main_arg2)))
    (fun _ => rfl) (fun _ _ => rfl)

/-- The reference ends at rest: it declares no semaphore. -/
theorem reference_frame : Cert.quiescent_StatesReferenceIdeal := fun m g _ =>
  (θ_run Cert.StatesReferenceIdeal.defs _ _).mono (fun r h => ⟨fun c => (h c).2, Idealize.ShloMosaic.sem_eq_zero_of_no_sems (by decide) r.2⟩)
    (reference_run m g)

/-- Over the reals the call and its reference end with one result. -/
theorem algebraic : Cert.algebraic_StatesIdeal_StatesReferenceIdeal := by
  intro m g m' g' hpre hagree
  refine ⟨fun c => (Cert.StatesIdeal.Gen.dats m 0 c).arrAt 3 Cert.StatesIdeal.cfg0.N, Cert.StatesIdeal.Value.run_blocks m g, ?_⟩
  refine (θ_run Cert.StatesReferenceIdeal.defs _ _).mono (fun _ h c => ⟨(h c).1.trans ?_, (h c).2⟩) (reference_run m' g')
  rw [(hagree c).1, (hagree c).2.1, (hagree c).2.2]
  funext y
  exact (reference_eq _ _ _ y).trans (array_eq m c y).symm

end Cert.Proof.Proj.States

end
-- ==== Proof.Proj.Pairs.lean ====
/- Channel groups taken in pairs: the two groups of a pair, and how the host code cuts their coefficients out. -/
module

public import proofs.«01_k».proof.Proof.Proj.Spec

@[expose] public section

set_option maxRecDepth 16384

noncomputable section

namespace Cert.Proof.Proj.Pairs

open Idealize.ShloMosaic
open scoped BigOperators

/-- The group at place `h` of pair `p`. -/
def group (p : Fin 32) (h : Fin 2) : Fin 64 := ⟨2 * p.val + h.val, by omega⟩

/-- A row of a group's input times a column of the group's coefficients. -/
def part {I K N : Nat} (x : (⟨3, ![64, I, K]⟩ : Shape).Idx → EReal) (w : (⟨3, ![64, K, N]⟩ : Shape).Idx → EReal) (g : Fin 64) (i : Fin I) (n : Fin N) : EReal :=
  ∑ k : Fin K, x (ValueIdx.ix3 g i k) * w (ValueIdx.ix3 g k n)

/-- A block of one matrix, as a matrix. -/
theorem cast_flat {α : Type} {A B : Nat} (x : (⟨3, ![1, A, B]⟩ : Shape).Idx → α) (h : (⟨3, ![1, A, B]⟩ : Shape).ShapeCasts ⟨2, ![A, B]⟩) (i : Fin A) (j : Fin B) :
    shapeCast ⟨2, ![A, B]⟩ x h (ValueIdx.ix2 i j) = x (ValueIdx.ix3 0 i j) := by
  refine shapeCast_apply x h (ValueIdx.ix2 i j) (ValueIdx.ix3 0 i j) ?_
  rw [Shape.rowMajor_val_three, Shape.rowMajor_val_two]
  show (0 * A + i.val) * B + j.val = i.val * B + j.val
  rw [Nat.zero_mul, Nat.zero_add]

/-- A matrix, as a block of one. -/
theorem cast_lift {α : Type} {A B : Nat} (x : (⟨2, ![A, B]⟩ : Shape).Idx → α) (h : (⟨2, ![A, B]⟩ : Shape).ShapeCasts ⟨3, ![1, A, B]⟩) (i : Fin A) (j : Fin B) :
    shapeCast ⟨3, ![1, A, B]⟩ x h (ValueIdx.ix3 0 i j) = x (ValueIdx.ix2 i j) := by
  refine shapeCast_apply x h (ValueIdx.ix3 0 i j) (ValueIdx.ix2 i j) ?_
  rw [Shape.rowMajor_val_three, Shape.rowMajor_val_two]
  show i.val * B + j.val = (0 * A + i.val) * B + j.val
  rw [Nat.zero_mul, Nat.zero_add]

/-- The coefficients of the groups at place `h` of their pairs: a reshape, a slice and a reshape. -/
theorem half_apply {α : Type} {A B : Nat} (h : Fin 2) (w : (⟨3, ![64, A, B]⟩ : Shape).Idx → α)
    (h1 : (⟨3, ![64, A, B]⟩ : Shape).ShapeCasts ⟨4, ![32, 2, A, B]⟩)
    (h2 : Shape.Slices ⟨4, ![32, 2, A, B]⟩ ![0, h.val, 0, 0] ⟨4, ![32, 1, A, B]⟩)
    (h3 : (⟨4, ![32, 1, A, B]⟩ : Shape).ShapeCasts ⟨3, ![32, A, B]⟩) (p : Fin 32) (k : Fin A) (n : Fin B) :
    shapeCast ⟨3, ![32, A, B]⟩ (extractStridedSlice ⟨4, ![32, 1, A, B]⟩ ![0, h.val, 0, 0] (shapeCast ⟨4, ![32, 2, A, B]⟩ w h1) h2) h3 (ValueIdx.ix3 p k n)
      = w (ValueIdx.ix3 (group p h) k n) := by
  refine (shapeCast_apply _ h3 (ValueIdx.ix3 p k n) (ValueIdx.ix4 p 0 k n) ?_).trans ?_
  · rw [Shape.rowMajor_val_four, Shape.rowMajor_val_three]
    show ((p.val * 1 + 0) * A + k.val) * B + n.val = (p.val * A + k.val) * B + n.val
    rw [Nat.mul_one, Nat.add_zero]
  refine (extractStridedSlice_apply _ _ h2 (ValueIdx.ix4 p 0 k n) (ValueIdx.ix4 p h k n) (fun a => ?_)).trans ?_
  · match a with
    | ⟨0, _⟩ => show p.val = 0 + p.val; omega
    | ⟨1, _⟩ => show h.val = h.val + 0; omega
    | ⟨2, _⟩ => show k.val = 0 + k.val; omega
    | ⟨3, _⟩ => show n.val = 0 + n.val; omega
  · refine shapeCast_apply w h1 (ValueIdx.ix4 p h k n) (ValueIdx.ix3 (group p h) k n) ?_
    rw [Shape.rowMajor_val_four, Shape.rowMajor_val_three]
    show ((2 * p.val + h.val) * A + k.val) * B + n.val = ((p.val * 2 + h.val) * A + k.val) * B + n.val
    rw [Nat.mul_comm 2]

end Cert.Proof.Proj.Pairs

end
-- ==== Proof.Proj.Sums.lean ====
/- The sums of the S5 chunks: the call and the reference, both read at a pair of groups, a row, a part and a state. -/
module

public import proofs.«01_k».proof.Defs
public import proofs.«01_k».proof.Proof.Gen.SumsIdeal.Value
public import proofs.«01_k».proof.Proof.Gen.SumsReferenceIdeal.Read
public import proofs.«01_k».proof.Proof.Gen.SumsReferenceIdeal.Run
public import proofs.«01_k».proof.Proof.Proj.Pairs

@[expose] public section

set_option maxRecDepth 16384

noncomputable section

namespace Cert.Proof.Proj.Sums

open Cert.Proof.Proj.Pairs
open Idealize.ShloMosaic
open scoped BigOperators

/-- The column of part `ρ` (real or imaginary), group `h` of the pair and state `n`. -/
def col (ρ h : Fin 2) (n : Fin 64) : Fin 256 := ⟨128 * ρ.val + 64 * h.val + n.val, by omega⟩

/-- The row of the pair's coefficients that belongs to input `k` of group `h`. -/
def row (h : Fin 2) (k : Fin 256) : Fin 512 := ⟨256 * h.val + k.val, by omega⟩

/-- The coefficients of one part. -/
def pick (wr wi : (⟨3, ![64, 256, 64]⟩ : Shape).Idx → EReal) (ρ : Fin 2) : (⟨3, ![64, 256, 64]⟩ : Shape).Idx → EReal := if ρ = 0 then wr else wi

end Cert.Proof.Proj.Sums

namespace Cert.Proof.Proj.Sums

open Cert.SumsIdeal Cert.SumsIdeal.Gen Cert.SumsIdeal.Value
open Cert.Proof.Proj.Pairs
open Idealize.ShloMosaic Idealize.ShloMosaic.TcCoe Idealize.SL.Sem
open scoped BigOperators

theorem hz3 : (![0, 0, 0] : Fin 3 → Nat) = fun _ => 0 := by decide

theorem dot_eq : dot_S1024x256_S256x256_S1024x256_1_0_0_1_n_n = DotDims.plain 1024 256 256 := rfl

/-- What the body stores at a row and a column of its block. -/
theorem stored_apply (x1 : FVec Ideal S1x1024x256 .bf16) (w1 : FVec Ideal S1x256x256 .bf16) (x2 : FVec Ideal S1x1024x256 .bf16) (w2 : FVec Ideal S1x256x256 .bf16)
    (i : Fin 1024) (j : Fin 256) :
    k0_pay1 (F := Ideal) x1 w1 x2 w2 (ValueIdx.ix3 0 i j)
      = (∑ k : Fin 256, x1 (ValueIdx.ix3 0 i k) * w1 (ValueIdx.ix3 0 k j) : EReal) + ∑ k : Fin 256, x2 (ValueIdx.ix3 0 i k) * w2 (ValueIdx.ix3 0 k j) := by
  unfold k0_pay1
  rw [dot_eq]
  refine (cast_lift _ _ i j).trans ?_
  refine congrArg₂ (fun p q : EReal => p + q) ((matmul_zero _ _ i j).trans ?_) ((matmul_zero _ _ i j).trans ?_)
  · exact Finset.sum_congr rfl fun k _ => congrArg₂ (fun p q : EReal => p * q) (cast_flat x1 _ i k) (cast_flat w1 _ k j)
  · exact Finset.sum_congr rfl fun k _ => congrArg₂ (fun p q : EReal => p * q) (cast_flat x2 _ i k) (cast_flat w2 _ k j)

/-! ## The pair's coefficients -/

/-- Four arrays side by side, at a column of one of them. -/
theorem quad_apply (f : Fin 4 → S32x256x64.Idx → EReal) (h : Shape.Concatenates [S32x256x64, S32x256x64, S32x256x64, S32x256x64] S32x256x256 2)
    (p : Fin 32) (k : Fin 256) (ℓ : Fin 4) (n : Fin 64) (j : Fin 256) (hj : j.val = 64 * ℓ.val + n.val) :
    concatenate S32x256x256 2 [⟨S32x256x64, f 0⟩, ⟨S32x256x64, f 1⟩, ⟨S32x256x64, f 2⟩, ⟨S32x256x64, f 3⟩] h (ValueIdx.ix3 p k j) = f ℓ (ValueIdx.ix3 p k n) := by
  have hi : ∀ b : Fin 3, b ≠ 2 → ((ValueIdx.ix3 p k n : S32x256x64.Idx) b).val = ((ValueIdx.ix3 p k j : S32x256x256.Idx) b).val := fun b hb => by
    match b with
    | ⟨0, _⟩ => rfl
    | ⟨1, _⟩ => rfl
    | ⟨2, _⟩ => exact absurd rfl hb
  match ℓ with
  | ⟨0, _⟩ => exact concatenate_apply_piece (t := S32x256x256) 2 [⟨S32x256x64, f 0⟩, ⟨S32x256x64, f 1⟩, ⟨S32x256x64, f 2⟩, ⟨S32x256x64, f 3⟩] h (ValueIdx.ix3 p k j) 0 (show 0 < 4 by decide) S32x256x64 (f 0) rfl rfl 0 rfl (ValueIdx.ix3 p k n) hi (by have hj : j.val = 64 * 0 + n.val := hj; show 0 + n.val = j.val; omega)
  | ⟨1, _⟩ => exact concatenate_apply_piece (t := S32x256x256) 2 [⟨S32x256x64, f 0⟩, ⟨S32x256x64, f 1⟩, ⟨S32x256x64, f 2⟩, ⟨S32x256x64, f 3⟩] h (ValueIdx.ix3 p k j) 1 (show 1 < 4 by decide) S32x256x64 (f 1) rfl rfl 64 rfl (ValueIdx.ix3 p k n) hi (by have hj : j.val = 64 * 1 + n.val := hj; show 64 + n.val = j.val; omega)
  | ⟨2, _⟩ => exact concatenate_apply_piece (t := S32x256x256) 2 [⟨S32x256x64, f 0⟩, ⟨S32x256x64, f 1⟩, ⟨S32x256x64, f 2⟩, ⟨S32x256x64, f 3⟩] h (ValueIdx.ix3 p k j) 2 (show 2 < 4 by decide) S32x256x64 (f 2) rfl rfl 128 rfl (ValueIdx.ix3 p k n) hi (by have hj : j.val = 64 * 2 + n.val := hj; show 128 + n.val = j.val; omega)
  | ⟨3, _⟩ => exact concatenate_apply_piece (t := S32x256x256) 2 [⟨S32x256x64, f 0⟩, ⟨S32x256x64, f 1⟩, ⟨S32x256x64, f 2⟩, ⟨S32x256x64, f 3⟩] h (ValueIdx.ix3 p k j) 3 (show 3 < 4 by decide) S32x256x64 (f 3) rfl rfl 192 rfl (ValueIdx.ix3 p k n) hi (by have hj : j.val = 64 * 3 + n.val := hj; show 192 + n.val = j.val; omega)

/-- The zeros beside the coefficients. -/
def zeros : S32x256x64.Idx → EReal := broadcastInDim S32x256x64 ![] bcast_S_S32x256x64 (constant (F := Ideal) S_ .f32 0x00000000#32)

theorem zeros_apply (i : S32x256x64.Idx) : zeros i = 0 :=
  (broadcastInDim_apply _ bcast_S_S32x256x64 (constant (F := Ideal) S_ .f32 0x00000000#32) i (fun a => a.elim0) (fun a => a.elim0)).trans Ideal.ofBits_zero_f32

/-- The coefficients of the first groups, and of the second groups. -/
def first (w : S64x256x64.Idx → EReal) : S32x256x64.Idx → EReal :=
  shapeCast S32x256x64 (extractStridedSlice S32x1x256x64 ![0, 0, 0, 0] (shapeCast S32x2x256x64 w shapeCasts_S64x256x64_S32x2x256x64) slices_S32x2x256x64_S32x1x256x64_0_0_0_0) shapeCasts_S32x1x256x64_S32x256x64
def second (w : S64x256x64.Idx → EReal) : S32x256x64.Idx → EReal :=
  shapeCast S32x256x64 (extractStridedSlice S32x1x256x64 ![0, 1, 0, 0] (shapeCast S32x2x256x64 w shapeCasts_S64x256x64_S32x2x256x64) slices_S32x2x256x64_S32x1x256x64_0_1_0_0) shapeCasts_S32x1x256x64_S32x256x64

theorem first_apply (w : S64x256x64.Idx → EReal) (p : Fin 32) (k : Fin 256) (n : Fin 64) : first w (ValueIdx.ix3 p k n) = w (ValueIdx.ix3 (group p 0) k n) :=
  half_apply 0 w _ _ _ p k n
theorem second_apply (w : S64x256x64.Idx → EReal) (p : Fin 32) (k : Fin 256) (n : Fin 64) : second w (ValueIdx.ix3 p k n) = w (ValueIdx.ix3 (group p 1) k n) :=
  half_apply 1 w _ _ _ p k n

/-- The rows of the first groups: their coefficients, and zeros at the columns of the second groups. -/
def upperRows (wr wi : S64x256x64.Idx → EReal) : S32x256x256.Idx → EReal :=
  concatenate S32x256x256 2 [⟨S32x256x64, first wr⟩, ⟨S32x256x64, zeros⟩, ⟨S32x256x64, first wi⟩, ⟨S32x256x64, zeros⟩] concatenates_S32x256x64_S32x256x64_S32x256x64_S32x256x64_S32x256x256_d2
def lowerRows (wr wi : S64x256x64.Idx → EReal) : S32x256x256.Idx → EReal :=
  concatenate S32x256x256 2 [⟨S32x256x64, zeros⟩, ⟨S32x256x64, second wr⟩, ⟨S32x256x64, zeros⟩, ⟨S32x256x64, second wi⟩] concatenates_S32x256x64_S32x256x64_S32x256x64_S32x256x64_S32x256x256_d2

theorem upperRows_apply (wr wi : S64x256x64.Idx → EReal) (p : Fin 32) (k : Fin 256) (ρ h : Fin 2) (n : Fin 64) :
    upperRows wr wi (ValueIdx.ix3 p k (col ρ h n)) = if h = 0 then pick wr wi ρ (ValueIdx.ix3 (group p 0) k n) else 0 := by
  have q := fun ℓ hj => quad_apply ![first wr, zeros, first wi, zeros] concatenates_S32x256x64_S32x256x64_S32x256x64_S32x256x64_S32x256x256_d2 p k ℓ n (col ρ h n) hj
  match ρ, h with
  | ⟨0, _⟩, ⟨0, _⟩ => exact (q 0 (by show 128 * 0 + 64 * 0 + n.val = 64 * 0 + n.val; omega)).trans (first_apply wr p k n)
  | ⟨0, _⟩, ⟨1, _⟩ => exact (q 1 (by show 128 * 0 + 64 * 1 + n.val = 64 * 1 + n.val; omega)).trans (zeros_apply (ValueIdx.ix3 p k n))
  | ⟨1, _⟩, ⟨0, _⟩ => exact (q 2 (by show 128 * 1 + 64 * 0 + n.val = 64 * 2 + n.val; omega)).trans (first_apply wi p k n)
  | ⟨1, _⟩, ⟨1, _⟩ => exact (q 3 (by show 128 * 1 + 64 * 1 + n.val = 64 * 3 + n.val; omega)).trans (zeros_apply (ValueIdx.ix3 p k n))

theorem lowerRows_apply (wr wi : S64x256x64.Idx → EReal) (p : Fin 32) (k : Fin 256) (ρ h : Fin 2) (n : Fin 64) :
    lowerRows wr wi (ValueIdx.ix3 p k (col ρ h n)) = if h = 1 then pick wr wi ρ (ValueIdx.ix3 (group p 1) k n) else 0 := by
  have q := fun ℓ hj => quad_apply ![zeros, second wr, zeros, second wi] concatenates_S32x256x64_S32x256x64_S32x256x64_S32x256x64_S32x256x256_d2 p k ℓ n (col ρ h n) hj
  match ρ, h with
  | ⟨0, _⟩, ⟨0, _⟩ => exact (q 0 (by show 128 * 0 + 64 * 0 + n.val = 64 * 0 + n.val; omega)).trans (zeros_apply (ValueIdx.ix3 p k n))
  | ⟨0, _⟩, ⟨1, _⟩ => exact (q 1 (by show 128 * 0 + 64 * 1 + n.val = 64 * 1 + n.val; omega)).trans (second_apply wr p k n)
  | ⟨1, _⟩, ⟨0, _⟩ => exact (q 2 (by show 128 * 1 + 64 * 0 + n.val = 64 * 2 + n.val; omega)).trans (zeros_apply (ValueIdx.ix3 p k n))
  | ⟨1, _⟩, ⟨1, _⟩ => exact (q 3 (by show 128 * 1 + 64 * 1 + n.val = 64 * 3 + n.val; omega)).trans (second_apply wi p k n)

variable (m : (ℓ : Loc nD τ sig) → Buf (Elt Ideal) ℓ) (c : Dev nD)

theorem V_pair : V m c main_v14
    = concatenate S32x512x256 1 [⟨S32x256x256, upperRows (m ((c : Thread nD τ).loc main_arg1)) (m ((c : Thread nD τ).loc main_arg2))⟩,
        ⟨S32x256x256, lowerRows (m ((c : Thread nD τ).loc main_arg1)) (m ((c : Thread nD τ).loc main_arg2))⟩] concatenates_S32x256x256_S32x256x256_S32x512x256_d1 := by
  show StableHlo.after hostOps0 _ (Proc.devRef .tc main_v14) = _
  after_results
  rfl

theorem V_upper (p : Fin 32) (k : Fin 256) (ρ h : Fin 2) (n : Fin 64) :
    V m c main_v14 (ValueIdx.ix3 p (row 0 k) (col ρ h n))
      = if h = 0 then pick (m ((c : Thread nD τ).loc main_arg1)) (m ((c : Thread nD τ).loc main_arg2)) ρ (ValueIdx.ix3 (group p 0) k n) else 0 := by
  rw [V_pair, ← upperRows_apply]
  refine concatenate_pair_apply_left (t := S32x512x256) (s₁ := S32x256x256) (s₂ := S32x256x256) 1 _ _ _ _ rfl (ValueIdx.ix3 p k (col ρ h n)) fun a => ?_
  match a with
  | ⟨0, _⟩ => rfl
  | ⟨1, _⟩ => show k.val = 256 * 0 + k.val; omega
  | ⟨2, _⟩ => rfl

theorem V_lower (p : Fin 32) (k : Fin 256) (ρ h : Fin 2) (n : Fin 64) :
    V m c main_v14 (ValueIdx.ix3 p (row 1 k) (col ρ h n))
      = if h = 1 then pick (m ((c : Thread nD τ).loc main_arg1)) (m ((c : Thread nD τ).loc main_arg2)) ρ (ValueIdx.ix3 (group p 1) k n) else 0 := by
  rw [V_pair, ← lowerRows_apply]
  refine concatenate_pair_apply_right (t := S32x512x256) (s₁ := S32x256x256) (s₂ := S32x256x256) 1 _ _ _ _ rfl rfl (ValueIdx.ix3 p k (col ρ h n)) (fun a ha => ?_) ?_
  · match a with
    | ⟨0, _⟩ => rfl
    | ⟨1, _⟩ => exact absurd rfl ha
    | ⟨2, _⟩ => rfl
  · show k.val + 256 = 256 * 1 + k.val; omega

/-! ## The blocks -/

theorem idx0 : ∀ t : Fin cfg0.N, win0_0.index t (0 : Fin 3) = t.val ∧ win0_0.index t (1 : Fin 3) = 0 ∧ win0_0.index t (2 : Fin 3) = 0 := (by decide +kernel : ∀ t : Fin grid0.N, _)
theorem idx1 : ∀ t : Fin cfg0.N, win0_1.index t (0 : Fin 3) = t.val ∧ win0_1.index t (1 : Fin 3) = 0 ∧ win0_1.index t (2 : Fin 3) = 0 := (by decide +kernel : ∀ t : Fin grid0.N, _)
theorem idx2 : ∀ t : Fin cfg0.N, win0_2.index t (0 : Fin 3) = t.val ∧ win0_2.index t (1 : Fin 3) = 0 ∧ win0_2.index t (2 : Fin 3) = 0 := (by decide +kernel : ∀ t : Fin grid0.N, _)

/-- The grid point of a pair. -/
def point (p : Fin 32) : Fin cfg0.N := ⟨p.val, p.isLt⟩

theorem emb0 (p : Fin 32) (h : Fin 2) (i : Fin 1024) (k : Fin 256) :
    ((cfg0.win 0).blk (point p)).view.emb (ValueIdx.ix3 h i k : S2x1024x256.Idx) = (ValueIdx.ix3 (group p h) i k : S64x1024x256.Idx) := by
  obtain ⟨e0, e1, e2⟩ := idx0 (point p)
  have hp : (point p).val = p.val := rfl
  funext a; apply Fin.ext
  match a with
  | ⟨0, _⟩ => show win0_0.index (point p) (0 : Fin 3) * 2 + 1 * h.val = 2 * p.val + h.val; omega
  | ⟨1, _⟩ => show win0_0.index (point p) (1 : Fin 3) * 1024 + 1 * i.val = i.val; omega
  | ⟨2, _⟩ => show win0_0.index (point p) (2 : Fin 3) * 256 + 1 * k.val = k.val; omega

theorem emb1 (p : Fin 32) (r : Fin 512) (j : Fin 256) :
    ((cfg0.win 1).blk (point p)).view.emb (ValueIdx.ix3 0 r j : S1x512x256.Idx) = (ValueIdx.ix3 p r j : S32x512x256.Idx) := by
  obtain ⟨e0, e1, e2⟩ := idx1 (point p)
  have hp : (point p).val = p.val := rfl
  funext a; apply Fin.ext
  match a with
  | ⟨0, _⟩ => show win0_1.index (point p) (0 : Fin 3) * 1 + 1 * 0 = p.val; omega
  | ⟨1, _⟩ => show win0_1.index (point p) (1 : Fin 3) * 512 + 1 * r.val = r.val; omega
  | ⟨2, _⟩ => show win0_1.index (point p) (2 : Fin 3) * 256 + 1 * j.val = j.val; omega

theorem emb2 (p : Fin 32) (i : Fin 1024) (j : Fin 256) :
    ((cfg0.win 2).blk (point p)).view.emb (ValueIdx.ix3 0 i j : S1x1024x256.Idx) = (ValueIdx.ix3 p i j : S32x1024x256.Idx) := by
  obtain ⟨e0, e1, e2⟩ := idx2 (point p)
  have hp : (point p).val = p.val := rfl
  funext a; apply Fin.ext
  match a with
  | ⟨0, _⟩ => show win0_2.index (point p) (0 : Fin 3) * 1 + 1 * 0 = p.val; omega
  | ⟨1, _⟩ => show win0_2.index (point p) (1 : Fin 3) * 1024 + 1 * i.val = i.val; omega
  | ⟨2, _⟩ => show win0_2.index (point p) (2 : Fin 3) * 256 + 1 * j.val = j.val; omega

theorem block0 (p : Fin 32) (h : Fin 2) (i : Fin 1024) (k : Fin 256) :
    iblk m c 0 (point p) (ValueIdx.ix3 h i k : S2x1024x256.Idx) = m ((c : Thread nD τ).loc main_arg0) (ValueIdx.ix3 (group p h) i k : S64x1024x256.Idx) := by
  show V m c main_arg0 (((cfg0.win 0).blk (point p)).view.emb (ValueIdx.ix3 h i k : S2x1024x256.Idx)) = _
  rw [emb0, V_main_arg0]
theorem block1 (p : Fin 32) (r : Fin 512) (j : Fin 256) :
    iblk m c 1 (point p) (ValueIdx.ix3 0 r j : S1x512x256.Idx) = V m c main_v14 (ValueIdx.ix3 p r j : S32x512x256.Idx) := by
  show V m c main_v14 (((cfg0.win 1).blk (point p)).view.emb (ValueIdx.ix3 0 r j : S1x512x256.Idx)) = _
  rw [emb1]

theorem ld_first (x : Vec Ideal S2x1024x256 .bf16) (i : Fin 1024) (k : Fin 256) : View.ld x r0_0 (ValueIdx.ix3 0 i k) = x (ValueIdx.ix3 0 i k) :=
  congrArg x (funext fun a => Fin.ext (match a with
    | ⟨0, _⟩ => rfl
    | ⟨1, _⟩ => by show 0 + 1 * i.val = i.val; omega
    | ⟨2, _⟩ => by show 0 + 1 * k.val = k.val; omega))
theorem ld_second (x : Vec Ideal S2x1024x256 .bf16) (i : Fin 1024) (k : Fin 256) : View.ld x r0_2 (ValueIdx.ix3 0 i k) = x (ValueIdx.ix3 1 i k) :=
  congrArg x (funext fun a => Fin.ext (match a with
    | ⟨0, _⟩ => rfl
    | ⟨1, _⟩ => by show 0 + 1 * i.val = i.val; omega
    | ⟨2, _⟩ => by show 0 + 1 * k.val = k.val; omega))
theorem ld_upper (x : Vec Ideal S1x512x256 .bf16) (k j : Fin 256) : View.ld x r0_1 (ValueIdx.ix3 0 k j) = x (ValueIdx.ix3 0 (row 0 k) j) :=
  congrArg x (funext fun a => Fin.ext (match a with
    | ⟨0, _⟩ => rfl
    | ⟨1, _⟩ => by show 0 + 1 * k.val = 256 * 0 + k.val; omega
    | ⟨2, _⟩ => by show 0 + 1 * j.val = j.val; omega))
theorem ld_lower (x : Vec Ideal S1x512x256 .bf16) (k j : Fin 256) : View.ld x r0_3 (ValueIdx.ix3 0 k j) = x (ValueIdx.ix3 0 (row 1 k) j) :=
  congrArg x (funext fun a => Fin.ext (match a with
    | ⟨0, _⟩ => rfl
    | ⟨1, _⟩ => by show 256 + 1 * k.val = 256 * 1 + k.val; omega
    | ⟨2, _⟩ => by show 0 + 1 * j.val = j.val; omega))

/-- The call's result at a pair, a row, a part, a group of the pair and a state. -/
theorem result_apply (p : Fin 32) (i : Fin 1024) (ρ h : Fin 2) (n : Fin 64) :
    (dats m 0 c).arrAt 2 cfg0.N (ValueIdx.ix3 p i (col ρ h n) : S32x1024x256.Idx)
      = part (m ((c : Thread nD τ).loc main_arg0)) (pick (m ((c : Thread nD τ).loc main_arg1)) (m ((c : Thread nD τ).loc main_arg2)) ρ) (group p h) i n := by
  rw [← emb2 p i (col ρ h n)]
  refine ((dats m 0 c).arrAt_emb_eq_flushed 2 disjoint2 (point p) (flush0_2 _) _).trans ?_
  rw [flushed2]
  unfold out0_2
  rw [View.canon_unit_zero hz3]
  refine (stored_apply _ _ _ _ i (col ρ h n)).trans ?_
  refine (congrArg₂ (fun x y : EReal => x + y)
    (Finset.sum_congr rfl fun k _ => congrArg₂ (fun x y : EReal => x * y) ((ld_first _ i k).trans (block0 m c p 0 i k)) ((ld_upper _ k _).trans ((block1 m c p _ _).trans (V_upper m c p k ρ h n))))
    (Finset.sum_congr rfl fun k _ => congrArg₂ (fun x y : EReal => x * y) ((ld_second _ i k).trans (block0 m c p 1 i k)) ((ld_lower _ k _).trans ((block1 m c p _ _).trans (V_lower m c p k ρ h n))))).trans ?_
  match h with
  | ⟨0, _⟩ =>
    refine (congrArg (fun y : EReal => _ + y) (Finset.sum_eq_zero fun k _ => mul_zero _)).trans ?_
    exact add_zero _
  | ⟨1, _⟩ =>
    refine (congrArg (fun x : EReal => x + _) (Finset.sum_eq_zero fun k _ => mul_zero _)).trans ?_
    exact zero_add _

end Cert.Proof.Proj.Sums

namespace Cert.Proof.Proj.Sums

open Cert.SumsReferenceIdeal Cert.SumsReferenceIdeal.Read
open Cert.Proof.Proj.Pairs
open Idealize.ShloMosaic
open scoped BigOperators

/-- The reference at a pair, a row, a part, a group of the pair and a state. -/
theorem reference_apply (x : S64x1024x256.Idx → EReal) (wr wi : S64x256x64.Idx → EReal) (p : Fin 32) (i : Fin 1024) (ρ h : Fin 2) (n : Fin 64) :
    val_main_v8 (F := Ideal) x wr wi (ValueIdx.ix3 p i (col ρ h n)) = part x (pick wr wi ρ) (group p h) i n := by
  have hp := p.isLt
  have hi := i.isLt
  have hρ := ρ.isLt
  have hh := h.isLt
  have hn := n.isLt
  have e8 : idx_main_v8 (ValueIdx.ix3 p i (col ρ h n)) = ValueIdx.ix5 p i ρ h n := by
    funext a; apply Fin.ext
    match a with
    | ⟨0, _⟩ => show ((p.val * 1024 + i.val) * 256 + (128 * ρ.val + 64 * h.val + n.val)) / 262144 = p.val; omega
    | ⟨1, _⟩ => show ((p.val * 1024 + i.val) * 256 + (128 * ρ.val + 64 * h.val + n.val)) / 256 % 1024 = i.val; omega
    | ⟨2, _⟩ => show ((p.val * 1024 + i.val) * 256 + (128 * ρ.val + 64 * h.val + n.val)) / 128 % 2 = ρ.val; omega
    | ⟨3, _⟩ => show ((p.val * 1024 + i.val) * 256 + (128 * ρ.val + 64 * h.val + n.val)) / 64 % 2 = h.val; omega
    | ⟨4, _⟩ => show ((p.val * 1024 + i.val) * 256 + (128 * ρ.val + 64 * h.val + n.val)) % 64 = n.val; omega
  have e6 : idx_main_v6 (idx_main_v7 (ValueIdx.ix5 p i ρ h n)) = ValueIdx.ix4 (group p h) i ρ n := by
    funext a; apply Fin.ext
    match a with
    | ⟨0, _⟩ => show ((((p.val * 2 + h.val) * 1024 + i.val) * 2 + ρ.val) * 64 + n.val) / 131072 = 2 * p.val + h.val; omega
    | ⟨1, _⟩ => show ((((p.val * 2 + h.val) * 1024 + i.val) * 2 + ρ.val) * 64 + n.val) / 128 % 1024 = i.val; omega
    | ⟨2, _⟩ => show ((((p.val * 2 + h.val) * 1024 + i.val) * 2 + ρ.val) * 64 + n.val) / 64 % 2 = ρ.val; omega
    | ⟨3, _⟩ => show ((((p.val * 2 + h.val) * 1024 + i.val) * 2 + ρ.val) * 64 + n.val) % 64 = n.val; omega
  rw [val_main_v8_apply, e8, val_main_v7_apply, val_main_v6_apply, e6]
  unfold val_main_v5
  match ρ with
  | ⟨0, _⟩ =>
    refine (concatenate_pair_apply_left (t := S64x1024x2x64) (s₁ := S64x1024x1x64) (s₂ := S64x1024x1x64) 2 _ _ _ _ rfl (ValueIdx.ix4 (group p h) i 0 n) fun a => ?_).trans ?_
    · match a with
      | ⟨0, _⟩ => rfl
      | ⟨1, _⟩ => rfl
      | ⟨2, _⟩ => rfl
      | ⟨3, _⟩ => rfl
    · rw [val_main_v3_apply, val_main_v1_apply]
      refine Finset.sum_congr rfl fun k _ => congrArg₂ (fun a b : EReal => a * b) (congrArg x (funext fun a => ?_)) (congrArg wr (funext fun a => ?_))
      · match a with
        | ⟨0, _⟩ => rfl
        | ⟨1, _⟩ => rfl
        | ⟨2, _⟩ => rfl
      · match a with
        | ⟨0, _⟩ => rfl
        | ⟨1, _⟩ => rfl
        | ⟨2, _⟩ => rfl
  | ⟨1, _⟩ =>
    refine (concatenate_pair_apply_right (t := S64x1024x2x64) (s₁ := S64x1024x1x64) (s₂ := S64x1024x1x64) 2 _ _ _ _ rfl rfl (ValueIdx.ix4 (group p h) i 0 n) (fun a ha => ?_) rfl).trans ?_
    · match a with
      | ⟨0, _⟩ => rfl
      | ⟨1, _⟩ => rfl
      | ⟨2, _⟩ => exact absurd rfl ha
      | ⟨3, _⟩ => rfl
    · rw [val_main_v4_apply, val_main_v2_apply]
      refine Finset.sum_congr rfl fun k _ => congrArg₂ (fun a b : EReal => a * b) (congrArg x (funext fun a => ?_)) (congrArg wi (funext fun a => ?_))
      · match a with
        | ⟨0, _⟩ => rfl
        | ⟨1, _⟩ => rfl
        | ⟨2, _⟩ => rfl
      · match a with
        | ⟨0, _⟩ => rfl
        | ⟨1, _⟩ => rfl
        | ⟨2, _⟩ => rfl

end Cert.Proof.Proj.Sums

namespace Cert.Proof.Proj.Sums

open Idealize.ShloMosaic Idealize.ShloMosaic.TcCoe Idealize.SL.Sem

/-- The reference ends at rest: it declares no semaphore. -/
theorem reference_frame : Cert.quiescent_SumsReferenceIdeal := fun m g _ =>
  (θ_run Cert.SumsReferenceIdeal.defs _ _).mono (fun r h => ⟨fun c => (h c).2, Idealize.ShloMosaic.sem_eq_zero_of_no_sems (by decide) r.2⟩)
    (Cert.SumsReferenceIdeal.Value.run (F := Ideal) m g)

theorem result_eq (m : (ℓ : Loc Cert.SumsIdeal.nD Cert.SumsIdeal.τ Cert.SumsIdeal.sig) → Buf (Elt Ideal) ℓ) (c : Dev Cert.SumsIdeal.nD) :
    Cert.SumsReferenceIdeal.Read.val_main_v8 (F := Ideal)
        (m ((c.tc : Thread Cert.SumsIdeal.nD Cert.SumsIdeal.τ).loc Cert.SumsIdeal.main_arg0))
        (m ((c.tc : Thread Cert.SumsIdeal.nD Cert.SumsIdeal.τ).loc Cert.SumsIdeal.main_arg1))
        (m ((c.tc : Thread Cert.SumsIdeal.nD Cert.SumsIdeal.τ).loc Cert.SumsIdeal.main_arg2))
      = (Cert.SumsIdeal.Gen.dats m 0 c).arrAt 2 Cert.SumsIdeal.cfg0.N := by
  funext e
  have h2 : (e 2).val < 256 := (e 2).isLt
  have ee : e = (ValueIdx.ix3 (e 0) (e 1) (col ⟨(e 2).val / 128, by omega⟩ ⟨(e 2).val / 64 % 2, by omega⟩ ⟨(e 2).val % 64, by omega⟩) : (⟨3, ![32, 1024, 256]⟩ : Shape).Idx) := by
    funext a
    match a with
    | ⟨0, _⟩ => rfl
    | ⟨1, _⟩ => rfl
    | ⟨2, _⟩ => exact Fin.ext (by show (e 2).val = 128 * ((e 2).val / 128) + 64 * ((e 2).val / 64 % 2) + (e 2).val % 64; omega)
  rw [ee]
  exact (reference_apply _ _ _ (e 0) (e 1) _ _ _).trans (result_apply m c (e 0) (e 1) _ _ _).symm

/-- Over the reals the call and its reference end with one result. -/
theorem algebraic : Cert.algebraic_SumsIdeal_SumsReferenceIdeal := by
  intro m g m' g' hpre hagree
  refine ⟨fun c => (Cert.SumsIdeal.Gen.dats m 0 c).arrAt 2 Cert.SumsIdeal.cfg0.N, Cert.SumsIdeal.Value.run_blocks m g, ?_⟩
  refine (θ_run Cert.SumsReferenceIdeal.defs _ _).mono (fun _ h c => ⟨(h c).1.trans ?_, (h c).2⟩) (Cert.SumsReferenceIdeal.Value.run (F := Ideal) m' g')
  rw [Cert.SumsReferenceIdeal.Read.val_main_v8_eq, (hagree c).1, (hagree c).2.1, (hagree c).2.2]
  exact result_eq m c

end Cert.Proof.Proj.Sums

end
-- ==== Proof.Proj.Outputs.lean ====
/- The outputs of the S5 groups: the call and the reference, both read at a group, a row and a column. -/
module

public import proofs.«01_k».proof.Defs
public import proofs.«01_k».proof.Proof.Gen.OutputsIdeal.Value
public import proofs.«01_k».proof.Proof.Gen.OutputsReferenceIdeal.Read
public import proofs.«01_k».proof.Proof.Gen.OutputsReferenceIdeal.Run
public import proofs.«01_k».proof.Proof.Proj.Pairs

@[expose] public section

set_option maxRecDepth 16384

noncomputable section

namespace Cert.Proof.Proj.Outputs

open Cert.Proof.Proj.Pairs
open Idealize.ShloMosaic
open scoped BigOperators

/-- The place of part `ρ` (real or imaginary), group `h` of the pair and state `n` among the pair's states. -/
def col (ρ h : Fin 2) (n : Fin 64) : Fin 256 := ⟨128 * ρ.val + 64 * h.val + n.val, by omega⟩

/-- The column of the pair's coefficients that belongs to output `q` of group `h`. -/
def wide (h : Fin 2) (q : Fin 256) : Fin 512 := ⟨256 * h.val + q.val, by omega⟩

/-- The negated coefficients. -/
def neg {s : Shape} (w : s.Idx → EReal) : s.Idx → EReal := fun i => FloatOps.hostNegf (F := Ideal) (φ := .f32) (w i)

/-- The states of one part of a group, times a column of its coefficients. -/
def carried (s : (⟨3, ![32, 1024, 256]⟩ : Shape).Idx → EReal) (w : (⟨3, ![64, 64, 256]⟩ : Shape).Idx → EReal) (ρ : Fin 2) (p : Fin 32) (h : Fin 2) (i : Fin 1024) (q : Fin 256) : EReal :=
  ∑ n : Fin 64, s (ValueIdx.ix3 p i (col ρ h n)) * w (ValueIdx.ix3 (group p h) n q)

/-- One element of a group's output. -/
def output (u : (⟨3, ![64, 1024, 256]⟩ : Shape).Idx → EReal) (s : (⟨3, ![32, 1024, 256]⟩ : Shape).Idx → EReal) (w : (⟨3, ![64, 256, 256]⟩ : Shape).Idx → EReal)
    (cr ci : (⟨3, ![64, 64, 256]⟩ : Shape).Idx → EReal) (p : Fin 32) (h : Fin 2) (i : Fin 1024) (q : Fin 256) : EReal :=
  part u w (group p h) i q + (carried s cr 0 p h i q + carried s (neg ci) 1 p h i q)

/-- A sum over the pair's states, part by part and group by group. -/
theorem sum_col (f : Fin 256 → EReal) :
    ∑ w : Fin 256, f w = ((∑ n : Fin 64, f (col 0 0 n)) + ∑ n : Fin 64, f (col 0 1 n)) + ((∑ n : Fin 64, f (col 1 0 n)) + ∑ n : Fin 64, f (col 1 1 n)) := by
  refine (Fin.sum_univ_add (a := 128) (b := 128) f).trans (congrArg₂ (fun x y : EReal => x + y) ?_ ?_)
  · refine (Fin.sum_univ_add (a := 64) (b := 64) _).trans (congrArg₂ (fun x y : EReal => x + y) ?_ ?_)
    · exact Finset.sum_congr rfl fun n _ => congrArg f (Fin.ext (by show n.val = 128 * 0 + 64 * 0 + n.val; omega))
    · exact Finset.sum_congr rfl fun n _ => congrArg f (Fin.ext (by show 64 + n.val = 128 * 0 + 64 * 1 + n.val; omega))
  · refine (Fin.sum_univ_add (a := 64) (b := 64) _).trans (congrArg₂ (fun x y : EReal => x + y) ?_ ?_)
    · exact Finset.sum_congr rfl fun n _ => congrArg f (Fin.ext (by show 128 + n.val = 128 * 1 + 64 * 0 + n.val; omega))
    · exact Finset.sum_congr rfl fun n _ => congrArg f (Fin.ext (by show 128 + (64 + n.val) = 128 * 1 + 64 * 1 + n.val; omega))

end Cert.Proof.Proj.Outputs

namespace Cert.Proof.Proj.Outputs

open Cert.OutputsIdeal Cert.OutputsIdeal.Gen Cert.OutputsIdeal.Value
open Cert.Proof.Proj.Pairs
open Idealize.ShloMosaic Idealize.ShloMosaic.TcCoe Idealize.SL.Sem
open scoped BigOperators

theorem hz3 : (![0, 0, 0] : Fin 3 → Nat) = fun _ => 0 := by decide

theorem dot_eq : dot_S1024x256_S256x256_S1024x256_1_0_0_1_n_n = DotDims.plain 1024 256 256 := rfl

/-- What the body stores for either group, at a row and a column. -/
theorem first_stored (s : FVec Ideal S1x1024x256 .f32) (u : FVec Ideal S1x1024x256 .bf16) (w : FVec Ideal S1x256x256 .bf16) (o : FVec Ideal S1x256x256 .bf16)
    (i : Fin 1024) (q : Fin 256) :
    k0_pay3 (F := Ideal) s u w o (ValueIdx.ix3 0 i q)
      = (∑ k : Fin 256, u (ValueIdx.ix3 0 i k) * w (ValueIdx.ix3 0 k q) : EReal) + ∑ k : Fin 256, s (ValueIdx.ix3 0 i k) * o (ValueIdx.ix3 0 k q) := by
  unfold k0_pay3 k0_pay2
  rw [dot_eq]
  refine (cast_lift _ _ i q).trans ?_
  refine congrArg₂ (fun p q : EReal => p + q) ((matmul_zero _ _ i q).trans ?_) ((matmul_zero _ _ i q).trans ?_)
  · exact Finset.sum_congr rfl fun k _ => congrArg₂ (fun p q : EReal => p * q) (cast_flat u _ i k) (cast_flat w _ k q)
  · exact Finset.sum_congr rfl fun k _ => congrArg₂ (fun p q : EReal => p * q) (cast_flat s _ i k) (cast_flat o _ k q)

theorem second_stored (s : FVec Ideal S1x1024x256 .f32) (u : FVec Ideal S1x1024x256 .bf16) (w : FVec Ideal S1x256x256 .bf16) (o : FVec Ideal S1x256x256 .bf16)
    (i : Fin 1024) (q : Fin 256) :
    k0_pay1 (F := Ideal) (k0_pay4 (F := Ideal) s u w o) (ValueIdx.ix3 0 i q)
      = (∑ k : Fin 256, u (ValueIdx.ix3 0 i k) * w (ValueIdx.ix3 0 k q) : EReal) + ∑ k : Fin 256, s (ValueIdx.ix3 0 i k) * o (ValueIdx.ix3 0 k q) := by
  unfold k0_pay1 k0_pay4 k0_pay2
  rw [dot_eq]
  refine (cast_lift _ _ i q).trans ?_
  refine congrArg₂ (fun p q : EReal => p + q) ((matmul_zero _ _ i q).trans ?_) ((matmul_zero _ _ i q).trans ?_)
  · exact Finset.sum_congr rfl fun k _ => congrArg₂ (fun p q : EReal => p * q) (cast_flat u _ i k) (cast_flat w _ k q)
  · exact Finset.sum_congr rfl fun k _ => congrArg₂ (fun p q : EReal => p * q) (cast_flat s _ i k) (cast_flat o _ k q)

/-! ## The pair's coefficients -/

/-- The zeros beside the coefficients. -/
def zeros : S32x64x256.Idx → EReal := broadcastInDim S32x64x256 ![] bcast_S_S32x64x256 (constant (F := Ideal) S_ .f32 0x00000000#32)

theorem zeros_apply (i : S32x64x256.Idx) : zeros i = 0 :=
  (broadcastInDim_apply _ bcast_S_S32x64x256 (constant (F := Ideal) S_ .f32 0x00000000#32) i (fun a => a.elim0) (fun a => a.elim0)).trans Ideal.ofBits_zero_f32

/-- The coefficients of the first groups, and of the second groups. -/
def first (w : S64x64x256.Idx → EReal) : S32x64x256.Idx → EReal :=
  shapeCast S32x64x256 (extractStridedSlice S32x1x64x256 ![0, 0, 0, 0] (shapeCast S32x2x64x256 w shapeCasts_S64x64x256_S32x2x64x256) slices_S32x2x64x256_S32x1x64x256_0_0_0_0) shapeCasts_S32x1x64x256_S32x64x256
def second (w : S64x64x256.Idx → EReal) : S32x64x256.Idx → EReal :=
  shapeCast S32x64x256 (extractStridedSlice S32x1x64x256 ![0, 1, 0, 0] (shapeCast S32x2x64x256 w shapeCasts_S64x64x256_S32x2x64x256) slices_S32x2x64x256_S32x1x64x256_0_1_0_0) shapeCasts_S32x1x64x256_S32x64x256

theorem first_apply (w : S64x64x256.Idx → EReal) (p : Fin 32) (n : Fin 64) (q : Fin 256) : first w (ValueIdx.ix3 p n q) = w (ValueIdx.ix3 (group p 0) n q) :=
  half_apply 0 w _ _ _ p n q
theorem second_apply (w : S64x64x256.Idx → EReal) (p : Fin 32) (n : Fin 64) (q : Fin 256) : second w (ValueIdx.ix3 p n q) = w (ValueIdx.ix3 (group p 1) n q) :=
  half_apply 1 w _ _ _ p n q

/-- Two arrays side by side. -/
def beside (x y : S32x64x256.Idx → EReal) : S32x64x512.Idx → EReal :=
  concatenate S32x64x512 2 [⟨S32x64x256, x⟩, ⟨S32x64x256, y⟩] concatenates_S32x64x256_S32x64x256_S32x64x512_d2

theorem beside_left (x y : S32x64x256.Idx → EReal) (p : Fin 32) (n : Fin 64) (q : Fin 256) : beside x y (ValueIdx.ix3 p n (wide 0 q)) = x (ValueIdx.ix3 p n q) := by
  refine concatenate_pair_apply_left (t := S32x64x512) (s₁ := S32x64x256) (s₂ := S32x64x256) 2 _ _ _ _ rfl (ValueIdx.ix3 p n q) fun a => ?_
  match a with
  | ⟨0, _⟩ => rfl
  | ⟨1, _⟩ => rfl
  | ⟨2, _⟩ => show q.val = 256 * 0 + q.val; omega

theorem beside_right (x y : S32x64x256.Idx → EReal) (p : Fin 32) (n : Fin 64) (q : Fin 256) : beside x y (ValueIdx.ix3 p n (wide 1 q)) = y (ValueIdx.ix3 p n q) := by
  refine concatenate_pair_apply_right (t := S32x64x512) (s₁ := S32x64x256) (s₂ := S32x64x256) 2 _ _ _ _ rfl rfl (ValueIdx.ix3 p n q) (fun a ha => ?_) ?_
  · match a with
    | ⟨0, _⟩ => rfl
    | ⟨1, _⟩ => rfl
    | ⟨2, _⟩ => exact absurd rfl ha
  · show q.val + 256 = 256 * 1 + q.val; omega

/-- Four arrays one above the other, at a row of one of them. -/
theorem quad_apply (f : Fin 4 → S32x64x512.Idx → EReal) (h : Shape.Concatenates [S32x64x512, S32x64x512, S32x64x512, S32x64x512] S32x256x512 1)
    (p : Fin 32) (j : Fin 512) (ℓ : Fin 4) (n : Fin 64) (r : Fin 256) (hj : r.val = 64 * ℓ.val + n.val) :
    concatenate S32x256x512 1 [⟨S32x64x512, f 0⟩, ⟨S32x64x512, f 1⟩, ⟨S32x64x512, f 2⟩, ⟨S32x64x512, f 3⟩] h (ValueIdx.ix3 p r j) = f ℓ (ValueIdx.ix3 p n j) := by
  have hi : ∀ b : Fin 3, b ≠ 1 → ((ValueIdx.ix3 p n j : S32x64x512.Idx) b).val = ((ValueIdx.ix3 p r j : S32x256x512.Idx) b).val := fun b hb => by
    match b with
    | ⟨0, _⟩ => rfl
    | ⟨1, _⟩ => exact absurd rfl hb
    | ⟨2, _⟩ => rfl
  match ℓ with
  | ⟨0, _⟩ => exact concatenate_apply_piece (t := S32x256x512) 1 [⟨S32x64x512, f 0⟩, ⟨S32x64x512, f 1⟩, ⟨S32x64x512, f 2⟩, ⟨S32x64x512, f 3⟩] h (ValueIdx.ix3 p r j) 0 (show 0 < 4 by decide) S32x64x512 (f 0) rfl rfl 0 rfl (ValueIdx.ix3 p n j) hi (by have hj : r.val = 64 * 0 + n.val := hj; show 0 + n.val = r.val; omega)
  | ⟨1, _⟩ => exact concatenate_apply_piece (t := S32x256x512) 1 [⟨S32x64x512, f 0⟩, ⟨S32x64x512, f 1⟩, ⟨S32x64x512, f 2⟩, ⟨S32x64x512, f 3⟩] h (ValueIdx.ix3 p r j) 1 (show 1 < 4 by decide) S32x64x512 (f 1) rfl rfl 64 rfl (ValueIdx.ix3 p n j) hi (by have hj : r.val = 64 * 1 + n.val := hj; show 64 + n.val = r.val; omega)
  | ⟨2, _⟩ => exact concatenate_apply_piece (t := S32x256x512) 1 [⟨S32x64x512, f 0⟩, ⟨S32x64x512, f 1⟩, ⟨S32x64x512, f 2⟩, ⟨S32x64x512, f 3⟩] h (ValueIdx.ix3 p r j) 2 (show 2 < 4 by decide) S32x64x512 (f 2) rfl rfl 128 rfl (ValueIdx.ix3 p n j) hi (by have hj : r.val = 64 * 2 + n.val := hj; show 128 + n.val = r.val; omega)
  | ⟨3, _⟩ => exact concatenate_apply_piece (t := S32x256x512) 1 [⟨S32x64x512, f 0⟩, ⟨S32x64x512, f 1⟩, ⟨S32x64x512, f 2⟩, ⟨S32x64x512, f 3⟩] h (ValueIdx.ix3 p r j) 3 (show 3 < 4 by decide) S32x64x512 (f 3) rfl rfl 192 rfl (ValueIdx.ix3 p n j) hi (by have hj : r.val = 64 * 3 + n.val := hj; show 192 + n.val = r.val; omega)

/-- The pair's coefficients: the real parts of both groups, and the negated imaginary parts. -/
def pair (cr ci : S64x64x256.Idx → EReal) : S32x256x512.Idx → EReal :=
  concatenate S32x256x512 1 [⟨S32x64x512, beside (first cr) zeros⟩, ⟨S32x64x512, beside zeros (second cr)⟩, ⟨S32x64x512, beside (neg (first ci)) zeros⟩,
    ⟨S32x64x512, beside zeros (neg (second ci))⟩] concatenates_S32x64x512_S32x64x512_S32x64x512_S32x64x512_S32x256x512_d1

variable (cr ci : S64x64x256.Idx → EReal) (p : Fin 32) (n : Fin 64) (q : Fin 256)

theorem pair_quad (ℓ : Fin 4) (ρ h : Fin 2) (hℓ : ℓ.val = 2 * ρ.val + h.val) (j : Fin 512) :
    pair cr ci (ValueIdx.ix3 p (col ρ h n) j) = ![beside (first cr) zeros, beside zeros (second cr), beside (neg (first ci)) zeros, beside zeros (neg (second ci))] ℓ (ValueIdx.ix3 p n j) :=
  quad_apply ![beside (first cr) zeros, beside zeros (second cr), beside (neg (first ci)) zeros, beside zeros (neg (second ci))]
    concatenates_S32x64x512_S32x64x512_S32x64x512_S32x64x512_S32x256x512_d1 p j ℓ n (col ρ h n) (by show 128 * ρ.val + 64 * h.val + n.val = 64 * ℓ.val + n.val; omega)

/-- At the columns of the first group. -/
theorem pair_first :
    pair cr ci (ValueIdx.ix3 p (col 0 0 n) (wide 0 q)) = cr (ValueIdx.ix3 (group p 0) n q) ∧ pair cr ci (ValueIdx.ix3 p (col 0 1 n) (wide 0 q)) = 0
      ∧ pair cr ci (ValueIdx.ix3 p (col 1 0 n) (wide 0 q)) = neg ci (ValueIdx.ix3 (group p 0) n q) ∧ pair cr ci (ValueIdx.ix3 p (col 1 1 n) (wide 0 q)) = 0 :=
  ⟨(pair_quad cr ci p n 0 0 0 rfl _).trans ((beside_left _ _ p n q).trans (first_apply cr p n q)),
    (pair_quad cr ci p n 1 0 1 rfl _).trans ((beside_left _ _ p n q).trans (zeros_apply _)),
    (pair_quad cr ci p n 2 1 0 rfl _).trans ((beside_left _ _ p n q).trans (congrArg (fun y : EReal => FloatOps.hostNegf (F := Ideal) (φ := .f32) y) (first_apply ci p n q))),
    (pair_quad cr ci p n 3 1 1 rfl _).trans ((beside_left _ _ p n q).trans (zeros_apply _))⟩

/-- At the columns of the second group. -/
theorem pair_second :
    pair cr ci (ValueIdx.ix3 p (col 0 0 n) (wide 1 q)) = 0 ∧ pair cr ci (ValueIdx.ix3 p (col 0 1 n) (wide 1 q)) = cr (ValueIdx.ix3 (group p 1) n q)
      ∧ pair cr ci (ValueIdx.ix3 p (col 1 0 n) (wide 1 q)) = 0 ∧ pair cr ci (ValueIdx.ix3 p (col 1 1 n) (wide 1 q)) = neg ci (ValueIdx.ix3 (group p 1) n q) :=
  ⟨(pair_quad cr ci p n 0 0 0 rfl _).trans ((beside_right _ _ p n q).trans (zeros_apply _)),
    (pair_quad cr ci p n 1 0 1 rfl _).trans ((beside_right _ _ p n q).trans (second_apply cr p n q)),
    (pair_quad cr ci p n 2 1 0 rfl _).trans ((beside_right _ _ p n q).trans (zeros_apply _)),
    (pair_quad cr ci p n 3 1 1 rfl _).trans ((beside_right _ _ p n q).trans (congrArg (fun y : EReal => FloatOps.hostNegf (F := Ideal) (φ := .f32) y) (second_apply ci p n q)))⟩

/-- The states of a pair times the pair's coefficients, at the columns of one group: the other group's states meet zeros. -/
theorem carried_pair (s : S32x1024x256.Idx → EReal) (h : Fin 2) (i : Fin 1024) :
    (∑ w : Fin 256, s (ValueIdx.ix3 p i w) * pair cr ci (ValueIdx.ix3 p w (wide h q)) : EReal) = carried s cr 0 p h i q + carried s (neg ci) 1 p h i q := by
  rw [sum_col]
  match h with
  | ⟨0, _⟩ =>
    refine congrArg₂ (fun x y : EReal => x + y) ?_ ?_
    · refine (congrArg₂ (fun x y : EReal => x + y) (Finset.sum_congr rfl fun n _ => congrArg (fun y : EReal => s (ValueIdx.ix3 p i (col 0 0 n)) * y) (pair_first cr ci p n q).1)
        (Finset.sum_eq_zero fun n _ => (congrArg (fun y : EReal => s (ValueIdx.ix3 p i (col 0 1 n)) * y) (pair_first cr ci p n q).2.1).trans (mul_zero _))).trans ?_
      exact add_zero _
    · refine (congrArg₂ (fun x y : EReal => x + y) (Finset.sum_congr rfl fun n _ => congrArg (fun y : EReal => s (ValueIdx.ix3 p i (col 1 0 n)) * y) (pair_first cr ci p n q).2.2.1)
        (Finset.sum_eq_zero fun n _ => (congrArg (fun y : EReal => s (ValueIdx.ix3 p i (col 1 1 n)) * y) (pair_first cr ci p n q).2.2.2).trans (mul_zero _))).trans ?_
      exact add_zero _
  | ⟨1, _⟩ =>
    refine congrArg₂ (fun x y : EReal => x + y) ?_ ?_
    · refine (congrArg₂ (fun x y : EReal => x + y) (Finset.sum_eq_zero fun n _ => (congrArg (fun y : EReal => s (ValueIdx.ix3 p i (col 0 0 n)) * y) (pair_second cr ci p n q).1).trans (mul_zero _))
        (Finset.sum_congr rfl fun n _ => congrArg (fun y : EReal => s (ValueIdx.ix3 p i (col 0 1 n)) * y) (pair_second cr ci p n q).2.1)).trans ?_
      exact zero_add _
    · refine (congrArg₂ (fun x y : EReal => x + y) (Finset.sum_eq_zero fun n _ => (congrArg (fun y : EReal => s (ValueIdx.ix3 p i (col 1 0 n)) * y) (pair_second cr ci p n q).2.2.1).trans (mul_zero _))
        (Finset.sum_congr rfl fun n _ => congrArg (fun y : EReal => s (ValueIdx.ix3 p i (col 1 1 n)) * y) (pair_second cr ci p n q).2.2.2)).trans ?_
      exact zero_add _

variable (m : (ℓ : Loc nD τ sig) → Buf (Elt Ideal) ℓ) (c : Dev nD)

theorem V_pair : V m c main_v18 = pair (m ((c : Thread nD τ).loc main_arg3)) (m ((c : Thread nD τ).loc main_arg4)) := by
  show StableHlo.after hostOps0 _ (Proc.devRef .tc main_v18) = _
  after_results
  rfl

theorem V_matrix : V m c main_v19 = m ((c : Thread nD τ).loc main_arg2) := by
  show StableHlo.after hostOps0 _ (Proc.devRef .tc main_v19) = _
  after_results
  rfl

/-! ## The blocks -/

theorem idx0 : ∀ t : Fin cfg0.N, win0_0.index t (0 : Fin 3) = t.val ∧ win0_0.index t (1 : Fin 3) = 0 ∧ win0_0.index t (2 : Fin 3) = 0 := (by decide +kernel : ∀ t : Fin grid0.N, _)
theorem idx1 : ∀ t : Fin cfg0.N, win0_1.index t (0 : Fin 3) = t.val ∧ win0_1.index t (1 : Fin 3) = 0 ∧ win0_1.index t (2 : Fin 3) = 0 := (by decide +kernel : ∀ t : Fin grid0.N, _)
theorem idx2 : ∀ t : Fin cfg0.N, win0_2.index t (0 : Fin 3) = t.val ∧ win0_2.index t (1 : Fin 3) = 0 ∧ win0_2.index t (2 : Fin 3) = 0 := (by decide +kernel : ∀ t : Fin grid0.N, _)
theorem idx3 : ∀ t : Fin cfg0.N, win0_3.index t (0 : Fin 3) = t.val ∧ win0_3.index t (1 : Fin 3) = 0 ∧ win0_3.index t (2 : Fin 3) = 0 := (by decide +kernel : ∀ t : Fin grid0.N, _)
theorem idx4 : ∀ t : Fin cfg0.N, win0_4.index t (0 : Fin 3) = t.val ∧ win0_4.index t (1 : Fin 3) = 0 ∧ win0_4.index t (2 : Fin 3) = 0 := (by decide +kernel : ∀ t : Fin grid0.N, _)

/-- The grid point of a pair. -/
def point (p : Fin 32) : Fin cfg0.N := ⟨p.val, p.isLt⟩

theorem emb0 (h : Fin 2) (i : Fin 1024) (k : Fin 256) :
    ((cfg0.win 0).blk (point p)).view.emb (ValueIdx.ix3 h i k : S2x1024x256.Idx) = (ValueIdx.ix3 (group p h) i k : S64x1024x256.Idx) := by
  obtain ⟨e0, e1, e2⟩ := idx0 (point p)
  have hp : (point p).val = p.val := rfl
  funext a; apply Fin.ext
  match a with
  | ⟨0, _⟩ => show win0_0.index (point p) (0 : Fin 3) * 2 + 1 * h.val = 2 * p.val + h.val; omega
  | ⟨1, _⟩ => show win0_0.index (point p) (1 : Fin 3) * 1024 + 1 * i.val = i.val; omega
  | ⟨2, _⟩ => show win0_0.index (point p) (2 : Fin 3) * 256 + 1 * k.val = k.val; omega

theorem emb1 (i : Fin 1024) (k : Fin 256) :
    ((cfg0.win 1).blk (point p)).view.emb (ValueIdx.ix3 0 i k : S1x1024x256.Idx) = (ValueIdx.ix3 p i k : S32x1024x256.Idx) := by
  obtain ⟨e0, e1, e2⟩ := idx1 (point p)
  have hp : (point p).val = p.val := rfl
  funext a; apply Fin.ext
  match a with
  | ⟨0, _⟩ => show win0_1.index (point p) (0 : Fin 3) * 1 + 1 * 0 = p.val; omega
  | ⟨1, _⟩ => show win0_1.index (point p) (1 : Fin 3) * 1024 + 1 * i.val = i.val; omega
  | ⟨2, _⟩ => show win0_1.index (point p) (2 : Fin 3) * 256 + 1 * k.val = k.val; omega

theorem emb2 (h : Fin 2) (i : Fin 256) (k : Fin 256) :
    ((cfg0.win 2).blk (point p)).view.emb (ValueIdx.ix3 h i k : S2x256x256.Idx) = (ValueIdx.ix3 (group p h) i k : S64x256x256.Idx) := by
  obtain ⟨e0, e1, e2⟩ := idx2 (point p)
  have hp : (point p).val = p.val := rfl
  funext a; apply Fin.ext
  match a with
  | ⟨0, _⟩ => show win0_2.index (point p) (0 : Fin 3) * 2 + 1 * h.val = 2 * p.val + h.val; omega
  | ⟨1, _⟩ => show win0_2.index (point p) (1 : Fin 3) * 256 + 1 * i.val = i.val; omega
  | ⟨2, _⟩ => show win0_2.index (point p) (2 : Fin 3) * 256 + 1 * k.val = k.val; omega

theorem emb3 (i : Fin 256) (k : Fin 512) :
    ((cfg0.win 3).blk (point p)).view.emb (ValueIdx.ix3 0 i k : S1x256x512.Idx) = (ValueIdx.ix3 p i k : S32x256x512.Idx) := by
  obtain ⟨e0, e1, e2⟩ := idx3 (point p)
  have hp : (point p).val = p.val := rfl
  funext a; apply Fin.ext
  match a with
  | ⟨0, _⟩ => show win0_3.index (point p) (0 : Fin 3) * 1 + 1 * 0 = p.val; omega
  | ⟨1, _⟩ => show win0_3.index (point p) (1 : Fin 3) * 256 + 1 * i.val = i.val; omega
  | ⟨2, _⟩ => show win0_3.index (point p) (2 : Fin 3) * 512 + 1 * k.val = k.val; omega

theorem emb4 (h : Fin 2) (i : Fin 1024) (k : Fin 256) :
    ((cfg0.win 4).blk (point p)).view.emb (ValueIdx.ix3 h i k : S2x1024x256.Idx) = (ValueIdx.ix3 (group p h) i k : S64x1024x256.Idx) := by
  obtain ⟨e0, e1, e2⟩ := idx4 (point p)
  have hp : (point p).val = p.val := rfl
  funext a; apply Fin.ext
  match a with
  | ⟨0, _⟩ => show win0_4.index (point p) (0 : Fin 3) * 2 + 1 * h.val = 2 * p.val + h.val; omega
  | ⟨1, _⟩ => show win0_4.index (point p) (1 : Fin 3) * 1024 + 1 * i.val = i.val; omega
  | ⟨2, _⟩ => show win0_4.index (point p) (2 : Fin 3) * 256 + 1 * k.val = k.val; omega

theorem block0 (h : Fin 2) (i : Fin 1024) (k : Fin 256) :
    iblk m c 0 (point p) (ValueIdx.ix3 h i k : S2x1024x256.Idx) = m ((c : Thread nD τ).loc main_arg0) (ValueIdx.ix3 (group p h) i k : S64x1024x256.Idx) := by
  show V m c main_arg0 (((cfg0.win 0).blk (point p)).view.emb (ValueIdx.ix3 h i k : S2x1024x256.Idx)) = _
  rw [emb0, V_main_arg0]
theorem block1 (i : Fin 1024) (k : Fin 256) :
    iblk m c 1 (point p) (ValueIdx.ix3 0 i k : S1x1024x256.Idx) = m ((c : Thread nD τ).loc main_arg1) (ValueIdx.ix3 p i k : S32x1024x256.Idx) := by
  show V m c main_arg1 (((cfg0.win 1).blk (point p)).view.emb (ValueIdx.ix3 0 i k : S1x1024x256.Idx)) = _
  rw [emb1, V_main_arg1]
theorem block2 (h : Fin 2) (i : Fin 256) (k : Fin 256) :
    iblk m c 2 (point p) (ValueIdx.ix3 h i k : S2x256x256.Idx) = m ((c : Thread nD τ).loc main_arg2) (ValueIdx.ix3 (group p h) i k : S64x256x256.Idx) := by
  show V m c main_v19 (((cfg0.win 2).blk (point p)).view.emb (ValueIdx.ix3 h i k : S2x256x256.Idx)) = _
  rw [emb2, V_matrix]
theorem block3 (i : Fin 256) (k : Fin 512) :
    iblk m c 3 (point p) (ValueIdx.ix3 0 i k : S1x256x512.Idx)
      = pair (m ((c : Thread nD τ).loc main_arg3)) (m ((c : Thread nD τ).loc main_arg4)) (ValueIdx.ix3 p i k : S32x256x512.Idx) := by
  show V m c main_v18 (((cfg0.win 3).blk (point p)).view.emb (ValueIdx.ix3 0 i k : S1x256x512.Idx)) = _
  rw [emb3, V_pair]

theorem ld_input0 (x : Vec Ideal S2x1024x256 .bf16) (i : Fin 1024) (k : Fin 256) : View.ld x r0_1 (ValueIdx.ix3 0 i k) = x (ValueIdx.ix3 0 i k) :=
  congrArg x (funext fun a => Fin.ext (match a with
    | ⟨0, _⟩ => rfl
    | ⟨1, _⟩ => by show 0 + 1 * i.val = i.val; omega
    | ⟨2, _⟩ => by show 0 + 1 * k.val = k.val; omega))
theorem ld_input1 (x : Vec Ideal S2x1024x256 .bf16) (i : Fin 1024) (k : Fin 256) : View.ld x r0_4 (ValueIdx.ix3 0 i k) = x (ValueIdx.ix3 1 i k) :=
  congrArg x (funext fun a => Fin.ext (match a with
    | ⟨0, _⟩ => rfl
    | ⟨1, _⟩ => by show 0 + 1 * i.val = i.val; omega
    | ⟨2, _⟩ => by show 0 + 1 * k.val = k.val; omega))
theorem ld_matrix0 (x : Vec Ideal S2x256x256 .bf16) (i : Fin 256) (k : Fin 256) : View.ld x r0_2 (ValueIdx.ix3 0 i k) = x (ValueIdx.ix3 0 i k) :=
  congrArg x (funext fun a => Fin.ext (match a with
    | ⟨0, _⟩ => rfl
    | ⟨1, _⟩ => by show 0 + 1 * i.val = i.val; omega
    | ⟨2, _⟩ => by show 0 + 1 * k.val = k.val; omega))
theorem ld_matrix1 (x : Vec Ideal S2x256x256 .bf16) (i : Fin 256) (k : Fin 256) : View.ld x r0_5 (ValueIdx.ix3 0 i k) = x (ValueIdx.ix3 1 i k) :=
  congrArg x (funext fun a => Fin.ext (match a with
    | ⟨0, _⟩ => rfl
    | ⟨1, _⟩ => by show 0 + 1 * i.val = i.val; omega
    | ⟨2, _⟩ => by show 0 + 1 * k.val = k.val; omega))
theorem ld_pair0 (x : Vec Ideal S1x256x512 .bf16) (i : Fin 256) (k : Fin 256) : View.ld x r0_3 (ValueIdx.ix3 0 i k) = x (ValueIdx.ix3 0 i (wide 0 k)) :=
  congrArg x (funext fun a => Fin.ext (match a with
    | ⟨0, _⟩ => rfl
    | ⟨1, _⟩ => by show 0 + 1 * i.val = i.val; omega
    | ⟨2, _⟩ => by show 0 + 1 * k.val = 256 * 0 + k.val; omega))
theorem ld_pair1 (x : Vec Ideal S1x256x512 .bf16) (i : Fin 256) (k : Fin 256) : View.ld x r0_6 (ValueIdx.ix3 0 i k) = x (ValueIdx.ix3 0 i (wide 1 k)) :=
  congrArg x (funext fun a => Fin.ext (match a with
    | ⟨0, _⟩ => rfl
    | ⟨1, _⟩ => by show 0 + 1 * i.val = i.val; omega
    | ⟨2, _⟩ => by show 256 + 1 * k.val = 256 * 1 + k.val; omega))

/-- The first group's place is not in the second group's store. -/
theorem not_second (i : Fin 1024) : (ValueIdx.ix3 0 i q : S2x1024x256.Idx) ∉ (r0_4 : Rect S2x1024x256).set := by
  intro hm
  obtain ⟨x, hx⟩ := (r0_4 : Rect S2x1024x256).exists_idx_of_mem hm
  have h0 : 1 + 1 * (x 0).val = 0 := congrArg (fun y : S2x1024x256.Idx => (y 0).val) hx
  omega

theorem emb_first (i : Fin 1024) : (r0_1 : Rect S2x1024x256).emb (ValueIdx.ix3 0 i q : S1x1024x256.Idx) = (ValueIdx.ix3 0 i q : S2x1024x256.Idx) :=
  funext fun a => Fin.ext (match a with
    | ⟨0, _⟩ => rfl
    | ⟨1, _⟩ => by show 0 + 1 * i.val = i.val; omega
    | ⟨2, _⟩ => by show 0 + 1 * q.val = q.val; omega)
theorem emb_second (i : Fin 1024) : (r0_4 : Rect S2x1024x256).emb (ValueIdx.ix3 0 i q : S1x1024x256.Idx) = (ValueIdx.ix3 1 i q : S2x1024x256.Idx) :=
  funext fun a => Fin.ext (match a with
    | ⟨0, _⟩ => rfl
    | ⟨1, _⟩ => by show 0 + 1 * i.val = i.val; omega
    | ⟨2, _⟩ => by show 0 + 1 * q.val = q.val; omega)

/-- The two stores read back: the last covers the second group, the first is left at the first group. -/
theorem canon_first (v w : FVec Ideal S1x1024x256 .bf16) (i : Fin 1024) :
    View.canon ([⟨r0_4, w⟩, ⟨r0_1, v⟩] : List (View.Piece (Elt Ideal) S2x1024x256 .bf16)) (ValueIdx.ix3 0 i q : S2x1024x256.Idx) = v (ValueIdx.ix3 0 i q) := by
  refine (View.canon_cons_of_not_mem (⟨r0_4, w⟩ : View.Piece (Elt Ideal) S2x1024x256 .bf16) [⟨r0_1, v⟩] (y := (ValueIdx.ix3 0 i q : S2x1024x256.Idx)) (not_second q i)).trans ?_
  refine (congrArg (View.canon ([⟨r0_1, v⟩] : List (View.Piece (Elt Ideal) S2x1024x256 .bf16))) (emb_first q i).symm).trans ?_
  exact View.canon_cons_emb (Val := Elt Ideal) (e := .bf16) r0_1 v [] (ValueIdx.ix3 0 i q : S1x1024x256.Idx)
theorem canon_second (v w : FVec Ideal S1x1024x256 .bf16) (i : Fin 1024) :
    View.canon ([⟨r0_4, w⟩, ⟨r0_1, v⟩] : List (View.Piece (Elt Ideal) S2x1024x256 .bf16)) (ValueIdx.ix3 1 i q : S2x1024x256.Idx) = w (ValueIdx.ix3 0 i q) := by
  refine (congrArg (View.canon ([⟨r0_4, w⟩, ⟨r0_1, v⟩] : List (View.Piece (Elt Ideal) S2x1024x256 .bf16))) (emb_second q i).symm).trans ?_
  exact View.canon_cons_emb (Val := Elt Ideal) (e := .bf16) r0_4 w [⟨r0_1, v⟩] (ValueIdx.ix3 0 i q : S1x1024x256.Idx)

theorem ld_states (x : Vec Ideal S1x1024x256 .f32) : View.ld x r0_0 = x := View.ld_unit_zero hz3 _ _

/-- What a grid point leaves for a group of its pair, from its blocks. -/
theorem out_first (x0 : Vec Ideal S2x1024x256 .bf16) (x1 : Vec Ideal S1x1024x256 .f32) (x2 : Vec Ideal S2x256x256 .bf16) (x3 : Vec Ideal S1x256x512 .bf16) (i : Fin 1024) :
    out0_4 (F := Ideal) x0 x1 x2 x3 (ValueIdx.ix3 0 i q)
      = (∑ k : Fin 256, (x0 : S2x1024x256.Idx → EReal) (ValueIdx.ix3 0 i k) * (x2 : S2x256x256.Idx → EReal) (ValueIdx.ix3 0 k q) : EReal)
        + ∑ k : Fin 256, (x1 : S1x1024x256.Idx → EReal) (ValueIdx.ix3 0 i k) * (x3 : S1x256x512.Idx → EReal) (ValueIdx.ix3 0 k (wide 0 q)) := by
  unfold out0_4
  refine (canon_first q _ _ i).trans ((first_stored _ _ _ _ i q).trans ?_)
  refine congrArg₂ (fun x y : EReal => x + y) (Finset.sum_congr rfl fun k _ => congrArg₂ (fun x y : EReal => x * y) (ld_input0 x0 i k) (ld_matrix0 x2 k q)) ?_
  exact Finset.sum_congr rfl fun k _ => congrArg₂ (fun x y : EReal => x * y) (congrFun (ld_states x1) _) (ld_pair0 x3 k q)
theorem out_second (x0 : Vec Ideal S2x1024x256 .bf16) (x1 : Vec Ideal S1x1024x256 .f32) (x2 : Vec Ideal S2x256x256 .bf16) (x3 : Vec Ideal S1x256x512 .bf16) (i : Fin 1024) :
    out0_4 (F := Ideal) x0 x1 x2 x3 (ValueIdx.ix3 1 i q)
      = (∑ k : Fin 256, (x0 : S2x1024x256.Idx → EReal) (ValueIdx.ix3 1 i k) * (x2 : S2x256x256.Idx → EReal) (ValueIdx.ix3 1 k q) : EReal)
        + ∑ k : Fin 256, (x1 : S1x1024x256.Idx → EReal) (ValueIdx.ix3 0 i k) * (x3 : S1x256x512.Idx → EReal) (ValueIdx.ix3 0 k (wide 1 q)) := by
  unfold out0_4
  refine (canon_second q _ _ i).trans ((second_stored _ _ _ _ i q).trans ?_)
  refine congrArg₂ (fun x y : EReal => x + y) (Finset.sum_congr rfl fun k _ => congrArg₂ (fun x y : EReal => x * y) (ld_input1 x0 i k) (ld_matrix1 x2 k q)) ?_
  exact Finset.sum_congr rfl fun k _ => congrArg₂ (fun x y : EReal => x * y) (congrFun (ld_states x1) _) (ld_pair1 x3 k q)

theorem out_apply (x0 : Vec Ideal S2x1024x256 .bf16) (x1 : Vec Ideal S1x1024x256 .f32) (x2 : Vec Ideal S2x256x256 .bf16) (x3 : Vec Ideal S1x256x512 .bf16) (h : Fin 2) (i : Fin 1024) :
    out0_4 (F := Ideal) x0 x1 x2 x3 (ValueIdx.ix3 h i q)
      = (∑ k : Fin 256, (x0 : S2x1024x256.Idx → EReal) (ValueIdx.ix3 h i k) * (x2 : S2x256x256.Idx → EReal) (ValueIdx.ix3 h k q) : EReal)
        + ∑ k : Fin 256, (x1 : S1x1024x256.Idx → EReal) (ValueIdx.ix3 0 i k) * (x3 : S1x256x512.Idx → EReal) (ValueIdx.ix3 0 k (wide h q)) :=
  match h with
  | ⟨0, _⟩ => out_first q x0 x1 x2 x3 i
  | ⟨1, _⟩ => out_second q x0 x1 x2 x3 i

/-- The call's result at a group of a pair is what the pair's point leaves there. -/
theorem result_block (X : Vec Ideal S2x1024x256 .bf16) (hX : (dats m 0 c).flushed 4 (point p) = (cfg0.win 4).cut (grid0.coords (point p)) X) (h : Fin 2) (i : Fin 1024) :
    (dats m 0 c).arrAt 4 cfg0.N (ValueIdx.ix3 (group p h) i q : S64x1024x256.Idx) = X (ValueIdx.ix3 h i q) := by
  rw [← emb4 p h i q]
  refine ((dats m 0 c).arrAt_emb_eq_flushed 4 disjoint4 (point p) (flush0_4 _) _).trans ?_
  rw [hX]
  rfl

/-- The call's result at a group of a pair, a row and a column. -/
theorem result_apply (h : Fin 2) (i : Fin 1024) :
    (dats m 0 c).arrAt 4 cfg0.N (ValueIdx.ix3 (group p h) i q : S64x1024x256.Idx)
      = output (m ((c : Thread nD τ).loc main_arg0)) (m ((c : Thread nD τ).loc main_arg1)) (m ((c : Thread nD τ).loc main_arg2))
          (m ((c : Thread nD τ).loc main_arg3)) (m ((c : Thread nD τ).loc main_arg4)) p h i q := by
  refine (result_block p q m c _ (flushed4 m c (point p)) h i).trans ?_
  refine (out_apply q (iblk m c 0 (point p)) (iblk m c 1 (point p)) (iblk m c 2 (point p)) (iblk m c 3 (point p)) h i).trans ?_
  refine congrArg₂ (fun x y : EReal => x + y) (Finset.sum_congr rfl fun k _ => congrArg₂ (fun x y : EReal => x * y) (block0 p m c h i k) (block2 p m c h k q)) ?_
  refine (Finset.sum_congr rfl fun k _ => congrArg₂ (fun x y : EReal => x * y) (block1 p m c i k) (block3 p m c k (wide h q))).trans ?_
  exact carried_pair _ _ p q _ h i

end Cert.Proof.Proj.Outputs

namespace Cert.Proof.Proj.Outputs

open Cert.OutputsReferenceIdeal Cert.OutputsReferenceIdeal.Read
open Cert.Proof.Proj.Pairs
open Idealize.ShloMosaic
open scoped BigOperators

variable (p : Fin 32) (h : Fin 2) (i : Fin 1024)

/-- The states regrouped: a group's part of the pair's states. -/
theorem regrouped (s : S32x1024x256.Idx → EReal) (ρ : Fin 2) (n : Fin 64) :
    val_main_v2 (F := Ideal) s (ValueIdx.ix4 (group p h) i ρ n) = s (ValueIdx.ix3 p i (col ρ h n)) := by
  have hp := p.isLt
  have hi := i.isLt
  have hρ := ρ.isLt
  have hh := h.isLt
  have hn := n.isLt
  have e2 : idx_main_v2 (ValueIdx.ix4 (group p h) i ρ n) = ValueIdx.ix5 p h i ρ n := by
    funext a; apply Fin.ext
    match a with
    | ⟨0, _⟩ => show ((((2 * p.val + h.val) * 1024 + i.val) * 2 + ρ.val) * 64 + n.val) / 262144 = p.val; omega
    | ⟨1, _⟩ => show ((((2 * p.val + h.val) * 1024 + i.val) * 2 + ρ.val) * 64 + n.val) / 131072 % 2 = h.val; omega
    | ⟨2, _⟩ => show ((((2 * p.val + h.val) * 1024 + i.val) * 2 + ρ.val) * 64 + n.val) / 128 % 1024 = i.val; omega
    | ⟨3, _⟩ => show ((((2 * p.val + h.val) * 1024 + i.val) * 2 + ρ.val) * 64 + n.val) / 64 % 2 = ρ.val; omega
    | ⟨4, _⟩ => show ((((2 * p.val + h.val) * 1024 + i.val) * 2 + ρ.val) * 64 + n.val) % 64 = n.val; omega
  have e0 : idx_main_v0 (idx_main_v1 (ValueIdx.ix5 p h i ρ n)) = ValueIdx.ix3 p i (col ρ h n) := by
    funext a; apply Fin.ext
    match a with
    | ⟨0, _⟩ => show ((((p.val * 1024 + i.val) * 2 + ρ.val) * 2 + h.val) * 64 + n.val) / 262144 = p.val; omega
    | ⟨1, _⟩ => show ((((p.val * 1024 + i.val) * 2 + ρ.val) * 2 + h.val) * 64 + n.val) / 256 % 1024 = i.val; omega
    | ⟨2, _⟩ => show ((((p.val * 1024 + i.val) * 2 + ρ.val) * 2 + h.val) * 64 + n.val) % 256 = 128 * ρ.val + 64 * h.val + n.val; omega
  rw [val_main_v2_apply, e2, val_main_v1_apply, val_main_v0_apply, e0]

theorem real_states (s : S32x1024x256.Idx → EReal) (n : Fin 64) :
    val_main_v6 (F := Ideal) s (ValueIdx.ix3 (group p h) i n) = s (ValueIdx.ix3 p i (col 0 h n)) := by
  have hg := (group p h).isLt
  have hi := i.isLt
  have hn := n.isLt
  have e : idx_main_v5 (idx_main_v6 (ValueIdx.ix3 (group p h) i n)) = ValueIdx.ix4 (group p h) i 0 n := by
    funext a; apply Fin.ext
    match a with
    | ⟨0, _⟩ => show (((group p h).val * 1024 + i.val) * 64 + n.val) / 65536 = (group p h).val; omega
    | ⟨1, _⟩ => show (((group p h).val * 1024 + i.val) * 64 + n.val) / 64 % 1024 = i.val; omega
    | ⟨2, _⟩ => rfl
    | ⟨3, _⟩ => show (((group p h).val * 1024 + i.val) * 64 + n.val) % 64 = n.val; omega
  rw [val_main_v6_apply, val_main_v5_apply, e, regrouped]

theorem imaginary_states (s : S32x1024x256.Idx → EReal) (n : Fin 64) :
    val_main_v9 (F := Ideal) s (ValueIdx.ix3 (group p h) i n) = s (ValueIdx.ix3 p i (col 1 h n)) := by
  have hg := (group p h).isLt
  have hi := i.isLt
  have hn := n.isLt
  have e : idx_main_v8 (idx_main_v9 (ValueIdx.ix3 (group p h) i n)) = ValueIdx.ix4 (group p h) i 1 n := by
    funext a; apply Fin.ext
    match a with
    | ⟨0, _⟩ => show (((group p h).val * 1024 + i.val) * 64 + n.val) / 65536 = (group p h).val; omega
    | ⟨1, _⟩ => show (((group p h).val * 1024 + i.val) * 64 + n.val) / 64 % 1024 = i.val; omega
    | ⟨2, _⟩ => rfl
    | ⟨3, _⟩ => show (((group p h).val * 1024 + i.val) * 64 + n.val) % 64 = n.val; omega
  rw [val_main_v9_apply, val_main_v8_apply, e, regrouped]

/-- The reference at a group of a pair, a row and a column. -/
theorem reference_apply (u : S64x1024x256.Idx → EReal) (s : S32x1024x256.Idx → EReal) (w : S64x256x256.Idx → EReal) (cr ci : S64x64x256.Idx → EReal) (q : Fin 256) :
    val_main_v14 (F := Ideal) u s w cr ci (ValueIdx.ix3 (group p h) i q) = output u s w cr ci p h i q := by
  have el : ∀ k : Fin 256, lidx_main_v4 (ValueIdx.ix3 (group p h) i q) k = ValueIdx.ix3 (group p h) i k := fun k => funext fun a => match a with
    | ⟨0, _⟩ => rfl
    | ⟨1, _⟩ => rfl
    | ⟨2, _⟩ => rfl
  have er : ∀ k : Fin 256, ridx_main_v4 (ValueIdx.ix3 (group p h) i q) k = ValueIdx.ix3 (group p h) k q := fun k => funext fun a => match a with
    | ⟨0, _⟩ => rfl
    | ⟨1, _⟩ => rfl
    | ⟨2, _⟩ => rfl
  have fl : ∀ k : Fin 64, lidx_main_v7 (ValueIdx.ix3 (group p h) i q) k = ValueIdx.ix3 (group p h) i k := fun k => funext fun a => match a with
    | ⟨0, _⟩ => rfl
    | ⟨1, _⟩ => rfl
    | ⟨2, _⟩ => rfl
  have fr : ∀ k : Fin 64, ridx_main_v7 (ValueIdx.ix3 (group p h) i q) k = ValueIdx.ix3 (group p h) k q := fun k => funext fun a => match a with
    | ⟨0, _⟩ => rfl
    | ⟨1, _⟩ => rfl
    | ⟨2, _⟩ => rfl
  have gl : ∀ k : Fin 64, lidx_main_v11 (ValueIdx.ix3 (group p h) i q) k = ValueIdx.ix3 (group p h) i k := fun k => funext fun a => match a with
    | ⟨0, _⟩ => rfl
    | ⟨1, _⟩ => rfl
    | ⟨2, _⟩ => rfl
  have gr : ∀ k : Fin 64, ridx_main_v11 (ValueIdx.ix3 (group p h) i q) k = ValueIdx.ix3 (group p h) k q := fun k => funext fun a => match a with
    | ⟨0, _⟩ => rfl
    | ⟨1, _⟩ => rfl
    | ⟨2, _⟩ => rfl
  rw [val_main_v14_apply, val_main_v13_apply, val_main_v12_apply, val_main_v4_apply, val_main_v7_apply, val_main_v11_apply]
  refine congrArg₂ (fun x y : EReal => x + y) ?_ (congrArg₂ (fun x y : EReal => x + y) ?_ ?_)
  · exact Finset.sum_congr rfl fun k _ => congrArg₂ (fun x y : EReal => x * y) (congrArg u (el k)) (congrArg w (er k))
  · exact Finset.sum_congr rfl fun k _ => congrArg₂ (fun x y : EReal => x * y) ((congrArg _ (fl k)).trans (real_states p h i s k)) (congrArg cr (fr k))
  · exact Finset.sum_congr rfl fun k _ => congrArg₂ (fun x y : EReal => x * y) ((congrArg _ (gl k)).trans (imaginary_states p h i s k)) (congrArg (neg ci) (gr k))

end Cert.Proof.Proj.Outputs

namespace Cert.Proof.Proj.Outputs

open Cert.Proof.Proj.Pairs
open Idealize.ShloMosaic Idealize.ShloMosaic.TcCoe Idealize.SL.Sem

/-- The reference ends at rest: it declares no semaphore. -/
theorem reference_frame : Cert.quiescent_OutputsReferenceIdeal := fun m g _ =>
  (θ_run Cert.OutputsReferenceIdeal.defs _ _).mono (fun r h => ⟨fun c => (h c).2, Idealize.ShloMosaic.sem_eq_zero_of_no_sems (by decide) r.2⟩)
    (Cert.OutputsReferenceIdeal.Value.run (F := Ideal) m g)

theorem result_eq (m : (ℓ : Loc Cert.OutputsIdeal.nD Cert.OutputsIdeal.τ Cert.OutputsIdeal.sig) → Buf (Elt Ideal) ℓ) (c : Dev Cert.OutputsIdeal.nD) :
    Cert.OutputsReferenceIdeal.Read.val_main_v14 (F := Ideal)
        (m ((c.tc : Thread Cert.OutputsIdeal.nD Cert.OutputsIdeal.τ).loc Cert.OutputsIdeal.main_arg0))
        (m ((c.tc : Thread Cert.OutputsIdeal.nD Cert.OutputsIdeal.τ).loc Cert.OutputsIdeal.main_arg1))
        (m ((c.tc : Thread Cert.OutputsIdeal.nD Cert.OutputsIdeal.τ).loc Cert.OutputsIdeal.main_arg2))
        (m ((c.tc : Thread Cert.OutputsIdeal.nD Cert.OutputsIdeal.τ).loc Cert.OutputsIdeal.main_arg3))
        (m ((c.tc : Thread Cert.OutputsIdeal.nD Cert.OutputsIdeal.τ).loc Cert.OutputsIdeal.main_arg4))
      = (Cert.OutputsIdeal.Gen.dats m 0 c).arrAt 4 Cert.OutputsIdeal.cfg0.N := by
  funext e
  have h0 : (e 0).val < 64 := (e 0).isLt
  have ee : e = (ValueIdx.ix3 (group ⟨(e 0).val / 2, by omega⟩ ⟨(e 0).val % 2, by omega⟩) (e 1) (e 2) : (⟨3, ![64, 1024, 256]⟩ : Shape).Idx) := by
    funext a
    match a with
    | ⟨0, _⟩ => exact Fin.ext (by show (e 0).val = 2 * ((e 0).val / 2) + (e 0).val % 2; omega)
    | ⟨1, _⟩ => rfl
    | ⟨2, _⟩ => rfl
  rw [ee]
  exact (reference_apply _ _ (e 1) _ _ _ _ _ (e 2)).trans (result_apply _ (e 2) m c _ (e 1)).symm

/-- Over the reals the call and its reference end with one result. -/
theorem algebraic : Cert.algebraic_OutputsIdeal_OutputsReferenceIdeal := by
  intro m g m' g' hpre hagree
  refine ⟨fun c => (Cert.OutputsIdeal.Gen.dats m 0 c).arrAt 4 Cert.OutputsIdeal.cfg0.N, Cert.OutputsIdeal.Value.run_blocks m g, ?_⟩
  refine (θ_run Cert.OutputsReferenceIdeal.defs _ _).mono (fun _ h c => ⟨(h c).1.trans ?_, (h c).2⟩) (Cert.OutputsReferenceIdeal.Value.run (F := Ideal) m' g')
  rw [Cert.OutputsReferenceIdeal.Read.val_main_v14_eq, (hagree c).1, (hagree c).2.1, (hagree c).2.2.1, (hagree c).2.2.2.1, (hagree c).2.2.2.2]
  exact result_eq m c

end Cert.Proof.Proj.Outputs

end
-- ==== Proof.Proj.Choice.lean ====
/- The greatest of a few numbers and the next: what a stable sort puts first, what a search for the least index of the maximum
   finds, and the softmax weights of the two. -/
module

public import proofs.«01_k».proof.Proof.Attn.Finite
public import Idealize.ShloMosaic.Lib.SortFacts
public import Idealize.ShloMosaic.Lib.SortNet.Extract

@[expose] public section

noncomputable section

namespace Cert.Proof.Choice

open Idealize.ShloMosaic Cert.Proof.Finite
open scoped BigOperators

/-- The least index of the greatest. -/
def IsFirst {n : Nat} (x : Fin n → EReal) (i : Fin n) : Prop := (∀ j, x j ≤ x i) ∧ ∀ j, j < i → x j < x i
/-- The least index of the greatest of the others. -/
def IsSecond {n : Nat} (x : Fin n → EReal) (i k : Fin n) : Prop := k ≠ i ∧ (∀ j, j ≠ i → x j ≤ x k) ∧ ∀ j, j ≠ i → j < k → x j < x k

theorem exists_least {n : Nat} (x : Fin n → EReal) (s : Finset (Fin n)) (h : s.Nonempty) :
    ∃ k ∈ s, (∀ j ∈ s, x j ≤ x k) ∧ ∀ j ∈ s, j < k → x j < x k := by
  classical
  obtain ⟨i, hi, hm⟩ := s.exists_max_image x h
  obtain ⟨k, hk, hl⟩ := (s.filter fun k => ∀ j ∈ s, x j ≤ x k).exists_min_image id ⟨i, Finset.mem_filter.2 ⟨hi, hm⟩⟩
  have hk' := Finset.mem_filter.1 hk
  refine ⟨k, hk'.1, hk'.2, fun j hj hjk => lt_of_le_of_ne (hk'.2 j hj) fun he => ?_⟩
  have : j ∈ s.filter fun k => ∀ j ∈ s, x j ≤ x k := Finset.mem_filter.2 ⟨hj, fun a ha => he ▸ hk'.2 a ha⟩
  exact absurd (hl j this) (not_le.2 hjk)

theorem exists_first {n : Nat} (x : Fin (n + 1) → EReal) : ∃ i, IsFirst x i := by
  obtain ⟨k, _, h1, h2⟩ := exists_least x Finset.univ ⟨0, Finset.mem_univ _⟩
  exact ⟨k, fun j => h1 j (Finset.mem_univ _), fun j => h2 j (Finset.mem_univ _)⟩

theorem exists_second {n : Nat} (x : Fin (n + 2) → EReal) (i : Fin (n + 2)) : ∃ k, IsSecond x i k := by
  have hne : (Finset.univ.erase i).Nonempty := by
    obtain ⟨j, hj⟩ := exists_ne i
    exact ⟨j, Finset.mem_erase.2 ⟨hj, Finset.mem_univ _⟩⟩
  obtain ⟨k, hk, h1, h2⟩ := exists_least x (Finset.univ.erase i) hne
  exact ⟨k, (Finset.mem_erase.1 hk).1, fun j hj => h1 j (Finset.mem_erase.2 ⟨hj, Finset.mem_univ _⟩), fun j hj => h2 j (Finset.mem_erase.2 ⟨hj, Finset.mem_univ _⟩)⟩

/-! ## The stable sort -/

/-- Greater, or equal and earlier. -/
def Above {n : Nat} (x : Fin n → EReal) (a b : Fin n) : Prop := x b < x a ∨ (x a = x b ∧ a < b)

theorem Above.trans {n : Nat} {x : Fin n → EReal} {a b c : Fin n} (h : Above x a b) (k : Above x b c) : Above x a c := by
  rcases h with h | ⟨h, h'⟩ <;> rcases k with k | ⟨k, k'⟩
  · exact .inl (k.trans h)
  · exact .inl (k ▸ h)
  · exact .inl (h ▸ k)
  · exact .inr ⟨h.trans k, h'.trans k'⟩

theorem Above.asymm {n : Nat} {x : Fin n → EReal} {a b : Fin n} (h : Above x a b) (k : Above x b a) : False := by
  rcases h with h | ⟨h, h'⟩ <;> rcases k with k | ⟨k, k'⟩
  · exact lt_asymm h k
  · exact absurd k h.ne
  · exact absurd h k.ne
  · exact lt_asymm h' k'

def before {n : Nat} (x : Fin n → EReal) (a b : Fin n) : Bool := decide (x b < x a)

theorem pairwise_insert {n : Nat} (x : Fin n → EReal) (a : Fin n) (l : List (Fin n)) (hl : l.Pairwise (Above x)) (ha : ∀ b ∈ l, a < b) :
    (insertBefore (before x) a l).Pairwise (Above x) := by
  induction l with
  | nil => exact List.pairwise_singleton _ _
  | cons b l ih =>
    have hb := List.pairwise_cons.1 hl
    unfold insertBefore
    split
    · rename_i h
      have h' : x a < x b := of_decide_eq_true h
      refine List.pairwise_cons.2 ⟨fun c hc => ?_, ih hb.2 fun c hc => ha c (List.mem_cons_of_mem _ hc)⟩
      rcases List.mem_cons.1 ((perm_insertBefore (before x) a l).mem_iff.1 hc) with rfl | hc
      · exact .inl h'
      · exact hb.1 c hc
    · rename_i h
      have h' : ¬ x a < x b := fun k => h (decide_eq_true k)
      have hab : Above x a b := by
        rcases lt_or_eq_of_le (not_lt.1 h') with k | k
        · exact .inl k
        · exact .inr ⟨k.symm, ha b List.mem_cons_self⟩
      refine List.pairwise_cons.2 ⟨fun c hc => ?_, hl⟩
      rcases List.mem_cons.1 hc with rfl | hc
      · exact hab
      · exact hab.trans (hb.1 c hc)

theorem pairwise_sort {n : Nat} (x : Fin n → EReal) (l : List (Fin n)) (h : l.Pairwise (· < ·)) : (stableSort (before x) l).Pairwise (Above x) := by
  induction l with
  | nil => exact List.Pairwise.nil
  | cons a l ih =>
    have h' := List.pairwise_cons.1 h
    unfold stableSort
    exact pairwise_insert x a _ (ih h'.2) fun b hb => h'.1 b ((perm_stableSort (before x) l).mem_iff.1 hb)

theorem sorted_above {n : Nat} (x : Fin n → EReal) (i j : Fin n) (h : i < j) : Above x (sortedFrom (before x) i) (sortedFrom (before x) j) := by
  have hp := List.pairwise_iff_get.1 (pairwise_sort x (List.finRange n) (List.pairwise_lt_finRange n))
  exact hp _ _ h

/-- The sort puts the least index of the greatest first. -/
theorem sorted_first {n : Nat} (hn : 0 < n) (x : Fin n → EReal) (i : Fin n) (h : IsFirst x i) : sortedFrom (before x) ⟨0, hn⟩ = i := by
  obtain ⟨k, hk⟩ := sortedFrom_surjective (before x) i
  by_contra hne
  have hk0 : (⟨0, hn⟩ : Fin n) < k := by
    refine Fin.lt_def.2 (Nat.pos_of_ne_zero fun h0 => hne ?_)
    rw [← hk]; exact congrArg _ (Fin.ext h0.symm)
  have h1 := sorted_above x _ _ hk0
  rw [hk] at h1
  refine h1.asymm ?_
  rcases lt_or_eq_of_le (h.1 (sortedFrom (before x) ⟨0, hn⟩)) with h2 | h2
  · exact .inl h2
  · refine .inr ⟨h2.symm, lt_of_le_of_ne (not_lt.1 fun h3 => ?_) (Ne.symm hne)⟩
    exact absurd h2 (h.2 _ h3).ne

/-- And the least index of the greatest of the others next. -/
theorem sorted_second {n : Nat} (hn : 1 < n) (x : Fin n → EReal) (i k : Fin n) (h : IsFirst x i) (h2 : IsSecond x i k) :
    sortedFrom (before x) ⟨1, hn⟩ = k := by
  obtain ⟨c, hc⟩ := sortedFrom_surjective (before x) k
  have h0 := sorted_first (by omega) x i h
  by_contra hne
  have hc1 : (⟨1, hn⟩ : Fin n) < c := by
    refine Fin.lt_def.2 (lt_of_le_of_ne (Nat.pos_of_ne_zero fun hz => h2.1 ?_) fun h1 => hne ?_)
    · rw [← hc, ← h0]; exact congrArg _ (Fin.ext hz)
    · rw [← hc]; exact congrArg _ (Fin.ext h1)
  have hni : sortedFrom (before x) ⟨1, hn⟩ ≠ i := fun he => by
    have := sortedFrom_injective (before x) (he.trans h0.symm)
    exact absurd (congrArg Fin.val this) (Nat.one_ne_zero)
  have h1 := sorted_above x _ _ hc1
  rw [hc] at h1
  refine h1.asymm ?_
  rcases lt_or_eq_of_le (h2.2.1 _ hni) with h3 | h3
  · exact .inl h3
  · refine .inr ⟨h3.symm, lt_of_le_of_ne (not_lt.1 fun h4 => ?_) (Ne.symm hne)⟩
    exact absurd h3 (h2.2.2 _ hni h4).ne

/-- The greatest entries of a row and their indices. -/
theorem topK_apply {M n k : Nat} (hk : k ≤ n) (x : FVec Ideal ⟨2, ![M, n]⟩ .f32) (h : Shape.Slices (⟨2, ![M, n]⟩ : Shape) (fun _ => 0) ⟨2, ![M, k]⟩)
    (R : Fin M) (j : Fin k) :
    (Host.topK ⟨2, ![M, k]⟩ 1 (FloatOps.cmpfTotal .gt) x h).1 (ValueIdx.ix2 R j)
        = x (ValueIdx.ix2 R (sortedFrom (before fun c => x (ValueIdx.ix2 R c)) (j.castLE hk)))
      ∧ (Host.topK ⟨2, ![M, k]⟩ 1 (FloatOps.cmpfTotal .gt) x h).2 (ValueIdx.ix2 R j)
        = BitVec.ofNat 32 (sortedFrom (before fun c => x (ValueIdx.ix2 R c)) (j.castLE hk)).val := by
  have hd : 1 < (⟨2, ![M, n]⟩ : Shape).rank := by show 1 < 2; omega
  have ha : ∀ c : Fin n, (ValueIdx.ix2 R (j.castLE hk) : (⟨2, ![M, n]⟩ : Shape).Idx).along ⟨1, hd⟩ c = ValueIdx.ix2 R c := fun c => by
    funext a
    match a with
    | ⟨0, _⟩ => rfl
    | ⟨1, _⟩ => rfl
  have hb : ∀ y : IVec ⟨2, ![M, n]⟩ 32, (fun a b : Fin n => (fun l r : EReal × BitVec 32 => FloatOps.cmpfTotal (F := Ideal) (φ := .f32) .gt l.1 r.1)
        (x ((ValueIdx.ix2 R (j.castLE hk) : (⟨2, ![M, n]⟩ : Shape).Idx).along ⟨1, hd⟩ a), y ((ValueIdx.ix2 R (j.castLE hk) : (⟨2, ![M, n]⟩ : Shape).Idx).along ⟨1, hd⟩ a))
        (x ((ValueIdx.ix2 R (j.castLE hk) : (⟨2, ![M, n]⟩ : Shape).Idx).along ⟨1, hd⟩ b), y ((ValueIdx.ix2 R (j.castLE hk) : (⟨2, ![M, n]⟩ : Shape).Idx).along ⟨1, hd⟩ b)) == 1#1)
      = before fun c => x (ValueIdx.ix2 R c) := fun y => by
    funext a b
    rw [ha, ha]
    show (BitVec.ofBool (decide (x (ValueIdx.ix2 R b) < x (ValueIdx.ix2 R a))) == 1#1) = decide (x (ValueIdx.ix2 R b) < x (ValueIdx.ix2 R a))
    cases decide (x (ValueIdx.ix2 R b) < x (ValueIdx.ix2 R a)) <;> rfl
  have hz : ∀ {α : Type} (v : (⟨2, ![M, n]⟩ : Shape).Idx → α), extractStridedSlice ⟨2, ![M, k]⟩ (fun _ => 0) v h (ValueIdx.ix2 R j) = v (ValueIdx.ix2 R (j.castLE hk)) := fun v =>
    extractStridedSlice_apply _ v h _ _ fun a => match a with
      | ⟨0, _⟩ => (Nat.zero_add _).symm
      | ⟨1, _⟩ => (Nat.zero_add _).symm
  unfold Host.topK Host.sort2
  dsimp only
  rw [dif_pos hd]
  refine ⟨(hz _).trans ?_, (hz _).trans ?_⟩
  · refine Eq.trans (b := x ((ValueIdx.ix2 R (j.castLE hk) : (⟨2, ![M, n]⟩ : Shape).Idx).along ⟨1, hd⟩ (sortedFrom (before fun c => x (ValueIdx.ix2 R c)) (j.castLE hk)))) ?_ (congrArg x (ha _))
    exact congrArg (fun B : Fin n → Fin n → Bool => x ((ValueIdx.ix2 R (j.castLE hk) : (⟨2, ![M, n]⟩ : Shape).Idx).along ⟨1, hd⟩ (sortedFrom B (j.castLE hk)))) (hb (iotaInDim _ 32 ⟨1, hd⟩))
  · exact congrArg (fun B : Fin n → Fin n → Bool => BitVec.ofNat 32 (sortedFrom B (j.castLE hk)).val) (hb (iotaInDim _ 32 ⟨1, hd⟩))

/-! ## The search -/

theorem fold_max_first {n : Nat} (x : Fin n → EReal) (i : Fin n) (h : IsFirst x i) : Finset.univ.fold max ⊥ x = x i :=
  le_antisymm (Finset.fold_max_le _ |>.2 ⟨bot_le, fun j _ => h.1 j⟩) (Finset.le_fold_max _ |>.2 (.inr ⟨i, Finset.mem_univ _, le_refl _⟩))

theorem toInt_small {k : Nat} (h : k < 2 ^ 31) : (BitVec.ofNat 32 k).toInt = k := by
  rw [BitVec.toInt_eq_toNat_of_lt] <;> rw [BitVec.toNat_ofNat] <;> omega

/-- The least index at which the word is set. -/
theorem fold_min_index {n : Nat} (hn : n < 100) (b : Fin n → BitVec 1) (i : Fin n) (hi : b i = 1#1) (hlt : ∀ j, j < i → b j ≠ 1#1) :
    Finset.univ.fold IntOp.minsi 2147483647#32 (fun j => if b j = 1#1 then BitVec.ofNat 32 j.val else BitVec.ofNat 32 n) = BitVec.ofNat 32 i.val := by
  refine BitVec.eq_of_toInt_eq ?_
  rw [← Finset.fold_hom (op := IntOp.minsi) (m := BitVec.toInt) (op' := (min : Int → Int → Int)) (fun a b => SortNet.toInt_minsi a b), toInt_small (k := i.val) (by omega)]
  refine le_antisymm ?_ ?_
  · refine (Finset.fold_min_le _).2 (.inr ⟨i, Finset.mem_univ _, ?_⟩)
    show (if b i = 1#1 then BitVec.ofNat 32 i.val else BitVec.ofNat 32 n).toInt ≤ _
    rw [if_pos hi, toInt_small (by omega)]
  · refine (Finset.le_fold_min _).2 ⟨?_, fun j _ => ?_⟩
    · show ((i.val : Nat) : Int) ≤ 2147483647
      omega
    · show _ ≤ (if b j = 1#1 then BitVec.ofNat 32 j.val else BitVec.ofNat 32 n).toInt
      by_cases hj : b j = 1#1
      · rw [if_pos hj, toInt_small (by omega)]
        have : i ≤ j := not_lt.1 fun hji => hlt j hji hj
        exact_mod_cast this
      · rw [if_neg hj, toInt_small (by omega)]
        omega

/-- With the greatest struck out, the greatest of the rest is the next. -/
theorem struck_first {n : Nat} (x : Fin n → EReal) (hx : ∀ j, IsReal (x j)) (i k : Fin n) (h : IsSecond x i k) :
    IsFirst (fun j => if j = i then ⊥ else x j) k := by
  have hk : (if k = i then ⊥ else x k) = x k := if_neg h.1
  refine ⟨fun j => ?_, fun j hj => ?_⟩
  · show (if j = i then ⊥ else x j) ≤ (if k = i then ⊥ else x k)
    rw [hk]
    by_cases hi : j = i
    · rw [if_pos hi]; exact bot_le
    · rw [if_neg hi]; exact h.2.1 j hi
  · show (if j = i then ⊥ else x j) < (if k = i then ⊥ else x k)
    rw [hk]
    by_cases hi : j = i
    · rw [if_pos hi]; exact bot_lt_iff_ne_bot.2 (hx k).ne_bot
    · rw [if_neg hi]; exact h.2.2 j hi hj

/-! ## The weights -/

theorem exp_real (a b : ℝ) : Ideal.exp ((a : EReal) - (b : EReal)) = ((Real.exp (a - b) : ℝ) : EReal) := by
  rw [← EReal.coe_sub]; rfl

theorem coe_sum {ι : Type*} (s : Finset ι) (f : ι → ℝ) : ∑ i ∈ s, ((f i : ℝ) : EReal) = ((∑ i ∈ s, f i : ℝ) : EReal) := by
  induction s using Finset.cons_induction with
  | empty => simp
  | cons a s ha ih => rw [Finset.sum_cons, Finset.sum_cons, ih, EReal.coe_add]

theorem div_real (a b : ℝ) (h : b ≠ 0) : Ideal.div (a : EReal) (b : EReal) = ((a / b : ℝ) : EReal) := by
  rw [Ideal.div_coe h, ← EReal.coe_mul]
  congr 1; ring

/-- The softmax has its greatest where the row has, and it is one over the sum. -/
theorem softmax_first {n : Nat} (l : Fin n → EReal) (hl : ∀ j, IsReal (l j)) (i : Fin n) (h : IsFirst l i) :
    IsFirst (fun j => Ideal.div (Ideal.exp (l j - l i)) (∑ k, Ideal.exp (l k - l i))) i
      ∧ Ideal.div (Ideal.exp (l i - l i)) (∑ k, Ideal.exp (l k - l i)) = Ideal.div 1 (∑ k, Ideal.exp (l k - l i))
      ∧ IsReal (Ideal.div 1 (∑ k, Ideal.exp (l k - l i))) := by
  choose r hr using hl
  have hS : ∑ k, Ideal.exp (l k - l i) = ((∑ k, Real.exp (r k - r i) : ℝ) : EReal) := by
    rw [← coe_sum]
    exact Finset.sum_congr rfl fun k _ => by rw [hr k, hr i, exp_real]
  have hpos : 0 < ∑ k, Real.exp (r k - r i) := Finset.sum_pos (fun k _ => Real.exp_pos _) ⟨i, Finset.mem_univ _⟩
  have hp : ∀ j, Ideal.div (Ideal.exp (l j - l i)) (∑ k, Ideal.exp (l k - l i)) = ((Real.exp (r j - r i) / ∑ k, Real.exp (r k - r i) : ℝ) : EReal) := fun j => by
    rw [hS, hr j, hr i, exp_real, div_real _ _ hpos.ne']
  refine ⟨⟨fun j => ?_, fun j hj => ?_⟩, ?_, ?_⟩
  · show Ideal.div _ _ ≤ Ideal.div _ _
    rw [hp, hp, EReal.coe_le_coe_iff]
    have h1 := h.1 j
    rw [hr j, hr i, EReal.coe_le_coe_iff] at h1
    exact div_le_div_of_nonneg_right (Real.exp_le_exp.2 (by linarith)) hpos.le
  · show Ideal.div _ _ < Ideal.div _ _
    rw [hp, hp, EReal.coe_lt_coe_iff]
    have h1 := h.2 j hj
    rw [hr j, hr i, EReal.coe_lt_coe_iff] at h1
    exact div_lt_div_of_pos_right (Real.exp_lt_exp.2 (by linarith)) hpos
  · rw [hp, sub_self, Real.exp_zero, hS, ← EReal.coe_one, div_real _ _ hpos.ne']
  · rw [hS, ← EReal.coe_one, div_real _ _ hpos.ne']
    exact ⟨_, rfl⟩

/-- The two weights, each as both sides write it. -/
theorem weights (u v g : EReal) (hu : IsReal u) (hv : IsReal v) (hg : IsReal g) :
    Ideal.div (Ideal.exp (u - u)) (Ideal.exp (u - u) + Ideal.exp (v - u)) * g = Ideal.div g (1 + Ideal.exp (v - u))
      ∧ Ideal.div (Ideal.exp (v - u)) (Ideal.exp (u - u) + Ideal.exp (v - u)) * g = Ideal.div (g * Ideal.exp (v - u)) (1 + Ideal.exp (v - u)) := by
  obtain ⟨a, rfl⟩ := hu
  obtain ⟨b, rfl⟩ := hv
  obtain ⟨c, rfl⟩ := hg
  have hp : (1 : ℝ) + Real.exp (b - a) ≠ 0 := by have := Real.exp_pos (b - a); linarith
  rw [exp_real, exp_real, sub_self, Real.exp_zero, ← EReal.coe_one, ← EReal.coe_add, div_real _ _ hp, div_real _ _ hp, ← EReal.coe_mul, ← EReal.coe_mul,
    div_real _ _ hp, ← EReal.coe_mul, div_real _ _ hp]
  refine ⟨congrArg _ ?_, congrArg _ ?_⟩ <;> ring

end Cert.Proof.Choice

end
-- ==== Proof.Proj.RouterTile.lean ====
/- The router's tile, a column of it: the group and the two experts of a token and their weights, from the token's logits. -/
module

public import proofs.«01_k».proof.Proof.Gen.RouterIdeal.Skeleton
public import proofs.«01_k».proof.Proof.Proj.Choice
public import proofs.«01_k».proof.Proof.Proj.Norm
public import Idealize.ShloMosaic.Lib.Pipeline.Value
public import Idealize.ShloMosaic.Lib.MatmulPlain

@[expose] public section

set_option maxRecDepth 16384

noncomputable section

namespace Cert.Proof.Proj.Router

open Idealize.ShloMosaic Cert.Proof.Choice Cert.Proof.Finite
open scoped BigOperators

/-- The logits of the groups, and those of a group's experts. -/
def grp (l : Fin 128 → EReal) (j : Fin 4) : EReal := l ⟨j.val, by omega⟩
def exps (l : Fin 128 → EReal) (i : Fin 4) (k : Fin 8) : EReal := l ⟨8 + 8 * i.val + k.val, by omega⟩

/-- An expert's number, as a float. -/
def expert (i : Fin 4) (a : Fin 8) : EReal := FloatOps.sitofp (F := Ideal) .f32 (IntOp.addi (IntOp.muli (BitVec.ofNat 32 i.val) 8#32) (BitVec.ofNat 32 a.val))
/-- The group's probability. -/
def share (g : Fin 4 → EReal) (i : Fin 4) : EReal := Ideal.div 1 (∑ k, Ideal.exp (g k - g i))

/-- The four rows of a token's route: its two experts and their weights. -/
def routed (l : Fin 128 → EReal) (i : Fin 4) (a b : Fin 8) (r : Fin 4) : EReal :=
  if r = 0 then expert i a else if r = 1 then expert i b
  else if r = 2 then Ideal.div (share (grp l) i) (1 + Ideal.exp (exps l i b - exps l i a))
  else Ideal.div (share (grp l) i * Ideal.exp (exps l i b - exps l i a)) (1 + Ideal.exp (exps l i b - exps l i a))

end Cert.Proof.Proj.Router

namespace Cert.Proof.Proj.Router

open Cert.RouterIdeal Cert.RouterIdeal.Gen
open Idealize.ShloMosaic Cert.Proof.Choice Cert.Proof.Finite Cert.Proof.Row
open scoped BigOperators

theorem lift_eq {n : Nat} (h : (⟨2, ![n, 512]⟩ : Shape).Reduces [0] S512) (t : Fin 512) (k : Fin n) : h.lift (ValueIdx.ix1 t) k = ValueIdx.ix2 k t := by
  funext a
  match a with
  | ⟨0, _⟩ => rfl
  | ⟨1, _⟩ => rfl

theorem flat_cast {α : Type} (v : S512.Idx → α) (t : Fin 512) : shapeCast S1x512 v shapeCasts_S512_S1x512 (ValueIdx.ix2 0 t) = v (ValueIdx.ix1 t) :=
  shapeCast_apply v shapeCasts_S512_S1x512 (ValueIdx.ix2 0 t) (ValueIdx.ix1 t) (by
    rw [Shape.rowMajor_val_one, Shape.rowMajor_val_two]
    show t.val = 0 * 512 + t.val
    omega)

theorem col_max {n : Nat} (src : FVec Ideal ⟨2, ![n, 512]⟩ .f32) (h : (⟨2, ![n, 512]⟩ : Shape).Reduces [0] S512) (t : Fin 512)
    (x : Fin n → EReal) (hx : ∀ k, src (ValueIdx.ix2 k t) = x k) (i : Fin n) (hi : IsFirst x i) :
    shapeCast S1x512 (multiReduction .maximumf [0] S512 src 0xFF800000#32 h (.inl rfl) rfl) shapeCasts_S512_S1x512 (ValueIdx.ix2 0 t) = x i := by
  refine (flat_cast _ t).trans ((Ideal.multiReduction_maximumf_single src _ h _ _ (ValueIdx.ix1 t)).trans ?_)
  refine Eq.trans ?_ (fold_max_first x i hi)
  exact congrArg₂ (fun (z : EReal) (f : Fin n → EReal) => Finset.univ.fold max z f) ofBits_negInf_f32 (funext fun k => (congrArg src (lift_eq h t k)).trans (hx k))

theorem col_sum {n : Nat} (src : FVec Ideal ⟨2, ![n, 512]⟩ .f32) (h : (⟨2, ![n, 512]⟩ : Shape).Reduces [0] S512) (t : Fin 512)
    (x : Fin n → EReal) (hx : ∀ k, src (ValueIdx.ix2 k t) = x k) :
    shapeCast S1x512 (multiReduction .add [0] S512 src 0x00000000#32 h (.inl rfl) rfl) shapeCasts_S512_S1x512 (ValueIdx.ix2 0 t) = ∑ k, x k :=
  (flat_cast _ t).trans ((Ideal.multiReduction_add_single src _ h _ _ (ValueIdx.ix1 t)).trans
    (Finset.sum_congr rfl fun k _ => (congrArg src (lift_eq h t k)).trans (hx k)))

theorem oeq_one (x y : EReal) : FloatOps.cmpf (F := Ideal) (φ := .f32) .oeq x y = 1#1 ↔ x = y := by
  show BitVec.ofBool (decide (x = y)) = 1#1 ↔ x = y
  by_cases h : x = y <;> simp [h]

/-- The least index of the greatest, as the body searches for it. -/
theorem col_index {n : Nat} (hn : n < 100) (src top : FVec Ideal ⟨2, ![n, 512]⟩ .f32) (idx : IVec ⟨2, ![n, 512]⟩ 32) (none : BitVec 32) (hnone : none = BitVec.ofNat 32 n)
    (h : (⟨2, ![n, 512]⟩ : Shape).Reduces [0] S512) (t : Fin 512) (x : Fin n → EReal) (hx : ∀ k, src (ValueIdx.ix2 k t) = x k)
    (hidx : ∀ k : Fin n, idx (ValueIdx.ix2 k t) = BitVec.ofNat 32 k.val) (i : Fin n) (hi : IsFirst x i) (htop : ∀ k, top (ValueIdx.ix2 k t) = x i) :
    shapeCast S1x512 (multiReductionI .minsi [0] S512 (select (cmpf .oeq src top) idx (broadcast ⟨2, ![n, 512]⟩ none)) 2147483647#32 h rfl) shapeCasts_S512_S1x512 (ValueIdx.ix2 0 t)
      = BitVec.ofNat 32 i.val := by
  refine (flat_cast _ t).trans ((multiReductionI_eq_fold .minsi _ _ h rfl (ValueIdx.ix1 t)).trans ?_)
  refine (h.fold_filter_drop_single IntOp.minsi _ _ (ValueIdx.ix1 t)).trans ?_
  refine Eq.trans ?_ (fold_min_index hn (fun k => FloatOps.cmpf (F := Ideal) (φ := .f32) .oeq (x k) (x i)) i ((oeq_one _ _).2 rfl)
    fun j hj hc => absurd ((oeq_one _ _).1 hc) (hi.2 j hj).ne)
  refine congrArg (fun f : Fin n → BitVec 32 => Finset.univ.fold IntOp.minsi 2147483647#32 f) (funext fun k => ?_)
  refine (congrArg (select (cmpf .oeq src top) idx (broadcast ⟨2, ![n, 512]⟩ none)) (lift_eq h t k)).trans ?_
  show Scalar.select (FloatOps.cmpf (F := Ideal) (φ := .f32) .oeq (src (ValueIdx.ix2 k t)) (top (ValueIdx.ix2 k t))) (idx (ValueIdx.ix2 k t)) none = _
  exact (congrArg₂ (fun c w => Scalar.select c w none) (congrArg₂ (FloatOps.cmpf (F := Ideal) (φ := .f32) .oeq) (hx k) (htop k)) (hidx k)).trans (by rw [hnone]; rfl)

theorem iota_apply {n : Nat} (h : (⟨2, ![n, 512]⟩ : Shape).Iotas .tc 32 [0]) (k : Fin n) (t : Fin 512) :
    iota .tc ⟨2, ![n, 512]⟩ 32 [0] h (ValueIdx.ix2 k t) = BitVec.ofNat 32 k.val := by
  show BitVec.ofNat 32 (0 * n + k.val) = _
  rw [Nat.zero_mul, Nat.zero_add]

abbrev pieces (x : Fin 4 → FVec Ideal S1x512 .f32) (x4 x5 : FVec Ideal S1x512 .f32) (x6 : FVec Ideal S2x512 .f32) : List ((s : Shape) × (s.Idx → EReal)) :=
  [⟨S1x512, x 0⟩, ⟨S1x512, x 1⟩, ⟨S1x512, x 2⟩, ⟨S1x512, x 3⟩, ⟨S1x512, x4⟩, ⟨S1x512, x5⟩, ⟨S2x512, x6⟩]

/-- Each of the first four pieces of the tile is a row of it. -/
theorem piece_apply (x : Fin 4 → FVec Ideal S1x512 .f32) (x4 x5 : FVec Ideal S1x512 .f32) (x6 : FVec Ideal S2x512 .f32) (r : Fin 4) (t : Fin 512) :
    concatenate S8x512 0 (pieces x x4 x5 x6) concatenates_S1x512_S1x512_S1x512_S1x512_S1x512_S1x512_S2x512_S8x512_d0 (ValueIdx.ix2 ⟨r.val, by omega⟩ t) = x r (ValueIdx.ix2 0 t) := by
  have hi : ∀ (q : Fin 8) (b : Fin 2), b ≠ 0 → ((ValueIdx.ix2 0 t : S1x512.Idx) b).val = ((ValueIdx.ix2 q t : S8x512.Idx) b).val := fun q b hb =>
    match b with
    | ⟨0, _⟩ => absurd rfl hb
    | ⟨1, _⟩ => rfl
  match r with
  | ⟨0, _⟩ => exact concatenate_apply_piece (t := S8x512) 0 (pieces x x4 x5 x6) _ _ 0 (show 0 < 7 by decide) S1x512 (x 0) rfl rfl 0 rfl (ValueIdx.ix2 0 t) (fun b hb => hi _ b fun h => hb (Fin.ext (congrArg Fin.val h))) rfl
  | ⟨1, _⟩ => exact concatenate_apply_piece (t := S8x512) 0 (pieces x x4 x5 x6) _ _ 1 (show 1 < 7 by decide) S1x512 (x 1) rfl rfl 1 rfl (ValueIdx.ix2 0 t) (fun b hb => hi _ b fun h => hb (Fin.ext (congrArg Fin.val h))) rfl
  | ⟨2, _⟩ => exact concatenate_apply_piece (t := S8x512) 0 (pieces x x4 x5 x6) _ _ 2 (show 2 < 7 by decide) S1x512 (x 2) rfl rfl 2 rfl (ValueIdx.ix2 0 t) (fun b hb => hi _ b fun h => hb (Fin.ext (congrArg Fin.val h))) rfl
  | ⟨3, _⟩ => exact concatenate_apply_piece (t := S8x512) 0 (pieces x x4 x5 x6) _ _ 3 (show 3 < 7 by decide) S1x512 (x 3) rfl rfl 3 rfl (ValueIdx.ix2 0 t) (fun b hb => hi _ b fun h => hb (Fin.ext (congrArg Fin.val h))) rfl

section column
variable (v32 : FVec Ideal S128x512 .f32) (v33 : FVec Ideal S4x512 .f32) (v35 : FVec Ideal S1x512 .f32) (t : Fin 512) (l : Fin 128 → EReal) (i : Fin 4) (a b : Fin 8)

theorem share_apply (h33 : ∀ k, v33 (ValueIdx.ix2 k t) = grp l k) (h35 : v35 (ValueIdx.ix2 0 t) = grp l i) :
    k0_pay9 (F := Ideal) v33 v35 (ValueIdx.ix2 0 t) = share (grp l) i := by
  unfold k0_pay9 share
  refine congrArg₂ Ideal.div ofBits_one_f32 ?_
  refine col_sum _ _ t _ fun k => ?_
  exact congrArg₂ (fun x y : EReal => Ideal.exp (x - y)) (h33 k) ((row_cast (by decide) v35 _ k t).trans h35)

theorem group_apply (h33 : ∀ k, v33 (ValueIdx.ix2 k t) = grp l k) (h35 : v35 (ValueIdx.ix2 0 t) = grp l i) (hi : IsFirst (grp l) i) :
    k0_pay10 (F := Ideal) v33 v35 (ValueIdx.ix2 0 t) = BitVec.ofNat 32 i.val := by
  unfold k0_pay10
  exact col_index (by omega) v33 _ _ 4#32 rfl _ t (grp l) h33 (fun k => iota_apply _ k t) i hi fun k => (row_cast (by decide) v35 _ k t).trans h35

/-- The logits of the group's experts. -/
theorem within_apply (h32 : ∀ q, v32 (ValueIdx.ix2 q t) = l q) (h10 : k0_pay10 (F := Ideal) v33 v35 (ValueIdx.ix2 0 t) = BitVec.ofNat 32 i.val) (k : Fin 8) :
    k0_pay11 (F := Ideal) v32 v33 v35 (ValueIdx.ix2 k t) = exps l i k := by
  have hc : ∀ w : BitVec 32, broadcastTo S8x512 (shapeCast S1x512 (cmpi .eq (k0_pay10 (F := Ideal) v33 v35) (broadcast S1x512 w)) shapeCasts_S1x512_S1x512) broadcasts_S1x512_S8x512 (ValueIdx.ix2 k t)
      = IntOp.cmpi .eq (BitVec.ofNat 32 i.val) w := fun w => by
    refine (row_cast (by decide) _ _ k t).trans ?_
    rw [same_cast]
    exact congrArg (fun y => IntOp.cmpi .eq y w) h10
  have hs : ∀ (o : Nat) (ho : o + k.val < 128) (h : S128x512.Slices ![o, 0] S8x512), extractStridedSlice S8x512 ![o, 0] v32 h (ValueIdx.ix2 k t) = l ⟨o + k.val, ho⟩ := fun o ho h =>
    (extractStridedSlice_apply _ v32 h (ValueIdx.ix2 k t) (ValueIdx.ix2 ⟨o + k.val, ho⟩ t) (fun a => match a with
      | ⟨0, _⟩ => rfl
      | ⟨1, _⟩ => (Nat.zero_add _).symm)).trans (h32 _)
  unfold k0_pay11
  refine Eq.trans (b := Scalar.select (IntOp.cmpi .eq (BitVec.ofNat 32 i.val) 3#32) (l ⟨32 + k.val, by omega⟩) (Scalar.select (IntOp.cmpi .eq (BitVec.ofNat 32 i.val) 2#32) (l ⟨24 + k.val, by omega⟩)
    (Scalar.select (IntOp.cmpi .eq (BitVec.ofNat 32 i.val) 1#32) (l ⟨16 + k.val, by omega⟩) (Scalar.select (IntOp.cmpi .eq (BitVec.ofNat 32 i.val) 0#32) (l ⟨8 + k.val, by omega⟩)
      (Ideal.ofBits .f32 0x00000000#32))))) ?_ ?_
  · rw [← hc 3#32, ← hc 2#32, ← hc 1#32, ← hc 0#32, ← hs 32 _ slices_S128x512_o32_0_S8x512, ← hs 24 _ slices_S128x512_o24_0_S8x512, ← hs 16 _ slices_S128x512_o16_0_S8x512,
      ← hs 8 _ slices_S128x512_o8_0_S8x512]
    rfl
  · match i with
    | ⟨0, _⟩ => rfl
    | ⟨1, _⟩ => rfl
    | ⟨2, _⟩ => rfl
    | ⟨3, _⟩ => rfl

theorem top_apply (h11 : ∀ k, k0_pay11 (F := Ideal) v32 v33 v35 (ValueIdx.ix2 k t) = exps l i k) (ha : IsFirst (exps l i) a) :
    k0_pay12 (F := Ideal) v32 v33 v35 (ValueIdx.ix2 0 t) = exps l i a := by
  unfold k0_pay12
  exact col_max _ _ t _ h11 a ha

theorem first_apply (h11 : ∀ k, k0_pay11 (F := Ideal) v32 v33 v35 (ValueIdx.ix2 k t) = exps l i k) (ha : IsFirst (exps l i) a) :
    k0_pay13 (F := Ideal) v32 v33 v35 (ValueIdx.ix2 0 t) = BitVec.ofNat 32 a.val := by
  unfold k0_pay13
  exact col_index (by omega) _ _ _ 8#32 rfl _ t (exps l i) h11 (fun k => iota_apply _ k t) a ha
    fun k => (row_cast (by decide) _ _ k t).trans (top_apply v32 v33 v35 t l i a h11 ha)

end column

section rest
variable (v42 : FVec Ideal S1x512 .f32) (v49 : IVec S1x512 32) (v74 : FVec Ideal S8x512 .f32) (v75 : IVec S8x512 32) (v77 : FVec Ideal S1x512 .f32) (v83 : IVec S1x512 32)
  (t : Fin 512) (l : Fin 128 → EReal) (i : Fin 4) (a b : Fin 8)
  (h74 : ∀ k, v74 (ValueIdx.ix2 k t) = exps l i k) (h75 : ∀ k : Fin 8, v75 (ValueIdx.ix2 k t) = BitVec.ofNat 32 k.val)
  (h83 : v83 (ValueIdx.ix2 0 t) = BitVec.ofNat 32 a.val)
include h74 h75 h83

theorem struck_apply (k : Fin 8) : k0_pay14 (F := Ideal) v74 v75 v83 (ValueIdx.ix2 k t) = if k = a then ⊥ else exps l i k := by
  unfold k0_pay14
  show Scalar.select (IntOp.cmpi .eq (v75 (ValueIdx.ix2 k t)) (broadcastTo S8x512 v83 broadcasts_S1x512_S8x512 (ValueIdx.ix2 k t))) (Ideal.ofBits .f32 0xFF800000#32) (v74 (ValueIdx.ix2 k t)) = _
  rw [row_cast (by decide) v83, h75, h74, h83, ofBits_negInf_f32]
  have hc : ∀ p q : Fin 8, (IntOp.cmpi .eq (BitVec.ofNat 32 p.val) (BitVec.ofNat 32 q.val) = 1#1) ↔ p = q := by decide
  by_cases h : k = a
  · rw [if_pos h]; exact if_pos ((hc k a).2 h)
  · rw [if_neg h]; exact if_neg fun hh => h ((hc k a).1 hh)

variable (hreal : ∀ k, IsReal (exps l i k)) (hb : IsSecond (exps l i) a b)
include hreal hb

theorem next_apply : k0_pay15 (F := Ideal) v74 v75 v83 (ValueIdx.ix2 0 t) = exps l i b := by
  unfold k0_pay15
  refine (col_max _ _ t _ (struck_apply v74 v75 v83 t l i a h74 h75 h83) b (struck_first _ hreal a b hb)).trans (if_neg hb.1)

theorem second_apply (h49 : v49 (ValueIdx.ix2 0 t) = BitVec.ofNat 32 i.val) :
    k0_pay20 (F := Ideal) v49 v74 v75 v83 (ValueIdx.ix2 0 t) = IntOp.addi (IntOp.muli (BitVec.ofNat 32 i.val) 8#32) (BitVec.ofNat 32 b.val) := by
  unfold k0_pay20
  refine congrArg₂ (fun x y : BitVec 32 => IntOp.addi (IntOp.muli x 8#32) y) h49 ?_
  exact col_index (by omega) _ _ v75 8#32 rfl _ t _ (struck_apply v74 v75 v83 t l i a h74 h75 h83) h75 b (struck_first _ hreal a b hb)
    fun k => (row_cast (by decide) _ _ k t).trans ((next_apply v74 v75 v83 t l i a b h74 h75 h83 hreal hb).trans (if_neg hb.1).symm)

theorem ratio_apply (h77 : v77 (ValueIdx.ix2 0 t) = exps l i a) : k0_pay16 (F := Ideal) v74 v75 v77 v83 (ValueIdx.ix2 0 t) = Ideal.exp (exps l i b - exps l i a) := by
  unfold k0_pay16
  exact congrArg₂ (fun x y : EReal => Ideal.exp (x - y)) (next_apply v74 v75 v83 t l i a b h74 h75 h83 hreal hb) h77

/-- The four rows that the tile keeps of a token. -/
theorem tile_apply (h42 : v42 (ValueIdx.ix2 0 t) = share (grp l) i) (h49 : v49 (ValueIdx.ix2 0 t) = BitVec.ofNat 32 i.val) (h77 : v77 (ValueIdx.ix2 0 t) = exps l i a)
    (v113 v115 : IVec S32x512 1) (v128 : FVec Ideal S32x512 .f32) (v129 : Vec Ideal S32x1 .f32) (r : Fin 4) :
    k0_pay4 (F := Ideal) (k0_pay17 v42 v74 v75 v77 v83) (k0_pay18 v42 v74 v75 v77 v83) (k0_pay19 v49 v83) (k0_pay20 v49 v74 v75 v83) v113 v115 v128 v129
        (ValueIdx.ix2 ⟨r.val, by omega⟩ t) = routed l i a b r := by
  have e := ratio_apply v74 v75 v77 v83 t l i a b h74 h75 h83 hreal hb h77
  unfold k0_pay4
  refine (piece_apply ![sitofp .f32 (k0_pay19 v49 v83), sitofp .f32 (k0_pay20 (F := Ideal) v49 v74 v75 v83), k0_pay17 v42 v74 v75 v77 v83, k0_pay18 v42 v74 v75 v77 v83] _ _ _ r t).trans ?_
  match r with
  | ⟨0, _⟩ => exact congrArg₂ (fun x y : BitVec 32 => FloatOps.sitofp (F := Ideal) .f32 (IntOp.addi (IntOp.muli x 8#32) y)) h49 h83
  | ⟨1, _⟩ => exact congrArg (fun y : BitVec 32 => FloatOps.sitofp (F := Ideal) .f32 y) (second_apply v49 v74 v75 v83 t l i a b h74 h75 h83 hreal hb h49)
  | ⟨2, _⟩ =>
    show k0_pay17 (F := Ideal) v42 v74 v75 v77 v83 (ValueIdx.ix2 0 t) = _
    unfold k0_pay17
    exact congrArg₂ Ideal.div h42 (congrArg₂ (fun x y : EReal => x + y) ofBits_one_f32 e)
  | ⟨3, _⟩ =>
    show k0_pay18 (F := Ideal) v42 v74 v75 v77 v83 (ValueIdx.ix2 0 t) = _
    unfold k0_pay18
    exact congrArg₂ Ideal.div (congrArg₂ (fun x y : EReal => x * y) h42 e) (congrArg₂ (fun x y : EReal => x + y) ofBits_one_f32 e)

end rest

/-! ## The logits -/

theorem squares_apply (v : FVec Ideal S512x2048 .f32) (r : Fin 512) :
    shapeCast S512x1 (multiReduction .add [1] S512 (mulf v v) 0x00000000#32 reduces_S512x2048_S512 (.inl rfl) rfl) shapeCasts_S512_S512x1 (ValueIdx.ix2 r 0)
      = ∑ i : Fin 2048, v (ValueIdx.ix2 r i) * v (ValueIdx.ix2 r i) := by
  refine (shapeCast_apply _ shapeCasts_S512_S512x1 (ValueIdx.ix2 r 0) (ValueIdx.ix1 r) ?_).trans ?_
  · rw [Shape.rowMajor_val_one, Shape.rowMajor_val_two]
    show r.val = r.val * 1 + 0
    omega
  · refine (Ideal.multiReduction_add_single _ _ reduces_S512x2048_S512 _ _ (ValueIdx.ix1 r)).trans ?_
    refine Finset.sum_congr rfl fun i _ => ?_
    have e : reduces_S512x2048_S512.lift (ValueIdx.ix1 r) i = ValueIdx.ix2 r i := by
      funext a
      match a with
      | ⟨0, _⟩ => rfl
      | ⟨1, _⟩ => rfl
    rw [e]
    rfl

theorem dot_eq : dot_S128x2048_S512x2048_S128x512_1_1_0_0_n_n = DotDims.transposedRhs 128 2048 512 := rfl

/-- A logit of a tile: an output of the router at a token. -/
theorem logit_apply (x : FVec Ideal S512x2048 .f32) (g : FVec Ideal S1x2048 .f32) (sh sc : FVec Ideal S1x1x2048 .f32) (rw_ : FVec Ideal S128x2048 .f32) (rb : FVec Ideal S128x1 .f32)
    (q : Fin 128) (t : Fin 512) :
    k0_pay6 (F := Ideal) x g sh sc rw_ rb (ValueIdx.ix2 q t)
      = (∑ k : Fin 2048, rw_ (ValueIdx.ix2 q k) * normElem (fun i => x (ValueIdx.ix2 t i)) (g (ValueIdx.ix2 0 k)) (sh (ValueIdx.ix3 0 0 k)) (sc (ValueIdx.ix3 0 0 k)) k) + rb (ValueIdx.ix2 q 0) := by
  unfold k0_pay6
  rw [same_cast, dot_eq]
  refine congrArg₂ (fun y z : EReal => y + z) ?_ (col_cast (by decide) rb _ q t)
  simp only [matmul]
  rw [Ideal.matmul_transposedRhs_apply]
  show Ideal.ofBits .f32 0x00000000#32 + _ = _
  rw [Ideal.ofBits_zero_f32, zero_add]
  refine Finset.sum_congr rfl fun k _ => congrArg (fun z : EReal => rw_ (ValueIdx.ix2 q k) * z) ?_
  refine congrArg₂ (fun p q : EReal => p + q) (congrArg₂ (fun p q : EReal => p * q) (congrArg₂ (fun p q : EReal => p * q) (congrArg (fun q : EReal => x (ValueIdx.ix2 t k) * q) ?_) ?_) ?_) ?_
  · refine (col_cast (by decide) _ _ t k).trans ?_
    exact congrArg (fun s : EReal => Ideal.rsqrt (Ideal.div s (Ideal.ofBits .f32 0x45000000#32) + Ideal.ofBits .f32 0x358637BD#32)) (squares_apply x t)
  · exact row_cast (by decide) g _ t k
  · refine (row_cast (by decide) _ _ t k).trans ?_
    exact congrArg (fun s : EReal => Ideal.ofBits .f32 0x3F800000#32 + s) (plane_cast sc _ k)
  · exact (row_cast (by decide) _ _ t k).trans (plane_cast sh _ k)

end Cert.Proof.Proj.Router

end
-- ==== Proof.Proj.Router.lean ====
/- The router's call: what it stores, read at a row and a token. -/
module

public import proofs.«01_k».proof.Proof.Gen.RouterIdeal.Frame
public import proofs.«01_k».proof.Proof.Proj.RouterTile
public import Idealize.ShloMosaic.Lib.VecWindow

@[expose] public section

set_option maxRecDepth 16384

noncomputable section

namespace Cert.Proof.Proj.Router

open Idealize.ShloMosaic Cert.Proof.Choice Cert.Proof.Finite
open scoped BigOperators

/-- A token's logits. -/
def logits (x : (⟨2, ![16384, 2048]⟩ : Shape).Idx → EReal) (g : (⟨1, ![2048]⟩ : Shape).Idx → EReal) (sh sc : (⟨2, ![4, 2048]⟩ : Shape).Idx → EReal)
    (w : (⟨2, ![128, 2048]⟩ : Shape).Idx → EReal) (b : (⟨2, ![128, 1]⟩ : Shape).Idx → EReal) (R : Fin 16384) (q : Fin 128) : EReal :=
  (∑ k : Fin 2048, w (ValueIdx.ix2 q k) * normed x g sh sc R k) + b (ValueIdx.ix2 q 0)

end Cert.Proof.Proj.Router

namespace Cert.Proof.Proj.Router

open Cert.RouterIdeal Cert.RouterIdeal.Gen
open Idealize.ShloMosaic Idealize.ShloMosaic.TcCoe Idealize.SL.Sem Cert.Proof.Choice Cert.Proof.Finite
open scoped BigOperators

theorem hz2 : (![0, 0] : Fin 2 → Nat) = fun _ => 0 := by decide
theorem hz3 : (![0, 0, 0] : Fin 3 → Nat) = fun _ => 0 := by decide

/-- The tile of a point, over the counts `d` so far. -/
def tile (x0 : Vec Ideal S512x2048 .f32) (x1 : Vec Ideal S1x2048 .f32) (x2 x3 : Vec Ideal S1x1x2048 .f32) (x4 : Vec Ideal S128x2048 .f32) (x5 : Vec Ideal S128x1 .f32)
    (d : Vec Ideal S32x1 .f32) : FVec Ideal S8x512 .f32 :=
  have v32 := k0_pay6 x0 x1 x2 x3 x4 x5
  have v33 := k0_pay7 x0 x1 x2 x3 x4 x5
  have v35 := k0_pay8 x0 x1 x2 x3 x4 x5
  have v42 := k0_pay9 v33 v35
  have v49 := k0_pay10 v33 v35
  have v74 := k0_pay11 v32 v33 v35
  have v75 := iota .tc S8x512 32 [0] iota_S8x512_d0_w32
  have v77 := k0_pay12 v32 v33 v35
  have v83 := k0_pay13 v32 v33 v35
  k0_pay4 (k0_pay17 v42 v74 v75 v77 v83) (k0_pay18 v42 v74 v75 v77 v83) (k0_pay19 v49 v83) (k0_pay20 v49 v74 v75 v83)
    (k0_pay21 v49 v83) (k0_pay22 v49 v74 v75 v83) (k0_pay24 v49 v74 v75 v83) d

/-- The tile at a row and a token, from the token's logits. -/
theorem tile_row (x0 : Vec Ideal S512x2048 .f32) (x1 : Vec Ideal S1x2048 .f32) (x2 x3 : Vec Ideal S1x1x2048 .f32) (x4 : Vec Ideal S128x2048 .f32) (x5 : Vec Ideal S128x1 .f32)
    (d : Vec Ideal S32x1 .f32) (t : Fin 512) (l : Fin 128 → EReal) (i : Fin 4) (a b : Fin 8) (hl : ∀ q, k0_pay6 (F := Ideal) x0 x1 x2 x3 x4 x5 (ValueIdx.ix2 q t) = l q)
    (hreal : ∀ q, IsReal (l q)) (hi : IsFirst (grp l) i) (ha : IsFirst (exps l i) a) (hb : IsSecond (exps l i) a b) (r : Fin 4) :
    tile x0 x1 x2 x3 x4 x5 d (ValueIdx.ix2 ⟨r.val, by omega⟩ t) = routed l i a b r := by
  have h33 : ∀ k, k0_pay7 (F := Ideal) x0 x1 x2 x3 x4 x5 (ValueIdx.ix2 k t) = grp l k := fun k => by
    unfold k0_pay7
    refine (extractStridedSlice_apply _ _ slices_S128x512_o0_0_S4x512 (ValueIdx.ix2 k t) (ValueIdx.ix2 ⟨k.val, by omega⟩ t) (fun a => match a with
      | ⟨0, _⟩ => (Nat.zero_add _).symm
      | ⟨1, _⟩ => (Nat.zero_add _).symm)).trans (hl _)
  have h35 : k0_pay8 (F := Ideal) x0 x1 x2 x3 x4 x5 (ValueIdx.ix2 0 t) = grp l i := by
    unfold k0_pay8
    exact col_max _ _ t _ h33 i hi
  have h49 := group_apply _ _ t l i h33 h35 hi
  have h74 := within_apply _ _ _ t l i hl h49
  unfold tile
  exact tile_apply _ _ _ _ _ _ t l i a b h74 (fun k => iota_apply _ k t) (first_apply _ _ _ t l i a h74 ha) (fun k => hreal _) hb (share_apply _ _ t l i h33 h35) h49
    (top_apply _ _ _ t l i a h74 ha) _ _ _ _ r

section Runs
variable (c : Dev nD) (i : grid0.Coords) (arg1 : Memref sig .tc .vmem S512x2048 .f32) (harg1 : arg1.IsWhole) (arg2 : Memref sig .tc .vmem S1x2048 .f32) (harg2 : arg2.IsWhole)
  (arg3 : Memref sig .tc .vmem S1x1x2048 .f32) (harg3 : arg3.IsWhole) (arg4 : Memref sig .tc .vmem S1x1x2048 .f32) (harg4 : arg4.IsWhole)
  (arg5 : Memref sig .tc .vmem S128x2048 .f32) (harg5 : arg5.IsWhole) (arg6 : Memref sig .tc .vmem S128x1 .f32) (harg6 : arg6.IsWhole)
  (arg7 : Memref sig .tc .vmem S8x512 .f32) (harg7 : arg7.IsWhole) (arg8 : Memref sig .tc .vmem S32x128 .f32) (harg8 : arg8.IsWhole)
  (arg9 : Memref sig .tc .vmem S32x1 .f32) (harg9 : arg9.IsWhole)
  (x0 : Vec Ideal S512x2048 .f32) (x1 : Vec Ideal S1x2048 .f32) (x2 x3 : Vec Ideal S1x1x2048 .f32) (x4 : Vec Ideal S128x2048 .f32) (x5 : Vec Ideal S128x1 .f32) (xs : Vec Ideal S32x1 .f32)

theorem found0 : View.readAt (Elt Ideal) arg1.view (Rect.unit (s := S512x2048) ![0, 0] S512x2048.size inb_S512x2048_S512x2048_0_0).toLoadRect (harg1.unread x0) = x0 := by
  rw [View.readAt_full]; exact harg1.read_unread x0
theorem found1 : View.readAt (Elt Ideal) arg2.view (Rect.unit (s := S1x2048) ![0, 0] S1x2048.size inb_S1x2048_S1x2048_0_0).toLoadRect (harg2.unread x1) = x1 := by
  rw [View.readAt_full]; exact harg2.read_unread x1
theorem found2 : View.readAt (Elt Ideal) arg3.view (Rect.unit (s := S1x1x2048) ![0, 0, 0] S1x1x2048.size inb_S1x1x2048_S1x1x2048_0_0_0).toLoadRect (harg3.unread x2) = x2 := by
  rw [View.readAt_full]; exact harg3.read_unread x2
theorem found4 : View.readAt (Elt Ideal) arg5.view (Rect.unit (s := S128x2048) ![0, 0] S128x2048.size inb_S128x2048_S128x2048_0_0).toLoadRect (harg5.unread x4) = x4 := by
  rw [View.readAt_full]; exact harg5.read_unread x4
theorem found5 : View.readAt (Elt Ideal) arg6.view (Rect.unit (s := S128x1) ![0, 0] S128x1.size inb_S128x1_S128x1_0_0).toLoadRect (harg6.unread x5) = x5 := by
  rw [View.readAt_full]; exact harg6.read_unread x5

theorem found_tile (d : Vec Ideal S32x1 .f32) : tile (View.readAt (Elt Ideal) arg1.view (Rect.unit (s := S512x2048) ![0, 0] S512x2048.size inb_S512x2048_S512x2048_0_0).toLoadRect (harg1.unread x0))
      (View.readAt (Elt Ideal) arg2.view (Rect.unit (s := S1x2048) ![0, 0] S1x2048.size inb_S1x2048_S1x2048_0_0).toLoadRect (harg2.unread x1))
      (View.readAt (Elt Ideal) arg3.view (Rect.unit (s := S1x1x2048) ![0, 0, 0] S1x1x2048.size inb_S1x1x2048_S1x1x2048_0_0_0).toLoadRect (harg3.unread x2))
      (View.readAt (Elt Ideal) arg4.view (Rect.unit (s := S1x1x2048) ![0, 0, 0] S1x1x2048.size inb_S1x1x2048_S1x1x2048_0_0_0).toLoadRect (harg4.unread x3))
      (View.readAt (Elt Ideal) arg5.view (Rect.unit (s := S128x2048) ![0, 0] S128x2048.size inb_S128x2048_S128x2048_0_0).toLoadRect (harg5.unread x4))
      (View.readAt (Elt Ideal) arg6.view (Rect.unit (s := S128x1) ![0, 0] S128x1.size inb_S128x1_S128x1_0_0).toLoadRect (harg6.unread x5)) d = tile x0 x1 x2 x3 x4 x5 d := by
  rw [found0 arg1 harg1 x0, found1 arg2 harg2 x1, found2 arg3 harg3 x2, found2 arg4 harg4 x3, found4 arg5 harg5 x4, found5 arg6 harg6 x5]

/-- What the first point stores. -/
theorem stored_first (hc) : ∃ d, out0_A_6 (F := Ideal) c i arg1 harg1 arg2 harg2 arg3 harg3 arg4 harg4 arg5 harg5 arg6 harg6 arg7 harg7 arg8 harg8 arg9 harg9 hc x0 x1 x2 x3 x4 x5 = tile x0 x1 x2 x3 x4 x5 d := by
  unfold out0_A_6
  rw [View.read_writes_junk_eq_canon]
  unfold kernelRun0_A
  dsimp only
  rw [View.canon_unit_zero hz2]
  exact ⟨_, found_tile arg1 harg1 arg2 harg2 arg3 harg3 arg4 harg4 arg5 harg5 arg6 harg6 x0 x1 x2 x3 x4 x5 _⟩

/-- What a later point stores. -/
theorem stored_later (hc) : ∃ d, out0_B_6 (F := Ideal) c i arg1 harg1 arg2 harg2 arg3 harg3 arg4 harg4 arg5 harg5 arg6 harg6 arg7 harg7 arg8 harg8 arg9 harg9 hc x0 x1 x2 x3 x4 x5 xs = tile x0 x1 x2 x3 x4 x5 d := by
  unfold out0_B_6
  rw [View.read_writes_junk_eq_canon]
  unfold kernelRun0_B
  dsimp only
  rw [View.canon_unit_zero hz2]
  exact ⟨_, found_tile arg1 harg1 arg2 harg2 arg3 harg3 arg4 harg4 arg5 harg5 arg6 harg6 x0 x1 x2 x3 x4 x5 _⟩
end Runs

/-! ## The tiles -/

/-- A token of a tile. -/
def rowOf (p : Fin 32) (t : Fin 512) : Fin 16384 := ⟨512 * p.val + t.val, by omega⟩
def point (p : Fin 32) : Fin cfg0.N := p

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 2) = 0 ∧ win0_1.index t (1 : Fin 2) = 0 := (by decide +kernel : ∀ t : Fin grid0.N, _)
theorem idx2 : ∀ t : Fin cfg0.N, win0_2.index t (0 : Fin 3) = t.val / 8 ∧ win0_2.index t (1 : Fin 3) = 0 ∧ win0_2.index t (2 : Fin 3) = 0 := (by decide +kernel : ∀ t : Fin grid0.N, _)
theorem idx3 : ∀ t : Fin cfg0.N, win0_3.index t (0 : Fin 3) = t.val / 8 ∧ win0_3.index t (1 : Fin 3) = 0 ∧ win0_3.index t (2 : Fin 3) = 0 := (by decide +kernel : ∀ t : Fin grid0.N, _)
theorem idx4 : ∀ t : Fin cfg0.N, win0_4.index t (0 : Fin 2) = 0 ∧ win0_4.index t (1 : Fin 2) = 0 := (by decide +kernel : ∀ t : Fin grid0.N, _)
theorem idx5 : ∀ t : Fin cfg0.N, win0_5.index t (0 : Fin 2) = 0 ∧ win0_5.index t (1 : Fin 2) = 0 := (by decide +kernel : ∀ t : Fin grid0.N, _)
theorem idx6 : ∀ t : Fin cfg0.N, win0_6.index t (0 : Fin 2) = 0 ∧ win0_6.index t (1 : Fin 2) = t.val := (by decide +kernel : ∀ t : Fin grid0.N, _)

theorem idx_inj6 : ∀ t t' : Fin cfg0.N, win0_6.index t = win0_6.index t' → t = t' :=
  (by decide +kernel : ∀ t t' : Fin grid0.N, win0_6.index t = win0_6.index t' → t = t')

/-- No two points write into one block. -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

variable (p : Fin 32)

theorem point_val : (point p).val = p.val := rfl

theorem emb0 (t : Fin 512) (k : Fin 2048) :
    ((cfg0.win 0).blk (point p)).view.emb (ValueIdx.ix2 t k : S512x2048.Idx) = (ValueIdx.ix2 (rowOf p t) k : S16384x2048.Idx) := by
  obtain ⟨e0, e1⟩ := idx0 (point p)
  rw [point_val] at e0
  funext a; apply Fin.ext
  match a with
  | ⟨0, _⟩ => show win0_0.index (point p) (0 : Fin 2) * 512 + 1 * t.val = 512 * p.val + t.val; omega
  | ⟨1, _⟩ => show win0_0.index (point p) (1 : Fin 2) * 2048 + 1 * k.val = k.val; omega

theorem emb1 (k : Fin 2048) :
    ((cfg0.win 1).blk (point p)).view.emb (ValueIdx.ix2 0 k : S1x2048.Idx) = (ValueIdx.ix2 0 k : S1x2048.Idx) := by
  obtain ⟨e0, e1⟩ := idx1 (point p)
  funext a; apply Fin.ext
  match a with
  | ⟨0, _⟩ => show win0_1.index (point p) (0 : Fin 2) * 1 + 1 * 0 = 0; omega
  | ⟨1, _⟩ => show win0_1.index (point p) (1 : Fin 2) * 2048 + 1 * k.val = k.val; omega

theorem emb2 (t : Fin 512) (k : Fin 2048) :
    ((cfg0.win 2).blk (point p)).view.emb (ValueIdx.ix3 0 0 k : S1x1x2048.Idx) = (ValueIdx.ix3 (seqOf (rowOf p t)) 0 k : S4x1x2048.Idx) := by
  obtain ⟨e0, e1, e2⟩ := idx2 (point p)
  rw [point_val] at e0
  funext a; apply Fin.ext
  match a with
  | ⟨0, _⟩ => show win0_2.index (point p) (0 : Fin 3) * 1 + 1 * 0 = (512 * p.val + t.val) / 4096; omega
  | ⟨1, _⟩ => show win0_2.index (point p) (1 : Fin 3) * 1 + 1 * 0 = 0; omega
  | ⟨2, _⟩ => show win0_2.index (point p) (2 : Fin 3) * 2048 + 1 * k.val = k.val; omega

theorem emb3 (t : Fin 512) (k : Fin 2048) :
    ((cfg0.win 3).blk (point p)).view.emb (ValueIdx.ix3 0 0 k : S1x1x2048.Idx) = (ValueIdx.ix3 (seqOf (rowOf p t)) 0 k : S4x1x2048.Idx) := by
  obtain ⟨e0, e1, e2⟩ := idx3 (point p)
  rw [point_val] at e0
  funext a; apply Fin.ext
  match a with
  | ⟨0, _⟩ => show win0_3.index (point p) (0 : Fin 3) * 1 + 1 * 0 = (512 * p.val + t.val) / 4096; omega
  | ⟨1, _⟩ => show win0_3.index (point p) (1 : Fin 3) * 1 + 1 * 0 = 0; omega
  | ⟨2, _⟩ => show win0_3.index (point p) (2 : Fin 3) * 2048 + 1 * k.val = k.val; omega

theorem emb4 (q : Fin 128) (k : Fin 2048) :
    ((cfg0.win 4).blk (point p)).view.emb (ValueIdx.ix2 q k : S128x2048.Idx) = (ValueIdx.ix2 q k : S128x2048.Idx) := by
  obtain ⟨e0, e1⟩ := idx4 (point p)
  funext a; apply Fin.ext
  match a with
  | ⟨0, _⟩ => show win0_4.index (point p) (0 : Fin 2) * 128 + 1 * q.val = q.val; omega
  | ⟨1, _⟩ => show win0_4.index (point p) (1 : Fin 2) * 2048 + 1 * k.val = k.val; omega

theorem emb5 (q : Fin 128) :
    ((cfg0.win 5).blk (point p)).view.emb (ValueIdx.ix2 q 0 : S128x1.Idx) = (ValueIdx.ix2 q 0 : S128x1.Idx) := by
  obtain ⟨e0, e1⟩ := idx5 (point p)
  funext a; apply Fin.ext
  match a with
  | ⟨0, _⟩ => show win0_5.index (point p) (0 : Fin 2) * 128 + 1 * q.val = q.val; omega
  | ⟨1, _⟩ => show win0_5.index (point p) (1 : Fin 2) * 1 + 1 * 0 = 0; omega

theorem emb6 (r : Fin 8) (t : Fin 512) :
    ((cfg0.win 6).blk (point p)).view.emb (ValueIdx.ix2 r t : S8x512.Idx) = (ValueIdx.ix2 r (rowOf p t) : S8x16384.Idx) := by
  obtain ⟨e0, e1⟩ := idx6 (point p)
  rw [point_val] at e1
  funext a; apply Fin.ext
  match a with
  | ⟨0, _⟩ => show win0_6.index (point p) (0 : Fin 2) * 8 + 1 * r.val = r.val; omega
  | ⟨1, _⟩ => show win0_6.index (point p) (1 : Fin 2) * 512 + 1 * t.val = 512 * p.val + t.val; omega

variable (m : (ℓ : Loc nD τ sig) → Buf (Elt Ideal) ℓ) (c : Dev nD)

theorem V_scale (k : Fin 2048) : V m c main_v0 (ValueIdx.ix2 0 k : S1x2048.Idx) = m ((c : Thread nD τ).loc main_arg1) (ValueIdx.ix1 k : S2048.Idx) := by
  have h : V m c main_v0 = shapeCast S1x2048 (m ((c : Thread nD τ).loc main_arg1)) shapeCasts_S2048_S1x2048 := by
    show StableHlo.after hostOps0 _ (Proc.devRef .tc main_v0) = _
    after_results
    rfl
  rw [h]
  exact shapeCast_apply _ shapeCasts_S2048_S1x2048 (ValueIdx.ix2 0 k) (ValueIdx.ix1 k) (by
    rw [Shape.rowMajor_val_one, Shape.rowMajor_val_two]
    show k.val = 0 * 2048 + k.val
    omega)

theorem V_shift (s : Fin 4) (k : Fin 2048) :
    V m c main_v1 (ValueIdx.ix3 s 0 k : S4x1x2048.Idx) = m ((c : Thread nD τ).loc main_arg2) (ValueIdx.ix2 s k : S4x2048.Idx) := by
  have h : V m c main_v1 = broadcastInDim S4x1x2048 ![0, 2] bcast_S4x2048_S4x1x2048_0_2 (m ((c : Thread nD τ).loc main_arg2)) := by
    show StableHlo.after hostOps0 _ (Proc.devRef .tc main_v1) = _
    after_results
  rw [h]
  exact broadcastInDim_apply _ bcast_S4x2048_S4x1x2048_0_2 (m ((c : Thread nD τ).loc main_arg2)) (ValueIdx.ix3 s 0 k) (ValueIdx.ix2 s k)
    (fun a => match a with
      | ⟨0, _⟩ => rfl
      | ⟨1, _⟩ => rfl)

theorem V_modulation (s : Fin 4) (k : Fin 2048) :
    V m c main_v2 (ValueIdx.ix3 s 0 k : S4x1x2048.Idx) = m ((c : Thread nD τ).loc main_arg3) (ValueIdx.ix2 s k : S4x2048.Idx) := by
  have h : V m c main_v2 = broadcastInDim S4x1x2048 ![0, 2] bcast_S4x2048_S4x1x2048_0_2 (m ((c : Thread nD τ).loc main_arg3)) := by
    show StableHlo.after hostOps0 _ (Proc.devRef .tc main_v2) = _
    after_results
  rw [h]
  exact broadcastInDim_apply _ bcast_S4x2048_S4x1x2048_0_2 (m ((c : Thread nD τ).loc main_arg3)) (ValueIdx.ix3 s 0 k) (ValueIdx.ix2 s k)
    (fun a => match a with
      | ⟨0, _⟩ => rfl
      | ⟨1, _⟩ => rfl)

theorem block0 (t : Fin 512) (k : Fin 2048) :
    iblk m c 0 (point p) (ValueIdx.ix2 t k : S512x2048.Idx) = m ((c : Thread nD τ).loc main_arg0) (ValueIdx.ix2 (rowOf p t) k : S16384x2048.Idx) := by
  show V m c main_arg0 (((cfg0.win 0).blk (point p)).view.emb (ValueIdx.ix2 t k : S512x2048.Idx)) = _
  rw [emb0, V_main_arg0]
theorem block1 (k : Fin 2048) :
    iblk m c 1 (point p) (ValueIdx.ix2 0 k : S1x2048.Idx) = m ((c : Thread nD τ).loc main_arg1) (ValueIdx.ix1 k : S2048.Idx) := by
  show V m c main_v0 (((cfg0.win 1).blk (point p)).view.emb (ValueIdx.ix2 0 k : S1x2048.Idx)) = _
  rw [emb1, V_scale]
theorem block2 (t : Fin 512) (k : Fin 2048) :
    iblk m c 2 (point p) (ValueIdx.ix3 0 0 k : S1x1x2048.Idx) = m ((c : Thread nD τ).loc main_arg2) (ValueIdx.ix2 (seqOf (rowOf p t)) k : S4x2048.Idx) := by
  show V m c main_v1 (((cfg0.win 2).blk (point p)).view.emb (ValueIdx.ix3 0 0 k : S1x1x2048.Idx)) = _
  rw [emb2 p t, V_shift]
theorem block3 (t : Fin 512) (k : Fin 2048) :
    iblk m c 3 (point p) (ValueIdx.ix3 0 0 k : S1x1x2048.Idx) = m ((c : Thread nD τ).loc main_arg3) (ValueIdx.ix2 (seqOf (rowOf p t)) k : S4x2048.Idx) := by
  show V m c main_v2 (((cfg0.win 3).blk (point p)).view.emb (ValueIdx.ix3 0 0 k : S1x1x2048.Idx)) = _
  rw [emb3 p t, V_modulation]
theorem block4 (q : Fin 128) (k : Fin 2048) :
    iblk m c 4 (point p) (ValueIdx.ix2 q k : S128x2048.Idx) = m ((c : Thread nD τ).loc main_arg4) (ValueIdx.ix2 q k : S128x2048.Idx) := by
  show V m c main_arg4 (((cfg0.win 4).blk (point p)).view.emb (ValueIdx.ix2 q k : S128x2048.Idx)) = _
  rw [emb4, V_main_arg4]
theorem block5 (q : Fin 128) :
    iblk m c 5 (point p) (ValueIdx.ix2 q 0 : S128x1.Idx) = m ((c : Thread nD τ).loc main_arg5) (ValueIdx.ix2 q 0 : S128x1.Idx) := by
  show V m c main_arg5 (((cfg0.win 5).blk (point p)).view.emb (ValueIdx.ix2 q 0 : S128x1.Idx)) = _
  rw [emb5, V_main_arg5]

/-- The logits of a token of the arguments. -/
abbrev own (R : Fin 16384) : Fin 128 → EReal :=
  logits (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) R

theorem own_logit (t : Fin 512) (q : Fin 128) :
    k0_pay6 (F := Ideal) (iblk m c 0 (point p)) (iblk m c 1 (point p)) (iblk m c 2 (point p)) (iblk m c 3 (point p)) (iblk m c 4 (point p)) (iblk m c 5 (point p)) (ValueIdx.ix2 q t)
      = own m c (rowOf p t) q := by
  refine (logit_apply _ _ _ _ _ _ q t).trans ?_
  refine congrArg₂ (fun y z : EReal => y + z) (Finset.sum_congr rfl fun k _ => ?_) (block5 p m c q)
  refine congrArg₂ (fun y z : EReal => y * z) (block4 p m c q k) ?_
  unfold normed
  rw [block1, block2 p m c t, block3 p m c t, funext fun i => block0 p m c t i]

theorem stored_at_first (t : Fin cfg0.N) (h : t.val % 32 = 0) : ∃ d, (outsAt0 m c t.val t.isLt).1 = tile (iblk m c 0 t) (iblk m c 1 t) (iblk m c 2 t) (iblk m c 3 t) (iblk m c 4 t) (iblk m c 5 t) d := by
  rw [congrArg Prod.fst (outsAt0_A m c t h)]
  dsimp only
  exact stored_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) ((hcond0_0 t).mpr h)

theorem stored_at_later (t : Fin cfg0.N) (h : ¬ t.val % 32 = 0) : ∃ d, (outsAt0 m c t.val t.isLt).1 = tile (iblk m c 0 t) (iblk m c 1 t) (iblk m c 2 t) (iblk m c 3 t) (iblk m c 4 t) (iblk m c 5 t) d := by
  rw [congrArg Prod.fst (outsAt0_B m c t h)]
  dsimp only
  exact stored_later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (outsAt0 m c (t.val - 1) (Nat.lt_of_le_of_lt (Nat.sub_le _ _) t.isLt)).2.2 (fun h' => h ((hcond0_0 t).mp h'))

theorem stored_at (t : Fin cfg0.N) : ∃ d, (outsAt0 m c t.val t.isLt).1 = tile (iblk m c 0 t) (iblk m c 1 t) (iblk m c 2 t) (iblk m c 3 t) (iblk m c 4 t) (iblk m c 5 t) d := by
  by_cases h : t.val % 32 = 0
  · exact stored_at_first m c t h
  · exact stored_at_later m c t h

/-- What a point writes back. -/
theorem flushed6 (t : Fin cfg0.N) :
    ∃ d, (dats m 0 c).flushed 6 t = (cfg0.win 6).cut (grid0.coords t) (tile (iblk m c 0 t) (iblk m c 1 t) (iblk m c 2 t) (iblk m c 3 t) (iblk m c 4 t) (iblk m c 5 t) d) := by
  obtain ⟨d, hd⟩ := stored_at m c t
  refine ⟨d, ?_⟩
  show (cfg0.win 6).cut (grid0.coords t) ((dats m 0 c).after 6 t) = _
  rw [after0_6, hd]

section
variable (t : Fin 512) (i : Fin 4) (a b : Fin 8) (hreal : ∀ q, IsReal (own m c (rowOf p t) q)) (hi : IsFirst (grp (own m c (rowOf p t))) i)
  (ha : IsFirst (exps (own m c (rowOf p t)) i) a) (hb : IsSecond (exps (own m c (rowOf p t)) i) a b)
include hreal hi ha hb

/-- The call's array at one of the first four rows and a token. -/
theorem array_apply (r : Fin 4) :
    (dats m 0 c).arrAt 6 cfg0.N (ValueIdx.ix2 ⟨r.val, by omega⟩ (rowOf p t) : S8x16384.Idx) = routed (own m c (rowOf p t)) i a b r := by
  rw [← emb6 p ⟨r.val, by omega⟩ t]
  refine ((dats m 0 c).arrAt_emb_eq_flushed 6 disjoint6 (point p) (flush0_6 _) _).trans ?_
  obtain ⟨d, hd⟩ := flushed6 m c (point p)
  rw [hd]
  exact tile_row _ _ _ _ _ _ d t _ i a b (own_logit p m c t) hreal hi ha hb r
end

/-- What the operation after the call leaves. -/
def tail : Buf (Elt Ideal) ((c.tc : Thread nD τ).loc main_v4) :=
  Pipeline.afterTail₀ cfgs (dats m) 0 (V0 m) [hostOps1] c main_v4

/-- The result at a row and a token. -/
theorem result_apply (t : Fin 512) (i : Fin 4) (a b : Fin 8) (hreal : ∀ q, IsReal (own m c (rowOf p t) q)) (hi : IsFirst (grp (own m c (rowOf p t))) i)
    (ha : IsFirst (exps (own m c (rowOf p t)) i) a) (hb : IsSecond (exps (own m c (rowOf p t)) i) a b) (r : Fin 4) :
    tail m c (ValueIdx.ix2 r (rowOf p t) : S4x16384.Idx) = routed (own m c (rowOf p t)) i a b r := by
  have h : tail m c = extractStridedSlice S4x16384 ![0, 0] ((dats m 0 c).arrAt 6 cfg0.N) slices_S8x16384_S4x16384_0_0 := by
    have hA := Pipeline.withArrays_arr spec0 launch0.win.arr_inj c (V0 m c) (fun w => (dats m 0 c).arrAt w cfg0.N) 6
    unfold tail Pipeline.afterTail₀
    show StableHlo.after hostOps1 _ (Proc.devRef .tc main_v4) = _
    after_results
    exact congrArg (fun y => extractStridedSlice S4x16384 ![0, 0] y slices_S8x16384_S4x16384_0_0) hA
  rw [h]
  refine (extractStridedSlice_apply _ ((dats m 0 c).arrAt 6 cfg0.N) slices_S8x16384_S4x16384_0_0 (ValueIdx.ix2 r (rowOf p t)) (ValueIdx.ix2 ⟨r.val, by omega⟩ (rowOf p t))
    (fun a => match a with
      | ⟨0, _⟩ => (Nat.zero_add _).symm
      | ⟨1, _⟩ => (Nat.zero_add _).symm)).trans ?_
  exact array_apply p m c t i a b hreal hi ha hb r

/-- Every execution ends with that result and the arguments as they were. -/
theorem run_values (ρ : Dev nD → PrngReg) : θ_run defs (onTc (τ := τ) (main (F := Ideal))) ⟨m, fun _ => 0, ρ⟩ fun r => ∀ c : Dev nD,
      r.2.mem ((c.tc : Thread nD τ).loc main_v4) = tail m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).2 main_v4 (Pipeline.mem_restRefs_of main_v4 (by decide) (by decide)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.Proof.Proj.Router

end
-- ==== Proof.Proj.RouterRef.lean ====
/- The router's reference, read at a row and a token, and the two sides together. -/
module

public import proofs.«01_k».proof.Defs
public import proofs.«01_k».proof.Proof.Gen.Pre_finite_router
public import proofs.«01_k».proof.Proof.Gen.RouterReferenceIdeal.Read
public import proofs.«01_k».proof.Proof.Gen.RouterReferenceIdeal.Run
public import proofs.«01_k».proof.Proof.Proj.Router

@[expose] public section

set_option maxRecDepth 16384

noncomputable section

namespace Cert.Proof.Proj.Router

open Idealize.ShloMosaic Cert.Proof.Choice Cert.Proof.Finite
open scoped BigOperators

/-! ## What the precondition says -/

section finite
open Cert.Pre_finite_router

instance : Subsingleton S_.Idx := ⟨fun a b => funext fun i => i.elim0⟩

variable (x : FVec Ideal S16384x2048 .f32) (g : FVec Ideal S2048 .f32) (sh sc : FVec Ideal S4x2048 .f32) (w : FVec Ideal S128x2048 .f32) (b : FVec Ideal S128x1 .f32)

theorem reals (h : fn (F := Ideal) x g sh sc w b = fun _ => 1#1) :
    (∀ i, IsReal (x i)) ∧ (∀ i, IsReal (g i)) ∧ (∀ i, IsReal (sh i)) ∧ (∀ i, IsReal (sc i)) ∧ (∀ i, IsReal (w i)) ∧ ∀ i, IsReal (b i) := by
  obtain ⟨h, k5⟩ := IntOp.andi_eq_one.1 (congrFun h ValueIdx.ix0)
  obtain ⟨h, k4⟩ := IntOp.andi_eq_one.1 h
  obtain ⟨h, k3⟩ := IntOp.andi_eq_one.1 h
  obtain ⟨h, k2⟩ := IntOp.andi_eq_one.1 h
  obtain ⟨k0, k1⟩ := IntOp.andi_eq_one.1 h
  exact ⟨fun i => isReal_of_cmp (Host.reduce_andi_all _ _ _ _ _ k0 i), fun i => isReal_of_cmp (Host.reduce_andi_all _ _ _ _ _ k1 i),
    fun i => isReal_of_cmp (Host.reduce_andi_all _ _ _ _ _ k2 i), fun i => isReal_of_cmp (Host.reduce_andi_all _ _ _ _ _ k3 i),
    fun i => isReal_of_cmp (Host.reduce_andi_all _ _ _ _ _ k4 i), fun i => isReal_of_cmp (Host.reduce_andi_all _ _ _ _ _ k5 i)⟩

theorem ofBits_count : Ideal.ofBits .f32 0x45000000#32 = ((2048 : ℝ) : EReal) := by
  simp [Ideal.ofBits, Ideal.ieee]
  rw [← EReal.coe_mul]
  norm_num

theorem ofBits_eps : Ideal.ofBits .f32 0x358637BD#32 = ((8796093 / 2 ^ 43 : ℝ) : EReal) := by
  simp [Ideal.ofBits, Ideal.ieee]
  rw [← EReal.coe_mul]
  norm_num

theorem isReal_logits (h : fn (F := Ideal) x g sh sc w b = fun _ => 1#1) (R : Fin 16384) (q : Fin 128) : IsReal (logits x g sh sc w b R q) := by
  obtain ⟨hx, hg, hsh, hsc, hw, hb⟩ := reals x g sh sc w b h
  refine IsReal.add (isReal_sum _ _ fun k _ => (hw _).mul ?_) (hb _)
  unfold normed normElem
  refine IsReal.add (IsReal.mul (IsReal.mul (IsReal.mul (hx _) ?_) (hg _)) (IsReal.add ⟨1, Cert.Proof.Row.ofBits_one_f32.trans EReal.coe_one.symm⟩ (hsc _))) (hsh _)
  choose r hr using hx
  have hS : ∑ i : Fin 2048, x (ValueIdx.ix2 R i) * x (ValueIdx.ix2 R i) = ((∑ i : Fin 2048, r (ValueIdx.ix2 R i) * r (ValueIdx.ix2 R i) : ℝ) : EReal) := by
    rw [← coe_sum]
    exact Finset.sum_congr rfl fun i _ => by rw [hr, EReal.coe_mul]
  have h0 : 0 ≤ ∑ i : Fin 2048, r (ValueIdx.ix2 R i) * r (ValueIdx.ix2 R i) := Finset.sum_nonneg fun i _ => mul_self_nonneg _
  rw [hS, ofBits_count, ofBits_eps, div_real _ _ (by norm_num), ← EReal.coe_add]
  have hp : 0 < (∑ i : Fin 2048, r (ValueIdx.ix2 R i) * r (ValueIdx.ix2 R i)) / 2048 + 8796093 / 2 ^ 43 := by positivity
  rw [Ideal.rsqrt_coe, if_neg hp.not_gt, if_neg hp.ne']
  exact ⟨_, rfl⟩

end finite

end Cert.Proof.Proj.Router

namespace Cert.Proof.Proj.Router

open Cert.RouterReferenceIdeal Cert.RouterReferenceIdeal.Gen Cert.RouterReferenceIdeal.Read
open Idealize.ShloMosaic Cert.Proof.Choice Cert.Proof.Finite
open scoped BigOperators

variable (x : S16384x2048.Idx → EReal) (g : S2048.Idx → EReal) (sh sc : S4x2048.Idx → EReal) (w : S128x2048.Idx → EReal) (b : S128x1.Idx → EReal) (R : Fin 16384)

theorem same_rows : val_main_v21 (F := Ideal) x g sh sc = Cert.MixInReferenceIdeal.Read.val_main_v21 (F := Ideal) x g sh sc := rfl

theorem rows_apply (k : Fin 2048) : val_main_v22 (F := Ideal) x g sh sc (ValueIdx.ix2 R k) = normed x g sh sc R k := by
  have hR := R.isLt
  have hk := k.isLt
  have e : idx_main_v22 (ValueIdx.ix2 R k) = ValueIdx.ix3 ⟨R.val / 4096, by omega⟩ ⟨R.val % 4096, by omega⟩ k := by
    funext a
    match a with
    | ⟨0, _⟩ => exact Fin.ext (by show (R.val * 2048 + k.val) / 8388608 = R.val / 4096; omega)
    | ⟨1, _⟩ => exact Fin.ext (by show (R.val * 2048 + k.val) / 2048 % 4096 = R.val % 4096; omega)
    | ⟨2, _⟩ => exact Fin.ext (by show (R.val * 2048 + k.val) % 2048 = k.val; omega)
  rw [val_main_v22_apply, e, same_rows]
  exact MixIn.reference_normed x g sh sc _ _ k R (by show R.val = 4096 * (R.val / 4096) + R.val % 4096; omega)

/-- The logits of the groups. -/
theorem group_logit (j : Fin 4) : val_main_v30 (F := Ideal) x g sh sc w b (ValueIdx.ix2 R j) = grp (logits x g sh sc w b R) j := by
  rw [val_main_v30_apply]
  refine congrArg₂ (fun y z : EReal => y + z) ?_ ?_
  · rw [val_main_v25_apply]
    refine Finset.sum_congr rfl fun k _ => ?_
    have el : lidx_main_v25 (ValueIdx.ix2 R j) k = ValueIdx.ix2 R k := by
      funext a
      match a with
      | ⟨0, _⟩ => rfl
      | ⟨1, _⟩ => rfl
    rw [el, rows_apply, val_main_v24_apply, val_main_v23_apply, mul_comm]
    refine congrArg (fun y : EReal => y * normed x g sh sc R k) (congrArg w (funext fun a => ?_))
    match a with
    | ⟨0, _⟩ => rfl
    | ⟨1, _⟩ => rfl
  · rw [val_main_v29_apply, val_main_v28_apply, val_main_v27_apply, val_main_v26_apply]
    refine congrArg b (funext fun a => Fin.ext ?_)
    match a with
    | ⟨0, _⟩ => show j.val / 1 = j.val; omega
    | ⟨1, _⟩ => rfl

/-- The logits of the experts. -/
theorem expert_logit (n : Fin 32) : val_main_v49 (F := Ideal) x g sh sc w b (ValueIdx.ix2 R n) = logits x g sh sc w b R ⟨8 + n.val, by omega⟩ := by
  rw [val_main_v49_apply]
  refine congrArg₂ (fun y z : EReal => y + z) ?_ ?_
  · rw [val_main_v44_apply]
    refine Finset.sum_congr rfl fun k _ => ?_
    have el : lidx_main_v44 (ValueIdx.ix2 R n) k = ValueIdx.ix2 R k := by
      funext a
      match a with
      | ⟨0, _⟩ => rfl
      | ⟨1, _⟩ => rfl
    rw [el, rows_apply, val_main_v43_apply, val_main_v42_apply, mul_comm]
    refine congrArg (fun y : EReal => y * normed x g sh sc R k) (congrArg w (funext fun a => ?_))
    match a with
    | ⟨0, _⟩ => rfl
    | ⟨1, _⟩ => rfl
  · rw [val_main_v48_apply, val_main_v47_apply, val_main_v46_apply, val_main_v45_apply]
    refine congrArg b (funext fun a => Fin.ext ?_)
    match a with
    | ⟨0, _⟩ => show 8 + n.val / 1 = 8 + n.val; omega
    | ⟨1, _⟩ => rfl

theorem ofBits_negInf : Ideal.ofBits .f32 0xFF800000#32 = ⊥ := Cert.Proof.Row.ofBits_negInf_f32

theorem sorted_two (f : Fin 8 → EReal) (a c : Fin 8) (ha : IsFirst f a) (hb : IsSecond f a c) (j : Fin 2) :
    sortedFrom (before f) (j.castLE (by decide)) = if j = 0 then a else c := by
  match j with
  | ⟨0, _⟩ => exact sorted_first (by decide) f a ha
  | ⟨1, _⟩ => exact sorted_second (by decide) f a c ha hb

section chosen
variable (i : Fin 4) (hi : IsFirst (grp (logits x g sh sc w b R)) i)
include hi

theorem top_group : val_main_v33 (F := Ideal) x g sh sc w b (ValueIdx.ix1 R) = grp (logits x g sh sc w b R) i := by
  have h : val_main_v31 (F := Ideal) x g sh sc w b (ValueIdx.ix1 R) = grp (logits x g sh sc w b R) i := by
    rw [← fold_max_first _ i hi, ← funext (group_logit x g sh sc w b R)]
    unfold val_main_v31
    generalize val_main_v30 (F := Ideal) x g sh sc w b = y
    refine (Host.reduce_eq_fold_single (s := S16384x4) (t := S16384) (FloatOps.maximumf (F := Ideal) (φ := .f32)) y _ _ (by decide) _ (ValueIdx.ix1 R)).trans ?_
    refine congrArg₂ (fun (z : EReal) (f : Fin 4 → EReal) => Finset.univ.fold max z f) ofBits_negInf (funext fun k => congrArg y (funext fun a => ?_))
    match a with
    | ⟨0, _⟩ => rfl
    | ⟨1, _⟩ => rfl
  have hb : val_main_v32 (F := Ideal) (ValueIdx.ix1 R) = ⊥ := by
    rw [val_main_v32_apply]
    exact ofBits_negInf
  rw [val_main_v33_apply, h, hb]
  exact max_eq_right bot_le

theorem group_exp (j : Fin 4) : val_main_v37 (F := Ideal) x g sh sc w b (ValueIdx.ix2 R j)
    = Ideal.exp (grp (logits x g sh sc w b R) j - grp (logits x g sh sc w b R) i) := by
  have e : idx_main_v34 (idx_main_v35 (ValueIdx.ix2 R j)) = ValueIdx.ix1 R := by
    funext a
    match a with
    | ⟨0, _⟩ => rfl
  rw [val_main_v37_apply, val_main_v36_apply, val_main_v35_apply, val_main_v34_apply, e, top_group x g sh sc w b R i hi, group_logit]
  rfl

theorem group_prob (j : Fin 4) : val_main_v41 (F := Ideal) x g sh sc w b (ValueIdx.ix2 R j)
    = Ideal.div (Ideal.exp (grp (logits x g sh sc w b R) j - grp (logits x g sh sc w b R) i))
        (∑ k, Ideal.exp (grp (logits x g sh sc w b R) k - grp (logits x g sh sc w b R) i)) := by
  have e : idx_main_v39 (idx_main_v40 (ValueIdx.ix2 R j)) = ValueIdx.ix1 R := by
    funext a
    match a with
    | ⟨0, _⟩ => rfl
  have e2 : ∀ k, idx_main_v38 (ValueIdx.ix1 R) k = ValueIdx.ix2 R k := fun k => by
    funext a
    match a with
    | ⟨0, _⟩ => rfl
    | ⟨1, _⟩ => rfl
  rw [val_main_v41_apply, val_main_v40_apply, val_main_v39_apply, e, group_exp x g sh sc w b R i hi]
  refine congrArg (Ideal.div _) ?_
  rw [val_main_v38_apply]
  show Ideal.ofBits .f32 0x00000000#32 + _ = _
  rw [Ideal.ofBits_zero_f32, zero_add]
  exact Finset.sum_congr rfl fun k _ => by rw [e2, group_exp x g sh sc w b R i hi]

variable (hreal : ∀ q, IsReal (logits x g sh sc w b R q))
include hreal

theorem group_pick (e : S16384x1.Idx) (he : e = ValueIdx.ix2 R 0) : val_main_values (F := Ideal) x g sh sc w b e = share (grp (logits x g sh sc w b R)) i
    ∧ val_main_indices (F := Ideal) x g sh sc w b e = BitVec.ofNat 32 i.val := by
  obtain ⟨s1, s2, _⟩ := softmax_first (grp (logits x g sh sc w b R)) (fun j => hreal _) i hi
  rw [← funext (group_prob x g sh sc w b R i hi)] at s1
  have ht := topK_apply (M := 16384) (n := 4) (k := 1) (by decide) (val_main_v41 (F := Ideal) x g sh sc w b) sliceFits_S16384x4_S16384x1 R 0
  have hs := sorted_first (by decide) _ i s1
  rw [he]
  refine ⟨(ht.1.trans (congrArg (fun k => val_main_v41 (F := Ideal) x g sh sc w b (ValueIdx.ix2 R k)) hs)).trans ?_,
    ht.2.trans (congrArg (fun k : Fin 4 => BitVec.ofNat 32 k.val) hs)⟩
  exact (group_prob x g sh sc w b R i hi i).trans s2

/-- The logits of the chosen group's experts. -/
theorem within_logit (k : Fin 8) : val_main_v58 (F := Ideal) x g sh sc w b (ValueIdx.ix2 R k) = exps (logits x g sh sc w b R) i k := by
  have hc : ∀ p q : Fin 4, (IntOp.cmpi .eq (BitVec.ofNat 32 p.val) (BitVec.ofNat 32 q.val) = 1#1) ↔ p = q := by decide
  have ht : ∀ j : Fin 4, val_main_v57 (F := Ideal) x g sh sc w b (idx_main_v58 (ValueIdx.ix2 R k) j) = if i = j then exps (logits x g sh sc w b R) j k else 0 := fun j => by
    have hR := R.isLt
    have hj := j.isLt
    have hk := k.isLt
    have e50 : idx_main_v50 (idx_main_v58 (ValueIdx.ix2 R k) j) = ValueIdx.ix2 R ⟨8 * j.val + k.val, by omega⟩ := by
      funext a
      match a with
      | ⟨0, _⟩ => exact Fin.ext (by show ((R.val * 4 + j.val) * 8 + k.val) / 32 = R.val; omega)
      | ⟨1, _⟩ => exact Fin.ext (by show ((R.val * 4 + j.val) * 8 + k.val) % 32 = 8 * j.val + k.val; omega)
    have e51 : idx_main_v51 (idx_main_v54 (idx_main_call0_v1 (idx_main_v58 (ValueIdx.ix2 R k) j))) = ValueIdx.ix2 R 0 := by
      funext a
      match a with
      | ⟨0, _⟩ => rfl
      | ⟨1, _⟩ => rfl
    have hl : logits x g sh sc w b R ⟨8 + (8 * j.val + k.val), by omega⟩ = exps (logits x g sh sc w b R) j k :=
      congrArg (logits x g sh sc w b R) (Fin.ext (by show 8 + (8 * j.val + k.val) = 8 + 8 * j.val + k.val; omega))
    rw [val_main_v57_apply, val_main_call0_v1_apply, val_main_v56_apply, val_main_v54_apply, val_main_v51_apply, (group_pick x g sh sc w b R i hi hreal _ e51).2,
      val_main_v55_apply, val_main_v53_apply, val_main_v52_apply, val_main_v50_apply, e50, expert_logit, hl, val_main_call0_v2_apply, val_main_call0_v0_apply, val_main_cst_6_apply]
    by_cases h : i = j
    · rw [if_pos h]
      exact if_pos ((hc i j).2 h)
    · rw [if_neg h]
      exact (if_neg fun hh => h ((hc i j).1 hh)).trans Ideal.ofBits_zero_f32
  rw [val_main_v58_apply]
  show Ideal.ofBits .f32 0x00000000#32 + _ = _
  rw [Ideal.ofBits_zero_f32, zero_add, Finset.sum_congr rfl fun j _ => ht j, Finset.sum_ite_eq, if_pos (Finset.mem_univ _)]

variable (a c : Fin 8) (ha : IsFirst (exps (logits x g sh sc w b R) i) a) (hb : IsSecond (exps (logits x g sh sc w b R) i) a c)
include ha hb

/-- The two experts chosen, at each of the two places. -/
theorem expert_pick (j : Fin 2) : val_main_values_8 (F := Ideal) x g sh sc w b (ValueIdx.ix2 R j) = exps (logits x g sh sc w b R) i (if j = 0 then a else c)
    ∧ val_main_indices_9 (F := Ideal) x g sh sc w b (ValueIdx.ix2 R j) = BitVec.ofNat 32 (if j = 0 then a else c).val := by
  have ht := topK_apply (M := 16384) (n := 8) (k := 2) (by decide) (val_main_v58 (F := Ideal) x g sh sc w b) sliceFits_S16384x8_S16384x2 R j
  have hs : sortedFrom (before fun k => val_main_v58 (F := Ideal) x g sh sc w b (ValueIdx.ix2 R k)) (j.castLE (by decide)) = if j = 0 then a else c := by
    rw [funext (within_logit x g sh sc w b R i hi hreal)]
    exact sorted_two _ a c ha hb j
  exact ⟨(ht.1.trans (congrArg (fun k => val_main_v58 (F := Ideal) x g sh sc w b (ValueIdx.ix2 R k)) hs)).trans (within_logit x g sh sc w b R i hi hreal _),
    ht.2.trans (congrArg (fun k : Fin 8 => BitVec.ofNat 32 k.val) hs)⟩

theorem top_expert : val_main_v61 (F := Ideal) x g sh sc w b (ValueIdx.ix1 R) = exps (logits x g sh sc w b R) i a := by
  have hv : ∀ j : Fin 2, val_main_values_8 (F := Ideal) x g sh sc w b (ValueIdx.ix2 R j) = exps (logits x g sh sc w b R) i (if j = 0 then a else c) :=
    fun j => (expert_pick x g sh sc w b R i hi hreal a c ha hb j).1
  have h : val_main_v59 (F := Ideal) x g sh sc w b (ValueIdx.ix1 R) = exps (logits x g sh sc w b R) i a := by
    have hf : IsFirst (fun j : Fin 2 => exps (logits x g sh sc w b R) i (if j = 0 then a else c)) 0 := ⟨fun j => ha.1 _, fun j hj => absurd hj (Fin.not_lt_zero j)⟩
    refine Eq.trans ?_ (fold_max_first _ 0 hf)
    rw [← funext hv]
    unfold val_main_v59
    generalize val_main_values_8 (F := Ideal) x g sh sc w b = y
    refine (Host.reduce_eq_fold_single (s := S16384x2) (t := S16384) (FloatOps.maximumf (F := Ideal) (φ := .f32)) y _ _ (by decide) _ (ValueIdx.ix1 R)).trans ?_
    refine congrArg₂ (fun (z : EReal) (f : Fin 2 → EReal) => Finset.univ.fold max z f) ofBits_negInf (funext fun k => congrArg y (funext fun a => ?_))
    match a with
    | ⟨0, _⟩ => rfl
    | ⟨1, _⟩ => rfl
  have hb : val_main_v60 (F := Ideal) (ValueIdx.ix1 R) = ⊥ := by
    rw [val_main_v60_apply]
    exact ofBits_negInf
  rw [val_main_v61_apply, h, hb]
  exact max_eq_right bot_le

theorem expert_exp (j : Fin 2) : val_main_v65 (F := Ideal) x g sh sc w b (ValueIdx.ix2 R j)
    = Ideal.exp (exps (logits x g sh sc w b R) i (if j = 0 then a else c) - exps (logits x g sh sc w b R) i a) := by
  have e : idx_main_v62 (idx_main_v63 (ValueIdx.ix2 R j)) = ValueIdx.ix1 R := by
    funext a
    match a with
    | ⟨0, _⟩ => rfl
  rw [val_main_v65_apply, val_main_v64_apply, val_main_v63_apply, val_main_v62_apply, e, top_expert x g sh sc w b R i hi hreal a c ha hb,
    (expert_pick x g sh sc w b R i hi hreal a c ha hb j).1]
  rfl

theorem weight_apply (j : Fin 2) : val_main_v71 (F := Ideal) x g sh sc w b (ValueIdx.ix2 R j) = routed (logits x g sh sc w b R) i a c ⟨2 + j.val, by omega⟩ := by
  have e : idx_main_v67 (idx_main_v68 (ValueIdx.ix2 R j)) = ValueIdx.ix1 R := by
    funext a
    match a with
    | ⟨0, _⟩ => rfl
  have e2 : ∀ k, idx_main_v66 (ValueIdx.ix1 R) k = ValueIdx.ix2 R k := fun k => by
    funext a
    match a with
    | ⟨0, _⟩ => rfl
    | ⟨1, _⟩ => rfl
  have e3 : idx_main_v70 (ValueIdx.ix2 R j) = ValueIdx.ix2 R 0 := by
    funext a
    match a with
    | ⟨0, _⟩ => rfl
    | ⟨1, _⟩ => rfl
  have hs : val_main_v66 (F := Ideal) x g sh sc w b (ValueIdx.ix1 R)
      = Ideal.exp (exps (logits x g sh sc w b R) i a - exps (logits x g sh sc w b R) i a) + Ideal.exp (exps (logits x g sh sc w b R) i c - exps (logits x g sh sc w b R) i a) := by
    rw [val_main_v66_apply]
    show Ideal.ofBits .f32 0x00000000#32 + _ = _
    rw [Ideal.ofBits_zero_f32, zero_add, Fin.sum_univ_two, e2, e2, expert_exp x g sh sc w b R i hi hreal a c ha hb, expert_exp x g sh sc w b R i hi hreal a c ha hb]
    rfl
  rw [val_main_v71_apply, val_main_v69_apply, val_main_v68_apply, val_main_v67_apply, e, hs, val_main_v70_apply, (group_pick x g sh sc w b R i hi hreal _ e3).1,
    expert_exp x g sh sc w b R i hi hreal a c ha hb]
  have hw := weights (exps (logits x g sh sc w b R) i a) (exps (logits x g sh sc w b R) i c) (share (grp (logits x g sh sc w b R)) i) (hreal _) (hreal _)
    (softmax_first (grp (logits x g sh sc w b R)) (fun j => hreal _) i hi).2.2
  match j with
  | ⟨0, _⟩ => exact hw.1
  | ⟨1, _⟩ => exact hw.2

theorem number_apply (j : Fin 2) : val_main_v76 (F := Ideal) x g sh sc w b (ValueIdx.ix2 R j) = expert i (if j = 0 then a else c) := by
  have e : idx_main_v74 (ValueIdx.ix2 R j) = ValueIdx.ix2 R 0 := by
    funext a
    match a with
    | ⟨0, _⟩ => rfl
    | ⟨1, _⟩ => rfl
  rw [val_main_v76_apply, val_main_v75_apply, val_main_v74_apply, val_main_v73_apply, val_main_v72_apply, (group_pick x g sh sc w b R i hi hreal _ e).2,
    (expert_pick x g sh sc w b R i hi hreal a c ha hb j).2]
  rfl

/-- The reference at a row and a token. -/
theorem reference_apply (r : Fin 4) : val_main_v78 (F := Ideal) x g sh sc w b (ValueIdx.ix2 r R) = routed (logits x g sh sc w b R) i a c r := by
  have e : idx_main_v78 (ValueIdx.ix2 r R) = ValueIdx.ix2 R r := by
    funext a
    match a with
    | ⟨0, _⟩ => rfl
    | ⟨1, _⟩ => rfl
  rw [val_main_v78_apply, e]
  unfold val_main_v77
  have hl : ∀ j : Fin 2, concatenate S16384x4 1 [⟨S16384x2, val_main_v76 (F := Ideal) x g sh sc w b⟩, ⟨S16384x2, val_main_v71 (F := Ideal) x g sh sc w b⟩]
      concatenates_S16384x2_S16384x2_S16384x4_d1 (ValueIdx.ix2 R ⟨j.val, by omega⟩) = expert i (if j = 0 then a else c) := fun j =>
    (concatenate_pair_apply_left 1 _ _ concatenates_S16384x2_S16384x2_S16384x4_d1 _ rfl (ValueIdx.ix2 R j) (fun a => match a with
      | ⟨0, _⟩ => rfl
      | ⟨1, _⟩ => rfl)).trans (number_apply x g sh sc w b R i hi hreal a c ha hb j)
  have hr : ∀ j : Fin 2, concatenate S16384x4 1 [⟨S16384x2, val_main_v76 (F := Ideal) x g sh sc w b⟩, ⟨S16384x2, val_main_v71 (F := Ideal) x g sh sc w b⟩]
      concatenates_S16384x2_S16384x2_S16384x4_d1 (ValueIdx.ix2 R ⟨2 + j.val, by omega⟩) = routed (logits x g sh sc w b R) i a c ⟨2 + j.val, by omega⟩ := fun j =>
    (concatenate_pair_apply_right 1 _ _ concatenates_S16384x2_S16384x2_S16384x4_d1 _ rfl rfl (ValueIdx.ix2 R j) (fun a ha => match a with
      | ⟨0, _⟩ => rfl
      | ⟨1, _⟩ => absurd rfl ha) (by first | rfl | exact Nat.add_comm _ _)).trans (weight_apply x g sh sc w b R i hi hreal a c ha hb j)
  match r with
  | ⟨0, _⟩ => exact hl 0
  | ⟨1, _⟩ => exact hl 1
  | ⟨2, _⟩ => exact hr 0
  | ⟨3, _⟩ => exact hr 1
end chosen

end Cert.Proof.Proj.Router

namespace Cert.Proof.Proj.Router

open Idealize.ShloMosaic Idealize.ShloMosaic.TcCoe Idealize.SL.Sem Cert.Proof.Choice

/-- The reference ends at rest: it declares no semaphore. -/
theorem reference_frame : Cert.quiescent_RouterReferenceIdeal := fun m g _ =>
  (θ_run Cert.RouterReferenceIdeal.defs _ _).mono (fun r h => ⟨fun c => (h c).2, Idealize.ShloMosaic.sem_eq_zero_of_no_sems (by decide) r.2⟩)
    (Cert.RouterReferenceIdeal.Value.run (F := Ideal) m g)

theorem result_eq (m : (ℓ : Loc Cert.RouterIdeal.nD Cert.RouterIdeal.τ Cert.RouterIdeal.sig) → Buf (Elt Ideal) ℓ) (c : Dev Cert.RouterIdeal.nD)
    (h : Cert.Pre_finite_router.fn (F := Ideal)
        (m ((c.tc : Thread Cert.RouterIdeal.nD Cert.RouterIdeal.τ).loc Cert.RouterIdeal.main_arg0))
        (m ((c.tc : Thread Cert.RouterIdeal.nD Cert.RouterIdeal.τ).loc Cert.RouterIdeal.main_arg1))
        (m ((c.tc : Thread Cert.RouterIdeal.nD Cert.RouterIdeal.τ).loc Cert.RouterIdeal.main_arg2))
        (m ((c.tc : Thread Cert.RouterIdeal.nD Cert.RouterIdeal.τ).loc Cert.RouterIdeal.main_arg3))
        (m ((c.tc : Thread Cert.RouterIdeal.nD Cert.RouterIdeal.τ).loc Cert.RouterIdeal.main_arg4))
        (m ((c.tc : Thread Cert.RouterIdeal.nD Cert.RouterIdeal.τ).loc Cert.RouterIdeal.main_arg5)) = fun _ => 1#1) :
    Cert.RouterReferenceIdeal.Read.val_main_v78 (F := Ideal)
        (m ((c.tc : Thread Cert.RouterIdeal.nD Cert.RouterIdeal.τ).loc Cert.RouterIdeal.main_arg0))
        (m ((c.tc : Thread Cert.RouterIdeal.nD Cert.RouterIdeal.τ).loc Cert.RouterIdeal.main_arg1))
        (m ((c.tc : Thread Cert.RouterIdeal.nD Cert.RouterIdeal.τ).loc Cert.RouterIdeal.main_arg2))
        (m ((c.tc : Thread Cert.RouterIdeal.nD Cert.RouterIdeal.τ).loc Cert.RouterIdeal.main_arg3))
        (m ((c.tc : Thread Cert.RouterIdeal.nD Cert.RouterIdeal.τ).loc Cert.RouterIdeal.main_arg4))
        (m ((c.tc : Thread Cert.RouterIdeal.nD Cert.RouterIdeal.τ).loc Cert.RouterIdeal.main_arg5))
      = tail m c := by
  funext e
  have h1 : (e 1).val < 16384 := (e 1).isLt
  have ee : e = (ValueIdx.ix2 (e 0) (rowOf ⟨(e 1).val / 512, by omega⟩ ⟨(e 1).val % 512, by omega⟩) : (⟨2, ![4, 16384]⟩ : Shape).Idx) := by
    funext a
    match a with
    | ⟨0, _⟩ => rfl
    | ⟨1, _⟩ => exact Fin.ext (by show (e 1).val = 512 * ((e 1).val / 512) + (e 1).val % 512; omega)
  rw [ee]
  have hreal := isReal_logits _ _ _ _ _ _ h (rowOf ⟨(e 1).val / 512, by omega⟩ ⟨(e 1).val % 512, by omega⟩)
  obtain ⟨i, hi⟩ := exists_first (grp (own m c (rowOf ⟨(e 1).val / 512, by omega⟩ ⟨(e 1).val % 512, by omega⟩)))
  obtain ⟨a, ha⟩ := exists_first (exps (own m c (rowOf ⟨(e 1).val / 512, by omega⟩ ⟨(e 1).val % 512, by omega⟩)) i)
  obtain ⟨b, hb⟩ := exists_second (exps (own m c (rowOf ⟨(e 1).val / 512, by omega⟩ ⟨(e 1).val % 512, by omega⟩)) i) a
  exact (reference_apply _ _ _ _ _ _ _ i hi hreal a b ha hb (e 0)).trans (result_apply _ m c _ i a b hreal hi ha hb (e 0)).symm

/-- Over the reals the call and its reference end with one result. -/
theorem algebraic : Cert.algebraic_RouterIdeal_RouterReferenceIdeal_pre_finite_router := by
  intro m g m' g' hpre hagree
  refine ⟨fun c => tail m c, run_values m g, ?_⟩
  refine (θ_run Cert.RouterReferenceIdeal.defs _ _).mono (fun _ h c => ⟨(h c).1.trans ?_, (h c).2⟩) (Cert.RouterReferenceIdeal.Value.run (F := Ideal) m' g')
  obtain ⟨a0, a1, a2, a3, a4, a5⟩ := hagree c
  rw [Cert.RouterReferenceIdeal.Read.val_main_v78_eq, a0, a1, a2, a3, a4, a5]
  exact result_eq m c (hpre c)

end Cert.Proof.Proj.Router

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsReferenceIdeal
public import proofs.«01_k».proof.Proof.Gen.ExpertsReferenceIdeal.Run
public import proofs.«01_k».proof.Proof.Gen.ExpertsReferenceIdeal.Read
public import proofs.«01_k».proof.Proof.Gen.SsdOut
public import proofs.«01_k».proof.Proof.Gen.SsdOut.Skeleton
public import proofs.«01_k».proof.Proof.Gen.SsdOut.Launch
public import proofs.«01_k».proof.Proof.Gen.SsdOut.Points
public import proofs.«01_k».proof.Proof.Gen.SsdOut.Frame
public import proofs.«01_k».proof.Proof.Gen.SsdOutIdeal
public import proofs.«01_k».proof.Proof.Gen.SsdOutIdeal.Skeleton
public import proofs.«01_k».proof.Proof.Gen.SsdOutIdeal.Launch
public import proofs.«01_k».proof.Proof.Gen.SsdOutIdeal.Points
public import proofs.«01_k».proof.Proof.Gen.SsdOutIdeal.Frame
public import proofs.«01_k».proof.Proof.Gen.SsdOutIdeal.Value
public import proofs.«01_k».proof.Proof.Gen.SsdOutReferenceIdeal
public import proofs.«01_k».proof.Proof.Gen.SsdOutReferenceIdeal.Run
public import proofs.«01_k».proof.Proof.Gen.SsdOutReferenceIdeal.Read
public import proofs.«01_k».proof.Proof.Gen.MixOut
public import proofs.«01_k».proof.Proof.Gen.MixOut.Skeleton
public import proofs.«01_k».proof.Proof.Gen.MixOut.Launch
public import proofs.«01_k».proof.Proof.Gen.MixOut.Points
public import proofs.«01_k».proof.Proof.Gen.MixOut.Frame
public import proofs.«01_k».proof.Proof.Gen.MixOutIdeal
public import proofs.«01_k».proof.Proof.Gen.MixOutIdeal.Skeleton
public import proofs.«01_k».proof.Proof.Gen.MixOutIdeal.Launch
public import proofs.«01_k».proof.Proof.Gen.MixOutIdeal.Points
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.Gen.MixOutReferenceIdeal.Read
public import proofs.«01_k».proof.Proof.Gen.SsdIn
public import proofs.«01_k».proof.Proof.Gen.SsdIn.Skeleton
public import proofs.«01_k».proof.Proof.Gen.SsdIn.Launch
public import proofs.«01_k».proof.Proof.Gen.SsdInIdeal
public import proofs.«01_k».proof.Proof.Gen.SsdInIdeal.Skeleton
public import proofs.«01_k».proof.Proof.Gen.SsdInIdeal.Launch
public import proofs.«01_k».proof.Proof.Gen.SsdInReferenceIdeal
public import proofs.«01_k».proof.Proof.Gen.SsdInReferenceIdeal.Run
public import proofs.«01_k».proof.Proof.Gen.SsdInReferenceIdeal.Read
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInReferenceIdeal
public import proofs.«01_k».proof.Proof.Gen.MixInReferenceIdeal.Run
public import proofs.«01_k».proof.Proof.Gen.MixInReferenceIdeal.Read
public import proofs.«01_k».proof.Proof.Gen.Gated
public import proofs.«01_k».proof.Proof.Gen.Gated.Skeleton
public import proofs.«01_k».proof.Proof.Gen.Gated.Launch
public import proofs.«01_k».proof.Proof.Gen.Gated.Points
public import proofs.«01_k».proof.Proof.Gen.Gated.Frame
public import proofs.«01_k».proof.Proof.Gen.GatedIdeal
public import proofs.«01_k».proof.Proof.Gen.GatedIdeal.Skeleton
public import proofs.«01_k».proof.Proof.Gen.GatedIdeal.Launch
public import proofs.«01_k».proof.Proof.Gen.GatedIdeal.Points
public import proofs.«01_k».proof.Proof.Gen.GatedIdeal.Frame
public import proofs.«01_k».proof.Proof.Gen.GatedIdeal.Value
public import proofs.«01_k».proof.Proof.Gen.GatedReferenceIdeal
public import proofs.«01_k».proof.Proof.Gen.GatedReferenceIdeal.Run
public import proofs.«01_k».proof.Proof.Gen.GatedReferenceIdeal.Read
public import proofs.«01_k».proof.Proof.Gen.Modulation
public import proofs.«01_k».proof.Proof.Gen.Modulation.Skeleton
public import proofs.«01_k».proof.Proof.Gen.Modulation.Launch
public import proofs.«01_k».proof.Proof.Gen.Modulation.Points
public import proofs.«01_k».proof.Proof.Gen.Modulation.Frame
public import proofs.«01_k».proof.Proof.Gen.ModulationIdeal
public import proofs.«01_k».proof.Proof.Gen.ModulationIdeal.Skeleton
public import proofs.«01_k».proof.Proof.Gen.ModulationIdeal.Launch
public import proofs.«01_k».proof.Proof.Gen.ModulationIdeal.Points
public import proofs.«01_k».proof.Proof.Gen.ModulationIdeal.Frame
public import proofs.«01_k».proof.Proof.Gen.ModulationReferenceIdeal
public import proofs.«01_k».proof.Proof.Gen.ModulationReferenceIdeal.Run
public import proofs.«01_k».proof.Proof.Gen.ModulationReferenceIdeal.Read
public import proofs.«01_k».proof.Proof.Gen.Router.Frame
public import proofs.«01_k».proof.Proof.Gen.RouterIdeal.Frame
public import proofs.«01_k».proof.Proof.Gen.RouterReferenceIdeal.Run
public import proofs.«01_k».proof.Proof.Gen.RouterReferenceIdeal.Read
public import proofs.«01_k».proof.Proof.Gen.Pre_finite_router
public import proofs.«01_k».proof.Proof.Gen.Sums.Frame
public import proofs.«01_k».proof.Proof.Gen.SumsIdeal.Frame
public import proofs.«01_k».proof.Proof.Gen.SumsIdeal.Value
public import proofs.«01_k».proof.Proof.Gen.SumsReferenceIdeal.Run
public import proofs.«01_k».proof.Proof.Gen.SumsReferenceIdeal.Read
public import proofs.«01_k».proof.Proof.Gen.Outputs.Frame
public import proofs.«01_k».proof.Proof.Gen.OutputsIdeal.Frame
public import proofs.«01_k».proof.Proof.Gen.OutputsIdeal.Value
public import proofs.«01_k».proof.Proof.Gen.OutputsReferenceIdeal.Run
public import proofs.«01_k».proof.Proof.Gen.OutputsReferenceIdeal.Read
public import proofs.«01_k».proof.Proof.Gen.States
public import proofs.«01_k».proof.Proof.Gen.States.Skeleton
public import proofs.«01_k».proof.Proof.Gen.States.Launch
public import proofs.«01_k».proof.Proof.Gen.States.Points
public import proofs.«01_k».proof.Proof.Gen.States.Frame
public import proofs.«01_k».proof.Proof.Gen.StatesIdeal
public import proofs.«01_k».proof.Proof.Gen.StatesIdeal.Skeleton
public import proofs.«01_k».proof.Proof.Gen.StatesIdeal.Launch
public import proofs.«01_k».proof.Proof.Gen.StatesIdeal.Points
public import proofs.«01_k».proof.Proof.Gen.StatesIdeal.Frame
public import proofs.«01_k».proof.Proof.Gen.StatesIdeal.Value
public import proofs.«01_k».proof.Proof.Gen.StatesReferenceIdeal
public import proofs.«01_k».proof.Proof.Gen.StatesReferenceIdeal.Run
public import proofs.«01_k».proof.Proof.Gen.StatesReferenceIdeal.Step
public import proofs.«01_k».proof.Proof.Gen.Pre_tables_ok
public import proofs.«01_k».proof.Proof.Gen.On_rows_used
public import proofs.«01_k».proof.Proof.Attn.Final
public import proofs.«01_k».proof.Proof.Experts.Final
public import proofs.«01_k».proof.Proof.Proj.Final
public import proofs.«01_k».proof.Proof.Proj.Modulation
public import proofs.«01_k».proof.Proof.Proj.States
public import proofs.«01_k».proof.Proof.Proj.Sums
public import proofs.«01_k».proof.Proof.Proj.Outputs
public import proofs.«01_k».proof.Proof.Proj.RouterRef
public import Idealize.ShloMosaic.Adequacy
public import Idealize.ShloMosaic.Init

@[expose] public section

noncomputable section

namespace Cert.Proof

open Idealize.ShloMosaic Idealize.SL.Sem

/-- The reference ends at rest: it declares no semaphore. -/
theorem attn_reference_frame : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

section
attribute [local instance] Cert.Proof.Finite.facts

/-- Over the reals the attention kernel and its reference end with one result. -/
theorem attn_algebraic : Cert.algebraic_KernelIdeal_ReferenceIdeal_pre_finite_scores := by
  intro m g m' g' hpre hagree
  refine ⟨fun c => (Cert.KernelIdeal.Gen.dats m 0 c).arrAt 10 Cert.KernelIdeal.cfg0.N, Cert.KernelIdeal.Value.run_blocks m g, ?_⟩
  refine (θ_run Cert.ReferenceIdeal.defs _ _).mono (fun _ h c => ⟨(h c).1.trans ?_, (h c).2⟩) (Cert.ReferenceIdeal.Value.run (F := Ideal) m' g')
  rw [Cert.ReferenceIdeal.Read.val_main_v123_eq, (hagree c).1, (hagree c).2.1, (hagree c).2.2]
  exact Cert.Proof.Final.result_eq m c (hpre c)

end

theorem claim : Cert.Claim :=
  ⟨Cert.Kernel.Gen.facts, Cert.KernelIdeal.Gen.facts, Cert.ReferenceIdeal.Gen.facts, Cert.Experts.Gen.facts,
    Cert.ExpertsIdeal.Gen.facts, Cert.ExpertsReferenceIdeal.Gen.facts,
    Cert.SsdOut.Gen.facts, Cert.SsdOutIdeal.Gen.facts, Cert.SsdOutReferenceIdeal.Gen.facts, Cert.MixOut.Gen.facts, Cert.MixOutIdeal.Gen.facts, Cert.MixOutReferenceIdeal.Gen.facts,
    Cert.SsdIn.Gen.facts, Cert.SsdInIdeal.Gen.facts, Cert.SsdInReferenceIdeal.Gen.facts, Cert.MixIn.Gen.facts, Cert.MixInIdeal.Gen.facts, Cert.MixInReferenceIdeal.Gen.facts,
    Cert.Gated.Gen.facts, Cert.GatedIdeal.Gen.facts, Cert.GatedReferenceIdeal.Gen.facts,
    Cert.Modulation.Gen.facts, Cert.ModulationIdeal.Gen.facts, Cert.ModulationReferenceIdeal.Gen.facts,
    Cert.States.Gen.facts, Cert.StatesIdeal.Gen.facts, Cert.StatesReferenceIdeal.Gen.facts,
    Cert.Sums.Gen.facts, Cert.SumsIdeal.Gen.facts, Cert.SumsReferenceIdeal.Gen.facts,
    Cert.Outputs.Gen.facts, Cert.OutputsIdeal.Gen.facts, Cert.OutputsReferenceIdeal.Gen.facts,
    Cert.Router.Gen.facts, Cert.RouterIdeal.Gen.facts, Cert.RouterReferenceIdeal.Gen.facts,
    Cert.Proof.Finite.facts, Cert.Pre_tables_ok.Gen.facts, Cert.Pre_finite_router.Gen.facts,
    Cert.On_rows_used.Gen.facts,
    fun m g _ => Cert.Kernel.Gen.frame m g, fun m g _ => Cert.KernelIdeal.Gen.frame m g, fun m g _ => Cert.KernelIdeal.Gen.frame m g,
    attn_reference_frame, fun m g _ => attn_reference_frame m g trivial,
    Routed.bits_frame, Routed.ideal_frame, Routed.reference_frame, fun m g _ => Routed.reference_frame m g trivial,
    fun m g _ => Cert.SsdOut.Gen.frame m g, fun m g _ => Cert.SsdOutIdeal.Gen.frame m g, Proj.SsdOut.reference_frame,
    fun m g _ => Cert.MixOut.Gen.frame m g, fun m g _ => Cert.MixOutIdeal.Gen.frame m g, Proj.MixOut.reference_frame,
    Proj.SsdIn.bits_frame, Proj.SsdIn.ideal_frame, Proj.SsdIn.reference_frame,
    fun m g _ => Cert.MixIn.Gen.frame m g, fun m g _ => Cert.MixInIdeal.Gen.frame m g, Proj.MixIn.reference_frame,
    fun m g _ => Cert.Gated.Gen.frame m g, fun m g _ => Cert.GatedIdeal.Gen.frame m g, Proj.Gated.reference_frame,
    fun m g _ => Cert.Modulation.Gen.frame m g, fun m g _ => Cert.ModulationIdeal.Gen.frame m g, Proj.Modulation.reference_frame,
    fun m g _ => Cert.States.Gen.frame m g, fun m g _ => Cert.StatesIdeal.Gen.frame m g, Proj.States.reference_frame,
    fun m g _ => Cert.Sums.Gen.frame m g, fun m g _ => Cert.SumsIdeal.Gen.frame m g, Proj.Sums.reference_frame,
    fun m g _ => Cert.Outputs.Gen.frame m g, fun m g _ => Cert.OutputsIdeal.Gen.frame m g, Proj.Outputs.reference_frame,
    fun m g _ => Cert.Router.Gen.frame m g, fun m g _ => Cert.RouterIdeal.Gen.frame m g, fun m g _ => Cert.RouterIdeal.Gen.frame m g,
    Proj.Router.reference_frame, fun m g _ => Proj.Router.reference_frame m g trivial,
    IdealRules.named_const.statement Cert.KernelIdeal.κ "mask" .f32 0xF149F2CA#32 ⊥ rfl, attn_algebraic,
    trivial, Routed.experts_algebraic, trivial, Proj.SsdOut.algebraic, trivial, Proj.MixOut.algebraic, trivial, Proj.SsdIn.algebraic, trivial, Proj.MixIn.algebraic,
    trivial, Proj.Gated.algebraic, trivial, Proj.Modulation.algebraic, trivial, Proj.States.algebraic,
    trivial, Proj.Sums.algebraic, trivial, Proj.Outputs.algebraic, trivial, Proj.Router.algebraic⟩

end Cert.Proof

end
